-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_SguIn (m : (ℓ : Loc Cert.SguIn.nD Cert.SguIn.τ Cert.SguIn.sig) → Buf (Elt Bits) ℓ) : Prop :=
  True

def Pre_SguInIdeal (m : (ℓ : Loc Cert.SguInIdeal.nD Cert.SguInIdeal.τ Cert.SguInIdeal.sig) → Buf (Elt Ideal) ℓ) : Prop :=
  True

def Pre_SguInRefIdeal (m : (ℓ : Loc Cert.SguInRefIdeal.nD Cert.SguInRefIdeal.τ Cert.SguInRefIdeal.sig) → Buf (Elt Ideal) ℓ) : Prop :=
  True

def Pre_SguOut (m : (ℓ : Loc Cert.SguOut.nD Cert.SguOut.τ Cert.SguOut.sig) → Buf (Elt Bits) ℓ) : Prop :=
  True

def Pre_SguOutIdeal (m : (ℓ : Loc Cert.SguOutIdeal.nD Cert.SguOutIdeal.τ Cert.SguOutIdeal.sig) → Buf (Elt Ideal) ℓ) : Prop :=
  True

def Pre_SguOutRefIdeal (m : (ℓ : Loc Cert.SguOutRefIdeal.nD Cert.SguOutRefIdeal.τ Cert.SguOutRefIdeal.sig) → Buf (Elt Ideal) ℓ) : Prop :=
  True

def Pre_SguOutDx (m : (ℓ : Loc Cert.SguOutDx.nD Cert.SguOutDx.τ Cert.SguOutDx.sig) → Buf (Elt Bits) ℓ) : Prop :=
  True

def Pre_SguOutDxIdeal (m : (ℓ : Loc Cert.SguOutDxIdeal.nD Cert.SguOutDxIdeal.τ Cert.SguOutDxIdeal.sig) → Buf (Elt Ideal) ℓ) : Prop :=
  True

def Pre_SguOutDxRefIdeal (m : (ℓ : Loc Cert.SguOutDxRefIdeal.nD Cert.SguOutDxRefIdeal.τ Cert.SguOutDxRefIdeal.sig) → Buf (Elt Ideal) ℓ) : Prop :=
  True

def Pre_SguOutDw (m : (ℓ : Loc Cert.SguOutDw.nD Cert.SguOutDw.τ Cert.SguOutDw.sig) → Buf (Elt Bits) ℓ) : Prop :=
  True

def Pre_SguOutDwIdeal (m : (ℓ : Loc Cert.SguOutDwIdeal.nD Cert.SguOutDwIdeal.τ Cert.SguOutDwIdeal.sig) → Buf (Elt Ideal) ℓ) : Prop :=
  True

def Pre_SguOutDwRefIdeal (m : (ℓ : Loc Cert.SguOutDwRefIdeal.nD Cert.SguOutDwRefIdeal.τ Cert.SguOutDwRefIdeal.sig) → Buf (Elt Ideal) ℓ) : Prop :=
  True

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_finite12 [hPre_finite12 : Cert.Pre_finite12.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_finite12.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))) = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_finite12 [hPre_finite12 : Cert.Pre_finite12.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_finite12.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))) = (fun _ => 1#1)

def Pre_MlaO (m : (ℓ : Loc Cert.MlaO.nD Cert.MlaO.τ Cert.MlaO.sig) → Buf (Elt Bits) ℓ) : Prop :=
  True

def Pre_MlaOIdeal (m : (ℓ : Loc Cert.MlaOIdeal.nD Cert.MlaOIdeal.τ Cert.MlaOIdeal.sig) → Buf (Elt Ideal) ℓ) : Prop :=
  True

def Pre_MlaORefIdeal (m : (ℓ : Loc Cert.MlaORefIdeal.nD Cert.MlaORefIdeal.τ Cert.MlaORefIdeal.sig) → Buf (Elt Ideal) ℓ) : Prop :=
  True

def Pre_MlaODx (m : (ℓ : Loc Cert.MlaODx.nD Cert.MlaODx.τ Cert.MlaODx.sig) → Buf (Elt Bits) ℓ) : Prop :=
  True

def Pre_MlaODxIdeal (m : (ℓ : Loc Cert.MlaODxIdeal.nD Cert.MlaODxIdeal.τ Cert.MlaODxIdeal.sig) → Buf (Elt Ideal) ℓ) : Prop :=
  True

def Pre_MlaODxRefIdeal (m : (ℓ : Loc Cert.MlaODxRefIdeal.nD Cert.MlaODxRefIdeal.τ Cert.MlaODxRefIdeal.sig) → Buf (Elt Ideal) ℓ) : Prop :=
  True

def Pre_MlaODw (m : (ℓ : Loc Cert.MlaODw.nD Cert.MlaODw.τ Cert.MlaODw.sig) → Buf (Elt Bits) ℓ) : Prop :=
  True

def Pre_MlaODwIdeal (m : (ℓ : Loc Cert.MlaODwIdeal.nD Cert.MlaODwIdeal.τ Cert.MlaODwIdeal.sig) → Buf (Elt Ideal) ℓ) : Prop :=
  True

def Pre_MlaODwRefIdeal (m : (ℓ : Loc Cert.MlaODwRefIdeal.nD Cert.MlaODwRefIdeal.τ Cert.MlaODwRefIdeal.sig) → Buf (Elt Ideal) ℓ) : Prop :=
  True

def Pre_MlaProject (m : (ℓ : Loc Cert.MlaProject.nD Cert.MlaProject.τ Cert.MlaProject.sig) → Buf (Elt Bits) ℓ) : Prop :=
  True

def Pre_MlaProjectIdeal (m : (ℓ : Loc Cert.MlaProjectIdeal.nD Cert.MlaProjectIdeal.τ Cert.MlaProjectIdeal.sig) → Buf (Elt Ideal) ℓ) : Prop :=
  True

def Pre_MlaProjectRefIdeal (m : (ℓ : Loc Cert.MlaProjectRefIdeal.nD Cert.MlaProjectRefIdeal.τ Cert.MlaProjectRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_SguIn [hSguIn : Cert.SguIn.Facts] : Prop :=
  ∀ (m : (ℓ : Loc Cert.SguIn.nD Cert.SguIn.τ Cert.SguIn.sig) → Buf (Elt Bits) ℓ) (g : Dev Cert.SguIn.nD → PrngReg), Pre_SguIn m →
    θ_run (Cert.SguIn.defs (F := Bits)) (onTc (τ := Cert.SguIn.τ) (Cert.SguIn.main (F := Bits))) ⟨m, fun _ => 0, g⟩ (fun r => (∀ c : Dev Cert.SguIn.nD,
      r.2.mem ((c.tc : Thread Cert.SguIn.nD Cert.SguIn.τ).loc Cert.SguIn.main_arg0) = m ((c.tc : Thread Cert.SguIn.nD Cert.SguIn.τ).loc Cert.SguIn.main_arg0)
      ∧ r.2.mem ((c.tc : Thread Cert.SguIn.nD Cert.SguIn.τ).loc Cert.SguIn.main_arg1) = m ((c.tc : Thread Cert.SguIn.nD Cert.SguIn.τ).loc Cert.SguIn.main_arg1))
      ∧ r.2.sem = fun _ => 0)

def quiescent_SguInIdeal [hSguInIdeal : Cert.SguInIdeal.Facts] : Prop :=
  ∀ (m : (ℓ : Loc Cert.SguInIdeal.nD Cert.SguInIdeal.τ Cert.SguInIdeal.sig) → Buf (Elt Ideal) ℓ) (g : Dev Cert.SguInIdeal.nD → PrngReg), Pre_SguInIdeal m →
    θ_run (Cert.SguInIdeal.defs (F := Ideal)) (onTc (τ := Cert.SguInIdeal.τ) (Cert.SguInIdeal.main (F := Ideal))) ⟨m, fun _ => 0, g⟩ (fun r => (∀ c : Dev Cert.SguInIdeal.nD,
      r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
      ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1))
      ∧ r.2.sem = fun _ => 0)

def quiescent_SguInRefIdeal [hSguInRefIdeal : Cert.SguInRefIdeal.Facts] : Prop :=
  ∀ (m : (ℓ : Loc Cert.SguInRefIdeal.nD Cert.SguInRefIdeal.τ Cert.SguInRefIdeal.sig) → Buf (Elt Ideal) ℓ) (g : Dev Cert.SguInRefIdeal.nD → PrngReg), Pre_SguInRefIdeal m →
    θ_run (Cert.SguInRefIdeal.defs (F := Ideal)) (onTc (τ := Cert.SguInRefIdeal.τ) (Cert.SguInRefIdeal.main (F := Ideal))) ⟨m, fun _ => 0, g⟩ (fun r => (∀ c : Dev Cert.SguInRefIdeal.nD,
      r.2.mem ((c.tc : Thread Cert.SguInRefIdeal.nD Cert.SguInRefIdeal.τ).loc Cert.SguInRefIdeal.main_arg0) = m ((c.tc : Thread Cert.SguInRefIdeal.nD Cert.SguInRefIdeal.τ).loc Cert.SguInRefIdeal.main_arg0)
      ∧ r.2.mem ((c.tc : Thread Cert.SguInRefIdeal.nD Cert.SguInRefIdeal.τ).loc Cert.SguInRefIdeal.main_arg1) = m ((c.tc : Thread Cert.SguInRefIdeal.nD Cert.SguInRefIdeal.τ).loc Cert.SguInRefIdeal.main_arg1))
      ∧ r.2.sem = fun _ => 0)

def quiescent_SguOut [hSguOut : Cert.SguOut.Facts] : Prop :=
  ∀ (m : (ℓ : Loc Cert.SguOut.nD Cert.SguOut.τ Cert.SguOut.sig) → Buf (Elt Bits) ℓ) (g : Dev Cert.SguOut.nD → PrngReg), Pre_SguOut m →
    θ_run (Cert.SguOut.defs (F := Bits)) (onTc (τ := Cert.SguOut.τ) (Cert.SguOut.main (F := Bits))) ⟨m, fun _ => 0, g⟩ (fun r => (∀ c : Dev Cert.SguOut.nD,
      r.2.mem ((c.tc : Thread Cert.SguOut.nD Cert.SguOut.τ).loc Cert.SguOut.main_arg0) = m ((c.tc : Thread Cert.SguOut.nD Cert.SguOut.τ).loc Cert.SguOut.main_arg0)
      ∧ r.2.mem ((c.tc : Thread Cert.SguOut.nD Cert.SguOut.τ).loc Cert.SguOut.main_arg1) = m ((c.tc : Thread Cert.SguOut.nD Cert.SguOut.τ).loc Cert.SguOut.main_arg1)
      ∧ r.2.mem ((c.tc : Thread Cert.SguOut.nD Cert.SguOut.τ).loc Cert.SguOut.main_arg2) = m ((c.tc : Thread Cert.SguOut.nD Cert.SguOut.τ).loc Cert.SguOut.main_arg2)
      ∧ r.2.mem ((c.tc : Thread Cert.SguOut.nD Cert.SguOut.τ).loc Cert.SguOut.main_arg3) = m ((c.tc : Thread Cert.SguOut.nD Cert.SguOut.τ).loc Cert.SguOut.main_arg3))
      ∧ r.2.sem = fun _ => 0)

def quiescent_SguOutIdeal [hSguOutIdeal : Cert.SguOutIdeal.Facts] : Prop :=
  ∀ (m : (ℓ : Loc Cert.SguOutIdeal.nD Cert.SguOutIdeal.τ Cert.SguOutIdeal.sig) → Buf (Elt Ideal) ℓ) (g : Dev Cert.SguOutIdeal.nD → PrngReg), Pre_SguOutIdeal m →
    θ_run (Cert.SguOutIdeal.defs (F := Ideal)) (onTc (τ := Cert.SguOutIdeal.τ) (Cert.SguOutIdeal.main (F := Ideal))) ⟨m, fun _ => 0, g⟩ (fun r => (∀ c : Dev Cert.SguOutIdeal.nD,
      r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
      ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
      ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2)
      ∧ r.2.mem ((c.tc : Thread Cert.SguOutIdeal.nD Cert.SguOutIdeal.τ).loc Cert.SguOutIdeal.main_arg3) = m ((c.tc : Thread Cert.SguOutIdeal.nD Cert.SguOutIdeal.τ).loc Cert.SguOutIdeal.main_arg3))
      ∧ r.2.sem = fun _ => 0)

def quiescent_SguOutRefIdeal [hSguOutRefIdeal : Cert.SguOutRefIdeal.Facts] : Prop :=
  ∀ (m : (ℓ : Loc Cert.SguOutRefIdeal.nD Cert.SguOutRefIdeal.τ Cert.SguOutRefIdeal.sig) → Buf (Elt Ideal) ℓ) (g : Dev Cert.SguOutRefIdeal.nD → PrngReg), Pre_SguOutRefIdeal m →
    θ_run (Cert.SguOutRefIdeal.defs (F := Ideal)) (onTc (τ := Cert.SguOutRefIdeal.τ) (Cert.SguOutRefIdeal.main (F := Ideal))) ⟨m, fun _ => 0, g⟩ (fun r => (∀ c : Dev Cert.SguOutRefIdeal.nD,
      r.2.mem ((c.tc : Thread Cert.SguOutRefIdeal.nD Cert.SguOutRefIdeal.τ).loc Cert.SguOutRefIdeal.main_arg0) = m ((c.tc : Thread Cert.SguOutRefIdeal.nD Cert.SguOutRefIdeal.τ).loc Cert.SguOutRefIdeal.main_arg0)
      ∧ r.2.mem ((c.tc : Thread Cert.SguOutRefIdeal.nD Cert.SguOutRefIdeal.τ).loc Cert.SguOutRefIdeal.main_arg1) = m ((c.tc : Thread Cert.SguOutRefIdeal.nD Cert.SguOutRefIdeal.τ).loc Cert.SguOutRefIdeal.main_arg1)
      ∧ r.2.mem ((c.tc : Thread Cert.SguOutRefIdeal.nD Cert.SguOutRefIdeal.τ).loc Cert.SguOutRefIdeal.main_arg2) = m ((c.tc : Thread Cert.SguOutRefIdeal.nD Cert.SguOutRefIdeal.τ).loc Cert.SguOutRefIdeal.main_arg2)
      ∧ r.2.mem ((c.tc : Thread Cert.SguOutRefIdeal.nD Cert.SguOutRefIdeal.τ).loc Cert.SguOutRefIdeal.main_arg3) = m ((c.tc : Thread Cert.SguOutRefIdeal.nD Cert.SguOutRefIdeal.τ).loc Cert.SguOutRefIdeal.main_arg3))
      ∧ r.2.sem = fun _ => 0)

def quiescent_SguOutDx [hSguOutDx : Cert.SguOutDx.Facts] : Prop :=
  ∀ (m : (ℓ : Loc Cert.SguOutDx.nD Cert.SguOutDx.τ Cert.SguOutDx.sig) → Buf (Elt Bits) ℓ) (g : Dev Cert.SguOutDx.nD → PrngReg), Pre_SguOutDx m →
    θ_run (Cert.SguOutDx.defs (F := Bits)) (onTc (τ := Cert.SguOutDx.τ) (Cert.SguOutDx.main (F := Bits))) ⟨m, fun _ => 0, g⟩ (fun r => (∀ c : Dev Cert.SguOutDx.nD,
      r.2.mem ((c.tc : Thread Cert.SguOutDx.nD Cert.SguOutDx.τ).loc Cert.SguOutDx.main_arg0) = m ((c.tc : Thread Cert.SguOutDx.nD Cert.SguOutDx.τ).loc Cert.SguOutDx.main_arg0)
      ∧ r.2.mem ((c.tc : Thread Cert.SguOutDx.nD Cert.SguOutDx.τ).loc Cert.SguOutDx.main_arg1) = m ((c.tc : Thread Cert.SguOutDx.nD Cert.SguOutDx.τ).loc Cert.SguOutDx.main_arg1))
      ∧ r.2.sem = fun _ => 0)

def quiescent_SguOutDxIdeal [hSguOutDxIdeal : Cert.SguOutDxIdeal.Facts] : Prop :=
  ∀ (m : (ℓ : Loc Cert.SguOutDxIdeal.nD Cert.SguOutDxIdeal.τ Cert.SguOutDxIdeal.sig) → Buf (Elt Ideal) ℓ) (g : Dev Cert.SguOutDxIdeal.nD → PrngReg), Pre_SguOutDxIdeal m →
    θ_run (Cert.SguOutDxIdeal.defs (F := Ideal)) (onTc (τ := Cert.SguOutDxIdeal.τ) (Cert.SguOutDxIdeal.main (F := Ideal))) ⟨m, fun _ => 0, g⟩ (fun r => (∀ c : Dev Cert.SguOutDxIdeal.nD,
      r.2.mem ((c.tc : Thread Cert.SguOutDxIdeal.nD Cert.SguOutDxIdeal.τ).loc Cert.SguOutDxIdeal.main_arg0) = m ((c.tc : Thread Cert.SguOutDxIdeal.nD Cert.SguOutDxIdeal.τ).loc Cert.SguOutDxIdeal.main_arg0)
      ∧ r.2.mem ((c.tc : Thread Cert.SguOutDxIdeal.nD Cert.SguOutDxIdeal.τ).loc Cert.SguOutDxIdeal.main_arg1) = m ((c.tc : Thread Cert.SguOutDxIdeal.nD Cert.SguOutDxIdeal.τ).loc Cert.SguOutDxIdeal.main_arg1))
      ∧ r.2.sem = fun _ => 0)

def quiescent_SguOutDxRefIdeal [hSguOutDxRefIdeal : Cert.SguOutDxRefIdeal.Facts] : Prop :=
  ∀ (m : (ℓ : Loc Cert.SguOutDxRefIdeal.nD Cert.SguOutDxRefIdeal.τ Cert.SguOutDxRefIdeal.sig) → Buf (Elt Ideal) ℓ) (g : Dev Cert.SguOutDxRefIdeal.nD → PrngReg), Pre_SguOutDxRefIdeal m →
    θ_run (Cert.SguOutDxRefIdeal.defs (F := Ideal)) (onTc (τ := Cert.SguOutDxRefIdeal.τ) (Cert.SguOutDxRefIdeal.main (F := Ideal))) ⟨m, fun _ => 0, g⟩ (fun r => (∀ c : Dev Cert.SguOutDxRefIdeal.nD,
      r.2.mem ((c.tc : Thread Cert.SguOutDxRefIdeal.nD Cert.SguOutDxRefIdeal.τ).loc Cert.SguOutDxRefIdeal.main_arg0) = m ((c.tc : Thread Cert.SguOutDxRefIdeal.nD Cert.SguOutDxRefIdeal.τ).loc Cert.SguOutDxRefIdeal.main_arg0)
      ∧ r.2.mem ((c.tc : Thread Cert.SguOutDxRefIdeal.nD Cert.SguOutDxRefIdeal.τ).loc Cert.SguOutDxRefIdeal.main_arg1) = m ((c.tc : Thread Cert.SguOutDxRefIdeal.nD Cert.SguOutDxRefIdeal.τ).loc Cert.SguOutDxRefIdeal.main_arg1))
      ∧ r.2.sem = fun _ => 0)

def quiescent_SguOutDw [hSguOutDw : Cert.SguOutDw.Facts] : Prop :=
  ∀ (m : (ℓ : Loc Cert.SguOutDw.nD Cert.SguOutDw.τ Cert.SguOutDw.sig) → Buf (Elt Bits) ℓ) (g : Dev Cert.SguOutDw.nD → PrngReg), Pre_SguOutDw m →
    θ_run (Cert.SguOutDw.defs (F := Bits)) (onTc (τ := Cert.SguOutDw.τ) (Cert.SguOutDw.main (F := Bits))) ⟨m, fun _ => 0, g⟩ (fun r => (∀ c : Dev Cert.SguOutDw.nD,
      r.2.mem ((c.tc : Thread Cert.SguOutDw.nD Cert.SguOutDw.τ).loc Cert.SguOutDw.main_arg0) = m ((c.tc : Thread Cert.SguOutDw.nD Cert.SguOutDw.τ).loc Cert.SguOutDw.main_arg0)
      ∧ r.2.mem ((c.tc : Thread Cert.SguOutDw.nD Cert.SguOutDw.τ).loc Cert.SguOutDw.main_arg1) = m ((c.tc : Thread Cert.SguOutDw.nD Cert.SguOutDw.τ).loc Cert.SguOutDw.main_arg1))
      ∧ r.2.sem = fun _ => 0)

def quiescent_SguOutDwIdeal [hSguOutDwIdeal : Cert.SguOutDwIdeal.Facts] : Prop :=
  ∀ (m : (ℓ : Loc Cert.SguOutDwIdeal.nD Cert.SguOutDwIdeal.τ Cert.SguOutDwIdeal.sig) → Buf (Elt Ideal) ℓ) (g : Dev Cert.SguOutDwIdeal.nD → PrngReg), Pre_SguOutDwIdeal m →
    θ_run (Cert.SguOutDwIdeal.defs (F := Ideal)) (onTc (τ := Cert.SguOutDwIdeal.τ) (Cert.SguOutDwIdeal.main (F := Ideal))) ⟨m, fun _ => 0, g⟩ (fun r => (∀ c : Dev Cert.SguOutDwIdeal.nD,
      r.2.mem ((c.tc : Thread Cert.SguOutDwIdeal.nD Cert.SguOutDwIdeal.τ).loc Cert.SguOutDwIdeal.main_arg0) = m ((c.tc : Thread Cert.SguOutDwIdeal.nD Cert.SguOutDwIdeal.τ).loc Cert.SguOutDwIdeal.main_arg0)
      ∧ r.2.mem ((c.tc : Thread Cert.SguOutDwIdeal.nD Cert.SguOutDwIdeal.τ).loc Cert.SguOutDwIdeal.main_arg1) = m ((c.tc : Thread Cert.SguOutDwIdeal.nD Cert.SguOutDwIdeal.τ).loc Cert.SguOutDwIdeal.main_arg1))
      ∧ r.2.sem = fun _ => 0)

def quiescent_SguOutDwRefIdeal [hSguOutDwRefIdeal : Cert.SguOutDwRefIdeal.Facts] : Prop :=
  ∀ (m : (ℓ : Loc Cert.SguOutDwRefIdeal.nD Cert.SguOutDwRefIdeal.τ Cert.SguOutDwRefIdeal.sig) → Buf (Elt Ideal) ℓ) (g : Dev Cert.SguOutDwRefIdeal.nD → PrngReg), Pre_SguOutDwRefIdeal m →
    θ_run (Cert.SguOutDwRefIdeal.defs (F := Ideal)) (onTc (τ := Cert.SguOutDwRefIdeal.τ) (Cert.SguOutDwRefIdeal.main (F := Ideal))) ⟨m, fun _ => 0, g⟩ (fun r => (∀ c : Dev Cert.SguOutDwRefIdeal.nD,
      r.2.mem ((c.tc : Thread Cert.SguOutDwRefIdeal.nD Cert.SguOutDwRefIdeal.τ).loc Cert.SguOutDwRefIdeal.main_arg0) = m ((c.tc : Thread Cert.SguOutDwRefIdeal.nD Cert.SguOutDwRefIdeal.τ).loc Cert.SguOutDwRefIdeal.main_arg0)
      ∧ r.2.mem ((c.tc : Thread Cert.SguOutDwRefIdeal.nD Cert.SguOutDwRefIdeal.τ).loc Cert.SguOutDwRefIdeal.main_arg1) = m ((c.tc : Thread Cert.SguOutDwRefIdeal.nD Cert.SguOutDwRefIdeal.τ).loc Cert.SguOutDwRefIdeal.main_arg1))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2)
      ∧ r.2.mem ((c.tc : Thread Cert.FlashFwd.nD Cert.FlashFwd.τ).loc Cert.FlashFwd.main_arg3) = m ((c.tc : Thread Cert.FlashFwd.nD Cert.FlashFwd.τ).loc Cert.FlashFwd.main_arg3)
      ∧ r.2.mem ((c.tc : Thread Cert.FlashFwd.nD Cert.FlashFwd.τ).loc Cert.FlashFwd.main_arg4) = m ((c.tc : Thread Cert.FlashFwd.nD Cert.FlashFwd.τ).loc Cert.FlashFwd.main_arg4))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
      ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ r.2.sem = fun _ => 0)

def quiescent_FlashFwdIdeal_pre_finite12 [hFlashFwdIdeal : Cert.FlashFwdIdeal.Facts] [hPre_finite12 : Cert.Pre_finite12.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_finite12 m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
      ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2)
      ∧ r.2.mem ((c.tc : Thread Cert.FlashFwdRefIdeal.nD Cert.FlashFwdRefIdeal.τ).loc Cert.FlashFwdRefIdeal.main_arg3) = m ((c.tc : Thread Cert.FlashFwdRefIdeal.nD Cert.FlashFwdRefIdeal.τ).loc Cert.FlashFwdRefIdeal.main_arg3)
      ∧ r.2.mem ((c.tc : Thread Cert.FlashFwdRefIdeal.nD Cert.FlashFwdRefIdeal.τ).loc Cert.FlashFwdRefIdeal.main_arg4) = m ((c.tc : Thread Cert.FlashFwdRefIdeal.nD Cert.FlashFwdRefIdeal.τ).loc Cert.FlashFwdRefIdeal.main_arg4))
      ∧ r.2.sem = fun _ => 0)

def quiescent_FlashFwdRefIdeal_pre_finite12 [hFlashFwdRefIdeal : Cert.FlashFwdRefIdeal.Facts] [hPre_finite12 : Cert.Pre_finite12.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_finite12 m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2)
      ∧ r.2.mem ((c.tc : Thread Cert.FlashFwdRefIdeal.nD Cert.FlashFwdRefIdeal.τ).loc Cert.FlashFwdRefIdeal.main_arg3) = m ((c.tc : Thread Cert.FlashFwdRefIdeal.nD Cert.FlashFwdRefIdeal.τ).loc Cert.FlashFwdRefIdeal.main_arg3)
      ∧ r.2.mem ((c.tc : Thread Cert.FlashFwdRefIdeal.nD Cert.FlashFwdRefIdeal.τ).loc Cert.FlashFwdRefIdeal.main_arg4) = m ((c.tc : Thread Cert.FlashFwdRefIdeal.nD Cert.FlashFwdRefIdeal.τ).loc Cert.FlashFwdRefIdeal.main_arg4))
      ∧ r.2.sem = fun _ => 0)

def quiescent_MlaO [hMlaO : Cert.MlaO.Facts] : Prop :=
  ∀ (m : (ℓ : Loc Cert.MlaO.nD Cert.MlaO.τ Cert.MlaO.sig) → Buf (Elt Bits) ℓ) (g : Dev Cert.MlaO.nD → PrngReg), Pre_MlaO m →
    θ_run (Cert.MlaO.defs (F := Bits)) (onTc (τ := Cert.MlaO.τ) (Cert.MlaO.main (F := Bits))) ⟨m, fun _ => 0, g⟩ (fun r => (∀ c : Dev Cert.MlaO.nD,
      r.2.mem ((c.tc : Thread Cert.MlaO.nD Cert.MlaO.τ).loc Cert.MlaO.main_arg0) = m ((c.tc : Thread Cert.MlaO.nD Cert.MlaO.τ).loc Cert.MlaO.main_arg0)
      ∧ r.2.mem ((c.tc : Thread Cert.MlaO.nD Cert.MlaO.τ).loc Cert.MlaO.main_arg1) = m ((c.tc : Thread Cert.MlaO.nD Cert.MlaO.τ).loc Cert.MlaO.main_arg1)
      ∧ r.2.mem ((c.tc : Thread Cert.MlaO.nD Cert.MlaO.τ).loc Cert.MlaO.main_arg2) = m ((c.tc : Thread Cert.MlaO.nD Cert.MlaO.τ).loc Cert.MlaO.main_arg2)
      ∧ r.2.mem ((c.tc : Thread Cert.MlaO.nD Cert.MlaO.τ).loc Cert.MlaO.main_arg3) = m ((c.tc : Thread Cert.MlaO.nD Cert.MlaO.τ).loc Cert.MlaO.main_arg3))
      ∧ r.2.sem = fun _ => 0)

def quiescent_MlaOIdeal [hMlaOIdeal : Cert.MlaOIdeal.Facts] : Prop :=
  ∀ (m : (ℓ : Loc Cert.MlaOIdeal.nD Cert.MlaOIdeal.τ Cert.MlaOIdeal.sig) → Buf (Elt Ideal) ℓ) (g : Dev Cert.MlaOIdeal.nD → PrngReg), Pre_MlaOIdeal m →
    θ_run (Cert.MlaOIdeal.defs (F := Ideal)) (onTc (τ := Cert.MlaOIdeal.τ) (Cert.MlaOIdeal.main (F := Ideal))) ⟨m, fun _ => 0, g⟩ (fun r => (∀ c : Dev Cert.MlaOIdeal.nD,
      r.2.mem ((c.tc : Thread Cert.MlaOIdeal.nD Cert.MlaOIdeal.τ).loc Cert.MlaOIdeal.main_arg0) = m ((c.tc : Thread Cert.MlaOIdeal.nD Cert.MlaOIdeal.τ).loc Cert.MlaOIdeal.main_arg0)
      ∧ r.2.mem ((c.tc : Thread Cert.MlaOIdeal.nD Cert.MlaOIdeal.τ).loc Cert.MlaOIdeal.main_arg1) = m ((c.tc : Thread Cert.MlaOIdeal.nD Cert.MlaOIdeal.τ).loc Cert.MlaOIdeal.main_arg1)
      ∧ r.2.mem ((c.tc : Thread Cert.MlaOIdeal.nD Cert.MlaOIdeal.τ).loc Cert.MlaOIdeal.main_arg2) = m ((c.tc : Thread Cert.MlaOIdeal.nD Cert.MlaOIdeal.τ).loc Cert.MlaOIdeal.main_arg2)
      ∧ r.2.mem ((c.tc : Thread Cert.MlaOIdeal.nD Cert.MlaOIdeal.τ).loc Cert.MlaOIdeal.main_arg3) = m ((c.tc : Thread Cert.MlaOIdeal.nD Cert.MlaOIdeal.τ).loc Cert.MlaOIdeal.main_arg3))
      ∧ r.2.sem = fun _ => 0)

def quiescent_MlaORefIdeal [hMlaORefIdeal : Cert.MlaORefIdeal.Facts] : Prop :=
  ∀ (m : (ℓ : Loc Cert.MlaORefIdeal.nD Cert.MlaORefIdeal.τ Cert.MlaORefIdeal.sig) → Buf (Elt Ideal) ℓ) (g : Dev Cert.MlaORefIdeal.nD → PrngReg), Pre_MlaORefIdeal m →
    θ_run (Cert.MlaORefIdeal.defs (F := Ideal)) (onTc (τ := Cert.MlaORefIdeal.τ) (Cert.MlaORefIdeal.main (F := Ideal))) ⟨m, fun _ => 0, g⟩ (fun r => (∀ c : Dev Cert.MlaORefIdeal.nD,
      r.2.mem ((c.tc : Thread Cert.MlaORefIdeal.nD Cert.MlaORefIdeal.τ).loc Cert.MlaORefIdeal.main_arg0) = m ((c.tc : Thread Cert.MlaORefIdeal.nD Cert.MlaORefIdeal.τ).loc Cert.MlaORefIdeal.main_arg0)
      ∧ r.2.mem ((c.tc : Thread Cert.MlaORefIdeal.nD Cert.MlaORefIdeal.τ).loc Cert.MlaORefIdeal.main_arg1) = m ((c.tc : Thread Cert.MlaORefIdeal.nD Cert.MlaORefIdeal.τ).loc Cert.MlaORefIdeal.main_arg1)
      ∧ r.2.mem ((c.tc : Thread Cert.MlaORefIdeal.nD Cert.MlaORefIdeal.τ).loc Cert.MlaORefIdeal.main_arg2) = m ((c.tc : Thread Cert.MlaORefIdeal.nD Cert.MlaORefIdeal.τ).loc Cert.MlaORefIdeal.main_arg2)
      ∧ r.2.mem ((c.tc : Thread Cert.MlaORefIdeal.nD Cert.MlaORefIdeal.τ).loc Cert.MlaORefIdeal.main_arg3) = m ((c.tc : Thread Cert.MlaORefIdeal.nD Cert.MlaORefIdeal.τ).loc Cert.MlaORefIdeal.main_arg3))
      ∧ r.2.sem = fun _ => 0)

def quiescent_MlaODx [hMlaODx : Cert.MlaODx.Facts] : Prop :=
  ∀ (m : (ℓ : Loc Cert.MlaODx.nD Cert.MlaODx.τ Cert.MlaODx.sig) → Buf (Elt Bits) ℓ) (g : Dev Cert.MlaODx.nD → PrngReg), Pre_MlaODx m →
    θ_run (Cert.MlaODx.defs (F := Bits)) (onTc (τ := Cert.MlaODx.τ) (Cert.MlaODx.main (F := Bits))) ⟨m, fun _ => 0, g⟩ (fun r => (∀ c : Dev Cert.MlaODx.nD,
      r.2.mem ((c.tc : Thread Cert.MlaODx.nD Cert.MlaODx.τ).loc Cert.MlaODx.main_arg0) = m ((c.tc : Thread Cert.MlaODx.nD Cert.MlaODx.τ).loc Cert.MlaODx.main_arg0)
      ∧ r.2.mem ((c.tc : Thread Cert.MlaODx.nD Cert.MlaODx.τ).loc Cert.MlaODx.main_arg1) = m ((c.tc : Thread Cert.MlaODx.nD Cert.MlaODx.τ).loc Cert.MlaODx.main_arg1)
      ∧ r.2.mem ((c.tc : Thread Cert.MlaODx.nD Cert.MlaODx.τ).loc Cert.MlaODx.main_arg2) = m ((c.tc : Thread Cert.MlaODx.nD Cert.MlaODx.τ).loc Cert.MlaODx.main_arg2))
      ∧ r.2.sem = fun _ => 0)

def quiescent_MlaODxIdeal [hMlaODxIdeal : Cert.MlaODxIdeal.Facts] : Prop :=
  ∀ (m : (ℓ : Loc Cert.MlaODxIdeal.nD Cert.MlaODxIdeal.τ Cert.MlaODxIdeal.sig) → Buf (Elt Ideal) ℓ) (g : Dev Cert.MlaODxIdeal.nD → PrngReg), Pre_MlaODxIdeal m →
    θ_run (Cert.MlaODxIdeal.defs (F := Ideal)) (onTc (τ := Cert.MlaODxIdeal.τ) (Cert.MlaODxIdeal.main (F := Ideal))) ⟨m, fun _ => 0, g⟩ (fun r => (∀ c : Dev Cert.MlaODxIdeal.nD,
      r.2.mem ((c.tc : Thread Cert.MlaODxIdeal.nD Cert.MlaODxIdeal.τ).loc Cert.MlaODxIdeal.main_arg0) = m ((c.tc : Thread Cert.MlaODxIdeal.nD Cert.MlaODxIdeal.τ).loc Cert.MlaODxIdeal.main_arg0)
      ∧ r.2.mem ((c.tc : Thread Cert.MlaODxIdeal.nD Cert.MlaODxIdeal.τ).loc Cert.MlaODxIdeal.main_arg1) = m ((c.tc : Thread Cert.MlaODxIdeal.nD Cert.MlaODxIdeal.τ).loc Cert.MlaODxIdeal.main_arg1)
      ∧ r.2.mem ((c.tc : Thread Cert.MlaODxIdeal.nD Cert.MlaODxIdeal.τ).loc Cert.MlaODxIdeal.main_arg2) = m ((c.tc : Thread Cert.MlaODxIdeal.nD Cert.MlaODxIdeal.τ).loc Cert.MlaODxIdeal.main_arg2))
      ∧ r.2.sem = fun _ => 0)

def quiescent_MlaODxRefIdeal [hMlaODxRefIdeal : Cert.MlaODxRefIdeal.Facts] : Prop :=
  ∀ (m : (ℓ : Loc Cert.MlaODxRefIdeal.nD Cert.MlaODxRefIdeal.τ Cert.MlaODxRefIdeal.sig) → Buf (Elt Ideal) ℓ) (g : Dev Cert.MlaODxRefIdeal.nD → PrngReg), Pre_MlaODxRefIdeal m →
    θ_run (Cert.MlaODxRefIdeal.defs (F := Ideal)) (onTc (τ := Cert.MlaODxRefIdeal.τ) (Cert.MlaODxRefIdeal.main (F := Ideal))) ⟨m, fun _ => 0, g⟩ (fun r => (∀ c : Dev Cert.MlaODxRefIdeal.nD,
      r.2.mem ((c.tc : Thread Cert.MlaODxRefIdeal.nD Cert.MlaODxRefIdeal.τ).loc Cert.MlaODxRefIdeal.main_arg0) = m ((c.tc : Thread Cert.MlaODxRefIdeal.nD Cert.MlaODxRefIdeal.τ).loc Cert.MlaODxRefIdeal.main_arg0)
      ∧ r.2.mem ((c.tc : Thread Cert.MlaODxRefIdeal.nD Cert.MlaODxRefIdeal.τ).loc Cert.MlaODxRefIdeal.main_arg1) = m ((c.tc : Thread Cert.MlaODxRefIdeal.nD Cert.MlaODxRefIdeal.τ).loc Cert.MlaODxRefIdeal.main_arg1)
      ∧ r.2.mem ((c.tc : Thread Cert.MlaODxRefIdeal.nD Cert.MlaODxRefIdeal.τ).loc Cert.MlaODxRefIdeal.main_arg2) = m ((c.tc : Thread Cert.MlaODxRefIdeal.nD Cert.MlaODxRefIdeal.τ).loc Cert.MlaODxRefIdeal.main_arg2))
      ∧ r.2.sem = fun _ => 0)

def quiescent_MlaODw [hMlaODw : Cert.MlaODw.Facts] : Prop :=
  ∀ (m : (ℓ : Loc Cert.MlaODw.nD Cert.MlaODw.τ Cert.MlaODw.sig) → Buf (Elt Bits) ℓ) (g : Dev Cert.MlaODw.nD → PrngReg), Pre_MlaODw m →
    θ_run (Cert.MlaODw.defs (F := Bits)) (onTc (τ := Cert.MlaODw.τ) (Cert.MlaODw.main (F := Bits))) ⟨m, fun _ => 0, g⟩ (fun r => (∀ c : Dev Cert.MlaODw.nD,
      r.2.mem ((c.tc : Thread Cert.MlaODw.nD Cert.MlaODw.τ).loc Cert.MlaODw.main_arg0) = m ((c.tc : Thread Cert.MlaODw.nD Cert.MlaODw.τ).loc Cert.MlaODw.main_arg0)
      ∧ r.2.mem ((c.tc : Thread Cert.MlaODw.nD Cert.MlaODw.τ).loc Cert.MlaODw.main_arg1) = m ((c.tc : Thread Cert.MlaODw.nD Cert.MlaODw.τ).loc Cert.MlaODw.main_arg1))
      ∧ r.2.sem = fun _ => 0)

def quiescent_MlaODwIdeal [hMlaODwIdeal : Cert.MlaODwIdeal.Facts] : Prop :=
  ∀ (m : (ℓ : Loc Cert.MlaODwIdeal.nD Cert.MlaODwIdeal.τ Cert.MlaODwIdeal.sig) → Buf (Elt Ideal) ℓ) (g : Dev Cert.MlaODwIdeal.nD → PrngReg), Pre_MlaODwIdeal m →
    θ_run (Cert.MlaODwIdeal.defs (F := Ideal)) (onTc (τ := Cert.MlaODwIdeal.τ) (Cert.MlaODwIdeal.main (F := Ideal))) ⟨m, fun _ => 0, g⟩ (fun r => (∀ c : Dev Cert.MlaODwIdeal.nD,
      r.2.mem ((c.tc : Thread Cert.MlaODwIdeal.nD Cert.MlaODwIdeal.τ).loc Cert.MlaODwIdeal.main_arg0) = m ((c.tc : Thread Cert.MlaODwIdeal.nD Cert.MlaODwIdeal.τ).loc Cert.MlaODwIdeal.main_arg0)
      ∧ r.2.mem ((c.tc : Thread Cert.MlaODwIdeal.nD Cert.MlaODwIdeal.τ).loc Cert.MlaODwIdeal.main_arg1) = m ((c.tc : Thread Cert.MlaODwIdeal.nD Cert.MlaODwIdeal.τ).loc Cert.MlaODwIdeal.main_arg1))
      ∧ r.2.sem = fun _ => 0)

def quiescent_MlaODwRefIdeal [hMlaODwRefIdeal : Cert.MlaODwRefIdeal.Facts] : Prop :=
  ∀ (m : (ℓ : Loc Cert.MlaODwRefIdeal.nD Cert.MlaODwRefIdeal.τ Cert.MlaODwRefIdeal.sig) → Buf (Elt Ideal) ℓ) (g : Dev Cert.MlaODwRefIdeal.nD → PrngReg), Pre_MlaODwRefIdeal m →
    θ_run (Cert.MlaODwRefIdeal.defs (F := Ideal)) (onTc (τ := Cert.MlaODwRefIdeal.τ) (Cert.MlaODwRefIdeal.main (F := Ideal))) ⟨m, fun _ => 0, g⟩ (fun r => (∀ c : Dev Cert.MlaODwRefIdeal.nD,
      r.2.mem ((c.tc : Thread Cert.MlaODwRefIdeal.nD Cert.MlaODwRefIdeal.τ).loc Cert.MlaODwRefIdeal.main_arg0) = m ((c.tc : Thread Cert.MlaODwRefIdeal.nD Cert.MlaODwRefIdeal.τ).loc Cert.MlaODwRefIdeal.main_arg0)
      ∧ r.2.mem ((c.tc : Thread Cert.MlaODwRefIdeal.nD Cert.MlaODwRefIdeal.τ).loc Cert.MlaODwRefIdeal.main_arg1) = m ((c.tc : Thread Cert.MlaODwRefIdeal.nD Cert.MlaODwRefIdeal.τ).loc Cert.MlaODwRefIdeal.main_arg1))
      ∧ r.2.sem = fun _ => 0)

def quiescent_MlaProject [hMlaProject : Cert.MlaProject.Facts] : Prop :=
  ∀ (m : (ℓ : Loc Cert.MlaProject.nD Cert.MlaProject.τ Cert.MlaProject.sig) → Buf (Elt Bits) ℓ) (g : Dev Cert.MlaProject.nD → PrngReg), Pre_MlaProject m →
    θ_run (Cert.MlaProject.defs (F := Bits)) (onTc (τ := Cert.MlaProject.τ) (Cert.MlaProject.main (F := Bits))) ⟨m, fun _ => 0, g⟩ (fun r => (∀ c : Dev Cert.MlaProject.nD,
      r.2.mem ((c.tc : Thread Cert.MlaProject.nD Cert.MlaProject.τ).loc Cert.MlaProject.main_arg0) = m ((c.tc : Thread Cert.MlaProject.nD Cert.MlaProject.τ).loc Cert.MlaProject.main_arg0)
      ∧ r.2.mem ((c.tc : Thread Cert.MlaProject.nD Cert.MlaProject.τ).loc Cert.MlaProject.main_arg1) = m ((c.tc : Thread Cert.MlaProject.nD Cert.MlaProject.τ).loc Cert.MlaProject.main_arg1)
      ∧ r.2.mem ((c.tc : Thread Cert.MlaProject.nD Cert.MlaProject.τ).loc Cert.MlaProject.main_arg2) = m ((c.tc : Thread Cert.MlaProject.nD Cert.MlaProject.τ).loc Cert.MlaProject.main_arg2)
      ∧ r.2.mem ((c.tc : Thread Cert.MlaProject.nD Cert.MlaProject.τ).loc Cert.MlaProject.main_arg3) = m ((c.tc : Thread Cert.MlaProject.nD Cert.MlaProject.τ).loc Cert.MlaProject.main_arg3)
      ∧ r.2.mem ((c.tc : Thread Cert.MlaProject.nD Cert.MlaProject.τ).loc Cert.MlaProject.main_arg4) = m ((c.tc : Thread Cert.MlaProject.nD Cert.MlaProject.τ).loc Cert.MlaProject.main_arg4)
      ∧ r.2.mem ((c.tc : Thread Cert.MlaProject.nD Cert.MlaProject.τ).loc Cert.MlaProject.main_arg5) = m ((c.tc : Thread Cert.MlaProject.nD Cert.MlaProject.τ).loc Cert.MlaProject.main_arg5)
      ∧ r.2.mem ((c.tc : Thread Cert.MlaProject.nD Cert.MlaProject.τ).loc Cert.MlaProject.main_arg6) = m ((c.tc : Thread Cert.MlaProject.nD Cert.MlaProject.τ).loc Cert.MlaProject.main_arg6)
      ∧ r.2.mem ((c.tc : Thread Cert.MlaProject.nD Cert.MlaProject.τ).loc Cert.MlaProject.main_arg7) = m ((c.tc : Thread Cert.MlaProject.nD Cert.MlaProject.τ).loc Cert.MlaProject.main_arg7)
      ∧ r.2.mem ((c.tc : Thread Cert.MlaProject.nD Cert.MlaProject.τ).loc Cert.MlaProject.main_arg8) = m ((c.tc : Thread Cert.MlaProject.nD Cert.MlaProject.τ).loc Cert.MlaProject.main_arg8))
      ∧ r.2.sem = fun _ => 0)

def quiescent_MlaProjectIdeal [hMlaProjectIdeal : Cert.MlaProjectIdeal.Facts] : Prop :=
  ∀ (m : (ℓ : Loc Cert.MlaProjectIdeal.nD Cert.MlaProjectIdeal.τ Cert.MlaProjectIdeal.sig) → Buf (Elt Ideal) ℓ) (g : Dev Cert.MlaProjectIdeal.nD → PrngReg), Pre_MlaProjectIdeal m →
    θ_run (Cert.MlaProjectIdeal.defs (F := Ideal)) (onTc (τ := Cert.MlaProjectIdeal.τ) (Cert.MlaProjectIdeal.main (F := Ideal))) ⟨m, fun _ => 0, g⟩ (fun r => (∀ c : Dev Cert.MlaProjectIdeal.nD,
      r.2.mem ((c.tc : Thread Cert.MlaProjectIdeal.nD Cert.MlaProjectIdeal.τ).loc Cert.MlaProjectIdeal.main_arg0) = m ((c.tc : Thread Cert.MlaProjectIdeal.nD Cert.MlaProjectIdeal.τ).loc Cert.MlaProjectIdeal.main_arg0)
      ∧ r.2.mem ((c.tc : Thread Cert.MlaProjectIdeal.nD Cert.MlaProjectIdeal.τ).loc Cert.MlaProjectIdeal.main_arg1) = m ((c.tc : Thread Cert.MlaProjectIdeal.nD Cert.MlaProjectIdeal.τ).loc Cert.MlaProjectIdeal.main_arg1)
      ∧ r.2.mem ((c.tc : Thread Cert.MlaProjectIdeal.nD Cert.MlaProjectIdeal.τ).loc Cert.MlaProjectIdeal.main_arg2) = m ((c.tc : Thread Cert.MlaProjectIdeal.nD Cert.MlaProjectIdeal.τ).loc Cert.MlaProjectIdeal.main_arg2)
      ∧ r.2.mem ((c.tc : Thread Cert.MlaProjectIdeal.nD Cert.MlaProjectIdeal.τ).loc Cert.MlaProjectIdeal.main_arg3) = m ((c.tc : Thread Cert.MlaProjectIdeal.nD Cert.MlaProjectIdeal.τ).loc Cert.MlaProjectIdeal.main_arg3)
      ∧ r.2.mem ((c.tc : Thread Cert.MlaProjectIdeal.nD Cert.MlaProjectIdeal.τ).loc Cert.MlaProjectIdeal.main_arg4) = m ((c.tc : Thread Cert.MlaProjectIdeal.nD Cert.MlaProjectIdeal.τ).loc Cert.MlaProjectIdeal.main_arg4)
      ∧ r.2.mem ((c.tc : Thread Cert.MlaProjectIdeal.nD Cert.MlaProjectIdeal.τ).loc Cert.MlaProjectIdeal.main_arg5) = m ((c.tc : Thread Cert.MlaProjectIdeal.nD Cert.MlaProjectIdeal.τ).loc Cert.MlaProjectIdeal.main_arg5)
      ∧ r.2.mem ((c.tc : Thread Cert.MlaProjectIdeal.nD Cert.MlaProjectIdeal.τ).loc Cert.MlaProjectIdeal.main_arg6) = m ((c.tc : Thread Cert.MlaProjectIdeal.nD Cert.MlaProjectIdeal.τ).loc Cert.MlaProjectIdeal.main_arg6)
      ∧ r.2.mem ((c.tc : Thread Cert.MlaProjectIdeal.nD Cert.MlaProjectIdeal.τ).loc Cert.MlaProjectIdeal.main_arg7) = m ((c.tc : Thread Cert.MlaProjectIdeal.nD Cert.MlaProjectIdeal.τ).loc Cert.MlaProjectIdeal.main_arg7)
      ∧ r.2.mem ((c.tc : Thread Cert.MlaProjectIdeal.nD Cert.MlaProjectIdeal.τ).loc Cert.MlaProjectIdeal.main_arg8) = m ((c.tc : Thread Cert.MlaProjectIdeal.nD Cert.MlaProjectIdeal.τ).loc Cert.MlaProjectIdeal.main_arg8))
      ∧ r.2.sem = fun _ => 0)

def quiescent_MlaProjectRefIdeal [hMlaProjectRefIdeal : Cert.MlaProjectRefIdeal.Facts] : Prop :=
  ∀ (m : (ℓ : Loc Cert.MlaProjectRefIdeal.nD Cert.MlaProjectRefIdeal.τ Cert.MlaProjectRefIdeal.sig) → Buf (Elt Ideal) ℓ) (g : Dev Cert.MlaProjectRefIdeal.nD → PrngReg), Pre_MlaProjectRefIdeal m →
    θ_run (Cert.MlaProjectRefIdeal.defs (F := Ideal)) (onTc (τ := Cert.MlaProjectRefIdeal.τ) (Cert.MlaProjectRefIdeal.main (F := Ideal))) ⟨m, fun _ => 0, g⟩ (fun r => (∀ c : Dev Cert.MlaProjectRefIdeal.nD,
      r.2.mem ((c.tc : Thread Cert.MlaProjectRefIdeal.nD Cert.MlaProjectRefIdeal.τ).loc Cert.MlaProjectRefIdeal.main_arg0) = m ((c.tc : Thread Cert.MlaProjectRefIdeal.nD Cert.MlaProjectRefIdeal.τ).loc Cert.MlaProjectRefIdeal.main_arg0)
      ∧ r.2.mem ((c.tc : Thread Cert.MlaProjectRefIdeal.nD Cert.MlaProjectRefIdeal.τ).loc Cert.MlaProjectRefIdeal.main_arg1) = m ((c.tc : Thread Cert.MlaProjectRefIdeal.nD Cert.MlaProjectRefIdeal.τ).loc Cert.MlaProjectRefIdeal.main_arg1)
      ∧ r.2.mem ((c.tc : Thread Cert.MlaProjectRefIdeal.nD Cert.MlaProjectRefIdeal.τ).loc Cert.MlaProjectRefIdeal.main_arg2) = m ((c.tc : Thread Cert.MlaProjectRefIdeal.nD Cert.MlaProjectRefIdeal.τ).loc Cert.MlaProjectRefIdeal.main_arg2)
      ∧ r.2.mem ((c.tc : Thread Cert.MlaProjectRefIdeal.nD Cert.MlaProjectRefIdeal.τ).loc Cert.MlaProjectRefIdeal.main_arg3) = m ((c.tc : Thread Cert.MlaProjectRefIdeal.nD Cert.MlaProjectRefIdeal.τ).loc Cert.MlaProjectRefIdeal.main_arg3)
      ∧ r.2.mem ((c.tc : Thread Cert.MlaProjectRefIdeal.nD Cert.MlaProjectRefIdeal.τ).loc Cert.MlaProjectRefIdeal.main_arg4) = m ((c.tc : Thread Cert.MlaProjectRefIdeal.nD Cert.MlaProjectRefIdeal.τ).loc Cert.MlaProjectRefIdeal.main_arg4)
      ∧ r.2.mem ((c.tc : Thread Cert.MlaProjectRefIdeal.nD Cert.MlaProjectRefIdeal.τ).loc Cert.MlaProjectRefIdeal.main_arg5) = m ((c.tc : Thread Cert.MlaProjectRefIdeal.nD Cert.MlaProjectRefIdeal.τ).loc Cert.MlaProjectRefIdeal.main_arg5)
      ∧ r.2.mem ((c.tc : Thread Cert.MlaProjectRefIdeal.nD Cert.MlaProjectRefIdeal.τ).loc Cert.MlaProjectRefIdeal.main_arg6) = m ((c.tc : Thread Cert.MlaProjectRefIdeal.nD Cert.MlaProjectRefIdeal.τ).loc Cert.MlaProjectRefIdeal.main_arg6)
      ∧ r.2.mem ((c.tc : Thread Cert.MlaProjectRefIdeal.nD Cert.MlaProjectRefIdeal.τ).loc Cert.MlaProjectRefIdeal.main_arg7) = m ((c.tc : Thread Cert.MlaProjectRefIdeal.nD Cert.MlaProjectRefIdeal.τ).loc Cert.MlaProjectRefIdeal.main_arg7)
      ∧ r.2.mem ((c.tc : Thread Cert.MlaProjectRefIdeal.nD Cert.MlaProjectRefIdeal.τ).loc Cert.MlaProjectRefIdeal.main_arg8) = m ((c.tc : Thread Cert.MlaProjectRefIdeal.nD Cert.MlaProjectRefIdeal.τ).loc Cert.MlaProjectRefIdeal.main_arg8))
      ∧ r.2.sem = fun _ => 0)

def preserves_Kernel_KernelIdeal : Prop :=
  IdealRules.named_const.Statement Cert.KernelIdeal.κ "unscale" .f32 0x4119AC27#32 (((4843165 / 67108864)⁻¹ * (Real.log 2) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v8)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v8) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v12) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v5_0)) (v1 : (c : Dev Cert.DownDwIdeal.nD) → Buf (Elt Ideal) ((c.tc : Thread Cert.DownDwIdeal.nD Cert.DownDwIdeal.τ).loc Cert.DownDwIdeal.main_v5_1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v5_0) = v0 c
          ∧ r.2.mem ((c.tc : Thread Cert.DownDwIdeal.nD Cert.DownDwIdeal.τ).loc Cert.DownDwIdeal.main_v5_1) = v1 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_v7) = v1 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2_0)) (v1 : (c : Dev Cert.UpDwIdeal.nD) → Buf (Elt Ideal) ((c.tc : Thread Cert.UpDwIdeal.nD Cert.UpDwIdeal.τ).loc Cert.UpDwIdeal.main_v2_1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2_0) = v0 c
          ∧ r.2.mem ((c.tc : Thread Cert.UpDwIdeal.nD Cert.UpDwIdeal.τ).loc Cert.UpDwIdeal.main_v2_1) = v1 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_v6) = v1 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_v13) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v4_0)) (v1 : (c : Dev Cert.FfnDownIdeal.nD) → Buf (Elt Ideal) ((c.tc : Thread Cert.FfnDownIdeal.nD Cert.FfnDownIdeal.τ).loc Cert.FfnDownIdeal.main_v4_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v4_0) = v0 c
          ∧ r.2.mem ((c.tc : Thread Cert.FfnDownIdeal.nD Cert.FfnDownIdeal.τ).loc Cert.FfnDownIdeal.main_v4_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_v15) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v5_0)) (v1 : (c : Dev Cert.UpDxIdeal.nD) → Buf (Elt Ideal) ((c.tc : Thread Cert.UpDxIdeal.nD Cert.UpDxIdeal.τ).loc Cert.UpDxIdeal.main_v5_1)) (v2 : (c : Dev Cert.UpDxIdeal.nD) → Buf (Elt Ideal) ((c.tc : Thread Cert.UpDxIdeal.nD Cert.UpDxIdeal.τ).loc Cert.UpDxIdeal.main_v5_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v5_0) = v0 c
          ∧ r.2.mem ((c.tc : Thread Cert.UpDxIdeal.nD Cert.UpDxIdeal.τ).loc Cert.UpDxIdeal.main_v5_1) = v1 c
          ∧ r.2.mem ((c.tc : Thread Cert.UpDxIdeal.nD Cert.UpDxIdeal.τ).loc Cert.UpDxIdeal.main_v5_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v38) = v0 c
          ∧ r.2.mem ((c.tc : Thread Cert.UpDxRefIdeal.nD Cert.UpDxRefIdeal.τ).loc Cert.UpDxRefIdeal.main_v39) = v1 c
          ∧ r.2.mem ((c.tc : Thread Cert.UpDxRefIdeal.nD Cert.UpDxRefIdeal.τ).loc Cert.UpDxRefIdeal.main_v40) = v2 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_SguIn_SguInIdeal : Prop :=
  True

def algebraic_SguInIdeal_SguInRefIdeal [hSguInIdeal : Cert.SguInIdeal.Facts] [hSguInRefIdeal : Cert.SguInRefIdeal.Facts] : Prop :=
  ∀ (m : (ℓ : Loc Cert.SguInIdeal.nD Cert.SguInIdeal.τ Cert.SguInIdeal.sig) → Buf (Elt Ideal) ℓ) (g : Dev Cert.SguInIdeal.nD → PrngReg)
    (m' : (ℓ : Loc Cert.SguInRefIdeal.nD Cert.SguInRefIdeal.τ Cert.SguInRefIdeal.sig) → Buf (Elt Ideal) ℓ) (g' : Dev Cert.SguInRefIdeal.nD → PrngReg), Pre_SguInIdeal m →
    (∀ c : Dev Cert.SguInIdeal.nD,
      m' ((c.tc : Thread Cert.SguInRefIdeal.nD Cert.SguInRefIdeal.τ).loc Cert.SguInRefIdeal.main_arg0) = m ((c.tc : Thread Cert.SguInIdeal.nD Cert.SguInIdeal.τ).loc Cert.SguInIdeal.main_arg0)
      ∧ m' ((c.tc : Thread Cert.SguInRefIdeal.nD Cert.SguInRefIdeal.τ).loc Cert.SguInRefIdeal.main_arg1) = m ((c.tc : Thread Cert.SguInIdeal.nD Cert.SguInIdeal.τ).loc Cert.SguInIdeal.main_arg1)) →
    ∃ (v0 : (c : Dev Cert.SguInIdeal.nD) → Buf (Elt Ideal) ((c.tc : Thread Cert.SguInIdeal.nD Cert.SguInIdeal.τ).loc Cert.SguInIdeal.main_v4)),
      θ_run (Cert.SguInIdeal.defs (F := Ideal)) (onTc (τ := Cert.SguInIdeal.τ) (Cert.SguInIdeal.main (F := Ideal))) ⟨m, fun _ => 0, g⟩ (fun r => ∀ c : Dev Cert.SguInIdeal.nD,
          r.2.mem ((c.tc : Thread Cert.SguInIdeal.nD Cert.SguInIdeal.τ).loc Cert.SguInIdeal.main_v4) = v0 c
          ∧ r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
          ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1))
      ∧ θ_run (Cert.SguInRefIdeal.defs (F := Ideal)) (onTc (τ := Cert.SguInRefIdeal.τ) (Cert.SguInRefIdeal.main (F := Ideal))) ⟨m', fun _ => 0, g'⟩ (fun r => ∀ c : Dev Cert.SguInRefIdeal.nD,
          r.2.mem ((c.tc : Thread Cert.SguInRefIdeal.nD Cert.SguInRefIdeal.τ).loc Cert.SguInRefIdeal.main_v0) = v0 c
          ∧ r.2.mem ((c.tc : Thread Cert.SguInRefIdeal.nD Cert.SguInRefIdeal.τ).loc Cert.SguInRefIdeal.main_arg0) = m' ((c.tc : Thread Cert.SguInRefIdeal.nD Cert.SguInRefIdeal.τ).loc Cert.SguInRefIdeal.main_arg0)
          ∧ r.2.mem ((c.tc : Thread Cert.SguInRefIdeal.nD Cert.SguInRefIdeal.τ).loc Cert.SguInRefIdeal.main_arg1) = m' ((c.tc : Thread Cert.SguInRefIdeal.nD Cert.SguInRefIdeal.τ).loc Cert.SguInRefIdeal.main_arg1))

def preserves_SguOut_SguOutIdeal : Prop :=
  True

def algebraic_SguOutIdeal_SguOutRefIdeal [hSguOutIdeal : Cert.SguOutIdeal.Facts] [hSguOutRefIdeal : Cert.SguOutRefIdeal.Facts] : Prop :=
  ∀ (m : (ℓ : Loc Cert.SguOutIdeal.nD Cert.SguOutIdeal.τ Cert.SguOutIdeal.sig) → Buf (Elt Ideal) ℓ) (g : Dev Cert.SguOutIdeal.nD → PrngReg)
    (m' : (ℓ : Loc Cert.SguOutRefIdeal.nD Cert.SguOutRefIdeal.τ Cert.SguOutRefIdeal.sig) → Buf (Elt Ideal) ℓ) (g' : Dev Cert.SguOutRefIdeal.nD → PrngReg), Pre_SguOutIdeal m →
    (∀ c : Dev Cert.SguOutIdeal.nD,
      m' ((c.tc : Thread Cert.SguOutRefIdeal.nD Cert.SguOutRefIdeal.τ).loc Cert.SguOutRefIdeal.main_arg0) = m ((c.tc : Thread Cert.SguOutIdeal.nD Cert.SguOutIdeal.τ).loc Cert.SguOutIdeal.main_arg0)
      ∧ m' ((c.tc : Thread Cert.SguOutRefIdeal.nD Cert.SguOutRefIdeal.τ).loc Cert.SguOutRefIdeal.main_arg1) = m ((c.tc : Thread Cert.SguOutIdeal.nD Cert.SguOutIdeal.τ).loc Cert.SguOutIdeal.main_arg1)
      ∧ m' ((c.tc : Thread Cert.SguOutRefIdeal.nD Cert.SguOutRefIdeal.τ).loc Cert.SguOutRefIdeal.main_arg2) = m ((c.tc : Thread Cert.SguOutIdeal.nD Cert.SguOutIdeal.τ).loc Cert.SguOutIdeal.main_arg2)
      ∧ m' ((c.tc : Thread Cert.SguOutRefIdeal.nD Cert.SguOutRefIdeal.τ).loc Cert.SguOutRefIdeal.main_arg3) = m ((c.tc : Thread Cert.SguOutIdeal.nD Cert.SguOutIdeal.τ).loc Cert.SguOutIdeal.main_arg3)) →
    ∃ (v0 : (c : Dev Cert.SguOutIdeal.nD) → Buf (Elt Ideal) ((c.tc : Thread Cert.SguOutIdeal.nD Cert.SguOutIdeal.τ).loc Cert.SguOutIdeal.main_v4_0)) (v1 : (c : Dev Cert.SguOutIdeal.nD) → Buf (Elt Ideal) ((c.tc : Thread Cert.SguOutIdeal.nD Cert.SguOutIdeal.τ).loc Cert.SguOutIdeal.main_v4_1)),
      θ_run (Cert.SguOutIdeal.defs (F := Ideal)) (onTc (τ := Cert.SguOutIdeal.τ) (Cert.SguOutIdeal.main (F := Ideal))) ⟨m, fun _ => 0, g⟩ (fun r => ∀ c : Dev Cert.SguOutIdeal.nD,
          r.2.mem ((c.tc : Thread Cert.SguOutIdeal.nD Cert.SguOutIdeal.τ).loc Cert.SguOutIdeal.main_v4_0) = v0 c
          ∧ r.2.mem ((c.tc : Thread Cert.SguOutIdeal.nD Cert.SguOutIdeal.τ).loc Cert.SguOutIdeal.main_v4_1) = v1 c
          ∧ r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
          ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
          ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2)
          ∧ r.2.mem ((c.tc : Thread Cert.SguOutIdeal.nD Cert.SguOutIdeal.τ).loc Cert.SguOutIdeal.main_arg3) = m ((c.tc : Thread Cert.SguOutIdeal.nD Cert.SguOutIdeal.τ).loc Cert.SguOutIdeal.main_arg3))
      ∧ θ_run (Cert.SguOutRefIdeal.defs (F := Ideal)) (onTc (τ := Cert.SguOutRefIdeal.τ) (Cert.SguOutRefIdeal.main (F := Ideal))) ⟨m', fun _ => 0, g'⟩ (fun r => ∀ c : Dev Cert.SguOutRefIdeal.nD,
          r.2.mem ((c.tc : Thread Cert.SguOutRefIdeal.nD Cert.SguOutRefIdeal.τ).loc Cert.SguOutRefIdeal.main_v1) = v0 c
          ∧ r.2.mem ((c.tc : Thread Cert.SguOutRefIdeal.nD Cert.SguOutRefIdeal.τ).loc Cert.SguOutRefIdeal.main_v15) = v1 c
          ∧ r.2.mem ((c.tc : Thread Cert.SguOutRefIdeal.nD Cert.SguOutRefIdeal.τ).loc Cert.SguOutRefIdeal.main_arg0) = m' ((c.tc : Thread Cert.SguOutRefIdeal.nD Cert.SguOutRefIdeal.τ).loc Cert.SguOutRefIdeal.main_arg0)
          ∧ r.2.mem ((c.tc : Thread Cert.SguOutRefIdeal.nD Cert.SguOutRefIdeal.τ).loc Cert.SguOutRefIdeal.main_arg1) = m' ((c.tc : Thread Cert.SguOutRefIdeal.nD Cert.SguOutRefIdeal.τ).loc Cert.SguOutRefIdeal.main_arg1)
          ∧ r.2.mem ((c.tc : Thread Cert.SguOutRefIdeal.nD Cert.SguOutRefIdeal.τ).loc Cert.SguOutRefIdeal.main_arg2) = m' ((c.tc : Thread Cert.SguOutRefIdeal.nD Cert.SguOutRefIdeal.τ).loc Cert.SguOutRefIdeal.main_arg2)
          ∧ r.2.mem ((c.tc : Thread Cert.SguOutRefIdeal.nD Cert.SguOutRefIdeal.τ).loc Cert.SguOutRefIdeal.main_arg3) = m' ((c.tc : Thread Cert.SguOutRefIdeal.nD Cert.SguOutRefIdeal.τ).loc Cert.SguOutRefIdeal.main_arg3))

def preserves_SguOutDx_SguOutDxIdeal : Prop :=
  True

def algebraic_SguOutDxIdeal_SguOutDxRefIdeal [hSguOutDxIdeal : Cert.SguOutDxIdeal.Facts] [hSguOutDxRefIdeal : Cert.SguOutDxRefIdeal.Facts] : Prop :=
  ∀ (m : (ℓ : Loc Cert.SguOutDxIdeal.nD Cert.SguOutDxIdeal.τ Cert.SguOutDxIdeal.sig) → Buf (Elt Ideal) ℓ) (g : Dev Cert.SguOutDxIdeal.nD → PrngReg)
    (m' : (ℓ : Loc Cert.SguOutDxRefIdeal.nD Cert.SguOutDxRefIdeal.τ Cert.SguOutDxRefIdeal.sig) → Buf (Elt Ideal) ℓ) (g' : Dev Cert.SguOutDxRefIdeal.nD → PrngReg), Pre_SguOutDxIdeal m →
    (∀ c : Dev Cert.SguOutDxIdeal.nD,
      m' ((c.tc : Thread Cert.SguOutDxRefIdeal.nD Cert.SguOutDxRefIdeal.τ).loc Cert.SguOutDxRefIdeal.main_arg0) = m ((c.tc : Thread Cert.SguOutDxIdeal.nD Cert.SguOutDxIdeal.τ).loc Cert.SguOutDxIdeal.main_arg0)
      ∧ m' ((c.tc : Thread Cert.SguOutDxRefIdeal.nD Cert.SguOutDxRefIdeal.τ).loc Cert.SguOutDxRefIdeal.main_arg1) = m ((c.tc : Thread Cert.SguOutDxIdeal.nD Cert.SguOutDxIdeal.τ).loc Cert.SguOutDxIdeal.main_arg1)) →
    ∃ (v0 : (c : Dev Cert.SguOutDxIdeal.nD) → Buf (Elt Ideal) ((c.tc : Thread Cert.SguOutDxIdeal.nD Cert.SguOutDxIdeal.τ).loc Cert.SguOutDxIdeal.main_v3)),
      θ_run (Cert.SguOutDxIdeal.defs (F := Ideal)) (onTc (τ := Cert.SguOutDxIdeal.τ) (Cert.SguOutDxIdeal.main (F := Ideal))) ⟨m, fun _ => 0, g⟩ (fun r => ∀ c : Dev Cert.SguOutDxIdeal.nD,
          r.2.mem ((c.tc : Thread Cert.SguOutDxIdeal.nD Cert.SguOutDxIdeal.τ).loc Cert.SguOutDxIdeal.main_v3) = v0 c
          ∧ r.2.mem ((c.tc : Thread Cert.SguOutDxIdeal.nD Cert.SguOutDxIdeal.τ).loc Cert.SguOutDxIdeal.main_arg0) = m ((c.tc : Thread Cert.SguOutDxIdeal.nD Cert.SguOutDxIdeal.τ).loc Cert.SguOutDxIdeal.main_arg0)
          ∧ r.2.mem ((c.tc : Thread Cert.SguOutDxIdeal.nD Cert.SguOutDxIdeal.τ).loc Cert.SguOutDxIdeal.main_arg1) = m ((c.tc : Thread Cert.SguOutDxIdeal.nD Cert.SguOutDxIdeal.τ).loc Cert.SguOutDxIdeal.main_arg1))
      ∧ θ_run (Cert.SguOutDxRefIdeal.defs (F := Ideal)) (onTc (τ := Cert.SguOutDxRefIdeal.τ) (Cert.SguOutDxRefIdeal.main (F := Ideal))) ⟨m', fun _ => 0, g'⟩ (fun r => ∀ c : Dev Cert.SguOutDxRefIdeal.nD,
          r.2.mem ((c.tc : Thread Cert.SguOutDxRefIdeal.nD Cert.SguOutDxRefIdeal.τ).loc Cert.SguOutDxRefIdeal.main_v2) = v0 c
          ∧ r.2.mem ((c.tc : Thread Cert.SguOutDxRefIdeal.nD Cert.SguOutDxRefIdeal.τ).loc Cert.SguOutDxRefIdeal.main_arg0) = m' ((c.tc : Thread Cert.SguOutDxRefIdeal.nD Cert.SguOutDxRefIdeal.τ).loc Cert.SguOutDxRefIdeal.main_arg0)
          ∧ r.2.mem ((c.tc : Thread Cert.SguOutDxRefIdeal.nD Cert.SguOutDxRefIdeal.τ).loc Cert.SguOutDxRefIdeal.main_arg1) = m' ((c.tc : Thread Cert.SguOutDxRefIdeal.nD Cert.SguOutDxRefIdeal.τ).loc Cert.SguOutDxRefIdeal.main_arg1))

def preserves_SguOutDw_SguOutDwIdeal : Prop :=
  True

def algebraic_SguOutDwIdeal_SguOutDwRefIdeal [hSguOutDwIdeal : Cert.SguOutDwIdeal.Facts] [hSguOutDwRefIdeal : Cert.SguOutDwRefIdeal.Facts] : Prop :=
  ∀ (m : (ℓ : Loc Cert.SguOutDwIdeal.nD Cert.SguOutDwIdeal.τ Cert.SguOutDwIdeal.sig) → Buf (Elt Ideal) ℓ) (g : Dev Cert.SguOutDwIdeal.nD → PrngReg)
    (m' : (ℓ : Loc Cert.SguOutDwRefIdeal.nD Cert.SguOutDwRefIdeal.τ Cert.SguOutDwRefIdeal.sig) → Buf (Elt Ideal) ℓ) (g' : Dev Cert.SguOutDwRefIdeal.nD → PrngReg), Pre_SguOutDwIdeal m →
    (∀ c : Dev Cert.SguOutDwIdeal.nD,
      m' ((c.tc : Thread Cert.SguOutDwRefIdeal.nD Cert.SguOutDwRefIdeal.τ).loc Cert.SguOutDwRefIdeal.main_arg0) = m ((c.tc : Thread Cert.SguOutDwIdeal.nD Cert.SguOutDwIdeal.τ).loc Cert.SguOutDwIdeal.main_arg0)
      ∧ m' ((c.tc : Thread Cert.SguOutDwRefIdeal.nD Cert.SguOutDwRefIdeal.τ).loc Cert.SguOutDwRefIdeal.main_arg1) = m ((c.tc : Thread Cert.SguOutDwIdeal.nD Cert.SguOutDwIdeal.τ).loc Cert.SguOutDwIdeal.main_arg1)) →
    ∃ (v0 : (c : Dev Cert.SguOutDwIdeal.nD) → Buf (Elt Ideal) ((c.tc : Thread Cert.SguOutDwIdeal.nD Cert.SguOutDwIdeal.τ).loc Cert.SguOutDwIdeal.main_v2_0)) (v1 : (c : Dev Cert.SguOutDwIdeal.nD) → Buf (Elt Ideal) ((c.tc : Thread Cert.SguOutDwIdeal.nD Cert.SguOutDwIdeal.τ).loc Cert.SguOutDwIdeal.main_v2_1)),
      θ_run (Cert.SguOutDwIdeal.defs (F := Ideal)) (onTc (τ := Cert.SguOutDwIdeal.τ) (Cert.SguOutDwIdeal.main (F := Ideal))) ⟨m, fun _ => 0, g⟩ (fun r => ∀ c : Dev Cert.SguOutDwIdeal.nD,
          r.2.mem ((c.tc : Thread Cert.SguOutDwIdeal.nD Cert.SguOutDwIdeal.τ).loc Cert.SguOutDwIdeal.main_v2_0) = v0 c
          ∧ r.2.mem ((c.tc : Thread Cert.SguOutDwIdeal.nD Cert.SguOutDwIdeal.τ).loc Cert.SguOutDwIdeal.main_v2_1) = v1 c
          ∧ r.2.mem ((c.tc : Thread Cert.SguOutDwIdeal.nD Cert.SguOutDwIdeal.τ).loc Cert.SguOutDwIdeal.main_arg0) = m ((c.tc : Thread Cert.SguOutDwIdeal.nD Cert.SguOutDwIdeal.τ).loc Cert.SguOutDwIdeal.main_arg0)
          ∧ r.2.mem ((c.tc : Thread Cert.SguOutDwIdeal.nD Cert.SguOutDwIdeal.τ).loc Cert.SguOutDwIdeal.main_arg1) = m ((c.tc : Thread Cert.SguOutDwIdeal.nD Cert.SguOutDwIdeal.τ).loc Cert.SguOutDwIdeal.main_arg1))
      ∧ θ_run (Cert.SguOutDwRefIdeal.defs (F := Ideal)) (onTc (τ := Cert.SguOutDwRefIdeal.τ) (Cert.SguOutDwRefIdeal.main (F := Ideal))) ⟨m', fun _ => 0, g'⟩ (fun r => ∀ c : Dev Cert.SguOutDwRefIdeal.nD,
          r.2.mem ((c.tc : Thread Cert.SguOutDwRefIdeal.nD Cert.SguOutDwRefIdeal.τ).loc Cert.SguOutDwRefIdeal.main_v4) = v0 c
          ∧ r.2.mem ((c.tc : Thread Cert.SguOutDwRefIdeal.nD Cert.SguOutDwRefIdeal.τ).loc Cert.SguOutDwRefIdeal.main_v5) = v1 c
          ∧ r.2.mem ((c.tc : Thread Cert.SguOutDwRefIdeal.nD Cert.SguOutDwRefIdeal.τ).loc Cert.SguOutDwRefIdeal.main_arg0) = m' ((c.tc : Thread Cert.SguOutDwRefIdeal.nD Cert.SguOutDwRefIdeal.τ).loc Cert.SguOutDwRefIdeal.main_arg0)
          ∧ r.2.mem ((c.tc : Thread Cert.SguOutDwRefIdeal.nD Cert.SguOutDwRefIdeal.τ).loc Cert.SguOutDwRefIdeal.main_arg1) = m' ((c.tc : Thread Cert.SguOutDwRefIdeal.nD Cert.SguOutDwRefIdeal.τ).loc Cert.SguOutDwRefIdeal.main_arg1))

def preserves_FlashFwd_FlashFwdIdeal : Prop :=
  IdealRules.named_const.Statement Cert.FlashFwdIdeal.κ "log2_scale" .f32 0x3DD53B95#32 (((Real.sqrt 192)⁻¹ * (Real.log 2)⁻¹ : ℝ) : EReal)
  ∧ IdealRules.named_const.Statement Cert.FlashFwdIdeal.κ "log2_e" .f32 0x3FB8AA3B#32 (((Real.log 2)⁻¹ : ℝ) : EReal)

def algebraic_FlashFwdIdeal_FlashFwdRefIdeal_pre_finite12 [hFlashFwdIdeal : Cert.FlashFwdIdeal.Facts] [hFlashFwdRefIdeal : Cert.FlashFwdRefIdeal.Facts] [hPre_finite12 : Cert.Pre_finite12.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_finite12 m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)
      ∧ m' ((c.tc : Thread Cert.FlashFwdRefIdeal.nD Cert.FlashFwdRefIdeal.τ).loc Cert.FlashFwdRefIdeal.main_arg3) = m ((c.tc : Thread Cert.FlashFwdIdeal.nD Cert.FlashFwdIdeal.τ).loc Cert.FlashFwdIdeal.main_arg3)
      ∧ m' ((c.tc : Thread Cert.FlashFwdRefIdeal.nD Cert.FlashFwdRefIdeal.τ).loc Cert.FlashFwdRefIdeal.main_arg4) = m ((c.tc : Thread Cert.FlashFwdIdeal.nD Cert.FlashFwdIdeal.τ).loc Cert.FlashFwdIdeal.main_arg4)) →
    ∃ (v0 : (c : Dev Cert.FlashFwdIdeal.nD) → Buf (Elt Ideal) ((c.tc : Thread Cert.FlashFwdIdeal.nD Cert.FlashFwdIdeal.τ).loc Cert.FlashFwdIdeal.main_v12_0)) (v1 : (c : Dev Cert.FlashFwdIdeal.nD) → Buf (Elt Ideal) ((c.tc : Thread Cert.FlashFwdIdeal.nD Cert.FlashFwdIdeal.τ).loc Cert.FlashFwdIdeal.main_v12_1)) (v2 : (c : Dev Cert.FlashFwdIdeal.nD) → Buf (Elt Ideal) ((c.tc : Thread Cert.FlashFwdIdeal.nD Cert.FlashFwdIdeal.τ).loc Cert.FlashFwdIdeal.main_v12_2)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v12_0) = v0 c
          ∧ r.2.mem ((c.tc : Thread Cert.FlashFwdIdeal.nD Cert.FlashFwdIdeal.τ).loc Cert.FlashFwdIdeal.main_v12_1) = v1 c
          ∧ r.2.mem ((c.tc : Thread Cert.FlashFwdIdeal.nD Cert.FlashFwdIdeal.τ).loc Cert.FlashFwdIdeal.main_v12_2) = v2 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
          ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
          ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          r.2.mem ((c.tc : Thread Cert.FlashFwdRefIdeal.nD Cert.FlashFwdRefIdeal.τ).loc Cert.FlashFwdRefIdeal.main_v61) = v0 c
          ∧ r.2.mem ((c.tc : Thread Cert.FlashFwdRefIdeal.nD Cert.FlashFwdRefIdeal.τ).loc Cert.FlashFwdRefIdeal.main_v54) = v1 c
          ∧ r.2.mem ((c.tc : Thread Cert.FlashFwdRefIdeal.nD Cert.FlashFwdRefIdeal.τ).loc Cert.FlashFwdRefIdeal.main_v63) = v2 c
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2)
          ∧ r.2.mem ((c.tc : Thread Cert.FlashFwdRefIdeal.nD Cert.FlashFwdRefIdeal.τ).loc Cert.FlashFwdRefIdeal.main_arg3) = m' ((c.tc : Thread Cert.FlashFwdRefIdeal.nD Cert.FlashFwdRefIdeal.τ).loc Cert.FlashFwdRefIdeal.main_arg3)
          ∧ r.2.mem ((c.tc : Thread Cert.FlashFwdRefIdeal.nD Cert.FlashFwdRefIdeal.τ).loc Cert.FlashFwdRefIdeal.main_arg4) = m' ((c.tc : Thread Cert.FlashFwdRefIdeal.nD Cert.FlashFwdRefIdeal.τ).loc Cert.FlashFwdRefIdeal.main_arg4))

def preserves_MlaO_MlaOIdeal : Prop :=
  True

def algebraic_MlaOIdeal_MlaORefIdeal [hMlaOIdeal : Cert.MlaOIdeal.Facts] [hMlaORefIdeal : Cert.MlaORefIdeal.Facts] : Prop :=
  ∀ (m : (ℓ : Loc Cert.MlaOIdeal.nD Cert.MlaOIdeal.τ Cert.MlaOIdeal.sig) → Buf (Elt Ideal) ℓ) (g : Dev Cert.MlaOIdeal.nD → PrngReg)
    (m' : (ℓ : Loc Cert.MlaORefIdeal.nD Cert.MlaORefIdeal.τ Cert.MlaORefIdeal.sig) → Buf (Elt Ideal) ℓ) (g' : Dev Cert.MlaORefIdeal.nD → PrngReg), Pre_MlaOIdeal m →
    (∀ c : Dev Cert.MlaOIdeal.nD,
      m' ((c.tc : Thread Cert.MlaORefIdeal.nD Cert.MlaORefIdeal.τ).loc Cert.MlaORefIdeal.main_arg0) = m ((c.tc : Thread Cert.MlaOIdeal.nD Cert.MlaOIdeal.τ).loc Cert.MlaOIdeal.main_arg0)
      ∧ m' ((c.tc : Thread Cert.MlaORefIdeal.nD Cert.MlaORefIdeal.τ).loc Cert.MlaORefIdeal.main_arg1) = m ((c.tc : Thread Cert.MlaOIdeal.nD Cert.MlaOIdeal.τ).loc Cert.MlaOIdeal.main_arg1)
      ∧ m' ((c.tc : Thread Cert.MlaORefIdeal.nD Cert.MlaORefIdeal.τ).loc Cert.MlaORefIdeal.main_arg2) = m ((c.tc : Thread Cert.MlaOIdeal.nD Cert.MlaOIdeal.τ).loc Cert.MlaOIdeal.main_arg2)
      ∧ m' ((c.tc : Thread Cert.MlaORefIdeal.nD Cert.MlaORefIdeal.τ).loc Cert.MlaORefIdeal.main_arg3) = m ((c.tc : Thread Cert.MlaOIdeal.nD Cert.MlaOIdeal.τ).loc Cert.MlaOIdeal.main_arg3)) →
    ∃ (v0 : (c : Dev Cert.MlaOIdeal.nD) → Buf (Elt Ideal) ((c.tc : Thread Cert.MlaOIdeal.nD Cert.MlaOIdeal.τ).loc Cert.MlaOIdeal.main_v3_0)) (v1 : (c : Dev Cert.MlaOIdeal.nD) → Buf (Elt Ideal) ((c.tc : Thread Cert.MlaOIdeal.nD Cert.MlaOIdeal.τ).loc Cert.MlaOIdeal.main_v3_1)),
      θ_run (Cert.MlaOIdeal.defs (F := Ideal)) (onTc (τ := Cert.MlaOIdeal.τ) (Cert.MlaOIdeal.main (F := Ideal))) ⟨m, fun _ => 0, g⟩ (fun r => ∀ c : Dev Cert.MlaOIdeal.nD,
          r.2.mem ((c.tc : Thread Cert.MlaOIdeal.nD Cert.MlaOIdeal.τ).loc Cert.MlaOIdeal.main_v3_0) = v0 c
          ∧ r.2.mem ((c.tc : Thread Cert.MlaOIdeal.nD Cert.MlaOIdeal.τ).loc Cert.MlaOIdeal.main_v3_1) = v1 c
          ∧ r.2.mem ((c.tc : Thread Cert.MlaOIdeal.nD Cert.MlaOIdeal.τ).loc Cert.MlaOIdeal.main_arg0) = m ((c.tc : Thread Cert.MlaOIdeal.nD Cert.MlaOIdeal.τ).loc Cert.MlaOIdeal.main_arg0)
          ∧ r.2.mem ((c.tc : Thread Cert.MlaOIdeal.nD Cert.MlaOIdeal.τ).loc Cert.MlaOIdeal.main_arg1) = m ((c.tc : Thread Cert.MlaOIdeal.nD Cert.MlaOIdeal.τ).loc Cert.MlaOIdeal.main_arg1)
          ∧ r.2.mem ((c.tc : Thread Cert.MlaOIdeal.nD Cert.MlaOIdeal.τ).loc Cert.MlaOIdeal.main_arg2) = m ((c.tc : Thread Cert.MlaOIdeal.nD Cert.MlaOIdeal.τ).loc Cert.MlaOIdeal.main_arg2)
          ∧ r.2.mem ((c.tc : Thread Cert.MlaOIdeal.nD Cert.MlaOIdeal.τ).loc Cert.MlaOIdeal.main_arg3) = m ((c.tc : Thread Cert.MlaOIdeal.nD Cert.MlaOIdeal.τ).loc Cert.MlaOIdeal.main_arg3))
      ∧ θ_run (Cert.MlaORefIdeal.defs (F := Ideal)) (onTc (τ := Cert.MlaORefIdeal.τ) (Cert.MlaORefIdeal.main (F := Ideal))) ⟨m', fun _ => 0, g'⟩ (fun r => ∀ c : Dev Cert.MlaORefIdeal.nD,
          r.2.mem ((c.tc : Thread Cert.MlaORefIdeal.nD Cert.MlaORefIdeal.τ).loc Cert.MlaORefIdeal.main_v1) = v0 c
          ∧ r.2.mem ((c.tc : Thread Cert.MlaORefIdeal.nD Cert.MlaORefIdeal.τ).loc Cert.MlaORefIdeal.main_v15) = v1 c
          ∧ r.2.mem ((c.tc : Thread Cert.MlaORefIdeal.nD Cert.MlaORefIdeal.τ).loc Cert.MlaORefIdeal.main_arg0) = m' ((c.tc : Thread Cert.MlaORefIdeal.nD Cert.MlaORefIdeal.τ).loc Cert.MlaORefIdeal.main_arg0)
          ∧ r.2.mem ((c.tc : Thread Cert.MlaORefIdeal.nD Cert.MlaORefIdeal.τ).loc Cert.MlaORefIdeal.main_arg1) = m' ((c.tc : Thread Cert.MlaORefIdeal.nD Cert.MlaORefIdeal.τ).loc Cert.MlaORefIdeal.main_arg1)
          ∧ r.2.mem ((c.tc : Thread Cert.MlaORefIdeal.nD Cert.MlaORefIdeal.τ).loc Cert.MlaORefIdeal.main_arg2) = m' ((c.tc : Thread Cert.MlaORefIdeal.nD Cert.MlaORefIdeal.τ).loc Cert.MlaORefIdeal.main_arg2)
          ∧ r.2.mem ((c.tc : Thread Cert.MlaORefIdeal.nD Cert.MlaORefIdeal.τ).loc Cert.MlaORefIdeal.main_arg3) = m' ((c.tc : Thread Cert.MlaORefIdeal.nD Cert.MlaORefIdeal.τ).loc Cert.MlaORefIdeal.main_arg3))

def preserves_MlaODx_MlaODxIdeal : Prop :=
  True

def algebraic_MlaODxIdeal_MlaODxRefIdeal [hMlaODxIdeal : Cert.MlaODxIdeal.Facts] [hMlaODxRefIdeal : Cert.MlaODxRefIdeal.Facts] : Prop :=
  ∀ (m : (ℓ : Loc Cert.MlaODxIdeal.nD Cert.MlaODxIdeal.τ Cert.MlaODxIdeal.sig) → Buf (Elt Ideal) ℓ) (g : Dev Cert.MlaODxIdeal.nD → PrngReg)
    (m' : (ℓ : Loc Cert.MlaODxRefIdeal.nD Cert.MlaODxRefIdeal.τ Cert.MlaODxRefIdeal.sig) → Buf (Elt Ideal) ℓ) (g' : Dev Cert.MlaODxRefIdeal.nD → PrngReg), Pre_MlaODxIdeal m →
    (∀ c : Dev Cert.MlaODxIdeal.nD,
      m' ((c.tc : Thread Cert.MlaODxRefIdeal.nD Cert.MlaODxRefIdeal.τ).loc Cert.MlaODxRefIdeal.main_arg0) = m ((c.tc : Thread Cert.MlaODxIdeal.nD Cert.MlaODxIdeal.τ).loc Cert.MlaODxIdeal.main_arg0)
      ∧ m' ((c.tc : Thread Cert.MlaODxRefIdeal.nD Cert.MlaODxRefIdeal.τ).loc Cert.MlaODxRefIdeal.main_arg1) = m ((c.tc : Thread Cert.MlaODxIdeal.nD Cert.MlaODxIdeal.τ).loc Cert.MlaODxIdeal.main_arg1)
      ∧ m' ((c.tc : Thread Cert.MlaODxRefIdeal.nD Cert.MlaODxRefIdeal.τ).loc Cert.MlaODxRefIdeal.main_arg2) = m ((c.tc : Thread Cert.MlaODxIdeal.nD Cert.MlaODxIdeal.τ).loc Cert.MlaODxIdeal.main_arg2)) →
    ∃ (v0 : (c : Dev Cert.MlaODxIdeal.nD) → Buf (Elt Ideal) ((c.tc : Thread Cert.MlaODxIdeal.nD Cert.MlaODxIdeal.τ).loc Cert.MlaODxIdeal.main_v3_0)) (v1 : (c : Dev Cert.MlaODxIdeal.nD) → Buf (Elt Ideal) ((c.tc : Thread Cert.MlaODxIdeal.nD Cert.MlaODxIdeal.τ).loc Cert.MlaODxIdeal.main_v3_1)),
      θ_run (Cert.MlaODxIdeal.defs (F := Ideal)) (onTc (τ := Cert.MlaODxIdeal.τ) (Cert.MlaODxIdeal.main (F := Ideal))) ⟨m, fun _ => 0, g⟩ (fun r => ∀ c : Dev Cert.MlaODxIdeal.nD,
          r.2.mem ((c.tc : Thread Cert.MlaODxIdeal.nD Cert.MlaODxIdeal.τ).loc Cert.MlaODxIdeal.main_v3_0) = v0 c
          ∧ r.2.mem ((c.tc : Thread Cert.MlaODxIdeal.nD Cert.MlaODxIdeal.τ).loc Cert.MlaODxIdeal.main_v3_1) = v1 c
          ∧ r.2.mem ((c.tc : Thread Cert.MlaODxIdeal.nD Cert.MlaODxIdeal.τ).loc Cert.MlaODxIdeal.main_arg0) = m ((c.tc : Thread Cert.MlaODxIdeal.nD Cert.MlaODxIdeal.τ).loc Cert.MlaODxIdeal.main_arg0)
          ∧ r.2.mem ((c.tc : Thread Cert.MlaODxIdeal.nD Cert.MlaODxIdeal.τ).loc Cert.MlaODxIdeal.main_arg1) = m ((c.tc : Thread Cert.MlaODxIdeal.nD Cert.MlaODxIdeal.τ).loc Cert.MlaODxIdeal.main_arg1)
          ∧ r.2.mem ((c.tc : Thread Cert.MlaODxIdeal.nD Cert.MlaODxIdeal.τ).loc Cert.MlaODxIdeal.main_arg2) = m ((c.tc : Thread Cert.MlaODxIdeal.nD Cert.MlaODxIdeal.τ).loc Cert.MlaODxIdeal.main_arg2))
      ∧ θ_run (Cert.MlaODxRefIdeal.defs (F := Ideal)) (onTc (τ := Cert.MlaODxRefIdeal.τ) (Cert.MlaODxRefIdeal.main (F := Ideal))) ⟨m', fun _ => 0, g'⟩ (fun r => ∀ c : Dev Cert.MlaODxRefIdeal.nD,
          r.2.mem ((c.tc : Thread Cert.MlaODxRefIdeal.nD Cert.MlaODxRefIdeal.τ).loc Cert.MlaODxRefIdeal.main_v6) = v0 c
          ∧ r.2.mem ((c.tc : Thread Cert.MlaODxRefIdeal.nD Cert.MlaODxRefIdeal.τ).loc Cert.MlaODxRefIdeal.main_v7) = v1 c
          ∧ r.2.mem ((c.tc : Thread Cert.MlaODxRefIdeal.nD Cert.MlaODxRefIdeal.τ).loc Cert.MlaODxRefIdeal.main_arg0) = m' ((c.tc : Thread Cert.MlaODxRefIdeal.nD Cert.MlaODxRefIdeal.τ).loc Cert.MlaODxRefIdeal.main_arg0)
          ∧ r.2.mem ((c.tc : Thread Cert.MlaODxRefIdeal.nD Cert.MlaODxRefIdeal.τ).loc Cert.MlaODxRefIdeal.main_arg1) = m' ((c.tc : Thread Cert.MlaODxRefIdeal.nD Cert.MlaODxRefIdeal.τ).loc Cert.MlaODxRefIdeal.main_arg1)
          ∧ r.2.mem ((c.tc : Thread Cert.MlaODxRefIdeal.nD Cert.MlaODxRefIdeal.τ).loc Cert.MlaODxRefIdeal.main_arg2) = m' ((c.tc : Thread Cert.MlaODxRefIdeal.nD Cert.MlaODxRefIdeal.τ).loc Cert.MlaODxRefIdeal.main_arg2))

def preserves_MlaODw_MlaODwIdeal : Prop :=
  True

def algebraic_MlaODwIdeal_MlaODwRefIdeal [hMlaODwIdeal : Cert.MlaODwIdeal.Facts] [hMlaODwRefIdeal : Cert.MlaODwRefIdeal.Facts] : Prop :=
  ∀ (m : (ℓ : Loc Cert.MlaODwIdeal.nD Cert.MlaODwIdeal.τ Cert.MlaODwIdeal.sig) → Buf (Elt Ideal) ℓ) (g : Dev Cert.MlaODwIdeal.nD → PrngReg)
    (m' : (ℓ : Loc Cert.MlaODwRefIdeal.nD Cert.MlaODwRefIdeal.τ Cert.MlaODwRefIdeal.sig) → Buf (Elt Ideal) ℓ) (g' : Dev Cert.MlaODwRefIdeal.nD → PrngReg), Pre_MlaODwIdeal m →
    (∀ c : Dev Cert.MlaODwIdeal.nD,
      m' ((c.tc : Thread Cert.MlaODwRefIdeal.nD Cert.MlaODwRefIdeal.τ).loc Cert.MlaODwRefIdeal.main_arg0) = m ((c.tc : Thread Cert.MlaODwIdeal.nD Cert.MlaODwIdeal.τ).loc Cert.MlaODwIdeal.main_arg0)
      ∧ m' ((c.tc : Thread Cert.MlaODwRefIdeal.nD Cert.MlaODwRefIdeal.τ).loc Cert.MlaODwRefIdeal.main_arg1) = m ((c.tc : Thread Cert.MlaODwIdeal.nD Cert.MlaODwIdeal.τ).loc Cert.MlaODwIdeal.main_arg1)) →
    ∃ (v0 : (c : Dev Cert.MlaODwIdeal.nD) → Buf (Elt Ideal) ((c.tc : Thread Cert.MlaODwIdeal.nD Cert.MlaODwIdeal.τ).loc Cert.MlaODwIdeal.main_v2)),
      θ_run (Cert.MlaODwIdeal.defs (F := Ideal)) (onTc (τ := Cert.MlaODwIdeal.τ) (Cert.MlaODwIdeal.main (F := Ideal))) ⟨m, fun _ => 0, g⟩ (fun r => ∀ c : Dev Cert.MlaODwIdeal.nD,
          r.2.mem ((c.tc : Thread Cert.MlaODwIdeal.nD Cert.MlaODwIdeal.τ).loc Cert.MlaODwIdeal.main_v2) = v0 c
          ∧ r.2.mem ((c.tc : Thread Cert.MlaODwIdeal.nD Cert.MlaODwIdeal.τ).loc Cert.MlaODwIdeal.main_arg0) = m ((c.tc : Thread Cert.MlaODwIdeal.nD Cert.MlaODwIdeal.τ).loc Cert.MlaODwIdeal.main_arg0)
          ∧ r.2.mem ((c.tc : Thread Cert.MlaODwIdeal.nD Cert.MlaODwIdeal.τ).loc Cert.MlaODwIdeal.main_arg1) = m ((c.tc : Thread Cert.MlaODwIdeal.nD Cert.MlaODwIdeal.τ).loc Cert.MlaODwIdeal.main_arg1))
      ∧ θ_run (Cert.MlaODwRefIdeal.defs (F := Ideal)) (onTc (τ := Cert.MlaODwRefIdeal.τ) (Cert.MlaODwRefIdeal.main (F := Ideal))) ⟨m', fun _ => 0, g'⟩ (fun r => ∀ c : Dev Cert.MlaODwRefIdeal.nD,
          r.2.mem ((c.tc : Thread Cert.MlaODwRefIdeal.nD Cert.MlaODwRefIdeal.τ).loc Cert.MlaODwRefIdeal.main_v3) = v0 c
          ∧ r.2.mem ((c.tc : Thread Cert.MlaODwRefIdeal.nD Cert.MlaODwRefIdeal.τ).loc Cert.MlaODwRefIdeal.main_arg0) = m' ((c.tc : Thread Cert.MlaODwRefIdeal.nD Cert.MlaODwRefIdeal.τ).loc Cert.MlaODwRefIdeal.main_arg0)
          ∧ r.2.mem ((c.tc : Thread Cert.MlaODwRefIdeal.nD Cert.MlaODwRefIdeal.τ).loc Cert.MlaODwRefIdeal.main_arg1) = m' ((c.tc : Thread Cert.MlaODwRefIdeal.nD Cert.MlaODwRefIdeal.τ).loc Cert.MlaODwRefIdeal.main_arg1))

def preserves_MlaProject_MlaProjectIdeal : Prop :=
  True

def algebraic_MlaProjectIdeal_MlaProjectRefIdeal [hMlaProjectIdeal : Cert.MlaProjectIdeal.Facts] [hMlaProjectRefIdeal : Cert.MlaProjectRefIdeal.Facts] : Prop :=
  ∀ (m : (ℓ : Loc Cert.MlaProjectIdeal.nD Cert.MlaProjectIdeal.τ Cert.MlaProjectIdeal.sig) → Buf (Elt Ideal) ℓ) (g : Dev Cert.MlaProjectIdeal.nD → PrngReg)
    (m' : (ℓ : Loc Cert.MlaProjectRefIdeal.nD Cert.MlaProjectRefIdeal.τ Cert.MlaProjectRefIdeal.sig) → Buf (Elt Ideal) ℓ) (g' : Dev Cert.MlaProjectRefIdeal.nD → PrngReg), Pre_MlaProjectIdeal m →
    (∀ c : Dev Cert.MlaProjectIdeal.nD,
      m' ((c.tc : Thread Cert.MlaProjectRefIdeal.nD Cert.MlaProjectRefIdeal.τ).loc Cert.MlaProjectRefIdeal.main_arg0) = m ((c.tc : Thread Cert.MlaProjectIdeal.nD Cert.MlaProjectIdeal.τ).loc Cert.MlaProjectIdeal.main_arg0)
      ∧ m' ((c.tc : Thread Cert.MlaProjectRefIdeal.nD Cert.MlaProjectRefIdeal.τ).loc Cert.MlaProjectRefIdeal.main_arg1) = m ((c.tc : Thread Cert.MlaProjectIdeal.nD Cert.MlaProjectIdeal.τ).loc Cert.MlaProjectIdeal.main_arg1)
      ∧ m' ((c.tc : Thread Cert.MlaProjectRefIdeal.nD Cert.MlaProjectRefIdeal.τ).loc Cert.MlaProjectRefIdeal.main_arg2) = m ((c.tc : Thread Cert.MlaProjectIdeal.nD Cert.MlaProjectIdeal.τ).loc Cert.MlaProjectIdeal.main_arg2)
      ∧ m' ((c.tc : Thread Cert.MlaProjectRefIdeal.nD Cert.MlaProjectRefIdeal.τ).loc Cert.MlaProjectRefIdeal.main_arg3) = m ((c.tc : Thread Cert.MlaProjectIdeal.nD Cert.MlaProjectIdeal.τ).loc Cert.MlaProjectIdeal.main_arg3)
      ∧ m' ((c.tc : Thread Cert.MlaProjectRefIdeal.nD Cert.MlaProjectRefIdeal.τ).loc Cert.MlaProjectRefIdeal.main_arg4) = m ((c.tc : Thread Cert.MlaProjectIdeal.nD Cert.MlaProjectIdeal.τ).loc Cert.MlaProjectIdeal.main_arg4)
      ∧ m' ((c.tc : Thread Cert.MlaProjectRefIdeal.nD Cert.MlaProjectRefIdeal.τ).loc Cert.MlaProjectRefIdeal.main_arg5) = m ((c.tc : Thread Cert.MlaProjectIdeal.nD Cert.MlaProjectIdeal.τ).loc Cert.MlaProjectIdeal.main_arg5)
      ∧ m' ((c.tc : Thread Cert.MlaProjectRefIdeal.nD Cert.MlaProjectRefIdeal.τ).loc Cert.MlaProjectRefIdeal.main_arg6) = m ((c.tc : Thread Cert.MlaProjectIdeal.nD Cert.MlaProjectIdeal.τ).loc Cert.MlaProjectIdeal.main_arg6)
      ∧ m' ((c.tc : Thread Cert.MlaProjectRefIdeal.nD Cert.MlaProjectRefIdeal.τ).loc Cert.MlaProjectRefIdeal.main_arg7) = m ((c.tc : Thread Cert.MlaProjectIdeal.nD Cert.MlaProjectIdeal.τ).loc Cert.MlaProjectIdeal.main_arg7)
      ∧ m' ((c.tc : Thread Cert.MlaProjectRefIdeal.nD Cert.MlaProjectRefIdeal.τ).loc Cert.MlaProjectRefIdeal.main_arg8) = m ((c.tc : Thread Cert.MlaProjectIdeal.nD Cert.MlaProjectIdeal.τ).loc Cert.MlaProjectIdeal.main_arg8)) →
    ∃ (v0 : (c : Dev Cert.MlaProjectIdeal.nD) → Buf (Elt Ideal) ((c.tc : Thread Cert.MlaProjectIdeal.nD Cert.MlaProjectIdeal.τ).loc Cert.MlaProjectIdeal.main_v16_0)) (v1 : (c : Dev Cert.MlaProjectIdeal.nD) → Buf (Elt Ideal) ((c.tc : Thread Cert.MlaProjectIdeal.nD Cert.MlaProjectIdeal.τ).loc Cert.MlaProjectIdeal.main_v16_1)) (v2 : (c : Dev Cert.MlaProjectIdeal.nD) → Buf (Elt Ideal) ((c.tc : Thread Cert.MlaProjectIdeal.nD Cert.MlaProjectIdeal.τ).loc Cert.MlaProjectIdeal.main_v16_2)) (v3 : (c : Dev Cert.MlaProjectIdeal.nD) → Buf (Elt Ideal) ((c.tc : Thread Cert.MlaProjectIdeal.nD Cert.MlaProjectIdeal.τ).loc Cert.MlaProjectIdeal.main_v16_3)) (v4 : (c : Dev Cert.MlaProjectIdeal.nD) → Buf (Elt Ideal) ((c.tc : Thread Cert.MlaProjectIdeal.nD Cert.MlaProjectIdeal.τ).loc Cert.MlaProjectIdeal.main_v16_4)) (v5 : (c : Dev Cert.MlaProjectIdeal.nD) → Buf (Elt Ideal) ((c.tc : Thread Cert.MlaProjectIdeal.nD Cert.MlaProjectIdeal.τ).loc Cert.MlaProjectIdeal.main_v16_5)) (v6 : (c : Dev Cert.MlaProjectIdeal.nD) → Buf (Elt Ideal) ((c.tc : Thread Cert.MlaProjectIdeal.nD Cert.MlaProjectIdeal.τ).loc Cert.MlaProjectIdeal.main_v16_6)),
      θ_run (Cert.MlaProjectIdeal.defs (F := Ideal)) (onTc (τ := Cert.MlaProjectIdeal.τ) (Cert.MlaProjectIdeal.main (F := Ideal))) ⟨m, fun _ => 0, g⟩ (fun r => ∀ c : Dev Cert.MlaProjectIdeal.nD,
          r.2.mem ((c.tc : Thread Cert.MlaProjectIdeal.nD Cert.MlaProjectIdeal.τ).loc Cert.MlaProjectIdeal.main_v16_0) = v0 c
          ∧ r.2.mem ((c.tc : Thread Cert.MlaProjectIdeal.nD Cert.MlaProjectIdeal.τ).loc Cert.MlaProjectIdeal.main_v16_1) = v1 c
          ∧ r.2.mem ((c.tc : Thread Cert.MlaProjectIdeal.nD Cert.MlaProjectIdeal.τ).loc Cert.MlaProjectIdeal.main_v16_2) = v2 c
          ∧ r.2.mem ((c.tc : Thread Cert.MlaProjectIdeal.nD Cert.MlaProjectIdeal.τ).loc Cert.MlaProjectIdeal.main_v16_3) = v3 c
          ∧ r.2.mem ((c.tc : Thread Cert.MlaProjectIdeal.nD Cert.MlaProjectIdeal.τ).loc Cert.MlaProjectIdeal.main_v16_4) = v4 c
          ∧ r.2.mem ((c.tc : Thread Cert.MlaProjectIdeal.nD Cert.MlaProjectIdeal.τ).loc Cert.MlaProjectIdeal.main_v16_5) = v5 c
          ∧ r.2.mem ((c.tc : Thread Cert.MlaProjectIdeal.nD Cert.MlaProjectIdeal.τ).loc Cert.MlaProjectIdeal.main_v16_6) = v6 c
          ∧ r.2.mem ((c.tc : Thread Cert.MlaProjectIdeal.nD Cert.MlaProjectIdeal.τ).loc Cert.MlaProjectIdeal.main_arg0) = m ((c.tc : Thread Cert.MlaProjectIdeal.nD Cert.MlaProjectIdeal.τ).loc Cert.MlaProjectIdeal.main_arg0)
          ∧ r.2.mem ((c.tc : Thread Cert.MlaProjectIdeal.nD Cert.MlaProjectIdeal.τ).loc Cert.MlaProjectIdeal.main_arg1) = m ((c.tc : Thread Cert.MlaProjectIdeal.nD Cert.MlaProjectIdeal.τ).loc Cert.MlaProjectIdeal.main_arg1)
          ∧ r.2.mem ((c.tc : Thread Cert.MlaProjectIdeal.nD Cert.MlaProjectIdeal.τ).loc Cert.MlaProjectIdeal.main_arg2) = m ((c.tc : Thread Cert.MlaProjectIdeal.nD Cert.MlaProjectIdeal.τ).loc Cert.MlaProjectIdeal.main_arg2)
          ∧ r.2.mem ((c.tc : Thread Cert.MlaProjectIdeal.nD Cert.MlaProjectIdeal.τ).loc Cert.MlaProjectIdeal.main_arg3) = m ((c.tc : Thread Cert.MlaProjectIdeal.nD Cert.MlaProjectIdeal.τ).loc Cert.MlaProjectIdeal.main_arg3)
          ∧ r.2.mem ((c.tc : Thread Cert.MlaProjectIdeal.nD Cert.MlaProjectIdeal.τ).loc Cert.MlaProjectIdeal.main_arg4) = m ((c.tc : Thread Cert.MlaProjectIdeal.nD Cert.MlaProjectIdeal.τ).loc Cert.MlaProjectIdeal.main_arg4)
          ∧ r.2.mem ((c.tc : Thread Cert.MlaProjectIdeal.nD Cert.MlaProjectIdeal.τ).loc Cert.MlaProjectIdeal.main_arg5) = m ((c.tc : Thread Cert.MlaProjectIdeal.nD Cert.MlaProjectIdeal.τ).loc Cert.MlaProjectIdeal.main_arg5)
          ∧ r.2.mem ((c.tc : Thread Cert.MlaProjectIdeal.nD Cert.MlaProjectIdeal.τ).loc Cert.MlaProjectIdeal.main_arg6) = m ((c.tc : Thread Cert.MlaProjectIdeal.nD Cert.MlaProjectIdeal.τ).loc Cert.MlaProjectIdeal.main_arg6)
          ∧ r.2.mem ((c.tc : Thread Cert.MlaProjectIdeal.nD Cert.MlaProjectIdeal.τ).loc Cert.MlaProjectIdeal.main_arg7) = m ((c.tc : Thread Cert.MlaProjectIdeal.nD Cert.MlaProjectIdeal.τ).loc Cert.MlaProjectIdeal.main_arg7)
          ∧ r.2.mem ((c.tc : Thread Cert.MlaProjectIdeal.nD Cert.MlaProjectIdeal.τ).loc Cert.MlaProjectIdeal.main_arg8) = m ((c.tc : Thread Cert.MlaProjectIdeal.nD Cert.MlaProjectIdeal.τ).loc Cert.MlaProjectIdeal.main_arg8))
      ∧ θ_run (Cert.MlaProjectRefIdeal.defs (F := Ideal)) (onTc (τ := Cert.MlaProjectRefIdeal.τ) (Cert.MlaProjectRefIdeal.main (F := Ideal))) ⟨m', fun _ => 0, g'⟩ (fun r => ∀ c : Dev Cert.MlaProjectRefIdeal.nD,
          r.2.mem ((c.tc : Thread Cert.MlaProjectRefIdeal.nD Cert.MlaProjectRefIdeal.τ).loc Cert.MlaProjectRefIdeal.main_v59) = v0 c
          ∧ r.2.mem ((c.tc : Thread Cert.MlaProjectRefIdeal.nD Cert.MlaProjectRefIdeal.τ).loc Cert.MlaProjectRefIdeal.main_v55) = v1 c
          ∧ r.2.mem ((c.tc : Thread Cert.MlaProjectRefIdeal.nD Cert.MlaProjectRefIdeal.τ).loc Cert.MlaProjectRefIdeal.main_v60) = v2 c
          ∧ r.2.mem ((c.tc : Thread Cert.MlaProjectRefIdeal.nD Cert.MlaProjectRefIdeal.τ).loc Cert.MlaProjectRefIdeal.main_v61) = v3 c
          ∧ r.2.mem ((c.tc : Thread Cert.MlaProjectRefIdeal.nD Cert.MlaProjectRefIdeal.τ).loc Cert.MlaProjectRefIdeal.main_v62) = v4 c
          ∧ r.2.mem ((c.tc : Thread Cert.MlaProjectRefIdeal.nD Cert.MlaProjectRefIdeal.τ).loc Cert.MlaProjectRefIdeal.main_v58) = v5 c
          ∧ r.2.mem ((c.tc : Thread Cert.MlaProjectRefIdeal.nD Cert.MlaProjectRefIdeal.τ).loc Cert.MlaProjectRefIdeal.main_v63) = v6 c
          ∧ r.2.mem ((c.tc : Thread Cert.MlaProjectRefIdeal.nD Cert.MlaProjectRefIdeal.τ).loc Cert.MlaProjectRefIdeal.main_arg0) = m' ((c.tc : Thread Cert.MlaProjectRefIdeal.nD Cert.MlaProjectRefIdeal.τ).loc Cert.MlaProjectRefIdeal.main_arg0)
          ∧ r.2.mem ((c.tc : Thread Cert.MlaProjectRefIdeal.nD Cert.MlaProjectRefIdeal.τ).loc Cert.MlaProjectRefIdeal.main_arg1) = m' ((c.tc : Thread Cert.MlaProjectRefIdeal.nD Cert.MlaProjectRefIdeal.τ).loc Cert.MlaProjectRefIdeal.main_arg1)
          ∧ r.2.mem ((c.tc : Thread Cert.MlaProjectRefIdeal.nD Cert.MlaProjectRefIdeal.τ).loc Cert.MlaProjectRefIdeal.main_arg2) = m' ((c.tc : Thread Cert.MlaProjectRefIdeal.nD Cert.MlaProjectRefIdeal.τ).loc Cert.MlaProjectRefIdeal.main_arg2)
          ∧ r.2.mem ((c.tc : Thread Cert.MlaProjectRefIdeal.nD Cert.MlaProjectRefIdeal.τ).loc Cert.MlaProjectRefIdeal.main_arg3) = m' ((c.tc : Thread Cert.MlaProjectRefIdeal.nD Cert.MlaProjectRefIdeal.τ).loc Cert.MlaProjectRefIdeal.main_arg3)
          ∧ r.2.mem ((c.tc : Thread Cert.MlaProjectRefIdeal.nD Cert.MlaProjectRefIdeal.τ).loc Cert.MlaProjectRefIdeal.main_arg4) = m' ((c.tc : Thread Cert.MlaProjectRefIdeal.nD Cert.MlaProjectRefIdeal.τ).loc Cert.MlaProjectRefIdeal.main_arg4)
          ∧ r.2.mem ((c.tc : Thread Cert.MlaProjectRefIdeal.nD Cert.MlaProjectRefIdeal.τ).loc Cert.MlaProjectRefIdeal.main_arg5) = m' ((c.tc : Thread Cert.MlaProjectRefIdeal.nD Cert.MlaProjectRefIdeal.τ).loc Cert.MlaProjectRefIdeal.main_arg5)
          ∧ r.2.mem ((c.tc : Thread Cert.MlaProjectRefIdeal.nD Cert.MlaProjectRefIdeal.τ).loc Cert.MlaProjectRefIdeal.main_arg6) = m' ((c.tc : Thread Cert.MlaProjectRefIdeal.nD Cert.MlaProjectRefIdeal.τ).loc Cert.MlaProjectRefIdeal.main_arg6)
          ∧ r.2.mem ((c.tc : Thread Cert.MlaProjectRefIdeal.nD Cert.MlaProjectRefIdeal.τ).loc Cert.MlaProjectRefIdeal.main_arg7) = m' ((c.tc : Thread Cert.MlaProjectRefIdeal.nD Cert.MlaProjectRefIdeal.τ).loc Cert.MlaProjectRefIdeal.main_arg7)
          ∧ r.2.mem ((c.tc : Thread Cert.MlaProjectRefIdeal.nD Cert.MlaProjectRefIdeal.τ).loc Cert.MlaProjectRefIdeal.main_arg8) = m' ((c.tc : Thread Cert.MlaProjectRefIdeal.nD Cert.MlaProjectRefIdeal.τ).loc Cert.MlaProjectRefIdeal.main_arg8))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hUpDx : Cert.UpDx.Facts) (hUpDxIdeal : Cert.UpDxIdeal.Facts) (hUpDxRefIdeal : Cert.UpDxRefIdeal.Facts) (hSguIn : Cert.SguIn.Facts) (hSguInIdeal : Cert.SguInIdeal.Facts) (hSguInRefIdeal : Cert.SguInRefIdeal.Facts) (hSguOut : Cert.SguOut.Facts) (hSguOutIdeal : Cert.SguOutIdeal.Facts) (hSguOutRefIdeal : Cert.SguOutRefIdeal.Facts) (hSguOutDx : Cert.SguOutDx.Facts) (hSguOutDxIdeal : Cert.SguOutDxIdeal.Facts) (hSguOutDxRefIdeal : Cert.SguOutDxRefIdeal.Facts) (hSguOutDw : Cert.SguOutDw.Facts) (hSguOutDwIdeal : Cert.SguOutDwIdeal.Facts) (hSguOutDwRefIdeal : Cert.SguOutDwRefIdeal.Facts) (hFlashFwd : Cert.FlashFwd.Facts) (hFlashFwdIdeal : Cert.FlashFwdIdeal.Facts) (hFlashFwdRefIdeal : Cert.FlashFwdRefIdeal.Facts) (hMlaO : Cert.MlaO.Facts) (hMlaOIdeal : Cert.MlaOIdeal.Facts) (hMlaORefIdeal : Cert.MlaORefIdeal.Facts) (hMlaODx : Cert.MlaODx.Facts) (hMlaODxIdeal : Cert.MlaODxIdeal.Facts) (hMlaODxRefIdeal : Cert.MlaODxRefIdeal.Facts) (hMlaODw : Cert.MlaODw.Facts) (hMlaODwIdeal : Cert.MlaODwIdeal.Facts) (hMlaODwRefIdeal : Cert.MlaODwRefIdeal.Facts) (hMlaProject : Cert.MlaProject.Facts) (hMlaProjectIdeal : Cert.MlaProjectIdeal.Facts) (hMlaProjectRefIdeal : Cert.MlaProjectRefIdeal.Facts) (hPre_finite : Cert.Pre_finite.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_SguIn (hSguIn := hSguIn)
    ∧ quiescent_SguInIdeal (hSguInIdeal := hSguInIdeal)
    ∧ quiescent_SguInRefIdeal (hSguInRefIdeal := hSguInRefIdeal)
    ∧ quiescent_SguOut (hSguOut := hSguOut)
    ∧ quiescent_SguOutIdeal (hSguOutIdeal := hSguOutIdeal)
    ∧ quiescent_SguOutRefIdeal (hSguOutRefIdeal := hSguOutRefIdeal)
    ∧ quiescent_SguOutDx (hSguOutDx := hSguOutDx)
    ∧ quiescent_SguOutDxIdeal (hSguOutDxIdeal := hSguOutDxIdeal)
    ∧ quiescent_SguOutDxRefIdeal (hSguOutDxRefIdeal := hSguOutDxRefIdeal)
    ∧ quiescent_SguOutDw (hSguOutDw := hSguOutDw)
    ∧ quiescent_SguOutDwIdeal (hSguOutDwIdeal := hSguOutDwIdeal)
    ∧ quiescent_SguOutDwRefIdeal (hSguOutDwRefIdeal := hSguOutDwRefIdeal)
    ∧ quiescent_FlashFwd (hFlashFwd := hFlashFwd)
    ∧ quiescent_FlashFwdIdeal (hFlashFwdIdeal := hFlashFwdIdeal)
    ∧ quiescent_FlashFwdIdeal_pre_finite12 (hFlashFwdIdeal := hFlashFwdIdeal) (hPre_finite12 := hPre_finite12)
    ∧ quiescent_FlashFwdRefIdeal (hFlashFwdRefIdeal := hFlashFwdRefIdeal)
    ∧ quiescent_FlashFwdRefIdeal_pre_finite12 (hFlashFwdRefIdeal := hFlashFwdRefIdeal) (hPre_finite12 := hPre_finite12)
    ∧ quiescent_MlaO (hMlaO := hMlaO)
    ∧ quiescent_MlaOIdeal (hMlaOIdeal := hMlaOIdeal)
    ∧ quiescent_MlaORefIdeal (hMlaORefIdeal := hMlaORefIdeal)
    ∧ quiescent_MlaODx (hMlaODx := hMlaODx)
    ∧ quiescent_MlaODxIdeal (hMlaODxIdeal := hMlaODxIdeal)
    ∧ quiescent_MlaODxRefIdeal (hMlaODxRefIdeal := hMlaODxRefIdeal)
    ∧ quiescent_MlaODw (hMlaODw := hMlaODw)
    ∧ quiescent_MlaODwIdeal (hMlaODwIdeal := hMlaODwIdeal)
    ∧ quiescent_MlaODwRefIdeal (hMlaODwRefIdeal := hMlaODwRefIdeal)
    ∧ quiescent_MlaProject (hMlaProject := hMlaProject)
    ∧ quiescent_MlaProjectIdeal (hMlaProjectIdeal := hMlaProjectIdeal)
    ∧ quiescent_MlaProjectRefIdeal (hMlaProjectRefIdeal := hMlaProjectRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_UpDx_UpDxIdeal
    ∧ algebraic_UpDxIdeal_UpDxRefIdeal (hUpDxIdeal := hUpDxIdeal) (hUpDxRefIdeal := hUpDxRefIdeal)
    ∧ preserves_SguIn_SguInIdeal
    ∧ algebraic_SguInIdeal_SguInRefIdeal (hSguInIdeal := hSguInIdeal) (hSguInRefIdeal := hSguInRefIdeal)
    ∧ preserves_SguOut_SguOutIdeal
    ∧ algebraic_SguOutIdeal_SguOutRefIdeal (hSguOutIdeal := hSguOutIdeal) (hSguOutRefIdeal := hSguOutRefIdeal)
    ∧ preserves_SguOutDx_SguOutDxIdeal
    ∧ algebraic_SguOutDxIdeal_SguOutDxRefIdeal (hSguOutDxIdeal := hSguOutDxIdeal) (hSguOutDxRefIdeal := hSguOutDxRefIdeal)
    ∧ preserves_SguOutDw_SguOutDwIdeal
    ∧ algebraic_SguOutDwIdeal_SguOutDwRefIdeal (hSguOutDwIdeal := hSguOutDwIdeal) (hSguOutDwRefIdeal := hSguOutDwRefIdeal)
    ∧ preserves_FlashFwd_FlashFwdIdeal
    ∧ algebraic_FlashFwdIdeal_FlashFwdRefIdeal_pre_finite12 (hFlashFwdIdeal := hFlashFwdIdeal) (hFlashFwdRefIdeal := hFlashFwdRefIdeal) (hPre_finite12 := hPre_finite12)
    ∧ preserves_MlaO_MlaOIdeal
    ∧ algebraic_MlaOIdeal_MlaORefIdeal (hMlaOIdeal := hMlaOIdeal) (hMlaORefIdeal := hMlaORefIdeal)
    ∧ preserves_MlaODx_MlaODxIdeal
    ∧ algebraic_MlaODxIdeal_MlaODxRefIdeal (hMlaODxIdeal := hMlaODxIdeal) (hMlaODxRefIdeal := hMlaODxRefIdeal)
    ∧ preserves_MlaODw_MlaODwIdeal
    ∧ algebraic_MlaODwIdeal_MlaODwRefIdeal (hMlaODwIdeal := hMlaODwIdeal) (hMlaODwRefIdeal := hMlaODwRefIdeal)
    ∧ preserves_MlaProject_MlaProjectIdeal
    ∧ algebraic_MlaProjectIdeal_MlaProjectRefIdeal (hMlaProjectIdeal := hMlaProjectIdeal) (hMlaProjectRefIdeal := hMlaProjectRefIdeal)
-- ==== Pre_finite.lean ====
abbrev S4096x8x192 : Shape := ⟨3, ![4096, 8, 192]⟩
abbrev S4096x8x256 : Shape := ⟨3, ![4096, 8, 256]⟩
abbrev S4096x64 : Shape := ⟨2, ![4096, 64]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x256 : S_.BroadcastsInDim S4096x8x256 (![] : Fin 0 → Fin S4096x8x256.rank)
  reducesTo_S4096x8x256_S_d0_1_2 : S4096x8x256.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn_part1 {F : FTy → Type} [FloatOps F] (main_v13 : IVec S_ 1) (main_v16 : IVec S4096x8x128 1) : IVec S_ 1 :=
  let main_c_5 : IVec S_ 1 := constantI S_ 1 1#1
  let main_v17 : IVec S_ 1 := (fun x v => Host.reduce IntOp.andi x v reducesTo_S4096x8x128_S_d0_1_2 h_S_) main_v16 main_c_5
  let main_v18 : IVec S_ 1 := andi main_v13 main_v17
  main_v18

def fn {F : FTy → Type} [FloatOps F] (main_arg0 : FVec F S4096x8x192 .f32) (main_arg1 : FVec F S4096x8x256 .f32) (main_arg2 : FVec F S4096x64 .f32) (main_arg3 : FVec F S4096x8x128 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_v4 : FVec F S4096x8x256 .f32 := Host.absf main_arg1
  let main_cst_0 : FVec F S_ .f32 := constant S_ .f32 0x7F800000#32
  let main_v5 : FVec F S4096x8x256 .f32 := broadcastInDim S4096x8x256 ![] bcast_S_S4096x8x256 main_cst_0
  let main_v6 : IVec S4096x8x256 1 := cmpf .olt main_v4 main_v5
  let main_c_1 : IVec S_ 1 := constantI S_ 1 1#1
  let main_v7 : IVec S_ 1 := (fun x v => Host.reduce IntOp.andi x v reducesTo_S4096x8x256_S_d0_1_2 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x8x128 .f32 := Host.absf main_arg3
  let main_cst_4 : FVec F S_ .f32 := constant S_ .f32 0x7F800000#32
  let main_v15 : FVec F S4096x8x128 .f32 := broadcastInDim S4096x8x128 ![] bcast_S_S4096x8x128 main_cst_4
  let main_v16 : IVec S4096x8x128 1 := cmpf .olt main_v14 main_v15
  fn_part1 (F := F) main_v13 main_v16
-- ==== Pre_finite12.lean ====
abbrev S4096x8x192 : Shape := ⟨3, ![4096, 8, 192]⟩
abbrev S4096x8x256 : Shape := ⟨3, ![4096, 8, 256]⟩
abbrev S4096x64 : Shape := ⟨2, ![4096, 64]⟩
abbrev S4096x32 : Shape := ⟨2, ![4096, 32]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x256 : S_.BroadcastsInDim S4096x8x256 (![] : Fin 0 → Fin S4096x8x256.rank)
  reducesTo_S4096x8x256_S_d0_1_2 : S4096x8x256.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x32 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  main_v23

def fn {F : FTy → Type} [FloatOps F] (main_arg0 : FVec F S4096x8x192 .f32) (main_arg1 : FVec F S4096x8x256 .f32) (main_arg2 : FVec F S4096x64 .f32) (main_arg3 : FVec F S4096x32 .f32) (main_arg4 : FVec F S4096x32 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_v4 : FVec F S4096x8x256 .f32 := Host.absf main_arg1
  let main_cst_0 : FVec F S_ .f32 := constant S_ .f32 0x7F800000#32
  let main_v5 : FVec F S4096x8x256 .f32 := broadcastInDim S4096x8x256 ![] bcast_S_S4096x8x256 main_cst_0
  let main_v6 : IVec S4096x8x256 1 := cmpf .olt main_v4 main_v5
  let main_c_1 : IVec S_ 1 := constantI S_ 1 1#1
  let main_v7 : IVec S_ 1 := (fun x v => Host.reduce IntOp.andi x v reducesTo_S4096x8x256_S_d0_1_2 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_v13 main_v16
-- ==== Kernel.lean ====
abbrev S4096x8x192 : Shape := ⟨3, ![4096, 8, 192]⟩
abbrev S4096x8x256 : Shape := ⟨3, ![4096, 8, 256]⟩
abbrev S4096x64 : Shape := ⟨2, ![4096, 64]⟩
abbrev S4096x8x128 : Shape := ⟨3, ![4096, 8, 128]⟩
abbrev S4096x1x64 : Shape := ⟨3, ![4096, 1, 64]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x1x4096 : Shape := ⟨3, ![8, 1, 4096]⟩
abbrev S4096x8 : Shape := ⟨2, ![4096, 8]⟩
abbrev S4096x2048 : Shape := ⟨2, ![4096, 2048]⟩
abbrev S4096x128 : Shape := ⟨2, ![4096, 128]⟩
abbrev S4096x1024 : Shape := ⟨2, ![4096, 1024]⟩
abbrev S4096x256 : Shape := ⟨2, ![4096, 256]⟩
abbrev S512x256 : Shape := ⟨2, ![512, 256]⟩
abbrev S512x128 : Shape := ⟨2, ![512, 128]⟩
abbrev S1x1x4096 : Shape := ⟨3, ![1, 1, 4096]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 75
  | .vmem => 20
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x64, .f32⟩
  | .hbm, ⟨3, _⟩ => ⟨S4096x8x128, .f32⟩
  | .hbm, ⟨4, _⟩ => ⟨S4096x1x64, .f32⟩
  | .hbm, ⟨5, _⟩ => ⟨S4096x8x64, .f32⟩
  | .hbm, ⟨6, _⟩ => ⟨S4096x8x128, .f32⟩
  | .hbm, ⟨7, _⟩ => ⟨S4096x8x64, .f32⟩
  | .hbm, ⟨8, _⟩ => ⟨S4096x8x128, .f32⟩
  | .hbm, ⟨9, _⟩ => ⟨S4096x8x128, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S1x4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x128x4096, .f32⟩
  | .hbm, ⟨40, _⟩ => ⟨S4096x8x128, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x1x4096, .f32⟩
  | .hbm, ⟨48, _⟩ => ⟨S4096x8x128, .f32⟩
  | .hbm, ⟨49, _⟩ => ⟨S_, .f32⟩
  | .hbm, ⟨50, _⟩ => ⟨S4096x8, .f32⟩
  | .hbm, ⟨51, _⟩ => ⟨S8x4096, .f32⟩
  | .hbm, ⟨52, _⟩ => ⟨S8x1x4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096x8x192, .f32⟩
  | .hbm, ⟨58, _⟩ => ⟨S4096x8x192, .f32⟩
  | .hbm, ⟨59, _⟩ => ⟨S_, .i32⟩
  | .hbm, ⟨60, _⟩ => ⟨S_, .f32⟩
  | .hbm, ⟨61, _⟩ => ⟨S4096x8x256, .f32⟩
  | .hbm, ⟨62, _⟩ => ⟨S4096x2048, .f32⟩
  | .hbm, ⟨63, _⟩ => ⟨S4096x2048, .bf16⟩
  | .hbm, ⟨64, _⟩ => ⟨S4096x2048, .f32⟩
  | .hbm, ⟨65, _⟩ => ⟨S4096x2048, .bf16⟩
  | .hbm, ⟨66, _⟩ => ⟨S_, .i32⟩
  | .hbm, ⟨67, _⟩ => ⟨S_, .f32⟩
  | .hbm, ⟨68, _⟩ => ⟨S4096x128, .f32⟩
  | .hbm, ⟨69, _⟩ => ⟨S4096x128, .bf16⟩
  | .hbm, ⟨70, _⟩ => ⟨S4096x1024, .f32⟩
  | .hbm, ⟨71, _⟩ => ⟨S4096x1024, .bf16⟩
  | .hbm, ⟨72, _⟩ => ⟨S4096x2048, .f32⟩
  | .hbm, ⟨73, _⟩ => ⟨S4096x2048, .bf16⟩
  | .hbm, ⟨74, _⟩ => ⟨S4096x1024, .f32⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S4096x256, .f32⟩
  | .local _ .vmem, ⟨13, _⟩ => ⟨S4096x256, .f32⟩
  | .local _ .vmem, ⟨14, _⟩ => ⟨S512x256, .bf16⟩
  | .local _ .vmem, ⟨15, _⟩ => ⟨S512x256, .bf16⟩
  | .local _ .vmem, ⟨16, _⟩ => ⟨S512x128, .f32⟩
  | .local _ .vmem, ⟨17, _⟩ => ⟨S512x128, .f32⟩
  | .local _ .vmem, ⟨18, _⟩ => ⟨S512x256, .f32⟩
  | .local _ .vmem, ⟨19, _⟩ => ⟨S512x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_call1_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_7 : Ref sig .tc := ⟨.hbm, 66, rfl⟩
abbrev main_call2_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53_0 : Ref sig .tc := ⟨.hbm, 72, rfl⟩
abbrev main_v53_1 : Ref sig .tc := ⟨.hbm, 73, rfl⟩
abbrev main_v53_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def k0_mult1 (i : grid0.Coords) : BitVec 32 :=
  let arg1 : BitVec 32 := BitVec.ofNat 32 (i 1).val
  let c512_i32 : BitVec 32 := 512#32
  let v31 : BitVec 32 := Scalar.muli arg1 c512_i32
  v31
def k0_off1 (i : grid0.Coords) : Fin 2 → Nat :=
  let arg1 : BitVec 32 := BitVec.ofNat 32 (i 1).val
  let c512_i32 : BitVec 32 := 512#32
  let v31 : BitVec 32 := Scalar.muli arg1 c512_i32
  let v32 : BitVec 32 := v31
  let v33 : Index := Scalar.indexCast v32
  let c0_21 : Index := 0#32
  ![v33.toNat, 0]
def k0_off2 (i : grid0.Coords) : Fin 2 → Nat :=
  let arg1 : BitVec 32 := BitVec.ofNat 32 (i 1).val
  let c512_i32 : BitVec 32 := 512#32
  let v31 : BitVec 32 := Scalar.muli arg1 c512_i32
  let v32 : BitVec 32 := v31
  let v36 : Index := Scalar.indexCast v32
  let c0_22 : Index := 0#32
  ![v36.toNat, 0]
def k0_off3 (i : grid0.Coords) : Fin 3 → Nat :=
  let c0_26 : Index := 0#32
  let c0_27 : Index := 0#32
  let arg1 : BitVec 32 := BitVec.ofNat 32 (i 1).val
  let c512_i32 : BitVec 32 := 512#32
  let v31 : BitVec 32 := Scalar.muli arg1 c512_i32
  let v32 : BitVec 32 := v31
  let v49 : Index := Scalar.indexCast v32
  ![0, 0, v49.toNat]
def k0_cond3 (i : grid0.Coords) : BitVec 1 :=
  let arg1 : BitVec 32 := BitVec.ofNat 32 (i 1).val
  let c7_i32_10 : BitVec 32 := 7#32
  let v18 : BitVec 1 := Scalar.cmpi .slt arg1 c7_i32_10
  let v19 : BitVec 32 := Scalar.extui v18
  let c0_i32_11 : BitVec 32 := 0#32
  let v20 : BitVec 1 := Scalar.cmpi .ne v19 c0_i32_11
  v20

def k0_mult2 (i : grid0.Coords) : BitVec 32 :=
  let arg1 : BitVec 32 := BitVec.ofNat 32 (i 1).val
  let c512_i32 : BitVec 32 := 512#32
  let v32 : BitVec 32 := Scalar.muli arg1 c512_i32
  v32
def k0_off4 (i : grid0.Coords) : Fin 2 → Nat :=
  let arg1 : BitVec 32 := BitVec.ofNat 32 (i 1).val
  let c512_i32 : BitVec 32 := 512#32
  let v32 : BitVec 32 := Scalar.muli arg1 c512_i32
  let v33 : BitVec 32 := v32
  let v34 : Index := Scalar.indexCast v33
  let c0_21 : Index := 0#32
  ![v34.toNat, 0]
def k0_off5 (i : grid0.Coords) : Fin 2 → Nat :=
  let arg1 : BitVec 32 := BitVec.ofNat 32 (i 1).val
  let c512_i32 : BitVec 32 := 512#32
  let v32 : BitVec 32 := Scalar.muli arg1 c512_i32
  let v33 : BitVec 32 := v32
  let v37 : Index := Scalar.indexCast v33
  let c0_22 : Index := 0#32
  ![v37.toNat, 0]
def k0_mult3 (i : grid0.Coords) : BitVec 32 :=
  let arg1 : BitVec 32 := BitVec.ofNat 32 (i 1).val
  let c1_i32 : BitVec 32 := 1#32
  let v31 : BitVec 32 := Scalar.addi arg1 c1_i32
  let c512_i32_26 : BitVec 32 := 512#32
  let v50 : BitVec 32 := Scalar.muli v31 c512_i32_26
  v50
def k0_off6 (i : grid0.Coords) : Fin 2 → Nat :=
  let arg1 : BitVec 32 := BitVec.ofNat 32 (i 1).val
  let c1_i32 : BitVec 32 := 1#32
  let v31 : BitVec 32 := Scalar.addi arg1 c1_i32
  let c512_i32_26 : BitVec 32 := 512#32
  let v50 : BitVec 32 := Scalar.muli v31 c512_i32_26
  let v51 : BitVec 32 := v50
  let v52 : Index := Scalar.indexCast v51
  let c0_27 : Index := 0#32
  ![v52.toNat, 0]
def k0_off7 (i : grid0.Coords) : Fin 2 → Nat :=
  let arg1 : BitVec 32 := BitVec.ofNat 32 (i 1).val
  let c1_i32 : BitVec 32 := 1#32
  let v31 : BitVec 32 := Scalar.addi arg1 c1_i32
  let c512_i32_26 : BitVec 32 := 512#32
  let v50 : BitVec 32 := Scalar.muli v31 c512_i32_26
  let v51 : BitVec 32 := v50
  let v55 : Index := Scalar.indexCast v51
  let c0_28 : Index := 0#32
  ![v55.toNat, 0]
def k0_off8 (i : grid0.Coords) : Fin 3 → Nat :=
  let c0_31 : Index := 0#32
  let c0_32 : Index := 0#32
  let arg1 : BitVec 32 := BitVec.ofNat 32 (i 1).val
  let c512_i32 : BitVec 32 := 512#32
  let v32 : BitVec 32 := Scalar.muli arg1 c512_i32
  let v33 : BitVec 32 := v32
  let v63 : Index := Scalar.indexCast v33
  ![0, 0, v63.toNat]
def k0_off9 (i : grid0.Coords) : Fin 3 → Nat :=
  let c0_49 : Index := 0#32
  let c0_50 : Index := 0#32
  let arg1 : BitVec 32 := BitVec.ofNat 32 (i 1).val
  let c1_i32 : BitVec 32 := 1#32
  let v31 : BitVec 32 := Scalar.addi arg1 c1_i32
  let c512_i32_26 : BitVec 32 := 512#32
  let v50 : BitVec 32 := Scalar.muli v31 c512_i32_26
  let v51 : BitVec 32 := v50
  let v98 : Index := Scalar.indexCast v51
  ![0, 0, v98.toNat]
@[reducible] def k0_t1_loop (i : grid0.Coords) : Scf.Loop 32 :=
  let c0_i32_75 : BitVec 32 := 0#32
  let c8_i32 : BitVec 32 := 8#32
  let arg1 : BitVec 32 := BitVec.ofNat 32 (i 1).val
  let c2_i32 : BitVec 32 := 2#32
  let v133 : BitVec 32 := Scalar.addi arg1 c2_i32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_77 : BitVec 32 := 1#32
  ⟨c0_i32_75, v156, c1_i32_77⟩
def k0_mult4 (i : grid0.Coords) (k0_t1 : Fin (k0_t1_loop i).trips) : BitVec 32 :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c1_i32_77 : BitVec 32 := 1#32
  let arg13 : BitVec 32 := Scf.iv c0_i32_75 c1_i32_77 k0_t1
  let v170 : BitVec 32 := Scalar.muli c2_i32_87 arg13
  let v171 : BitVec 32 := Scalar.addi v133 v170
  let c512_i32_90 : BitVec 32 := 512#32
  let v175 : BitVec 32 := Scalar.muli v171 c512_i32_90
  v175
def k0_off10 (i : grid0.Coords) (k0_t1 : Fin (k0_t1_loop i).trips) : Fin 2 → Nat :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c1_i32_77 : BitVec 32 := 1#32
  let arg13 : BitVec 32 := Scf.iv c0_i32_75 c1_i32_77 k0_t1
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v177 : Index := Scalar.indexCast v176
  let c0_91 : Index := 0#32
  ![v177.toNat, 0]
def k0_off11 (i : grid0.Coords) (k0_t1 : Fin (k0_t1_loop i).trips) : Fin 2 → Nat :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c1_i32_77 : BitVec 32 := 1#32
  let arg13 : BitVec 32 := Scf.iv c0_i32_75 c1_i32_77 k0_t1
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v180 : Index := Scalar.indexCast v176
  let c0_92 : Index := 0#32
  ![v180.toNat, 0]
def k0_mult5 (i : grid0.Coords) (k0_t1 : Fin (k0_t1_loop i).trips) : BitVec 32 :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c1_i32_77 : BitVec 32 := 1#32
  let arg13 : BitVec 32 := Scf.iv c0_i32_75 c1_i32_77 k0_t1
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  v188
def k0_off12 (i : grid0.Coords) (k0_t1 : Fin (k0_t1_loop i).trips) : Fin 2 → Nat :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c1_i32_77 : BitVec 32 := 1#32
  let arg13 : BitVec 32 := Scf.iv c0_i32_75 c1_i32_77 k0_t1
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v190 : Index := Scalar.indexCast v189
  let c0_96 : Index := 0#32
  ![v190.toNat, 0]
def k0_off13 (i : grid0.Coords) (k0_t1 : Fin (k0_t1_loop i).trips) : Fin 2 → Nat :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c1_i32_77 : BitVec 32 := 1#32
  let arg13 : BitVec 32 := Scf.iv c0_i32_75 c1_i32_77 k0_t1
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v193 : Index := Scalar.indexCast v189
  let c0_97 : Index := 0#32
  ![v193.toNat, 0]
def k0_off14 (i : grid0.Coords) (k0_t1 : Fin (k0_t1_loop i).trips) : Fin 3 → Nat :=
  let c0_100 : Index := 0#32
  let c0_101 : Index := 0#32
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c1_i32_77 : BitVec 32 := 1#32
  let arg13 : BitVec 32 := Scf.iv c0_i32_75 c1_i32_77 k0_t1
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v201 : Index := Scalar.indexCast v176
  ![0, 0, v201.toNat]
def k0_off15 (i : grid0.Coords) (k0_t1 : Fin (k0_t1_loop i).trips) : Fin 3 → Nat :=
  let c0_118 : Index := 0#32
  let c0_119 : Index := 0#32
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c1_i32_77 : BitVec 32 := 1#32
  let arg13 : BitVec 32 := Scf.iv c0_i32_75 c1_i32_77 k0_t1
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v236 : Index := Scalar.indexCast v189
  ![0, 0, v236.toNat]
@[reducible] def k0_t2_loop (i : grid0.Coords) : Scf.Loop 32 :=
  let c0_i32_75 : BitVec 32 := 0#32
  let c8_i32 : BitVec 32 := 8#32
  let arg1 : BitVec 32 := BitVec.ofNat 32 (i 1).val
  let c2_i32 : BitVec 32 := 2#32
  let v133 : BitVec 32 := Scalar.addi arg1 c2_i32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let v153 : BitVec 32 := Scalar.addi c0_i32_75 v152
  let c1_i32_78 : BitVec 32 := 1#32
  ⟨v156, v153, c1_i32_78⟩
def k0_mult6 (i : grid0.Coords) (k0_t2 : Fin (k0_t2_loop i).trips) : BitVec 32 :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v170 : BitVec 32 := Scalar.muli c2_i32_87 arg13
  let v171 : BitVec 32 := Scalar.addi v133 v170
  let c512_i32_90 : BitVec 32 := 512#32
  let v175 : BitVec 32 := Scalar.muli v171 c512_i32_90
  v175
def k0_off16 (i : grid0.Coords) (k0_t2 : Fin (k0_t2_loop i).trips) : Fin 2 → Nat :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v177 : Index := Scalar.indexCast v176
  let c0_91 : Index := 0#32
  ![v177.toNat, 0]
def k0_off17 (i : grid0.Coords) (k0_t2 : Fin (k0_t2_loop i).trips) : Fin 2 → Nat :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v180 : Index := Scalar.indexCast v176
  let c0_92 : Index := 0#32
  ![v180.toNat, 0]
def k0_mult7 (i : grid0.Coords) (k0_t2 : Fin (k0_t2_loop i).trips) : BitVec 32 :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  v188
def k0_off18 (i : grid0.Coords) (k0_t2 : Fin (k0_t2_loop i).trips) : Fin 2 → Nat :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v190 : Index := Scalar.indexCast v189
  let c0_96 : Index := 0#32
  ![v190.toNat, 0]
def k0_off19 (i : grid0.Coords) (k0_t2 : Fin (k0_t2_loop i).trips) : Fin 2 → Nat :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v193 : Index := Scalar.indexCast v189
  let c0_97 : Index := 0#32
  ![v193.toNat, 0]
def k0_off20 (i : grid0.Coords) (k0_t2 : Fin (k0_t2_loop i).trips) : Fin 3 → Nat :=
  let c0_100 : Index := 0#32
  let c0_101 : Index := 0#32
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v201 : Index := Scalar.indexCast v176
  ![0, 0, v201.toNat]
def k0_off21 (i : grid0.Coords) (k0_t2 : Fin (k0_t2_loop i).trips) : Fin 3 → Nat :=
  let c0_118 : Index := 0#32
  let c0_119 : Index := 0#32
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v236 : Index := Scalar.indexCast v189
  ![0, 0, v236.toNat]
def k0_cond4 (i : grid0.Coords) : BitVec 1 :=
  let c8_i32 : BitVec 32 := 8#32
  let arg1 : BitVec 32 := BitVec.ofNat 32 (i 1).val
  let c2_i32 : BitVec 32 := 2#32
  let v133 : BitVec 32 := Scalar.addi arg1 c2_i32
  let v134 : BitVec 32 := Scalar.subi c8_i32 v133
  let c2_i32_79 : BitVec 32 := 2#32
  let c0_i32_80 : BitVec 32 := 0#32
  let v157 : BitVec 1 := Scalar.cmpi .eq c2_i32_79 c0_i32_80
  let c1_i32_81 : BitVec 32 := 1#32
  let v158 : BitVec 32 := Scalar.select v157 c1_i32_81 c2_i32_79
  let v159 : BitVec 32 := Scalar.remsi v134 v158
  let c0_i32_83 : BitVec 32 := 0#32
  let v161 : BitVec 1 := Scalar.cmpi .slt v159 c0_i32_83
  let c0_i32_84 : BitVec 32 := 0#32
  let v162 : BitVec 1 := Scalar.cmpi .slt v158 c0_i32_84
  let v163 : BitVec 1 := Scalar.xori v161 v162
  let c0_i32_82 : BitVec 32 := 0#32
  let v160 : BitVec 1 := Scalar.cmpi .ne v159 c0_i32_82
  let v164 : BitVec 1 := Scalar.andi v163 v160
  let v165 : BitVec 32 := Scalar.addi v159 v158
  let v166 : BitVec 32 := Scalar.select v164 v165 v159
  let c1_i32_85 : BitVec 32 := 1#32
  let v167 : BitVec 1 := Scalar.cmpi .eq v166 c1_i32_85
  let v168 : BitVec 32 := Scalar.extui v167
  let c0_i32_86 : BitVec 32 := 0#32
  let v169 : BitVec 1 := Scalar.cmpi .ne v168 c0_i32_86
  v169

def k0_mult8 : BitVec 32 :=
  let c3584_i32 : BitVec 32 := 3584#32
  c3584_i32
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "unscale" => some (((4843165 / 67108864)⁻¹ * (Real.log 2) : ℝ) : EReal)
  | _ => none
-- ==== ReferenceIdeal.lean ====
abbrev S4096x8x192 : Shape := ⟨3, ![4096, 8, 192]⟩
abbrev S4096x8x256 : Shape := ⟨3, ![4096, 8, 256]⟩
abbrev S4096x64 : Shape := ⟨2, ![4096, 64]⟩
abbrev S4096x8x128 : Shape := ⟨3, ![4096, 8, 128]⟩
abbrev S4096x1x64 : Shape := ⟨3, ![4096, 1, 64]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x64 : Shape := ⟨3, ![8, 4096, 64]⟩
abbrev S8x4096x128 : Shape := ⟨3, ![8, 4096, 128]⟩
abbrev S4096x2048 : Shape := ⟨2, ![4096, 2048]⟩
abbrev S4096x1024 : Shape := ⟨2, ![4096, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x64, .f32⟩
  | .hbm, ⟨3, _⟩ => ⟨S4096x8x128, .f32⟩
  | .hbm, ⟨4, _⟩ => ⟨S4096x1x64, .f32⟩
  | .hbm, ⟨5, _⟩ => ⟨S4096x8x64, .f32⟩
  | .hbm, ⟨6, _⟩ => ⟨S4096x8x128, .f32⟩
  | .hbm, ⟨7, _⟩ => ⟨S4096x8x64, .f32⟩
  | .hbm, ⟨8, _⟩ => ⟨S4096x8x128, .f32⟩
  | .hbm, ⟨9, _⟩ => ⟨S4096x8x128, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S1x4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .i1⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x128x4096, .f32⟩
  | .hbm, ⟨69, _⟩ => ⟨S4096x8x128, .f32⟩
  | .hbm, ⟨70, _⟩ => ⟨S8x128x4096, .f32⟩
  | .hbm, ⟨71, _⟩ => ⟨S8x4096x4096, .f32⟩
  | .hbm, ⟨72, _⟩ => ⟨S8x128x4096, .f32⟩
  | .hbm, ⟨73, _⟩ => ⟨S4096x8x128, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096x4096, .f32⟩
  | .hbm, ⟨93, _⟩ => ⟨S8x4096x4096, .f32⟩
  | .hbm, ⟨94, _⟩ => ⟨S8x4096x64, .f32⟩
  | .hbm, ⟨95, _⟩ => ⟨S4096x8x64, .f32⟩
  | .hbm, ⟨96, _⟩ => ⟨S8x4096x64, .f32⟩
  | .hbm, ⟨97, _⟩ => ⟨S4096x8x64, .f32⟩
  | .hbm, ⟨98, _⟩ => ⟨S8x4096x128, .f32⟩
  | .hbm, ⟨99, _⟩ => ⟨S4096x8x128, .f32⟩
  | .hbm, ⟨100, _⟩ => ⟨S8x4096x128, .f32⟩
  | .hbm, ⟨101, _⟩ => ⟨S4096x8x128, .f32⟩
  | .hbm, ⟨102, _⟩ => ⟨S4096x8x256, .f32⟩
  | .hbm, ⟨103, _⟩ => ⟨S4096x8x192, .f32⟩
  | .hbm, ⟨104, _⟩ => ⟨S_, .i32⟩
  | .hbm, ⟨105, _⟩ => ⟨S_, .f32⟩
  | .hbm, ⟨106, _⟩ => ⟨S4096x8x256, .f32⟩
  | .hbm, ⟨107, _⟩ => ⟨S4096x2048, .f32⟩
  | .hbm, ⟨108, _⟩ => ⟨S_, .i32⟩
  | .hbm, ⟨109, _⟩ => ⟨S_, .f32⟩
  | .hbm, ⟨110, _⟩ => ⟨S4096x8x128, .f32⟩
  | .hbm, ⟨111, _⟩ => ⟨S4096x1024, .f32⟩
  | .hbm, ⟨112, _⟩ => ⟨S4096x2048, .f32⟩
  | .hbm, ⟨113, _⟩ => ⟨S4096x2048, .bf16⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_v18_1 : Ref sig .tc := ⟨.hbm, 25, rfl⟩
abbrev main_call0_v2 : Ref sig .tc := ⟨.hbm, 26, rfl⟩
abbrev main_v18_0 : Ref sig .tc := ⟨.hbm, 27, rfl⟩
abbrev main_call0_cst : Ref sig .tc := ⟨.hbm, 28, rfl⟩
abbrev main_v18_2 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c : Ref sig .tc := ⟨.hbm, 104, rfl⟩
abbrev main_call2_v0 : Ref sig .tc := ⟨.hbm, 105, rfl⟩
abbrev main_v78 : Ref sig .tc := ⟨.hbm, 106, rfl⟩
abbrev main_v79 : Ref sig .tc := ⟨.hbm, 107, rfl⟩
abbrev main_c_14 : Ref sig .tc := ⟨.hbm, 108, rfl⟩
abbrev main_call3_v0 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== DownDx.lean ====
abbrev S4096x4096 : Shape := ⟨2, ![4096, 4096]⟩
abbrev S4096x1024 : Shape := ⟨2, ![4096, 1024]⟩
abbrev S_ : Shape := ⟨0, ![]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4x1024x1024, .f32⟩
  | .hbm, ⟨12, _⟩ => ⟨S4x1024x1024, .bf16⟩
  | .hbm, ⟨13, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DownDw.lean ====
abbrev S4096x4096 : Shape := ⟨2, ![4096, 4096]⟩
abbrev S4096x1024 : Shape := ⟨2, ![4096, 1024]⟩
abbrev S_ : Shape := ⟨0, ![]⟩
abbrev S4x1024x1024 : Shape := ⟨3, ![4, 1024, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4x1024x1024, .f32⟩
  | .hbm, ⟨9, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .bf16⟩
  | .local _ .vmem, ⟨7, _⟩ => ⟨S1x1024x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | .hbm, ⟨12, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpDw.lean ====
abbrev S4096x1024 : Shape := ⟨2, ![4096, 1024]⟩
abbrev S4096x4096 : Shape := ⟨2, ![4096, 4096]⟩
abbrev S4x1024x1024 : Shape := ⟨3, ![4, 1024, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .f32⟩
  | .hbm, ⟨5, _⟩ => ⟨S4x1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .bf16⟩
  | .local _ .vmem, ⟨6, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnUp.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S4096x4096, .bf16⟩
  | .hbm, ⟨7, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== FfnDown.lean ====
abbrev S4096x1024 : Shape := ⟨2, ![4096, 1024]⟩
abbrev S4096x4096 : Shape := ⟨2, ![4096, 4096]⟩
abbrev S1024 : Shape := ⟨1, ![1024]⟩
abbrev S1x1024 : Shape := ⟨2, ![1, 1024]⟩
abbrev S4x1024x1024 : Shape := ⟨3, ![4, 1024, 1024]⟩
abbrev S512x4096 : Shape := ⟨2, ![512, 4096]⟩
abbrev S1x1024x1024 : Shape := ⟨3, ![1, 1024, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x4096, .bf16⟩
  | .hbm, ⟨6, _⟩ => ⟨S4x1024x1024, .f32⟩
  | .hbm, ⟨7, _⟩ => ⟨S4x1024x1024, .bf16⟩
  | .hbm, ⟨8, _⟩ => ⟨S4096x1024, .f32⟩
  | .hbm, ⟨9, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnDownRefIdeal.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== UpDx.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S256x4096 : Shape := ⟨2, ![256, 4096]⟩
abbrev S1x1024x1024 : Shape := ⟨3, ![1, 1024, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x4096, .bf16⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_35 : BitVec 32 := 0#32
  let v59 : BitVec 1 := Scalar.cmpi .ne v58 c0_i32_35
  v59

def k0_cond2 (i : grid0.Coords) : BitVec 1 :=
  let arg0 : BitVec 32 := BitVec.ofNat 32 (i 0).val
  let c0_i32 : BitVec 32 := 0#32
  let v57 : BitVec 1 := Scalar.cmpi .eq arg0 c0_i32
  let v_true : BitVec 1 := 1#1
  let v60 : BitVec 1 := Scalar.xori v57 v_true
  let v61 : BitVec 32 := Scalar.extui v60
  let c0_i32_36 : BitVec 32 := 0#32
  let v62 : BitVec 1 := Scalar.cmpi .ne v61 c0_i32_36
  v62

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== UpDxRefIdeal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== SguIn.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguInRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SguOut.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S1x1024 : Shape := ⟨2, ![1, 1024]⟩
abbrev S4x512x1024 : Shape := ⟨3, ![4, 512, 1024]⟩
abbrev S512x2048 : Shape := ⟨2, ![512, 2048]⟩
abbrev S1x512x1024 : Shape := ⟨3, ![1, 512, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S4096x2048, .bf16⟩
  | .hbm, ⟨6, _⟩ => ⟨S4x512x1024, .f32⟩
  | .hbm, ⟨7, _⟩ => ⟨S4x512x1024, .bf16⟩
  | .hbm, ⟨8, _⟩ => ⟨S4096x1024, .f32⟩
  | .hbm, ⟨9, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== SguOutRefIdeal.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SguOutDx.lean ====
abbrev S2048x1024 : Shape := ⟨2, ![2048, 1024]⟩
abbrev S4096x1024 : Shape := ⟨2, ![4096, 1024]⟩
abbrev S4x512x1024 : Shape := ⟨3, ![4, 512, 1024]⟩
abbrev S4096x2048 : Shape := ⟨2, ![4096, 2048]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S4096x1024, .bf16⟩
  | .hbm, ⟨3, _⟩ => ⟨S4x512x1024, .f32⟩
  | .hbm, ⟨4, _⟩ => ⟨S4x512x1024, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguOutDxRefIdeal.lean ====
abbrev S2048x1024 : Shape := ⟨2, ![2048, 1024]⟩
abbrev S4096x1024 : Shape := ⟨2, ![4096, 1024]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SguOutDw.lean ====
abbrev S4096x2048 : Shape := ⟨2, ![4096, 2048]⟩
abbrev S4096x1024 : Shape := ⟨2, ![4096, 1024]⟩
abbrev S4x512x1024 : Shape := ⟨3, ![4, 512, 1024]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S4x512x1024, .f32⟩
  | .hbm, ⟨5, _⟩ => ⟨S4x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SguOutDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S4x512x1024, .f32⟩
  | .hbm, ⟨8, _⟩ => ⟨S4x512x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FlashFwd.lean ====
abbrev S4096x8x192 : Shape := ⟨3, ![4096, 8, 192]⟩
abbrev S4096x8x256 : Shape := ⟨3, ![4096, 8, 256]⟩
abbrev S4096x64 : Shape := ⟨2, ![4096, 64]⟩
abbrev S4096x32 : Shape := ⟨2, ![4096, 32]⟩
abbrev S_ : Shape := ⟨0, ![]⟩
abbrev S4096x128 : Shape := ⟨2, ![4096, 128]⟩
abbrev S4096x2048 : Shape := ⟨2, ![4096, 2048]⟩
abbrev S4096x1024 : Shape := ⟨2, ![4096, 1024]⟩
abbrev S8x1x4096 : Shape := ⟨3, ![8, 1, 4096]⟩
abbrev S512x256 : Shape := ⟨2, ![512, 256]⟩
abbrev S512x128 : Shape := ⟨2, ![512, 128]⟩
abbrev S4096x256 : Shape := ⟨2, ![4096, 256]⟩
abbrev S1x1x512 : Shape := ⟨3, ![1, 1, 512]⟩
abbrev S512x512 : Shape := ⟨2, ![512, 512]⟩
abbrev S512 : Shape := ⟨1, ![512]⟩
abbrev S512x1 : Shape := ⟨2, ![512, 1]⟩
abbrev S128x512 : Shape := ⟨2, ![128, 512]⟩
abbrev S1x512 : Shape := ⟨2, ![1, 512]⟩

abbrev nBuf : Space → Nat
  | .hbm => 26
  | .vmem => 20
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x64, .f32⟩
  | .hbm, ⟨3, _⟩ => ⟨S4096x32, .f32⟩
  | .hbm, ⟨4, _⟩ => ⟨S4096x32, .f32⟩
  | .hbm, ⟨5, _⟩ => ⟨S_, .f32⟩
  | .hbm, ⟨6, _⟩ => ⟨S4096x32, .f32⟩
  | .hbm, ⟨7, _⟩ => ⟨S_, .f32⟩
  | .hbm, ⟨8, _⟩ => ⟨S4096x64, .f32⟩
  | .hbm, ⟨9, _⟩ => ⟨S4096x128, .f32⟩
  | .hbm, ⟨10, _⟩ => ⟨S4096x128, .f32⟩
  | .hbm, ⟨11, _⟩ => ⟨S4096x32, .f32⟩
  | .hbm, ⟨12, _⟩ => ⟨S4096x128, .f32⟩
  | .hbm, ⟨13, _⟩ => ⟨S_, .i32⟩
  | .hbm, ⟨14, _⟩ => ⟨S_, .f32⟩
  | .hbm, ⟨15, _⟩ => ⟨S4096x8x256, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S_, .i32⟩
  | .hbm, ⟨20, _⟩ => ⟨S_, .f32⟩
  | .hbm, ⟨21, _⟩ => ⟨S4096x128, .f32⟩
  | .hbm, ⟨22, _⟩ => ⟨S4096x128, .bf16⟩
  | .hbm, ⟨23, _⟩ => ⟨S4096x1024, .bf16⟩
  | .hbm, ⟨24, _⟩ => ⟨S8x1x4096, .f32⟩
  | .hbm, ⟨25, _⟩ => ⟨S4096x2048, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S4096x256, .bf16⟩
  | .local _ .vmem, ⟨9, _⟩ => ⟨S4096x256, .bf16⟩
  | .local _ .vmem, ⟨10, _⟩ => ⟨S4096x128, .bf16⟩
  | .local _ .vmem, ⟨11, _⟩ => ⟨S512x128, .bf16⟩
  | .local _ .vmem, ⟨12, _⟩ => ⟨S512x128, .bf16⟩
  | .local _ .vmem, ⟨13, _⟩ => ⟨S1x1x512, .f32⟩
  | .local _ .vmem, ⟨14, _⟩ => ⟨S1x1x512, .f32⟩
  | .local _ .vmem, ⟨15, _⟩ => ⟨S512x256, .bf16⟩
  | .local _ .vmem, ⟨16, _⟩ => ⟨S512x256, .bf16⟩
  | .local _ .vmem, ⟨17, _⟩ => ⟨S512x128, .f32⟩
  | .local _ .vmem, ⟨18, _⟩ => ⟨S512x128, .f32⟩
  | .local _ .vmem, ⟨19, _⟩ => ⟨S512x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v34 : BitVec 1 := Scalar.cmpi .eq arg1 c0_i32
  let v35 : BitVec 32 := Scalar.extui v34
  let c0_i32_18 : BitVec 32 := 0#32
  let v36 : BitVec 1 := Scalar.cmpi .ne v35 c0_i32_18
  v36

def k0_mult1 (i : grid0.Coords) : BitVec 32 :=
  let arg1 : BitVec 32 := BitVec.ofNat 32 (i 1).val
  let c512_i32 : BitVec 32 := 512#32
  let v56 : BitVec 32 := Scalar.muli arg1 c512_i32
  v56
def k0_off1 (i : grid0.Coords) : Fin 2 → Nat :=
  let arg1 : BitVec 32 := BitVec.ofNat 32 (i 1).val
  let c512_i32 : BitVec 32 := 512#32
  let v56 : BitVec 32 := Scalar.muli arg1 c512_i32
  let v57 : BitVec 32 := v56
  let v58 : Index := Scalar.indexCast v57
  let c0_35 : Index := 0#32
  ![v58.toNat, 0]
def k0_off2 (i : grid0.Coords) : Fin 2 → Nat :=
  let arg1 : BitVec 32 := BitVec.ofNat 32 (i 1).val
  let c512_i32 : BitVec 32 := 512#32
  let v56 : BitVec 32 := Scalar.muli arg1 c512_i32
  let v57 : BitVec 32 := v56
  let v61 : Index := Scalar.indexCast v57
  let c0_36 : Index := 0#32
  ![v61.toNat, 0]
def k0_cond2 (i : grid0.Coords) : BitVec 1 :=
  let arg1 : BitVec 32 := BitVec.ofNat 32 (i 1).val
  let c0_i32_19 : BitVec 32 := 0#32
  let v37 : BitVec 1 := Scalar.cmpi .sgt arg1 c0_i32_19
  let v38 : BitVec 32 := Scalar.extui v37
  let c0_i32_20 : BitVec 32 := 0#32
  let v39 : BitVec 1 := Scalar.cmpi .ne v38 c0_i32_20
  v39

@[reducible] def k0_t1_loop (i : grid0.Coords) : Scf.Loop 32 :=
  let c0_i32_43 : BitVec 32 := 0#32
  let arg1 : BitVec 32 := BitVec.ofNat 32 (i 1).val
  let c1_i32 : BitVec 32 := 1#32
  let v56 : BitVec 32 := Scalar.subi arg1 c1_i32
  let c0_i32_35 : BitVec 32 := 0#32
  let v57 : BitVec 32 := Scalar.subi v56 c0_i32_35
  let c0_i32_36 : BitVec 32 := 0#32
  let v59 : BitVec 1 := Scalar.cmpi .sgt v57 c0_i32_36
  let v60 : BitVec 32 := Scalar.extui v59
  let c0_i32_37 : BitVec 32 := 0#32
  let v61 : BitVec 1 := Scalar.cmpi .slt v57 c0_i32_37
  let v62 : BitVec 32 := Scalar.extui v61
  let v63 : BitVec 32 := Scalar.subi v60 v62
  let c2_i32 : BitVec 32 := 2#32
  let c0_i32_38 : BitVec 32 := 0#32
  let v64 : BitVec 1 := Scalar.cmpi .sgt c2_i32 c0_i32_38
  let v65 : BitVec 32 := Scalar.extui v64
  let c0_i32_39 : BitVec 32 := 0#32
  let v66 : BitVec 1 := Scalar.cmpi .slt c2_i32 c0_i32_39
  let v67 : BitVec 32 := Scalar.extui v66
  let v68 : BitVec 32 := Scalar.subi v65 v67
  let v69 : BitVec 1 := Scalar.cmpi .ne v63 v68
  let v70 : BitVec 32 := Scalar.remsi v57 c2_i32
  let c0_i32_40 : BitVec 32 := 0#32
  let v71 : BitVec 1 := Scalar.cmpi .ne v70 c0_i32_40
  let v72 : BitVec 1 := Scalar.andi v69 v71
  let v58 : BitVec 32 := Scalar.divsi v57 c2_i32
  let c1_i32_41 : BitVec 32 := 1#32
  let v73 : BitVec 32 := Scalar.subi v58 c1_i32_41
  let v74 : BitVec 32 := Scalar.select v72 v73 v58
  let v75 : BitVec 32 := Scalar.subi v74 c0_i32_43
  let c1_i32_44 : BitVec 32 := 1#32
  let v77 : BitVec 32 := Scalar.divsi v75 c1_i32_44
  let v78 : BitVec 32 := Scalar.muli v77 c1_i32_44
  let v79 : BitVec 32 := Scalar.addi c0_i32_43 v78
  let c1_i32_45 : BitVec 32 := 1#32
  ⟨c0_i32_43, v79, c1_i32_45⟩
def k0_mult2 (i : grid0.Coords) (k0_t1 : Fin (k0_t1_loop i).trips) : BitVec 32 :=
  let c0_i32_95 : BitVec 32 := 0#32
  let c2_i32_94 : BitVec 32 := 2#32
  let c0_i32_43 : BitVec 32 := 0#32
  let c1_i32_45 : BitVec 32 := 1#32
  let arg14 : BitVec 32 := Scf.iv c0_i32_43 c1_i32_45 k0_t1
  let v183 : BitVec 32 := Scalar.muli c2_i32_94 arg14
  let v184 : BitVec 32 := Scalar.addi c0_i32_95 v183
  let c512_i32_99 : BitVec 32 := 512#32
  let v188 : BitVec 32 := Scalar.muli v184 c512_i32_99
  v188
def k0_off3 (i : grid0.Coords) (k0_t1 : Fin (k0_t1_loop i).trips) : Fin 2 → Nat :=
  let c0_i32_95 : BitVec 32 := 0#32
  let c2_i32_94 : BitVec 32 := 2#32
  let c0_i32_43 : BitVec 32 := 0#32
  let c1_i32_45 : BitVec 32 := 1#32
  let arg14 : BitVec 32 := Scf.iv c0_i32_43 c1_i32_45 k0_t1
  let v183 : BitVec 32 := Scalar.muli c2_i32_94 arg14
  let v184 : BitVec 32 := Scalar.addi c0_i32_95 v183
  let c512_i32_99 : BitVec 32 := 512#32
  let v188 : BitVec 32 := Scalar.muli v184 c512_i32_99
  let v189 : BitVec 32 := v188
  let v190 : Index := Scalar.indexCast v189
  let c0_100 : Index := 0#32
  ![v190.toNat, 0]
def k0_off4 (i : grid0.Coords) (k0_t1 : Fin (k0_t1_loop i).trips) : Fin 2 → Nat :=
  let c0_i32_95 : BitVec 32 := 0#32
  let c2_i32_94 : BitVec 32 := 2#32
  let c0_i32_43 : BitVec 32 := 0#32
  let c1_i32_45 : BitVec 32 := 1#32
  let arg14 : BitVec 32 := Scf.iv c0_i32_43 c1_i32_45 k0_t1
  let v183 : BitVec 32 := Scalar.muli c2_i32_94 arg14
  let v184 : BitVec 32 := Scalar.addi c0_i32_95 v183
  let c512_i32_99 : BitVec 32 := 512#32
  let v188 : BitVec 32 := Scalar.muli v184 c512_i32_99
  let v189 : BitVec 32 := v188
  let v193 : Index := Scalar.indexCast v189
  let c0_101 : Index := 0#32
  ![v193.toNat, 0]
def k0_mult3 (i : grid0.Coords) (k0_t1 : Fin (k0_t1_loop i).trips) : BitVec 32 :=
  let c0_i32_97 : BitVec 32 := 0#32
  let c2_i32_96 : BitVec 32 := 2#32
  let c0_i32_43 : BitVec 32 := 0#32
  let c1_i32_45 : BitVec 32 := 1#32
  let arg14 : BitVec 32 := Scf.iv c0_i32_43 c1_i32_45 k0_t1
  let v185 : BitVec 32 := Scalar.muli c2_i32_96 arg14
  let v186 : BitVec 32 := Scalar.addi c0_i32_97 v185
  let c1_i32_98 : BitVec 32 := 1#32
  let v187 : BitVec 32 := Scalar.addi v186 c1_i32_98
  let c512_i32_103 : BitVec 32 := 512#32
  let v199 : BitVec 32 := Scalar.muli v187 c512_i32_103
  v199
def k0_off5 (i : grid0.Coords) (k0_t1 : Fin (k0_t1_loop i).trips) : Fin 2 → Nat :=
  let c0_i32_97 : BitVec 32 := 0#32
  let c2_i32_96 : BitVec 32 := 2#32
  let c0_i32_43 : BitVec 32 := 0#32
  let c1_i32_45 : BitVec 32 := 1#32
  let arg14 : BitVec 32 := Scf.iv c0_i32_43 c1_i32_45 k0_t1
  let v185 : BitVec 32 := Scalar.muli c2_i32_96 arg14
  let v186 : BitVec 32 := Scalar.addi c0_i32_97 v185
  let c1_i32_98 : BitVec 32 := 1#32
  let v187 : BitVec 32 := Scalar.addi v186 c1_i32_98
  let c512_i32_103 : BitVec 32 := 512#32
  let v199 : BitVec 32 := Scalar.muli v187 c512_i32_103
  let v200 : BitVec 32 := v199
  let v201 : Index := Scalar.indexCast v200
  let c0_104 : Index := 0#32
  ![v201.toNat, 0]
def k0_off6 (i : grid0.Coords) (k0_t1 : Fin (k0_t1_loop i).trips) : Fin 2 → Nat :=
  let c0_i32_97 : BitVec 32 := 0#32
  let c2_i32_96 : BitVec 32 := 2#32
  let c0_i32_43 : BitVec 32 := 0#32
  let c1_i32_45 : BitVec 32 := 1#32
  let arg14 : BitVec 32 := Scf.iv c0_i32_43 c1_i32_45 k0_t1
  let v185 : BitVec 32 := Scalar.muli c2_i32_96 arg14
  let v186 : BitVec 32 := Scalar.addi c0_i32_97 v185
  let c1_i32_98 : BitVec 32 := 1#32
  let v187 : BitVec 32 := Scalar.addi v186 c1_i32_98
  let c512_i32_103 : BitVec 32 := 512#32
  let v199 : BitVec 32 := Scalar.muli v187 c512_i32_103
  let v200 : BitVec 32 := v199
  let v204 : Index := Scalar.indexCast v200
  let c0_105 : Index := 0#32
  ![v204.toNat, 0]
@[reducible] def k0_t2_loop (i : grid0.Coords) : Scf.Loop 32 :=
  let c0_i32_43 : BitVec 32 := 0#32
  let arg1 : BitVec 32 := BitVec.ofNat 32 (i 1).val
  let c1_i32 : BitVec 32 := 1#32
  let v56 : BitVec 32 := Scalar.subi arg1 c1_i32
  let c0_i32_35 : BitVec 32 := 0#32
  let v57 : BitVec 32 := Scalar.subi v56 c0_i32_35
  let c0_i32_36 : BitVec 32 := 0#32
  let v59 : BitVec 1 := Scalar.cmpi .sgt v57 c0_i32_36
  let v60 : BitVec 32 := Scalar.extui v59
  let c0_i32_37 : BitVec 32 := 0#32
  let v61 : BitVec 1 := Scalar.cmpi .slt v57 c0_i32_37
  let v62 : BitVec 32 := Scalar.extui v61
  let v63 : BitVec 32 := Scalar.subi v60 v62
  let c2_i32 : BitVec 32 := 2#32
  let c0_i32_38 : BitVec 32 := 0#32
  let v64 : BitVec 1 := Scalar.cmpi .sgt c2_i32 c0_i32_38
  let v65 : BitVec 32 := Scalar.extui v64
  let c0_i32_39 : BitVec 32 := 0#32
  let v66 : BitVec 1 := Scalar.cmpi .slt c2_i32 c0_i32_39
  let v67 : BitVec 32 := Scalar.extui v66
  let v68 : BitVec 32 := Scalar.subi v65 v67
  let v69 : BitVec 1 := Scalar.cmpi .ne v63 v68
  let v70 : BitVec 32 := Scalar.remsi v57 c2_i32
  let c0_i32_40 : BitVec 32 := 0#32
  let v71 : BitVec 1 := Scalar.cmpi .ne v70 c0_i32_40
  let v72 : BitVec 1 := Scalar.andi v69 v71
  let v58 : BitVec 32 := Scalar.divsi v57 c2_i32
  let c1_i32_41 : BitVec 32 := 1#32
  let v73 : BitVec 32 := Scalar.subi v58 c1_i32_41
  let v74 : BitVec 32 := Scalar.select v72 v73 v58
  let v75 : BitVec 32 := Scalar.subi v74 c0_i32_43
  let c1_i32_44 : BitVec 32 := 1#32
  let v77 : BitVec 32 := Scalar.divsi v75 c1_i32_44
  let v78 : BitVec 32 := Scalar.muli v77 c1_i32_44
  let v79 : BitVec 32 := Scalar.addi c0_i32_43 v78
  let v76 : BitVec 32 := Scalar.addi c0_i32_43 v75
  let c1_i32_46 : BitVec 32 := 1#32
  ⟨v79, v76, c1_i32_46⟩
def k0_mult4 (i : grid0.Coords) (k0_t2 : Fin (k0_t2_loop i).trips) : BitVec 32 :=
  let c0_i32_95 : BitVec 32 := 0#32
  let c2_i32_94 : BitVec 32 := 2#32
  let c0_i32_43 : BitVec 32 := 0#32
  let arg1 : BitVec 32 := BitVec.ofNat 32 (i 1).val
  let c1_i32 : BitVec 32 := 1#32
  let v56 : BitVec 32 := Scalar.subi arg1 c1_i32
  let c0_i32_35 : BitVec 32 := 0#32
  let v57 : BitVec 32 := Scalar.subi v56 c0_i32_35
  let c0_i32_36 : BitVec 32 := 0#32
  let v59 : BitVec 1 := Scalar.cmpi .sgt v57 c0_i32_36
  let v60 : BitVec 32 := Scalar.extui v59
  let c0_i32_37 : BitVec 32 := 0#32
  let v61 : BitVec 1 := Scalar.cmpi .slt v57 c0_i32_37
  let v62 : BitVec 32 := Scalar.extui v61
  let v63 : BitVec 32 := Scalar.subi v60 v62
  let c2_i32 : BitVec 32 := 2#32
  let c0_i32_38 : BitVec 32 := 0#32
  let v64 : BitVec 1 := Scalar.cmpi .sgt c2_i32 c0_i32_38
  let v65 : BitVec 32 := Scalar.extui v64
  let c0_i32_39 : BitVec 32 := 0#32
  let v66 : BitVec 1 := Scalar.cmpi .slt c2_i32 c0_i32_39
  let v67 : BitVec 32 := Scalar.extui v66
  let v68 : BitVec 32 := Scalar.subi v65 v67
  let v69 : BitVec 1 := Scalar.cmpi .ne v63 v68
  let v70 : BitVec 32 := Scalar.remsi v57 c2_i32
  let c0_i32_40 : BitVec 32 := 0#32
  let v71 : BitVec 1 := Scalar.cmpi .ne v70 c0_i32_40
  let v72 : BitVec 1 := Scalar.andi v69 v71
  let v58 : BitVec 32 := Scalar.divsi v57 c2_i32
  let c1_i32_41 : BitVec 32 := 1#32
  let v73 : BitVec 32 := Scalar.subi v58 c1_i32_41
  let v74 : BitVec 32 := Scalar.select v72 v73 v58
  let v75 : BitVec 32 := Scalar.subi v74 c0_i32_43
  let c1_i32_44 : BitVec 32 := 1#32
  let v77 : BitVec 32 := Scalar.divsi v75 c1_i32_44
  let v78 : BitVec 32 := Scalar.muli v77 c1_i32_44
  let v79 : BitVec 32 := Scalar.addi c0_i32_43 v78
  let c1_i32_46 : BitVec 32 := 1#32
  let arg14 : BitVec 32 := Scf.iv v79 c1_i32_46 k0_t2
  let v183 : BitVec 32 := Scalar.muli c2_i32_94 arg14
  let v184 : BitVec 32 := Scalar.addi c0_i32_95 v183
  let c512_i32_99 : BitVec 32 := 512#32
  let v188 : BitVec 32 := Scalar.muli v184 c512_i32_99
  v188
def k0_off7 (i : grid0.Coords) (k0_t2 : Fin (k0_t2_loop i).trips) : Fin 2 → Nat :=
  let c0_i32_95 : BitVec 32 := 0#32
  let c2_i32_94 : BitVec 32 := 2#32
  let c0_i32_43 : BitVec 32 := 0#32
  let arg1 : BitVec 32 := BitVec.ofNat 32 (i 1).val
  let c1_i32 : BitVec 32 := 1#32
  let v56 : BitVec 32 := Scalar.subi arg1 c1_i32
  let c0_i32_35 : BitVec 32 := 0#32
  let v57 : BitVec 32 := Scalar.subi v56 c0_i32_35
  let c0_i32_36 : BitVec 32 := 0#32
  let v59 : BitVec 1 := Scalar.cmpi .sgt v57 c0_i32_36
  let v60 : BitVec 32 := Scalar.extui v59
  let c0_i32_37 : BitVec 32 := 0#32
  let v61 : BitVec 1 := Scalar.cmpi .slt v57 c0_i32_37
  let v62 : BitVec 32 := Scalar.extui v61
  let v63 : BitVec 32 := Scalar.subi v60 v62
  let c2_i32 : BitVec 32 := 2#32
  let c0_i32_38 : BitVec 32 := 0#32
  let v64 : BitVec 1 := Scalar.cmpi .sgt c2_i32 c0_i32_38
  let v65 : BitVec 32 := Scalar.extui v64
  let c0_i32_39 : BitVec 32 := 0#32
  let v66 : BitVec 1 := Scalar.cmpi .slt c2_i32 c0_i32_39
  let v67 : BitVec 32 := Scalar.extui v66
  let v68 : BitVec 32 := Scalar.subi v65 v67
  let v69 : BitVec 1 := Scalar.cmpi .ne v63 v68
  let v70 : BitVec 32 := Scalar.remsi v57 c2_i32
  let c0_i32_40 : BitVec 32 := 0#32
  let v71 : BitVec 1 := Scalar.cmpi .ne v70 c0_i32_40
  let v72 : BitVec 1 := Scalar.andi v69 v71
  let v58 : BitVec 32 := Scalar.divsi v57 c2_i32
  let c1_i32_41 : BitVec 32 := 1#32
  let v73 : BitVec 32 := Scalar.subi v58 c1_i32_41
  let v74 : BitVec 32 := Scalar.select v72 v73 v58
  let v75 : BitVec 32 := Scalar.subi v74 c0_i32_43
  let c1_i32_44 : BitVec 32 := 1#32
  let v77 : BitVec 32 := Scalar.divsi v75 c1_i32_44
  let v78 : BitVec 32 := Scalar.muli v77 c1_i32_44
  let v79 : BitVec 32 := Scalar.addi c0_i32_43 v78
  let c1_i32_46 : BitVec 32 := 1#32
  let arg14 : BitVec 32 := Scf.iv v79 c1_i32_46 k0_t2
  let v183 : BitVec 32 := Scalar.muli c2_i32_94 arg14
  let v184 : BitVec 32 := Scalar.addi c0_i32_95 v183
  let c512_i32_99 : BitVec 32 := 512#32
  let v188 : BitVec 32 := Scalar.muli v184 c512_i32_99
  let v189 : BitVec 32 := v188
  let v190 : Index := Scalar.indexCast v189
  let c0_100 : Index := 0#32
  ![v190.toNat, 0]
def k0_off8 (i : grid0.Coords) (k0_t2 : Fin (k0_t2_loop i).trips) : Fin 2 → Nat :=
  let c0_i32_95 : BitVec 32 := 0#32
  let c2_i32_94 : BitVec 32 := 2#32
  let c0_i32_43 : BitVec 32 := 0#32
  let arg1 : BitVec 32 := BitVec.ofNat 32 (i 1).val
  let c1_i32 : BitVec 32 := 1#32
  let v56 : BitVec 32 := Scalar.subi arg1 c1_i32
  let c0_i32_35 : BitVec 32 := 0#32
  let v57 : BitVec 32 := Scalar.subi v56 c0_i32_35
  let c0_i32_36 : BitVec 32 := 0#32
  let v59 : BitVec 1 := Scalar.cmpi .sgt v57 c0_i32_36
  let v60 : BitVec 32 := Scalar.extui v59
  let c0_i32_37 : BitVec 32 := 0#32
  let v61 : BitVec 1 := Scalar.cmpi .slt v57 c0_i32_37
  let v62 : BitVec 32 := Scalar.extui v61
  let v63 : BitVec 32 := Scalar.subi v60 v62
  let c2_i32 : BitVec 32 := 2#32
  let c0_i32_38 : BitVec 32 := 0#32
  let v64 : BitVec 1 := Scalar.cmpi .sgt c2_i32 c0_i32_38
  let v65 : BitVec 32 := Scalar.extui v64
  let c0_i32_39 : BitVec 32 := 0#32
  let v66 : BitVec 1 := Scalar.cmpi .slt c2_i32 c0_i32_39
  let v67 : BitVec 32 := Scalar.extui v66
  let v68 : BitVec 32 := Scalar.subi v65 v67
  let v69 : BitVec 1 := Scalar.cmpi .ne v63 v68
  let v70 : BitVec 32 := Scalar.remsi v57 c2_i32
  let c0_i32_40 : BitVec 32 := 0#32
  let v71 : BitVec 1 := Scalar.cmpi .ne v70 c0_i32_40
  let v72 : BitVec 1 := Scalar.andi v69 v71
  let v58 : BitVec 32 := Scalar.divsi v57 c2_i32
  let c1_i32_41 : BitVec 32 := 1#32
  let v73 : BitVec 32 := Scalar.subi v58 c1_i32_41
  let v74 : BitVec 32 := Scalar.select v72 v73 v58
  let v75 : BitVec 32 := Scalar.subi v74 c0_i32_43
  let c1_i32_44 : BitVec 32 := 1#32
  let v77 : BitVec 32 := Scalar.divsi v75 c1_i32_44
  let v78 : BitVec 32 := Scalar.muli v77 c1_i32_44
  let v79 : BitVec 32 := Scalar.addi c0_i32_43 v78
  let c1_i32_46 : BitVec 32 := 1#32
  let arg14 : BitVec 32 := Scf.iv v79 c1_i32_46 k0_t2
  let v183 : BitVec 32 := Scalar.muli c2_i32_94 arg14
  let v184 : BitVec 32 := Scalar.addi c0_i32_95 v183
  let c512_i32_99 : BitVec 32 := 512#32
  let v188 : BitVec 32 := Scalar.muli v184 c512_i32_99
  let v189 : BitVec 32 := v188
  let v193 : Index := Scalar.indexCast v189
  let c0_101 : Index := 0#32
  ![v193.toNat, 0]
def k0_mult5 (i : grid0.Coords) (k0_t2 : Fin (k0_t2_loop i).trips) : BitVec 32 :=
  let c0_i32_97 : BitVec 32 := 0#32
  let c2_i32_96 : BitVec 32 := 2#32
  let c0_i32_43 : BitVec 32 := 0#32
  let arg1 : BitVec 32 := BitVec.ofNat 32 (i 1).val
  let c1_i32 : BitVec 32 := 1#32
  let v56 : BitVec 32 := Scalar.subi arg1 c1_i32
  let c0_i32_35 : BitVec 32 := 0#32
  let v57 : BitVec 32 := Scalar.subi v56 c0_i32_35
  let c0_i32_36 : BitVec 32 := 0#32
  let v59 : BitVec 1 := Scalar.cmpi .sgt v57 c0_i32_36
  let v60 : BitVec 32 := Scalar.extui v59
  let c0_i32_37 : BitVec 32 := 0#32
  let v61 : BitVec 1 := Scalar.cmpi .slt v57 c0_i32_37
  let v62 : BitVec 32 := Scalar.extui v61
  let v63 : BitVec 32 := Scalar.subi v60 v62
  let c2_i32 : BitVec 32 := 2#32
  let c0_i32_38 : BitVec 32 := 0#32
  let v64 : BitVec 1 := Scalar.cmpi .sgt c2_i32 c0_i32_38
  let v65 : BitVec 32 := Scalar.extui v64
  let c0_i32_39 : BitVec 32 := 0#32
  let v66 : BitVec 1 := Scalar.cmpi .slt c2_i32 c0_i32_39
  let v67 : BitVec 32 := Scalar.extui v66
  let v68 : BitVec 32 := Scalar.subi v65 v67
  let v69 : BitVec 1 := Scalar.cmpi .ne v63 v68
  let v70 : BitVec 32 := Scalar.remsi v57 c2_i32
  let c0_i32_40 : BitVec 32 := 0#32
  let v71 : BitVec 1 := Scalar.cmpi .ne v70 c0_i32_40
  let v72 : BitVec 1 := Scalar.andi v69 v71
  let v58 : BitVec 32 := Scalar.divsi v57 c2_i32
  let c1_i32_41 : BitVec 32 := 1#32
  let v73 : BitVec 32 := Scalar.subi v58 c1_i32_41
  let v74 : BitVec 32 := Scalar.select v72 v73 v58
  let v75 : BitVec 32 := Scalar.subi v74 c0_i32_43
  let c1_i32_44 : BitVec 32 := 1#32
  let v77 : BitVec 32 := Scalar.divsi v75 c1_i32_44
  let v78 : BitVec 32 := Scalar.muli v77 c1_i32_44
  let v79 : BitVec 32 := Scalar.addi c0_i32_43 v78
  let c1_i32_46 : BitVec 32 := 1#32
  let arg14 : BitVec 32 := Scf.iv v79 c1_i32_46 k0_t2
  let v185 : BitVec 32 := Scalar.muli c2_i32_96 arg14
  let v186 : BitVec 32 := Scalar.addi c0_i32_97 v185
  let c1_i32_98 : BitVec 32 := 1#32
  let v187 : BitVec 32 := Scalar.addi v186 c1_i32_98
  let c512_i32_103 : BitVec 32 := 512#32
  let v199 : BitVec 32 := Scalar.muli v187 c512_i32_103
  v199
def k0_off9 (i : grid0.Coords) (k0_t2 : Fin (k0_t2_loop i).trips) : Fin 2 → Nat :=
  let c0_i32_97 : BitVec 32 := 0#32
  let c2_i32_96 : BitVec 32 := 2#32
  let c0_i32_43 : BitVec 32 := 0#32
  let arg1 : BitVec 32 := BitVec.ofNat 32 (i 1).val
  let c1_i32 : BitVec 32 := 1#32
  let v56 : BitVec 32 := Scalar.subi arg1 c1_i32
  let c0_i32_35 : BitVec 32 := 0#32
  let v57 : BitVec 32 := Scalar.subi v56 c0_i32_35
  let c0_i32_36 : BitVec 32 := 0#32
  let v59 : BitVec 1 := Scalar.cmpi .sgt v57 c0_i32_36
  let v60 : BitVec 32 := Scalar.extui v59
  let c0_i32_37 : BitVec 32 := 0#32
  let v61 : BitVec 1 := Scalar.cmpi .slt v57 c0_i32_37
  let v62 : BitVec 32 := Scalar.extui v61
  let v63 : BitVec 32 := Scalar.subi v60 v62
  let c2_i32 : BitVec 32 := 2#32
  let c0_i32_38 : BitVec 32 := 0#32
  let v64 : BitVec 1 := Scalar.cmpi .sgt c2_i32 c0_i32_38
  let v65 : BitVec 32 := Scalar.extui v64
  let c0_i32_39 : BitVec 32 := 0#32
  let v66 : BitVec 1 := Scalar.cmpi .slt c2_i32 c0_i32_39
  let v67 : BitVec 32 := Scalar.extui v66
  let v68 : BitVec 32 := Scalar.subi v65 v67
  let v69 : BitVec 1 := Scalar.cmpi .ne v63 v68
  let v70 : BitVec 32 := Scalar.remsi v57 c2_i32
  let c0_i32_40 : BitVec 32 := 0#32
  let v71 : BitVec 1 := Scalar.cmpi .ne v70 c0_i32_40
  let v72 : BitVec 1 := Scalar.andi v69 v71
  let v58 : BitVec 32 := Scalar.divsi v57 c2_i32
  let c1_i32_41 : BitVec 32 := 1#32
  let v73 : BitVec 32 := Scalar.subi v58 c1_i32_41
  let v74 : BitVec 32 := Scalar.select v72 v73 v58
  let v75 : BitVec 32 := Scalar.subi v74 c0_i32_43
  let c1_i32_44 : BitVec 32 := 1#32
  let v77 : BitVec 32 := Scalar.divsi v75 c1_i32_44
  let v78 : BitVec 32 := Scalar.muli v77 c1_i32_44
  let v79 : BitVec 32 := Scalar.addi c0_i32_43 v78
  let c1_i32_46 : BitVec 32 := 1#32
  let arg14 : BitVec 32 := Scf.iv v79 c1_i32_46 k0_t2
  let v185 : BitVec 32 := Scalar.muli c2_i32_96 arg14
  let v186 : BitVec 32 := Scalar.addi c0_i32_97 v185
  let c1_i32_98 : BitVec 32 := 1#32
  let v187 : BitVec 32 := Scalar.addi v186 c1_i32_98
  let c512_i32_103 : BitVec 32 := 512#32
  let v199 : BitVec 32 := Scalar.muli v187 c512_i32_103
  let v200 : BitVec 32 := v199
  let v201 : Index := Scalar.indexCast v200
  let c0_104 : Index := 0#32
  ![v201.toNat, 0]
def k0_off10 (i : grid0.Coords) (k0_t2 : Fin (k0_t2_loop i).trips) : Fin 2 → Nat :=
  let c0_i32_97 : BitVec 32 := 0#32
  let c2_i32_96 : BitVec 32 := 2#32
  let c0_i32_43 : BitVec 32 := 0#32
  let arg1 : BitVec 32 := BitVec.ofNat 32 (i 1).val
  let c1_i32 : BitVec 32 := 1#32
  let v56 : BitVec 32 := Scalar.subi arg1 c1_i32
  let c0_i32_35 : BitVec 32 := 0#32
  let v57 : BitVec 32 := Scalar.subi v56 c0_i32_35
  let c0_i32_36 : BitVec 32 := 0#32
  let v59 : BitVec 1 := Scalar.cmpi .sgt v57 c0_i32_36
  let v60 : BitVec 32 := Scalar.extui v59
  let c0_i32_37 : BitVec 32 := 0#32
  let v61 : BitVec 1 := Scalar.cmpi .slt v57 c0_i32_37
  let v62 : BitVec 32 := Scalar.extui v61
  let v63 : BitVec 32 := Scalar.subi v60 v62
  let c2_i32 : BitVec 32 := 2#32
  let c0_i32_38 : BitVec 32 := 0#32
  let v64 : BitVec 1 := Scalar.cmpi .sgt c2_i32 c0_i32_38
  let v65 : BitVec 32 := Scalar.extui v64
  let c0_i32_39 : BitVec 32 := 0#32
  let v66 : BitVec 1 := Scalar.cmpi .slt c2_i32 c0_i32_39
  let v67 : BitVec 32 := Scalar.extui v66
  let v68 : BitVec 32 := Scalar.subi v65 v67
  let v69 : BitVec 1 := Scalar.cmpi .ne v63 v68
  let v70 : BitVec 32 := Scalar.remsi v57 c2_i32
  let c0_i32_40 : BitVec 32 := 0#32
  let v71 : BitVec 1 := Scalar.cmpi .ne v70 c0_i32_40
  let v72 : BitVec 1 := Scalar.andi v69 v71
  let v58 : BitVec 32 := Scalar.divsi v57 c2_i32
  let c1_i32_41 : BitVec 32 := 1#32
  let v73 : BitVec 32 := Scalar.subi v58 c1_i32_41
  let v74 : BitVec 32 := Scalar.select v72 v73 v58
  let v75 : BitVec 32 := Scalar.subi v74 c0_i32_43
  let c1_i32_44 : BitVec 32 := 1#32
  let v77 : BitVec 32 := Scalar.divsi v75 c1_i32_44
  let v78 : BitVec 32 := Scalar.muli v77 c1_i32_44
  let v79 : BitVec 32 := Scalar.addi c0_i32_43 v78
  let c1_i32_46 : BitVec 32 := 1#32
  let arg14 : BitVec 32 := Scf.iv v79 c1_i32_46 k0_t2
  let v185 : BitVec 32 := Scalar.muli c2_i32_96 arg14
  let v186 : BitVec 32 := Scalar.addi c0_i32_97 v185
  let c1_i32_98 : BitVec 32 := 1#32
  let v187 : BitVec 32 := Scalar.addi v186 c1_i32_98
  let c512_i32_103 : BitVec 32 := 512#32
  let v199 : BitVec 32 := Scalar.muli v187 c512_i32_103
  let v200 : BitVec 32 := v199
  let v204 : Index := Scalar.indexCast v200
  let c0_105 : Index := 0#32
  ![v204.toNat, 0]
def k0_cond3 (i : grid0.Coords) : BitVec 1 :=
  let arg1 : BitVec 32 := BitVec.ofNat 32 (i 1).val
  let c1_i32 : BitVec 32 := 1#32
  let v56 : BitVec 32 := Scalar.subi arg1 c1_i32
  let c0_i32_35 : BitVec 32 := 0#32
  let v57 : BitVec 32 := Scalar.subi v56 c0_i32_35
  let c2_i32_47 : BitVec 32 := 2#32
  let c0_i32_48 : BitVec 32 := 0#32
  let v80 : BitVec 1 := Scalar.cmpi .eq c2_i32_47 c0_i32_48
  let c1_i32_49 : BitVec 32 := 1#32
  let v81 : BitVec 32 := Scalar.select v80 c1_i32_49 c2_i32_47
  let v82 : BitVec 32 := Scalar.remsi v57 v81
  let c0_i32_51 : BitVec 32 := 0#32
  let v84 : BitVec 1 := Scalar.cmpi .slt v82 c0_i32_51
  let c0_i32_52 : BitVec 32 := 0#32
  let v85 : BitVec 1 := Scalar.cmpi .slt v81 c0_i32_52
  let v86 : BitVec 1 := Scalar.xori v84 v85
  let c0_i32_50 : BitVec 32 := 0#32
  let v83 : BitVec 1 := Scalar.cmpi .ne v82 c0_i32_50
  let v87 : BitVec 1 := Scalar.andi v86 v83
  let v88 : BitVec 32 := Scalar.addi v82 v81
  let v89 : BitVec 32 := Scalar.select v87 v88 v82
  let c1_i32_53 : BitVec 32 := 1#32
  let v90 : BitVec 1 := Scalar.cmpi .eq v89 c1_i32_53
  let v91 : BitVec 32 := Scalar.extui v90
  let c0_i32_54 : BitVec 32 := 0#32
  let v92 : BitVec 1 := Scalar.cmpi .ne v91 c0_i32_54
  v92

def k0_mult6 (i : grid0.Coords) : BitVec 32 :=
  let arg1 : BitVec 32 := BitVec.ofNat 32 (i 1).val
  let c1_i32 : BitVec 32 := 1#32
  let v56 : BitVec 32 := Scalar.subi arg1 c1_i32
  let c1_i32_94 : BitVec 32 := 1#32
  let v183 : BitVec 32 := Scalar.subi v56 c1_i32_94
  let c512_i32_95 : BitVec 32 := 512#32
  let v184 : BitVec 32 := Scalar.muli v183 c512_i32_95
  v184
def k0_off11 (i : grid0.Coords) : Fin 2 → Nat :=
  let arg1 : BitVec 32 := BitVec.ofNat 32 (i 1).val
  let c1_i32 : BitVec 32 := 1#32
  let v56 : BitVec 32 := Scalar.subi arg1 c1_i32
  let c1_i32_94 : BitVec 32 := 1#32
  let v183 : BitVec 32 := Scalar.subi v56 c1_i32_94
  let c512_i32_95 : BitVec 32 := 512#32
  let v184 : BitVec 32 := Scalar.muli v183 c512_i32_95
  let v185 : BitVec 32 := v184
  let v186 : Index := Scalar.indexCast v185
  let c0_96 : Index := 0#32
  ![v186.toNat, 0]
def k0_off12 (i : grid0.Coords) : Fin 2 → Nat :=
  let arg1 : BitVec 32 := BitVec.ofNat 32 (i 1).val
  let c1_i32 : BitVec 32 := 1#32
  let v56 : BitVec 32 := Scalar.subi arg1 c1_i32
  let c1_i32_94 : BitVec 32 := 1#32
  let v183 : BitVec 32 := Scalar.subi v56 c1_i32_94
  let c512_i32_95 : BitVec 32 := 512#32
  let v184 : BitVec 32 := Scalar.muli v183 c512_i32_95
  let v185 : BitVec 32 := v184
  let v189 : Index := Scalar.indexCast v185
  let c0_97 : Index := 0#32
  ![v189.toNat, 0]
def k0_mult7 (i : grid0.Coords) : BitVec 32 :=
  let arg1 : BitVec 32 := BitVec.ofNat 32 (i 1).val
  let c1_i32_55 : BitVec 32 := 1#32
  let v93 : BitVec 32 := Scalar.subi arg1 c1_i32_55
  let c512_i32 : BitVec 32 := 512#32
  let v94 : BitVec 32 := Scalar.muli v93 c512_i32
  v94
def k0_off13 (i : grid0.Coords) : Fin 2 → Nat :=
  let arg1 : BitVec 32 := BitVec.ofNat 32 (i 1).val
  let c1_i32_55 : BitVec 32 := 1#32
  let v93 : BitVec 32 := Scalar.subi arg1 c1_i32_55
  let c512_i32 : BitVec 32 := 512#32
  let v94 : BitVec 32 := Scalar.muli v93 c512_i32
  let v95 : BitVec 32 := v94
  let v96 : Index := Scalar.indexCast v95
  let c0_56 : Index := 0#32
  ![v96.toNat, 0]
def k0_off14 (i : grid0.Coords) : Fin 2 → Nat :=
  let arg1 : BitVec 32 := BitVec.ofNat 32 (i 1).val
  let c1_i32_55 : BitVec 32 := 1#32
  let v93 : BitVec 32 := Scalar.subi arg1 c1_i32_55
  let c512_i32 : BitVec 32 := 512#32
  let v94 : BitVec 32 := Scalar.muli v93 c512_i32
  let v95 : BitVec 32 := v94
  let v99 : Index := Scalar.indexCast v95
  let c0_57 : Index := 0#32
  ![v99.toNat, 0]
def k0_mult8 (i : grid0.Coords) : BitVec 32 :=
  let arg1 : BitVec 32 := BitVec.ofNat 32 (i 1).val
  let c512_i32_59 : BitVec 32 := 512#32
  let v105 : BitVec 32 := Scalar.muli arg1 c512_i32_59
  v105
def k0_off15 (i : grid0.Coords) : Fin 2 → Nat :=
  let arg1 : BitVec 32 := BitVec.ofNat 32 (i 1).val
  let c512_i32_59 : BitVec 32 := 512#32
  let v105 : BitVec 32 := Scalar.muli arg1 c512_i32_59
  let v106 : BitVec 32 := v105
  let v107 : Index := Scalar.indexCast v106
  let c0_60 : Index := 0#32
  ![v107.toNat, 0]
def k0_off16 (i : grid0.Coords) : Fin 2 → Nat :=
  let arg1 : BitVec 32 := BitVec.ofNat 32 (i 1).val
  let c512_i32_59 : BitVec 32 := 512#32
  let v105 : BitVec 32 := Scalar.muli arg1 c512_i32_59
  let v106 : BitVec 32 := v105
  let v110 : Index := Scalar.indexCast v106
  let c0_61 : Index := 0#32
  ![v110.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashFwdIdeal.lean ====
variable {F : FTy → Type} [FloatOps F] [Named F]
def κ : String → Option EReal := fun
  | "log2_e" => some (((Real.log 2)⁻¹ : ℝ) : EReal)
  | "log2_scale" => some (((Real.sqrt 192)⁻¹ * (Real.log 2)⁻¹ : ℝ) : EReal)
  | _ => none
-- ==== FlashFwdRefIdeal.lean ====
abbrev S4096x8x192 : Shape := ⟨3, ![4096, 8, 192]⟩
abbrev S4096x8x256 : Shape := ⟨3, ![4096, 8, 256]⟩
abbrev S4096x64 : Shape := ⟨2, ![4096, 64]⟩
abbrev S4096x32 : Shape := ⟨2, ![4096, 32]⟩
abbrev S4096x8x128 : Shape := ⟨3, ![4096, 8, 128]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x1x64 : Shape := ⟨3, ![4096, 1, 64]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x1x4096 : Shape := ⟨3, ![8, 1, 4096]⟩
abbrev S4096x1024 : Shape := ⟨2, ![4096, 1024]⟩
abbrev S4096x2048 : Shape := ⟨2, ![4096, 2048]⟩

abbrev nBuf : Space → Nat
  | .hbm => 80
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x64, .f32⟩
  | .hbm, ⟨3, _⟩ => ⟨S4096x32, .f32⟩
  | .hbm, ⟨4, _⟩ => ⟨S4096x32, .f32⟩
  | .hbm, ⟨5, _⟩ => ⟨S4096x8x128, .f32⟩
  | .hbm, ⟨6, _⟩ => ⟨S4096x8x64, .f32⟩
  | .hbm, ⟨7, _⟩ => ⟨S4096x1x32, .f32⟩
  | .hbm, ⟨8, _⟩ => ⟨S4096x1x32, .f32⟩
  | .hbm, ⟨9, _⟩ => ⟨S4096x8x32, .f32⟩
  | .hbm, ⟨10, _⟩ => ⟨S4096x8x32, .f32⟩
  | .hbm, ⟨11, _⟩ => ⟨S4096x8x32, .f32⟩
  | .hbm, ⟨12, _⟩ => ⟨S4096x8x32, .f32⟩
  | .hbm, ⟨13, _⟩ => ⟨S4096x8x32, .f32⟩
  | .hbm, ⟨14, _⟩ => ⟨S4096x8x32, .f32⟩
  | .hbm, ⟨15, _⟩ => ⟨S4096x8x32, .f32⟩
  | .hbm, ⟨16, _⟩ => ⟨S4096x8x32, .f32⟩
  | .hbm, ⟨17, _⟩ => ⟨S4096x8x32, .f32⟩
  | .hbm, ⟨18, _⟩ => ⟨S4096x8x32, .f32⟩
  | .hbm, ⟨19, _⟩ => ⟨S4096x8x32, .f32⟩
  | .hbm, ⟨20, _⟩ => ⟨S4096x8x32, .f32⟩
  | .hbm, ⟨21, _⟩ => ⟨S4096x8x64, .f32⟩
  | .hbm, ⟨22, _⟩ => ⟨S4096x8x192, .f32⟩
  | .hbm, ⟨23, _⟩ => ⟨S4096x1x64, .f32⟩
  | .hbm, ⟨24, _⟩ => ⟨S4096x8x64, .f32⟩
  | .hbm, ⟨25, _⟩ => ⟨S_, .f32⟩
  | .hbm, ⟨26, _⟩ => ⟨S_, .f32⟩
  | .hbm, ⟨27, _⟩ => ⟨S4096x8x128, .f32⟩
  | .hbm, ⟨28, _⟩ => ⟨S4096x8x64, .f32⟩
  | .hbm, ⟨29, _⟩ => ⟨S4096x8x128, .f32⟩
  | .hbm, ⟨30, _⟩ => ⟨S4096x8x128, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S4096, .i32⟩
  | .hbm, ⟨37, _⟩ => ⟨S1x4096, .i32⟩
  | .hbm, ⟨38, _⟩ => ⟨S4096x1, .i32⟩
  | .hbm, ⟨39, _⟩ => ⟨S4096x4096, .i32⟩
  | .hbm, ⟨40, _⟩ => ⟨S4096x4096, .i32⟩
  | .hbm, ⟨41, _⟩ => ⟨S4096x4096, .i1⟩
  | .hbm, ⟨42, _⟩ => ⟨S1x4096x4096, .i1⟩
  | .hbm, ⟨43, _⟩ => ⟨S_, .f32⟩
  | .hbm, ⟨44, _⟩ => ⟨S_, .f32⟩
  | .hbm, ⟨45, _⟩ => ⟨S8x4096x4096, .i1⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x128x4096, .f32⟩
  | .hbm, ⟨60, _⟩ => ⟨S4096x8x128, .f32⟩
  | .hbm, ⟨61, _⟩ => ⟨S8x4096x1, .f32⟩
  | .hbm, ⟨62, _⟩ => ⟨S8x4096x1, .f32⟩
  | .hbm, ⟨63, _⟩ => ⟨S_, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x1x4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S4096x8x192, .f32⟩
  | .hbm, ⟨72, _⟩ => ⟨S4096x8x192, .f32⟩
  | .hbm, ⟨73, _⟩ => ⟨S_, .i32⟩
  | .hbm, ⟨74, _⟩ => ⟨S_, .f32⟩
  | .hbm, ⟨75, _⟩ => ⟨S4096x8x256, .f32⟩
  | .hbm, ⟨76, _⟩ => ⟨S4096x1024, .f32⟩
  | .hbm, ⟨77, _⟩ => ⟨S4096x1024, .bf16⟩
  | .hbm, ⟨78, _⟩ => ⟨S4096x2048, .f32⟩
  | .hbm, ⟨79, _⟩ => ⟨S4096x2048, .bf16⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_0 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_4 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c : Ref sig .tc := ⟨.hbm, 73, rfl⟩
abbrev main_call1_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== MlaO.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S4096x1024, .bf16⟩
  | .hbm, ⟨6, _⟩ => ⟨S1024x1024, .bf16⟩
  | .hbm, ⟨7, _⟩ => ⟨S4096x1024, .f32⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlaORefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MlaODx.lean ====
abbrev S1024x1024 : Shape := ⟨2, ![1024, 1024]⟩
abbrev S4096x1024 : Shape := ⟨2, ![4096, 1024]⟩
abbrev S4096x128 : Shape := ⟨2, ![4096, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x128, .f32⟩
  | .local _ .vmem, ⟨8, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== MlaODxRefIdeal.lean ====
abbrev S1024x1024 : Shape := ⟨2, ![1024, 1024]⟩
abbrev S4096x1024 : Shape := ⟨2, ![4096, 1024]⟩
abbrev S_ : Shape := ⟨0, ![]⟩
abbrev S4096x8x128 : Shape := ⟨3, ![4096, 8, 128]⟩
abbrev S4096x8 : Shape := ⟨2, ![4096, 8]⟩
abbrev S4096x128 : Shape := ⟨2, ![4096, 128]⟩

abbrev nBuf : Space → Nat
  | .hbm => 15
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x8x128, .f32⟩
  | .hbm, ⟨9, _⟩ => ⟨S_, .f32⟩
  | .hbm, ⟨10, _⟩ => ⟨S4096x8, .f32⟩
  | .hbm, ⟨11, _⟩ => ⟨S4096x1024, .bf16⟩
  | .hbm, ⟨12, _⟩ => ⟨S_, .i32⟩
  | .hbm, ⟨13, _⟩ => ⟨S_, .f32⟩
  | .hbm, ⟨14, _⟩ => ⟨S4096x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== MlaODw.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaODwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaProject.lean ====
abbrev S4096x1024 : Shape := ⟨2, ![4096, 1024]⟩
abbrev S4096x32 : Shape := ⟨2, ![4096, 32]⟩
abbrev S1024 : Shape := ⟨1, ![1024]⟩
abbrev S1024x448 : Shape := ⟨2, ![1024, 448]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S_ : Shape := ⟨0, ![]⟩
abbrev S4096x64 : Shape := ⟨2, ![4096, 64]⟩
abbrev S4096x128 : Shape := ⟨2, ![4096, 128]⟩
abbrev S1024x512 : Shape := ⟨2, ![1024, 512]⟩
abbrev S256x8x192 : Shape := ⟨3, ![256, 8, 192]⟩
abbrev S256x8x256 : Shape := ⟨3, ![256, 8, 256]⟩
abbrev S256x2048 : Shape := ⟨2, ![256, 2048]⟩
abbrev S1x1024 : Shape := ⟨2, ![1, 1024]⟩
abbrev S1x256 : Shape := ⟨2, ![1, 256]⟩
abbrev S1x128 : Shape := ⟨2, ![1, 128]⟩
abbrev S4096x512 : Shape := ⟨2, ![4096, 512]⟩
abbrev S4096x256 : Shape := ⟨2, ![4096, 256]⟩
abbrev S4096x2048 : Shape := ⟨2, ![4096, 2048]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 38
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x32, .f32⟩
  | .hbm, ⟨2, _⟩ => ⟨S4096x32, .f32⟩
  | .hbm, ⟨3, _⟩ => ⟨S1024, .f32⟩
  | .hbm, ⟨4, _⟩ => ⟨S1024x448, .f32⟩
  | .hbm, ⟨5, _⟩ => ⟨S256, .f32⟩
  | .hbm, ⟨6, _⟩ => ⟨S128, .f32⟩
  | .hbm, ⟨7, _⟩ => ⟨S256x1536, .f32⟩
  | .hbm, ⟨8, _⟩ => ⟨S128x2048, .f32⟩
  | .hbm, ⟨9, _⟩ => ⟨S_, .f32⟩
  | .hbm, ⟨10, _⟩ => ⟨S4096x32, .f32⟩
  | .hbm, ⟨11, _⟩ => ⟨S_, .f32⟩
  | .hbm, ⟨12, _⟩ => ⟨S4096x64, .f32⟩
  | .hbm, ⟨13, _⟩ => ⟨S4096x128, .f32⟩
  | .hbm, ⟨14, _⟩ => ⟨S4096x128, .f32⟩
  | .hbm, ⟨15, _⟩ => ⟨S4096x32, .f32⟩
  | .hbm, ⟨16, _⟩ => ⟨S4096x128, .f32⟩
  | .hbm, ⟨17, _⟩ => ⟨S_, .i32⟩
  | .hbm, ⟨18, _⟩ => ⟨S_, .f32⟩
  | .hbm, ⟨19, _⟩ => ⟨S1024x512, .f32⟩
  | .hbm, ⟨20, _⟩ => ⟨S1024x512, .bf16⟩
  | .hbm, ⟨21, _⟩ => ⟨S256x8x192, .f32⟩
  | .hbm, ⟨22, _⟩ => ⟨S_, .i32⟩
  | .hbm, ⟨23, _⟩ => ⟨S_, .f32⟩
  | .hbm, ⟨24, _⟩ => ⟨S256x8x256, .f32⟩
  | .hbm, ⟨25, _⟩ => ⟨S256x2048, .f32⟩
  | .hbm, ⟨26, _⟩ => ⟨S256x2048, .bf16⟩
  | .hbm, ⟨27, _⟩ => ⟨S128x2048, .bf16⟩
  | .hbm, ⟨28, _⟩ => ⟨S1x1024, .f32⟩
  | .hbm, ⟨29, _⟩ => ⟨S1x256, .f32⟩
  | .hbm, ⟨30, _⟩ => ⟨S1x128, .f32⟩
  | .hbm, ⟨31, _⟩ => ⟨S4096x1024, .bf16⟩
  | .hbm, ⟨32, _⟩ => ⟨S4096x512, .f32⟩
  | .hbm, ⟨33, _⟩ => ⟨S4096x256, .bf16⟩
  | .hbm, ⟨34, _⟩ => ⟨S4096x128, .bf16⟩
  | .hbm, ⟨35, _⟩ => ⟨S4096x128, .bf16⟩
  | .hbm, ⟨36, _⟩ => ⟨S4096x2048, .f32⟩
  | .hbm, ⟨37, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1024x512, .bf16⟩
  | .local _ .vmem, ⟨10, _⟩ => ⟨S1x256, .f32⟩
  | .local _ .vmem, ⟨11, _⟩ => ⟨S1x128, .f32⟩
  | .local _ .vmem, ⟨12, _⟩ => ⟨S256x2048, .bf16⟩
  | .local _ .vmem, ⟨13, _⟩ => ⟨S128x2048, .bf16⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S512x256, .bf16⟩
  | .local _ .vmem, ⟨19, _⟩ => ⟨S512x256, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x2048, .f32⟩
  | .local _ .vmem, ⟨25, _⟩ => ⟨S512x2048, .f32⟩
  | .local _ .vmem, ⟨26, _⟩ => ⟨S512x2048, .bf16⟩
  | .local _ .vmem, ⟨27, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev main_v16_4 : Ref sig .tc := ⟨.hbm, 35, rfl⟩
abbrev main_v16_5 : Ref sig .tc := ⟨.hbm, 36, rfl⟩
abbrev main_v16_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MlaProjectRefIdeal.lean ====
abbrev S4096x1024 : Shape := ⟨2, ![4096, 1024]⟩
abbrev S4096x32 : Shape := ⟨2, ![4096, 32]⟩
abbrev S1024 : Shape := ⟨1, ![1024]⟩
abbrev S1024x448 : Shape := ⟨2, ![1024, 448]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x448 : Shape := ⟨2, ![4096, 448]⟩
abbrev S4096x256 : Shape := ⟨2, ![4096, 256]⟩
abbrev S4096x128 : Shape := ⟨2, ![4096, 128]⟩
abbrev S4096x64 : Shape := ⟨2, ![4096, 64]⟩
abbrev S1x256 : Shape := ⟨2, ![1, 256]⟩
abbrev S1x128 : Shape := ⟨2, ![1, 128]⟩
abbrev S4096x1536 : Shape := ⟨2, ![4096, 1536]⟩
abbrev S4096x8x192 : Shape := ⟨3, ![4096, 8, 192]⟩
abbrev S4096x2048 : Shape := ⟨2, ![4096, 2048]⟩
abbrev S4096x512 : Shape := ⟨2, ![4096, 512]⟩
abbrev S4096x8x256 : Shape := ⟨3, ![4096, 8, 256]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x32, .f32⟩
  | .hbm, ⟨2, _⟩ => ⟨S4096x32, .f32⟩
  | .hbm, ⟨3, _⟩ => ⟨S1024, .f32⟩
  | .hbm, ⟨4, _⟩ => ⟨S1024x448, .f32⟩
  | .hbm, ⟨5, _⟩ => ⟨S256, .f32⟩
  | .hbm, ⟨6, _⟩ => ⟨S128, .f32⟩
  | .hbm, ⟨7, _⟩ => ⟨S256x1536, .f32⟩
  | .hbm, ⟨8, _⟩ => ⟨S128x2048, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x448, .f32⟩
  | .hbm, ⟨26, _⟩ => ⟨S4096x256, .f32⟩
  | .hbm, ⟨27, _⟩ => ⟨S4096x128, .f32⟩
  | .hbm, ⟨28, _⟩ => ⟨S4096x64, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x256, .f32⟩
  | .hbm, ⟨41, _⟩ => ⟨S4096x256, .f32⟩
  | .hbm, ⟨42, _⟩ => ⟨S1x256, .f32⟩
  | .hbm, ⟨43, _⟩ => ⟨S4096x256, .f32⟩
  | .hbm, ⟨44, _⟩ => ⟨S4096x256, .f32⟩
  | .hbm, ⟨45, _⟩ => ⟨S4096x128, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x128, .f32⟩
  | .hbm, ⟨57, _⟩ => ⟨S4096x128, .f32⟩
  | .hbm, ⟨58, _⟩ => ⟨S1x128, .f32⟩
  | .hbm, ⟨59, _⟩ => ⟨S4096x128, .f32⟩
  | .hbm, ⟨60, _⟩ => ⟨S4096x128, .f32⟩
  | .hbm, ⟨61, _⟩ => ⟨S4096x1536, .f32⟩
  | .hbm, ⟨62, _⟩ => ⟨S4096x8x192, .f32⟩
  | .hbm, ⟨63, _⟩ => ⟨S4096x2048, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x64, .f32⟩
  | .hbm, ⟨73, _⟩ => ⟨S_, .i32⟩
  | .hbm, ⟨74, _⟩ => ⟨S_, .f32⟩
  | .hbm, ⟨75, _⟩ => ⟨S4096x512, .f32⟩
  | .hbm, ⟨76, _⟩ => ⟨S_, .i32⟩
  | .hbm, ⟨77, _⟩ => ⟨S_, .f32⟩
  | .hbm, ⟨78, _⟩ => ⟨S4096x128, .f32⟩
  | .hbm, ⟨79, _⟩ => ⟨S_, .i32⟩
  | .hbm, ⟨80, _⟩ => ⟨S_, .f32⟩
  | .hbm, ⟨81, _⟩ => ⟨S4096x8x256, .f32⟩
  | .hbm, ⟨82, _⟩ => ⟨S4096x2048, .f32⟩
  | .hbm, ⟨83, _⟩ => ⟨S4096x1024, .bf16⟩
  | .hbm, ⟨84, _⟩ => ⟨S4096x256, .bf16⟩
  | .hbm, ⟨85, _⟩ => ⟨S4096x128, .bf16⟩
  | .hbm, ⟨86, _⟩ => ⟨S4096x128, .bf16⟩
  | .hbm, ⟨87, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c : Ref sig .tc := ⟨.hbm, 73, rfl⟩
abbrev main_call0_v0 : Ref sig .tc := ⟨.hbm, 74, rfl⟩
abbrev main_v55 : Ref sig .tc := ⟨.hbm, 75, rfl⟩
abbrev main_c_8 : Ref sig .tc := ⟨.hbm, 76, rfl⟩
abbrev main_call1_v0 : Ref sig .tc := ⟨.hbm, 77, rfl⟩
abbrev main_v56 : Ref sig .tc := ⟨.hbm, 78, rfl⟩
abbrev main_c_9 : Ref sig .tc := ⟨.hbm, 79, rfl⟩
abbrev main_call2_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Proof.KI.Offsets.lean ====
/-
  Closed forms of the kernel's integer chains: where each load and store of the attention gradient lies, as a
  function of the key tile (`i 1`) and the trip, and how often the paired loop runs.
-/
module

public import proofs.«01_k».proof.Proof.Gen.KernelIdeal
public import proofs.«01_k».proof.Proof.Gen.KernelIdeal.Loops
public import Idealize.ShloMosaic.Lib.Exec

@[expose] public section

set_option maxRecDepth 16384

noncomputable section

namespace Cert.Proof.KI

open Cert.KernelIdeal Idealize.ShloMosaic

/-! ## The tile of each access: the key tile itself, the next one, and the two of a trip -/

theorem off1_eq : ∀ i : grid0.Coords, k0_off1 i = ![512 * (i 1).val, 0] := by decide +kernel
theorem off2_eq : ∀ i : grid0.Coords, k0_off2 i = ![512 * (i 1).val, 0] := by decide +kernel
theorem off3_eq : ∀ i : grid0.Coords, k0_off3 i = ![0, 0, 512 * (i 1).val] := by decide +kernel
theorem off4_eq : ∀ i : grid0.Coords, k0_off4 i = ![512 * (i 1).val, 0] := by decide +kernel
theorem off5_eq : ∀ i : grid0.Coords, k0_off5 i = ![512 * (i 1).val, 0] := by decide +kernel
theorem off6_eq : ∀ i : grid0.Coords, k0_off6 i = ![512 * ((i 1).val + 1), 0] := by decide +kernel
theorem off7_eq : ∀ i : grid0.Coords, k0_off7 i = ![512 * ((i 1).val + 1), 0] := by decide +kernel
theorem off8_eq : ∀ i : grid0.Coords, k0_off8 i = ![0, 0, 512 * (i 1).val] := by decide +kernel
theorem off9_eq : ∀ i : grid0.Coords, k0_off9 i = ![0, 0, 512 * ((i 1).val + 1)] := by decide +kernel

theorem off10_eq : ∀ (i : grid0.Coords) (t : Fin (k0_t1_loop i).trips), k0_off10 i t = ![512 * ((i 1).val + 2 + 2 * t.val), 0] := by decide +kernel
theorem off11_eq : ∀ (i : grid0.Coords) (t : Fin (k0_t1_loop i).trips), k0_off11 i t = ![512 * ((i 1).val + 2 + 2 * t.val), 0] := by decide +kernel
theorem off12_eq : ∀ (i : grid0.Coords) (t : Fin (k0_t1_loop i).trips), k0_off12 i t = ![512 * ((i 1).val + 2 + 2 * t.val + 1), 0] := by decide +kernel
theorem off13_eq : ∀ (i : grid0.Coords) (t : Fin (k0_t1_loop i).trips), k0_off13 i t = ![512 * ((i 1).val + 2 + 2 * t.val + 1), 0] := by decide +kernel
theorem off14_eq : ∀ (i : grid0.Coords) (t : Fin (k0_t1_loop i).trips), k0_off14 i t = ![0, 0, 512 * ((i 1).val + 2 + 2 * t.val)] := by decide +kernel
theorem off15_eq : ∀ (i : grid0.Coords) (t : Fin (k0_t1_loop i).trips), k0_off15 i t = ![0, 0, 512 * ((i 1).val + 2 + 2 * t.val + 1)] := by decide +kernel

instance (i : grid0.Coords) : ClosedOff (k0_off1 i) := ⟨_, off1_eq i⟩
instance (i : grid0.Coords) : ClosedOff (k0_off4 i) := ⟨_, off4_eq i⟩
instance (i : grid0.Coords) : ClosedOff (k0_off6 i) := ⟨_, off6_eq i⟩
instance (i : grid0.Coords) (t : Fin (k0_t1_loop i).trips) : ClosedOff (k0_off10 i t) := ⟨_, off10_eq i t⟩
instance (i : grid0.Coords) (t : Fin (k0_t1_loop i).trips) : ClosedOff (k0_off12 i t) := ⟨_, off12_eq i t⟩

/-! ## The conditions and the trips -/

theorem cond1_iff : ∀ i : grid0.Coords, k0_cond1 i = 1#1 ↔ (i 1).val = 0 := by decide +kernel
theorem cond2_iff : ∀ i : grid0.Coords, k0_cond2 i = 1#1 ↔ (i 1).val = 7 := by decide +kernel
theorem cond3_iff : ∀ i : grid0.Coords, k0_cond3 i = 1#1 ↔ (i 1).val < 7 := by decide +kernel
theorem cond4_iff : ∀ i : grid0.Coords, k0_cond4 i = 1#1 ↔ (i 1).val % 2 = 1 := by decide +kernel

theorem trips1_eq : ∀ i : grid0.Coords, (k0_t1_loop i).trips = (6 - (i 1).val) / 2 := by decide +kernel
theorem trips2_eq : ∀ i : grid0.Coords, (k0_t2_loop i).trips = 0 := by decide +kernel

end Cert.Proof.KI

end
-- ==== Proof.KI.Tiles.lean ====
/-
  What one tile of queries adds to the three gradients: the attention gradient's step as a function of the values in
  the buffers, and the steps of one key tile one after the other.
-/
module

public import proofs.«01_k».proof.Proof.KI.Offsets
public import Idealize.ShloMosaic.Lib.VecWindow

@[expose] public section

set_option maxRecDepth 16384

noncomputable section

namespace Cert.Proof.KI

open Cert.KernelIdeal Cert.KernelIdeal.Gen Idealize.ShloMosaic Idealize.ShloMosaic.TcCoe

variable {F : FTy → Type} [FloatOps F] [Named F]

/-! ## One tile -/

/-- The key tile: the head's 128 key columns beside the shared rotary columns. -/
def keys (K : Vec F S512x256 .bf16) (R : Vec F S512x128 .bf16) : FVec F S512x256 .bf16 :=
  concatenate S512x256 1 [⟨S512x128, extractStridedSlice S512x128 ![0, 0] (shapeCast S512x256 K shapeCasts_S512x256_S512x256) slices_S512x256_o0_0_S512x128⟩,
    ⟨S512x128, shapeCast S512x128 R shapeCasts_S512x128_S512x128⟩] concatenates_S512x128_S512x128_S512x256_d1

/-- The scores of a tile, keys down and queries across; on the diagonal tile a query before the key gets `-∞`. -/
def scores (diag : Prop) [Decidable diag] (K : Vec F S512x256 .bf16) (R : Vec F S512x128 .bf16) (q : Vec F S512x256 .bf16) : FVec F S512x512 .f32 :=
  if diag then
    select (cmpi .sle (iota .tc S512x512 32 [0] iota_S512x512_d0_w32) (iota .tc S512x512 32 [1] iota_S512x512_d1_w32))
      (matmul dot_S512x256_S512x256_S512x512_1_1_0_0_n_n none (keys K R) (shapeCast S512x256 q shapeCasts_S512x256_S512x256) (constant S512x512 .f32 0x00000000#32))
      (broadcast S512x512 (Scalar.ofBits .f32 0xFF800000#32))
  else matmul dot_S512x256_S512x256_S512x512_1_1_0_0_n_n none (keys K R) (shapeCast S512x256 q shapeCasts_S512x256_S512x256) (constant S512x512 .f32 0x00000000#32)

/-- The tile's probabilities: two to the scores less the row's log-sum. -/
def probs (diag : Prop) [Decidable diag] (K : Vec F S512x256 .bf16) (R : Vec F S512x128 .bf16) (q : Vec F S512x256 .bf16) (l : Vec F S1x1x512 .f32) : FVec F S512x512 .f32 :=
  exp2 (subf (scores diag K R q) (broadcastTo S512x512 (shapeCast S1x512 l shapeCasts_S1x1x512_S1x512) broadcasts_S1x512_S512x512))

/-- The gradient of the tile's scores. -/
def dscores (diag : Prop) [Decidable diag] (K : Vec F S512x256 .bf16) (R : Vec F S512x128 .bf16) (q : Vec F S512x256 .bf16) (o : Vec F S512x128 .bf16)
    (l d : Vec F S1x1x512 .f32) : FVec F S512x512 .bf16 :=
  truncf .bf16 (mulf (mulf (probs diag K R q l)
    (subf (matmul dot_S512x128_S512x128_S512x512_1_1_0_0_n_n none (extractStridedSlice S512x128 ![0, 128] (shapeCast S512x256 K shapeCasts_S512x256_S512x256) slices_S512x256_o0_128_S512x128)
        (shapeCast S512x128 o shapeCasts_S512x128_S512x128) (constant S512x512 .f32 0x00000000#32))
      (broadcastTo S512x512 (shapeCast S1x512 d shapeCasts_S1x1x512_S1x512) broadcasts_S1x512_S512x512)))
    (broadcast S512x512 (Scalar.ofBits .f32 0x3D93CD3A#32))) bitsLt_bf16_f32

/-- The values' gradient with the tile added. -/
def dvStep (diag : Prop) [Decidable diag] (K : Vec F S512x256 .bf16) (R : Vec F S512x128 .bf16) (q : Vec F S512x256 .bf16) (o : Vec F S512x128 .bf16)
    (l : Vec F S1x1x512 .f32) (dv : Vec F S512x128 .f32) : FVec F S512x128 .f32 :=
  shapeCast S512x128 (addf dv (matmul dot_S512x512_S512x128_S512x128_1_0_0_1_n_n none (truncf .bf16 (probs diag K R q l) bitsLt_bf16_f32)
    (shapeCast S512x128 o shapeCasts_S512x128_S512x128) (constant S512x128 .f32 0x00000000#32))) shapeCasts_S512x128_S512x128

/-- The keys' gradient with the tile added. -/
def dkStep (diag : Prop) [Decidable diag] (K : Vec F S512x256 .bf16) (R : Vec F S512x128 .bf16) (q : Vec F S512x256 .bf16) (o : Vec F S512x128 .bf16)
    (l d : Vec F S1x1x512 .f32) (dk : Vec F S512x256 .f32) : FVec F S512x256 .f32 :=
  shapeCast S512x256 (addf dk (matmul dot_S512x512_S512x256_S512x256_1_0_0_1_n_n none (dscores diag K R q o l d)
    (shapeCast S512x256 q shapeCasts_S512x256_S512x256) (constant S512x256 .f32 0x00000000#32))) shapeCasts_S512x256_S512x256

/-- The queries' gradient rows with the tile added. -/
def dqStep (diag : Prop) [Decidable diag] (K : Vec F S512x256 .bf16) (R : Vec F S512x128 .bf16) (q : Vec F S512x256 .bf16) (o : Vec F S512x128 .bf16)
    (l d : Vec F S1x1x512 .f32) (dq : Vec F S512x256 .f32) : FVec F S512x256 .f32 :=
  addf (shapeCast S512x256 dq shapeCasts_S512x256_S512x256) (matmul dot_S512x512_S512x256_S512x256_0_0_1_1_n_n none (dscores diag K R q o l d)
    (keys K R) (constant S512x256 .f32 0x00000000#32))

/-! ## A tile off the diagonal, and the tile on it -/

theorem dvStep_congr {p p' : Prop} [Decidable p] [Decidable p'] (h : p ↔ p') :
    (dvStep p : Vec F S512x256 .bf16 → Vec F S512x128 .bf16 → _) = dvStep p' := by
  obtain rfl : p = p' := propext h
  congr
theorem dkStep_congr {p p' : Prop} [Decidable p] [Decidable p'] (h : p ↔ p') :
    (dkStep p : Vec F S512x256 .bf16 → Vec F S512x128 .bf16 → _) = dkStep p' := by
  obtain rfl : p = p' := propext h
  congr
theorem dqStep_congr {p p' : Prop} [Decidable p] [Decidable p'] (h : p ↔ p') :
    (dqStep p : Vec F S512x256 .bf16 → Vec F S512x128 .bf16 → _) = dqStep p' := by
  obtain rfl : p = p' := propext h
  congr

section
variable {p : Prop} [Decidable p] {K : Vec F S512x256 .bf16} {R : Vec F S512x128 .bf16} {q q' : Vec F S512x256 .bf16} {o o' : Vec F S512x128 .bf16}
  {l l' d d' : Vec F S1x1x512 .f32}

theorem dvStep_args {a a' : Vec F S512x128 .f32} (hq : q = q') (ho : o = o') (hl : l = l') (ha : a = a') :
    dvStep p K R q o l a = dvStep p K R q' o' l' a' := by subst hq ho hl ha; rfl
theorem dkStep_args {a a' : Vec F S512x256 .f32} (hq : q = q') (ho : o = o') (hl : l = l') (hd : d = d') (ha : a = a') :
    dkStep p K R q o l d a = dkStep p K R q' o' l' d' a' := by subst hq ho hl hd ha; rfl
theorem dqStep_args {a a' : Vec F S512x256 .f32} (hq : q = q') (ho : o = o') (hl : l = l') (hd : d = d') (ha : a = a') :
    dqStep p K R q o l d a = dqStep p K R q' o' l' d' a' := by subst hq ho hl hd ha; rfl
end

/-! ## The operands and the sums of one key tile -/

/-- What a grid point reads: the head's queries, its key and rotary tiles, the cotangents, and the two rows. -/
structure Ops (F : FTy → Type) [FloatOps F] where
  q : Vec F S4096x256 .bf16
  k : Vec F S512x256 .bf16
  r : Vec F S512x128 .bf16
  o : Vec F S4096x128 .bf16
  l : Vec F S1x1x4096 .f32
  d : Vec F S1x1x4096 .f32

/-- The three sums. -/
structure Sums (F : FTy → Type) [FloatOps F] where
  dq : Vec F S4096x256 .f32
  dk : Vec F S512x256 .f32
  dv : Vec F S512x128 .f32

theorem inb256 (j : ℕ) (h : j < 8) : ∀ a, (![512 * j, 0] : Fin 2 → ℕ) a + S512x256.size a ≤ S4096x256.size a :=
  Fin.forall_fin_two.mpr ⟨show 512 * j + 512 ≤ 4096 by omega, show 0 + 256 ≤ 256 by omega⟩
theorem inb128 (j : ℕ) (h : j < 8) : ∀ a, (![512 * j, 0] : Fin 2 → ℕ) a + S512x128.size a ≤ S4096x128.size a :=
  Fin.forall_fin_two.mpr ⟨show 512 * j + 512 ≤ 4096 by omega, show 0 + 128 ≤ 128 by omega⟩
theorem inbRow (j : ℕ) (h : j < 8) : ∀ a, (![0, 0, 512 * j] : Fin 3 → ℕ) a + S1x1x512.size a ≤ S1x1x4096.size a := fun a => by
  match a with
  | 0 => exact Nat.le_refl _
  | 1 => exact Nat.le_refl _
  | 2 => exact show 512 * j + 512 ≤ 4096 by omega

/-- Tile `j` of the queries, of the cotangents and of a row. -/
abbrev qT (q : Vec F S4096x256 .bf16) (j : ℕ) (h : j < 8) : Vec F S512x256 .bf16 := VecWindow.window q ![512 * j, 0] S512x256.size (inb256 j h)
abbrev oT (o : Vec F S4096x128 .bf16) (j : ℕ) (h : j < 8) : Vec F S512x128 .bf16 := VecWindow.window o ![512 * j, 0] S512x128.size (inb128 j h)
abbrev rT (l : Vec F S1x1x4096 .f32) (j : ℕ) (h : j < 8) : Vec F S1x1x512 .f32 := VecWindow.window l ![0, 0, 512 * j] S1x1x512.size (inbRow j h)
abbrev gT (g : Vec F S4096x256 .f32) (j : ℕ) (h : j < 8) : Vec F S512x256 .f32 := VecWindow.window g ![512 * j, 0] S512x256.size (inb256 j h)

/-- The sums with query tile `j` added at key tile `ki`. -/
def upd (X : Ops F) (ki j : ℕ) (h : j < 8) (a : Sums F) : Sums F where
  dq := VecWindow.put a.dq ![512 * j, 0] S512x256.size (dqStep (j = ki) X.k X.r (qT X.q j h) (oT X.o j h) (rT X.l j h) (rT X.d j h) (gT a.dq j h))
  dk := dkStep (j = ki) X.k X.r (qT X.q j h) (oT X.o j h) (rT X.l j h) (rT X.d j h) a.dk
  dv := dvStep (j = ki) X.k X.r (qT X.q j h) (oT X.o j h) (rT X.l j h) a.dv

/-- `upd` with the diagonal decided. -/
def updP (diag : Prop) [Decidable diag] (X : Ops F) (j : ℕ) (h : j < 8) (a : Sums F) : Sums F where
  dq := VecWindow.put a.dq ![512 * j, 0] S512x256.size (dqStep diag X.k X.r (qT X.q j h) (oT X.o j h) (rT X.l j h) (rT X.d j h) (gT a.dq j h))
  dk := dkStep diag X.k X.r (qT X.q j h) (oT X.o j h) (rT X.l j h) (rT X.d j h) a.dk
  dv := dvStep diag X.k X.r (qT X.q j h) (oT X.o j h) (rT X.l j h) a.dv

theorem updP_dq (p : Prop) [Decidable p] (X : Ops F) (j : ℕ) (h : j < 8) (a : Sums F) : (updP p X j h a).dq
    = VecWindow.put a.dq ![512 * j, 0] S512x256.size (dqStep p X.k X.r (qT X.q j h) (oT X.o j h) (rT X.l j h) (rT X.d j h) (gT a.dq j h)) := rfl
theorem updP_dk (p : Prop) [Decidable p] (X : Ops F) (j : ℕ) (h : j < 8) (a : Sums F) : (updP p X j h a).dk
    = dkStep p X.k X.r (qT X.q j h) (oT X.o j h) (rT X.l j h) (rT X.d j h) a.dk := rfl
theorem updP_dv (p : Prop) [Decidable p] (X : Ops F) (j : ℕ) (h : j < 8) (a : Sums F) : (updP p X j h a).dv
    = dvStep p X.k X.r (qT X.q j h) (oT X.o j h) (rT X.l j h) a.dv := rfl

/-- The next tile's rows of the queries' gradient are not touched by the tile's. -/
theorem gT_updP (p : Prop) [Decidable p] (X : Ops F) (j : ℕ) (h : j < 8) (h' : j + 1 < 8) (a : Sums F) :
    gT (updP p X j h a).dq (j + 1) h' = gT a.dq (j + 1) h' :=
  VecWindow.window_put_of_disjoint (s := S4096x256) a.dq ![512 * j, 0] S512x256.size ![512 * (j + 1), 0] S512x256.size (inb256 (j + 1) h')
    (dqStep p X.k X.r (qT X.q j h) (oT X.o j h) (rT X.l j h) (rT X.d j h) (gT a.dq j h)) (0 : Fin 2)
    (.inr (show 512 * j + 512 ≤ 512 * (j + 1) by omega))

theorem upd_eq {p : Prop} [Decidable p] (X : Ops F) (ki j : ℕ) (h : j < 8) (a : Sums F) (hp : j = ki ↔ p) : upd X ki j h a = updP p X j h a := by
  unfold upd updP
  rw [dqStep_congr hp, dkStep_congr hp, dvStep_congr hp]

/-- The sums after the first `n` query tiles of key tile `ki`: tiles `ki`, `ki + 1`, … -/
def steps (X : Ops F) (ki : ℕ) (a : Sums F) : ℕ → Sums F
  | 0 => a
  | n + 1 => if h : ki + n < 8 then upd X ki (ki + n) h (steps X ki a n) else steps X ki a n

theorem steps_succ (X : Ops F) (ki : ℕ) (a : Sums F) (n : ℕ) (h : ki + n < 8) :
    steps X ki a (n + 1) = upd X ki (ki + n) h (steps X ki a n) := dif_pos h

/-- The zeros a gradient starts from. -/
def zeroQ : Vec F S4096x256 .f32 := broadcast S4096x256 (Scalar.ofBits .f32 0x00000000#32)
def zeroK : Vec F S512x256 .f32 := shapeCast S512x256 (broadcast S512x256 (Scalar.ofBits .f32 0x00000000#32)) shapeCasts_S512x256_S512x256
def zeroV : Vec F S512x128 .f32 := shapeCast S512x128 (broadcast S512x128 (Scalar.ofBits .f32 0x00000000#32)) shapeCasts_S512x128_S512x128

/-- What a grid point leaves in the sums, entered with `g` in the queries' gradient: zeroed at the head's first key tile. -/
def point (X : Ops F) (ki : ℕ) (g : Vec F S4096x256 .f32) : Sums F :=
  steps X ki ⟨if ki = 0 then zeroQ else g, zeroK, zeroV⟩ (8 - ki)

/-- The two results a point stores beside the queries' gradient. -/
def dkvOut (s : Sums F) : Vec F S512x256 .bf16 := k0_pay87 s.dk s.dv
def dkrOut (s : Sums F) : Vec F S512x128 .f32 := k0_pay1 (k0_pay86 s.dk)

end Cert.Proof.KI

end
-- ==== Proof.KI.Trip.lean ====
/-
  One trip of the paired loop: two query tiles, one after the other; and the loop by its invariant.
-/
module

public import proofs.«01_k».proof.Proof.KI.Tiles
public import proofs.«01_k».proof.Proof.Gen.KernelIdeal.Frame
public import Idealize.ShloMosaic.Lib.Pipeline.FrameBody

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none

local notation "𝕄" => MT nD τ sig Unit (Elt F) ℕ (UU nD τ) ℕ

section Trip

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x1x4096 .f32) (harg6 : arg6.IsWhole) (arg7 : Memref sig .tc .vmem S1x1x4096 .f32) (harg7 : arg7.IsWhole)
  (arg8 : Memref sig .tc .vmem S4096x256 .f32) (harg8 : arg8.IsWhole) (arg9 : Memref sig .tc .vmem S512x256 .bf16) (harg9 : arg9.IsWhole)
  (arg10 : Memref sig .tc .vmem S512x128 .f32) (harg10 : arg10.IsWhole) (arg11 : Memref sig .tc .vmem S512x256 .f32) (harg11 : arg11.IsWhole)
  (arg12 : Memref sig .tc .vmem S512x128 .f32) (harg12 : arg12.IsWhole)

/-- What a trip holds: the four whole operands at `f2 f5 f6 f7`, the three sums at `g8 g11 g12`. -/
def held (f2 : Buf (Elt F) (arg2.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (g8 : Buf (Elt F) (arg8.view.loc (c : Thread nD τ))) (g11 : Buf (Elt F) (arg11.view.loc (c : Thread nD τ)))
    (g12 : Buf (Elt F) (arg12.view.loc (c : Thread nD τ))) : sProp 𝕄 :=
  iprop((arg2.view.loc (c : Thread nD τ) ↦[arg2.view.set]{fullShare} f2) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7)
    ∗ (arg8.view.loc (c : Thread nD τ) ↦[arg8.view.set]{fullShare} g8) ∗ (arg11.view.loc (c : Thread nD τ) ↦[arg11.view.set]{fullShare} g11)
    ∗ (arg12.view.loc (c : Thread nD τ) ↦[arg12.view.set]{fullShare} g12))

theorem trip (v11 : Vec F S512x256 .bf16) (v13 : Vec F S512x128 .bf16) (h3 : k0_cond3 i = 1#1) (v133 : BitVec 32) (t : Fin (k0_t1_loop i).trips) (u : Unit)
    (f2 : Buf (Elt F) (arg2.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (g8 : Buf (Elt F) (arg8.view.loc (c : Thread nD τ))) (g11 : Buf (Elt F) (arg11.view.loc (c : Thread nD τ)))
    (g12 : Buf (Elt F) (arg12.view.loc (c : Thread nD τ))) (X : Ops F) (hX : X = ⟨arg2.view.read (Elt F) f2, v11, v13, arg5.view.read (Elt F) f5, arg6.view.read (Elt F) f6, arg7.view.read (Elt F) f7⟩)
    (a a' : Sums F) (ha : a = ⟨arg8.view.read (Elt F) g8, arg11.view.read (Elt F) g11, arg12.view.read (Elt F) g12⟩)
    (h0 : (i 1).val + 2 + 2 * t.val < 8) (h1 : (i 1).val + 2 + 2 * t.val + 1 < 8)
    (ha' : a' = upd X (i 1).val ((i 1).val + 2 + 2 * t.val + 1) h1 (upd X (i 1).val ((i 1).val + 2 + 2 * t.val) h0 a)) :
    held c arg2 arg5 arg6 arg7 arg8 arg11 arg12 f2 f5 f6 f7 g8 g11 g12
      ⊢ wp Idealize.ShloMosaic.frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 v11 v13 h3 v133 t u)
          (fun _ => held c arg2 arg5 arg6 arg7 arg8 arg11 arg12 f2 f5 f6 f7 (arg8.view.rep a'.dq) (arg11.view.rep a'.dk) (arg12.view.rep a'.dv)) := by
  unfold held
  iintro ⟨H2, H5, H6, H7, H8, H11, H12⟩
  sl_unfold [k0_t1_body]
  sl_exec
  sl_step
  have n0 : (i 1).val + 2 + 2 * t.val = (i 1).val ↔ False := ⟨fun h => by omega, False.elim⟩
  have n1 : (i 1).val + 2 + 2 * t.val + 1 = (i 1).val ↔ False := ⟨fun h => by omega, False.elim⟩
  rw [upd_eq X _ _ _ _ n0, upd_eq X _ _ _ _ n1] at ha'
  subst hX ha ha'
  have q0 : arg2.view.readAt (Elt F) (Rect.unit (s := S4096x256) (k0_off10 i t) S512x256.size (k0_off10_inb i t h3)).toLoadRect f2 = qT (arg2.view.read (Elt F) f2) ((i 1).val + 2 + 2 * t.val) h0 :=
    arg2.view.readAt_unit f2 (k0_off10_inb i t h3) (off10_eq i t) (inb256 _ h0)
  have q1 : arg2.view.readAt (Elt F) (Rect.unit (s := S4096x256) (k0_off12 i t) S512x256.size (k0_off12_inb i t h3)).toLoadRect f2 = qT (arg2.view.read (Elt F) f2) ((i 1).val + 2 + 2 * t.val + 1) h1 :=
    arg2.view.readAt_unit f2 (k0_off12_inb i t h3) (off12_eq i t) (inb256 _ h1)
  have o0 : arg5.view.readAt (Elt F) (Rect.unit (s := S4096x128) (k0_off11 i t) S512x128.size (k0_off11_inb i t h3)).toLoadRect f5 = oT (arg5.view.read (Elt F) f5) ((i 1).val + 2 + 2 * t.val) h0 :=
    arg5.view.readAt_unit f5 (k0_off11_inb i t h3) (off11_eq i t) (inb128 _ h0)
  have o1 : arg5.view.readAt (Elt F) (Rect.unit (s := S4096x128) (k0_off13 i t) S512x128.size (k0_off13_inb i t h3)).toLoadRect f5 = oT (arg5.view.read (Elt F) f5) ((i 1).val + 2 + 2 * t.val + 1) h1 :=
    arg5.view.readAt_unit f5 (k0_off13_inb i t h3) (off13_eq i t) (inb128 _ h1)
  have l0 : arg6.view.readAt (Elt F) (Rect.unit (s := S1x1x4096) (k0_off14 i t) S1x1x512.size (k0_off14_inb i t h3)).toLoadRect f6 = rT (arg6.view.read (Elt F) f6) ((i 1).val + 2 + 2 * t.val) h0 :=
    arg6.view.readAt_unit f6 (k0_off14_inb i t h3) (off14_eq i t) (inbRow _ h0)
  have l1 : arg6.view.readAt (Elt F) (Rect.unit (s := S1x1x4096) (k0_off15 i t) S1x1x512.size (k0_off15_inb i t h3)).toLoadRect f6 = rT (arg6.view.read (Elt F) f6) ((i 1).val + 2 + 2 * t.val + 1) h1 :=
    arg6.view.readAt_unit f6 (k0_off15_inb i t h3) (off15_eq i t) (inbRow _ h1)
  have d0 : arg7.view.readAt (Elt F) (Rect.unit (s := S1x1x4096) (k0_off14 i t) S1x1x512.size (k0_off14_inb i t h3)).toLoadRect f7 = rT (arg7.view.read (Elt F) f7) ((i 1).val + 2 + 2 * t.val) h0 :=
    arg7.view.readAt_unit f7 (k0_off14_inb i t h3) (off14_eq i t) (inbRow _ h0)
  have d1 : arg7.view.readAt (Elt F) (Rect.unit (s := S1x1x4096) (k0_off15 i t) S1x1x512.size (k0_off15_inb i t h3)).toLoadRect f7 = rT (arg7.view.read (Elt F) f7) ((i 1).val + 2 + 2 * t.val + 1) h1 :=
    arg7.view.readAt_unit f7 (k0_off15_inb i t h3) (off15_eq i t) (inbRow _ h1)
  have g0 : arg8.view.readAt (Elt F) (Rect.unit (s := S4096x256) (k0_off10 i t) S512x256.size (k0_off10_inb i t h3)).toLoadRect g8 = gT (arg8.view.read (Elt F) g8) ((i 1).val + 2 + 2 * t.val) h0 :=
    arg8.view.readAt_unit g8 (k0_off10_inb i t h3) (off10_eq i t) (inb256 _ h0)
  have g1 : arg8.view.readAt (Elt F) (Rect.unit (s := S4096x256) (k0_off12 i t) S512x256.size (k0_off12_inb i t h3)).toLoadRect g8 = gT (arg8.view.read (Elt F) g8) ((i 1).val + 2 + 2 * t.val + 1) h1 :=
    arg8.view.readAt_unit g8 (k0_off12_inb i t h3) (off12_eq i t) (inb256 _ h1)
  have e11 := arg11.view.readAt_full g11 inb_S512x256_S512x256_0_0
  have e12 := arg12.view.readAt_full g12 inb_S512x128_S512x128_0_0
  isplitl [H2]; · iexact H2
  isplitl [H5]; · iexact H5
  isplitl [H6]; · iexact H6
  isplitl [H7]; · iexact H7
  isplitl [H8]
  · iapply (pointsTo_rep_of_read (c : Thread nD τ) arg8 _ fullShare _ ?_) $$ H8
    rw [View.read_writes_cons_put _ _ _ _ _ (off12_eq i t), View.read_writes_cons_put _ _ _ _ _ (off10_eq i t), View.writes_nil, updP_dq, gT_updP, updP_dq]
    refine congr (congrArg (fun x => VecWindow.put (VecWindow.put _ _ _ x) _ _) ?_) ?_
    · exact Eq.trans (by rfl) (dqStep_args q0 o0 l0 d0 g0)
    · exact Eq.trans (by rfl) (dqStep_args q1 o1 l1 d1 g1)
  isplitl [H11]
  · iapply (pointsTo_rep_of_read (c : Thread nD τ) arg11 _ fullShare _ ?_) $$ H11
    rw [View.read_writes_full, updP_dk, updP_dk]
    have e : trip.sl.v258 c i arg2 arg5 arg6 arg7 arg11 v11 v13 h3 t f2 f5 f6 f7 g11 = _ := View.readCov_full arg11.view inb_S512x256_S512x256_0_0 inb_S512x256_S512x256_0_0 _ _
    rw [e]
    exact Eq.trans (by rfl) (dkStep_args q1 o1 l1 d1 (dkStep_args q0 o0 l0 d0 e11))
  · iapply (pointsTo_rep_of_read (c : Thread nD τ) arg12 _ fullShare _ ?_) $$ H12
    rw [View.read_writes_full, updP_dv, updP_dv]
    have e : trip.sl.v242 c i arg2 arg5 arg6 arg12 v11 v13 h3 t f2 f5 f6 g12 = _ := View.readCov_full arg12.view inb_S512x128_S512x128_0_0 inb_S512x128_S512x128_0_0 _ _
    delta trip.sl.v245
    rw [e]
    exact Eq.trans (by rfl) (dvStep_args q1 o1 l1 (dvStep_args q0 o0 l0 e12))

end Trip

end Cert.Proof.KI

end
-- ==== Proof.KI.Body.lean ====
/-
  A grid point's body: the gradients it leaves, by the kind of its key tile.
-/
module

public import proofs.«01_k».proof.Proof.KI.Trip

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section Body

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x1x4096 .f32) (harg6 : arg6.IsWhole) (arg7 : Memref sig .tc .vmem S1x1x4096 .f32) (harg7 : arg7.IsWhole)
  (arg8 : Memref sig .tc .vmem S4096x256 .f32) (harg8 : arg8.IsWhole) (arg9 : Memref sig .tc .vmem S512x256 .bf16) (harg9 : arg9.IsWhole)
  (arg10 : Memref sig .tc .vmem S512x128 .f32) (harg10 : arg10.IsWhole) (arg11 : Memref sig .tc .vmem S512x256 .f32) (harg11 : arg11.IsWhole)
  (arg12 : Memref sig .tc .vmem S512x128 .f32) (harg12 : arg12.IsWhole)

/-! ## The paired loop -/

/-- The sums before trip `k` of the paired loop. -/
def paired (X : Ops F) (ki : ℕ) (a : Sums F) : ℕ → Sums F
  | 0 => a
  | k + 1 => if h : ki + 2 + 2 * k + 1 < 8 then upd X ki (ki + 2 + 2 * k + 1) h (upd X ki (ki + 2 + 2 * k) (by omega) (paired X ki a k)) else paired X ki a k

theorem upd_at (X : Ops F) (ki : ℕ) {j j' : ℕ} (e : j = j') (h : j < 8) (h' : j' < 8) {a a' : Sums F} (ha : a = a') :
    upd X ki j h a = upd X ki j' h' a' := by subst e ha; rfl

/-- The paired loop's sums are the tiles' in order. -/
theorem paired_steps (X : Ops F) (ki : ℕ) (a : Sums F) (k : ℕ) (hk : ki + 2 * k + 1 < 8) :
    paired X ki (steps X ki a 2) k = steps X ki a (2 + 2 * k) := by
  induction k with
  | zero => rfl
  | succ k ih =>
    rw [paired, dif_pos (show ki + 2 + 2 * k + 1 < 8 by omega), ih (by omega), show 2 + 2 * (k + 1) = 2 + 2 * k + 1 + 1 by omega,
      steps_succ X ki a _ (show ki + (2 + 2 * k + 1) < 8 by omega), steps_succ X ki a _ (show ki + (2 + 2 * k) < 8 by omega)]
    exact upd_at X ki (by omega) _ _ (upd_at X ki (by omega) _ _ rfl)

/-- The paired loop, over the whole of its trips. -/
theorem loop1 (v11 : Vec F S512x256 .bf16) (v13 : Vec F S512x128 .bf16) (h3 : k0_cond3 i = 1#1) (v133 : BitVec 32)
    (f2 : Buf (Elt F) (arg2.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (X : Ops F) (hX : X = ⟨arg2.view.read (Elt F) f2, v11, v13, arg5.view.read (Elt F) f5, arg6.view.read (Elt F) f6, arg7.view.read (Elt F) f7⟩) (a : Sums F) :
    held c arg2 arg5 arg6 arg7 arg8 arg11 arg12 f2 f5 f6 f7 (arg8.view.rep a.dq) (arg11.view.rep a.dk) (arg12.view.rep a.dv)
      ⊢ wp Idealize.ShloMosaic.frame (wpE (defs₀ (F := F)) 𝒱₀ (c : Thread nD τ) none) Set.univ
          (Scf.Loop.for (k0_t1_loop i) (k0_t1_ok i h3) ⟨⟩ (k0_t1_body (F := F) i arg2 harg2 arg3 harg3 arg4 harg4 arg5 harg5 arg6 harg6 arg7 harg7 arg8 harg8 arg9 harg9 arg10 harg10 arg11 harg11 arg12 harg12 v11 v13 h3 v133))
          (fun _ => held c arg2 arg5 arg6 arg7 arg8 arg11 arg12 f2 f5 f6 f7 (arg8.view.rep (paired X (i 1).val a ((6 - (i 1).val) / 2)).dq)
            (arg11.view.rep (paired X (i 1).val a ((6 - (i 1).val) / 2)).dk) (arg12.view.rep (paired X (i 1).val a ((6 - (i 1).val) / 2)).dv)) := by
  have key := Scf.wp_for Idealize.ShloMosaic.frame (wpE (defs₀ (F := F)) 𝒱₀ (c : Thread nD τ) none) Set.univ (k0_t1_loop i).lb (k0_t1_loop i).ub (k0_t1_loop i).st
    (k0_t1_ok i h3) () (k0_t1_body (F := F) i arg2 harg2 arg3 harg3 arg4 harg4 arg5 harg5 arg6 harg6 arg7 harg7 arg8 harg8 arg9 harg9 arg10 harg10 arg11 harg11 arg12 harg12 v11 v13 h3 v133)
    (fun k _ => held c arg2 arg5 arg6 arg7 arg8 arg11 arg12 f2 f5 f6 f7 (arg8.view.rep (paired X (i 1).val a k).dq) (arg11.view.rep (paired X (i 1).val a k).dk) (arg12.view.rep (paired X (i 1).val a k).dv))
    (fun k u => by
      have hk : k.val < (6 - (i 1).val) / 2 := Nat.lt_of_lt_of_eq k.isLt (trips1_eq i)
      have hk' : (i 1).val + 2 + 2 * k.val + 1 < 8 := by omega
      exact trip c i arg2 harg2 arg3 harg3 arg4 harg4 arg5 harg5 arg6 harg6 arg7 harg7 arg8 harg8 arg9 harg9 arg10 harg10 arg11 harg11 arg12 harg12
        v11 v13 h3 v133 k () f2 f5 f6 f7 _ _ _ X hX (paired X (i 1).val a k.val) (paired X (i 1).val a (k.val + 1))
        (by rw [View.read_rep, View.read_rep, View.read_rep]) (by omega) hk' (dif_pos hk'))
    (Q := fun _ => held c arg2 arg5 arg6 arg7 arg8 arg11 arg12 f2 f5 f6 f7 (arg8.view.rep (paired X (i 1).val a ((6 - (i 1).val) / 2)).dq)
            (arg11.view.rep (paired X (i 1).val a ((6 - (i 1).val) / 2)).dk) (arg12.view.rep (paired X (i 1).val a ((6 - (i 1).val) / 2)).dv))
  rw [← trips1_eq i] at key ⊢
  refine BIBase.Entails.trans ?_ key
  iintro H
  isplitl [H]
  · iexact H
  · iintro %_ H'
    iexact H'

/-! ## What a grid point holds -/

/-- The staging buffers and the two scratch buffers at the contents given. -/
def staged (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (g8 : Buf (Elt F) (arg8.view.loc (c : Thread nD τ))) (g9 : Buf (Elt F) (arg9.view.loc (c : Thread nD τ)))
    (g10 : Buf (Elt F) (arg10.view.loc (c : Thread nD τ))) : sProp 𝕄 :=
  iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7)
    ∗ (arg8.view.loc (c : Thread nD τ) ↦[arg8.view.set]{fullShare} g8) ∗ (arg9.view.loc (c : Thread nD τ) ↦[arg9.view.set]{fullShare} g9)
    ∗ (arg10.view.loc (c : Thread nD τ) ↦[arg10.view.set]{fullShare} g10)
    ∗ (∃ g11, arg11.view.loc (c : Thread nD τ) ↦[arg11.view.set]{fullShare} g11) ∗ (∃ g12, arg12.view.loc (c : Thread nD τ) ↦[arg12.view.set]{fullShare} g12))

/-- What the first key tile's zeroing leaves in the queries' gradient. -/
theorem read_entry (g8 : Buf (Elt F) (arg8.view.loc (c : Thread nD τ))) :
    arg8.view.read (Elt F) (if hc : k0_cond1 i = 1#1 then
        arg8.view.writes (Elt F) g8 [⟨Rect.unit ![0, 0] S4096x256.size inb_S4096x256_S4096x256_0_0, k0_pay69⟩] else g8)
      = if (i 1).val = 0 then zeroQ else arg8.view.read (Elt F) g8 := by
  by_cases h : k0_cond1 i = 1#1
  · rw [dif_pos h, if_pos ((cond1_iff i).mp h), View.read_writes_full]; rfl
  · rw [dif_neg h, if_neg (fun h' => h ((cond1_iff i).mpr h'))]

set_option maxHeartbeats 1600000 in
/-- A key tile before the last: its first two query tiles, the paired loop, and the odd tile left over. -/
theorem body_mid (hi : (i 1).val < 7)
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (g8 : Buf (Elt F) (arg8.view.loc (c : Thread nD τ))) (g9 : Buf (Elt F) (arg9.view.loc (c : Thread nD τ)))
    (g10 : Buf (Elt F) (arg10.view.loc (c : Thread nD τ))) (X : Ops F)
    (hX : X = ⟨arg2.view.read (Elt F) f2, arg3.view.read (Elt F) f3, arg4.view.read (Elt F) f4, arg5.view.read (Elt F) f5, arg6.view.read (Elt F) f6, arg7.view.read (Elt F) f7⟩)
    (s : Sums F) (hs : s = point X (i 1).val (arg8.view.read (Elt F) g8)) :
    staged c arg2 arg3 arg4 arg5 arg6 arg7 arg8 arg9 arg10 arg11 arg12 f2 f3 f4 f5 f6 f7 g8 g9 g10
      ⊢ wp Idealize.ShloMosaic.frame (wpE (defs₀ (F := F)) 𝒱₀ (c : Thread nD τ) none) Set.univ
          (cc0_flash_bwd (F := F) i arg2 harg2 arg3 harg3 arg4 harg4 arg5 harg5 arg6 harg6 arg7 harg7 arg8 harg8 arg9 harg9 arg10 harg10 arg11 harg11 arg12 harg12)
          (fun _ => staged c arg2 arg3 arg4 arg5 arg6 arg7 arg8 arg9 arg10 arg11 arg12 f2 f3 f4 f5 f6 f7
            (arg8.view.rep s.dq) (arg9.view.rep (dkvOut s)) (arg10.view.rep (dkrOut s))) := by
  have h2 : ¬ k0_cond2 i = 1#1 := fun h => by have := (cond2_iff i).mp h; omega
  have h3 : k0_cond3 i = 1#1 := (cond3_iff i).mpr hi
  unfold staged
  iintro ⟨H2, H3, H4, H5, H6, H7, H8, H9, H10, ⟨%g11, H11⟩, ⟨%g12, H12⟩⟩
  sl_exec
  have e3 := arg3.view.readAt_full f3 inb_S512x256_S512x256_0_0
  have e4 := arg4.view.readAt_full f4 inb_S512x128_S512x128_0_0
  rw [← e3, ← e4] at hX
  have p0 : (i 1).val = (i 1).val ↔ True := ⟨fun _ => trivial, fun _ => rfl⟩
  have p1 : (i 1).val + 1 = (i 1).val ↔ False := ⟨fun h => by omega, False.elim⟩
  have b0 : (i 1).val < 8 := by omega
  have b1 : (i 1).val + 1 < 8 := by omega
  have q0 : arg2.view.readAt (Elt F) (Rect.unit (s := S4096x256) (k0_off4 i) S512x256.size (k0_off4_inb i h3)).toLoadRect f2 = qT (arg2.view.read (Elt F) f2) (i 1).val b0 :=
    arg2.view.readAt_unit f2 (k0_off4_inb i h3) (off4_eq i) (inb256 _ b0)
  have q1 : arg2.view.readAt (Elt F) (Rect.unit (s := S4096x256) (k0_off6 i) S512x256.size (k0_off6_inb i h3)).toLoadRect f2 = qT (arg2.view.read (Elt F) f2) ((i 1).val + 1) b1 :=
    arg2.view.readAt_unit f2 (k0_off6_inb i h3) (off6_eq i) (inb256 _ b1)
  have o0 : arg5.view.readAt (Elt F) (Rect.unit (s := S4096x128) (k0_off5 i) S512x128.size (k0_off5_inb i h3)).toLoadRect f5 = oT (arg5.view.read (Elt F) f5) (i 1).val b0 :=
    arg5.view.readAt_unit f5 (k0_off5_inb i h3) (off5_eq i) (inb128 _ b0)
  have o1 : arg5.view.readAt (Elt F) (Rect.unit (s := S4096x128) (k0_off7 i) S512x128.size (k0_off7_inb i h3)).toLoadRect f5 = oT (arg5.view.read (Elt F) f5) ((i 1).val + 1) b1 :=
    arg5.view.readAt_unit f5 (k0_off7_inb i h3) (off7_eq i) (inb128 _ b1)
  have l0 : arg6.view.readAt (Elt F) (Rect.unit (s := S1x1x4096) (k0_off8 i) S1x1x512.size (k0_off8_inb i h3)).toLoadRect f6 = rT (arg6.view.read (Elt F) f6) (i 1).val b0 :=
    arg6.view.readAt_unit f6 (k0_off8_inb i h3) (off8_eq i) (inbRow _ b0)
  have l1 : arg6.view.readAt (Elt F) (Rect.unit (s := S1x1x4096) (k0_off9 i) S1x1x512.size (k0_off9_inb i h3)).toLoadRect f6 = rT (arg6.view.read (Elt F) f6) ((i 1).val + 1) b1 :=
    arg6.view.readAt_unit f6 (k0_off9_inb i h3) (off9_eq i) (inbRow _ b1)
  have d0 : arg7.view.readAt (Elt F) (Rect.unit (s := S1x1x4096) (k0_off8 i) S1x1x512.size (k0_off8_inb i h3)).toLoadRect f7 = rT (arg7.view.read (Elt F) f7) (i 1).val b0 :=
    arg7.view.readAt_unit f7 (k0_off8_inb i h3) (off8_eq i) (inbRow _ b0)
  have d1 : arg7.view.readAt (Elt F) (Rect.unit (s := S1x1x4096) (k0_off9 i) S1x1x512.size (k0_off9_inb i h3)).toLoadRect f7 = rT (arg7.view.read (Elt F) f7) ((i 1).val + 1) b1 :=
    arg7.view.readAt_unit f7 (k0_off9_inb i h3) (off9_eq i) (inbRow _ b1)
  have en := read_entry c i arg8 g8
  rw [point, ← en] at hs
  generalize ha : (⟨arg8.view.read (Elt F) (if hc : k0_cond1 i = 1#1 then
        arg8.view.writes (Elt F) g8 [⟨Rect.unit ![0, 0] S4096x256.size inb_S4096x256_S4096x256_0_0, k0_pay69⟩] else g8), zeroK, zeroV⟩ : Sums F) = a at hs
  have s2 : steps X (i 1).val a 2 = updP False X ((i 1).val + 1) b1 (updP True X (i 1).val b0 a) := by
    rw [steps_succ X _ a 1 b1, upd_eq X _ _ _ _ p1]
    exact congrArg (updP False X _ b1) ((steps_succ X _ a 0 b0).trans (upd_eq X _ _ _ _ p0))
  have g0 : arg8.view.readAt (Elt F) (Rect.unit (s := S4096x256) (k0_off4 i) S512x256.size (k0_off4_inb i h3)).toLoadRect (if hc : k0_cond1 i = 1#1 then
        arg8.view.writes (Elt F) g8 [⟨Rect.unit ![0, 0] S4096x256.size inb_S4096x256_S4096x256_0_0, k0_pay69⟩] else g8) = gT a.dq (i 1).val b0 := by
    rw [← ha]; exact arg8.view.readAt_unit _ (k0_off4_inb i h3) (off4_eq i) (inb256 _ b0)
  have g1 : arg8.view.readAt (Elt F) (Rect.unit (s := S4096x256) (k0_off6 i) S512x256.size (k0_off6_inb i h3)).toLoadRect (if hc : k0_cond1 i = 1#1 then
        arg8.view.writes (Elt F) g8 [⟨Rect.unit ![0, 0] S4096x256.size inb_S4096x256_S4096x256_0_0, k0_pay69⟩] else g8) = gT a.dq ((i 1).val + 1) b1 := by
    rw [← ha]; exact arg8.view.readAt_unit _ (k0_off6_inb i h3) (off6_eq i) (inb256 _ b1)
  rw [wp_bind]
  iapply (wp_wand_r Idealize.ShloMosaic.frame (wpE (defs₀ (F := F)) 𝒱₀ (c : Thread nD τ) none) Set.univ)
  isplitl [H2 H5 H6 H7 H8 H11 H12]
  · iapply (loop1 c i arg2 harg2 arg3 harg3 arg4 harg4 arg5 harg5 arg6 harg6 arg7 harg7 arg8 harg8 arg9 harg9 arg10 harg10 arg11 harg11 arg12 harg12
      _ _ h3 _ f2 f5 f6 f7 X hX (steps X (i 1).val a 2))
    rw [s2]
    subst hX
    unfold held
    isplitl [H2]; · iexact H2
    isplitl [H5]; · iexact H5
    isplitl [H6]; · iexact H6
    isplitl [H7]; · iexact H7
    isplitl [H8]
    · iapply (pointsTo_rep_of_read (c : Thread nD τ) arg8 _ fullShare _ ?_) $$ H8
      rw [View.read_writes_cons_put _ _ _ _ _ (off6_eq i), View.read_writes_cons_put _ _ _ _ _ (off4_eq i), View.writes_nil, updP_dq, gT_updP, updP_dq]
      refine congr (congrArg (fun x => VecWindow.put x _ _) (congr (congrArg (fun x => VecWindow.put x _ _) ?_) ?_)) ?_
      · rw [← ha]
      · exact Eq.trans (by rfl) (dqStep_args q0 o0 l0 d0 g0)
      · exact Eq.trans (by rfl) (dqStep_args q1 o1 l1 d1 g1)
    isplitl [H11]
    · iapply (pointsTo_rep_of_read (c : Thread nD τ) arg11 _ fullShare _ ?_) $$ H11
      have e : body_mid.sl.v120 c i arg2 arg3 arg4 arg5 arg6 arg7 arg11 f2 f3 f4 f5 f6 f7 h3 = body_mid.sl.v90 c i arg2 arg3 arg4 arg5 arg6 arg7 arg11 f2 f3 f4 f5 f6 f7 h3 := by
        delta body_mid.sl.v120 body_mid.sl.H11_2
        exact View.readCov_full arg11.view inb_S512x256_S512x256_0_0 inb_S512x256_S512x256_0_0 _ _
      have e' : body_mid.sl.v85 arg11 = a.dk := (View.readCov_full arg11.view inb_S512x256_S512x256_0_0 inb_S512x256_S512x256_0_0 _ _).trans (by rw [← ha]; rfl)
      delta body_mid.sl.H11_3
      rw [View.read_writes_full, updP_dk, updP_dk]
      exact Eq.trans (by rfl) (dkStep_args q1 o1 l1 d1 (e.trans (Eq.trans (by rfl) (dkStep_args q0 o0 l0 d0 e'))))
    · iapply (pointsTo_rep_of_read (c : Thread nD τ) arg12 _ fullShare _ ?_) $$ H12
      have e : body_mid.sl.v104 c i arg2 arg3 arg4 arg5 arg6 arg12 f2 f3 f4 f5 f6 h3 = body_mid.sl.v75 c i arg2 arg3 arg4 arg5 arg6 arg12 f2 f3 f4 f5 f6 h3 := by
        delta body_mid.sl.v104 body_mid.sl.H12_2
        exact View.readCov_full arg12.view inb_S512x128_S512x128_0_0 inb_S512x128_S512x128_0_0 _ _
      have e' : body_mid.sl.v69 arg12 = a.dv := (View.readCov_full arg12.view inb_S512x128_S512x128_0_0 inb_S512x128_S512x128_0_0 _ _).trans (by rw [← ha]; rfl)
      delta body_mid.sl.H12_3
      rw [View.read_writes_full, updP_dv, updP_dv]
      exact Eq.trans (by rfl) (dvStep_args q1 o1 l1 (e.trans (Eq.trans (by rfl) (dvStep_args q0 o0 l0 e'))))
  rw [paired_steps X _ a _ (by omega)]
  unfold held
  iintro %_ ⟨H2, H5, H6, H7, H8, H11, H12⟩
  have ht : (k0_t2_loop i).trips = 0 := trips2_eq i
  by_cases h4 : k0_cond4 i = 1#1
  · sl_exec
    sl_step
    have hodd := (cond4_iff i).mp h4
    have hT : (i 1).val + (2 + 2 * ((6 - (i 1).val) / 2)) = 7 := by omega
    have b7 : (i 1).val + (2 + 2 * ((6 - (i 1).val) / 2)) < 8 := by omega
    have p7 : (i 1).val + (2 + 2 * ((6 - (i 1).val) / 2)) = (i 1).val ↔ False := ⟨fun h => by omega, False.elim⟩
    rw [show 8 - (i 1).val = 2 + 2 * ((6 - (i 1).val) / 2) + 1 by omega, steps_succ X _ a _ b7, upd_eq X _ _ _ _ p7] at hs
    have at7 : (![3584, 0] : Fin 2 → ℕ) = ![512 * ((i 1).val + (2 + 2 * ((6 - (i 1).val) / 2))), 0] := by rw [hT]
    have row7 : (![0, 0, 3584] : Fin 3 → ℕ) = ![0, 0, 512 * ((i 1).val + (2 + 2 * ((6 - (i 1).val) / 2)))] := by rw [hT]
    have q7 := arg2.view.readAt_unit f2 inb_S4096x256_S512x256_3584_0 at7 (inb256 _ b7)
    have o7 := arg5.view.readAt_unit f5 inb_S4096x128_S512x128_3584_0 at7 (inb128 _ b7)
    have l7 := arg6.view.readAt_unit f6 inb_S1x1x4096_S1x1x512_0_0_3584 row7 (inbRow _ b7)
    have d7 := arg7.view.readAt_unit f7 inb_S1x1x4096_S1x1x512_0_0_3584 row7 (inbRow _ b7)
    have g7 := arg8.view.readAt_unit (arg8.view.rep (steps X (i 1).val a (2 + 2 * ((6 - (i 1).val) / 2))).dq) inb_S4096x256_S512x256_3584_0 at7 (inb256 _ b7)
    rw [View.read_rep] at g7
    have k7 := (arg11.view.readAt_full (arg11.view.rep (steps X (i 1).val a (2 + 2 * ((6 - (i 1).val) / 2))).dk) inb_S512x256_S512x256_0_0).trans (View.read_rep _ _)
    have v7 := (arg12.view.readAt_full (arg12.view.rep (steps X (i 1).val a (2 + 2 * ((6 - (i 1).val) / 2))).dv) inb_S512x128_S512x128_0_0).trans (View.read_rep _ _)
    have hdk : body_mid.sl.v21 c i arg2 arg3 arg4 arg5 arg6 arg7 arg11 f2 f3 f4 f5 f6 f7 X a = s.dk := by
      refine (View.readCov_full arg11.view inb_S512x256_S512x256_0_0 inb_S512x256_S512x256_0_0 _ _).trans ?_
      rw [hs, updP_dk]
      subst hX
      exact Eq.trans (by rfl) (dkStep_args q7 o7 l7 d7 k7)
    have hdv : body_mid.sl.v25 c i arg2 arg3 arg4 arg5 arg6 arg12 f2 f3 f4 f5 f6 X a = s.dv := by
      refine (View.readCov_full arg12.view inb_S512x128_S512x128_0_0 inb_S512x128_S512x128_0_0 _ _).trans ?_
      rw [hs, updP_dv]
      subst hX
      exact Eq.trans (by rfl) (dvStep_args q7 o7 l7 v7)
    isplitl [H2]; · iexact H2
    isplitl [H3]; · iexact H3
    isplitl [H4]; · iexact H4
    isplitl [H5]; · iexact H5
    isplitl [H6]; · iexact H6
    isplitl [H7]; · iexact H7
    isplitl [H8]
    · iapply (pointsTo_rep_of_read (c : Thread nD τ) arg8 _ fullShare _ ?_) $$ H8
      rw [View.read_writes_cons_put _ _ _ _ _ at7, View.writes_nil, View.read_rep, hs, updP_dq]
      subst hX
      refine congrArg (fun x => VecWindow.put _ _ _ x) ?_
      exact Eq.trans (by rfl) (dqStep_args q7 o7 l7 d7 g7)
    isplitl [H9]
    · iapply (pointsTo_rep_of_read (c : Thread nD τ) arg9 _ fullShare _ ?_) $$ H9
      rw [View.read_writes_full]
      exact congr (congrArg k0_pay87 hdk) hdv
    isplitl [H10]
    · iapply (pointsTo_rep_of_read (c : Thread nD τ) arg10 _ fullShare _ ?_) $$ H10
      rw [View.read_writes_full]
      delta body_mid.sl.r
      rw [hdk]; rfl
    isplitl [H11]
    · iexists _; iexact H11
    · iexists _; iexact H12
  · sl_exec
    sl_step
    have heven : ¬ (i 1).val % 2 = 1 := fun h => h4 ((cond4_iff i).mpr h)
    rw [show 8 - (i 1).val = 2 + 2 * ((6 - (i 1).val) / 2) by omega] at hs
    have k7 := (arg11.view.readAt_full (arg11.view.rep (steps X (i 1).val a (2 + 2 * ((6 - (i 1).val) / 2))).dk) inb_S512x256_S512x256_0_0).trans (View.read_rep _ _)
    have v7 := (arg12.view.readAt_full (arg12.view.rep (steps X (i 1).val a (2 + 2 * ((6 - (i 1).val) / 2))).dv) inb_S512x128_S512x128_0_0).trans (View.read_rep _ _)
    subst hs
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iapply (pointsTo_rep_of_read (c : Thread nD τ) arg9 _ fullShare _ ?_) $$ H9
      rw [View.read_writes_full]
      exact congr (congrArg k0_pay87 k7) v7
    isplitl [H10]
    · iapply (pointsTo_rep_of_read (c : Thread nD τ) arg10 _ fullShare _ ?_) $$ H10
      rw [View.read_writes_full]
      exact congrArg (fun x => k0_pay1 (k0_pay86 x)) k7
    isplitl [H11]
    · iexists _; iexact H11
    · iexists _; iexact H12

set_option maxHeartbeats 1600000 in
/-- The last key tile: the one query tile, on the diagonal. -/
theorem body_last (hi : (i 1).val = 7)
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (g8 : Buf (Elt F) (arg8.view.loc (c : Thread nD τ))) (g9 : Buf (Elt F) (arg9.view.loc (c : Thread nD τ)))
    (g10 : Buf (Elt F) (arg10.view.loc (c : Thread nD τ))) (X : Ops F)
    (hX : X = ⟨arg2.view.read (Elt F) f2, arg3.view.read (Elt F) f3, arg4.view.read (Elt F) f4, arg5.view.read (Elt F) f5, arg6.view.read (Elt F) f6, arg7.view.read (Elt F) f7⟩)
    (s : Sums F) (hs : s = point X (i 1).val (arg8.view.read (Elt F) g8)) :
    staged c arg2 arg3 arg4 arg5 arg6 arg7 arg8 arg9 arg10 arg11 arg12 f2 f3 f4 f5 f6 f7 g8 g9 g10
      ⊢ wp Idealize.ShloMosaic.frame (wpE (defs₀ (F := F)) 𝒱₀ (c : Thread nD τ) none) Set.univ
          (cc0_flash_bwd (F := F) i arg2 harg2 arg3 harg3 arg4 harg4 arg5 harg5 arg6 harg6 arg7 harg7 arg8 harg8 arg9 harg9 arg10 harg10 arg11 harg11 arg12 harg12)
          (fun _ => staged c arg2 arg3 arg4 arg5 arg6 arg7 arg8 arg9 arg10 arg11 arg12 f2 f3 f4 f5 f6 f7
            (arg8.view.rep s.dq) (arg9.view.rep (dkvOut s)) (arg10.view.rep (dkrOut s))) := by
  have h2 : k0_cond2 i = 1#1 := (cond2_iff i).mpr hi
  have h3 : ¬ k0_cond3 i = 1#1 := fun h => by have := (cond3_iff i).mp h; omega
  unfold staged
  iintro ⟨H2, H3, H4, H5, H6, H7, H8, H9, H10, ⟨%g11, H11⟩, ⟨%g12, H12⟩⟩
  sl_exec
  sl_step
  have e3 := arg3.view.readAt_full f3 inb_S512x256_S512x256_0_0
  have e4 := arg4.view.readAt_full f4 inb_S512x128_S512x128_0_0
  rw [← e3, ← e4] at hX
  have p0 : (i 1).val = (i 1).val ↔ True := ⟨fun _ => trivial, fun _ => rfl⟩
  have b0 : (i 1).val < 8 := by omega
  have q0 : arg2.view.readAt (Elt F) (Rect.unit (s := S4096x256) (k0_off1 i) S512x256.size (k0_off1_inb i h2)).toLoadRect f2 = qT (arg2.view.read (Elt F) f2) (i 1).val b0 :=
    arg2.view.readAt_unit f2 (k0_off1_inb i h2) (off1_eq i) (inb256 _ b0)
  have o0 : arg5.view.readAt (Elt F) (Rect.unit (s := S4096x128) (k0_off2 i) S512x128.size (k0_off2_inb i h2)).toLoadRect f5 = oT (arg5.view.read (Elt F) f5) (i 1).val b0 :=
    arg5.view.readAt_unit f5 (k0_off2_inb i h2) (off2_eq i) (inb128 _ b0)
  have l0 : arg6.view.readAt (Elt F) (Rect.unit (s := S1x1x4096) (k0_off3 i) S1x1x512.size (k0_off3_inb i h2)).toLoadRect f6 = rT (arg6.view.read (Elt F) f6) (i 1).val b0 :=
    arg6.view.readAt_unit f6 (k0_off3_inb i h2) (off3_eq i) (inbRow _ b0)
  have d0 : arg7.view.readAt (Elt F) (Rect.unit (s := S1x1x4096) (k0_off3 i) S1x1x512.size (k0_off3_inb i h2)).toLoadRect f7 = rT (arg7.view.read (Elt F) f7) (i 1).val b0 :=
    arg7.view.readAt_unit f7 (k0_off3_inb i h2) (off3_eq i) (inbRow _ b0)
  have en := read_entry c i arg8 g8
  rw [point, ← en] at hs
  generalize ha : (⟨arg8.view.read (Elt F) (if hc : k0_cond1 i = 1#1 then
        arg8.view.writes (Elt F) g8 [⟨Rect.unit ![0, 0] S4096x256.size inb_S4096x256_S4096x256_0_0, k0_pay69⟩] else g8), zeroK, zeroV⟩ : Sums F) = a at hs
  rw [show 8 - (i 1).val = 0 + 1 by omega, (steps_succ X _ a 0 b0).trans (upd_eq X _ _ _ _ p0)] at hs
  have g0 : arg8.view.readAt (Elt F) (Rect.unit (s := S4096x256) (k0_off1 i) S512x256.size (k0_off1_inb i h2)).toLoadRect (if hc : k0_cond1 i = 1#1 then
        arg8.view.writes (Elt F) g8 [⟨Rect.unit ![0, 0] S4096x256.size inb_S4096x256_S4096x256_0_0, k0_pay69⟩] else g8) = gT a.dq (i 1).val b0 := by
    rw [← ha]; exact arg8.view.readAt_unit _ (k0_off1_inb i h2) (off1_eq i) (inb256 _ b0)
  have e' : body_last.sl.v71 arg11 = a.dk := (View.readCov_full arg11.view inb_S512x256_S512x256_0_0 inb_S512x256_S512x256_0_0 _ _).trans (by rw [← ha]; rfl)
  have e'' : body_last.sl.v55 arg12 = a.dv := (View.readCov_full arg12.view inb_S512x128_S512x128_0_0 inb_S512x128_S512x128_0_0 _ _).trans (by rw [← ha]; rfl)
  have hdk : body_last.sl.v21 c i arg2 arg3 arg4 arg5 arg6 arg7 arg11 f2 f3 f4 f5 f6 f7 h2 = s.dk := by
    refine (View.readCov_full arg11.view inb_S512x256_S512x256_0_0 inb_S512x256_S512x256_0_0 _ _).trans ?_
    rw [hs, updP_dk]
    subst hX
    exact Eq.trans (by rfl) (dkStep_args q0 o0 l0 d0 e')
  have hdv : body_last.sl.v25 c i arg2 arg3 arg4 arg5 arg6 arg12 f2 f3 f4 f5 f6 h2 = s.dv := by
    refine (View.readCov_full arg12.view inb_S512x128_S512x128_0_0 inb_S512x128_S512x128_0_0 _ _).trans ?_
    rw [hs, updP_dv]
    subst hX
    exact Eq.trans (by rfl) (dvStep_args q0 o0 l0 e'')
  isplitl [H2]; · iexact H2
  isplitl [H3]; · iexact H3
  isplitl [H4]; · iexact H4
  isplitl [H5]; · iexact H5
  isplitl [H6]; · iexact H6
  isplitl [H7]; · iexact H7
  isplitl [H8]
  · iapply (pointsTo_rep_of_read (c : Thread nD τ) arg8 _ fullShare _ ?_) $$ H8
    rw [View.read_writes_cons_put _ _ _ _ _ (off1_eq i), View.writes_nil, hs, updP_dq]
    subst hX
    refine congr (congrArg (fun x => VecWindow.put x _ _) ?_) ?_
    · exact congrArg Sums.dq ha
    · exact Eq.trans (by rfl) (dqStep_args q0 o0 l0 d0 g0)
  isplitl [H9]
  · iapply (pointsTo_rep_of_read (c : Thread nD τ) arg9 _ fullShare _ ?_) $$ H9
    rw [View.read_writes_full]
    exact congr (congrArg k0_pay87 hdk) hdv
  isplitl [H10]
  · iapply (pointsTo_rep_of_read (c : Thread nD τ) arg10 _ fullShare _ ?_) $$ H10
    rw [View.read_writes_full]
    delta body_last.sl.r
    rw [hdk]; rfl
  isplitl [H11]
  · iexists _; iexact H11
  · iexists _; iexact H12

/-- THE BODY: at every grid point the queries' gradient, the key and value tile's and the rotary keys' are `point`'s. -/
theorem body_run
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (g8 : Buf (Elt F) (arg8.view.loc (c : Thread nD τ))) (g9 : Buf (Elt F) (arg9.view.loc (c : Thread nD τ)))
    (g10 : Buf (Elt F) (arg10.view.loc (c : Thread nD τ))) (X : Ops F)
    (hX : X = ⟨arg2.view.read (Elt F) f2, arg3.view.read (Elt F) f3, arg4.view.read (Elt F) f4, arg5.view.read (Elt F) f5, arg6.view.read (Elt F) f6, arg7.view.read (Elt F) f7⟩)
    (s : Sums F) (hs : s = point X (i 1).val (arg8.view.read (Elt F) g8)) :
    staged c arg2 arg3 arg4 arg5 arg6 arg7 arg8 arg9 arg10 arg11 arg12 f2 f3 f4 f5 f6 f7 g8 g9 g10
      ⊢ wp Idealize.ShloMosaic.frame (wpE (defs₀ (F := F)) 𝒱₀ (c : Thread nD τ) none) Set.univ
          (cc0_flash_bwd (F := F) i arg2 harg2 arg3 harg3 arg4 harg4 arg5 harg5 arg6 harg6 arg7 harg7 arg8 harg8 arg9 harg9 arg10 harg10 arg11 harg11 arg12 harg12)
          (fun _ => staged c arg2 arg3 arg4 arg5 arg6 arg7 arg8 arg9 arg10 arg11 arg12 f2 f3 f4 f5 f6 f7
            (arg8.view.rep s.dq) (arg9.view.rep (dkvOut s)) (arg10.view.rep (dkrOut s))) := by
  by_cases hi : (i 1).val < 7
  · exact body_mid c i arg2 harg2 arg3 harg3 arg4 harg4 arg5 harg5 arg6 harg6 arg7 harg7 arg8 harg8 arg9 harg9 arg10 harg10 arg11 harg11 arg12 harg12
      hi f2 f3 f4 f5 f6 f7 g8 g9 g10 X hX s hs
  · have hlt : (i 1).val < 8 := (i 1).isLt
    exact body_last c i arg2 harg2 arg3 harg3 arg4 harg4 arg5 harg5 arg6 harg6 arg7 harg7 arg8 harg8 arg9 harg9 arg10 harg10 arg11 harg11 arg12 harg12
      (by omega) f2 f3 f4 f5 f6 f7 g8 g9 g10 X hX s hs

end Body

end Cert.Proof.KI

end
-- ==== Proof.KI.Run.lean ====
/-
  The pipeline's proof data, the body at every grid point, the run and the frame.
-/
module

public import proofs.«01_k».proof.Proof.KI.Body
public import proofs.«01_k».proof.Proof.Gen.KernelIdeal.Frame
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## What the pipeline's buffers hold after each point -/

/-- A point's key tile is its number within the head. -/
theorem coords_tile : ∀ t : Fin cfg0.N, (grid0.coords t 1).val = t.val % 8 :=
  (by decide +kernel : ∀ t : Fin grid0.N, (grid0.coords t 1).val = t.val % 8)

/-- Every point stores into the queries' gradient. -/
theorem idle6 (i : cfg0.grid.Coords) : cfg0.idle 6 i = false := by
  show (!(k0_cond1 i == 1#1) && !(k0_cond2 i == 1#1) && !(k0_cond3 i == 1#1) && !(k0_cond3 i == 1#1 && k0_cond4 i == 1#1)) = false
  have hlt : ((i : grid0.Coords) 1).val < 8 := ((i : grid0.Coords) 1).isLt
  by_cases h : ((i : grid0.Coords) 1).val = 7
  · rw [(cond2_iff i).mpr h]; simp
  · rw [(cond3_iff i).mpr (by omega)]; simp

/-- The operands a point reads. -/
def opsAt (c : Dev nD) (t : Fin cfg0.N) : Ops F :=
  ⟨iblk m c 0 t, iblk m c 1 t, iblk m c 2 t, iblk m c 3 t, iblk m c 4 t, iblk m c 5 t⟩

/-- The sums after point `n`: the queries' gradient goes on from the point before, unless the key tile is a head's first. -/
def sumsAt (c : Dev nD) : (n : ℕ) → n < cfg0.N → Sums F
  | 0, h => point (opsAt m c ⟨0, h⟩) 0 zeroQ
  | n + 1, h => point (opsAt m c ⟨n + 1, h⟩) ((n + 1) % 8) (sumsAt c n (by omega)).dq

/-- The arrays as the region finds them; after a point each operand's buffer at its block and each gradient's at the sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (sumsAt m c t.val t.isLt).dq
    | ⟨7, _⟩ => dkvOut (sumsAt m c t.val t.isLt)
    | ⟨8, _⟩ => dkrOut (sumsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (sumsAt m c t.val t.isLt).dq := by dsimp only [dats]
theorem after0_7 (c : Dev nD) (t : Fin cfg0.N) : (dats m 0 c).after 7 t = dkvOut (sumsAt m c t.val t.isLt) := by dsimp only [dats]
theorem after0_8 (c : Dev nD) (t : Fin cfg0.N) : (dats m 0 c).after 8 t = dkrOut (sumsAt m c t.val t.isLt) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- A head's first key tile does not look at what the queries' gradient held. -/
theorem point_first (X : Ops F) (g g' : Vec F S4096x256 .f32) : point X 0 g = point X 0 g' := by
  unfold point; rw [if_pos rfl, if_pos rfl]

/-- The sums after a point are the point's, from what the queries' gradient holds before it. -/
theorem sums_of_before (c : Dev nD) (t : Fin cfg0.N) (d) :
    sumsAt m c t.val t.isLt = point (opsAt m c t) (t.val % 8) ((dats m 0 c).before 6 t d) := by
  obtain ⟨n, hn⟩ := t
  match n, hn with
  | 0, hn => exact point_first _ _ _
  | n + 1, hn =>
    show point _ ((n + 1) % 8) _ = point _ ((n + 1) % 8) _
    by_cases h : (n + 1) % 8 = 0
    · rw [h]; exact point_first _ _ _
    · have hf : (cfg0.win 6).flush ⟨n, Nat.lt_of_succ_lt hn⟩ = false := by
        rw [Bool.eq_false_iff]; intro hc
        have := (flush0_6 ⟨n, Nat.lt_of_succ_lt hn⟩).mp hc
        simp only at this; omega
      rw [(dats m 0 c).before_out_kept 6 rfl ⟨n + 1, hn⟩ (Nat.succ_ne_zero n) hf (fun _ => idle6 _) (by intro _ _; rfl) d, after0_6]
      rfl

/-! ## The body at a point -/

section Owned

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x1x4096 .f32) (harg6 : arg6.IsWhole) (arg7 : Memref sig .tc .vmem S1x1x4096 .f32) (harg7 : arg7.IsWhole)
  (arg8 : Memref sig .tc .vmem S4096x256 .f32) (harg8 : arg8.IsWhole) (arg9 : Memref sig .tc .vmem S512x256 .bf16) (harg9 : arg9.IsWhole)
  (arg10 : Memref sig .tc .vmem S512x128 .f32) (harg10 : arg10.IsWhole) (arg11 : Memref sig .tc .vmem S512x256 .f32) (harg11 : arg11.IsWhole)
  (arg12 : Memref sig .tc .vmem S512x128 .f32) (harg12 : arg12.IsWhole)

/-- The eleven buffers of the body, by what is read in them. -/
def owned (X : Ops F) (g : Vec F S4096x256 .f32) (kv : Vec F S512x256 .bf16) (kr : Vec F S512x128 .f32) : sProp 𝕄 :=
  iprop(owns (c : Thread nD τ) arg2 fullShare X.q ∗ owns (c : Thread nD τ) arg3 fullShare X.k ∗ owns (c : Thread nD τ) arg4 fullShare X.r
    ∗ owns (c : Thread nD τ) arg5 fullShare X.o ∗ owns (c : Thread nD τ) arg6 fullShare X.l ∗ owns (c : Thread nD τ) arg7 fullShare X.d
    ∗ owns (c : Thread nD τ) arg8 fullShare g ∗ owns (c : Thread nD τ) arg9 fullShare kv ∗ owns (c : Thread nD τ) arg10 fullShare kr
    ∗ (∃ g11, arg11.view.loc (c : Thread nD τ) ↦[arg11.view.set]{fullShare} g11) ∗ (∃ g12, arg12.view.loc (c : Thread nD τ) ↦[arg12.view.set]{fullShare} g12))

/-- `body_run`, by what is read in the buffers. -/
theorem body_owned (X : Ops F) (g : Vec F S4096x256 .f32) (kv : Vec F S512x256 .bf16) (kr : Vec F S512x128 .f32)
    (s : Sums F) (hs : s = point X (i 1).val g) :
    owned c arg2 arg3 arg4 arg5 arg6 arg7 arg8 arg9 arg10 arg11 arg12 X g kv kr
      ⊢ wp Idealize.ShloMosaic.frame (wpE (defs₀ (F := F)) 𝒱₀ (c : Thread nD τ) none) Set.univ
          (cc0_flash_bwd (F := F) i arg2 harg2 arg3 harg3 arg4 harg4 arg5 harg5 arg6 harg6 arg7 harg7 arg8 harg8 arg9 harg9 arg10 harg10 arg11 harg11 arg12 harg12)
          (fun _ => owned c arg2 arg3 arg4 arg5 arg6 arg7 arg8 arg9 arg10 arg11 arg12 X s.dq (dkvOut s) (dkrOut s)) := by
  unfold owned owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, H11, H12⟩
  have hX : X = ⟨arg2.view.read (Elt F) f2, arg3.view.read (Elt F) f3, arg4.view.read (Elt F) f4, arg5.view.read (Elt F) f5, arg6.view.read (Elt F) f6, arg7.view.read (Elt F) f7⟩ := by
    rw [h2, h3, h4, h5, h6, h7]
  rw [← h8] at hs
  iapply (wp_wand_r Idealize.ShloMosaic.frame (wpE (defs₀ (F := F)) 𝒱₀ (c : Thread nD τ) none) Set.univ)
  isplitl [H2 H3 H4 H5 H6 H7 H8 H9 H10 H11 H12]
  · iapply (body_run c i arg2 harg2 arg3 harg3 arg4 harg4 arg5 harg5 arg6 harg6 arg7 harg7 arg8 harg8 arg9 harg9 arg10 harg10 arg11 harg11 arg12 harg12
      f2 f3 f4 f5 f6 f7 f8 f9 f10 X hX s hs)
    unfold staged
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · unfold staged
    iintro %_ ⟨H2, H3, H4, H5, H6, H7, H8, H9, H10, H11, H12⟩
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    isplitl [H7]; · iexists f7; isplitr; · ipureintro; exact h7
                    iexact H7
    isplitl [H8]; · iexists _; isplitr; · ipureintro; exact View.read_rep _ _
                    iexact H8
    isplitl [H9]; · iexists _; isplitr; · ipureintro; exact View.read_rep _ _
                    iexact H9
    isplitl [H10]; · iexists _; isplitr; · ipureintro; exact View.read_rep _ _
                     iexact H10
    isplitl [H11]; · iexact H11
    iexact H12

end Owned

/-- The scratch memory is the two accumulators of the key tile. -/
theorem scratch_owned (c : Dev nD) :
    (Pipeline.ΦA (U := UR sig nD τ) (Val := Elt F) spec0 c : sProp 𝕄)
      = iprop(((∃ f, (Memref.whole cc0_scratch0).view.loc (c : Thread nD τ) ↦[(Memref.whole cc0_scratch0).view.set]{fullShare} f)
          ∗ (∃ f, (Memref.whole cc0_scratch1).view.loc (c : Thread nD τ) ↦[(Memref.whole cc0_scratch1).view.set]{fullShare} f)) ∗ ∃ r, prngReg c r) := by
  unfold Pipeline.ΦA
  rw [scopedRest0_eq]
  simp only [Memref.view_whole, View.set_whole]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
theorem sound_body (c : Dev nD) (t : Fin cfg0.N) :
    bodyPre m c t ⊢ wp Idealize.ShloMosaic.frame (wpE (defs₀ (F := F)) 𝒱₀ c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, scratch_owned]
  iintro ⟨⟨⟨H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hs : sumsAt m c t.val t.isLt = point (opsAt m c t) (grid0.coords t 1).val ((dats m 0 c).before 6 t d6) := by
    rw [coords_tile]; exact sums_of_before m c t d6
  iapply (wp_wand_r Idealize.ShloMosaic.frame (wpE (defs₀ (F := F)) 𝒱₀ (c : Thread nD τ) none) Set.univ)
  isplitl [H0 H1 H2 H3 H4 H5 H6 H7 H8 H11 H12]
  · iapply (body_owned c (grid0.coords t) _ _ _ _ _ _ _ _ _ _ _ _ _ _ _ _ _ _ _ _ _ _ (opsAt m c t) _ _ _ _ hs)
    unfold owned
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    iexact H12
  · unfold owned
    iintro %_ ⟨H0, H1, H2, H3, H4, H5, H6, H7, H8, H11, H12⟩
    isplitl [H11 H12 Hr]
    · isplitl [H11 H12]
      · isplitl [H11]; · iexact H11
        iexact H12
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  rw [idle6]
  exact triple_restated (sound_body m c t) rfl .rfl fun _ => .rfl

/-! ## The run and the frame -/

set_option backward.isDefEq.respectTransparency.types false in
/-- Every run ends, with the pipeline's arrays at what the proof data give and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.KI

end
-- ==== Proof.Attn.Math.lean ====
/-
  The attention gradient in real numbers: one head's probabilities, the gradient of its scores and the three sums
  the kernel and the reference compute, over arrays of reals read at natural-number positions.
-/
module

public import Idealize.ShloMosaic.PureOps.Ideal
public import Idealize.ShloMosaic.Lib.IdealHost
public import Idealize.ShloMosaic.Lib.WordCmp

@[expose] public section

noncomputable section

namespace Cert.Proof.Attn

open Idealize.ShloMosaic Finset

/-- The scale of the scores, the value of its float constant. -/
def scl : ℝ := 4843165 / 67108864
theorem scl_ne : scl ≠ 0 := by unfold scl; norm_num
theorem log2_pos : 0 < Real.log 2 := Real.log_pos (by norm_num)
theorem log2_ne : Real.log 2 ≠ 0 := log2_pos.ne'

/-- The arguments and the rows' maxima, as reals: tokens, heads, lanes. -/
structure In where
  q : ℕ → ℕ → ℕ → ℝ
  kv : ℕ → ℕ → ℕ → ℝ
  r : ℕ → ℕ → ℝ
  ct : ℕ → ℕ → ℕ → ℝ
  M : ℕ → ℕ → ℝ

variable (X : In) (h : ℕ)

/-- The unscaled score of query `i` and key `j`. -/
def raw (i j : ℕ) : ℝ := ∑ d ∈ range 128, X.q i h d * X.kv j h d + ∑ d ∈ range 64, X.q i h (128 + d) * X.r j d
/-- The exponential of a score less its row's maximum; a key after the query has none. -/
def ex (i j : ℕ) : ℝ := if j ≤ i then Real.exp (raw X h i j * scl - X.M h i) else 0
/-- A row's sum of exponentials. -/
def den (i : ℕ) : ℝ := ∑ j ∈ range 4096, ex X h i j
/-- The probabilities. -/
def pr (i j : ℕ) : ℝ := ex X h i j / den X h i
/-- The gradient of the probabilities. -/
def dP (i j : ℕ) : ℝ := ∑ d ∈ range 128, X.ct i h d * X.kv j h (128 + d)
/-- A row's product of the output and its cotangent. -/
def delta (i : ℕ) : ℝ := ∑ j ∈ range 4096, pr X h i j * dP X h i j
/-- The gradient of the unscaled scores. -/
def ds (i j : ℕ) : ℝ := pr X h i j * (dP X h i j - delta X h i) * scl
/-- A key's 256 lanes: the head's, the shared rotary ones, zeros. -/
def keyR (j d : ℕ) : ℝ := if d < 128 then X.kv j h d else if d < 192 then X.r j (d - 128) else 0
/-- A query's 256 lanes. -/
def qryR (i d : ℕ) : ℝ := if d < 192 then X.q i h d else 0
/-- The three gradients. -/
def gq (i d : ℕ) : ℝ := ∑ j ∈ range 4096, ds X h i j * keyR X h j d
def gk (j d : ℕ) : ℝ := ∑ i ∈ range 4096, ds X h i j * qryR X h i d
def gv (j d : ℕ) : ℝ := ∑ i ∈ range 4096, pr X h i j * X.ct i h d

theorem ex_nonneg (i j : ℕ) : 0 ≤ ex X h i j := by
  unfold ex; split
  · exact (Real.exp_pos _).le
  · exact le_refl _

theorem den_pos (i : ℕ) : 0 < den X h i := by
  refine lt_of_lt_of_le ?_ (single_le_sum (f := fun j => ex X h i j) (fun j _ => ex_nonneg X h i j) (mem_range.2 (show 0 < 4096 by norm_num)))
  show 0 < ex X h i 0
  unfold ex
  rw [if_pos (Nat.zero_le _)]
  exact Real.exp_pos _

theorem pr_later {i j : ℕ} (hj : i < j) : pr X h i j = 0 := by
  unfold pr ex; rw [if_neg (by omega), zero_div]

theorem ds_later {i j : ℕ} (hj : i < j) : ds X h i j = 0 := by
  unfold ds; rw [pr_later X h hj, zero_mul, zero_mul]

/-- Two to the score over `log 2` less the row's log-sum over `log 2` is the probability. -/
theorem rpow_pr {i j : ℕ} (hj : j ≤ i) :
    (2 : ℝ) ^ (raw X h i j * (scl / Real.log 2) - (X.M h i + Real.log (den X h i)) / Real.log 2) = pr X h i j := by
  have h1 : (2 : ℝ) ^ (raw X h i j * (scl / Real.log 2) - (X.M h i + Real.log (den X h i)) / Real.log 2)
      = Real.exp (raw X h i j * scl - X.M h i - Real.log (den X h i)) := by
    rw [Real.rpow_def_of_pos (by norm_num)]
    congr 1
    have := log2_ne
    field_simp
    ring
  rw [h1, Real.exp_sub _ (Real.log _), Real.exp_log (den_pos X h i)]
  unfold pr ex
  rw [if_pos hj]

/-- The contraction over the 256 padded lanes is the score. -/
theorem sum_keyR (i j : ℕ) (c : ℝ) : ∑ d ∈ range 256, keyR X h j d * (qryR X h i d * c) = raw X h i j * c := by
  have e : (256 : ℕ) = 128 + 64 + 64 := rfl
  rw [e, sum_range_add, sum_range_add]
  have a1 : ∑ d ∈ range 128, keyR X h j d * (qryR X h i d * c) = (∑ d ∈ range 128, X.q i h d * X.kv j h d) * c := by
    rw [sum_mul]
    refine sum_congr rfl fun d hd => ?_
    have := mem_range.1 hd
    unfold keyR qryR
    rw [if_pos this, if_pos (by omega)]; ring
  have a2 : ∑ d ∈ range 64, keyR X h j (128 + d) * (qryR X h i (128 + d) * c) = (∑ d ∈ range 64, X.q i h (128 + d) * X.r j d) * c := by
    rw [sum_mul]
    refine sum_congr rfl fun d hd => ?_
    have := mem_range.1 hd
    unfold keyR qryR
    rw [if_neg (by omega), if_pos (by omega), if_pos (by omega), Nat.add_sub_cancel_left]; ring
  have a3 : ∑ d ∈ range 64, keyR X h j (128 + 64 + d) * (qryR X h i (128 + 64 + d) * c) = 0 := by
    refine sum_eq_zero fun d _ => ?_
    unfold keyR
    rw [if_neg (by omega), if_neg (by omega), zero_mul]
  rw [a1, a2, a3]; unfold raw; ring

/-- The output's product with its cotangent, summed over the lanes first, is the row's `delta`. -/
theorem sum_out (i : ℕ) :
    ∑ d ∈ range 128, X.ct i h d * ∑ j ∈ range 4096, X.kv j h (128 + d) * pr X h i j = delta X h i := by
  unfold delta dP
  simp only [mul_sum]
  rw [sum_comm]
  exact sum_congr rfl fun j _ => sum_congr rfl fun d _ => by ring

/-- The reference's gradient of a score, through the quotient's two derivatives. -/
theorem ds_quot (i j : ℕ) :
    (dP X h i j / den X h i + -(∑ k ∈ range 4096, dP X h i k * (1 / (den X h i * den X h i)) * ex X h i k)) * ex X h i j * scl = ds X h i j := by
  have hd := (den_pos X h i).ne'
  have e : ∑ k ∈ range 4096, dP X h i k * (1 / (den X h i * den X h i)) * ex X h i k = delta X h i / den X h i := by
    unfold delta pr
    rw [sum_div]
    refine sum_congr rfl fun k _ => ?_
    field_simp
  rw [e]
  unfold ds pr
  field_simp
  ring

/-- The scaled and unscaled sum over the queries. -/
theorem gk_unscale (j d : ℕ) :
    (∑ i ∈ range 4096, ds X h i j * (qryR X h i d * (scl / Real.log 2))) * ((4843165 / 67108864)⁻¹ * Real.log 2) = gk X h j d := by
  unfold gk
  rw [sum_mul]
  refine sum_congr rfl fun i _ => ?_
  have := log2_ne
  unfold scl
  field_simp

/-! ## Sums over tiles of 512 -/

/-- A sum over 4096 positions whose terms vanish before tile `a`, tile by tile from there. -/
theorem sum_from (f : ℕ → ℝ) (a n : ℕ) (ha : a + n = 8) (hz : ∀ i, i < 512 * a → f i = 0) :
    ∑ m ∈ range n, ∑ x ∈ range 512, f (512 * (a + m) + x) = ∑ i ∈ range 4096, f i := by
  have h1 : ∀ n, ∑ m ∈ range n, ∑ x ∈ range 512, f (512 * (a + m) + x) = ∑ i ∈ range (512 * n), f (512 * a + i) := by
    intro n
    induction n with
    | zero => simp
    | succ n ih =>
      rw [sum_range_succ, ih, Nat.mul_succ, sum_range_add]
      refine congrArg (_ + ·) (sum_congr rfl fun x _ => congrArg f ?_)
      rw [Nat.mul_add, Nat.add_assoc]
  rw [h1, show (4096 : ℕ) = 512 * a + 512 * n by omega, sum_range_add, sum_eq_zero (s := range (512 * a)) fun i hi => hz i (mem_range.1 hi), zero_add]

/-- A sum over 4096 positions whose terms vanish from tile `a + 1` on, tile by tile. -/
theorem sum_upto (f : ℕ → ℝ) (a : ℕ) (ha : a < 8) (hz : ∀ i, 512 * (a + 1) ≤ i → f i = 0) :
    ∑ m ∈ range (a + 1), ∑ x ∈ range 512, f (512 * m + x) = ∑ i ∈ range 4096, f i := by
  have h1 : ∀ n, ∑ m ∈ range n, ∑ x ∈ range 512, f (512 * m + x) = ∑ i ∈ range (512 * n), f i := by
    intro n
    induction n with
    | zero => simp
    | succ n ih => rw [sum_range_succ, ih, Nat.mul_succ, sum_range_add]
  rw [h1, show (4096 : ℕ) = 512 * (a + 1) + (4096 - 512 * (a + 1)) by omega, sum_range_add]
  rw [sum_eq_zero (s := range (4096 - _)) fun i _ => hz _ (Nat.le_add_right _ _), add_zero]

/-! ## Reals among the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A sum over `Fin n` of reals at the positions. -/
theorem coe_sum_fin (n : ℕ) (g : Fin n → EReal) (f : ℕ → ℝ) (hg : ∀ k : Fin n, g k = ((f k.val : ℝ) : EReal)) :
    ∑ k : Fin n, g k = ((∑ k ∈ range n, f k : ℝ) : EReal) := by
  rw [sum_range, ← coe_sum]
  exact sum_congr rfl fun k _ => hg k

theorem ofBits_scl : Ideal.ofBits .f32 0x3D93CD3A#32 = ((scl : ℝ) : EReal) := by
  unfold scl
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_bot : Ideal.ofBits .f32 0xFF800000#32 = ⊥ := by
  simp [Ideal.ofBits, Ideal.ieee]
theorem div_real (a b : ℝ) (hb : b ≠ 0) : Ideal.div (a : EReal) (b : EReal) = ((a / b : ℝ) : EReal) := by
  rw [Ideal.div_coe hb, ← EReal.coe_mul]; congr 1; rw [mul_one_div]
theorem log_real {a : ℝ} (ha : 0 < a) : Ideal.log (a : EReal) = ((Real.log a : ℝ) : EReal) := by
  rw [Ideal.log_coe, if_neg (not_le.2 ha)]

/-- The comparison of two positions, as the words that hold them. -/
theorem sle_nat (b a : ℕ) (hb : b < 4096) (ha : a < 4096) :
    IntOp.cmpi CmpIPredicate.sle (BitVec.ofNat 32 b) (BitVec.ofNat 32 a) = if b ≤ a then 1#1 else 0#1 := by
  rw [WordCmp.cmpi_sle_ofNat (by omega) (by omega)]
  by_cases h : b ≤ a
  · simp [h]
  · simp [h]

end Cert.Proof.Attn

end
-- ==== Proof.Attn.TileAt.lean ====
/-
  One tile of the kernel read at an index: its probabilities, the gradient of its scores, and what it adds to each sum.
-/
module

public import proofs.«01_k».proof.Proof.KI.Tiles
public import proofs.«01_k».proof.Proof.Attn.Math
public import Idealize.ShloMosaic.Lib.Pointwise

@[expose] public section

set_option maxRecDepth 16384

noncomputable section

namespace Cert.Proof.Attn

open Cert.KernelIdeal Cert.KernelIdeal.Gen Idealize.ShloMosaic Idealize.ShloMosaic.TcCoe Cert.Proof.KI

/-- The tile's operands as reals: queries from `qb`, keys from `kb`. -/
structure Blocks (X : In) (h qb kb : ℕ) (K : Vec Ideal S512x256 .bf16) (R : Vec Ideal S512x128 .bf16) (q : Vec Ideal S512x256 .bf16)
    (o : Vec Ideal S512x128 .bf16) (l d : Vec Ideal S1x1x512 .f32) : Prop where
  K : ∀ (b : Fin 512) (e : Fin 256), K (ix2 b e) = ((X.kv (kb + b.val) h e.val : ℝ) : EReal)
  R : ∀ (b : Fin 512) (e : Fin 128), R (ix2 b e) = (((if e.val < 64 then X.r (kb + b.val) e.val else 0 : ℝ)) : EReal)
  q : ∀ (a : Fin 512) (e : Fin 256), q (ix2 a e) = ((qryR X h (qb + a.val) e.val * (scl / Real.log 2) : ℝ) : EReal)
  o : ∀ (a : Fin 512) (e : Fin 128), o (ix2 a e) = ((X.ct (qb + a.val) h e.val : ℝ) : EReal)
  l : ∀ a : Fin 512, l (ix3 0 0 a) = (((X.M h (qb + a.val) + Real.log (den X h (qb + a.val))) / Real.log 2 : ℝ) : EReal)
  d : ∀ a : Fin 512, d (ix3 0 0 a) = ((delta X h (qb + a.val) : ℝ) : EReal)

variable {X : In} {h qb kb : ℕ} {K : Vec Ideal S512x256 .bf16} {R : Vec Ideal S512x128 .bf16} {q : Vec Ideal S512x256 .bf16}
    {o : Vec Ideal S512x128 .bf16} {l d : Vec Ideal S1x1x512 .f32} (B : Blocks X h qb kb K R q o l d)
  {diag : Prop} [Decidable diag]
include B

theorem keys_at (b : Fin 512) (e : Fin 256) : keys K R (ix2 b e) = ((keyR X h (kb + b.val) e.val : ℝ) : EReal) := by
  pointwise [keys]
  unfold keyR
  by_cases he : e.val < 128
  · rw [dif_pos he, if_pos he]; exact B.K b _
  · rw [dif_neg he, if_neg he]
    refine (B.R b ⟨e.val - 128, by omega⟩).trans (congrArg (fun x : ℝ => (x : EReal)) ?_)
    by_cases h2 : e.val < 192
    · rw [if_pos h2]; exact if_pos (show e.val - 128 < 64 by omega)
    · rw [if_neg h2]; exact if_neg (show ¬ e.val - 128 < 64 by omega)

/-- The product of keys and queries, before the mask. -/
theorem sum_at (b a : Fin 512) : ∑ k : Fin 256, (keys K R : FVec Ideal S512x256 .bf16) (ix2 b k) * (q : FVec Ideal S512x256 .bf16) (ix2 a k)
    = ((raw X h (qb + a.val) (kb + b.val) * (scl / Real.log 2) : ℝ) : EReal) := by
  rw [← sum_keyR]
  refine coe_sum_fin 256 _ (fun k => keyR X h (kb + b.val) k * (qryR X h (qb + a.val) k * (scl / Real.log 2))) fun k => ?_
  rw [keys_at B b k]
  refine (congrArg _ (B.q a k)).trans ?_
  rw [← EReal.coe_mul]

/-- The diagonal tile is masked where the key is after the query; off it, every key is before every query. -/
theorem scores_at (hd : diag → qb = kb) (ho : ¬ diag → kb + 512 ≤ qb) (b a : Fin 512) :
    scores diag K R q (ix2 b a) = if kb + b.val ≤ qb + a.val then ((raw X h (qb + a.val) (kb + b.val) * (scl / Real.log 2) : ℝ) : EReal) else ⊥ := by
  unfold scores
  have S := sum_at B b a
  generalize keys K R = KR at S
  by_cases hg : diag
  · rw [if_pos hg]
    pointwise []
    rw [S, ofBits_bot]
    rw [sle_nat b.val a.val (by omega) (by omega), hd hg]
    by_cases hba : b.val ≤ a.val
    · rw [if_pos hba, if_pos (by omega)]; rfl
    · rw [if_neg hba, if_neg (by omega)]; rfl
  · rw [if_neg hg]
    pointwise []
    have := ho hg
    rw [if_pos (by omega)]
    exact S

theorem probs_at (hd : diag → qb = kb) (ho : ¬ diag → kb + 512 ≤ qb) (b a : Fin 512) :
    probs diag K R q l (ix2 b a) = ((pr X h (qb + a.val) (kb + b.val) : ℝ) : EReal) := by
  unfold probs
  have S := scores_at B hd ho b a
  generalize scores diag K R q = T at S
  pointwise []
  rw [S]
  refine (congrArg (fun y : EReal => Ideal.exp2 (_ - y)) (B.l a)).trans ?_
  by_cases hba : kb + b.val ≤ qb + a.val
  · rw [if_pos hba, ← EReal.coe_sub, Ideal.exp2_coe]
    exact congrArg (fun x : ℝ => (x : EReal)) (rpow_pr X h hba)
  · rw [if_neg hba, EReal.bot_sub, Ideal.exp2_bot, pr_later X h (by omega), EReal.coe_zero]

theorem dscores_at (hd : diag → qb = kb) (ho : ¬ diag → kb + 512 ≤ qb) (b a : Fin 512) :
    dscores diag K R q o l d (ix2 b a) = ((ds X h (qb + a.val) (kb + b.val) : ℝ) : EReal) := by
  unfold dscores
  have S := probs_at B hd ho b a
  generalize probs diag K R q l = T at S
  pointwise []
  have e : ∑ x : Fin 128, (K : FVec Ideal S512x256 .bf16) (ix2 b ⟨128 + x.val, by omega⟩) * (o : FVec Ideal S512x128 .bf16) (ix2 a x) = ((dP X h (qb + a.val) (kb + b.val) : ℝ) : EReal) := by
    refine coe_sum_fin 128 _ (fun k => X.ct (qb + a.val) h k * X.kv (kb + b.val) h (128 + k)) fun k => ?_
    refine (congrArg₂ (fun x y : EReal => x * y) (B.K b ⟨128 + k.val, by omega⟩) (B.o a k)).trans ?_
    rw [← EReal.coe_mul, mul_comm]
  rw [S, ofBits_scl]
  refine (congrArg₂ (fun x y : EReal => _ * (x - y) * _) e (B.d a)).trans ?_
  rw [← EReal.coe_sub, ← EReal.coe_mul, ← EReal.coe_mul]
  rfl

theorem dq_at (hd : diag → qb = kb) (ho : ¬ diag → kb + 512 ≤ qb) (g : Vec Ideal S512x256 .f32) (a : Fin 512) (e : Fin 256) (x : ℝ)
    (hg : g (ix2 a e) = ((x : ℝ) : EReal)) : dqStep diag K R q o l d g (ix2 a e)
      = ((x + ∑ b ∈ Finset.range 512, ds X h (qb + a.val) (kb + b) * keyR X h (kb + b) e.val : ℝ) : EReal) := by
  unfold dqStep
  have S := fun b => dscores_at B hd ho b a
  have T := fun b => keys_at B b e
  generalize dscores diag K R q o l d = S' at S
  generalize keys K R = KR at T
  pointwise []
  rw [EReal.coe_add]
  refine congrArg₂ (fun x y : EReal => x + y) hg ?_
  refine coe_sum_fin 512 _ (fun b => ds X h (qb + a.val) (kb + b) * keyR X h (kb + b) e.val) fun b => ?_
  rw [S b, T b, ← EReal.coe_mul]

theorem dk_at (hd : diag → qb = kb) (ho : ¬ diag → kb + 512 ≤ qb) (g : Vec Ideal S512x256 .f32) (b : Fin 512) (e : Fin 256) (x : ℝ)
    (hg : g (ix2 b e) = ((x : ℝ) : EReal)) : dkStep diag K R q o l d g (ix2 b e)
      = ((x + ∑ a ∈ Finset.range 512, ds X h (qb + a) (kb + b.val) * (qryR X h (qb + a) e.val * (scl / Real.log 2)) : ℝ) : EReal) := by
  unfold dkStep
  have S := fun a => dscores_at B hd ho b a
  generalize dscores diag K R q o l d = S' at S
  pointwise []
  rw [EReal.coe_add]
  refine congrArg₂ (fun x y : EReal => x + y) hg ?_
  refine coe_sum_fin 512 _ (fun a => ds X h (qb + a) (kb + b.val) * (qryR X h (qb + a) e.val * (scl / Real.log 2))) fun a => ?_
  rw [S a]
  refine (congrArg (fun y : EReal => _ * y) (B.q a e)).trans ?_
  rw [← EReal.coe_mul]

theorem dv_at (hd : diag → qb = kb) (ho : ¬ diag → kb + 512 ≤ qb) (g : Vec Ideal S512x128 .f32) (b : Fin 512) (e : Fin 128) (x : ℝ)
    (hg : g (ix2 b e) = ((x : ℝ) : EReal)) : dvStep diag K R q o l g (ix2 b e)
      = ((x + ∑ a ∈ Finset.range 512, pr X h (qb + a) (kb + b.val) * X.ct (qb + a) h e.val : ℝ) : EReal) := by
  unfold dvStep
  have S := fun a => probs_at B hd ho b a
  generalize probs diag K R q l = S' at S
  pointwise []
  rw [EReal.coe_add]
  refine congrArg₂ (fun x y : EReal => x + y) hg ?_
  refine coe_sum_fin 512 _ (fun a => pr X h (qb + a) (kb + b.val) * X.ct (qb + a) h e.val) fun a => ?_
  rw [S a]
  refine (congrArg (fun y : EReal => _ * y) (B.o a e)).trans ?_
  rw [← EReal.coe_mul]

omit B
theorem dkv_at (s : Sums Ideal) (b : Fin 512) (e : Fin 256) (fk fv : ℕ → ℝ) (hk : ∀ e : Fin 256, s.dk (ix2 b e) = ((fk e.val : ℝ) : EReal))
    (hv : ∀ e : Fin 128, s.dv (ix2 b e) = ((fv e.val : ℝ) : EReal)) :
    dkvOut s (ix2 b e) = (((if e.val < 128 then fk e.val * ((4843165 / 67108864)⁻¹ * Real.log 2) else fv (e.val - 128) : ℝ)) : EReal) := by
  pointwise [dkvOut, k0_pay87, k0_pay86]
  have u : (Named.named κ "unscale" 1092201511#32 : Ideal .f32) = (((4843165 / 67108864)⁻¹ * Real.log 2 : ℝ) : EReal) := rfl
  by_cases he : e.val < 128
  · rw [dif_pos he, if_pos he, u, EReal.coe_mul]
    exact congrArg (fun y : EReal => y * _) (hk e)
  · rw [dif_neg he, if_neg he]
    exact hv ⟨e.val - 128, by omega⟩
theorem dkr_at (s : Sums Ideal) (b : Fin 512) (e : Fin 128) (fk : ℕ → ℝ) (hk : ∀ e : Fin 256, s.dk (ix2 b e) = ((fk e.val : ℝ) : EReal)) :
    dkrOut s (ix2 b e) = ((fk (128 + e.val) * ((4843165 / 67108864)⁻¹ * Real.log 2) : ℝ) : EReal) := by
  pointwise [dkrOut, k0_pay1, k0_pay86]
  have u : (Named.named κ "unscale" 1092201511#32 : Ideal .f32) = (((4843165 / 67108864)⁻¹ * Real.log 2 : ℝ) : EReal) := rfl
  rw [u, EReal.coe_mul]
  exact congrArg (fun y : EReal => y * _) (hk ⟨128 + e.val, by omega⟩)

end Cert.Proof.Attn

end
-- ==== Proof.Attn.SumsAt.lean ====
/-
  The sums of the query tiles of one key tile, and of a head's key tiles, as sums over all positions.
-/
module

public import proofs.«01_k».proof.Proof.Attn.TileAt

@[expose] public section

set_option maxRecDepth 16384

noncomputable section

namespace Cert.Proof.Attn

open Cert.KernelIdeal Cert.KernelIdeal.Gen Idealize.ShloMosaic Idealize.ShloMosaic.TcCoe Cert.Proof.KI Finset

/-- The operands of head `h` and key tile `ki`. -/
structure OpsIs (X : In) (h ki : ℕ) (O : Ops Ideal) : Prop where
  q : ∀ (i : Fin 4096) (e : Fin 256), O.q (ix2 i e) = ((qryR X h i.val e.val * (scl / Real.log 2) : ℝ) : EReal)
  k : ∀ (b : Fin 512) (e : Fin 256), O.k (ix2 b e) = ((X.kv (512 * ki + b.val) h e.val : ℝ) : EReal)
  r : ∀ (b : Fin 512) (e : Fin 128), O.r (ix2 b e) = (((if e.val < 64 then X.r (512 * ki + b.val) e.val else 0 : ℝ)) : EReal)
  o : ∀ (i : Fin 4096) (e : Fin 128), O.o (ix2 i e) = ((X.ct i.val h e.val : ℝ) : EReal)
  l : ∀ i : Fin 4096, O.l (ix3 0 0 i) = (((X.M h i.val + Real.log (den X h i.val)) / Real.log 2 : ℝ) : EReal)
  d : ∀ i : Fin 4096, O.d (ix3 0 0 i) = ((delta X h i.val : ℝ) : EReal)

theorem win2 {α : Type} {A B a b : ℕ} (x : (⟨2, ![A, B]⟩ : Shape).Idx → α) (o0 : ℕ) (inb : ∀ c, (![o0, 0] : Fin 2 → ℕ) c + (![a, b] : Fin 2 → ℕ) c ≤ (⟨2, ![A, B]⟩ : Shape).size c)
    (i : Fin a) (j : Fin b) (hi : o0 + i.val < A) (hj : j.val < B) :
    VecWindow.window (s := ⟨2, ![A, B]⟩) x ![o0, 0] ![a, b] inb (ix2 i j) = x (ix2 ⟨o0 + i.val, hi⟩ ⟨j.val, hj⟩) := by
  refine congrArg x (funext fun c => Fin.ext ?_)
  match c with
  | ⟨0, _⟩ => show o0 + 1 * i.val = o0 + i.val; omega
  | ⟨1, _⟩ => show 0 + 1 * j.val = j.val; omega

theorem put2_in {α : Type} {A B a b : ℕ} (x : (⟨2, ![A, B]⟩ : Shape).Idx → α) (o0 : ℕ) (w : ((c : Fin 2) → Fin ((![a, b] : Fin 2 → ℕ) c)) → α)
    (i : Fin A) (j : Fin B) (h1 : o0 ≤ i.val) (h2 : i.val < o0 + a) (hj : j.val < b) :
    VecWindow.put (s := ⟨2, ![A, B]⟩) x ![o0, 0] ![a, b] w (ix2 i j) = w (ix2 ⟨i.val - o0, by omega⟩ ⟨j.val, hj⟩) := by
  unfold VecWindow.put
  rw [dif_pos (Fin.forall_fin_two.mpr ⟨⟨h1, h2⟩, ⟨Nat.zero_le _, show j.val < 0 + b by omega⟩⟩)]
  refine congrArg w (funext fun c => Fin.ext ?_)
  match c with
  | ⟨0, _⟩ => rfl
  | ⟨1, _⟩ => rfl

theorem put2_out {α : Type} {A B a b : ℕ} (x : (⟨2, ![A, B]⟩ : Shape).Idx → α) (o0 : ℕ) (w : ((c : Fin 2) → Fin ((![a, b] : Fin 2 → ℕ) c)) → α)
    (i : Fin A) (j : Fin B) (h : ¬ (o0 ≤ i.val ∧ i.val < o0 + a)) :
    VecWindow.put (s := ⟨2, ![A, B]⟩) x ![o0, 0] ![a, b] w (ix2 i j) = x (ix2 i j) := by
  unfold VecWindow.put
  rw [dif_neg fun hh => h (hh 0)]

variable {X : In} {h ki : ℕ} {O : Ops Ideal}

theorem OpsIs.blocks (H : OpsIs X h ki O) (j : ℕ) (hj : j < 8) :
    Blocks X h (512 * j) (512 * ki) O.k O.r (qT O.q j hj) (oT O.o j hj) (rT O.l j hj) (rT O.d j hj) where
  K := H.k
  R := H.r
  q a e := (win2 (a := 512) (b := 256) O.q (512 * j) _ a e (by omega) e.isLt).trans (H.q ⟨512 * j + a.val, by omega⟩ e)
  o a e := (win2 (a := 512) (b := 128) O.o (512 * j) _ a e (by omega) e.isLt).trans (H.o ⟨512 * j + a.val, by omega⟩ e)
  l a := by
    refine Eq.trans (congrArg O.l (funext fun c => Fin.ext ?_)) (H.l ⟨512 * j + a.val, by omega⟩)
    match c with
    | ⟨0, _⟩ => rfl
    | ⟨1, _⟩ => rfl
    | ⟨2, _⟩ => show 512 * j + 1 * a.val = 512 * j + a.val; omega
  d a := by
    refine Eq.trans (congrArg O.d (funext fun c => Fin.ext ?_)) (H.d ⟨512 * j + a.val, by omega⟩)
    match c with
    | ⟨0, _⟩ => rfl
    | ⟨1, _⟩ => rfl
    | ⟨2, _⟩ => show 512 * j + 1 * a.val = 512 * j + a.val; omega

/-- What one key tile adds to a query's gradient. -/
def tq (X : In) (h ki i e : ℕ) : ℝ := ∑ b ∈ range 512, ds X h i (512 * ki + b) * keyR X h (512 * ki + b) e

theorem tq_before {i e : ℕ} (hi : i < 512 * ki) : tq X h ki i e = 0 :=
  sum_eq_zero fun b _ => by rw [ds_later X h (by omega), zero_mul]

/-- The three sums as reals: `fq` the queries' gradient, `fk` and `fv` the key tile's. -/
structure SumsIs (s : Sums Ideal) (fq fk fv : ℕ → ℕ → ℝ) : Prop where
  dq : ∀ (i : Fin 4096) (e : Fin 256), s.dq (ix2 i e) = ((fq i.val e.val : ℝ) : EReal)
  dk : ∀ (b : Fin 512) (e : Fin 256), s.dk (ix2 b e) = ((fk b.val e.val : ℝ) : EReal)
  dv : ∀ (b : Fin 512) (e : Fin 128), s.dv (ix2 b e) = ((fv b.val e.val : ℝ) : EReal)

theorem upd_at (H : OpsIs X h ki O) (j : ℕ) (hj : j < 8) (hk : ki ≤ j) {a : Sums Ideal} {fq fk fv : ℕ → ℕ → ℝ} (A : SumsIs a fq fk fv) :
    SumsIs (upd O ki j hj a) (fun i e => fq i e + if 512 * j ≤ i ∧ i < 512 * j + 512 then tq X h ki i e else 0)
      (fun b e => fk b e + ∑ x ∈ range 512, ds X h (512 * j + x) (512 * ki + b) * (qryR X h (512 * j + x) e * (scl / Real.log 2)))
      (fun b e => fv b e + ∑ x ∈ range 512, pr X h (512 * j + x) (512 * ki + b) * X.ct (512 * j + x) h e) where
  dq i e := by
    by_cases hi : 512 * j ≤ i.val ∧ i.val < 512 * j + 512
    · refine (put2_in (a := 512) (b := 256) a.dq (512 * j) _ i e hi.1 hi.2 e.isLt).trans ?_
      refine (dq_at (H.blocks j hj) (fun h => by rw [h]) (fun h => by omega) _ ⟨i.val - 512 * j, by omega⟩ e (fq i.val e.val) ?_).trans ?_
      · refine (win2 (a := 512) (b := 256) a.dq (512 * j) _ ⟨i.val - 512 * j, by omega⟩ e (by show 512 * j + (i.val - 512 * j) < 4096; omega) e.isLt).trans (Eq.trans ?_ (A.dq i e))
        exact congrArg (fun i => a.dq (ix2 i e)) (Fin.ext (show 512 * j + (i.val - 512 * j) = i.val by omega))
      · rw [if_pos hi, show 512 * j + (i.val - 512 * j) = i.val by omega]; rfl
    · refine (put2_out (a := 512) (b := 256) a.dq (512 * j) _ i e hi).trans ?_
      rw [if_neg hi, add_zero]
      exact A.dq i e
  dk b e := dk_at (H.blocks j hj) (fun h => by rw [h]) (fun h => by omega) _ b e _ (A.dk b e)
  dv b e := dv_at (H.blocks j hj) (fun h => by rw [h]) (fun h => by omega) _ b e _ (A.dv b e)

theorem steps_at (H : OpsIs X h ki O) {a : Sums Ideal} {fq : ℕ → ℕ → ℝ} (A : SumsIs a fq (fun _ _ => 0) (fun _ _ => 0)) :
    ∀ n, ki + n ≤ 8 → SumsIs (steps O ki a n) (fun i e => fq i e + if 512 * ki ≤ i ∧ i < 512 * (ki + n) then tq X h ki i e else 0)
      (fun b e => ∑ m ∈ range n, ∑ x ∈ range 512, ds X h (512 * (ki + m) + x) (512 * ki + b) * (qryR X h (512 * (ki + m) + x) e * (scl / Real.log 2)))
      (fun b e => ∑ m ∈ range n, ∑ x ∈ range 512, pr X h (512 * (ki + m) + x) (512 * ki + b) * X.ct (512 * (ki + m) + x) h e) := by
  intro n
  induction n with
  | zero =>
    intro _
    refine ⟨fun i e => ?_, fun b e => ?_, fun b e => ?_⟩
    · rw [if_neg (by omega), add_zero]; exact A.dq i e
    · rw [sum_range_zero]; exact A.dk b e
    · rw [sum_range_zero]; exact A.dv b e
  | succ n ih =>
    intro hn
    rw [steps_succ O ki a n (by omega)]
    have U := upd_at H (ki + n) (by omega) (by omega) (ih (by omega))
    refine ⟨fun i e => ?_, fun b e => ?_, fun b e => ?_⟩
    · refine (U.dq i e).trans (congrArg (fun x : ℝ => (x : EReal)) ?_)
      rw [add_assoc]
      refine congrArg (_ + ·) ?_
      by_cases h1 : 512 * ki ≤ i.val ∧ i.val < 512 * (ki + n)
      · rw [if_pos h1, if_neg (by omega), if_pos (by omega), add_zero]
      · rw [if_neg h1, zero_add]
        by_cases h2 : 512 * (ki + n) ≤ i.val ∧ i.val < 512 * (ki + n) + 512
        · rw [if_pos h2, if_pos (by omega)]
        · rw [if_neg h2, if_neg (by omega)]
    · rw [sum_range_succ]; exact U.dk b e
    · rw [sum_range_succ]; exact U.dv b e

/-- A grid point: the queries' gradient with the key tile's part added, and the key tile's two sums over all queries. -/
theorem point_at (H : OpsIs X h ki O) (hk : ki < 8) (g : Vec Ideal S4096x256 .f32) (fq : ℕ → ℕ → ℝ)
    (hg : ki ≠ 0 → ∀ (i : Fin 4096) (e : Fin 256), g (ix2 i e) = ((fq i.val e.val : ℝ) : EReal)) (h0 : ki = 0 → ∀ i e, fq i e = 0) :
    SumsIs (point O ki g) (fun i e => fq i e + tq X h ki i e)
      (fun b e => ∑ i ∈ range 4096, ds X h i (512 * ki + b) * (qryR X h i e * (scl / Real.log 2)))
      (fun b e => gv X h (512 * ki + b) e) := by
  have A : SumsIs ⟨if ki = 0 then zeroQ else g, zeroK, zeroV⟩ fq (fun _ _ => 0) (fun _ _ => 0) := by
    refine ⟨fun i e => ?_, fun b e => ?_, fun b e => ?_⟩
    · by_cases hz : ki = 0
      · show (if ki = 0 then zeroQ else g : Vec Ideal S4096x256 .f32) (ix2 i e) = _
        rw [if_pos hz, h0 hz]
        pointwise [zeroQ]
        rfl
      · show (if ki = 0 then zeroQ else g : Vec Ideal S4096x256 .f32) (ix2 i e) = _
        rw [if_neg hz]
        exact hg hz i e
    · pointwise [zeroK]; rfl
    · pointwise [zeroV]; rfl
  have S := steps_at H A (8 - ki) (by omega)
  refine ⟨fun i e => ?_, fun b e => ?_, fun b e => ?_⟩
  · refine (S.dq i e).trans (congrArg (fun x : ℝ => (x : EReal)) ?_)
    by_cases hi : 512 * ki ≤ i.val
    · rw [if_pos (by omega)]
    · rw [if_neg (by omega), tq_before (by omega)]
  · refine (S.dk b e).trans (congrArg (fun x : ℝ => (x : EReal)) ?_)
    exact sum_from (fun i => ds X h i (512 * ki + b.val) * (qryR X h i e.val * (scl / Real.log 2))) ki (8 - ki) (by omega)
      fun i hi => by rw [ds_later X h (by omega), zero_mul]
  · refine (S.dv b e).trans (congrArg (fun x : ℝ => (x : EReal)) ?_)
    exact sum_from (fun i => pr X h i (512 * ki + b.val) * X.ct i h e.val) ki (8 - ki) (by omega)
      fun i hi => by rw [pr_later X h (by omega), zero_mul]

/-- All key tiles of a head together make the queries' gradient. -/
theorem tq_all (X : In) (h i e : ℕ) : ∑ m ∈ range 8, tq X h m i e = gq X h i e := by
  have := sum_from (fun j => ds X h i j * keyR X h j e) 0 8 (by omega) (fun i hi => absurd hi (by omega))
  simp only [Nat.zero_add] at this
  exact this

end Cert.Proof.Attn

end
-- ==== Proof.Attn.Arrays.lean ====
/-
  The three result arrays after the run, from what the operand blocks hold.
-/
module

public import proofs.«01_k».proof.Proof.KI.Run
public import proofs.«01_k».proof.Proof.Attn.SumsAt
public import Idealize.ShloMosaic.Lib.Pipeline.ValueKit

@[expose] public section

set_option maxRecDepth 16384

noncomputable section

namespace Cert.Proof.Attn

open Cert.KernelIdeal Cert.KernelIdeal.Gen Idealize.ShloMosaic Idealize.ShloMosaic.TcCoe Idealize.SL.Sem Cert.Proof.KI Finset
open Idealize.ShloMosaic.Pipeline (Dat)

variable (m : (ℓ : Loc nD τ sig) → Buf (Elt Ideal) ℓ) (c : Dev nD)

/-- Which block of its array each window of a point is. -/
theorem index_at : ∀ t : Fin cfg0.N, win0_0.index t = ![0, t.val / 8] ∧ win0_1.index t = ![t.val % 8, t.val / 8] ∧ win0_2.index t = ![t.val % 8, 0]
    ∧ win0_3.index t = ![0, t.val / 8] ∧ win0_4.index t = ![t.val / 8, 0, 0] ∧ win0_5.index t = ![t.val / 8, 0, 0]
    ∧ win0_6.index t = ![0, t.val / 8] ∧ win0_7.index t = ![t.val % 8, t.val / 8] ∧ win0_8.index t = ![t.val % 8, t.val / 8] :=
  (by decide +kernel : ∀ t : Fin grid0.N, _)

variable {m c} {X : In} (H : ∀ t : Fin cfg0.N, OpsIs X (t.val / 8) (t.val % 8) (opsAt m c t))
include H

theorem sums_at : ∀ (n : ℕ) (hn : n < cfg0.N), SumsIs (sumsAt m c n hn) (fun i e => ∑ a ∈ range (n % 8 + 1), tq X (n / 8) a i e)
    (fun b e => ∑ i ∈ range 4096, ds X (n / 8) i (512 * (n % 8) + b) * (qryR X (n / 8) i e * (scl / Real.log 2)))
    (fun b e => gv X (n / 8) (512 * (n % 8) + b) e) := by
  intro n
  induction n with
  | zero =>
    intro hn
    have P := point_at (H ⟨0, hn⟩) (by show 0 % 8 < 8; omega) zeroQ (fun _ _ => 0) (fun h => absurd rfl h) (fun _ _ _ => rfl)
    refine ⟨fun i e => (P.dq i e).trans ?_, P.dk, P.dv⟩
    simp
  | succ n ih =>
    intro hn
    have I := ih (Nat.lt_of_succ_lt hn)
    by_cases hz : (n + 1) % 8 = 0
    · have P := point_at (H ⟨n + 1, hn⟩) (Nat.mod_lt _ (by omega)) (sumsAt m c n (Nat.lt_of_succ_lt hn)).dq (fun _ _ => 0)
        (fun h => absurd hz h) (fun _ _ _ => rfl)
      refine ⟨fun i e => (P.dq i e).trans ?_, P.dk, P.dv⟩
      show ((0 + tq X ((n + 1) / 8) ((n + 1) % 8) i.val e.val : ℝ) : EReal) = _
      rw [hz, zero_add, sum_range_one]
    · have P := point_at (H ⟨n + 1, hn⟩) (Nat.mod_lt _ (by omega)) (sumsAt m c n (Nat.lt_of_succ_lt hn)).dq
        (fun i e => ∑ a ∈ range (n % 8 + 1), tq X (n / 8) a i e) (fun _ => I.dq) (fun h => absurd h hz)
      refine ⟨fun i e => (P.dq i e).trans ?_, P.dk, P.dv⟩
      show ((∑ a ∈ range (n % 8 + 1), tq X (n / 8) a i.val e.val + tq X ((n + 1) / 8) ((n + 1) % 8) i.val e.val : ℝ) : EReal) = _
      rw [show n / 8 = (n + 1) / 8 by omega, show n % 8 + 1 = (n + 1) % 8 by omega, ← sum_range_succ]

omit H
/-- What the queries' gradient array holds. -/
def Gq (X : In) : FVec Ideal S4096x2048 .f32 := fun i => ((gq X ((i 1).val / 256) (i 0).val ((i 1).val % 256) : ℝ) : EReal)
/-- What the keys' and values' gradient array holds. -/
def Gkv (X : In) : FVec Ideal S4096x2048 .bf16 := fun i =>
  ((if (i 1).val % 256 < 128 then gk X ((i 1).val / 256) (i 0).val ((i 1).val % 256) else gv X ((i 1).val / 256) (i 0).val ((i 1).val % 256 - 128) : ℝ) : EReal)
/-- What the rotary keys' gradient array holds, head by head. -/
def Gkr (X : In) : FVec Ideal S4096x1024 .f32 := fun i => ((gk X ((i 1).val / 128) (i 0).val (128 + (i 1).val % 128) : ℝ) : EReal)

include H

theorem final_dq : (dats m 0 c).arrAt 6 cfg0.N = Gq X := by
  refine (dats m 0 c).arrAt_eq_of_covers 6 _ (by decide +kernel) fun t hf y => ?_
  have h7 := (flush0_6 t).mp hf
  have e := (index_at t).2.2.2.2.2.2.1
  unfold Gq
  blk_simp [e]
  rw [after0_6]
  idx_vars y
  rw [(sums_at H t.val t.isLt).dq y0 y1, h7, tq_all]
  rw [show (t.val / 8 * 256 + y1.val) / 256 = t.val / 8 by omega,
    show (t.val / 8 * 256 + y1.val) % 256 = y1.val by omega]

theorem final_dkv : (dats m 0 c).arrAt 7 cfg0.N = Gkv X := by
  refine (dats m 0 c).arrAt_eq_of_covers 7 _ (by decide +kernel) fun t hf y => ?_
  have e := (index_at t).2.2.2.2.2.2.2.1
  unfold Gkv
  blk_simp [e]
  rw [after0_7]
  idx_vars y
  have S := sums_at H t.val t.isLt
  rw [dkv_at _ y0 y1
    (fun e => ∑ i ∈ range 4096, ds X (t.val / 8) i (512 * (t.val % 8) + y0.val) * (qryR X (t.val / 8) i e * (scl / Real.log 2)))
    (fun e => gv X (t.val / 8) (512 * (t.val % 8) + y0.val) e) (S.dk y0) (S.dv y0)]
  have a0 : (t.val / 8 * 256 + y1.val) / 256 = t.val / 8 := by omega
  have a1 : (t.val / 8 * 256 + y1.val) % 256 = y1.val := by omega
  have a2 : t.val % 8 * 512 + y0.val = 512 * (t.val % 8) + y0.val := by omega
  simp only [a0, a1, a2, gk_unscale]

theorem final_dkr : (dats m 0 c).arrAt 8 cfg0.N = Gkr X := by
  refine (dats m 0 c).arrAt_eq_of_covers 8 _ (by decide +kernel) fun t hf y => ?_
  have e := (index_at t).2.2.2.2.2.2.2.2
  unfold Gkr
  blk_simp [e]
  rw [after0_8]
  idx_vars y
  have S := sums_at H t.val t.isLt
  rw [dkr_at _ y0 y1
    (fun e => ∑ i ∈ range 4096, ds X (t.val / 8) i (512 * (t.val % 8) + y0.val) * (qryR X (t.val / 8) i e * (scl / Real.log 2))) (S.dk y0)]
  have a0 : (t.val / 8 * 128 + y1.val) / 128 = t.val / 8 := by omega
  have a1 : (t.val / 8 * 128 + y1.val) % 128 = y1.val := by omega
  have a2 : t.val % 8 * 512 + y0.val = 512 * (t.val % 8) + y0.val := by omega
  simp only [a0, a1, a2, gk_unscale]

end Cert.Proof.Attn

end
-- ==== Proof.Attn.Scores.lean ====
/-
  The attention's forward lines at an index: masked scores, row weights and row sums, over the arguments' real entries.
-/
module

public import proofs.«01_k».proof.Proof.Gen.ReferenceIdeal.Read
public import proofs.«01_k».proof.Proof.Attn.Math
public import Idealize.ShloMosaic.Lib.Pointwise

@[expose] public section

set_option maxRecDepth 16384

noncomputable section

namespace Cert.Proof.Attn

open Cert.ReferenceIdeal Cert.ReferenceIdeal.Read Idealize.ShloMosaic Finset

/-- The four arguments' entries are the reals of `X`. -/
structure Args (X : In) (x0 : FVec Ideal S4096x8x192 .f32) (x1 : FVec Ideal S4096x8x256 .f32) (x2 : FVec Ideal S4096x64 .f32)
    (x3 : FVec Ideal S4096x8x128 .f32) : Prop where
  q : ∀ (i : Fin 4096) (h : Fin 8) (d : Fin 192), x0 (ix3 i h d) = ((X.q i h d : ℝ) : EReal)
  kv : ∀ (i : Fin 4096) (h : Fin 8) (d : Fin 256), x1 (ix3 i h d) = ((X.kv i h d : ℝ) : EReal)
  r : ∀ (i : Fin 4096) (d : Fin 64), x2 (ix2 i d) = ((X.r i d : ℝ) : EReal)
  ct : ∀ (i : Fin 4096) (h : Fin 8) (d : Fin 128), x3 (ix3 i h d) = ((X.ct i h d : ℝ) : EReal)

variable {X : In} {x0 : FVec Ideal S4096x8x192 .f32} {x1 : FVec Ideal S4096x8x256 .f32} {x2 : FVec Ideal S4096x64 .f32}
  {x3 : FVec Ideal S4096x8x128 .f32} (A : Args X x0 x1 x2 x3)
include A

theorem v2_at (i : Fin 4096) (h : Fin 8) (d : Fin 128) : val_main_v2 (F := Ideal) x0 (ix3 i h d) = ((X.q i h d : ℝ) : EReal) := by
  pointwise [val_main_v2]
  exact A.q i h ⟨d.val, by omega⟩
theorem v3_at (i : Fin 4096) (h : Fin 8) (d : Fin 64) : val_main_v3 (F := Ideal) x0 (ix3 i h d) = ((X.q i h (128 + d) : ℝ) : EReal) := by
  pointwise [val_main_v3]
  exact A.q i h ⟨128 + d.val, by omega⟩
theorem v4_at (i : Fin 4096) (h : Fin 8) (d : Fin 128) : val_main_v4 (F := Ideal) x1 (ix3 i h d) = ((X.kv i h d : ℝ) : EReal) := by
  pointwise [val_main_v4]
  exact A.kv i h ⟨d.val, by omega⟩
theorem v5_at (i : Fin 4096) (h : Fin 8) (d : Fin 128) : val_main_v5 (F := Ideal) x1 (ix3 i h d) = ((X.kv i h (128 + d) : ℝ) : EReal) := by
  pointwise [val_main_v5]
  exact A.kv i h ⟨128 + d.val, by omega⟩
theorem v1_at (i : Fin 4096) (h : Fin 8) (d : Fin 64) : val_main_v1 (F := Ideal) x2 (ix3 i h d) = ((X.r i d : ℝ) : EReal) := by
  pointwise [val_main_v1, val_main_v0]
  exact A.r i d

omit A in
/-- A sum of products of reals. -/
theorem sum_prod (n : ℕ) (y z : Fin n → EReal) (f g : ℕ → ℝ) (hy : ∀ k, y k = ((f k.val : ℝ) : EReal)) (hz : ∀ k, z k = ((g k.val : ℝ) : EReal)) :
    ∑ k : Fin n, y k * z k = ((∑ k ∈ range n, f k * g k : ℝ) : EReal) :=
  coe_sum_fin n _ (fun k => f k * g k) fun k => by rw [hy, hz, ← EReal.coe_mul]

theorem v6_at (h : Fin 8) (i j : Fin 4096) : val_main_v6 (F := Ideal) x0 x1 (ix3 h i j)
    = ((∑ d ∈ range 128, X.q i h d * X.kv j h d : ℝ) : EReal) := by
  unfold val_main_v6
  have e2 := v2_at A
  have e4 := v4_at A
  generalize val_main_v2 (F := Ideal) x0 = y2 at e2 ⊢
  generalize val_main_v4 (F := Ideal) x1 = y4 at e4 ⊢
  pointwise []
  exact sum_prod 128 _ _ (fun d => X.q i h d) (fun d => X.kv j h d) (fun k => e2 i h k) (fun k => e4 j h k)

theorem v7_at (h : Fin 8) (i j : Fin 4096) : val_main_v7 (F := Ideal) x0 x2 (ix3 h i j)
    = ((∑ d ∈ range 64, X.q i h (128 + d) * X.r j d : ℝ) : EReal) := by
  unfold val_main_v7
  have e2 := v3_at A
  have e4 := v1_at A
  generalize val_main_v3 (F := Ideal) x0 = y2 at e2 ⊢
  generalize val_main_v1 (F := Ideal) x2 = y4 at e4 ⊢
  pointwise []
  exact sum_prod 64 _ _ (fun d => X.q i h (128 + d)) (fun d => X.r j d) (fun k => e2 i h k) (fun k => e4 j h k)

omit A in
theorem mask_at (h : Fin 8) (i j : Fin 4096) : val_main_v18_1 (F := Ideal) (ix3 h i j) = if j.val ≤ i.val then 1#1 else 0#1 := by
  pointwise [val_main_v18_1, val_main_v17, val_main_v16, val_main_v15, val_main_v14, val_main_v13, val_main_v12, val_main_v11]
  exact sle_nat _ _ (by omega) (by omega)

theorem v10_at (h : Fin 8) (i j : Fin 4096) : val_main_v10 (F := Ideal) x0 x1 x2 (ix3 h i j) = ((raw X h i j * scl : ℝ) : EReal) := by
  have e6 := v6_at A h i j
  have e7 := v7_at A h i j
  unfold val_main_v10 val_main_v8
  generalize val_main_v6 (F := Ideal) x0 x1 = y6 at e6 ⊢
  generalize val_main_v7 (F := Ideal) x0 x2 = y7 at e7 ⊢
  pointwise [val_main_v9, val_main_cst]
  rw [e6, e7, ofBits_scl, ← EReal.coe_add, ← EReal.coe_mul]
  rfl

/-- A masked score: a key after the query has none. -/
theorem v18_at (h : Fin 8) (i j : Fin 4096) : val_main_v18_0 (F := Ideal) x0 x1 x2 (ix3 h i j)
    = if j.val ≤ i.val then ((raw X h i j * scl : ℝ) : EReal) else ⊥ := by
  have e1 := mask_at h i j
  have e2 := v10_at A h i j
  unfold val_main_v18_0
  generalize val_main_v18_1 (F := Ideal) = y1 at e1 ⊢
  generalize val_main_v10 (F := Ideal) x0 x1 x2 = y2 at e2 ⊢
  pointwise [val_main_call0_v2, val_main_call0_v0, val_main_cst_0]
  rw [e1, e2]
  by_cases hj : j.val ≤ i.val
  · rw [if_pos hj, if_pos hj]; rfl
  · rw [if_neg hj, if_neg hj]; exact ofBits_bot

/-- A row's maximum is a real: no score is above the reals, and the row's first one is a real. -/
theorem v19_real (h : Fin 8) (i : Fin 4096) : ∃ a : ℝ, val_main_v19 (F := Ideal) x0 x1 x2 (ix2 h i) = (a : EReal) := by
  have e := v18_at A h i
  unfold val_main_v19
  generalize val_main_v18_0 (F := Ideal) x0 x1 x2 = y at e ⊢
  pointwise [val_main_cst_1]
  rw [ofBits_bot]
  have h0 : y (ix3 h i ⟨0, by omega⟩) = ((raw X h i 0 * scl : ℝ) : EReal) := (e ⟨0, by omega⟩).trans (if_pos (Nat.zero_le _))
  have hb : (univ.fold max (⊥ : EReal) fun x : Fin 4096 => y (ix3 h i x)) ≠ ⊥ := by
    refine ne_of_gt (lt_of_lt_of_le (EReal.bot_lt_coe (raw X h i 0 * scl)) ?_)
    rw [← h0]
    exact Finset.le_fold_max _ |>.2 (Or.inr ⟨_, mem_univ _, le_refl _⟩)
  have ht : (univ.fold max (⊥ : EReal) fun x : Fin 4096 => y (ix3 h i x)) ≠ ⊤ := by
    refine ne_of_lt ((Finset.fold_max_lt _).2 ⟨bot_lt_top, fun x _ => ?_⟩)
    rw [e x]
    split
    · exact EReal.coe_lt_top _
    · exact bot_lt_top
  exact ⟨_, (EReal.coe_toReal ht hb).symm⟩

/-- The rows' maxima are the reals of `X`. -/
def RowMax (X : In) (x0 : FVec Ideal S4096x8x192 .f32) (x1 : FVec Ideal S4096x8x256 .f32) (x2 : FVec Ideal S4096x64 .f32) : Prop :=
  ∀ (h : Fin 8) (i : Fin 4096), val_main_v19 (F := Ideal) x0 x1 x2 (ix2 h i) = ((X.M h i : ℝ) : EReal)

variable (R : RowMax X x0 x1 x2)
include R

omit A in
theorem v26_at (h : Fin 8) (i : Fin 4096) : val_main_v26 (F := Ideal) x0 x1 x2 (ix2 h i) = ((X.M h i : ℝ) : EReal) := by
  have e : val_main_v25 (F := Ideal) (ix2 h i) = ⊥ := by
    rw [val_main_v25_apply]
    exact ofBits_bot
  rw [val_main_v26_apply, R h i, e]
  exact max_eq_right bot_le

omit A in
theorem v37_at (h : Fin 8) (i j : Fin 4096) : val_main_v37 (F := Ideal) x0 x1 x2 (ix3 h i j) = ((X.M h i : ℝ) : EReal) := by
  have e := v26_at R h i
  unfold val_main_v37 val_main_v36
  generalize val_main_v26 (F := Ideal) x0 x1 x2 = z at e ⊢
  pointwise []
  exact e

omit A R in
/-- A score's exponential, the row's maximum taken off; where the score is masked it is zero. -/
theorem exp_at (a b : ℝ) (p : Prop) [Decidable p] :
    Ideal.exp ((if p then ((a : ℝ) : EReal) else ⊥) - (b : EReal)) = ((if p then Real.exp (a - b) else 0 : ℝ) : EReal) := by
  split
  · rw [← EReal.coe_sub]; rfl
  · rfl

theorem v39_at (h : Fin 8) (i j : Fin 4096) : val_main_v39 (F := Ideal) x0 x1 x2 (ix3 h i j) = ((ex X h i j : ℝ) : EReal) := by
  have e18 := v18_at A h i j
  have e37 := v37_at R h i j
  unfold val_main_v39 val_main_v38
  generalize val_main_v18_0 (F := Ideal) x0 x1 x2 = y at e18 ⊢
  generalize val_main_v37 (F := Ideal) x0 x1 x2 = z at e37 ⊢
  pointwise []
  rw [e18, e37, exp_at]
  rfl

theorem v40_at (h : Fin 8) (i : Fin 4096) : val_main_v40 (F := Ideal) x0 x1 x2 (ix2 h i) = ((den X h i : ℝ) : EReal) := by
  have e := v39_at A R h i
  unfold val_main_v40
  generalize val_main_v39 (F := Ideal) x0 x1 x2 = y at e ⊢
  pointwise [val_main_cst_9]
  exact coe_sum_fin 4096 _ (fun j => ex X h i j) fun j => e j

theorem v41_at (h : Fin 8) (i : Fin 4096) : val_main_v41 (F := Ideal) x0 x1 x2 (ix3 h i 0) = ((den X h i : ℝ) : EReal) := by
  have e := v40_at A R h i
  unfold val_main_v41
  generalize val_main_v40 (F := Ideal) x0 x1 x2 = y at e ⊢
  pointwise []
  exact e

theorem v43_at (h : Fin 8) (i j : Fin 4096) : val_main_v43 (F := Ideal) x0 x1 x2 (ix3 h i j) = ((pr X h i j : ℝ) : EReal) := by
  have e := v39_at A R h i j
  have e1 := v41_at A R h i
  unfold val_main_v43 val_main_v42
  generalize val_main_v39 (F := Ideal) x0 x1 x2 = y at e ⊢
  generalize val_main_v41 (F := Ideal) x0 x1 x2 = z at e1 ⊢
  pointwise []
  rw [e, e1]
  exact div_real _ _ (den_pos X h i).ne'

theorem v46_at (h : Fin 8) (i : Fin 4096) : val_main_v46 (F := Ideal) x0 x1 x2 (ix3 h i 0) = ((1 / (den X h i * den X h i) : ℝ) : EReal) := by
  have e1 := v41_at A R h i
  unfold val_main_v46 val_main_v44
  generalize val_main_v41 (F := Ideal) x0 x1 x2 = z at e1 ⊢
  pointwise [val_main_v45, val_main_cst_10]
  rw [e1, ← EReal.coe_mul]
  have hd := den_pos X h i
  exact div_real 1 _ (mul_pos hd hd).ne'

end Cert.Proof.Attn

end
-- ==== Proof.Attn.Ref.lean ====
/-
  The reference's three results at an index, over the arguments' real entries.
-/
module

public import proofs.«01_k».proof.Proof.Attn.Scores

@[expose] public section

set_option maxRecDepth 16384

noncomputable section

namespace Cert.Proof.Attn

open Cert.ReferenceIdeal Cert.ReferenceIdeal.Read Idealize.ShloMosaic Finset

/-- The lanes past a query's or key's own have no gradient. -/
theorem gq_pad (X : In) (h i : ℕ) {d : ℕ} (hd : 192 ≤ d) : gq X h i d = 0 :=
  sum_eq_zero fun j _ => by unfold keyR; rw [if_neg (by omega), if_neg (by omega), mul_zero]
theorem gk_pad (X : In) (h j : ℕ) {d : ℕ} (hd : 192 ≤ d) : gk X h j d = 0 :=
  sum_eq_zero fun i _ => by unfold qryR; rw [if_neg (by omega), mul_zero]
/-- The word zero as a number. -/
theorem zero_word : (FloatOps.sitofp .f32 (0#32) : Ideal .f32) = ((0 : ℝ) : EReal) := by
  show (((0#32 : BitVec 32).toInt : ℝ) : EReal) = _
  simp

variable {X : In} {x0 : FVec Ideal S4096x8x192 .f32} {x1 : FVec Ideal S4096x8x256 .f32} {x2 : FVec Ideal S4096x64 .f32}
  {x3 : FVec Ideal S4096x8x128 .f32} (A : Args X x0 x1 x2 x3)
include A

theorem v49_at (h : Fin 8) (d : Fin 128) (i : Fin 4096) : val_main_v49 (F := Ideal) x3 (ix3 h d i) = ((X.ct i h d : ℝ) : EReal) := by
  pointwise [val_main_v49]
  exact A.ct i h d

theorem v50_at (h : Fin 8) (i j : Fin 4096) : val_main_v50 (F := Ideal) x1 x3 (ix3 h i j) = ((dP X h i j : ℝ) : EReal) := by
  have e1 := v49_at A
  have e2 := v5_at A
  unfold val_main_v50
  generalize val_main_v49 (F := Ideal) x3 = y at e1 ⊢
  generalize val_main_v5 (F := Ideal) x1 = z at e2 ⊢
  pointwise []
  exact sum_prod 128 _ _ (fun d => X.ct i h d) (fun d => X.kv j h (128 + d)) (fun d => e1 h d i) (fun d => e2 j h d)

variable (R : RowMax X x0 x1 x2)
include R

/-- The values' gradient. -/
theorem v52_at (j : Fin 4096) (h : Fin 8) (d : Fin 128) : val_main_v52 (F := Ideal) x0 x1 x2 x3 (ix3 j h d) = ((gv X h j d : ℝ) : EReal) := by
  have e1 := v49_at A
  have e2 := v43_at A R
  unfold val_main_v52 val_main_v51
  generalize val_main_v49 (F := Ideal) x3 = y at e1 ⊢
  generalize val_main_v43 (F := Ideal) x0 x1 x2 = z at e2 ⊢
  pointwise []
  refine (sum_prod 4096 _ _ (fun i => X.ct i h d) (fun i => pr X h i j) (fun i => e1 h d i) (fun i => e2 h i j)).trans
    (congrArg (fun x : ℝ => (x : EReal)) (sum_congr rfl fun i _ => mul_comm _ _))

/-- A row's sum that the quotient's backward takes off. -/
theorem v62_at (h : Fin 8) (i j : Fin 4096) : val_main_v62 (F := Ideal) x0 x1 x2 x3 (ix3 h i j)
    = ((-(∑ k ∈ range 4096, dP X h i k * (1 / (den X h i * den X h i)) * ex X h i k) : ℝ) : EReal) := by
  have e1 := v50_at A h i
  have e2 := v46_at A R h i
  have e3 := v39_at A R h i
  have e55 : ∀ k : Fin 4096, val_main_v55 (F := Ideal) x0 x1 x2 x3 (ix3 h i k)
      = ((dP X h i k * (1 / (den X h i * den X h i)) * ex X h i k : ℝ) : EReal) := by
    intro k
    have e3 := e3 k
    have e1 := e1 k
    unfold val_main_v55 val_main_v54 val_main_v53
    generalize val_main_v50 (F := Ideal) x1 x3 = y at e1 ⊢
    generalize val_main_v46 (F := Ideal) x0 x1 x2 = z at e2 ⊢
    generalize val_main_v39 (F := Ideal) x0 x1 x2 = w at e3 ⊢
    pointwise []
    rw [e1, e2, e3, ← EReal.coe_mul, ← EReal.coe_mul]
  have e56 : val_main_v56 (F := Ideal) x0 x1 x2 x3 (ix2 h i)
      = ((∑ k ∈ range 4096, dP X h i k * (1 / (den X h i * den X h i)) * ex X h i k : ℝ) : EReal) := by
    unfold val_main_v56
    generalize val_main_v55 (F := Ideal) x0 x1 x2 x3 = y at e55 ⊢
    pointwise [val_main_cst_11]
    exact coe_sum_fin 4096 _ (fun k => dP X h i k * (1 / (den X h i * den X h i)) * ex X h i k) e55
  unfold val_main_v62 val_main_v61 val_main_v58 val_main_v57
  generalize val_main_v56 (F := Ideal) x0 x1 x2 x3 = y at e56 ⊢
  pointwise [val_main_cst_12]
  rw [Fin.sum_univ_one, e56, EReal.coe_neg]

/-- The scores' gradient. -/
theorem v67_at (h : Fin 8) (i j : Fin 4096) : val_main_v67 (F := Ideal) x0 x1 x2 x3 (ix3 h i j) = ((ds X h i j : ℝ) : EReal) := by
  have e1 := v50_at A h i j
  have e2 := v41_at A R h i
  have e3 := v39_at A R h i j
  have e4 := v62_at A R h i j
  have e60 : val_main_v60 (F := Ideal) x0 x1 x2 x3 (ix3 h i j) = ((dP X h i j / den X h i : ℝ) : EReal) := by
    unfold val_main_v60 val_main_v59
    generalize val_main_v50 (F := Ideal) x1 x3 = y at e1 ⊢
    generalize val_main_v41 (F := Ideal) x0 x1 x2 = z at e2 ⊢
    pointwise []
    rw [e1, e2]
    exact div_real _ _ (den_pos X h i).ne'
  have em := mask_at h i j
  have e64 : val_main_v64 (F := Ideal) x0 x1 x2 x3 (ix3 h i j) = (((dP X h i j / den X h i
      + -(∑ k ∈ range 4096, dP X h i k * (1 / (den X h i * den X h i)) * ex X h i k)) * ex X h i j : ℝ) : EReal) := by
    rw [val_main_v64_apply, val_main_v63_apply, e60, e4, e3, EReal.coe_mul, EReal.coe_add]
    rfl
  have e66 : val_main_v66 (F := Ideal) (ix3 h i j) = ((scl : ℝ) : EReal) := by
    rw [val_main_v66_apply]
    exact ofBits_scl
  rw [val_main_v67_apply, val_main_v65_apply, em, e64, e66]
  by_cases hj : j.val ≤ i.val
  · rw [if_pos hj, ← ds_quot, EReal.coe_mul _ scl]
    rfl
  · rw [if_neg hj, ds_later X h (Nat.lt_of_not_le hj)]
    have e0 : val_main_call1_v0 (F := Ideal) (ix3 h i j) = ((0 : ℝ) : EReal) := by
      rw [val_main_call1_v0_apply]
      exact Ideal.ofBits_zero .f32
    rw [e0]
    show ((0 : ℝ) : EReal) * ((scl : ℝ) : EReal) = _
    rw [← EReal.coe_mul, zero_mul]

theorem v69_at (j : Fin 4096) (h : Fin 8) (d : Fin 64) : val_main_v69 (F := Ideal) x0 x1 x2 x3 (ix3 j h d) = ((gk X h j (128 + d) : ℝ) : EReal) := by
  have e1 := v67_at A R h
  have e2 := v3_at A
  unfold val_main_v69 val_main_v68
  generalize val_main_v67 (F := Ideal) x0 x1 x2 x3 = y at e1 ⊢
  generalize val_main_v3 (F := Ideal) x0 = z at e2 ⊢
  pointwise []
  refine (sum_prod 4096 _ _ (fun i => ds X h i j) (fun i => X.q i h (128 + d)) (fun i => e1 i j) (fun i => e2 i h d)).trans
    (congrArg (fun x : ℝ => (x : EReal)) (sum_congr rfl fun i _ => ?_))
  unfold qryR
  rw [if_pos (by omega)]

theorem v71_at (i : Fin 4096) (h : Fin 8) (d : Fin 64) : val_main_v71 (F := Ideal) x0 x1 x2 x3 (ix3 i h d) = ((gq X h i (128 + d) : ℝ) : EReal) := by
  have e1 := v67_at A R h
  have e2 := v1_at A
  unfold val_main_v71 val_main_v70
  generalize val_main_v67 (F := Ideal) x0 x1 x2 x3 = y at e1 ⊢
  generalize val_main_v1 (F := Ideal) x2 = z at e2 ⊢
  pointwise []
  refine (sum_prod 4096 _ _ (fun j => ds X h i j) (fun j => X.r j d) (fun j => e1 i j) (fun j => e2 j h d)).trans
    (congrArg (fun x : ℝ => (x : EReal)) (sum_congr rfl fun j _ => ?_))
  unfold keyR
  rw [if_neg (by omega), if_pos (by omega), Nat.add_sub_cancel_left]

theorem v73_at (j : Fin 4096) (h : Fin 8) (d : Fin 128) : val_main_v73 (F := Ideal) x0 x1 x2 x3 (ix3 j h d) = ((gk X h j d : ℝ) : EReal) := by
  have e1 := v67_at A R h
  have e2 := v2_at A
  unfold val_main_v73 val_main_v72
  generalize val_main_v67 (F := Ideal) x0 x1 x2 x3 = y at e1 ⊢
  generalize val_main_v2 (F := Ideal) x0 = z at e2 ⊢
  pointwise []
  refine (sum_prod 4096 _ _ (fun i => ds X h i j) (fun i => X.q i h d) (fun i => e1 i j) (fun i => e2 i h d)).trans
    (congrArg (fun x : ℝ => (x : EReal)) (sum_congr rfl fun i _ => ?_))
  unfold qryR
  rw [if_pos (by omega)]

theorem v75_at (i : Fin 4096) (h : Fin 8) (d : Fin 128) : val_main_v75 (F := Ideal) x0 x1 x2 x3 (ix3 i h d) = ((gq X h i d : ℝ) : EReal) := by
  have e1 := v67_at A R h
  have e2 := v4_at A
  unfold val_main_v75 val_main_v74
  generalize val_main_v67 (F := Ideal) x0 x1 x2 x3 = y at e1 ⊢
  generalize val_main_v4 (F := Ideal) x1 = z at e2 ⊢
  pointwise []
  refine (sum_prod 4096 _ _ (fun j => ds X h i j) (fun j => X.kv j h d) (fun j => e1 i j) (fun j => e2 j h d)).trans
    (congrArg (fun x : ℝ => (x : EReal)) (sum_congr rfl fun j _ => ?_))
  unfold keyR
  rw [if_pos d.isLt]

/-- The queries' gradient, as the result holds it. -/
theorem v79_at (i : Fin 4096) (c : Fin 2048) : val_main_v79 (F := Ideal) x0 x1 x2 x3 (ix2 i c)
    = ((gq X (c.val / 256) i (c.val % 256) : ℝ) : EReal) := by
  have e1 := v71_at A R
  have e2 := v75_at A R
  unfold val_main_v79 val_main_v78 val_main_v77
  generalize val_main_v71 (F := Ideal) x0 x1 x2 x3 = y at e1 ⊢
  generalize val_main_v75 (F := Ideal) x0 x1 x2 x3 = z at e2 ⊢
  pointwise [val_main_call2_v0]
  by_cases h1 : c.val % 256 < 192
  · rw [dif_pos ⟨by omega, h1⟩]
    by_cases h2 : c.val % 256 < 128
    · rw [dif_pos h2]
      exact e2 i ⟨c.val / 256, by omega⟩ ⟨c.val % 256, h2⟩
    · rw [dif_neg h2]
      refine (e1 i ⟨c.val / 256, by omega⟩ ⟨c.val % 256 - 128, by omega⟩).trans ?_
      rw [show 128 + (c.val % 256 - 128) = c.val % 256 by omega]
  · rw [dif_neg fun h => h1 h.2, gq_pad X _ _ (by omega)]
    exact zero_word

theorem v81_at (i : Fin 4096) (c : Fin 1024) : val_main_v81 (F := Ideal) x0 x1 x2 x3 (ix2 i c)
    = ((gk X (c.val / 128) i (128 + c.val % 128) : ℝ) : EReal) := by
  have e1 := v69_at A R
  unfold val_main_v81 val_main_v80
  generalize val_main_v69 (F := Ideal) x0 x1 x2 x3 = y at e1 ⊢
  pointwise [val_main_call3_v0]
  by_cases h1 : c.val % 128 < 64
  · rw [dif_pos ⟨by omega, h1⟩]
    exact e1 i ⟨c.val / 128, by omega⟩ ⟨c.val % 128, h1⟩
  · rw [dif_neg fun h => h1 h.2, gk_pad X _ _ (by omega)]
    exact zero_word

theorem v83_at (i : Fin 4096) (c : Fin 2048) : val_main_v83 (F := Ideal) x0 x1 x2 x3 (ix2 i c)
    = ((if c.val % 256 < 128 then gk X (c.val / 256) i (c.val % 256) else gv X (c.val / 256) i (c.val % 256 - 128) : ℝ) : EReal) := by
  have e1 := v73_at A R
  have e2 := v52_at A R
  unfold val_main_v83 val_main_v82 val_main_v76
  generalize val_main_v73 (F := Ideal) x0 x1 x2 x3 = y at e1 ⊢
  generalize val_main_v52 (F := Ideal) x0 x1 x2 x3 = z at e2 ⊢
  pointwise []
  by_cases h1 : c.val % 256 < 128
  · rw [dif_pos h1, if_pos h1]
    exact e1 i ⟨c.val / 256, by omega⟩ ⟨c.val % 256, h1⟩
  · rw [dif_neg h1, if_neg h1]
    exact e2 i ⟨c.val / 256, by omega⟩ ⟨c.val % 256 - 128, by omega⟩

end Cert.Proof.Attn

end
-- ==== Proof.Attn.Host.lean ====
/-
  What the host's lines hand the call: the six operand arrays as terms of the arguments, and at an index.
-/
module

public import proofs.«01_k».proof.Proof.KI.Run
public import proofs.«01_k».proof.Proof.Attn.Scores
public import proofs.«01_k».proof.Proof.Attn.Ref
public import Idealize.ShloMosaic.Lib.Claim

@[expose] public section

set_option maxRecDepth 16384

noncomputable section

namespace Cert.Proof.Attn

open Cert.KernelIdeal Cert.KernelIdeal.Gen Idealize.ShloMosaic Idealize.ShloMosaic.TcCoe Idealize.SL.Sem Finset
open Cert.ReferenceIdeal.Read

section Terms

variable (x0 : FVec Ideal S4096x8x192 .f32) (x1 : FVec Ideal S4096x8x256 .f32) (x2 : FVec Ideal S4096x64 .f32) (x3 : FVec Ideal S4096x8x128 .f32)

/-- The queries, scaled and padded to 256 lanes a head. -/
def qW : FVec Ideal S4096x2048 .bf16 :=
  truncf .bf16 (shapeCast S4096x2048 (pad S4096x8x256 ![0, 0, 0] ![0, 0, 64] ![0, 0, 0] (mulf x0
    (broadcastInDim S4096x8x192 ![] bcast_S_S4096x8x192 (Host.divf (constant S_ .f32 0x3D93CD3A#32) (Host.log (constant S_ .f32 0x40000000#32)))))
    (sitofp .f32 (constantI S_ 32 0#32)) pads_S4096x8x192_S4096x8x256_000_000_0640 h_S_) shapeCasts_S4096x8x256_S4096x2048) bitsLt_bf16_f32
/-- The keys and values, the heads side by side. -/
def kW : FVec Ideal S4096x2048 .bf16 := truncf .bf16 (shapeCast S4096x2048 x1 shapeCasts_S4096x8x256_S4096x2048) bitsLt_bf16_f32
/-- The rotary keys, padded to 128 lanes. -/
def rW : FVec Ideal S4096x128 .bf16 :=
  truncf .bf16 (pad S4096x128 ![0, 0] ![0, 64] ![0, 0] x2 (sitofp .f32 (constantI S_ 32 0#32)) pads_S4096x64_S4096x128_000_0640 h_S_) bitsLt_bf16_f32
/-- The cotangent, the heads side by side. -/
def oW : FVec Ideal S4096x1024 .bf16 := truncf .bf16 (shapeCast S4096x1024 x3 shapeCasts_S4096x8x128_S4096x1024) bitsLt_bf16_f32
/-- The exponentials of the scores less their row's maximum. -/
def expW : FVec Ideal S8x4096x4096 .f32 := Host.exp (subf (val_main_v18_0 (F := Ideal) x0 x1 x2)
  (broadcastInDim S8x4096x4096 ![0, 1, 2] bcast_S8x4096x1_S8x4096x4096_0_1_2 (broadcastInDim S8x4096x1 ![0, 1] bcast_S8x4096_S8x4096x1_0_1
    (val_main_v19 (F := Ideal) x0 x1 x2))))
/-- The rows' sums of exponentials. -/
def sumW : FVec Ideal S8x4096 .f32 :=
  Host.reduceAdd (expW x0 x1 x2) (constant S_ .f32 0x00000000#32) reducesTo_S8x4096x4096_S8x4096_d2 h_S_
/-- The rows' log-sums over `log 2`. -/
def lseW : FVec Ideal S8x1x4096 .f32 := shapeCast S8x1x4096 (Host.divf (addf
  (broadcastInDim S8x4096x1 ![0, 1] bcast_S8x4096_S8x4096x1_0_1 (val_main_v19 (F := Ideal) x0 x1 x2))
  (Host.log (broadcastInDim S8x4096x1 ![0, 1] bcast_S8x4096_S8x4096x1_0_1 (sumW x0 x1 x2))))
  (broadcastInDim S8x4096x1 ![] bcast_S_S8x4096x1 (Host.log (constant S_ .f32 0x40000000#32)))) shapeCasts_S8x4096x1_S8x1x4096
/-- The probabilities. -/
def prW : FVec Ideal S8x4096x4096 .f32 := Host.divf (expW x0 x1 x2)
  (broadcastInDim S8x4096x4096 ![0, 1, 2] bcast_S8x4096x1_S8x4096x4096_0_1_2 (broadcastInDim S8x4096x1 ![0, 1] bcast_S8x4096_S8x4096x1_0_1 (sumW x0 x1 x2)))
/-- The rows' products of output and cotangent. -/
def deltaW : FVec Ideal S8x1x4096 .f32 := shapeCast S8x1x4096 (transpose S8x4096 [1, 0] (Host.reduceAdd (mulf x3
  (transpose S4096x8x128 [2, 0, 1] (Host.dotGeneral (φ₁ := .f32) (φ₂ := .f32) dot_S4096x8x128_S8x4096x4096_S8x128x4096_0_2_2_1_1_0 none
    (val_main_v5 (F := Ideal) x1) (prW x0 x1 x2)) transposes_S8x128x4096_S4096x8x128_2_0_1))
  (constant S_ .f32 0x00000000#32) reducesTo_S4096x8x128_S4096x8_d2 h_S_) transposes_S4096x8_S8x4096_1_0) shapeCasts_S8x4096_S8x1x4096

end Terms

section Entry

variable (m : (ℓ : Loc nD τ sig) → Buf (Elt Ideal) ℓ) (c : Dev nD)

theorem V_q : (V m c main_v46 : FVec Ideal S4096x2048 .bf16) = qW (m (c.tc.loc main_arg0)) := rfl
theorem V_k : (V m c main_v48 : FVec Ideal S4096x2048 .bf16) = kW (m (c.tc.loc main_arg1)) := rfl
theorem V_r : (V m c main_v50 : FVec Ideal S4096x128 .bf16) = rW (m (c.tc.loc main_arg2)) := rfl
theorem V_o : (V m c main_v52 : FVec Ideal S4096x1024 .bf16) = oW (m (c.tc.loc main_arg3)) := rfl
theorem V_lse : (V m c main_v35 : FVec Ideal S8x1x4096 .f32) = lseW (m (c.tc.loc main_arg0)) (m (c.tc.loc main_arg1)) (m (c.tc.loc main_arg2)) := by
  simp only [V, hostOps0, hostOps0_1, hostOps0_2, hostOps0_3, hostOps0_4, hostOps0_5, hostOps0_6, List.flatten_cons, List.flatten_nil,
    List.cons_append, List.nil_append, List.append_nil, StableHlo.TRef.binary, StableHlo.TRef.nullary, StableHlo.TRef.ternary,
    StableHlo.TRef.unary, StableHlo.TRef.toBuf, StableHlo.TRef.ofBuf, cast_eq]
  after_results_simp <;> rfl
theorem V_delta : (V m c main_v39 : FVec Ideal S8x1x4096 .f32)
    = deltaW (m (c.tc.loc main_arg0)) (m (c.tc.loc main_arg1)) (m (c.tc.loc main_arg2)) (m (c.tc.loc main_arg3)) := by
  simp only [V, hostOps0, hostOps0_1, hostOps0_2, hostOps0_3, hostOps0_4, hostOps0_5, hostOps0_6, List.flatten_cons, List.flatten_nil,
    List.cons_append, List.nil_append, List.append_nil, StableHlo.TRef.binary, StableHlo.TRef.nullary, StableHlo.TRef.ternary,
    StableHlo.TRef.unary, StableHlo.TRef.toBuf, StableHlo.TRef.ofBuf, cast_eq]
  after_results_simp <;> rfl

end Entry

section At

variable {X : In} {x0 : FVec Ideal S4096x8x192 .f32} {x1 : FVec Ideal S4096x8x256 .f32} {x2 : FVec Ideal S4096x64 .f32}
  {x3 : FVec Ideal S4096x8x128 .f32} (A : Args X x0 x1 x2 x3)
include A

theorem qW_at (i : Fin 4096) (c : Fin 2048) : qW x0 (ix2 i c) = ((qryR X (c.val / 256) i (c.val % 256) * (scl / Real.log 2) : ℝ) : EReal) := by
  have e := A.q
  unfold qryR
  pointwise [qW]
  by_cases h1 : c.val % 256 < 192
  · rw [dif_pos ⟨by omega, h1⟩, if_pos h1, ofBits_scl, ofBits_two, log_real two_pos, div_real _ _ log2_ne, EReal.coe_mul]
    exact congrArg (fun y : EReal => y * _) (e i ⟨c.val / 256, by omega⟩ ⟨c.val % 256, h1⟩)
  · rw [dif_neg fun h => h1 h.2, if_neg h1, zero_mul]
    exact zero_word

theorem kW_at (i : Fin 4096) (c : Fin 2048) : kW x1 (ix2 i c) = ((X.kv i (c.val / 256) (c.val % 256) : ℝ) : EReal) := by
  pointwise [kW]
  exact A.kv i ⟨c.val / 256, by omega⟩ ⟨c.val % 256, by omega⟩

theorem rW_at (i : Fin 4096) (e : Fin 128) : rW x2 (ix2 i e) = ((if e.val < 64 then X.r i e else 0 : ℝ) : EReal) := by
  pointwise [rW]
  by_cases h1 : e.val < 64
  · rw [dif_pos h1, if_pos h1]
    exact A.r i ⟨e.val, h1⟩
  · rw [dif_neg h1, if_neg h1]
    exact zero_word

theorem oW_at (i : Fin 4096) (c : Fin 1024) : oW x3 (ix2 i c) = ((X.ct i (c.val / 128) (c.val % 128) : ℝ) : EReal) := by
  pointwise [oW]
  exact A.ct i ⟨c.val / 128, by omega⟩ ⟨c.val % 128, by omega⟩

variable (R : RowMax X x0 x1 x2)
include R

theorem expW_at (h : Fin 8) (i j : Fin 4096) : expW x0 x1 x2 (ix3 h i j) = ((ex X h i j : ℝ) : EReal) := by
  have e18 := v18_at A h i j
  have e19 := R h i
  unfold expW
  generalize val_main_v18_0 (F := Ideal) x0 x1 x2 = y at e18 ⊢
  generalize val_main_v19 (F := Ideal) x0 x1 x2 = z at e19 ⊢
  pointwise []
  rw [e18, e19, exp_at]
  rfl

theorem sumW_at (h : Fin 8) (i : Fin 4096) : sumW x0 x1 x2 (ix2 h i) = ((den X h i : ℝ) : EReal) := by
  have e := expW_at A R h i
  unfold sumW
  generalize expW x0 x1 x2 = y at e ⊢
  pointwise []
  exact coe_sum_fin 4096 _ (fun j => ex X h i j) e

omit A R in
/-- A row's maximum and the logarithm of its sum. -/
theorem add_log_at (y z : FVec Ideal S8x4096 .f32) (h : Fin 8) (i : Fin 4096) :
    addf (broadcastInDim S8x4096x1 ![0, 1] bcast_S8x4096_S8x4096x1_0_1 z)
      (Host.log (broadcastInDim S8x4096x1 ![0, 1] bcast_S8x4096_S8x4096x1_0_1 y)) (ix3 h i 0) = z (ix2 h i) + Ideal.log (y (ix2 h i)) := by
  pointwise []
omit A R in
theorem log_two_at (h : Fin 8) (i : Fin 4096) :
    broadcastInDim S8x4096x1 ![] bcast_S_S8x4096x1 (Host.log (constant (F := Ideal) S_ .f32 0x40000000#32)) (ix3 h i 0)
      = Ideal.log (Ideal.ofBits .f32 0x40000000#32) := by
  pointwise []
omit A R in
theorem quot_at (y z : FVec Ideal S8x4096x1 .f32) (h : Fin 8) (i : Fin 4096) :
    (shapeCast S8x1x4096 (Host.divf y z) shapeCasts_S8x4096x1_S8x1x4096 : FVec Ideal _ .f32) (ix3 h 0 i) = Ideal.div (y (ix3 h i 0)) (z (ix3 h i 0)) := by
  pointwise []

theorem lseW_at (h : Fin 8) (i : Fin 4096) : lseW x0 x1 x2 (ix3 h 0 i) = (((X.M h i + Real.log (den X h i)) / Real.log 2 : ℝ) : EReal) := by
  unfold lseW
  rw [quot_at, add_log_at, log_two_at, sumW_at A R, R h i, ofBits_two, log_real two_pos, log_real (den_pos X h i), ← EReal.coe_add,
    div_real _ _ log2_ne]

theorem prW_at (h : Fin 8) (i j : Fin 4096) : prW x0 x1 x2 (ix3 h i j) = ((pr X h i j : ℝ) : EReal) := by
  have e := expW_at A R h i j
  have e1 := sumW_at A R h i
  unfold prW
  generalize expW x0 x1 x2 = y at e ⊢
  generalize sumW x0 x1 x2 = z at e1 ⊢
  pointwise []
  rw [e, e1]
  exact div_real _ _ (den_pos X h i).ne'

theorem deltaW_at (h : Fin 8) (i : Fin 4096) : deltaW x0 x1 x2 x3 (ix3 h 0 i) = ((delta X h i : ℝ) : EReal) := by
  have e := prW_at A R h i
  have e5 := fun j : Fin 4096 => v5_at A j h
  have e3 := A.ct i h
  unfold deltaW
  generalize prW x0 x1 x2 = y at e ⊢
  generalize val_main_v5 (F := Ideal) x1 = z at e5 ⊢
  pointwise []
  rw [← sum_out]
  exact sum_prod 128 _ _ (fun d => X.ct i h d) (fun d => ∑ j ∈ range 4096, X.kv j h (128 + d) * pr X h i j) e3
    fun d => sum_prod 4096 _ _ (fun j => X.kv j h (128 + d)) (fun j => pr X h i j) (fun j => e5 j d) e

end At

end Cert.Proof.Attn

end
-- ==== Proof.Attn.Blocks.lean ====
/-
  The operand blocks of every point, over the arguments' real entries.
-/
module

public import proofs.«01_k».proof.Proof.Attn.Arrays
public import proofs.«01_k».proof.Proof.Attn.Host

@[expose] public section

set_option maxRecDepth 16384

noncomputable section

namespace Cert.Proof.Attn

open Cert.KernelIdeal Cert.KernelIdeal.Gen Idealize.ShloMosaic Idealize.ShloMosaic.TcCoe Idealize.SL.Sem Cert.Proof.KI Finset

variable (m : (ℓ : Loc nD τ sig) → Buf (Elt Ideal) ℓ) (c : Dev nD)

theorem head_lt (t : Fin cfg0.N) : t.val / 8 < 8 := by
  have : t.val < 64 := t.isLt
  omega

theorem div_256 (a : ℕ) (e : Fin 256) : (a * 256 + e.val) / 256 = a := by omega
theorem mod_256 (a : ℕ) (e : Fin 256) : (a * 256 + e.val) % 256 = e.val := by omega
theorem div_128 (a : ℕ) (e : Fin 128) : (a * 128 + e.val) / 128 = a := by omega
theorem mod_128 (a : ℕ) (e : Fin 128) : (a * 128 + e.val) % 128 = e.val := by omega

theorem blk_q (t : Fin cfg0.N) (i : Fin 4096) (e : Fin 256) : iblk m c 0 t (ix2 i e)
    = (V m c main_v46 : FVec Ideal S4096x2048 .bf16) (ix2 i ⟨t.val / 8 * 256 + e.val, by have := head_lt t; omega⟩) := by
  have e := (index_at t).1
  unfold iblk
  generalize V m c = v
  blk_ext [e]
theorem blk_k (t : Fin cfg0.N) (b : Fin 512) (e : Fin 256) : iblk m c 1 t (ix2 b e)
    = (V m c main_v48 : FVec Ideal S4096x2048 .bf16) (ix2 ⟨t.val % 8 * 512 + b.val, by omega⟩ ⟨t.val / 8 * 256 + e.val, by have := head_lt t; omega⟩) := by
  have e := (index_at t).2.1
  unfold iblk
  generalize V m c = v
  blk_ext [e]
theorem blk_r (t : Fin cfg0.N) (b : Fin 512) (e : Fin 128) : iblk m c 2 t (ix2 b e)
    = (V m c main_v50 : FVec Ideal S4096x128 .bf16) (ix2 ⟨t.val % 8 * 512 + b.val, by omega⟩ e) := by
  have e := (index_at t).2.2.1
  unfold iblk
  generalize V m c = v
  blk_ext [e]
theorem blk_o (t : Fin cfg0.N) (i : Fin 4096) (e : Fin 128) : iblk m c 3 t (ix2 i e)
    = (V m c main_v52 : FVec Ideal S4096x1024 .bf16) (ix2 i ⟨t.val / 8 * 128 + e.val, by have := head_lt t; omega⟩) := by
  have e := (index_at t).2.2.2.1
  unfold iblk
  generalize V m c = v
  blk_ext [e]
theorem blk_l (t : Fin cfg0.N) (i : Fin 4096) : iblk m c 4 t (ix3 0 0 i)
    = (V m c main_v35 : FVec Ideal S8x1x4096 .f32) (ix3 ⟨t.val / 8, head_lt t⟩ 0 i) := by
  have e := (index_at t).2.2.2.2.1
  unfold iblk
  generalize V m c = v
  blk_ext [e]
theorem blk_d (t : Fin cfg0.N) (i : Fin 4096) : iblk m c 5 t (ix3 0 0 i)
    = (V m c main_v39 : FVec Ideal S8x1x4096 .f32) (ix3 ⟨t.val / 8, head_lt t⟩ 0 i) := by
  have e := (index_at t).2.2.2.2.2.1
  unfold iblk
  generalize V m c = v
  blk_ext [e]

variable {m c} {X : In} (A : Args X (m (c.tc.loc main_arg0)) (m (c.tc.loc main_arg1)) (m (c.tc.loc main_arg2)) (m (c.tc.loc main_arg3)))
  (R : RowMax X (m (c.tc.loc main_arg0)) (m (c.tc.loc main_arg1)) (m (c.tc.loc main_arg2)))
include A R

theorem opQ (t : Fin cfg0.N) (i : Fin 4096) (e : Fin 256) :
    iblk m c 0 t (ix2 i e) = ((qryR X (t.val / 8) i.val e.val * (scl / Real.log 2) : ℝ) : EReal) := by
  refine (blk_q m c t i e).trans ((congrFun (V_q m c) _).trans ((qW_at A i _).trans ?_))
  dsimp only
  rw [div_256, mod_256]
theorem opK (t : Fin cfg0.N) (b : Fin 512) (e : Fin 256) :
    iblk m c 1 t (ix2 b e) = ((X.kv (512 * (t.val % 8) + b.val) (t.val / 8) e.val : ℝ) : EReal) := by
  refine (blk_k m c t b e).trans ((congrFun (V_k m c) _).trans ((kW_at A _ _).trans ?_))
  dsimp only
  rw [div_256, mod_256, Nat.mul_comm _ 512]
theorem opR (t : Fin cfg0.N) (b : Fin 512) (e : Fin 128) :
    iblk m c 2 t (ix2 b e) = ((if e.val < 64 then X.r (512 * (t.val % 8) + b.val) e.val else 0 : ℝ) : EReal) := by
  refine (blk_r m c t b e).trans ((congrFun (V_r m c) _).trans ((rW_at A _ _).trans ?_))
  dsimp only
  rw [Nat.mul_comm _ 512]
theorem opO (t : Fin cfg0.N) (i : Fin 4096) (e : Fin 128) :
    iblk m c 3 t (ix2 i e) = ((X.ct i.val (t.val / 8) e.val : ℝ) : EReal) := by
  refine (blk_o m c t i e).trans ((congrFun (V_o m c) _).trans ((oW_at A i _).trans ?_))
  dsimp only
  rw [div_128, mod_128]
theorem opL (t : Fin cfg0.N) (i : Fin 4096) :
    iblk m c 4 t (ix3 0 0 i) = (((X.M (t.val / 8) i.val + Real.log (den X (t.val / 8) i.val)) / Real.log 2 : ℝ) : EReal) :=
  (blk_l m c t i).trans (((congrFun (V_lse m c) (ix3 ⟨t.val / 8, head_lt t⟩ 0 i))).trans (lseW_at A R ⟨t.val / 8, head_lt t⟩ i))
theorem opD (t : Fin cfg0.N) (i : Fin 4096) :
    iblk m c 5 t (ix3 0 0 i) = ((delta X (t.val / 8) i.val : ℝ) : EReal) :=
  (blk_d m c t i).trans ((congrFun (V_delta m c) (ix3 ⟨t.val / 8, head_lt t⟩ 0 i)).trans (deltaW_at A R ⟨t.val / 8, head_lt t⟩ i))

omit A R in
theorem opsIs_of {h ki : ℕ} {q : FVec Ideal S4096x256 .bf16} {k : FVec Ideal S512x256 .bf16} {r : FVec Ideal S512x128 .bf16} {o : FVec Ideal S4096x128 .bf16}
    {l d : FVec Ideal S1x1x4096 .f32}
    (hq : ∀ (i : Fin 4096) (e : Fin 256), q (ix2 i e) = ((qryR X h i.val e.val * (scl / Real.log 2) : ℝ) : EReal))
    (hk : ∀ (b : Fin 512) (e : Fin 256), k (ix2 b e) = ((X.kv (512 * ki + b.val) h e.val : ℝ) : EReal))
    (hr : ∀ (b : Fin 512) (e : Fin 128), r (ix2 b e) = (((if e.val < 64 then X.r (512 * ki + b.val) e.val else 0 : ℝ)) : EReal))
    (ho : ∀ (i : Fin 4096) (e : Fin 128), o (ix2 i e) = ((X.ct i.val h e.val : ℝ) : EReal))
    (hl : ∀ i : Fin 4096, l (ix3 0 0 i) = (((X.M h i.val + Real.log (den X h i.val)) / Real.log 2 : ℝ) : EReal))
    (hd : ∀ i : Fin 4096, d (ix3 0 0 i) = ((delta X h i.val : ℝ) : EReal)) : OpsIs X h ki ⟨q, k, r, o, l, d⟩ := ⟨hq, hk, hr, ho, hl, hd⟩

theorem opsIs (t : Fin cfg0.N) : OpsIs X (t.val / 8) (t.val % 8) (opsAt m c t) := by
  have hq := opQ A R t
  have hk := opK A R t
  have hr := opR A R t
  have ho := opO A R t
  have hl := opL A R t
  have hd := opD A R t
  unfold opsAt
  generalize iblk m c 0 t = b0 at hq ⊢
  generalize iblk m c 1 t = b1 at hk ⊢
  generalize iblk m c 2 t = b2 at hr ⊢
  generalize iblk m c 3 t = b3 at ho ⊢
  generalize iblk m c 4 t = b4 at hl ⊢
  generalize iblk m c 5 t = b5 at hd ⊢
  exact opsIs_of hq hk hr ho hl hd

end Cert.Proof.Attn

end
-- ==== Proof.Attn.Finite.lean ====
/-
  What the precondition says: every entry of the four arguments is a real.
-/
module

public import proofs.«01_k».proof.Pre_finite
public import proofs.«01_k».proof.Proof.Gen.Pre_finite
public import proofs.«01_k».proof.Proof.Attn.Scores
public import Idealize.ShloMosaic.Lib.ReduceAll

@[expose] public section

set_option maxRecDepth 16384

noncomputable section

namespace Cert.Proof.Attn

open Idealize.ShloMosaic

/-- A value whose magnitude is below infinity is a real. -/
theorem real_of_lt (x : Ideal .f32) (h : FloatOps.cmpf .olt (FloatOps.hostAbsf x) (FloatOps.ofBits (F := Ideal) .f32 0x7F800000#32) = 1#1) :
    ∃ a : ℝ, x = (a : EReal) := by
  have htop : Ideal.ofBits .f32 0x7F800000#32 = ⊤ := by simp [Ideal.ofBits, Ideal.ieee]
  have hlt : max (x : EReal) (-(x : EReal)) < ⊤ := by
    have h : Ideal.cmp .olt (max (x : EReal) (-(x : EReal))) (Ideal.ofBits .f32 0x7F800000#32) = 1#1 := h
    rw [htop] at h
    unfold Ideal.cmp at h
    by_contra hn
    simp [hn] at h
  rw [max_lt_iff] at hlt
  have hb : (x : EReal) ≠ ⊥ := fun e => by
    have := hlt.2
    rw [e] at this
    simp at this
  exact ⟨_, (EReal.coe_toReal hlt.1.ne hb).symm⟩

instance : Subsingleton Cert.Pre_finite.S_.Idx := ⟨fun a b => funext fun i => i.elim0⟩

open Cert.Pre_finite in
/-- The precondition at each argument's entries. -/
theorem entries {x0 : FVec Ideal S4096x8x192 .f32} {x1 : FVec Ideal S4096x8x256 .f32} {x2 : FVec Ideal S4096x64 .f32} {x3 : FVec Ideal S4096x8x128 .f32}
    (h : Cert.Pre_finite.fn (F := Ideal) x0 x1 x2 x3 = fun _ => 1#1) :
    (∀ i, ∃ a : ℝ, x0 i = (a : EReal)) ∧ (∀ i, ∃ a : ℝ, x1 i = (a : EReal)) ∧ (∀ i, ∃ a : ℝ, x2 i = (a : EReal)) ∧ (∀ i, ∃ a : ℝ, x3 i = (a : EReal)) := by
  have h := congrFun h ix0
  unfold Cert.Pre_finite.fn Cert.Pre_finite.fn_part1 at h
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

/-- The arguments' entries and their rows' maxima, as reals. -/
def inOf (x0 : FVec Ideal Cert.ReferenceIdeal.S4096x8x192 .f32) (x1 : FVec Ideal Cert.ReferenceIdeal.S4096x8x256 .f32)
    (x2 : FVec Ideal Cert.ReferenceIdeal.S4096x64 .f32) (x3 : FVec Ideal Cert.ReferenceIdeal.S4096x8x128 .f32) : In where
  q i h d := if H : i < 4096 ∧ h < 8 ∧ d < 192 then EReal.toReal (x0 (ix3 ⟨i, H.1⟩ ⟨h, H.2.1⟩ ⟨d, H.2.2⟩)) else 0
  kv i h d := if H : i < 4096 ∧ h < 8 ∧ d < 256 then EReal.toReal (x1 (ix3 ⟨i, H.1⟩ ⟨h, H.2.1⟩ ⟨d, H.2.2⟩)) else 0
  r i d := if H : i < 4096 ∧ d < 64 then EReal.toReal (x2 (ix2 ⟨i, H.1⟩ ⟨d, H.2⟩)) else 0
  ct i h d := if H : i < 4096 ∧ h < 8 ∧ d < 128 then EReal.toReal (x3 (ix3 ⟨i, H.1⟩ ⟨h, H.2.1⟩ ⟨d, H.2.2⟩)) else 0
  M h i := if H : h < 8 ∧ i < 4096 then EReal.toReal (Cert.ReferenceIdeal.Read.val_main_v19 (F := Ideal) x0 x1 x2 (ix2 ⟨h, H.1⟩ ⟨i, H.2⟩)) else 0

theorem toReal_of {x : EReal} (h : ∃ a : ℝ, x = (a : EReal)) : x = ((EReal.toReal x : ℝ) : EReal) := by
  obtain ⟨a, rfl⟩ := h
  rfl

variable {x0 : FVec Ideal Cert.ReferenceIdeal.S4096x8x192 .f32} {x1 : FVec Ideal Cert.ReferenceIdeal.S4096x8x256 .f32}
  {x2 : FVec Ideal Cert.ReferenceIdeal.S4096x64 .f32} {x3 : FVec Ideal Cert.ReferenceIdeal.S4096x8x128 .f32}

theorem args_inOf (h : Cert.Pre_finite.fn (F := Ideal) x0 x1 x2 x3 = fun _ => 1#1) : Args (inOf x0 x1 x2 x3) x0 x1 x2 x3 := by
  obtain ⟨h0, h1, h2, h3⟩ := entries h
  refine ⟨fun i a d => ?_, fun i a d => ?_, fun i d => ?_, fun i a d => ?_⟩
  · refine (toReal_of (h0 _)).trans ?_
    unfold inOf
    dsimp only
    rw [dif_pos ⟨i.isLt, a.isLt, d.isLt⟩]
  · refine (toReal_of (h1 _)).trans ?_
    unfold inOf
    dsimp only
    rw [dif_pos ⟨i.isLt, a.isLt, d.isLt⟩]
  · refine (toReal_of (h2 _)).trans ?_
    unfold inOf
    dsimp only
    rw [dif_pos ⟨i.isLt, d.isLt⟩]
  · refine (toReal_of (h3 _)).trans ?_
    unfold inOf
    dsimp only
    rw [dif_pos ⟨i.isLt, a.isLt, d.isLt⟩]

theorem rowMax_inOf (h : Cert.Pre_finite.fn (F := Ideal) x0 x1 x2 x3 = fun _ => 1#1) : RowMax (inOf x0 x1 x2 x3) x0 x1 x2 := by
  intro a i
  refine (toReal_of (v19_real (args_inOf h) a i)).trans ?_
  unfold inOf
  dsimp only
  rw [dif_pos ⟨a.isLt, i.isLt⟩]

end Cert.Proof.Attn

end
-- ==== Proof.Attn.Value.lean ====
/-
  The kernel's run with its three results named, and the reference's three results as the same arrays.
-/
module

public import proofs.«01_k».proof.Proof.Attn.Blocks
public import proofs.«01_k».proof.Proof.Attn.Ref
public import Idealize.ShloMosaic.Lib.Claim

@[expose] public section

set_option maxRecDepth 16384

noncomputable section

namespace Cert.Proof.Attn

open Cert.KernelIdeal Cert.KernelIdeal.Gen Idealize.ShloMosaic Idealize.ShloMosaic.TcCoe Idealize.SL.Sem Cert.Proof.KI

variable (m : (ℓ : Loc nD τ sig) → Buf (Elt Ideal) ℓ) (ρ : Dev nD → PrngReg)

/-- Every run ends with the three gradients in the call's result arrays and the arguments as they were. -/
theorem run_value (X : Dev nD → In)
    (A : ∀ c : Dev nD, Args (X c) (m (c.tc.loc main_arg0)) (m (c.tc.loc main_arg1)) (m (c.tc.loc main_arg2)) (m (c.tc.loc main_arg3)))
    (R : ∀ c : Dev nD, RowMax (X c) (m (c.tc.loc main_arg0)) (m (c.tc.loc main_arg1)) (m (c.tc.loc main_arg2))) :
    θ_run defs (onTc (τ := τ) (main (F := Ideal))) ⟨m, fun _ => 0, ρ⟩ (fun r => ∀ c : Dev nD,
      r.2.mem ((c.tc : Thread nD τ).loc main_v53_0) = Gq (X c)
      ∧ r.2.mem ((c.tc : Thread nD τ).loc main_v53_1) = Gkv (X c)
      ∧ r.2.mem ((c.tc : Thread nD τ).loc main_v53_2) = Gkr (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 6).trans (final_dq (opsIs (A c) (R c))), ((h c).1 7).trans (final_dkv (opsIs (A c) (R c))),
      ((h c).1 8).trans (final_dkr (opsIs (A c) (R c))),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

section Reference

open Cert.ReferenceIdeal.Read

variable {X : In} {x0 : FVec Ideal Cert.ReferenceIdeal.S4096x8x192 .f32} {x1 : FVec Ideal Cert.ReferenceIdeal.S4096x8x256 .f32}
  {x2 : FVec Ideal Cert.ReferenceIdeal.S4096x64 .f32} {x3 : FVec Ideal Cert.ReferenceIdeal.S4096x8x128 .f32}
  (A : Args X x0 x1 x2 x3) (R : RowMax X x0 x1 x2)
include A R

theorem ref_dq : val_main_v79 (F := Ideal) x0 x1 x2 x3 = Gq X := by
  funext i
  idx_vars i
  exact v79_at A R i0 i1
theorem ref_dkv : val_main_v83 (F := Ideal) x0 x1 x2 x3 = Gkv X := by
  funext i
  idx_vars i
  exact v83_at A R i0 i1
theorem ref_dkr : val_main_v81 (F := Ideal) x0 x1 x2 x3 = Gkr X := by
  funext i
  idx_vars i
  exact v81_at A R i0 i1

end Reference

end Cert.Proof.Attn

end
-- ==== Proof.Fwd.Tiles.lean ====
/-
  The forward attention's step: what one tile of keys does to the running maximum, the running sum and the
  weighted values, and the steps of one query tile one after the other.
-/
module

public import proofs.«01_k».proof.Proof.Gen.FlashFwdIdeal.Frame
public import Idealize.ShloMosaic.Lib.VecWindow

@[expose] public section

set_option maxRecDepth 16384

noncomputable section

namespace Cert.Proof.Fwd

open Cert.FlashFwdIdeal Cert.FlashFwdIdeal.Gen Idealize.ShloMosaic Idealize.ShloMosaic.TcCoe

variable {F : FTy → Type} [FloatOps F] [Named F]

/-- The running maximum, the running sum and the weighted values of a query tile; the first two repeated over 128 lanes. -/
structure St (F : FTy → Type) [FloatOps F] where
  m : Vec F S512x128 .f32
  l : Vec F S512x128 .f32
  a : Vec F S512x128 .f32

/-- The key tile: the head's 128 key columns beside the shared rotary columns. -/
def keys (K : Vec F S512x256 .bf16) (R : Vec F S512x128 .bf16) : FVec F S512x256 .bf16 :=
  concatenate S512x256 1 [⟨S512x128, extractStridedSlice S512x128 ![0, 0] (shapeCast S512x256 K shapeCasts_S512x256_S512x256) slices_S512x256_o0_0_S512x128⟩,
    ⟨S512x128, shapeCast S512x128 R shapeCasts_S512x128_S512x128⟩] concatenates_S512x128_S512x128_S512x256_d1

/-- A tile's scores, queries down and keys across. -/
def prods (Q : FVec F S512x256 .bf16) (K : Vec F S512x256 .bf16) (R : Vec F S512x128 .bf16) : FVec F S512x512 .f32 :=
  matmul dot_S512x256_S512x256_S512x512_1_1_0_0_n_n none Q (keys K R) (constant S512x512 .f32 0x00000000#32)

/-- The diagonal tile's scores: a key after the query gets `-∞`. -/
def masked (Q : FVec F S512x256 .bf16) (K : Vec F S512x256 .bf16) (R : Vec F S512x128 .bf16) : FVec F S512x512 .f32 :=
  select (cmpi .sle (iota .tc S512x512 32 [1] iota_S512x512_d1_w32) (iota .tc S512x512 32 [0] iota_S512x512_d0_w32)) (prods Q K R)
    (broadcast S512x512 (Scalar.ofBits .f32 0xFF800000#32))

/-- The maximum with a tile's scores. -/
def newMax (s : FVec F S512x512 .f32) (m : Vec F S512x128 .f32) : FVec F S512x128 .f32 :=
  maximumf m (broadcastTo S512x128 (shapeCast S512x1 (multiReduction .maximumf [1] S512 s 0xFF800000#32 reduces_S512x512_S512 (.inl rfl) rfl) shapeCasts_S512_S512x1) broadcasts_S512x1_S512x128)

/-- What the sums so far are scaled by. -/
def decay (s : FVec F S512x512 .f32) (m : Vec F S512x128 .f32) : FVec F S512x128 .f32 := exp2 (subf m (newMax s m))

/-- The tile's weights. -/
def weights (s : FVec F S512x512 .f32) (m : Vec F S512x128 .f32) : FVec F S512x512 .f32 :=
  exp2 (subf s (concatenate S512x512 1 [⟨S512x128, newMax s m⟩, ⟨S512x128, newMax s m⟩, ⟨S512x128, newMax s m⟩, ⟨S512x128, newMax s m⟩]
    concatenates_S512x128_S512x128_S512x128_S512x128_S512x512_d1))

/-- The state with a tile's scores and values taken in. -/
def upd (s : FVec F S512x512 .f32) (K : Vec F S512x256 .bf16) (x : St F) : St F where
  m := shapeCast S512x128 (newMax s x.m) shapeCasts_S512x128_S512x128
  l := shapeCast S512x128 (addf (mulf (decay s x.m) x.l)
    (broadcastTo S512x128 (shapeCast S512x1 (multiReduction .add [1] S512 (weights s x.m) 0x00000000#32 reduces_S512x512_S512 (.inl rfl) rfl) shapeCasts_S512_S512x1) broadcasts_S512x1_S512x128))
    shapeCasts_S512x128_S512x128
  a := shapeCast S512x128 (addf (mulf (decay s x.m) x.a)
    (matmul dot_S512x512_S512x128_S512x128_1_0_0_1_n_n none (truncf .bf16 (weights s x.m) bitsLt_bf16_f32)
      (extractStridedSlice S512x128 ![0, 128] (shapeCast S512x256 K shapeCasts_S512x256_S512x256) slices_S512x256_o0_128_S512x128) (constant S512x128 .f32 0x00000000#32)))
    shapeCasts_S512x128_S512x128

theorem inb256 (j : ℕ) (h : j < 8) : ∀ a, (![512 * j, 0] : Fin 2 → ℕ) a + S512x256.size a ≤ S4096x256.size a :=
  Fin.forall_fin_two.mpr ⟨show 512 * j + 512 ≤ 4096 by omega, show 0 + 256 ≤ 256 by omega⟩
theorem inb128 (j : ℕ) (h : j < 8) : ∀ a, (![512 * j, 0] : Fin 2 → ℕ) a + S512x128.size a ≤ S4096x128.size a :=
  Fin.forall_fin_two.mpr ⟨show 512 * j + 512 ≤ 4096 by omega, show 0 + 128 ≤ 128 by omega⟩

/-- Tile `j` of the keys and values, and of the rotary keys. -/
abbrev kT (k : Vec F S4096x256 .bf16) (j : ℕ) (h : j < 8) : Vec F S512x256 .bf16 := VecWindow.window k ![512 * j, 0] S512x256.size (inb256 j h)
abbrev rT (r : Vec F S4096x128 .bf16) (j : ℕ) (h : j < 8) : Vec F S512x128 .bf16 := VecWindow.window r ![512 * j, 0] S512x128.size (inb128 j h)

/-- The state with key tile `j`, before the diagonal, taken in; and with the diagonal tile. -/
def off (Q : FVec F S512x256 .bf16) (k : Vec F S4096x256 .bf16) (r : Vec F S4096x128 .bf16) (j : ℕ) (h : j < 8) (x : St F) : St F :=
  upd (prods Q (kT k j h) (rT r j h)) (kT k j h) x
def diag (Q : FVec F S512x256 .bf16) (k : Vec F S4096x256 .bf16) (r : Vec F S4096x128 .bf16) (j : ℕ) (h : j < 8) (x : St F) : St F :=
  upd (masked Q (kT k j h) (rT r j h)) (kT k j h) x

/-- What a query tile starts from. -/
def start : St F := ⟨k0_pay74, k0_pay75, k0_pay76⟩

/-- The state after the first `n` key tiles, none of them the diagonal one. -/
def steps (Q : FVec F S512x256 .bf16) (k : Vec F S4096x256 .bf16) (r : Vec F S4096x128 .bf16) : ℕ → St F
  | 0 => start
  | n + 1 => if h : n < 8 then off Q k r n h (steps Q k r n) else steps Q k r n

theorem steps_succ (Q : FVec F S512x256 .bf16) (k : Vec F S4096x256 .bf16) (r : Vec F S4096x128 .bf16) (n : ℕ) (h : n < 8) :
    steps Q k r (n + 1) = off Q k r n h (steps Q k r n) := dif_pos h

/-- The state query tile `q` ends with. -/
def point (Q : FVec F S512x256 .bf16) (k : Vec F S4096x256 .bf16) (r : Vec F S4096x128 .bf16) (q : ℕ) (h : q < 8) : St F :=
  diag Q k r q h (steps Q k r q)

/-! ## Where the accesses lie, and how often the loops run -/

theorem off1_eq : ∀ i : grid0.Coords, k0_off1 i = ![512 * (i 1).val, 0] := by decide +kernel
theorem off2_eq : ∀ i : grid0.Coords, k0_off2 i = ![512 * (i 1).val, 0] := by decide +kernel
theorem off3_eq : ∀ (i : grid0.Coords) (t : Fin (k0_t1_loop i).trips), k0_off3 i t = ![512 * (2 * t.val), 0] := by decide +kernel
theorem off4_eq : ∀ (i : grid0.Coords) (t : Fin (k0_t1_loop i).trips), k0_off4 i t = ![512 * (2 * t.val), 0] := by decide +kernel
theorem off5_eq : ∀ (i : grid0.Coords) (t : Fin (k0_t1_loop i).trips), k0_off5 i t = ![512 * (2 * t.val + 1), 0] := by decide +kernel
theorem off6_eq : ∀ (i : grid0.Coords) (t : Fin (k0_t1_loop i).trips), k0_off6 i t = ![512 * (2 * t.val + 1), 0] := by decide +kernel
theorem off11_eq : ∀ i : grid0.Coords, (i 1).val % 2 = 0 → (i 1).val ≠ 0 → k0_off11 i = ![512 * ((i 1).val - 2), 0] := by decide +kernel
theorem off12_eq : ∀ i : grid0.Coords, (i 1).val % 2 = 0 → (i 1).val ≠ 0 → k0_off12 i = ![512 * ((i 1).val - 2), 0] := by decide +kernel
theorem off13_eq : ∀ i : grid0.Coords, (i 1).val ≠ 0 → k0_off13 i = ![512 * ((i 1).val - 1), 0] := by decide +kernel
theorem off14_eq : ∀ i : grid0.Coords, (i 1).val ≠ 0 → k0_off14 i = ![512 * ((i 1).val - 1), 0] := by decide +kernel
theorem off15_eq : ∀ i : grid0.Coords, k0_off15 i = ![512 * (i 1).val, 0] := by decide +kernel
theorem off16_eq : ∀ i : grid0.Coords, k0_off16 i = ![512 * (i 1).val, 0] := by decide +kernel
theorem trips1_eq : ∀ i : grid0.Coords, (k0_t1_loop i).trips = ((i 1).val - 1) / 2 := by decide +kernel
theorem trips2_eq : ∀ i : grid0.Coords, (k0_t2_loop i).trips = 0 := by decide +kernel

end Cert.Proof.Fwd

end
-- ==== Proof.Fwd.Math.lean ====
/-
  The forward attention in real numbers: the weights of a row's keys under any running maximum, their sums over the
  tiles seen so far, and the output and the row's log-sum they give.
-/
module

public import proofs.«01_k».proof.Proof.Attn.Math

@[expose] public section

noncomputable section

namespace Cert.Proof.Fwd

open Idealize.ShloMosaic Finset Cert.Proof.Attn

/-- The scale of the scores; the same to base 2. -/
def sc : ℝ := (Real.sqrt 192)⁻¹
def lam : ℝ := (Real.sqrt 192)⁻¹ * (Real.log 2)⁻¹

/-- A query with its last 64 lanes rotated by the angles' cosines and sines. -/
def rot (u : ℕ → ℕ → ℕ → ℝ) (c s : ℕ → ℕ → ℝ) (i h d : ℕ) : ℝ :=
  if d < 128 then u i h d
  else if d < 160 then u i h d * c i (d - 128) - u i h (d + 32) * s i (d - 128)
  else u i h d * c i (d - 160) + u i h (d - 32) * s i (d - 160)

variable (X : In) (h : ℕ)

/-- The exponential of a score less its row's maximum, a row's sum of them, and the output. -/
def fex (i j : ℕ) : ℝ := if j ≤ i then Real.exp (raw X h i j * sc - X.M h i) else 0
def fden (i : ℕ) : ℝ := ∑ j ∈ range 4096, fex X h i j
def fout (i d : ℕ) : ℝ := ∑ j ∈ range 4096, X.kv j h (128 + d) * (fex X h i j / fden X h i)
/-- A key's weight when the running maximum is `μ`, and the sums over the first `n` key tiles. -/
def wt (μ : ℝ) (i j : ℕ) : ℝ := if j ≤ i then (2 : ℝ) ^ (raw X h i j * lam - μ) else 0
def ssum (μ : ℝ) (i n : ℕ) : ℝ := ∑ j ∈ range (512 * n), wt X h μ i j
def vsum (μ : ℝ) (i n d : ℕ) : ℝ := ∑ j ∈ range (512 * n), wt X h μ i j * X.kv j h (128 + d)

theorem fex_nonneg (i j : ℕ) : 0 ≤ fex X h i j := by
  unfold fex; split
  · exact (Real.exp_pos _).le
  · exact le_refl _

theorem fden_pos (i : ℕ) : 0 < fden X h i := by
  refine lt_of_lt_of_le ?_ (single_le_sum (f := fun j => fex X h i j) (fun j _ => fex_nonneg X h i j) (mem_range.2 (show 0 < 4096 by norm_num)))
  show 0 < fex X h i 0
  unfold fex
  rw [if_pos (Nat.zero_le _)]
  exact Real.exp_pos _

/-- The weights under two running maxima. -/
theorem wt_shift (μ ν : ℝ) (i j : ℕ) : (2 : ℝ) ^ (μ - ν) * wt X h μ i j = wt X h ν i j := by
  unfold wt
  split
  · rw [← Real.rpow_add (by norm_num)]; congr 1; ring
  · rw [mul_zero]

/-- One more tile. -/
theorem ssum_next (μ ν : ℝ) (i n : ℕ) :
    (2 : ℝ) ^ (μ - ν) * ssum X h μ i n + ∑ b ∈ range 512, wt X h ν i (512 * n + b) = ssum X h ν i (n + 1) := by
  unfold ssum
  rw [Nat.mul_succ, sum_range_add, mul_sum]
  simp only [wt_shift]
theorem vsum_next (μ ν : ℝ) (i n d : ℕ) :
    (2 : ℝ) ^ (μ - ν) * vsum X h μ i n d + ∑ b ∈ range 512, wt X h ν i (512 * n + b) * X.kv (512 * n + b) h (128 + d) = vsum X h ν i (n + 1) d := by
  unfold vsum
  rw [Nat.mul_succ, sum_range_add, mul_sum]
  simp only [← mul_assoc, wt_shift]

/-- The weights are the exponentials, up to the row's factor. -/
theorem wt_ex (μ : ℝ) (i j : ℕ) : wt X h μ i j = fex X h i j * Real.exp (X.M h i - μ * Real.log 2) := by
  unfold wt fex
  split
  · rw [Real.rpow_def_of_pos (by norm_num), ← Real.exp_add]
    congr 1
    have := log2_ne
    unfold lam sc
    field_simp
    ring
  · rw [zero_mul]

theorem upto (f : ℕ → ℝ) {i n : ℕ} (hi : i < 512 * n) (hn : n ≤ 8) (hz : ∀ j, i < j → f j = 0) :
    ∑ j ∈ range (512 * n), f j = ∑ j ∈ range 4096, f j := by
  rw [show (4096 : ℕ) = 512 * n + (4096 - 512 * n) by omega, sum_range_add]
  rw [sum_eq_zero (s := range (4096 - _)) fun j _ => hz _ (by omega), add_zero]

theorem ssum_all (μ : ℝ) {i n : ℕ} (hi : i < 512 * n) (hn : n ≤ 8) :
    ssum X h μ i n = fden X h i * Real.exp (X.M h i - μ * Real.log 2) := by
  unfold ssum fden
  rw [upto _ hi hn fun j hj => by unfold wt; rw [if_neg (by omega)], sum_mul]
  exact sum_congr rfl fun j _ => wt_ex X h μ i j

/-- The output: the weighted values over the sum of the weights. -/
theorem out_eq (μ : ℝ) {i n : ℕ} (hi : i < 512 * n) (hn : n ≤ 8) (d : ℕ) :
    vsum X h μ i n d / ssum X h μ i n = fout X h i d := by
  have hd := (fden_pos X h i).ne'
  have he := (Real.exp_pos (X.M h i - μ * Real.log 2)).ne'
  rw [ssum_all X h μ hi hn]
  unfold vsum fout
  rw [upto _ hi hn fun j hj => by unfold wt; rw [if_neg (by omega), zero_mul], sum_div]
  refine sum_congr rfl fun j _ => ?_
  rw [wt_ex]
  field_simp

theorem ssum_pos (μ : ℝ) {i n : ℕ} (hi : i < 512 * n) (hn : n ≤ 8) : 0 < ssum X h μ i n := by
  rw [ssum_all X h μ hi hn]
  exact mul_pos (fden_pos X h i) (Real.exp_pos _)

/-- The row's log-sum to base 2. -/
theorem lse_eq (μ : ℝ) {i n : ℕ} (hi : i < 512 * n) (hn : n ≤ 8) :
    μ + Real.log (ssum X h μ i n) * (Real.log 2)⁻¹ = (X.M h i + Real.log (fden X h i)) / Real.log 2 := by
  rw [ssum_all X h μ hi hn, Real.log_mul (fden_pos X h i).ne' (Real.exp_pos _).ne', Real.log_exp]
  have := log2_ne
  field_simp
  ring

/-- The greatest of reals and `⊥`s, one of them a real, is a real. -/
theorem max_real {n : ℕ} (g : Fin n → EReal) (f : Fin n → ℝ) (p : Fin n → Prop) [∀ b, Decidable (p b)] (hg : ∀ b, g b = if p b then ((f b : ℝ) : EReal) else ⊥)
    (z : Fin n) (h0 : p z) : ∃ ν : ℝ, univ.fold max (⊥ : EReal) g = (ν : EReal) := by
  have hb : univ.fold max (⊥ : EReal) g ≠ ⊥ := by
    refine ne_of_gt (lt_of_lt_of_le (EReal.bot_lt_coe (f z)) ?_)
    rw [← (hg z).trans (if_pos h0)]
    exact Finset.le_fold_max _ |>.2 (Or.inr ⟨_, mem_univ _, le_refl _⟩)
  have ht : univ.fold max (⊥ : EReal) g ≠ ⊤ := by
    refine ne_of_lt ((Finset.fold_max_lt _).2 ⟨bot_lt_top, fun x _ => ?_⟩)
    rw [hg x]
    split
    · exact EReal.coe_lt_top _
    · exact bot_lt_top
  exact ⟨_, (EReal.coe_toReal ht hb).symm⟩

end Cert.Proof.Fwd

end
-- ==== Proof.Fwd.StepAt.lean ====
/-
  One step of the forward attention at an index, and what a row's state holds after some tiles of keys.
-/
module

public import proofs.«01_k».proof.Proof.Fwd.Tiles
public import proofs.«01_k».proof.Proof.Fwd.Math
public import Idealize.ShloMosaic.Lib.Pointwise

@[expose] public section

set_option maxRecDepth 16384

noncomputable section

namespace Cert.Proof.Fwd

open Cert.FlashFwdIdeal Cert.FlashFwdIdeal.Gen Idealize.ShloMosaic Idealize.ShloMosaic.TcCoe Finset Cert.Proof.Attn

/-- A tile's operands as reals: keys and values from `kb`, and the scaled queries from `qb`. -/
structure Blocks (X : In) (h qb kb : ℕ) (K : Vec Ideal S512x256 .bf16) (R : Vec Ideal S512x128 .bf16) (Q : FVec Ideal S512x256 .bf16) : Prop where
  K : ∀ (b : Fin 512) (e : Fin 256), K (ix2 b e) = ((X.kv (kb + b.val) h e.val : ℝ) : EReal)
  R : ∀ (b : Fin 512) (e : Fin 128), R (ix2 b e) = (((if e.val < 64 then X.r (kb + b.val) e.val else 0 : ℝ)) : EReal)
  Q : ∀ (a : Fin 512) (e : Fin 256), Q (ix2 a e) = ((qryR X h (qb + a.val) e.val * lam : ℝ) : EReal)

section Scores
variable {X : In} {h qb kb : ℕ} {K : Vec Ideal S512x256 .bf16} {R : Vec Ideal S512x128 .bf16} {Q : FVec Ideal S512x256 .bf16}
  (B : Blocks X h qb kb K R Q)
include B

theorem keys_at (b : Fin 512) (e : Fin 256) : keys K R (ix2 b e) = ((keyR X h (kb + b.val) e.val : ℝ) : EReal) := by
  pointwise [keys]
  unfold keyR
  by_cases he : e.val < 128
  · rw [dif_pos he, if_pos he]; exact B.K b _
  · rw [dif_neg he, if_neg he]
    refine (B.R b ⟨e.val - 128, by omega⟩).trans (congrArg (fun x : ℝ => (x : EReal)) ?_)
    by_cases h2 : e.val < 192
    · rw [if_pos h2]; exact if_pos (show e.val - 128 < 64 by omega)
    · rw [if_neg h2]; exact if_neg (show ¬ e.val - 128 < 64 by omega)

theorem prods_at (a b : Fin 512) : prods Q K R (ix2 a b) = ((raw X h (qb + a.val) (kb + b.val) * lam : ℝ) : EReal) := by
  unfold prods
  have T := keys_at B b
  generalize keys K R = KR at T
  pointwise []
  rw [← sum_keyR]
  refine coe_sum_fin 256 _ (fun k => keyR X h (kb + b.val) k * (qryR X h (qb + a.val) k * lam)) fun k => ?_
  rw [B.Q a k, T k, ← EReal.coe_mul, mul_comm]

/-- Off the diagonal every key is before every query. -/
theorem off_at (ho : kb + 512 ≤ qb) (a b : Fin 512) :
    prods Q K R (ix2 a b) = if kb + b.val ≤ qb + a.val then ((raw X h (qb + a.val) (kb + b.val) * lam : ℝ) : EReal) else ⊥ := by
  rw [if_pos (by omega)]
  exact prods_at B a b

/-- The diagonal tile is masked where the key is after the query. -/
theorem masked_at (hd : qb = kb) (a b : Fin 512) :
    masked Q K R (ix2 a b) = if kb + b.val ≤ qb + a.val then ((raw X h (qb + a.val) (kb + b.val) * lam : ℝ) : EReal) else ⊥ := by
  unfold masked
  have S := prods_at B a b
  generalize prods Q K R = P at S
  pointwise []
  rw [S, ofBits_bot, sle_nat b.val a.val (by omega) (by omega), hd]
  by_cases hba : b.val ≤ a.val
  · rw [if_pos hba, if_pos (by omega)]; rfl
  · rw [if_neg hba, if_neg (by omega)]; rfl
end Scores

/-- What row `a`, the query `i`, holds after `n` tiles. -/
def Row (X : In) (h i n : ℕ) (a : Fin 512) (x : St Ideal) : Prop :=
  (n = 0 ∧ ∀ e : Fin 128, x.m (ix2 a e) = (⊥ : EReal) ∧ x.l (ix2 a e) = (0 : EReal) ∧ x.a (ix2 a e) = (0 : EReal))
  ∨ ∃ μ : ℝ, ∀ e : Fin 128, x.m (ix2 a e) = (μ : EReal) ∧ x.l (ix2 a e) = ((ssum X h μ i n : ℝ) : EReal)
      ∧ x.a (ix2 a e) = ((vsum X h μ i n e.val : ℝ) : EReal)

/-- The new maximum at an index. -/
theorem newMax_at (s : FVec Ideal S512x512 .f32) (m : Vec Ideal S512x128 .f32) (a : Fin 512) (e : Fin 128) :
    newMax s m (ix2 a e) = max (m (ix2 a e) : EReal) (univ.fold max (⊥ : EReal) fun b : Fin 512 => (s (ix2 a b) : EReal)) := by
  pointwise [newMax]
  rw [ofBits_bot]

/-- A weight at an index, the row's new maximum being the real `μ`. -/
theorem weights_at (s : FVec Ideal S512x512 .f32) (m : Vec Ideal S512x128 .f32) (a b : Fin 512) (μ : ℝ)
    (hμ : ∀ e : Fin 128, newMax s m (ix2 a e) = (μ : EReal)) (t : ℝ) (p : Prop) [Decidable p]
    (hs : s (ix2 a b) = if p then ((t : ℝ) : EReal) else ⊥) :
    weights s m (ix2 a b) = ((if p then (2 : ℝ) ^ (t - μ) else 0 : ℝ) : EReal) := by
  unfold weights
  generalize newMax s m = w at hμ
  pointwise []
  have e : ∀ y : EReal, y = (μ : EReal) → Ideal.exp2 ((s (ix2 a b) : EReal) - y) = ((if p then (2 : ℝ) ^ (t - μ) else 0 : ℝ) : EReal) := by
    rintro y rfl
    rw [hs]
    split
    · rw [← EReal.coe_sub, Ideal.exp2_coe]; rfl
    · rw [EReal.bot_sub, Ideal.exp2_bot, EReal.coe_zero]
  refine e _ ?_
  split
  · exact hμ _
  · split
    · exact hμ _
    · split
      · exact hμ _
      · exact hμ _

/-- What the sums so far are scaled by, at an index. -/
theorem decay_at (s : FVec Ideal S512x512 .f32) (m : Vec Ideal S512x128 .f32) (a : Fin 512) (e : Fin 128) :
    decay s m (ix2 a e) = Ideal.exp2 ((m (ix2 a e) : EReal) - (newMax s m (ix2 a e) : EReal)) := by
  unfold decay
  generalize newMax s m = w
  pointwise []
  rfl

/-- The new running sum at an index. -/
theorem l_at (s : FVec Ideal S512x512 .f32) (K : Vec Ideal S512x256 .bf16) (x : St Ideal) (a : Fin 512) (e : Fin 128) :
    (upd s K x).l (ix2 a e) = (decay s x.m (ix2 a e) : EReal) * (x.l (ix2 a e) : EReal) + ∑ b : Fin 512, (weights s x.m (ix2 a b) : EReal) := by
  unfold upd
  dsimp only
  generalize decay s x.m = d
  generalize weights s x.m = w
  pointwise []

/-- The new weighted values at an index. -/
theorem a_at (s : FVec Ideal S512x512 .f32) (K : Vec Ideal S512x256 .bf16) (x : St Ideal) (a : Fin 512) (e : Fin 128) :
    (upd s K x).a (ix2 a e) = (decay s x.m (ix2 a e) : EReal) * (x.a (ix2 a e) : EReal)
      + ∑ b : Fin 512, (weights s x.m (ix2 a b) : EReal) * (K (ix2 b ⟨128 + e.val, by omega⟩) : EReal) := by
  unfold upd
  dsimp only
  generalize decay s x.m = d
  generalize weights s x.m = w
  pointwise []

theorem m_at (s : FVec Ideal S512x512 .f32) (K : Vec Ideal S512x256 .bf16) (x : St Ideal) (a : Fin 512) (e : Fin 128) :
    (upd s K x).m (ix2 a e) = (newMax s x.m (ix2 a e) : EReal) := by
  unfold upd
  dsimp only
  generalize newMax s x.m = w
  pointwise []

/-- A tile's scores and values taken into a row. -/
theorem row_next {X : In} {h i n : ℕ} {a : Fin 512} {x : St Ideal} (s : FVec Ideal S512x512 .f32) (K : Vec Ideal S512x256 .bf16)
    (hs : ∀ b : Fin 512, s (ix2 a b) = if 512 * n + b.val ≤ i then ((raw X h i (512 * n + b.val) * lam : ℝ) : EReal) else ⊥)
    (hK : ∀ (b : Fin 512) (e : Fin 256), K (ix2 b e) = ((X.kv (512 * n + b.val) h e.val : ℝ) : EReal))
    (h0 : 512 * n ≤ i) (hx : Row X h i n a x) :
    ∃ μ : ℝ, ∀ e : Fin 128, (upd s K x).m (ix2 a e) = (μ : EReal) ∧ (upd s K x).l (ix2 a e) = ((ssum X h μ i (n + 1) : ℝ) : EReal)
      ∧ (upd s K x).a (ix2 a e) = ((vsum X h μ i (n + 1) e.val : ℝ) : EReal) := by
  obtain ⟨ν, hν⟩ := max_real (fun b : Fin 512 => (s (ix2 a b) : EReal)) (fun b => raw X h i (512 * n + b.val) * lam) (fun b => 512 * n + b.val ≤ i) hs ⟨0, by omega⟩ h0
  have key : ∃ μ r l0 : ℝ, ∃ a0 : ℕ → ℝ, (∀ e : Fin 128, newMax s x.m (ix2 a e) = (μ : EReal)) ∧ (∀ e : Fin 128, decay s x.m (ix2 a e) = (r : EReal))
      ∧ (∀ e : Fin 128, x.l (ix2 a e) = (l0 : EReal)) ∧ (∀ e : Fin 128, x.a (ix2 a e) = ((a0 e.val : ℝ) : EReal))
      ∧ r * l0 + ∑ b ∈ range 512, wt X h μ i (512 * n + b) = ssum X h μ i (n + 1)
      ∧ ∀ d, r * a0 d + ∑ b ∈ range 512, wt X h μ i (512 * n + b) * X.kv (512 * n + b) h (128 + d) = vsum X h μ i (n + 1) d := by
    rcases hx with ⟨rfl, hx⟩ | ⟨μ, hx⟩
    · refine ⟨ν, 0, 0, fun _ => 0, fun e => ?_, fun e => ?_, fun e => (hx e).2.1, fun e => (hx e).2.2, ?_, fun d => ?_⟩
      · rw [newMax_at, hν, (hx e).1]; exact max_eq_right bot_le
      · rw [decay_at, (hx e).1, EReal.bot_sub, Ideal.exp2_bot, EReal.coe_zero]
      · have := ssum_next X h 0 ν i 0
        rw [show ssum X h 0 i 0 = 0 from rfl, mul_zero] at this
        rw [zero_mul]; exact this
      · have := vsum_next X h 0 ν i 0 d
        rw [show vsum X h 0 i 0 d = 0 from rfl, mul_zero] at this
        rw [zero_mul]; exact this
    · have hm : ∀ e : Fin 128, newMax s x.m (ix2 a e) = ((max μ ν : ℝ) : EReal) := fun e => by
        rw [newMax_at, hν, (hx e).1]; exact ((show Monotone ((↑) : ℝ → EReal) from fun _ _ => EReal.coe_le_coe).map_max).symm
      refine ⟨max μ ν, (2 : ℝ) ^ (μ - max μ ν), ssum X h μ i n, fun d => vsum X h μ i n d, hm, fun e => ?_, fun e => (hx e).2.1, fun e => (hx e).2.2,
        ssum_next X h μ _ i n, fun d => vsum_next X h μ _ i n d⟩
      rw [decay_at, hm, (hx e).1, ← EReal.coe_sub, Ideal.exp2_coe]
      rfl
  obtain ⟨μ, r, l0, a0, hm, hr, hl, ha, el, ea⟩ := key
  have hw : ∀ b : Fin 512, weights s x.m (ix2 a b) = ((wt X h μ i (512 * n + b.val) : ℝ) : EReal) := fun b =>
    weights_at s x.m a b μ hm _ _ (hs b)
  refine ⟨μ, fun e => ⟨(m_at s K x a e).trans (hm e), ?_, ?_⟩⟩
  · rw [l_at, hr, hl, ← EReal.coe_mul, coe_sum_fin 512 _ (fun b => wt X h μ i (512 * n + b)) hw, ← EReal.coe_add, el]
  · rw [a_at, hr, ha, ← EReal.coe_mul,
      coe_sum_fin 512 _ (fun b => wt X h μ i (512 * n + b) * X.kv (512 * n + b) h (128 + e.val)) (fun b => by rw [hw, hK, ← EReal.coe_mul]), ← EReal.coe_add, ea]

/-- The start: no tile taken in. -/
theorem row_start (X : In) (h i : ℕ) (a : Fin 512) : Row X h i 0 a start := by
  refine Or.inl ⟨rfl, fun e => ⟨?_, ?_, ?_⟩⟩
  · unfold start
    pointwise [k0_pay74]
    exact ofBits_bot
  · unfold start
    pointwise [k0_pay75]
  · unfold start
    pointwise [k0_pay76]

/-- The head's operands as reals: the scaled queries of tile `q`, and all keys and values. -/
structure Ops (X : In) (h q : ℕ) (Q : FVec Ideal S512x256 .bf16) (k : Vec Ideal S4096x256 .bf16) (r : Vec Ideal S4096x128 .bf16) : Prop where
  Q : ∀ (a : Fin 512) (e : Fin 256), Q (ix2 a e) = ((qryR X h (512 * q + a.val) e.val * lam : ℝ) : EReal)
  k : ∀ (j : Fin 4096) (e : Fin 256), k (ix2 j e) = ((X.kv j.val h e.val : ℝ) : EReal)
  r : ∀ (j : Fin 4096) (e : Fin 128), r (ix2 j e) = (((if e.val < 64 then X.r j.val e.val else 0 : ℝ)) : EReal)

section Point
variable {X : In} {h q : ℕ} {Q : FVec Ideal S512x256 .bf16} {k : Vec Ideal S4096x256 .bf16} {r : Vec Ideal S4096x128 .bf16} (O : Ops X h q Q k r)
include O

theorem tile_at (j : ℕ) (hj : j < 8) : Blocks X h (512 * q) (512 * j) (kT k j hj) (rT r j hj) Q := by
  refine ⟨fun b e => ?_, fun b e => ?_, O.Q⟩
  · refine (congrArg k ?_).trans (O.k ⟨512 * j + b.val, by omega⟩ e)
    exact funext fun x => match x with
      | 0 => Fin.ext (show 512 * j + 1 * b.val = 512 * j + b.val by omega)
      | 1 => Fin.ext (show 0 + 1 * e.val = e.val by omega)
  · refine (congrArg r ?_).trans (O.r ⟨512 * j + b.val, by omega⟩ e)
    exact funext fun x => match x with
      | 0 => Fin.ext (show 512 * j + 1 * b.val = 512 * j + b.val by omega)
      | 1 => Fin.ext (show 0 + 1 * e.val = e.val by omega)

theorem row_steps (a : Fin 512) (n : ℕ) (hn : n ≤ q) (hq : q < 8) : Row X h (512 * q + a.val) n a (steps Q k r n) := by
  induction n with
  | zero => exact row_start X h _ a
  | succ n ih =>
    have B := tile_at O n (by omega)
    rw [steps_succ Q k r n (by omega)]
    exact Or.inr (row_next _ _ (fun b => off_at B (by omega) a b) B.K (by omega) (ih (by omega)))

/-- What a query tile ends with: a row's maximum, sum and weighted values over all keys up to it. -/
theorem row_point (a : Fin 512) (hq : q < 8) : ∃ μ : ℝ, ∀ e : Fin 128, (point Q k r q hq).m (ix2 a e) = (μ : EReal)
    ∧ (point Q k r q hq).l (ix2 a e) = ((ssum X h μ (512 * q + a.val) (q + 1) : ℝ) : EReal)
    ∧ (point Q k r q hq).a (ix2 a e) = ((vsum X h μ (512 * q + a.val) (q + 1) e.val : ℝ) : EReal) := by
  have B := tile_at O q hq
  exact row_next _ _ (fun b => masked_at B rfl a b) B.K (by omega) (row_steps O a q (le_refl _) hq)

/-- The output block. -/
theorem out_at (hq : q < 8) (a : Fin 512) (e : Fin 128) :
    k0_pay5 (point Q k r q hq).a (point Q k r q hq).l (ix2 a e) = ((fout X h (512 * q + a.val) e.val : ℝ) : EReal) := by
  obtain ⟨μ, H⟩ := row_point O a hq
  obtain ⟨_, hl, ha⟩ := H e
  generalize (point Q k r q hq).a = A at ha ⊢
  generalize (point Q k r q hq).l = L at hl ⊢
  pointwise [k0_pay5]
  have hi : 512 * q + a.val < 512 * (q + 1) := by omega
  rw [hl, ha, div_real _ _ (ssum_pos X h μ hi (by omega)).ne', out_eq X h μ hi (by omega)]

/-- The log-sums' block. -/
theorem lse_at (hq : q < 8) (a : Fin 512) : k0_pay6 (point Q k r q hq).m (point Q k r q hq).l (ix3 0 0 a)
    = (((X.M h (512 * q + a.val) + Real.log (fden X h (512 * q + a.val))) / Real.log 2 : ℝ) : EReal) := by
  obtain ⟨μ, H⟩ := row_point O a hq
  obtain ⟨hm, hl, _⟩ := H 0
  generalize (point Q k r q hq).m = M at hm ⊢
  generalize (point Q k r q hq).l = L at hl ⊢
  pointwise [k0_pay6]
  have u : (Named.named κ "log2_e" 0x3FB8AA3B#32 : Ideal .f32) = (((Real.log 2)⁻¹ : ℝ) : EReal) := rfl
  have hi : 512 * q + a.val < 512 * (q + 1) := by omega
  rw [u, ← lse_eq X h μ hi (by omega), EReal.coe_add, EReal.coe_mul, ← log_real (ssum_pos X h μ hi (by omega))]
  exact congrArg₂ (fun x y : EReal => x + Ideal.log y * _) hm hl
end Point

end Cert.Proof.Fwd

end
-- ==== Proof.Fwd.Args.lean ====
/-
  The forward call's arguments as arrays of reals.
-/
module

public import proofs.«01_k».proof.FlashFwdRefIdeal
public import proofs.«01_k».proof.Proof.Fwd.Math
public import Idealize.ShloMosaic.Lib.Pointwise

@[expose] public section

noncomputable section

namespace Cert.Proof.Fwd

open Cert.FlashFwdRefIdeal Idealize.ShloMosaic
open Cert.Proof.Attn (In)

/-- The five arguments' entries are reals; the rotated queries are those of `X`. -/
structure Args (X : In) (u : ℕ → ℕ → ℕ → ℝ) (c s : ℕ → ℕ → ℝ) (x0 : FVec Ideal S4096x8x192 .f32) (x1 : FVec Ideal S4096x8x256 .f32)
    (x2 : FVec Ideal S4096x64 .f32) (x3 x4 : FVec Ideal S4096x32 .f32) : Prop where
  q : X.q = rot u c s
  u : ∀ (i : Fin 4096) (h : Fin 8) (d : Fin 192), x0 (ix3 i h d) = ((u i h d : ℝ) : EReal)
  kv : ∀ (i : Fin 4096) (h : Fin 8) (d : Fin 256), x1 (ix3 i h d) = ((X.kv i h d : ℝ) : EReal)
  r : ∀ (i : Fin 4096) (d : Fin 64), x2 (ix2 i d) = ((X.r i d : ℝ) : EReal)
  c : ∀ (i : Fin 4096) (d : Fin 32), x3 (ix2 i d) = ((c i d : ℝ) : EReal)
  s : ∀ (i : Fin 4096) (d : Fin 32), x4 (ix2 i d) = ((s i d : ℝ) : EReal)

end Cert.Proof.Fwd

end
-- ==== Proof.Fwd.Host.lean ====
/-
  What the host's lines hand the forward call, and the rotated and scaled queries the call makes of it.
-/
module

public import proofs.«01_k».proof.Proof.Fwd.StepAt
public import proofs.«01_k».proof.Proof.Fwd.Args
public import proofs.«01_k».proof.Proof.Attn.Ref
public import Idealize.ShloMosaic.Lib.Claim
public import Idealize.ShloMosaic.Lib.KernelVsHost

@[expose] public section

set_option maxRecDepth 16384

noncomputable section

namespace Cert.Proof.Fwd

open Cert.FlashFwdIdeal Cert.FlashFwdIdeal.Gen Idealize.ShloMosaic Idealize.ShloMosaic.TcCoe Idealize.SL.Sem Finset
open Cert.Proof.Attn (In raw qryR keyR zero_word)

section Terms

variable (x0 : FVec Ideal S4096x8x192 .f32) (x1 : FVec Ideal S4096x8x256 .f32) (x2 : FVec Ideal S4096x64 .f32) (x3 x4 : FVec Ideal S4096x32 .f32)

/-- The queries, padded to 256 lanes a head. -/
def qW : FVec Ideal S4096x2048 .f32 :=
  shapeCast S4096x2048 (pad S4096x8x256 ![0, 0, 0] ![0, 0, 64] ![0, 0, 0] x0
    (sitofp .f32 (constantI S_ 32 0#32)) pads_S4096x8x192_S4096x8x256_000_000_0640 h_S_) shapeCasts_S4096x8x256_S4096x2048
/-- The keys and values, the heads side by side. -/
def kW : FVec Ideal S4096x2048 .bf16 := truncf .bf16 (shapeCast S4096x2048 x1 shapeCasts_S4096x8x256_S4096x2048) bitsLt_bf16_f32
/-- The rotary keys, padded to 128 lanes. -/
def rW : FVec Ideal S4096x128 .bf16 :=
  truncf .bf16 (pad S4096x128 ![0, 0] ![0, 64] ![0, 0] x2 (sitofp .f32 (constantI S_ 32 0#32)) pads_S4096x64_S4096x128_000_0640 h_S_) bitsLt_bf16_f32
/-- Zeros of 32 and of 64 lanes. -/
def z32 : FVec Ideal S4096x32 .f32 := broadcastInDim S4096x32 ![] bcast_S_S4096x32 (constant S_ .f32 0x00000000#32)
def z64 : FVec Ideal S4096x64 .f32 := broadcastInDim S4096x64 ![] bcast_S_S4096x64 (constant S_ .f32 0x00000000#32)
/-- A table of 128 lanes: two of 32 beside each other, then zeros. -/
def tabW (y z : FVec Ideal S4096x32 .f32) : FVec Ideal S4096x128 .f32 :=
  concatenate S4096x128 1 [⟨S4096x32, y⟩, ⟨S4096x32, z⟩, ⟨S4096x64, z64⟩] concatenates_S4096x32_S4096x32_S4096x64_S4096x128_d1

end Terms

section Entry

variable (m : (ℓ : Loc nD τ sig) → Buf (Elt Ideal) ℓ) (c : Dev nD)

theorem V_q : (V m c main_v7 : FVec Ideal S4096x2048 .f32) = qW (m (c.tc.loc main_arg0)) := rfl
theorem V_k : (V m c main_v9 : FVec Ideal S4096x2048 .bf16) = kW (m (c.tc.loc main_arg1)) := rfl
theorem V_r : (V m c main_v11 : FVec Ideal S4096x128 .bf16) = rW (m (c.tc.loc main_arg2)) := rfl
theorem V_c : (V m c main_v2 : FVec Ideal S4096x128 .f32) = tabW (m (c.tc.loc main_arg3)) (m (c.tc.loc main_arg3)) := rfl
theorem V_s1 : (V m c main_v3 : FVec Ideal S4096x128 .f32) = tabW z32 (m (c.tc.loc main_arg4)) := rfl
theorem V_s2 : (V m c main_v5 : FVec Ideal S4096x128 .f32) = tabW (Host.negf (m (c.tc.loc main_arg4))) z32 := rfl

end Entry

/-- The padded queries and the three tables as reals. -/
def qp (u : ℕ → ℕ → ℕ → ℝ) (i h d : ℕ) : ℝ := if d < 192 then u i h d else 0
def tb (y z : ℕ → ℕ → ℝ) (i d : ℕ) : ℝ := if d < 32 then y i d else if d < 64 then z i (d - 32) else 0

section At

variable {X : In} {u : ℕ → ℕ → ℕ → ℝ} {c s : ℕ → ℕ → ℝ} {x0 : FVec Ideal S4096x8x192 .f32} {x1 : FVec Ideal S4096x8x256 .f32}
  {x2 : FVec Ideal S4096x64 .f32} {x3 x4 : FVec Ideal S4096x32 .f32} (A : Args X u c s x0 x1 x2 x3 x4)

theorem tabW_at {y z : FVec Ideal S4096x32 .f32} (f g : ℕ → ℕ → ℝ) (hy : ∀ (i : Fin 4096) (d : Fin 32), y (ix2 i d) = ((f i d : ℝ) : EReal))
    (hz : ∀ (i : Fin 4096) (d : Fin 32), z (ix2 i d) = ((g i d : ℝ) : EReal)) (i : Fin 4096) (e : Fin 128) :
    tabW y z (ix2 i e) = ((tb f g i e : ℝ) : EReal) := by
  unfold tb
  pointwise [tabW, z64]
  by_cases h1 : e.val < 32
  · rw [dif_pos h1, if_pos h1]; exact hy i ⟨e.val, h1⟩
  · rw [dif_neg h1, if_neg h1]
    by_cases h2 : e.val < 64
    · rw [dif_pos (by omega), if_pos h2]; exact hz i ⟨e.val - 32, by omega⟩
    · rw [dif_neg (by omega), if_neg h2]; rfl

theorem z32_at (i : Fin 4096) (d : Fin 32) : z32 (ix2 i d) = (((0 : ℕ → ℕ → ℝ) i d : ℝ) : EReal) := by
  pointwise [z32]
  rfl

include A

theorem neg_at (i : Fin 4096) (d : Fin 32) : Host.negf x4 (ix2 i d) = ((-s i d : ℝ) : EReal) := by
  rw [EReal.coe_neg]
  exact congrArg (fun y : EReal => -y) (A.s i d)

theorem qW_at (i : Fin 4096) (k : Fin 2048) : qW x0 (ix2 i k) = ((qp u i (k.val / 256) (k.val % 256) : ℝ) : EReal) := by
  have e := A.u
  unfold qp
  pointwise [qW]
  by_cases h1 : k.val % 256 < 192
  · rw [dif_pos ⟨by omega, h1⟩, if_pos h1]
    exact e i ⟨k.val / 256, by omega⟩ ⟨k.val % 256, h1⟩
  · rw [dif_neg fun h => h1 h.2, if_neg h1]
    exact zero_word

theorem kW_at (i : Fin 4096) (k : Fin 2048) : kW x1 (ix2 i k) = ((X.kv i (k.val / 256) (k.val % 256) : ℝ) : EReal) := by
  pointwise [kW]
  exact A.kv i ⟨k.val / 256, by omega⟩ ⟨k.val % 256, by omega⟩

theorem rW_at (i : Fin 4096) (e : Fin 128) : rW x2 (ix2 i e) = ((if e.val < 64 then X.r i e else 0 : ℝ) : EReal) := by
  pointwise [rW]
  by_cases h1 : e.val < 64
  · rw [dif_pos h1, if_pos h1]
    exact A.r i ⟨e.val, h1⟩
  · rw [dif_neg h1, if_neg h1]
    exact zero_word

end At

/-! ## The rotation in the call -/

theorem turn32_at (y : FVec Ideal S512x128 .f32) (a : Fin 512) (e : Fin 128) :
    dynamicRotate 1 32#32 none y rotates_S512x128_d1 (ix2 a e) = y (ix2 a ⟨(e.val + 96) % 128, by omega⟩) := by
  refine dynamicRotate_apply 1 _ _ _ _ _ fun b => ?_
  match b with
  | 0 => rfl
  | 1 => show (e.val + 96) % 128 = (e.val + 128 - 32) % 128; omega
theorem turn96_at (y : FVec Ideal S512x128 .f32) (a : Fin 512) (e : Fin 128) :
    dynamicRotate 1 96#32 none y rotates_S512x128_d1 (ix2 a e) = y (ix2 a ⟨(e.val + 32) % 128, by omega⟩) := by
  refine dynamicRotate_apply 1 _ _ _ _ _ fun b => ?_
  match b with
  | 0 => rfl
  | 1 => show (e.val + 32) % 128 = (e.val + 128 - 96) % 128; omega

/-- The call's rotation of real entries. -/
theorem pay77_at {x0 : Vec Ideal S512x256 .f32} {x1 x2 x3 : Vec Ideal S512x128 .f32} (a : Fin 512) (f g0 g1 g2 : ℕ → ℝ)
    (h0 : ∀ e : Fin 256, x0 (ix2 a e) = ((f e : ℝ) : EReal)) (h1 : ∀ e : Fin 128, x1 (ix2 a e) = ((g0 e : ℝ) : EReal))
    (h2 : ∀ e : Fin 128, x2 (ix2 a e) = ((g1 e : ℝ) : EReal)) (h3 : ∀ e : Fin 128, x3 (ix2 a e) = ((g2 e : ℝ) : EReal)) (e : Fin 256) :
    k0_pay77 x0 x1 x2 x3 (ix2 a e) = (((if e.val < 128 then f e else
      f e * g0 (e - 128) + f (128 + (e - 128 + 96) % 128) * g1 (e - 128) + f (128 + (e - 128 + 32) % 128) * g2 (e - 128)) * lam : ℝ) : EReal) := by
  have r1 : ∀ e : Fin 128, dynamicRotate 1 32#32 none (extractStridedSlice S512x128 ![0, 128] (shapeCast S512x256 x0 shapeCasts_S512x256_S512x256) slices_S512x256_o0_128_S512x128)
      rotates_S512x128_d1 (ix2 a e) = ((f (128 + (e.val + 96) % 128) : ℝ) : EReal) := fun e => by
    rw [turn32_at]
    pointwise []
    exact h0 ⟨128 + (e.val + 96) % 128, by omega⟩
  have r2 : ∀ e : Fin 128, dynamicRotate 1 96#32 none (extractStridedSlice S512x128 ![0, 128] (shapeCast S512x256 x0 shapeCasts_S512x256_S512x256) slices_S512x256_o0_128_S512x128)
      rotates_S512x128_d1 (ix2 a e) = ((f (128 + (e.val + 32) % 128) : ℝ) : EReal) := fun e => by
    rw [turn96_at]
    pointwise []
    exact h0 ⟨128 + (e.val + 32) % 128, by omega⟩
  unfold k0_pay77
  dsimp only
  generalize dynamicRotate 1 32#32 none _ rotates_S512x128_d1 = y1 at r1 ⊢
  generalize dynamicRotate 1 96#32 none _ rotates_S512x128_d1 = y2 at r2 ⊢
  pointwise []
  have n : (Named.named κ "log2_scale" 0x3DD53B95#32 : Ideal .f32) = ((lam : ℝ) : EReal) := rfl
  rw [n, EReal.coe_mul]
  refine congrArg (fun y : EReal => y * _) ?_
  by_cases hd : e.val < 128
  · rw [dif_pos hd, if_pos hd]; exact h0 _
  · rw [dif_neg hd, if_neg hd, EReal.coe_add, EReal.coe_add, EReal.coe_mul, EReal.coe_mul, EReal.coe_mul, ← h1 ⟨e.val - 128, by omega⟩,
      ← h2 ⟨e.val - 128, by omega⟩, ← h3 ⟨e.val - 128, by omega⟩, ← r1 ⟨e.val - 128, by omega⟩, ← r2 ⟨e.val - 128, by omega⟩, ← h0 e]
    have b : (⟨128 + (e.val - 128), by omega⟩ : Fin 256) = e := Fin.ext (by show 128 + (e.val - 128) = e.val; omega)
    rw [b]

theorem qp_in (u : ℕ → ℕ → ℕ → ℝ) (i h : ℕ) {d : ℕ} (hd : d < 192) : qp u i h d = u i h d := if_pos hd
theorem tb_lo (y z : ℕ → ℕ → ℝ) (i : ℕ) {d : ℕ} (hd : d < 32) : tb y z i d = y i d := if_pos hd
theorem tb_mid (y z : ℕ → ℕ → ℝ) (i : ℕ) {d : ℕ} (h1 : 32 ≤ d) (h2 : d < 64) : tb y z i d = z i (d - 32) :=
  (if_neg (by omega)).trans (if_pos h2)
theorem tb_hi (y z : ℕ → ℕ → ℝ) (i : ℕ) {d : ℕ} (h1 : 64 ≤ d) : tb y z i d = 0 := (if_neg (by omega)).trans (if_neg (by omega))

/-- With the host's tables it is the half-split rotation. -/
theorem turn_eq (u : ℕ → ℕ → ℕ → ℝ) (c s : ℕ → ℕ → ℝ) (i h e : ℕ) (he : e < 256) :
    (if e < 128 then qp u i h e else qp u i h e * tb c c i (e - 128) + qp u i h (128 + (e - 128 + 96) % 128) * tb 0 s i (e - 128)
      + qp u i h (128 + (e - 128 + 32) % 128) * tb (fun i d => -s i d) 0 i (e - 128)) = if e < 192 then rot u c s i h e else 0 := by
  unfold rot
  by_cases h1 : e < 128
  · rw [if_pos h1, if_pos (by omega), if_pos h1, qp_in _ _ _ (by omega)]
  · rw [if_neg h1, if_neg h1]
    by_cases h2 : e < 160
    · rw [if_pos (by omega), if_pos h2, tb_lo _ _ _ (by omega), tb_lo _ _ _ (by omega), tb_lo _ _ _ (by omega), show 128 + (e - 128 + 32) % 128 = e + 32 by omega,
        qp_in _ _ _ (by omega), qp_in u i h (show e + 32 < 192 by omega)]
      simp only [Pi.zero_apply]
      ring
    · by_cases h3 : e < 192
      · rw [if_pos h3, if_neg h2, tb_mid _ _ _ (by omega) (by omega), tb_mid _ _ _ (by omega) (by omega), tb_mid _ _ _ (by omega) (by omega),
          show 128 + (e - 128 + 96) % 128 = e - 32 by omega, qp_in _ _ _ h3, qp_in u i h (show e - 32 < 192 by omega), show e - 128 - 32 = e - 160 by omega]
        simp only [Pi.zero_apply]
        ring
      · rw [if_neg h3, tb_hi _ _ _ (by omega), tb_hi _ _ _ (by omega), tb_hi _ _ _ (by omega)]
        ring

end Cert.Proof.Fwd

end
-- ==== Proof.Fwd.Run.lean ====
/-
  A trip of the paired loop, the loop, and what each kind of grid point leaves.
-/
module

public import proofs.«01_k».proof.Proof.Fwd.Tiles
public import Idealize.ShloMosaic.Lib.Pipeline.ValueKit

@[expose] public section

set_option maxRecDepth 16384

noncomputable section

namespace Cert.Proof.Fwd

open Cert.FlashFwdIdeal Cert.FlashFwdIdeal.Gen Idealize.ShloMosaic Idealize.ShloMosaic.TcCoe Idealize.ShloMosaic.Tactic Idealize.SL.Sem

variable {F : FTy → Type} [FloatOps F] [Named F]

section
variable (𝒱 : Variants) (c : Dev nD) (bd : Option 𝒱.V) (i : grid0.Coords)
  (arg2 : Memref sig .tc .vmem S512x256 .f32) (harg2 : arg2.IsWhole) (arg3 : Memref sig .tc .vmem S512x128 .f32) (harg3 : arg3.IsWhole)
  (arg4 : Memref sig .tc .vmem S512x128 .f32) (harg4 : arg4.IsWhole) (arg5 : Memref sig .tc .vmem S512x128 .f32) (harg5 : arg5.IsWhole)
  (arg6 : Memref sig .tc .vmem S4096x256 .bf16) (harg6 : arg6.IsWhole) (arg7 : Memref sig .tc .vmem S4096x128 .bf16) (harg7 : arg7.IsWhole)
  (arg8 : Memref sig .tc .vmem S512x128 .bf16) (harg8 : arg8.IsWhole) (arg9 : Memref sig .tc .vmem S1x1x512 .f32) (harg9 : arg9.IsWhole)
  (arg10 : Memref sig .tc .vmem S512x256 .bf16) (harg10 : arg10.IsWhole) (arg11 : Memref sig .tc .vmem S512x128 .f32) (harg11 : arg11.IsWhole)
  (arg12 : Memref sig .tc .vmem S512x128 .f32) (harg12 : arg12.IsWhole) (arg13 : Memref sig .tc .vmem S512x128 .f32) (harg13 : arg13.IsWhole)

section
variable (w : BitVec 32) (Q : FVec F S512x256 .bf16) (h2 : k0_cond2 i = 1#1) (X6 : BufTy.Contents (Elt F) arg6.view.ty) (X7 : BufTy.Contents (Elt F) arg7.view.ty)
  (t : Fin (k0_t1_loop i).trips)

/-- The state three buffers hold. -/
def held (g11 : BufTy.Contents (Elt F) arg11.view.ty) (g12 : BufTy.Contents (Elt F) arg12.view.ty) (g13 : BufTy.Contents (Elt F) arg13.view.ty) : St F :=
  ⟨arg11.view.read (Elt F) g11, arg12.view.read (Elt F) g12, arg13.view.read (Elt F) g13⟩

/-- Two steps of the state from the tiles as the accesses read them. -/
def two (Q : FVec F S512x256 .bf16) (K0 : Vec F S512x256 .bf16) (R0 : Vec F S512x128 .bf16) (K1 : Vec F S512x256 .bf16) (R1 : Vec F S512x128 .bf16) (x : St F) : St F :=
  upd (prods Q K1 R1) K1 (upd (prods Q K0 R0) K0 x)

theorem two_args {Q : FVec F S512x256 .bf16} {k : Vec F S4096x256 .bf16} {r : Vec F S4096x128 .bf16} {j0 j1 : ℕ} {h0 : j0 < 8} {h1 : j1 < 8} {K0 K1 : Vec F S512x256 .bf16} {R0 R1 : Vec F S512x128 .bf16}
    {x y : St F} (e0 : K0 = kT k j0 h0) (e0' : R0 = rT r j0 h0) (e1 : K1 = kT k j1 h1) (e1' : R1 = rT r j1 h1) (e : x = y) :
    two Q K0 R0 K1 R1 x = off Q k r j1 h1 (off Q k r j0 h0 y) := by
  subst e0 e0' e1 e1' e; rfl

theorem st_args {m m' l l' a a' : Vec F S512x128 .f32} (e : m = m') (e' : l = l') (e'' : a = a') : (⟨m, l, a⟩ : St F) = ⟨m', l', a'⟩ := by
  subst e e' e''; rfl

theorem trip_eq (h0 : 2 * t.val < 8) (h1 : 2 * t.val + 1 < 8) (g11 : BufTy.Contents (Elt F) arg11.view.ty) (g12 : BufTy.Contents (Elt F) arg12.view.ty) (g13 : BufTy.Contents (Elt F) arg13.view.ty) :
    held arg11 arg12 arg13 (arg11.view.writes (Elt F) g11 (tripL_k0_t1 (F := F) 𝒱 c bd i arg2 harg2 arg3 harg3 arg4 harg4 arg5 harg5 arg6 harg6 arg7 harg7 arg8 harg8 arg9 harg9 arg10 harg10 arg11 harg11 arg12 harg12 arg13 harg13 w Q h2 X6 X7 t g11 g12 g13).1)
        (arg12.view.writes (Elt F) g12 (tripL_k0_t1 (F := F) 𝒱 c bd i arg2 harg2 arg3 harg3 arg4 harg4 arg5 harg5 arg6 harg6 arg7 harg7 arg8 harg8 arg9 harg9 arg10 harg10 arg11 harg11 arg12 harg12 arg13 harg13 w Q h2 X6 X7 t g11 g12 g13).2.1)
        (arg13.view.writes (Elt F) g13 (tripL_k0_t1 (F := F) 𝒱 c bd i arg2 harg2 arg3 harg3 arg4 harg4 arg5 harg5 arg6 harg6 arg7 harg7 arg8 harg8 arg9 harg9 arg10 harg10 arg11 harg11 arg12 harg12 arg13 harg13 w Q h2 X6 X7 t g11 g12 g13).2.2)
      = off Q (arg6.view.read (Elt F) X6) (arg7.view.read (Elt F) X7) (2 * t.val + 1) h1 (off Q (arg6.view.read (Elt F) X6) (arg7.view.read (Elt F) X7) (2 * t.val) h0 (held arg11 arg12 arg13 g11 g12 g13)) := by
  have q0 := arg6.view.readAt_unit X6 (k0_off3_inb i t h2) (off3_eq i t) (inb256 _ h0)
  have q1 := arg6.view.readAt_unit X6 (k0_off5_inb i t h2) (off5_eq i t) (inb256 _ h1)
  have r0 := arg7.view.readAt_unit X7 (k0_off4_inb i t h2) (off4_eq i t) (inb128 _ h0)
  have r1 := arg7.view.readAt_unit X7 (k0_off6_inb i t h2) (off6_eq i t) (inb128 _ h1)
  have e11 := arg11.view.readAt_full g11 inb_S512x128_S512x128_0_0
  have e12 := arg12.view.readAt_full g12 inb_S512x128_S512x128_0_0
  have e13 := arg13.view.readAt_full g13 inb_S512x128_S512x128_0_0
  refine Eq.trans ?_ (two_args (Q := Q) q0 r0 q1 r1 (st_args e11 e12 e13))
  unfold tripL_k0_t1 trip_k0_t1 held
  dsimp only
  sl_unfold_words
  refine st_args ?_ ?_ ?_
  · rw [View.read_writes_full, View.readCov_full]; rfl
  · rw [View.read_writes_full, View.readCov_full, View.readCov_full]; rfl
  · rw [View.read_writes_full, View.readCov_full, View.readCov_full]; rfl

/-- The loop: two steps a trip, from the buffers it starts on. -/
theorem loop_eq (g11 : BufTy.Contents (Elt F) arg11.view.ty) (g12 : BufTy.Contents (Elt F) arg12.view.ty) (g13 : BufTy.Contents (Elt F) arg13.view.ty) (hg : held arg11 arg12 arg13 g11 g12 g13 = start) :
    ∀ n : ℕ, n ≤ (k0_t1_loop i).trips →
    held arg11 arg12 arg13 (arg11.view.writes (Elt F) g11 (pb_k0_t1 (F := F) 𝒱 c bd i arg2 harg2 arg3 harg3 arg4 harg4 arg5 harg5 arg6 harg6 arg7 harg7 arg8 harg8 arg9 harg9 arg10 harg10 arg11 harg11 arg12 harg12 arg13 harg13 w Q h2 X6 X7 g11 g12 g13 n).1)
        (arg12.view.writes (Elt F) g12 (pb_k0_t1 (F := F) 𝒱 c bd i arg2 harg2 arg3 harg3 arg4 harg4 arg5 harg5 arg6 harg6 arg7 harg7 arg8 harg8 arg9 harg9 arg10 harg10 arg11 harg11 arg12 harg12 arg13 harg13 w Q h2 X6 X7 g11 g12 g13 n).2.1)
        (arg13.view.writes (Elt F) g13 (pb_k0_t1 (F := F) 𝒱 c bd i arg2 harg2 arg3 harg3 arg4 harg4 arg5 harg5 arg6 harg6 arg7 harg7 arg8 harg8 arg9 harg9 arg10 harg10 arg11 harg11 arg12 harg12 arg13 harg13 w Q h2 X6 X7 g11 g12 g13 n).2.2)
      = steps Q (arg6.view.read (Elt F) X6) (arg7.view.read (Elt F) X7) (2 * n)
  | 0, _ => by rw [pb_k0_t1.eq_1]; exact hg
  | n + 1, hn => by
    have ht := trips1_eq i
    have hi : (i 1).val < 8 := (i 1).isLt
    have ih := loop_eq g11 g12 g13 hg n (by omega)
    have s := pb_k0_t1_succ (F := F) 𝒱 c bd i arg2 harg2 arg3 harg3 arg4 harg4 arg5 harg5 arg6 harg6 arg7 harg7 arg8 harg8 arg9 harg9 arg10 harg10 arg11 harg11 arg12 harg12 arg13 harg13 w Q h2 X6 X7 g11 g12 g13 ⟨n, by omega⟩
    rw [show 2 * (n + 1) = 2 * n + 1 + 1 from rfl, steps_succ _ _ _ _ (by omega), steps_succ _ _ _ _ (by omega), ← ih, s]
    dsimp only
    rw [View.writes_append, View.writes_append, View.writes_append]
    exact trip_eq 𝒱 c bd i arg2 harg2 arg3 harg3 arg4 harg4 arg5 harg5 arg6 harg6 arg7 harg7 arg8 harg8 arg9 harg9 arg10 harg10 arg11 harg11 arg12 harg12 arg13 harg13 w Q h2 X6 X7 ⟨n, by omega⟩ _ _ _ _ _

end
end

section Cases

variable (c : Dev nD) (i : grid0.Coords)
  (arg2 : Memref sig .tc .vmem S512x256 .f32) (harg2 : arg2.IsWhole) (arg3 : Memref sig .tc .vmem S512x128 .f32) (harg3 : arg3.IsWhole)
  (arg4 : Memref sig .tc .vmem S512x128 .f32) (harg4 : arg4.IsWhole) (arg5 : Memref sig .tc .vmem S512x128 .f32) (harg5 : arg5.IsWhole)
  (arg6 : Memref sig .tc .vmem S4096x256 .bf16) (harg6 : arg6.IsWhole) (arg7 : Memref sig .tc .vmem S4096x128 .bf16) (harg7 : arg7.IsWhole)
  (arg8 : Memref sig .tc .vmem S512x128 .bf16) (harg8 : arg8.IsWhole) (arg9 : Memref sig .tc .vmem S1x1x512 .f32) (harg9 : arg9.IsWhole)
  (arg10 : Memref sig .tc .vmem S512x256 .bf16) (harg10 : arg10.IsWhole) (arg11 : Memref sig .tc .vmem S512x128 .f32) (harg11 : arg11.IsWhole)
  (arg12 : Memref sig .tc .vmem S512x128 .f32) (harg12 : arg12.IsWhole) (arg13 : Memref sig .tc .vmem S512x128 .f32) (harg13 : arg13.IsWhole)
  (x0 : Vec F S512x256 .f32) (x1 : Vec F S512x128 .f32) (x2 : Vec F S512x128 .f32) (x3 : Vec F S512x128 .f32) (x4 : Vec F S4096x256 .bf16) (x5 : Vec F S4096x128 .bf16)

/-- What the buffers hold after the loop. -/
theorem after_loop (w : BitVec 32) (Q : FVec F S512x256 .bf16) (h1 : k0_cond2 i = 1#1) (n : ℕ) (hn : n = (k0_t1_loop i).trips) :
    held arg11 arg12 arg13
        (arg11.view.writes (Elt F) arg11.view.junk ((pb_k0_t1 (F := F) Variants.none c none i arg2 harg2 arg3 harg3 arg4 harg4 arg5 harg5 arg6 harg6 arg7 harg7 arg8 harg8 arg9 harg9 arg10 harg10 arg11 harg11 arg12 harg12 arg13 harg13 w Q h1 (harg6.unread x4) (harg7.unread x5) (arg11.view.writes (Elt F) arg11.view.junk [⟨Rect.unit ![0, 0] S512x128.size inb_S512x128_S512x128_0_0, k0_pay74⟩]) (arg12.view.writes (Elt F) arg12.view.junk [⟨Rect.unit ![0, 0] S512x128.size inb_S512x128_S512x128_0_0, k0_pay75⟩]) (arg13.view.writes (Elt F) arg13.view.junk [⟨Rect.unit ![0, 0] S512x128.size inb_S512x128_S512x128_0_0, k0_pay76⟩]) n).1 ++ [⟨Rect.unit ![0, 0] S512x128.size inb_S512x128_S512x128_0_0, k0_pay74⟩]))
        (arg12.view.writes (Elt F) arg12.view.junk ((pb_k0_t1 (F := F) Variants.none c none i arg2 harg2 arg3 harg3 arg4 harg4 arg5 harg5 arg6 harg6 arg7 harg7 arg8 harg8 arg9 harg9 arg10 harg10 arg11 harg11 arg12 harg12 arg13 harg13 w Q h1 (harg6.unread x4) (harg7.unread x5) (arg11.view.writes (Elt F) arg11.view.junk [⟨Rect.unit ![0, 0] S512x128.size inb_S512x128_S512x128_0_0, k0_pay74⟩]) (arg12.view.writes (Elt F) arg12.view.junk [⟨Rect.unit ![0, 0] S512x128.size inb_S512x128_S512x128_0_0, k0_pay75⟩]) (arg13.view.writes (Elt F) arg13.view.junk [⟨Rect.unit ![0, 0] S512x128.size inb_S512x128_S512x128_0_0, k0_pay76⟩]) n).2.1 ++ [⟨Rect.unit ![0, 0] S512x128.size inb_S512x128_S512x128_0_0, k0_pay75⟩]))
        (arg13.view.writes (Elt F) arg13.view.junk ((pb_k0_t1 (F := F) Variants.none c none i arg2 harg2 arg3 harg3 arg4 harg4 arg5 harg5 arg6 harg6 arg7 harg7 arg8 harg8 arg9 harg9 arg10 harg10 arg11 harg11 arg12 harg12 arg13 harg13 w Q h1 (harg6.unread x4) (harg7.unread x5) (arg11.view.writes (Elt F) arg11.view.junk [⟨Rect.unit ![0, 0] S512x128.size inb_S512x128_S512x128_0_0, k0_pay74⟩]) (arg12.view.writes (Elt F) arg12.view.junk [⟨Rect.unit ![0, 0] S512x128.size inb_S512x128_S512x128_0_0, k0_pay75⟩]) (arg13.view.writes (Elt F) arg13.view.junk [⟨Rect.unit ![0, 0] S512x128.size inb_S512x128_S512x128_0_0, k0_pay76⟩]) n).2.2 ++ [⟨Rect.unit ![0, 0] S512x128.size inb_S512x128_S512x128_0_0, k0_pay76⟩]))
      = steps Q x4 x5 (2 * n) := by
  subst hn
  rw [View.writes_append, View.writes_append, View.writes_append, loop_eq Variants.none c none i arg2 harg2 arg3 harg3 arg4 harg4 arg5 harg5 arg6 harg6 arg7 harg7 arg8 harg8 arg9 harg9 arg10 harg10 arg11 harg11 arg12 harg12 arg13 harg13 w Q h1 (harg6.unread x4) (harg7.unread x5) _ _ _
    (st_args (View.read_writes_full _ _ _ _ _) (View.read_writes_full _ _ _ _ _) (View.read_writes_full _ _ _ _ _)) _ le_rfl, harg6.read_unread, harg7.read_unread]

theorem cov_args {L11 L12 L13 : List (View.Piece (Elt F) S512x128 .f32)} {x : St F}
    (e : held arg11 arg12 arg13 (arg11.view.writes (Elt F) arg11.view.junk L11) (arg12.view.writes (Elt F) arg12.view.junk L12) (arg13.view.writes (Elt F) arg13.view.junk L13) = x) :
    (⟨arg11.view.readCov L11 (Rect.unit ![0, 0] S512x128.size inb_S512x128_S512x128_0_0).toLoadRect, arg12.view.readCov L12 (Rect.unit ![0, 0] S512x128.size inb_S512x128_S512x128_0_0).toLoadRect,
      arg13.view.readCov L13 (Rect.unit ![0, 0] S512x128.size inb_S512x128_S512x128_0_0).toLoadRect⟩ : St F) = x :=
  (st_args (View.readAt_full _ _ _) (View.readAt_full _ _ _) (View.readAt_full _ _ _)).trans e

end Cases

end Cert.Proof.Fwd

end
-- ==== Proof.Fwd.Cases.lean ====
/-
  What each kind of grid point leaves: the first query tile, the odd and the even ones.
-/
module

public import proofs.«01_k».proof.Proof.Fwd.Run

@[expose] public section

set_option maxRecDepth 16384

noncomputable section

namespace Cert.Proof.Fwd

open Cert.FlashFwdIdeal Cert.FlashFwdIdeal.Gen Idealize.ShloMosaic Idealize.ShloMosaic.TcCoe Idealize.ShloMosaic.Tactic Idealize.SL.Sem

variable {F : FTy → Type} [FloatOps F] [Named F]

/-- The last pair of tiles of a query tile, the second of them the diagonal one. -/
def last2 (Q : FVec F S512x256 .bf16) (K1 : Vec F S512x256 .bf16) (R1 : Vec F S512x128 .bf16) (K2 : Vec F S512x256 .bf16) (R2 : Vec F S512x128 .bf16) (x : St F) : St F :=
  upd (masked Q K2 R2) K2 (upd (prods Q K1 R1) K1 x)

theorem last2_args {Q : FVec F S512x256 .bf16} {k : Vec F S4096x256 .bf16} {r : Vec F S4096x128 .bf16} {j1 j2 : ℕ} {h1 : j1 < 8} {h2 : j2 < 8} {K1 K2 : Vec F S512x256 .bf16} {R1 R2 : Vec F S512x128 .bf16}
    {x y : St F} (e1 : K1 = kT k j1 h1) (e1' : R1 = rT r j1 h1) (e2 : K2 = kT k j2 h2) (e2' : R2 = rT r j2 h2) (e : x = y) :
    last2 Q K1 R1 K2 R2 x = diag Q k r j2 h2 (off Q k r j1 h1 y) := by
  subst e1 e1' e2 e2' e; rfl

theorem off_args {Q : FVec F S512x256 .bf16} {k : Vec F S4096x256 .bf16} {r : Vec F S4096x128 .bf16} {j : ℕ} {h : j < 8} {K : Vec F S512x256 .bf16} {R : Vec F S512x128 .bf16}
    {x y : St F} (e1 : K = kT k j h) (e2 : R = rT r j h) (e : x = y) : upd (prods Q K R) K x = off Q k r j h y := by
  subst e1 e2 e; rfl

theorem diag_args {Q : FVec F S512x256 .bf16} {k : Vec F S4096x256 .bf16} {r : Vec F S4096x128 .bf16} {j : ℕ} {h : j < 8} {K : Vec F S512x256 .bf16} {R : Vec F S512x128 .bf16}
    (x : St F) (e1 : K = kT k j h) (e2 : R = rT r j h) : upd (masked Q K R) K x = diag Q k r j h x := by
  subst e1 e2; rfl

theorem point_zero (Q : FVec F S512x256 .bf16) (k : Vec F S4096x256 .bf16) (r : Vec F S4096x128 .bf16) (q : ℕ) (h : q < 8) (e : q = 0) :
    point Q k r q h = diag Q k r q h start := by
  subst e; rfl

theorem point_odd (Q : FVec F S512x256 .bf16) (k : Vec F S4096x256 .bf16) (r : Vec F S4096x128 .bf16) (q : ℕ) (h : q < 8) (n : ℕ) (e : q = n + 1) :
    point Q k r q h = diag Q k r q h (off Q k r (q - 1) (by omega) (steps Q k r n)) := by
  subst e; unfold point; rw [steps_succ _ _ _ _ (by omega)]; rfl

theorem point_even (Q : FVec F S512x256 .bf16) (k : Vec F S4096x256 .bf16) (r : Vec F S4096x128 .bf16) (q : ℕ) (h : q < 8) (n : ℕ) (e : q = n + 2) :
    point Q k r q h = diag Q k r q h (off Q k r (q - 1) (by omega) (off Q k r (q - 2) (by omega) (steps Q k r n))) := by
  subst e; unfold point; rw [steps_succ _ _ _ _ (by omega), steps_succ _ _ _ _ (by omega)]; rfl

section Cases

variable (c : Dev nD) (i : grid0.Coords)
  (arg2 : Memref sig .tc .vmem S512x256 .f32) (harg2 : arg2.IsWhole) (arg3 : Memref sig .tc .vmem S512x128 .f32) (harg3 : arg3.IsWhole)
  (arg4 : Memref sig .tc .vmem S512x128 .f32) (harg4 : arg4.IsWhole) (arg5 : Memref sig .tc .vmem S512x128 .f32) (harg5 : arg5.IsWhole)
  (arg6 : Memref sig .tc .vmem S4096x256 .bf16) (harg6 : arg6.IsWhole) (arg7 : Memref sig .tc .vmem S4096x128 .bf16) (harg7 : arg7.IsWhole)
  (arg8 : Memref sig .tc .vmem S512x128 .bf16) (harg8 : arg8.IsWhole) (arg9 : Memref sig .tc .vmem S1x1x512 .f32) (harg9 : arg9.IsWhole)
  (arg10 : Memref sig .tc .vmem S512x256 .bf16) (harg10 : arg10.IsWhole) (arg11 : Memref sig .tc .vmem S512x128 .f32) (harg11 : arg11.IsWhole)
  (arg12 : Memref sig .tc .vmem S512x128 .f32) (harg12 : arg12.IsWhole) (arg13 : Memref sig .tc .vmem S512x128 .f32) (harg13 : arg13.IsWhole)
  (x0 : Vec F S512x256 .f32) (x1 : Vec F S512x128 .f32) (x2 : Vec F S512x128 .f32) (x3 : Vec F S512x128 .f32) (x4 : Vec F S4096x256 .bf16) (x5 : Vec F S4096x128 .bf16)

set_option maxHeartbeats 4000000 in
theorem outA (h0 : cond0_0 i) (h1 : ¬cond0_1 i) (hq : (i 1).val = 0) (hi : (i 1).val < 8) :
    out0_A_6 c i arg2 harg2 arg3 harg3 arg4 harg4 arg5 harg5 arg6 harg6 arg7 harg7 arg8 harg8 arg9 harg9 arg10 harg10 arg11 harg11 arg12 harg12 arg13 harg13 h0 h1 x0 x1 x2 x3 x4 x5 = k0_pay5 (point (k0_pay77 x0 x1 x2 x3) x4 x5 (i 1).val hi).a (point (k0_pay77 x0 x1 x2 x3) x4 x5 (i 1).val hi).l
      ∧ out0_A_7 c i arg2 harg2 arg3 harg3 arg4 harg4 arg5 harg5 arg6 harg6 arg7 harg7 arg8 harg8 arg9 harg9 arg10 harg10 arg11 harg11 arg12 harg12 arg13 harg13 h0 h1 x0 x1 x2 x3 x4 x5 = k0_pay6 (point (k0_pay77 x0 x1 x2 x3) x4 x5 (i 1).val hi).m (point (k0_pay77 x0 x1 x2 x3) x4 x5 (i 1).val hi).l
      ∧ out0_A_8 c i arg2 harg2 arg3 harg3 arg4 harg4 arg5 harg5 arg6 harg6 arg7 harg7 arg8 harg8 arg9 harg9 arg10 harg10 arg11 harg11 arg12 harg12 arg13 harg13 h0 h1 x0 x1 x2 x3 x4 x5 = (k0_pay77 x0 x1 x2 x3) := by
  have a := arg6.view.readAt_unit (harg6.unread x4) (k0_off1_inb i h0) (off1_eq i) (inb256 _ hi)
  have b := arg7.view.readAt_unit (harg7.unread x5) (k0_off2_inb i h0) (off2_eq i) (inb128 _ hi)
  rw [harg6.read_unread] at a
  rw [harg7.read_unread] at b
  have e := diag_args (Q := (k0_pay77 x0 x1 x2 x3)) (h := hi) start a b
  rw [point_zero (k0_pay77 x0 x1 x2 x3) x4 x5 _ hi hq, ← e]
  refine ⟨?_, ?_, ?_⟩
  · unfold out0_A_6 kernelRun0_A
    dsimp only
    rw [View.read_writes_full]
    sl_unfold_words
    repeat rw [View.readCov_full]
    rw [View.readAt_full arg2.view, View.readAt_full arg3.view, View.readAt_full arg4.view, View.readAt_full arg5.view, harg2.read_unread, harg3.read_unread, harg4.read_unread, harg5.read_unread]
    rfl
  · unfold out0_A_7 kernelRun0_A
    dsimp only
    rw [View.read_writes_full]
    sl_unfold_words
    repeat rw [View.readCov_full]
    rw [View.readAt_full arg2.view, View.readAt_full arg3.view, View.readAt_full arg4.view, View.readAt_full arg5.view, harg2.read_unread, harg3.read_unread, harg4.read_unread, harg5.read_unread]
    rfl
  · unfold out0_A_8 kernelRun0_A
    dsimp only
    sl_unfold_words
    rw [View.read_writes_full, View.readAt_full arg2.view, View.readAt_full arg3.view, View.readAt_full arg4.view, View.readAt_full arg5.view, harg2.read_unread, harg3.read_unread, harg4.read_unread, harg5.read_unread]

set_option maxHeartbeats 4000000 in
theorem outB (h0 : ¬cond0_0 i) (h1 : cond0_1 i) (h2 : ¬cond0_2 i) (hq : (i 1).val % 2 = 1) (hi : (i 1).val < 8) :
    out0_B_6 c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 = k0_pay5 (point (k0_pay77 x0 x1 x2 x3) x4 x5 (i 1).val hi).a (point (k0_pay77 x0 x1 x2 x3) x4 x5 (i 1).val hi).l
      ∧ out0_B_7 c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 = k0_pay6 (point (k0_pay77 x0 x1 x2 x3) x4 x5 (i 1).val hi).m (point (k0_pay77 x0 x1 x2 x3) x4 x5 (i 1).val hi).l
      ∧ out0_B_8 c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 = (k0_pay77 x0 x1 x2 x3) := by
  have a1 := arg6.view.readAt_unit (harg6.unread x4) (k0_off13_inb i h1) (off13_eq i (by omega)) (inb256 _ (by omega))
  have b1 := arg7.view.readAt_unit (harg7.unread x5) (k0_off14_inb i h1) (off14_eq i (by omega)) (inb128 _ (by omega))
  have a2 := arg6.view.readAt_unit (harg6.unread x4) (k0_off15_inb i h1) (off15_eq i) (inb256 _ hi)
  have b2 := arg7.view.readAt_unit (harg7.unread x5) (k0_off16_inb i h1) (off16_eq i) (inb128 _ hi)
  rw [harg6.read_unread] at a1 a2
  rw [harg7.read_unread] at b1 b2
  have e := last2_args (Q := (k0_pay77 x0 x1 x2 x3)) (h1 := (by omega : (i 1).val - 1 < 8)) (h2 := hi) a1 b1 a2 b2 (cov_args arg11 arg12 arg13 (after_loop c i arg2 harg2 arg3 harg3 arg4 harg4 arg5 harg5 arg6 harg6 arg7 harg7 arg8 harg8 arg9 harg9 arg10 harg10 arg11 harg11 arg12 harg12 arg13 harg13 x4 x5 (BitVec.ofNat 32 (i 1).val) (k0_pay77 x0 x1 x2 x3) h1 _ rfl))
  rw [point_odd (k0_pay77 x0 x1 x2 x3) x4 x5 _ hi (2 * (k0_t1_loop i).trips) (by rw [trips1_eq]; omega), ← e]
  refine ⟨?_, ?_, ?_⟩
  · unfold out0_B_6 kernelRun0_B
    dsimp only
    rw [View.read_writes_full]
    sl_unfold_words
    repeat rw [View.readCov_full]
    rw [show Scf.trips (k0_t2_loop i).lb (k0_t2_loop i).ub (k0_t2_loop i).st = 0 from trips2_eq i, pb_k0_t2.eq_1]
    rw [View.readAt_full arg2.view, View.readAt_full arg3.view, View.readAt_full arg4.view, View.readAt_full arg5.view, harg2.read_unread, harg3.read_unread, harg4.read_unread, harg5.read_unread]
    rfl
  · unfold out0_B_7 kernelRun0_B
    dsimp only
    rw [View.read_writes_full]
    sl_unfold_words
    repeat rw [View.readCov_full]
    rw [show Scf.trips (k0_t2_loop i).lb (k0_t2_loop i).ub (k0_t2_loop i).st = 0 from trips2_eq i, pb_k0_t2.eq_1]
    rw [View.readAt_full arg2.view, View.readAt_full arg3.view, View.readAt_full arg4.view, View.readAt_full arg5.view, harg2.read_unread, harg3.read_unread, harg4.read_unread, harg5.read_unread]
    rfl
  · unfold out0_B_8 kernelRun0_B
    dsimp only
    sl_unfold_words
    rw [View.read_writes_full, View.readAt_full arg2.view, View.readAt_full arg3.view, View.readAt_full arg4.view, View.readAt_full arg5.view, harg2.read_unread, harg3.read_unread, harg4.read_unread, harg5.read_unread]

set_option maxHeartbeats 4000000 in
theorem outC (h0 : ¬cond0_0 i) (h1 : cond0_1 i) (h2 : cond0_2 i) (hq : (i 1).val % 2 = 0) (hn : (i 1).val ≠ 0) (hi : (i 1).val < 8) :
    out0_C_6 c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 = k0_pay5 (point (k0_pay77 x0 x1 x2 x3) x4 x5 (i 1).val hi).a (point (k0_pay77 x0 x1 x2 x3) x4 x5 (i 1).val hi).l
      ∧ out0_C_7 c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 = k0_pay6 (point (k0_pay77 x0 x1 x2 x3) x4 x5 (i 1).val hi).m (point (k0_pay77 x0 x1 x2 x3) x4 x5 (i 1).val hi).l
      ∧ out0_C_8 c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 = (k0_pay77 x0 x1 x2 x3) := by
  have a1 := arg6.view.readAt_unit (harg6.unread x4) (k0_off13_inb i h1) (off13_eq i (by omega)) (inb256 _ (by omega))
  have b1 := arg7.view.readAt_unit (harg7.unread x5) (k0_off14_inb i h1) (off14_eq i (by omega)) (inb128 _ (by omega))
  have a2 := arg6.view.readAt_unit (harg6.unread x4) (k0_off15_inb i h1) (off15_eq i) (inb256 _ hi)
  have b2 := arg7.view.readAt_unit (harg7.unread x5) (k0_off16_inb i h1) (off16_eq i) (inb128 _ hi)
  have a0 := arg6.view.readAt_unit (harg6.unread x4) (k0_off11_inb i h1 h2) (off11_eq i hq hn) (inb256 _ (by omega))
  have b0 := arg7.view.readAt_unit (harg7.unread x5) (k0_off12_inb i h1 h2) (off12_eq i hq hn) (inb128 _ (by omega))
  rw [harg6.read_unread] at a0 a1 a2
  rw [harg7.read_unread] at b0 b1 b2
  have e := last2_args (Q := (k0_pay77 x0 x1 x2 x3)) (h1 := (by omega : (i 1).val - 1 < 8)) (h2 := hi) a1 b1 a2 b2
    (off_args (Q := (k0_pay77 x0 x1 x2 x3)) (h := (by omega : (i 1).val - 2 < 8)) a0 b0 (cov_args arg11 arg12 arg13 (after_loop c i arg2 harg2 arg3 harg3 arg4 harg4 arg5 harg5 arg6 harg6 arg7 harg7 arg8 harg8 arg9 harg9 arg10 harg10 arg11 harg11 arg12 harg12 arg13 harg13 x4 x5 (BitVec.ofNat 32 (i 1).val) (k0_pay77 x0 x1 x2 x3) h1 _ rfl)))
  rw [point_even (k0_pay77 x0 x1 x2 x3) x4 x5 _ hi (2 * (k0_t1_loop i).trips) (by rw [trips1_eq]; omega), ← e]
  refine ⟨?_, ?_, ?_⟩
  · unfold out0_C_6 kernelRun0_C
    dsimp only
    rw [View.read_writes_full]
    sl_unfold_words
    repeat rw [View.readCov_full]
    rw [show Scf.trips (k0_t2_loop i).lb (k0_t2_loop i).ub (k0_t2_loop i).st = 0 from trips2_eq i, pb_k0_t2.eq_1]
    rw [View.readAt_full arg2.view, View.readAt_full arg3.view, View.readAt_full arg4.view, View.readAt_full arg5.view, harg2.read_unread, harg3.read_unread, harg4.read_unread, harg5.read_unread]
    rfl
  · unfold out0_C_7 kernelRun0_C
    dsimp only
    rw [View.read_writes_full]
    sl_unfold_words
    repeat rw [View.readCov_full]
    rw [show Scf.trips (k0_t2_loop i).lb (k0_t2_loop i).ub (k0_t2_loop i).st = 0 from trips2_eq i, pb_k0_t2.eq_1]
    rw [View.readAt_full arg2.view, View.readAt_full arg3.view, View.readAt_full arg4.view, View.readAt_full arg5.view, harg2.read_unread, harg3.read_unread, harg4.read_unread, harg5.read_unread]
    rfl
  · unfold out0_C_8 kernelRun0_C
    dsimp only
    sl_unfold_words
    rw [View.read_writes_full, View.readAt_full arg2.view, View.readAt_full arg3.view, View.readAt_full arg4.view, View.readAt_full arg5.view, harg2.read_unread, harg3.read_unread, harg4.read_unread, harg5.read_unread]

end Cases

end Cert.Proof.Fwd

end
-- ==== Proof.Fwd.Final.lean ====
/-
  The forward call's three result arrays after the run, over the arguments' real entries.
-/
module

public import proofs.«01_k».proof.Proof.Fwd.Host
public import proofs.«01_k».proof.Proof.Fwd.Cases
public import proofs.«01_k».proof.Proof.Attn.Blocks
public import Idealize.ShloMosaic.Lib.Pipeline.ValueKit

@[expose] public section

set_option maxRecDepth 16384

noncomputable section

namespace Cert.Proof.Fwd

open Cert.FlashFwdIdeal Cert.FlashFwdIdeal.Gen Idealize.ShloMosaic Idealize.ShloMosaic.TcCoe Idealize.SL.Sem Finset
open Idealize.ShloMosaic.Pipeline (Dat)
open Cert.Proof.Attn (In qryR div_256 mod_256 div_128 mod_128)

section Points

variable {F : FTy → Type} [FloatOps F] [Named F] (m : (ℓ : Loc nD τ sig) → Buf (Elt F) ℓ) (c : Dev nD)

theorem head_lt (t : Fin cfg0.N) : t.val / 8 < 8 := by
  have : t.val < 64 := t.isLt
  omega

theorem coord_at : ∀ t : Fin cfg0.N, (grid0.coords t 1).val = t.val % 8 :=
  (by decide +kernel : ∀ t : Fin grid0.N, _)

/-- The rotated queries of a point, and what it holds at its end. -/
def qAt (t : Fin cfg0.N) : FVec F S512x256 .bf16 := k0_pay77 (iblk m c 0 t) (iblk m c 1 t) (iblk m c 2 t) (iblk m c 3 t)
def ptAt (t : Fin cfg0.N) : St F := point (qAt m c t) (iblk m c 4 t) (iblk m c 5 t) (t.val % 8) (Nat.mod_lt _ (by omega))

theorem point_at (t : Fin cfg0.N) (q : ℕ) (hi : q < 8) (e : q = t.val % 8) : point (qAt m c t) (iblk m c 4 t) (iblk m c 5 t) q hi = ptAt m c t := by
  subst e; rfl

theorem outs_at (t : Fin cfg0.N) : (outsAt0 m c t.val t.isLt).1 = k0_pay5 (ptAt m c t).a (ptAt m c t).l
    ∧ (outsAt0 m c t.val t.isLt).2.1 = k0_pay6 (ptAt m c t).m (ptAt m c t).l ∧ (outsAt0 m c t.val t.isLt).2.2 = qAt m c t := by
  have hc := coord_at t
  have hi : (grid0.coords t 1).val < 8 := by omega
  rw [← point_at m c t _ hi hc]
  by_cases h0 : t.val % 8 = 0
  · have h1 : ¬1 ≤ t.val % 8 := by omega
    rw [outsAt0_A m c t h0 h1]
    unfold qAt
    generalize iblk m c 0 t = b0
    generalize iblk m c 1 t = b1
    generalize iblk m c 2 t = b2
    generalize iblk m c 3 t = b3
    generalize iblk m c 4 t = b4
    generalize iblk m c 5 t = b5
    dsimp only
    exact outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) b0 b1 b2 b3 b4 b5 ((hcond0_0 t).mpr h0) (fun h => h1 ((hcond0_1 t).mp h)) (by omega) hi
  · have h1 : 1 ≤ t.val % 8 := by omega
    by_cases h2 : t.val % 2 = 0
    · rw [outsAt0_C m c t h0 h1 h2]
      unfold qAt
      generalize iblk m c 0 t = b0
      generalize iblk m c 1 t = b1
      generalize iblk m c 2 t = b2
      generalize iblk m c 3 t = b3
      generalize iblk m c 4 t = b4
      generalize iblk m c 5 t = b5
      dsimp only
      exact outC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) b0 b1 b2 b3 b4 b5 (fun h => h0 ((hcond0_0 t).mp h)) ((hcond0_1 t).mpr h1) ((hcond0_2 t).mpr h2) (by omega) (by omega) hi
    · rw [outsAt0_B m c t h0 h1 h2]
      unfold qAt
      generalize iblk m c 0 t = b0
      generalize iblk m c 1 t = b1
      generalize iblk m c 2 t = b2
      generalize iblk m c 3 t = b3
      generalize iblk m c 4 t = b4
      generalize iblk m c 5 t = b5
      dsimp only
      exact outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) b0 b1 b2 b3 b4 b5 (fun h => h0 ((hcond0_0 t).mp h)) ((hcond0_1 t).mpr h1) (fun h => h2 ((hcond0_2 t).mp h)) (by omega) hi

/-- Which block of its array each window of a point is. -/
theorem index_at : ∀ t : Fin cfg0.N, win0_0.index t = ![t.val % 8, t.val / 8] ∧ win0_1.index t = ![t.val % 8, 0] ∧ win0_2.index t = ![t.val % 8, 0]
    ∧ win0_3.index t = ![t.val % 8, 0] ∧ win0_4.index t = ![0, t.val / 8] ∧ win0_5.index t = ![0, 0]
    ∧ win0_6.index t = ![t.val % 8, t.val / 8] ∧ win0_7.index t = ![t.val / 8, 0, t.val % 8] ∧ win0_8.index t = ![t.val % 8, t.val / 8] :=
  (by decide +kernel : ∀ t : Fin grid0.N, _)

end Points

variable (m : (ℓ : Loc nD τ sig) → Buf (Elt Ideal) ℓ) (c : Dev nD)

theorem blk_q (t : Fin cfg0.N) (a : Fin 512) (e : Fin 256) : iblk m c 0 t (ix2 a e)
    = (V m c main_v7 : FVec Ideal S4096x2048 .f32) (ix2 ⟨t.val % 8 * 512 + a.val, by omega⟩ ⟨t.val / 8 * 256 + e.val, by have := head_lt t; omega⟩) := by
  have e := (index_at t).1
  unfold iblk
  generalize V m c = v
  blk_ext [e]
theorem blk_c (t : Fin cfg0.N) (a : Fin 512) (e : Fin 128) : iblk m c 1 t (ix2 a e)
    = (V m c main_v2 : FVec Ideal S4096x128 .f32) (ix2 ⟨t.val % 8 * 512 + a.val, by omega⟩ e) := by
  have e := (index_at t).2.1
  unfold iblk
  generalize V m c = v
  blk_ext [e]
theorem blk_s1 (t : Fin cfg0.N) (a : Fin 512) (e : Fin 128) : iblk m c 2 t (ix2 a e)
    = (V m c main_v3 : FVec Ideal S4096x128 .f32) (ix2 ⟨t.val % 8 * 512 + a.val, by omega⟩ e) := by
  have e := (index_at t).2.2.1
  unfold iblk
  generalize V m c = v
  blk_ext [e]
theorem blk_s2 (t : Fin cfg0.N) (a : Fin 512) (e : Fin 128) : iblk m c 3 t (ix2 a e)
    = (V m c main_v5 : FVec Ideal S4096x128 .f32) (ix2 ⟨t.val % 8 * 512 + a.val, by omega⟩ e) := by
  have e := (index_at t).2.2.2.1
  unfold iblk
  generalize V m c = v
  blk_ext [e]
theorem blk_k (t : Fin cfg0.N) (j : Fin 4096) (e : Fin 256) : iblk m c 4 t (ix2 j e)
    = (V m c main_v9 : FVec Ideal S4096x2048 .bf16) (ix2 j ⟨t.val / 8 * 256 + e.val, by have := head_lt t; omega⟩) := by
  have e := (index_at t).2.2.2.2.1
  unfold iblk
  generalize V m c = v
  blk_ext [e]
theorem blk_r (t : Fin cfg0.N) (j : Fin 4096) (e : Fin 128) : iblk m c 5 t (ix2 j e)
    = (V m c main_v11 : FVec Ideal S4096x128 .bf16) (ix2 j e) := by
  have e := (index_at t).2.2.2.2.2.1
  unfold iblk
  generalize V m c = v
  blk_ext [e]

variable {m c} {X : In} {u : ℕ → ℕ → ℕ → ℝ} {co si : ℕ → ℕ → ℝ}
  (A : Args X u co si (m (c.tc.loc main_arg0)) (m (c.tc.loc main_arg1)) (m (c.tc.loc main_arg2)) (m (c.tc.loc main_arg3)) (m (c.tc.loc main_arg4)))
include A

theorem opQ (t : Fin cfg0.N) (a : Fin 512) (e : Fin 256) :
    qAt m c t (ix2 a e) = ((qryR X (t.val / 8) (512 * (t.val % 8) + a.val) e.val * lam : ℝ) : EReal) := by
  have e0 : ∀ e : Fin 256, iblk m c 0 t (ix2 a e) = ((qp u (512 * (t.val % 8) + a.val) (t.val / 8) e.val : ℝ) : EReal) := fun e => by
    refine (blk_q m c t a e).trans ((congrFun (V_q m c) _).trans ((qW_at A _ _).trans ?_))
    dsimp only
    rw [div_256, mod_256, Nat.mul_comm _ 512]
  have e1 : ∀ e : Fin 128, iblk m c 1 t (ix2 a e) = ((tb co co (512 * (t.val % 8) + a.val) e.val : ℝ) : EReal) := fun e => by
    refine (blk_c m c t a e).trans ((congrFun (V_c m c) _).trans ((tabW_at co co A.c A.c _ _).trans ?_))
    dsimp only
    rw [Nat.mul_comm _ 512]
  have e2 : ∀ e : Fin 128, iblk m c 2 t (ix2 a e) = ((tb 0 si (512 * (t.val % 8) + a.val) e.val : ℝ) : EReal) := fun e => by
    refine (blk_s1 m c t a e).trans ((congrFun (V_s1 m c) _).trans ((tabW_at 0 si z32_at A.s _ _).trans ?_))
    dsimp only
    rw [Nat.mul_comm _ 512]
  have e3 : ∀ e : Fin 128, iblk m c 3 t (ix2 a e) = ((tb (fun i d => -si i d) 0 (512 * (t.val % 8) + a.val) e.val : ℝ) : EReal) := fun e => by
    refine (blk_s2 m c t a e).trans ((congrFun (V_s2 m c) _).trans ((tabW_at (fun i d => -si i d) 0 (neg_at A) z32_at _ _).trans ?_))
    dsimp only
    rw [Nat.mul_comm _ 512]
  unfold qAt
  generalize iblk m c 0 t = b0 at e0 ⊢
  generalize iblk m c 1 t = b1 at e1 ⊢
  generalize iblk m c 2 t = b2 at e2 ⊢
  generalize iblk m c 3 t = b3 at e3 ⊢
  refine (pay77_at a _ _ _ _ e0 e1 e2 e3 e).trans ?_
  rw [turn_eq u co si _ _ _ e.isLt, ← A.q]
  rfl
theorem opK (t : Fin cfg0.N) (j : Fin 4096) (e : Fin 256) : iblk m c 4 t (ix2 j e) = ((X.kv j.val (t.val / 8) e.val : ℝ) : EReal) := by
  refine (blk_k m c t j e).trans ((congrFun (V_k m c) _).trans ((kW_at A _ _).trans ?_))
  dsimp only
  rw [div_256, mod_256]
theorem opR (t : Fin cfg0.N) (j : Fin 4096) (e : Fin 128) : iblk m c 5 t (ix2 j e) = ((if e.val < 64 then X.r j.val e.val else 0 : ℝ) : EReal) :=
  (blk_r m c t j e).trans ((congrFun (V_r m c) _).trans (rW_at A _ _))

theorem ops (t : Fin cfg0.N) : Ops X (t.val / 8) (t.val % 8) (qAt m c t) (iblk m c 4 t) (iblk m c 5 t) := ⟨opQ A t, opK A t, opR A t⟩

omit A
/-- What the output's array, the log-sums' and the queries' hold. -/
def Go (X : In) : FVec Ideal S4096x1024 .bf16 := fun i => ((fout X ((i 1).val / 128) (i 0).val ((i 1).val % 128) : ℝ) : EReal)
def Gl (X : In) : FVec Ideal S8x1x4096 .f32 := fun i =>
  (((X.M (i 0).val (i 2).val + Real.log (fden X (i 0).val (i 2).val)) / Real.log 2 : ℝ) : EReal)
def Gb (X : In) : FVec Ideal S4096x2048 .bf16 := fun i => ((qryR X ((i 1).val / 256) (i 0).val ((i 1).val % 256) * lam : ℝ) : EReal)

include A

theorem final_o : (dats m 0 c).arrAt 6 cfg0.N = Go X := by
  refine (dats m 0 c).arrAt_eq_of_covers 6 _ (by decide +kernel) fun t hf y => ?_
  have e := (index_at t).2.2.2.2.2.2.1
  unfold Go
  blk_simp [e]
  rw [after0_6, (outs_at m c t).1]
  idx_vars y
  refine (out_at (ops A t) (Nat.mod_lt _ (by omega)) y0 y1).trans ?_
  rw [div_128, mod_128, Nat.mul_comm _ 512]

theorem final_l : (dats m 0 c).arrAt 7 cfg0.N = Gl X := by
  refine (dats m 0 c).arrAt_eq_of_covers 7 _ (by decide +kernel) fun t hf y => ?_
  have e := (index_at t).2.2.2.2.2.2.2.1
  unfold Gl
  blk_simp [e]
  rw [after0_7, (outs_at m c t).2.1]
  idx_vars y
  obtain rfl : y0 = 0 := Subsingleton.elim _ _
  obtain rfl : y1 = 0 := Subsingleton.elim _ _
  refine (lse_at (ops A t) (Nat.mod_lt _ (by omega)) y2).trans ?_
  rw [Nat.mul_comm _ 512]

theorem final_b : (dats m 0 c).arrAt 8 cfg0.N = Gb X := by
  refine (dats m 0 c).arrAt_eq_of_covers 8 _ (by decide +kernel) fun t hf y => ?_
  have e := (index_at t).2.2.2.2.2.2.2.2
  unfold Gb
  blk_simp [e]
  rw [after0_8, (outs_at m c t).2.2]
  idx_vars y
  refine (opQ A t y0 y1).trans ?_
  rw [div_256, mod_256, Nat.mul_comm _ 512]

end Cert.Proof.Fwd

end
-- ==== Proof.Fwd.Ref.lean ====
/-
  The reference's forward lines at an index, over the arguments' real entries: rotated queries, masked scores, row
  maxima and sums, and the three results.
-/
module

public import proofs.«01_k».proof.Proof.Gen.FlashFwdRefIdeal.Read
public import proofs.«01_k».proof.Proof.Attn.Scores
public import proofs.«01_k».proof.Proof.Attn.Ref
public import proofs.«01_k».proof.Proof.Fwd.Args
public import Idealize.ShloMosaic.Lib.Pointwise

@[expose] public section

set_option maxRecDepth 16384

noncomputable section

namespace Cert.Proof.Fwd

open Cert.FlashFwdRefIdeal Cert.FlashFwdRefIdeal.Read Idealize.ShloMosaic Finset
open Cert.Proof.Attn (In raw qryR keyR sum_prod coe_sum_fin ofBits_bot ofBits_two log2_ne log_real div_real sle_nat exp_at zero_word)

variable {X : In} {u : ℕ → ℕ → ℕ → ℝ} {c s : ℕ → ℕ → ℝ} {x0 : FVec Ideal S4096x8x192 .f32} {x1 : FVec Ideal S4096x8x256 .f32}
  {x2 : FVec Ideal S4096x64 .f32} {x3 x4 : FVec Ideal S4096x32 .f32} (A : Args X u c s x0 x1 x2 x3 x4)
include A

theorem v4_at (i : Fin 4096) (h : Fin 8) (d : Fin 32) : val_main_v4 (F := Ideal) x0 (ix3 i h d) = ((u i h (128 + d) : ℝ) : EReal) := by
  pointwise [val_main_v4, val_main_v1]
  exact A.u i h ⟨128 + d.val, by omega⟩
theorem v5_at (i : Fin 4096) (h : Fin 8) (d : Fin 32) : val_main_v5 (F := Ideal) x0 (ix3 i h d) = ((u i h (160 + d) : ℝ) : EReal) := by
  pointwise [val_main_v5, val_main_v1]
  refine (congrArg x0 ?_).trans (A.u i h ⟨160 + d.val, by omega⟩)
  congr 2
  omega
theorem v10_at (i : Fin 4096) (h : Fin 8) (d : Fin 32) : val_main_v10 (F := Ideal) x0 x3 x4 (ix3 i h d)
    = ((u i h (128 + d) * c i d - u i h (160 + d) * s i d : ℝ) : EReal) := by
  have e4 := v4_at A i h d
  have e5 := v5_at A i h d
  unfold val_main_v10 val_main_v7 val_main_v9
  generalize val_main_v4 (F := Ideal) x0 = y4 at e4 ⊢
  generalize val_main_v5 (F := Ideal) x0 = y5 at e5 ⊢
  pointwise [val_main_v6, val_main_v8, val_main_v2, val_main_v3]
  rw [e4, e5, EReal.coe_sub, EReal.coe_mul, EReal.coe_mul]
  exact congrArg₂ (fun a b : EReal => _ * a - _ * b) (A.c i d) (A.s i d)
theorem v15_at (i : Fin 4096) (h : Fin 8) (d : Fin 32) : val_main_v15 (F := Ideal) x0 x3 x4 (ix3 i h d)
    = ((u i h (160 + d) * c i d + u i h (128 + d) * s i d : ℝ) : EReal) := by
  have e4 := v4_at A i h d
  have e5 := v5_at A i h d
  unfold val_main_v15 val_main_v12 val_main_v14
  generalize val_main_v4 (F := Ideal) x0 = y4 at e4 ⊢
  generalize val_main_v5 (F := Ideal) x0 = y5 at e5 ⊢
  pointwise [val_main_v11, val_main_v13, val_main_v2, val_main_v3]
  rw [e4, e5, EReal.coe_add, EReal.coe_mul, EReal.coe_mul]
  exact congrArg₂ (fun a b : EReal => _ * a + _ * b) (A.c i d) (A.s i d)

/-- The rotated queries. -/
theorem v17_at (i : Fin 4096) (h : Fin 8) (d : Fin 192) : val_main_v17 (F := Ideal) x0 x3 x4 (ix3 i h d) = ((X.q i h d : ℝ) : EReal) := by
  have e10 := v10_at A i h
  have e15 := v15_at A i h
  have e0 := A.u i h
  rw [A.q]
  unfold val_main_v17 val_main_v16 rot
  generalize val_main_v10 (F := Ideal) x0 x3 x4 = y at e10 ⊢
  generalize val_main_v15 (F := Ideal) x0 x3 x4 = z at e15 ⊢
  pointwise [val_main_v0]
  by_cases h1 : d.val < 128
  · rw [dif_pos h1, if_pos h1]
    exact e0 d
  · rw [dif_neg h1, if_neg h1]
    by_cases h2 : d.val < 160
    · rw [dif_pos (by omega), if_pos h2]
      refine (e10 ⟨d.val - 128, by omega⟩).trans ?_
      dsimp only
      rw [show 128 + (d.val - 128) = d.val by omega, show 160 + (d.val - 128) = d.val + 32 by omega]
    · rw [dif_neg (by omega), if_neg h2]
      refine (congrArg z ?_).trans ((e15 ⟨d.val - 160, by omega⟩).trans ?_)
      · congr 2
      dsimp only
      rw [show 160 + (d.val - 160) = d.val by omega, show 128 + (d.val - 160) = d.val - 32 by omega]

omit A in
theorem scale_at : val_main_v20 (F := Ideal) (ix0) = ((sc : ℝ) : EReal) := by
  have e : Ideal.ofBits .f32 0x43400000#32 = ((192 : ℝ) : EReal) := by
    simp [Ideal.ofBits, Ideal.ieee, -EReal.coe_mul]; norm_num
  pointwise [val_main_v20, val_main_cst]
  rw [e]
  unfold sc
  rw [Ideal.rsqrt_coe, if_neg (by norm_num), if_neg (by norm_num)]

theorem v25_at (h : Fin 8) (i j : Fin 4096) : val_main_v25 (F := Ideal) x0 x1 x3 x4 (ix3 h i j)
    = ((∑ d ∈ range 128, X.q i h d * X.kv j h d : ℝ) : EReal) := by
  have e2 := fun d : Fin 128 => v17_at A i h ⟨d.val, by omega⟩
  unfold val_main_v25 val_main_v21
  generalize val_main_v17 (F := Ideal) x0 x3 x4 = y at e2 ⊢
  pointwise [val_main_v23]
  exact sum_prod 128 _ _ (fun d => X.q i h d) (fun d => X.kv j h d) (fun k => e2 k) (fun k => A.kv j h ⟨k.val, by omega⟩)

theorem v26_at (h : Fin 8) (i j : Fin 4096) : val_main_v26 (F := Ideal) x0 x2 x3 x4 (ix3 h i j)
    = ((∑ d ∈ range 64, X.q i h (128 + d) * X.r j d : ℝ) : EReal) := by
  have e2 := fun d : Fin 64 => v17_at A i h ⟨128 + d.val, by omega⟩
  unfold val_main_v26 val_main_v22
  generalize val_main_v17 (F := Ideal) x0 x3 x4 = y at e2 ⊢
  pointwise [val_main_v19, val_main_v18]
  exact sum_prod 64 _ _ (fun d => X.q i h (128 + d)) (fun d => X.r j d) (fun k => e2 k) (fun k => A.r j k)

omit A in
theorem mask_at (h : Fin 8) (i j : Fin 4096) : val_main_call0_v1 (F := Ideal) (ix3 h i j) = if j.val ≤ i.val then 1#1 else 0#1 := by
  pointwise [val_main_call0_v1, val_main_v36, val_main_v35, val_main_v34, val_main_v33, val_main_v32, val_main_v31, val_main_v30]
  exact sle_nat _ _ (by omega) (by omega)

theorem v29_at (h : Fin 8) (i j : Fin 4096) : val_main_v29 (F := Ideal) x0 x1 x2 x3 x4 (ix3 h i j) = ((raw X h i j * sc : ℝ) : EReal) := by
  have e6 := v25_at A h i j
  have e7 := v26_at A h i j
  have e8 := scale_at
  unfold val_main_v29 val_main_v27 val_main_v28
  generalize val_main_v25 (F := Ideal) x0 x1 x3 x4 = y6 at e6 ⊢
  generalize val_main_v26 (F := Ideal) x0 x2 x3 x4 = y7 at e7 ⊢
  generalize val_main_v20 (F := Ideal) = y8 at e8 ⊢
  pointwise []
  rw [e6, e7, e8, ← EReal.coe_add, ← EReal.coe_mul]
  rfl

/-- A masked score: a key after the query has none. -/
theorem v37_at (h : Fin 8) (i j : Fin 4096) : val_main_v37 (F := Ideal) x0 x1 x2 x3 x4 (ix3 h i j)
    = if j.val ≤ i.val then ((raw X h i j * sc : ℝ) : EReal) else ⊥ := by
  have e1 := mask_at h i j
  have e2 := v29_at A h i j
  unfold val_main_v37
  generalize val_main_call0_v1 (F := Ideal) = y1 at e1 ⊢
  generalize val_main_v29 (F := Ideal) x0 x1 x2 x3 x4 = y2 at e2 ⊢
  pointwise [val_main_call0_v2, val_main_call0_v0, val_main_cst_0]
  rw [e1, e2]
  by_cases hj : j.val ≤ i.val
  · rw [if_pos hj, if_pos hj]; rfl
  · rw [if_neg hj, if_neg hj]; exact ofBits_bot

/-- A row's maximum is a real. -/
theorem v38_real (h : Fin 8) (i : Fin 4096) : ∃ a : ℝ, val_main_v38 (F := Ideal) x0 x1 x2 x3 x4 (ix2 h i) = (a : EReal) := by
  have e := v37_at A h i
  unfold val_main_v38
  generalize val_main_v37 (F := Ideal) x0 x1 x2 x3 x4 = y at e ⊢
  pointwise [val_main_cst_1]
  rw [ofBits_bot]
  exact max_real _ (fun j : Fin 4096 => raw X h i j * sc) (fun j => j.val ≤ i.val) e ⟨0, by omega⟩ (Nat.zero_le _)

/-- The rows' maxima are the reals of `X`. -/
def RowMax (X : In) (x0 : FVec Ideal S4096x8x192 .f32) (x1 : FVec Ideal S4096x8x256 .f32) (x2 : FVec Ideal S4096x64 .f32)
    (x3 x4 : FVec Ideal S4096x32 .f32) : Prop :=
  ∀ (h : Fin 8) (i : Fin 4096), val_main_v38 (F := Ideal) x0 x1 x2 x3 x4 (ix2 h i) = ((X.M h i : ℝ) : EReal)

variable (R : RowMax X x0 x1 x2 x3 x4)
include R

theorem v42_at (h : Fin 8) (i j : Fin 4096) : val_main_v42 (F := Ideal) x0 x1 x2 x3 x4 (ix3 h i j) = ((fex X h i j : ℝ) : EReal) := by
  have e18 := v37_at A h i j
  have e37 := R h i
  unfold val_main_v42 val_main_v41 val_main_v40 val_main_v39
  generalize val_main_v37 (F := Ideal) x0 x1 x2 x3 x4 = y at e18 ⊢
  generalize val_main_v38 (F := Ideal) x0 x1 x2 x3 x4 = z at e37 ⊢
  pointwise []
  rw [e18, e37, exp_at]
  rfl

theorem v43_at (h : Fin 8) (i : Fin 4096) : val_main_v43 (F := Ideal) x0 x1 x2 x3 x4 (ix2 h i) = ((fden X h i : ℝ) : EReal) := by
  have e := v42_at A R h i
  unfold val_main_v43
  generalize val_main_v42 (F := Ideal) x0 x1 x2 x3 x4 = y at e ⊢
  pointwise [val_main_cst_2]
  exact coe_sum_fin 4096 _ (fun j => fex X h i j) fun j => e j

theorem v46_at (h : Fin 8) (i j : Fin 4096) : val_main_v46 (F := Ideal) x0 x1 x2 x3 x4 (ix3 h i j) = ((fex X h i j / fden X h i : ℝ) : EReal) := by
  have e := v42_at A R h i j
  have e1 := v43_at A R h i
  unfold val_main_v46 val_main_v45 val_main_v44
  generalize val_main_v42 (F := Ideal) x0 x1 x2 x3 x4 = y at e ⊢
  generalize val_main_v43 (F := Ideal) x0 x1 x2 x3 x4 = z at e1 ⊢
  pointwise []
  rw [e, e1]
  exact div_real _ _ (fden_pos X h i).ne'

theorem v47_at (h : Fin 8) (d : Fin 128) (i : Fin 4096) : val_main_v47 (F := Ideal) x0 x1 x2 x3 x4 (ix3 h d i) = ((fout X h i d : ℝ) : EReal) := by
  have e := v46_at A R h i
  unfold val_main_v47
  generalize val_main_v46 (F := Ideal) x0 x1 x2 x3 x4 = y at e ⊢
  pointwise [val_main_v24]
  exact sum_prod 4096 _ _ (fun j => X.kv j h (128 + d)) (fun j => fex X h i j / fden X h i) (fun j => A.kv j h ⟨128 + d.val, by omega⟩) (fun j => e j)

/-- The output. -/
theorem out_ref (i : Fin 4096) (k : Fin 1024) : val_main_v61 (F := Ideal) x0 x1 x2 x3 x4 (ix2 i k)
    = ((fout X (k.val / 128) i (k.val % 128) : ℝ) : EReal) := by
  have e := v47_at A R ⟨k.val / 128, by omega⟩ ⟨k.val % 128, by omega⟩ i
  unfold val_main_v61 val_main_v60 val_main_v48
  generalize val_main_v47 (F := Ideal) x0 x1 x2 x3 x4 = y at e ⊢
  pointwise []
  exact e

omit A R in
theorem quot_at (y z w : FVec Ideal S8x4096x1 .f32) (hc : S8x4096x1.ShapeCasts S8x1x4096) (h : Fin 8) (i : Fin 4096) :
    (shapeCast S8x1x4096 (Host.divf (addf y (Host.log z)) w) hc : FVec Ideal _ .f32) (ix3 h 0 i)
      = Ideal.div (y (ix3 h i 0) + Ideal.log (z (ix3 h i 0))) (w (ix3 h i 0)) := by
  pointwise []
omit A R in
theorem log_two_at (h : Fin 8) (i : Fin 4096) : val_main_v52 (F := Ideal) (ix3 h i 0) = ((Real.log 2 : ℝ) : EReal) := by
  pointwise [val_main_v52, val_main_v51, val_main_cst_3]
  rw [ofBits_two, log_real two_pos]
omit A in
theorem v39_at (h : Fin 8) (i : Fin 4096) : val_main_v39 (F := Ideal) x0 x1 x2 x3 x4 (ix3 h i 0) = ((X.M h i : ℝ) : EReal) := by
  have e := R h i
  unfold val_main_v39
  generalize val_main_v38 (F := Ideal) x0 x1 x2 x3 x4 = y at e ⊢
  pointwise []
  exact e
theorem v44_at (h : Fin 8) (i : Fin 4096) : val_main_v44 (F := Ideal) x0 x1 x2 x3 x4 (ix3 h i 0) = ((fden X h i : ℝ) : EReal) := by
  have e := v43_at A R h i
  unfold val_main_v44
  generalize val_main_v43 (F := Ideal) x0 x1 x2 x3 x4 = y at e ⊢
  pointwise []
  exact e

/-- The rows' log-sums to base 2. -/
theorem lse_ref (h : Fin 8) (i : Fin 4096) : val_main_v54 (F := Ideal) x0 x1 x2 x3 x4 (ix3 h 0 i)
    = (((X.M h i + Real.log (fden X h i)) / Real.log 2 : ℝ) : EReal) := by
  unfold val_main_v54 val_main_v53 val_main_v50 val_main_v49
  rw [quot_at, v39_at R, v44_at A R, log_two_at, log_real (fden_pos X h i), ← EReal.coe_add, div_real _ _ log2_ne]

omit R in
/-- The rotated and scaled queries, padded. -/
theorem qb_ref (i : Fin 4096) (k : Fin 2048) : val_main_v63 (F := Ideal) x0 x3 x4 (ix2 i k)
    = ((qryR X (k.val / 256) i (k.val % 256) * lam : ℝ) : EReal) := by
  have e := fun d => v17_at A i ⟨k.val / 256, by omega⟩ d
  have e8 := scale_at
  unfold val_main_v63 val_main_v62 val_main_v59 val_main_v58 val_main_v57 val_main_v56 qryR
  generalize val_main_v17 (F := Ideal) x0 x3 x4 = y at e ⊢
  generalize val_main_v20 (F := Ideal) = y8 at e8 ⊢
  pointwise [val_main_v55, val_main_cst_4, val_main_call1_v0, val_main_c]
  by_cases h1 : k.val % 256 < 192
  · rw [dif_pos ⟨by omega, h1⟩, if_pos h1, e8, ofBits_two, log_real two_pos, div_real _ _ log2_ne, EReal.coe_mul]
    exact congrArg (fun y : EReal => y * _) (e ⟨k.val % 256, h1⟩)
  · rw [dif_neg fun h => h1 h.2, if_neg h1, zero_mul]
    exact zero_word

end Cert.Proof.Fwd

end
-- ==== Proof.Fwd.Value.lean ====
/-
  The forward call's run with its three results named, the reference's three results as the same arrays, and what the
  precondition says: every entry of the five arguments is a real.
-/
module

public import proofs.«01_k».proof.Proof.Fwd.Final
public import proofs.«01_k».proof.Proof.Fwd.Ref
public import proofs.«01_k».proof.Pre_finite12
public import proofs.«01_k».proof.Proof.Gen.Pre_finite12
public import proofs.«01_k».proof.Proof.Gen.FlashFwdRefIdeal.Run
public import proofs.«01_k».proof.Proof.Attn.Finite
public import Idealize.ShloMosaic.Lib.ReduceAll
public import Idealize.ShloMosaic.Lib.Claim

@[expose] public section

set_option maxRecDepth 16384

noncomputable section

namespace Cert.Proof.Fwd

open Idealize.ShloMosaic Idealize.ShloMosaic.TcCoe Idealize.SL.Sem
open Cert.Proof.Attn (In real_of_lt toReal_of)

section Kernel

open Cert.FlashFwdIdeal Cert.FlashFwdIdeal.Gen

variable (m : (ℓ : Loc nD τ sig) → Buf (Elt Ideal) ℓ) (ρ : Dev nD → PrngReg)

/-- Every run ends with the output, the log-sums and the queries in the call's result arrays and the arguments as they were. -/
theorem run_value (X : Dev nD → In) (u : Dev nD → ℕ → ℕ → ℕ → ℝ) (co si : Dev nD → ℕ → ℕ → ℝ)
    (A : ∀ c : Dev nD, Args (X c) (u c) (co c) (si c) (m (c.tc.loc main_arg0)) (m (c.tc.loc main_arg1)) (m (c.tc.loc main_arg2)) (m (c.tc.loc main_arg3))
      (m (c.tc.loc main_arg4))) :
    θ_run defs (onTc (τ := τ) (main (F := Ideal))) ⟨m, fun _ => 0, ρ⟩ (fun r => ∀ c : Dev nD,
      r.2.mem ((c.tc : Thread nD τ).loc main_v12_0) = Go (X c)
      ∧ r.2.mem ((c.tc : Thread nD τ).loc main_v12_1) = Gl (X c)
      ∧ r.2.mem ((c.tc : Thread nD τ).loc main_v12_2) = Gb (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 6).trans (final_o (A c)), ((h c).1 7).trans (final_l (A c)), ((h c).1 8).trans (final_b (A c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Kernel

section Reference

open Cert.FlashFwdRefIdeal Cert.FlashFwdRefIdeal.Read

variable {X : In} {u : ℕ → ℕ → ℕ → ℝ} {co si : ℕ → ℕ → ℝ} {x0 : FVec Ideal S4096x8x192 .f32} {x1 : FVec Ideal S4096x8x256 .f32}
  {x2 : FVec Ideal S4096x64 .f32} {x3 x4 : FVec Ideal S4096x32 .f32} (A : Args X u co si x0 x1 x2 x3 x4)
include A

theorem ref_b : val_main_v63 (F := Ideal) x0 x3 x4 = Gb X := by
  funext i
  idx_vars i
  exact qb_ref A i0 i1

variable (R : RowMax X x0 x1 x2 x3 x4)
include R

theorem ref_o : val_main_v61 (F := Ideal) x0 x1 x2 x3 x4 = Go X := by
  funext i
  idx_vars i
  exact out_ref A R i0 i1
theorem ref_l : val_main_v54 (F := Ideal) x0 x1 x2 x3 x4 = Gl X := by
  funext i
  idx_vars i
  obtain rfl : i1 = 0 := Subsingleton.elim _ _
  exact lse_ref A R i0 i2

omit A R
/-- The reference's run at arguments that make up the reals `X`. -/
theorem reference_value (m : (ℓ : Loc nD τ sig) → Buf (Elt Ideal) ℓ) (ρ : Dev nD → PrngReg) (X : Dev nD → In) (u : Dev nD → ℕ → ℕ → ℕ → ℝ)
    (co si : Dev nD → ℕ → ℕ → ℝ)
    (A : ∀ c : Dev nD, Args (X c) (u c) (co c) (si c) (m (c.tc.loc main_arg0)) (m (c.tc.loc main_arg1)) (m (c.tc.loc main_arg2)) (m (c.tc.loc main_arg3))
      (m (c.tc.loc main_arg4)))
    (R : ∀ c : Dev nD, RowMax (X c) (m (c.tc.loc main_arg0)) (m (c.tc.loc main_arg1)) (m (c.tc.loc main_arg2)) (m (c.tc.loc main_arg3))
      (m (c.tc.loc main_arg4))) :
    θ_run defs (onTc (τ := τ) (main (F := Ideal))) ⟨m, fun _ => 0, ρ⟩ (fun r => ∀ c : Dev nD,
      r.2.mem ((c.tc : Thread nD τ).loc main_v61) = Go (X c)
      ∧ r.2.mem ((c.tc : Thread nD τ).loc main_v54) = Gl (X c)
      ∧ r.2.mem ((c.tc : Thread nD τ).loc main_v63) = Gb (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h c).1.trans ((val_main_v61_eq m c).trans (ref_o (A c) (R c))), (h c).2.1.trans ((val_main_v54_eq m c).trans (ref_l (A c) (R c))),
        (h c).2.2.1.trans ((val_main_v63_eq _ _ _).trans (ref_b (A c))), (h c).2.2.2⟩)
    (Value.run (F := Ideal) m ρ)

end Reference

/-! ## The precondition -/

instance : Subsingleton Cert.Pre_finite12.S_.Idx := ⟨fun a b => funext fun i => i.elim0⟩

open Cert.Pre_finite12 in
/-- The precondition at each argument's entries. -/
theorem entries {x0 : FVec Ideal S4096x8x192 .f32} {x1 : FVec Ideal S4096x8x256 .f32} {x2 : FVec Ideal S4096x64 .f32} {x3 x4 : FVec Ideal S4096x32 .f32}
    (h : Cert.Pre_finite12.fn (F := Ideal) x0 x1 x2 x3 x4 = fun _ => 1#1) :
    (∀ i, ∃ a : ℝ, x0 i = (a : EReal)) ∧ (∀ i, ∃ a : ℝ, x1 i = (a : EReal)) ∧ (∀ i, ∃ a : ℝ, x2 i = (a : EReal))
      ∧ (∀ i, ∃ a : ℝ, x3 i = (a : EReal)) ∧ (∀ i, ∃ a : ℝ, x4 i = (a : EReal)) := by
  have h := congrFun h ix0
  unfold Cert.Pre_finite12.fn Cert.Pre_finite12.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i)⟩

section Reals

open Cert.FlashFwdRefIdeal

variable (x0 : FVec Ideal S4096x8x192 .f32) (x1 : FVec Ideal S4096x8x256 .f32) (x2 : FVec Ideal S4096x64 .f32) (x3 x4 : FVec Ideal S4096x32 .f32)

/-- The queries and the tables as reals. -/
def uOf : ℕ → ℕ → ℕ → ℝ := fun i h d => if H : i < 4096 ∧ h < 8 ∧ d < 192 then EReal.toReal (x0 (ix3 ⟨i, H.1⟩ ⟨h, H.2.1⟩ ⟨d, H.2.2⟩)) else 0
def tOf : ℕ → ℕ → ℝ := fun i d => if H : i < 4096 ∧ d < 32 then EReal.toReal (x3 (ix2 ⟨i, H.1⟩ ⟨d, H.2⟩)) else 0

/-- The rotated queries, the other arguments' entries and the rows' maxima, as reals. -/
def inOf : In where
  q := rot (uOf x0) (tOf x3) (tOf x4)
  kv i h d := if H : i < 4096 ∧ h < 8 ∧ d < 256 then EReal.toReal (x1 (ix3 ⟨i, H.1⟩ ⟨h, H.2.1⟩ ⟨d, H.2.2⟩)) else 0
  r i d := if H : i < 4096 ∧ d < 64 then EReal.toReal (x2 (ix2 ⟨i, H.1⟩ ⟨d, H.2⟩)) else 0
  ct _ _ _ := 0
  M h i := if H : h < 8 ∧ i < 4096 then EReal.toReal (Read.val_main_v38 (F := Ideal) x0 x1 x2 x3 x4 (ix2 ⟨h, H.1⟩ ⟨i, H.2⟩)) else 0

variable {x0 x1 x2 x3 x4}

theorem args_inOf (h : Cert.Pre_finite12.fn (F := Ideal) x0 x1 x2 x3 x4 = fun _ => 1#1) :
    Args (inOf x0 x1 x2 x3 x4) (uOf x0) (tOf x3) (tOf x4) x0 x1 x2 x3 x4 := by
  obtain ⟨h0, h1, h2, h3, h4⟩ := entries h
  refine ⟨rfl, fun i a d => ?_, fun i a d => ?_, fun i d => ?_, fun i d => ?_, fun i d => ?_⟩
  · refine (toReal_of (h0 _)).trans ?_
    unfold uOf
    rw [dif_pos ⟨i.isLt, a.isLt, d.isLt⟩]
  · refine (toReal_of (h1 _)).trans ?_
    unfold inOf
    dsimp only
    rw [dif_pos ⟨i.isLt, a.isLt, d.isLt⟩]
  · refine (toReal_of (h2 _)).trans ?_
    unfold inOf
    dsimp only
    rw [dif_pos ⟨i.isLt, d.isLt⟩]
  · refine (toReal_of (h3 _)).trans ?_
    unfold tOf
    rw [dif_pos ⟨i.isLt, d.isLt⟩]
  · refine (toReal_of (h4 _)).trans ?_
    unfold tOf
    rw [dif_pos ⟨i.isLt, d.isLt⟩]

theorem rowMax_inOf (h : Cert.Pre_finite12.fn (F := Ideal) x0 x1 x2 x3 x4 = fun _ => 1#1) : RowMax (inOf x0 x1 x2 x3 x4) x0 x1 x2 x3 x4 := by
  intro a i
  refine (toReal_of (v38_real (args_inOf h) a i)).trans ?_
  unfold inOf
  dsimp only
  rw [dif_pos ⟨a.isLt, i.isLt⟩]

end Reals

end Cert.Proof.Fwd

end
-- ==== Proof.Mlp.Zero.lean ====
/-
  The zero offsets of a load or store of a whole block.
-/
module

public import Idealize.ShloMosaic.Lib.Pipeline.ValueKit

@[expose] public section

namespace Cert.Proof.Mlp

theorem hz2 : (![0, 0] : Fin 2 → Nat) = fun _ => 0 := funext fun a => by fin_cases a <;> rfl
theorem hz3 : (![0, 0, 0] : Fin 3 → Nat) = fun _ => 0 := funext fun a => by fin_cases a <;> rfl

end Cert.Proof.Mlp

end
-- ==== Proof.Mlp.DownDx.lean ====
/-
  The gradient of the MLP's hidden layer before its activation: the call's array and the reference's result.
-/
module

public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Mlp.Zero
public import Idealize.ShloMosaic.Lib.Pointwise

@[expose] public section

set_option maxRecDepth 16384

noncomputable section

namespace Cert.Proof.Mlp.DownDx

open Cert.DownDxIdeal Cert.DownDxIdeal.Gen Idealize.ShloMosaic Idealize.ShloMosaic.TcCoe Idealize.SL.Sem Finset

/-- What the call's array holds: each output's gradient times the down weight's row, times twice the positive part
    (the two is the literal of both programs). -/
def G (a : FVec Ideal S4096x4096 .f32) (w ct : FVec Ideal S4096x1024 .f32) : FVec Ideal S4096x4096 .bf16 := fun i =>
  (∑ k : Fin 1024, ct (ix2 (i 0) k) * w (ix2 (i 1) k)) * (Ideal.ofBits .f32 0x40000000#32 * max (a i) 0)

variable (m : (ℓ : Loc nD τ sig) → Buf (Elt Ideal) ℓ) (c : Dev nD)

/-- Which block of its array each window of a point is. -/
theorem index_at : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

/-- The body's product at an index. -/
theorem pay_at (x : Vec Ideal S2048x1024 .bf16) (y : Vec Ideal S1x1024x1024 .bf16) (z : Vec Ideal S2048x1024 .bf16) (i : Fin 2048) (j : Fin 1024) :
    k0_pay1 x y z (ix2 i j) = (∑ k : Fin 1024, x (ix2 i k) * y (ix3 0 j k)) * z (ix2 i j) := by
  pointwise [k0_pay1]

theorem V_ct : V m c main_v5 = (truncf .bf16 (m (c.tc.loc main_arg2)) bitsLt_bf16_f32 : FVec Ideal S4096x1024 .bf16) := by
  rfl
theorem V_w : V m c main_v7 = (truncf .bf16 (shapeCast S4x1024x1024 (m (c.tc.loc main_arg1)) shapeCasts_S4096x1024_S4x1024x1024) bitsLt_bf16_f32 : FVec Ideal S4x1024x1024 .bf16) := by
  rfl
theorem V_g : V m c main_v4 = (truncf .bf16 (mulf (broadcastInDim S4096x4096 ![] bcast_S_S4096x4096 (constant S_ .f32 0x40000000#32))
    (maximumf (m (c.tc.loc main_arg0)) (broadcastInDim S4096x4096 ![] bcast_S_S4096x4096 (constant S_ .f32 0x00000000#32)))) bitsLt_bf16_f32 : FVec Ideal S4096x4096 .bf16) := by
  rfl

theorem out_eq (x : Vec Ideal S2048x1024 .bf16) (y : Vec Ideal S1x1024x1024 .bf16) (z : Vec Ideal S2048x1024 .bf16) : out0_3 x y z = k0_pay1 x y z := by
  unfold out0_3
  rw [View.canon_unit_zero hz2, View.ld_unit_zero hz2, View.ld_unit_zero hz3, View.ld_unit_zero hz2]

theorem blk_ct (t : Fin cfg0.N) (i : Fin 2048) (k : Fin 1024) : iblk m c 0 t (ix2 i k)
    = (V m c main_v5 : FVec Ideal S4096x1024 .bf16) (ix2 ⟨t.val / 4 * 2048 + i.val, by have : t.val < 8 := t.isLt; omega⟩ k) := by
  have e := (index_at t).1
  unfold iblk
  generalize V m c = v
  blk_ext [e]
theorem blk_w (t : Fin cfg0.N) (j : Fin 1024) (k : Fin 1024) : iblk m c 1 t (ix3 0 j k)
    = (V m c main_v7 : FVec Ideal S4x1024x1024 .bf16) (ix3 ⟨t.val % 4, by omega⟩ j k) := by
  have e := (index_at t).2.1
  unfold iblk
  generalize V m c = v
  blk_ext [e]
theorem blk_g (t : Fin cfg0.N) (i : Fin 2048) (j : Fin 1024) : iblk m c 2 t (ix2 i j)
    = (V m c main_v4 : FVec Ideal S4096x4096 .bf16) (ix2 ⟨t.val / 4 * 2048 + i.val, by have : t.val < 8 := t.isLt; omega⟩ ⟨t.val % 4 * 1024 + j.val, by omega⟩) := by
  have e := (index_at t).2.2.1
  unfold iblk
  generalize V m c = v
  blk_ext [e]

theorem w_at (w : FVec Ideal S4096x1024 .f32) (p : Fin 4) (j k : Fin 1024) :
    (truncf .bf16 (shapeCast S4x1024x1024 w shapeCasts_S4096x1024_S4x1024x1024) bitsLt_bf16_f32 : FVec Ideal S4x1024x1024 .bf16) (ix3 p j k)
      = w (ix2 ⟨p.val * 1024 + j.val, by omega⟩ k) := by
  pointwise []
theorem g_at (a : FVec Ideal S4096x4096 .f32) (i j : Fin 4096) : (truncf .bf16 (mulf (broadcastInDim S4096x4096 ![] bcast_S_S4096x4096 (constant S_ .f32 0x40000000#32))
    (maximumf a (broadcastInDim S4096x4096 ![] bcast_S_S4096x4096 (constant S_ .f32 0x00000000#32)))) bitsLt_bf16_f32 : FVec Ideal S4096x4096 .bf16) (ix2 i j)
      = Ideal.ofBits .f32 0x40000000#32 * max (a (ix2 i j)) 0 := by
  pointwise []

theorem final : (dats m 0 c).arrAt 3 cfg0.N = G (m (c.tc.loc main_arg0)) (m (c.tc.loc main_arg1)) (m (c.tc.loc main_arg2)) := by
  refine (dats m 0 c).arrAt_eq_of_covers 3 _ (by decide +kernel) fun t hf y => ?_
  have e := (index_at t).2.2.2
  idx_vars y
  have ht : t.val < 8 := t.isLt
  have hi : ((cfg0.win 3).blk t).view.emb (ix2 y0 y1) = (ix2 ⟨t.val / 4 * 2048 + y0.val, by omega⟩ ⟨t.val % 4 * 1024 + y1.val, by omega⟩ : S4096x4096.Idx) := by
    blk_ext [e]
  refine Eq.trans ?_ (congrArg (G (m (c.tc.loc main_arg0)) (m (c.tc.loc main_arg1)) (m (c.tc.loc main_arg2))) hi).symm
  show (dats m 0 c).after 3 t (ix2 y0 y1) = _
  rw [after0_3, out_eq, pay_at, blk_g, V_g, g_at]
  unfold G
  refine congrArg₂ (· * ·) (Finset.sum_congr rfl fun k _ => ?_) rfl
  rw [blk_ct, blk_w, V_ct, V_w, w_at]
  rfl

open Cert.DownDxRefIdeal.Read in
theorem ref_eq (a : FVec Ideal S4096x4096 .f32) (w ct : FVec Ideal S4096x1024 .f32) : val_main_v12 (F := Ideal) a w ct = G a w ct := by
  funext i
  idx_vars i
  have e := val_main_v8_apply w ct (ix2 i0 i1)
  generalize hS : val_main_v8 (F := Ideal) w ct = S at e
  pointwise [val_main_v12, val_main_v11, val_main_v9, val_main_v6, val_main_v2, val_main_v0, val_main_v10, val_main_v5, val_main_v1, val_main_call0_v0,
    val_main_cst, val_main_cst_1, val_main_cst_2, val_main_call0_cst]
  rw [hS, e]
  have el : ∀ k, lidx_main_v8 (ix2 i0 i1) k = ix2 i0 k := fun k => funext fun a => by match a with | ⟨0, _⟩ => rfl | ⟨1, _⟩ => rfl
  have er : ∀ k, ridx_main_v8 (ix2 i0 i1) k = ix2 i1 k := fun k => funext fun a => by match a with | ⟨0, _⟩ => rfl | ⟨1, _⟩ => rfl
  simp only [el, er]
  unfold G
  by_cases h : 0 < a (ix2 i0 i1)
  · rw [if_pos h]
    rfl
  · rw [if_neg h, max_eq_right (not_lt.mp h), mul_zero, mul_zero]

/-- Every run of the call ends with that array. -/
theorem run_value (ρ : Dev nD → PrngReg) : θ_run defs (onTc (τ := τ) (main (F := Ideal))) ⟨m, fun _ => 0, ρ⟩ fun r => ∀ c : Dev nD,
      r.2.mem ((c.tc : Thread nD τ).loc main_v8) = G (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

/-- Every run of the reference ends with the values `X`, if they are what `G` makes of its arguments. -/
theorem reference_value (m : (ℓ : Loc Cert.DownDxRefIdeal.nD Cert.DownDxRefIdeal.τ Cert.DownDxRefIdeal.sig) → Buf (Elt Ideal) ℓ) (ρ : Dev Cert.DownDxRefIdeal.nD → PrngReg)
    (X : Dev Cert.DownDxRefIdeal.nD → FVec Ideal S4096x4096 .f32) (hX : ∀ c : Dev Cert.DownDxRefIdeal.nD, G (m (c.tc.loc Cert.DownDxRefIdeal.main_arg0)) (m (c.tc.loc Cert.DownDxRefIdeal.main_arg1)) (m (c.tc.loc Cert.DownDxRefIdeal.main_arg2)) = X c) :
    θ_run Cert.DownDxRefIdeal.defs (onTc (τ := Cert.DownDxRefIdeal.τ) (Cert.DownDxRefIdeal.main (F := Ideal))) ⟨m, fun _ => 0, ρ⟩ fun r => ∀ c : Dev Cert.DownDxRefIdeal.nD,
      r.2.mem ((c.tc : Thread Cert.DownDxRefIdeal.nD Cert.DownDxRefIdeal.τ).loc Cert.DownDxRefIdeal.main_v12) = X c
      ∧ r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2) :=
  (θ_run Cert.DownDxRefIdeal.defs _ _).mono (fun _ h c => ⟨(h c).1.trans ((Cert.DownDxRefIdeal.Read.val_main_v12_eq _ _ _).trans ((ref_eq _ _ _).trans (hX c))), (h c).2⟩)
    (Cert.DownDxRefIdeal.Value.run (F := Ideal) m ρ)

end Cert.Proof.Mlp.DownDx

end
-- ==== Proof.Mlp.DownDw.lean ====
/-
  The gradient of the MLP's down weight: the call's two arrays and the reference's two results.
-/
module

public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Mlp.Zero
public import Idealize.ShloMosaic.Lib.Pointwise

@[expose] public section

set_option maxRecDepth 16384

noncomputable section

namespace Cert.Proof.Mlp.DownDw

open Cert.DownDwIdeal Cert.DownDwIdeal.Gen Idealize.ShloMosaic Idealize.ShloMosaic.TcCoe Idealize.SL.Sem Finset

/-- The hidden layer after its activation. -/
def act (a : FVec Ideal S4096x4096 .f32) (k j : Fin 4096) : EReal := max (a (ix2 k j)) 0 * max (a (ix2 k j)) 0

/-- What the call's two arrays hold: for each of four blocks of rows, the hidden layer's column times the output's gradient, summed over the tokens. -/
def G (a : FVec Ideal S4096x4096 .f32) (ct : FVec Ideal S4096x1024 .f32) : FVec Ideal S4x1024x1024 .f32 := fun i =>
  ∑ k : Fin 4096, act a k ⟨(i 0).val * 1024 + (i 1).val, by have h0 : (i 0).val < 4 := (i 0).isLt; have h1 : (i 1).val < 1024 := (i 1).isLt; omega⟩ * ct (ix2 k (i 2))

variable (m : (ℓ : Loc nD τ sig) → Buf (Elt Ideal) ℓ) (c : Dev nD)

/-- Which block of its array each window of a point is. -/
theorem index_at : ∀ t : Fin cfg0.N, win0_0.index t = ![0, t.val / 2] ∧ win0_1.index t = ![0, t.val % 2]
    ∧ win0_2.index t = ![t.val / 2, 0, t.val % 2] ∧ win0_3.index t = ![t.val / 2, 0, t.val % 2] :=
  (by decide +kernel : ∀ t : Fin grid0.N, _)

/-- The body's product at an index. -/
theorem pay_at (x : Vec Ideal S4096x1024 .bf16) (y : Vec Ideal S4096x512 .bf16) (i : Fin 1024) (j : Fin 512) :
    k0_pay1 x y (ix2 i j) = ∑ k : Fin 4096, x (ix2 k i) * y (ix2 k j) := by
  pointwise [k0_pay1]

theorem V_a : V m c main_v3 = (truncf .bf16 (mulf (maximumf (m (c.tc.loc main_arg0)) (broadcastInDim S4096x4096 ![] bcast_S_S4096x4096 (constant S_ .f32 0x00000000#32)))
    (maximumf (m (c.tc.loc main_arg0)) (broadcastInDim S4096x4096 ![] bcast_S_S4096x4096 (constant S_ .f32 0x00000000#32)))) bitsLt_bf16_f32 : FVec Ideal S4096x4096 .bf16) := by
  rfl
theorem V_ct : V m c main_v4 = (truncf .bf16 (m (c.tc.loc main_arg1)) bitsLt_bf16_f32 : FVec Ideal S4096x1024 .bf16) := by
  rfl
theorem act_at (a : FVec Ideal S4096x4096 .f32) (i j : Fin 4096) : (truncf .bf16 (mulf (maximumf a (broadcastInDim S4096x4096 ![] bcast_S_S4096x4096 (constant S_ .f32 0x00000000#32)))
    (maximumf a (broadcastInDim S4096x4096 ![] bcast_S_S4096x4096 (constant S_ .f32 0x00000000#32)))) bitsLt_bf16_f32 : FVec Ideal S4096x4096 .bf16) (ix2 i j)
      = act a i j := by
  pointwise [act]

theorem out2_eq (x : Vec Ideal S4096x1024 .bf16) (y : Vec Ideal S4096x512 .bf16) : out0_2 x y = k0_pay2 x y := by
  unfold out0_2
  rw [View.canon_unit_zero hz3, View.ld_unit_zero hz2, View.ld_unit_zero hz2]
theorem out3_eq (x : Vec Ideal S4096x1024 .bf16) (y : Vec Ideal S4096x512 .bf16) : out0_3 x y = k0_pay3 x y := by
  unfold out0_3
  rw [View.canon_unit_zero hz3, View.ld_unit_zero hz2, View.ld_unit_zero hz2]
theorem pay2_at (x : Vec Ideal S4096x1024 .bf16) (y : Vec Ideal S4096x512 .bf16) (p : Fin 1) (i : Fin 1024) (j : Fin 512) :
    k0_pay2 x y (ix3 p i j) = k0_pay1 x y (ix2 i j) := by
  unfold k0_pay2
  generalize k0_pay1 x y = z
  pointwise []
theorem pay3_at (x : Vec Ideal S4096x1024 .bf16) (y : Vec Ideal S4096x512 .bf16) (p : Fin 1) (i : Fin 1024) (j : Fin 512) :
    k0_pay3 x y (ix3 p i j) = k0_pay1 x y (ix2 i j) := by
  unfold k0_pay3
  generalize k0_pay1 x y = z
  pointwise []

theorem blk_a (t : Fin cfg0.N) (k : Fin 4096) (i : Fin 1024) : iblk m c 0 t (ix2 k i)
    = (V m c main_v3 : FVec Ideal S4096x4096 .bf16) (ix2 k ⟨t.val / 2 * 1024 + i.val, by have : t.val < 8 := t.isLt; omega⟩) := by
  have e := (index_at t).1
  unfold iblk
  generalize V m c = v
  blk_ext [e]
theorem blk_ct (t : Fin cfg0.N) (k : Fin 4096) (j : Fin 512) : iblk m c 1 t (ix2 k j)
    = (V m c main_v4 : FVec Ideal S4096x1024 .bf16) (ix2 k ⟨t.val % 2 * 512 + j.val, by omega⟩) := by
  have e := (index_at t).2.1
  unfold iblk
  generalize V m c = v
  blk_ext [e]

/-- The product of a point's blocks is its block of `G`. -/
theorem point_at (t : Fin cfg0.N) (i : Fin 1024) (j : Fin 512) : k0_pay1 (iblk m c 0 t) (iblk m c 1 t) (ix2 i j)
    = G (m (c.tc.loc main_arg0)) (m (c.tc.loc main_arg1)) (ix3 ⟨t.val / 2, by have : t.val < 8 := t.isLt; omega⟩ i ⟨t.val % 2 * 512 + j.val, by omega⟩) := by
  rw [pay_at]
  unfold G
  refine Finset.sum_congr rfl fun k _ => ?_
  rw [blk_a, blk_ct, V_a, V_ct, act_at]
  rfl

theorem final2 : (dats m 0 c).arrAt 2 cfg0.N = G (m (c.tc.loc main_arg0)) (m (c.tc.loc main_arg1)) := by
  refine (dats m 0 c).arrAt_eq_of_covers 2 _ (by decide +kernel) fun t hf y => ?_
  have e := (index_at t).2.2.1
  idx_vars y
  have ht : t.val < 8 := t.isLt
  have hi : ((cfg0.win 2).blk t).view.emb (ix3 y0 y1 y2) = (ix3 ⟨t.val / 2, by omega⟩ y1 ⟨t.val % 2 * 512 + y2.val, by omega⟩ : S4x1024x1024.Idx) := by
    blk_ext [e]
  refine Eq.trans ?_ (congrArg (G (m (c.tc.loc main_arg0)) (m (c.tc.loc main_arg1))) hi).symm
  show (dats m 0 c).after 2 t (ix3 y0 y1 y2) = _
  rw [after0_2, out2_eq, pay2_at, point_at]

theorem final3 : (dats m 0 c).arrAt 3 cfg0.N = G (m (c.tc.loc main_arg0)) (m (c.tc.loc main_arg1)) := by
  refine (dats m 0 c).arrAt_eq_of_covers 3 _ (by decide +kernel) fun t hf y => ?_
  have e := (index_at t).2.2.2
  idx_vars y
  have ht : t.val < 8 := t.isLt
  have hi : ((cfg0.win 3).blk t).view.emb (ix3 y0 y1 y2) = (ix3 ⟨t.val / 2, by omega⟩ y1 ⟨t.val % 2 * 512 + y2.val, by omega⟩ : S4x1024x1024.Idx) := by
    blk_ext [e]
  refine Eq.trans ?_ (congrArg (G (m (c.tc.loc main_arg0)) (m (c.tc.loc main_arg1))) hi).symm
  show (dats m 0 c).after 3 t (ix3 y0 y1 y2) = _
  rw [after0_3, out3_eq, pay3_at, point_at]

open Cert.DownDwRefIdeal.Read in
theorem ref_eq (a : FVec Ideal S4096x4096 .f32) (ct : FVec Ideal S4096x1024 .f32) : val_main_v6 (F := Ideal) a ct = G a ct := by
  funext i
  idx_vars i
  have e := val_main_v4_apply a ct (ix2 i2 ⟨i0.val * 1024 + i1.val, by omega⟩)
  generalize hS : val_main_v4 (F := Ideal) a ct = S at e
  pointwise [val_main_v6, val_main_v5]
  rw [hS, e]
  unfold G
  refine Finset.sum_congr rfl fun k _ => ?_
  have hl : lidx_main_v4 (ix2 i2 ⟨i0.val * 1024 + i1.val, by omega⟩) k = ix2 k i2 :=
    funext fun a => match a with | ⟨0, _⟩ => rfl | ⟨1, _⟩ => rfl
  have hr : ridx_main_v4 (ix2 i2 ⟨i0.val * 1024 + i1.val, by omega⟩) k = ix2 k ⟨i0.val * 1024 + i1.val, by omega⟩ :=
    funext fun a => match a with | ⟨0, _⟩ => rfl | ⟨1, _⟩ => rfl
  have hv : ∀ j : Fin 4096, val_main_v2 (F := Ideal) a (ix2 k j) = act a k j := fun j => by
    pointwise [val_main_v2, val_main_v1, val_main_call0_v0, val_main_call0_cst, act]
  rw [hl, hr, hv, mul_comm]
  rfl

open Cert.DownDwRefIdeal.Read in
theorem ref_eq' (a : FVec Ideal S4096x4096 .f32) (ct : FVec Ideal S4096x1024 .f32) : val_main_v7 (F := Ideal) a ct = G a ct := by
  rw [← ref_eq]
  rfl

/-- Every run of the call ends with those arrays. -/
theorem run_value (ρ : Dev nD → PrngReg) : θ_run defs (onTc (τ := τ) (main (F := Ideal))) ⟨m, fun _ => 0, ρ⟩ fun r => ∀ c : Dev nD,
      r.2.mem ((c.tc : Thread nD τ).loc main_v5_0) = G (m (c.tc.loc main_arg0)) (m (c.tc.loc main_arg1))
      ∧ r.2.mem ((c.tc : Thread nD τ).loc main_v5_1) = G (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2.1.trans (final3 m c), (h c).2.2⟩) (Value.run_blocks m ρ)

/-- Every run of the reference ends with the values `X`, if they are what `G` makes of its arguments. -/
theorem reference_value (m : (ℓ : Loc Cert.DownDwRefIdeal.nD Cert.DownDwRefIdeal.τ Cert.DownDwRefIdeal.sig) → Buf (Elt Ideal) ℓ) (ρ : Dev Cert.DownDwRefIdeal.nD → PrngReg)
    (X : Dev Cert.DownDwRefIdeal.nD → FVec Ideal S4x1024x1024 .f32) (hX : ∀ c : Dev Cert.DownDwRefIdeal.nD, G (m (c.tc.loc Cert.DownDwRefIdeal.main_arg0)) (m (c.tc.loc Cert.DownDwRefIdeal.main_arg1)) = X c) :
    θ_run Cert.DownDwRefIdeal.defs (onTc (τ := Cert.DownDwRefIdeal.τ) (Cert.DownDwRefIdeal.main (F := Ideal))) ⟨m, fun _ => 0, ρ⟩ fun r => ∀ c : Dev Cert.DownDwRefIdeal.nD,
      r.2.mem ((c.tc : Thread Cert.DownDwRefIdeal.nD Cert.DownDwRefIdeal.τ).loc Cert.DownDwRefIdeal.main_v6) = X c
      ∧ r.2.mem ((c.tc : Thread Cert.DownDwRefIdeal.nD Cert.DownDwRefIdeal.τ).loc Cert.DownDwRefIdeal.main_v7) = X c
      ∧ r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1) :=
  (θ_run Cert.DownDwRefIdeal.defs _ _).mono (fun _ h c => ⟨(h c).1.trans ((Cert.DownDwRefIdeal.Read.val_main_v6_eq _ _).trans ((ref_eq _ _).trans (hX c))),
      (h c).2.1.trans ((Cert.DownDwRefIdeal.Read.val_main_v7_eq _ _).trans ((ref_eq' _ _).trans (hX c))), (h c).2.2⟩)
    (Cert.DownDwRefIdeal.Value.run (F := Ideal) m ρ)

end Cert.Proof.Mlp.DownDw

end
-- ==== Proof.Mlp.UpDw.lean ====
/-
  The gradient of the MLP's up weight: the call's two arrays and the reference's two results.
-/
module

public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Mlp.Zero
public import Idealize.ShloMosaic.Lib.Pointwise

@[expose] public section

set_option maxRecDepth 16384

noncomputable section

namespace Cert.Proof.Mlp.UpDw

open Cert.UpDwIdeal Cert.UpDwIdeal.Gen Idealize.ShloMosaic Idealize.ShloMosaic.TcCoe Idealize.SL.Sem Finset

/-- What the call's two arrays hold: for each of four blocks of columns, the normed input times the hidden layer's gradient, summed over the tokens. -/
def G (h : FVec Ideal S4096x1024 .f32) (da : FVec Ideal S4096x4096 .f32) : FVec Ideal S4x1024x1024 .f32 := fun i =>
  ∑ k : Fin 4096, h (ix2 k (i 1)) * da (ix2 k ⟨(i 0).val * 1024 + (i 2).val, by have h0 : (i 0).val < 4 := (i 0).isLt; have h2 : (i 2).val < 1024 := (i 2).isLt; omega⟩)

variable (m : (ℓ : Loc nD τ sig) → Buf (Elt Ideal) ℓ) (c : Dev nD)

/-- Which block of its array each window of a point is. -/
theorem index_at : ∀ t : Fin cfg0.N, win0_0.index t = ![0, 0] ∧ win0_1.index t = ![0, t.val]
    ∧ win0_2.index t = ![t.val / 2, 0, t.val % 2] ∧ win0_3.index t = ![t.val / 2, 0, t.val % 2] :=
  (by decide +kernel : ∀ t : Fin grid0.N, _)

/-- The body's product at an index. -/
theorem pay_at (x : Vec Ideal S4096x1024 .bf16) (y : Vec Ideal S4096x512 .bf16) (i : Fin 1024) (j : Fin 512) :
    k0_pay1 x y (ix2 i j) = ∑ k : Fin 4096, x (ix2 k i) * y (ix2 k j) := by
  pointwise [k0_pay1]

theorem V_h : V m c main_v0 = (truncf .bf16 (m (c.tc.loc main_arg0)) bitsLt_bf16_f32 : FVec Ideal S4096x1024 .bf16) := by
  rfl
theorem V_da : V m c main_v1 = (truncf .bf16 (m (c.tc.loc main_arg1)) bitsLt_bf16_f32 : FVec Ideal S4096x4096 .bf16) := by
  rfl

theorem out2_eq (x : Vec Ideal S4096x1024 .bf16) (y : Vec Ideal S4096x512 .bf16) : out0_2 x y = k0_pay2 x y := by
  unfold out0_2
  rw [View.canon_unit_zero hz3, View.ld_unit_zero hz2, View.ld_unit_zero hz2]
theorem out3_eq (x : Vec Ideal S4096x1024 .bf16) (y : Vec Ideal S4096x512 .bf16) : out0_3 x y = k0_pay3 x y := by
  unfold out0_3
  rw [View.canon_unit_zero hz3, View.ld_unit_zero hz2, View.ld_unit_zero hz2]
theorem pay2_at (x : Vec Ideal S4096x1024 .bf16) (y : Vec Ideal S4096x512 .bf16) (p : Fin 1) (i : Fin 1024) (j : Fin 512) :
    k0_pay2 x y (ix3 p i j) = k0_pay1 x y (ix2 i j) := by
  unfold k0_pay2
  generalize k0_pay1 x y = z
  pointwise []
theorem pay3_at (x : Vec Ideal S4096x1024 .bf16) (y : Vec Ideal S4096x512 .bf16) (p : Fin 1) (i : Fin 1024) (j : Fin 512) :
    k0_pay3 x y (ix3 p i j) = k0_pay1 x y (ix2 i j) := by
  unfold k0_pay3
  generalize k0_pay1 x y = z
  pointwise []

theorem blk_h (t : Fin cfg0.N) (k : Fin 4096) (i : Fin 1024) : iblk m c 0 t (ix2 k i)
    = (V m c main_v0 : FVec Ideal S4096x1024 .bf16) (ix2 k i) := by
  have e := (index_at t).1
  unfold iblk
  generalize V m c = v
  blk_ext [e]
theorem blk_da (t : Fin cfg0.N) (k : Fin 4096) (j : Fin 512) : iblk m c 1 t (ix2 k j)
    = (V m c main_v1 : FVec Ideal S4096x4096 .bf16) (ix2 k ⟨t.val * 512 + j.val, by have : t.val < 8 := t.isLt; omega⟩) := by
  have e := (index_at t).2.1
  unfold iblk
  generalize V m c = v
  blk_ext [e]

/-- The product of a point's blocks is its block of `G`. -/
theorem point_at (t : Fin cfg0.N) (i : Fin 1024) (j : Fin 512) : k0_pay1 (iblk m c 0 t) (iblk m c 1 t) (ix2 i j)
    = G (m (c.tc.loc main_arg0)) (m (c.tc.loc main_arg1)) (ix3 ⟨t.val / 2, by have : t.val < 8 := t.isLt; omega⟩ i ⟨t.val % 2 * 512 + j.val, by omega⟩) := by
  rw [pay_at]
  unfold G
  refine Finset.sum_congr rfl fun k _ => ?_
  rw [blk_h, blk_da, V_h, V_da]
  have hj : (⟨t.val * 512 + j.val, by have : t.val < 8 := t.isLt; omega⟩ : Fin 4096)
      = ⟨t.val / 2 * 1024 + (t.val % 2 * 512 + j.val), by have : t.val < 8 := t.isLt; omega⟩ := Fin.ext (by show t.val * 512 + j.val = t.val / 2 * 1024 + (t.val % 2 * 512 + j.val); omega)
  rw [hj]
  rfl

theorem final2 : (dats m 0 c).arrAt 2 cfg0.N = G (m (c.tc.loc main_arg0)) (m (c.tc.loc main_arg1)) := by
  refine (dats m 0 c).arrAt_eq_of_covers 2 _ (by decide +kernel) fun t hf y => ?_
  have e := (index_at t).2.2.1
  idx_vars y
  have ht : t.val < 8 := t.isLt
  have hi : ((cfg0.win 2).blk t).view.emb (ix3 y0 y1 y2) = (ix3 ⟨t.val / 2, by omega⟩ y1 ⟨t.val % 2 * 512 + y2.val, by omega⟩ : S4x1024x1024.Idx) := by
    blk_ext [e]
  refine Eq.trans ?_ (congrArg (G (m (c.tc.loc main_arg0)) (m (c.tc.loc main_arg1))) hi).symm
  show (dats m 0 c).after 2 t (ix3 y0 y1 y2) = _
  rw [after0_2, out2_eq, pay2_at, point_at]

theorem final3 : (dats m 0 c).arrAt 3 cfg0.N = G (m (c.tc.loc main_arg0)) (m (c.tc.loc main_arg1)) := by
  refine (dats m 0 c).arrAt_eq_of_covers 3 _ (by decide +kernel) fun t hf y => ?_
  have e := (index_at t).2.2.2
  idx_vars y
  have ht : t.val < 8 := t.isLt
  have hi : ((cfg0.win 3).blk t).view.emb (ix3 y0 y1 y2) = (ix3 ⟨t.val / 2, by omega⟩ y1 ⟨t.val % 2 * 512 + y2.val, by omega⟩ : S4x1024x1024.Idx) := by
    blk_ext [e]
  refine Eq.trans ?_ (congrArg (G (m (c.tc.loc main_arg0)) (m (c.tc.loc main_arg1))) hi).symm
  show (dats m 0 c).after 3 t (ix3 y0 y1 y2) = _
  rw [after0_3, out3_eq, pay3_at, point_at]

open Cert.UpDwRefIdeal.Read in
theorem ref_eq (h : FVec Ideal S4096x1024 .f32) (da : FVec Ideal S4096x4096 .f32) : val_main_v5 (F := Ideal) h da = G h da := by
  funext i
  idx_vars i
  have e := val_main_v2_apply h da (ix2 ⟨i0.val * 1024 + i2.val, by omega⟩ i1)
  generalize hS : val_main_v2 (F := Ideal) h da = S at e
  pointwise [val_main_v5, val_main_v4, val_main_v3]
  rw [hS, e]
  unfold G
  refine Finset.sum_congr rfl fun k _ => ?_
  have hl : lidx_main_v2 (ix2 ⟨i0.val * 1024 + i2.val, by omega⟩ i1) k = ix2 k ⟨i0.val * 1024 + i2.val, by omega⟩ :=
    funext fun a => match a with | ⟨0, _⟩ => rfl | ⟨1, _⟩ => rfl
  have hr : ridx_main_v2 (ix2 ⟨i0.val * 1024 + i2.val, by omega⟩ i1) k = ix2 k i1 :=
    funext fun a => match a with | ⟨0, _⟩ => rfl | ⟨1, _⟩ => rfl
  rw [hl, hr, mul_comm]
  rfl

open Cert.UpDwRefIdeal.Read in
theorem ref_eq' (h : FVec Ideal S4096x1024 .f32) (da : FVec Ideal S4096x4096 .f32) : val_main_v6 (F := Ideal) h da = G h da := by
  rw [← ref_eq]
  rfl

/-- Every run of the call ends with those arrays. -/
theorem run_value (ρ : Dev nD → PrngReg) : θ_run defs (onTc (τ := τ) (main (F := Ideal))) ⟨m, fun _ => 0, ρ⟩ fun r => ∀ c : Dev nD,
      r.2.mem ((c.tc : Thread nD τ).loc main_v2_0) = G (m (c.tc.loc main_arg0)) (m (c.tc.loc main_arg1))
      ∧ r.2.mem ((c.tc : Thread nD τ).loc main_v2_1) = G (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2.1.trans (final3 m c), (h c).2.2⟩) (Value.run_blocks m ρ)

/-- Every run of the reference ends with the values `X`, if they are what `G` makes of its arguments. -/
theorem reference_value (m : (ℓ : Loc Cert.UpDwRefIdeal.nD Cert.UpDwRefIdeal.τ Cert.UpDwRefIdeal.sig) → Buf (Elt Ideal) ℓ) (ρ : Dev Cert.UpDwRefIdeal.nD → PrngReg)
    (X : Dev Cert.UpDwRefIdeal.nD → FVec Ideal S4x1024x1024 .f32) (hX : ∀ c : Dev Cert.UpDwRefIdeal.nD, G (m (c.tc.loc Cert.UpDwRefIdeal.main_arg0)) (m (c.tc.loc Cert.UpDwRefIdeal.main_arg1)) = X c) :
    θ_run Cert.UpDwRefIdeal.defs (onTc (τ := Cert.UpDwRefIdeal.τ) (Cert.UpDwRefIdeal.main (F := Ideal))) ⟨m, fun _ => 0, ρ⟩ fun r => ∀ c : Dev Cert.UpDwRefIdeal.nD,
      r.2.mem ((c.tc : Thread Cert.UpDwRefIdeal.nD Cert.UpDwRefIdeal.τ).loc Cert.UpDwRefIdeal.main_v5) = X c
      ∧ r.2.mem ((c.tc : Thread Cert.UpDwRefIdeal.nD Cert.UpDwRefIdeal.τ).loc Cert.UpDwRefIdeal.main_v6) = X c
      ∧ r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1) :=
  (θ_run Cert.UpDwRefIdeal.defs _ _).mono (fun _ h c => ⟨(h c).1.trans ((Cert.UpDwRefIdeal.Read.val_main_v5_eq _ _).trans ((ref_eq _ _).trans (hX c))),
      (h c).2.1.trans ((Cert.UpDwRefIdeal.Read.val_main_v6_eq _ _).trans ((ref_eq' _ _).trans (hX c))), (h c).2.2⟩)
    (Cert.UpDwRefIdeal.Value.run (F := Ideal) m ρ)

end Cert.Proof.Mlp.UpDw

end
-- ==== Proof.Mlp.FfnUp.lean ====
/-
  The MLP's hidden layer: the call's two arrays and the reference's two results.
-/
module

public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Mlp.Zero
public import Idealize.ShloMosaic.Lib.Pointwise

@[expose] public section

set_option maxRecDepth 16384

noncomputable section

namespace Cert.Proof.Mlp.FfnUp

open Cert.FfnUpIdeal Cert.FfnUpIdeal.Gen Idealize.ShloMosaic Idealize.ShloMosaic.TcCoe Idealize.SL.Sem Finset

/-- The hidden layer after the cut at zero. -/
def relu (h : FVec Ideal S4096x1024 .f32) (w : FVec Ideal S1024x4096 .f32) (i j : Fin 4096) : EReal :=
  max (∑ k : Fin 1024, h (ix2 i k) * w (ix2 k j)) 0

/-- The call's first array: the square. -/
def G (h : FVec Ideal S4096x1024 .f32) (w : FVec Ideal S1024x4096 .f32) : FVec Ideal S4096x4096 .bf16 := fun i =>
  relu h w (i 0) (i 1) * relu h w (i 0) (i 1)

/-- The call's second array: the square's derivative. -/
def G' (h : FVec Ideal S4096x1024 .f32) (w : FVec Ideal S1024x4096 .f32) : FVec Ideal S4096x4096 .bf16 := fun i =>
  Ideal.ofBits .f32 0x40000000#32 * relu h w (i 0) (i 1)

variable (m : (ℓ : Loc nD τ sig) → Buf (Elt Ideal) ℓ) (c : Dev nD)

/-- Which block of its array each window of a point is. -/
theorem index_at : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

theorem pay1_at (x : Vec Ideal S1024x1024 .bf16) (y : Vec Ideal S1x1024x1024 .bf16) (i j : Fin 1024) :
    k0_pay1 x y (ix2 i j) = max (∑ k : Fin 1024, x (ix2 i k) * y (ix3 0 k j)) 0 := by
  pointwise [k0_pay1]
theorem pay2_at (x : Vec Ideal S1024x1024 .bf16) (y : Vec Ideal S1x1024x1024 .bf16) (i j : Fin 1024) :
    k0_pay2 x y (ix2 i j) = k0_pay1 x y (ix2 i j) * k0_pay1 x y (ix2 i j) := by
  unfold k0_pay2
  generalize k0_pay1 x y = z
  pointwise []
theorem pay3_at (x : Vec Ideal S1024x1024 .bf16) (y : Vec Ideal S1x1024x1024 .bf16) (i j : Fin 1024) :
    k0_pay3 x y (ix2 i j) = Ideal.ofBits .f32 0x40000000#32 * k0_pay1 x y (ix2 i j) := by
  unfold k0_pay3
  generalize k0_pay1 x y = z
  pointwise []

theorem out2_eq (x : Vec Ideal S1024x1024 .bf16) (y : Vec Ideal S1x1024x1024 .bf16) : out0_2 x y = k0_pay2 x y := by
  unfold out0_2
  rw [View.canon_unit_zero hz2, View.ld_unit_zero hz2, View.ld_unit_zero hz3]
theorem out3_eq (x : Vec Ideal S1024x1024 .bf16) (y : Vec Ideal S1x1024x1024 .bf16) : out0_3 x y = k0_pay3 x y := by
  unfold out0_3
  rw [View.canon_unit_zero hz2, View.ld_unit_zero hz2, View.ld_unit_zero hz3]

theorem V_h : V m c main_v0 = (truncf .bf16 (m (c.tc.loc main_arg0)) bitsLt_bf16_f32 : FVec Ideal S4096x1024 .bf16) := by
  rfl
theorem V_w : V m c main_v3 = (truncf .bf16 (transpose S4x1024x1024 [1, 0, 2] (shapeCast S1024x4x1024 (m (c.tc.loc main_arg1)) shapeCasts_S1024x4096_S1024x4x1024)
    transposes_S1024x4x1024_S4x1024x1024_1_0_2) bitsLt_bf16_f32 : FVec Ideal S4x1024x1024 .bf16) := by
  rfl
theorem w_at (w : FVec Ideal S1024x4096 .f32) (p : Fin 4) (k j : Fin 1024) :
    (truncf .bf16 (transpose S4x1024x1024 [1, 0, 2] (shapeCast S1024x4x1024 w shapeCasts_S1024x4096_S1024x4x1024)
      transposes_S1024x4x1024_S4x1024x1024_1_0_2) bitsLt_bf16_f32 : FVec Ideal S4x1024x1024 .bf16) (ix3 p k j)
      = w (ix2 k ⟨p.val * 1024 + j.val, by omega⟩) := by
  pointwise []

theorem blk_h (t : Fin cfg0.N) (i k : Fin 1024) : iblk m c 0 t (ix2 i k)
    = (V m c main_v0 : FVec Ideal S4096x1024 .bf16) (ix2 ⟨t.val / 4 * 1024 + i.val, by have : t.val < 16 := t.isLt; omega⟩ k) := by
  have e := (index_at t).1
  unfold iblk
  generalize V m c = v
  blk_ext [e]
theorem blk_w (t : Fin cfg0.N) (k j : Fin 1024) : iblk m c 1 t (ix3 0 k j)
    = (V m c main_v3 : FVec Ideal S4x1024x1024 .bf16) (ix3 ⟨t.val % 4, by omega⟩ k j) := by
  have e := (index_at t).2.1
  unfold iblk
  generalize V m c = v
  blk_ext [e]

/-- A point's product, cut at zero, is its block of the hidden layer. -/
theorem point_at (t : Fin cfg0.N) (i j : Fin 1024) : k0_pay1 (iblk m c 0 t) (iblk m c 1 t) (ix2 i j)
    = relu (m (c.tc.loc main_arg0)) (m (c.tc.loc main_arg1)) ⟨t.val / 4 * 1024 + i.val, by have : t.val < 16 := t.isLt; omega⟩ ⟨t.val % 4 * 1024 + j.val, by omega⟩ := by
  rw [pay1_at]
  unfold relu
  refine congrArg₂ max (Finset.sum_congr rfl fun k _ => ?_) rfl
  rw [blk_h, blk_w, V_h, V_w, w_at]
  rfl

theorem final2 : (dats m 0 c).arrAt 2 cfg0.N = G (m (c.tc.loc main_arg0)) (m (c.tc.loc main_arg1)) := by
  refine (dats m 0 c).arrAt_eq_of_covers 2 _ (by decide +kernel) fun t hf y => ?_
  have e := (index_at t).2.2.1
  idx_vars y
  have ht : t.val < 16 := t.isLt
  have hi : ((cfg0.win 2).blk t).view.emb (ix2 y0 y1) = (ix2 ⟨t.val / 4 * 1024 + y0.val, by omega⟩ ⟨t.val % 4 * 1024 + y1.val, by omega⟩ : S4096x4096.Idx) := by
    blk_ext [e]
  refine Eq.trans ?_ (congrArg (G (m (c.tc.loc main_arg0)) (m (c.tc.loc main_arg1))) hi).symm
  show (dats m 0 c).after 2 t (ix2 y0 y1) = _
  rw [after0_2, out2_eq, pay2_at, point_at]
  rfl

theorem final3 : (dats m 0 c).arrAt 3 cfg0.N = G' (m (c.tc.loc main_arg0)) (m (c.tc.loc main_arg1)) := by
  refine (dats m 0 c).arrAt_eq_of_covers 3 _ (by decide +kernel) fun t hf y => ?_
  have e := (index_at t).2.2.2
  idx_vars y
  have ht : t.val < 16 := t.isLt
  have hi : ((cfg0.win 3).blk t).view.emb (ix2 y0 y1) = (ix2 ⟨t.val / 4 * 1024 + y0.val, by omega⟩ ⟨t.val % 4 * 1024 + y1.val, by omega⟩ : S4096x4096.Idx) := by
    blk_ext [e]
  refine Eq.trans ?_ (congrArg (G' (m (c.tc.loc main_arg0)) (m (c.tc.loc main_arg1))) hi).symm
  show (dats m 0 c).after 3 t (ix2 y0 y1) = _
  rw [after0_3, out3_eq, pay3_at, point_at]
  rfl

open Cert.FfnUpRefIdeal.Read in
theorem product_at (h : FVec Ideal S4096x1024 .f32) (w : FVec Ideal S1024x4096 .f32) (i j : Fin 4096) :
    val_main_v0 (F := Ideal) h w (ix2 i j) = ∑ k : Fin 1024, h (ix2 i k) * w (ix2 k j) := by
  rw [val_main_v0_apply]
  refine Finset.sum_congr rfl fun k _ => ?_
  have el : lidx_main_v0 (ix2 i j) k = ix2 i k := funext fun a => match a with | ⟨0, _⟩ => rfl | ⟨1, _⟩ => rfl
  have er : ridx_main_v0 (ix2 i j) k = ix2 k j := funext fun a => match a with | ⟨0, _⟩ => rfl | ⟨1, _⟩ => rfl
  rw [el, er]

open Cert.FfnUpRefIdeal.Read in
theorem ref_eq (h : FVec Ideal S4096x1024 .f32) (w : FVec Ideal S1024x4096 .f32) : val_main_v8 (F := Ideal) h w = G h w := by
  funext i
  idx_vars i
  have e := product_at h w i0 i1
  generalize hS : val_main_v0 (F := Ideal) h w = S at e
  pointwise [val_main_v8, val_main_v5, val_main_v1, val_main_call0_v0, val_main_call0_cst]
  rw [hS, e]
  rfl

open Cert.FfnUpRefIdeal.Read in
theorem ref_eq' (h : FVec Ideal S4096x1024 .f32) (w : FVec Ideal S1024x4096 .f32) : val_main_v13 (F := Ideal) h w = G' h w := by
  funext i
  idx_vars i
  have e := product_at h w i0 i1
  generalize hS : val_main_v0 (F := Ideal) h w = S at e
  pointwise [val_main_v13, val_main_v12, val_main_v11, val_main_v10, val_main_v9, val_main_v7, val_main_v6, val_main_v3, val_main_v2, val_main_v1,
    val_main_call0_v0, val_main_call0_cst, val_main_cst, val_main_cst_1, val_main_cst_2, val_main_cst_3]
  rw [hS, e]
  unfold G' relu
  show _ = Ideal.ofBits .f32 0x40000000#32 * max (∑ k, h (ix2 i0 k) * w (ix2 k i1)) 0
  generalize (∑ k, h (ix2 i0 k) * w (ix2 k i1)) = z
  by_cases hz : 0 < z
  · rw [if_pos hz]
  · rw [if_neg hz, max_eq_right (not_lt.mp hz), mul_zero]

/-- Every run of the call ends with those arrays. -/
theorem run_value (ρ : Dev nD → PrngReg) : θ_run defs (onTc (τ := τ) (main (F := Ideal))) ⟨m, fun _ => 0, ρ⟩ fun r => ∀ c : Dev nD,
      r.2.mem ((c.tc : Thread nD τ).loc main_v4_0) = G (m (c.tc.loc main_arg0)) (m (c.tc.loc main_arg1))
      ∧ r.2.mem ((c.tc : Thread nD τ).loc main_v4_1) = G' (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2.1.trans (final3 m c), (h c).2.2⟩) (Value.run_blocks m ρ)

/-- Every run of the reference ends with the values `X` and `Y`, if they are what `G` and `G'` make of its arguments. -/
theorem reference_value (m : (ℓ : Loc Cert.FfnUpRefIdeal.nD Cert.FfnUpRefIdeal.τ Cert.FfnUpRefIdeal.sig) → Buf (Elt Ideal) ℓ) (ρ : Dev Cert.FfnUpRefIdeal.nD → PrngReg)
    (X Y : Dev Cert.FfnUpRefIdeal.nD → FVec Ideal S4096x4096 .bf16)
    (hX : ∀ c : Dev Cert.FfnUpRefIdeal.nD, G (m (c.tc.loc Cert.FfnUpRefIdeal.main_arg0)) (m (c.tc.loc Cert.FfnUpRefIdeal.main_arg1)) = X c)
    (hY : ∀ c : Dev Cert.FfnUpRefIdeal.nD, G' (m (c.tc.loc Cert.FfnUpRefIdeal.main_arg0)) (m (c.tc.loc Cert.FfnUpRefIdeal.main_arg1)) = Y c) :
    θ_run Cert.FfnUpRefIdeal.defs (onTc (τ := Cert.FfnUpRefIdeal.τ) (Cert.FfnUpRefIdeal.main (F := Ideal))) ⟨m, fun _ => 0, ρ⟩ fun r => ∀ c : Dev Cert.FfnUpRefIdeal.nD,
      r.2.mem ((c.tc : Thread Cert.FfnUpRefIdeal.nD Cert.FfnUpRefIdeal.τ).loc Cert.FfnUpRefIdeal.main_v8) = X c
      ∧ r.2.mem ((c.tc : Thread Cert.FfnUpRefIdeal.nD Cert.FfnUpRefIdeal.τ).loc Cert.FfnUpRefIdeal.main_v13) = Y c
      ∧ r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1) :=
  (θ_run Cert.FfnUpRefIdeal.defs _ _).mono (fun _ h c => ⟨(h c).1.trans ((Cert.FfnUpRefIdeal.Read.val_main_v8_eq _ _).trans ((ref_eq _ _).trans (hX c))),
      (h c).2.1.trans ((Cert.FfnUpRefIdeal.Read.val_main_v13_eq _ _).trans ((ref_eq' _ _).trans (hY c))), (h c).2.2⟩)
    (Cert.FfnUpRefIdeal.Value.run (F := Ideal) m ρ)

end Cert.Proof.Mlp.FfnUp

end
-- ==== Proof.Mlp.Quarters.lean ====
/-
  A sum as four sums of a quarter of the terms.
-/
module

public import Mathlib.Algebra.BigOperators.Fin

@[expose] public section

namespace Cert.Proof.Mlp

theorem sum_four {M : Type*} [AddCommMonoid M] (n : ℕ) (f : Fin (n + n + n + n) → M) :
    ∑ k : Fin (n + n + n + n), f k = ∑ k : Fin n, f ⟨k.val, by omega⟩ + ∑ k : Fin n, f ⟨n + k.val, by omega⟩
      + ∑ k : Fin n, f ⟨n + n + k.val, by omega⟩ + ∑ k : Fin n, f ⟨n + n + n + k.val, by omega⟩ := by
  rw [Fin.sum_univ_add, Fin.sum_univ_add, Fin.sum_univ_add]
  rfl

theorem sum_quarters {M : Type*} [AddCommMonoid M] (f : Fin 4096 → M) :
    ∑ k : Fin 4096, f k = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ :=
  sum_four 1024 f

theorem sum_quarters_2048 {M : Type*} [AddCommMonoid M] (f : Fin 2048 → M) :
    ∑ k : Fin 2048, f k = ∑ k : Fin 512, f ⟨k.val, by omega⟩ + ∑ k : Fin 512, f ⟨512 + k.val, by omega⟩
      + ∑ k : Fin 512, f ⟨1024 + k.val, by omega⟩ + ∑ k : Fin 512, f ⟨1536 + k.val, by omega⟩ :=
  sum_four 512 f

end Cert.Proof.Mlp

end
-- ==== Proof.Mlp.FfnDown.lean ====
/-
  The MLP's output added to the stream, and the next norm: the call's two arrays and the reference's two results.
-/
module

public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Mlp.Zero
public import proofs.«01_k».proof.Proof.Mlp.Quarters
public import Idealize.ShloMosaic.Lib.Pointwise

@[expose] public section

set_option maxRecDepth 16384

noncomputable section

namespace Cert.Proof.Mlp.FfnDown

open Cert.FfnDownIdeal Cert.FfnDownIdeal.Gen Idealize.ShloMosaic Idealize.ShloMosaic.TcCoe Idealize.SL.Sem Finset

/-- The stream after the layer. -/
def stream (x : FVec Ideal S4096x1024 .f32) (r : FVec Ideal S4096x4096 .f32) (w : FVec Ideal S4096x1024 .f32) (i : Fin 4096) (j : Fin 1024) : EReal :=
  x (ix2 i j) + ∑ k : Fin 4096, r (ix2 i k) * w (ix2 k j)

/-- A row's norm, at one entry. -/
def normed (z : Fin 1024 → EReal) (g : EReal) (j : Fin 1024) : EReal :=
  z j * Ideal.rsqrt (Ideal.div (∑ k, z k * z k) (Ideal.ofBits .f32 0x44800000#32) + Ideal.ofBits .f32 0x358637BD#32) * g

/-- The call's first array. -/
def G (x : FVec Ideal S4096x1024 .f32) (r : FVec Ideal S4096x4096 .f32) (w : FVec Ideal S4096x1024 .f32) : FVec Ideal S4096x1024 .f32 := fun i =>
  stream x r w (i 0) (i 1)

/-- The call's second array. -/
def G' (x : FVec Ideal S4096x1024 .f32) (r : FVec Ideal S4096x4096 .f32) (w : FVec Ideal S4096x1024 .f32) (g : FVec Ideal S1024 .f32) : FVec Ideal S4096x1024 .bf16 := fun i =>
  normed (stream x r w (i 0)) (g (ix1 (i 1))) (i 1)

variable (m : (ℓ : Loc nD τ sig) → Buf (Elt Ideal) ℓ) (c : Dev nD)

/-- Which block of its array each window of a point is. -/
theorem index_at : ∀ t : Fin cfg0.N, win0_0.index t = ![t.val, 0] ∧ win0_1.index t = ![0, 0, 0] ∧ win0_2.index t = ![1, 0, 0]
    ∧ win0_3.index t = ![2, 0, 0] ∧ win0_4.index t = ![3, 0, 0] ∧ win0_5.index t = ![t.val, 0] ∧ win0_6.index t = ![0, 0]
    ∧ win0_7.index t = ![t.val, 0] ∧ win0_8.index t = ![t.val, 0] :=
  (by decide +kernel : ∀ t : Fin grid0.N, _)

theorem pay1_at (g : FVec Ideal S1x1024 .f32) (z zz : FVec Ideal S512x1024 .f32) (hz : ∀ i j, zz (ix2 i j) = z (ix2 i j) * z (ix2 i j)) (i : Fin 512) (j : Fin 1024) :
    k0_pay1 g z zz (ix2 i j) = normed (fun k => z (ix2 i k)) (g (ix2 0 j)) j := by
  pointwise [k0_pay1]
  simp only [hz]
  rfl

theorem pay3_at (x0 x1 x2 x3 : Vec Ideal S512x1024 .bf16) (y0 y1 y2 y3 : Vec Ideal S1x1024x1024 .bf16) (r : Vec Ideal S512x1024 .f32) (i : Fin 512) (j : Fin 1024) :
    k0_pay3 x0 y0 x1 y1 x2 y2 x3 y3 r (ix2 i j) = ∑ k : Fin 1024, x0 (ix2 i k) * y0 (ix3 0 k j) + ∑ k : Fin 1024, x1 (ix2 i k) * y1 (ix3 0 k j)
      + ∑ k : Fin 1024, x2 (ix2 i k) * y2 (ix3 0 k j) + ∑ k : Fin 1024, x3 (ix2 i k) * y3 (ix3 0 k j) + r (ix2 i j) := by
  pointwise [k0_pay3]

theorem pay4_at (x0 x1 x2 x3 : Vec Ideal S512x1024 .bf16) (y0 y1 y2 y3 : Vec Ideal S1x1024x1024 .bf16) (r : Vec Ideal S512x1024 .f32) (i : Fin 512) (j : Fin 1024) :
    k0_pay4 x0 y0 x1 y1 x2 y2 x3 y3 r (ix2 i j) = k0_pay3 x0 y0 x1 y1 x2 y2 x3 y3 r (ix2 i j) * k0_pay3 x0 y0 x1 y1 x2 y2 x3 y3 r (ix2 i j) := by
  unfold k0_pay4
  generalize k0_pay3 x0 y0 x1 y1 x2 y2 x3 y3 r = z
  pointwise []

/-- The load of one of four bands of columns. -/
theorem band_at (x : Vec Ideal S512x4096 .bf16) (o : ℕ) (ho : o + 1024 ≤ 4096) (inb) (i : Fin 512) (k : Fin 1024) :
    View.ld x (Rect.unit (s := S512x4096) ![0, o] S512x1024.size inb) (ix2 i k) = x (ix2 i ⟨o + k.val, by omega⟩) :=
  View.ld_unit_apply_of x _ _ inb _ _ fun a => match a with
    | ⟨0, _⟩ => (Nat.zero_add _).symm
    | ⟨1, _⟩ => rfl

theorem whole_w (y : Vec Ideal S1x1024x1024 .bf16) : View.ld y r0_1 = y := View.ld_unit_zero hz3 _ _
theorem whole_x (y : Vec Ideal S512x1024 .f32) : View.ld y r0_5 = y := View.ld_unit_zero hz2 _ _
theorem whole_g (y : Vec Ideal S1x1024 .f32) : View.ld y r0_6 = y := View.ld_unit_zero hz2 _ _

theorem pay5_at (x : Vec Ideal S512x4096 .bf16) (y0 y1 y2 y3 : Vec Ideal S1x1024x1024 .bf16) (r : Vec Ideal S512x1024 .f32) (g : Vec Ideal S1x1024 .f32) (i : Fin 512) (j : Fin 1024) :
    k0_pay5 x y0 y1 y2 y3 r g (ix2 i j) = ∑ k : Fin 1024, x (ix2 i ⟨k.val, by omega⟩) * y0 (ix3 0 k j) + ∑ k : Fin 1024, x (ix2 i ⟨1024 + k.val, by omega⟩) * y1 (ix3 0 k j)
      + ∑ k : Fin 1024, x (ix2 i ⟨2048 + k.val, by omega⟩) * y2 (ix3 0 k j) + ∑ k : Fin 1024, x (ix2 i ⟨3072 + k.val, by omega⟩) * y3 (ix3 0 k j) + r (ix2 i j) := by
  unfold k0_pay5
  rw [whole_w, whole_w, whole_w, whole_w, whole_x, pay3_at]
  simp only [band_at x 0 (by decide), band_at x 1024 (by decide), band_at x 2048 (by decide), band_at x 3072 (by decide), Nat.zero_add]

theorem out7_eq (x : Vec Ideal S512x4096 .bf16) (y0 y1 y2 y3 : Vec Ideal S1x1024x1024 .bf16) (r : Vec Ideal S512x1024 .f32) (g : Vec Ideal S1x1024 .f32) :
    out0_7 x y0 y1 y2 y3 r g = k0_pay5 x y0 y1 y2 y3 r g := by
  unfold out0_7
  rw [View.canon_unit_zero hz2]
theorem out8_at (x : Vec Ideal S512x4096 .bf16) (y0 y1 y2 y3 : Vec Ideal S1x1024x1024 .bf16) (r : Vec Ideal S512x1024 .f32) (g : Vec Ideal S1x1024 .f32) (i : Fin 512) (j : Fin 1024) :
    out0_8 x y0 y1 y2 y3 r g (ix2 i j) = normed (fun k => k0_pay5 x y0 y1 y2 y3 r g (ix2 i k)) (g (ix2 0 j)) j := by
  unfold out0_8
  rw [View.canon_unit_zero hz2, pay1_at _ _ _ (fun i j => by unfold k0_pay5; exact pay4_at _ _ _ _ _ _ _ _ _ i j), whole_g]
  unfold k0_pay2
  pointwise []

theorem V_r : V m c main_v1 = (truncf .bf16 (m (c.tc.loc main_arg1)) bitsLt_bf16_f32 : FVec Ideal S4096x4096 .bf16) := by
  rfl
theorem V_w : V m c main_v3 = (truncf .bf16 (shapeCast S4x1024x1024 (m (c.tc.loc main_arg2)) shapeCasts_S4096x1024_S4x1024x1024) bitsLt_bf16_f32 : FVec Ideal S4x1024x1024 .bf16) := by
  rfl
theorem V_g : V m c main_v0 = (shapeCast S1x1024 (m (c.tc.loc main_arg3)) shapeCasts_S1024_S1x1024 : FVec Ideal S1x1024 .f32) := by
  rfl
theorem V_x : V m c main_arg0 = m (c.tc.loc main_arg0) := by
  rfl
theorem w_at (w : FVec Ideal S4096x1024 .f32) (p : Fin 4) (o : ℕ) (ho : o = p.val * 1024) (j k : Fin 1024) :
    (truncf .bf16 (shapeCast S4x1024x1024 w shapeCasts_S4096x1024_S4x1024x1024) bitsLt_bf16_f32 : FVec Ideal S4x1024x1024 .bf16) (ix3 p j k)
      = w (ix2 ⟨o + j.val, by omega⟩ k) := by
  subst ho
  pointwise []
theorem r_at (r : FVec Ideal S4096x4096 .f32) (i k : Fin 4096) : (truncf .bf16 r bitsLt_bf16_f32 : FVec Ideal S4096x4096 .bf16) (ix2 i k) = r (ix2 i k) := by
  rfl
theorem g_at (g : FVec Ideal S1024 .f32) (j : Fin 1024) : (shapeCast S1x1024 g shapeCasts_S1024_S1x1024 : FVec Ideal S1x1024 .f32) (ix2 0 j) = g (ix1 j) := by
  pointwise []

theorem blk_r (t : Fin cfg0.N) (i : Fin 512) (k : Fin 4096) : iblk m c 0 t (ix2 i k)
    = (V m c main_v1 : FVec Ideal S4096x4096 .bf16) (ix2 ⟨t.val * 512 + i.val, by have : t.val < 8 := t.isLt; omega⟩ k) := by
  have e := (index_at t).1
  unfold iblk
  generalize V m c = v
  blk_ext [e]
theorem blk_w0 (t : Fin cfg0.N) (k j : Fin 1024) : iblk m c 1 t (ix3 0 k j) = (V m c main_v3 : FVec Ideal S4x1024x1024 .bf16) (ix3 0 k j) := by
  have e := (index_at t).2.1
  unfold iblk
  generalize V m c = v
  blk_ext [e]
theorem blk_w1 (t : Fin cfg0.N) (k j : Fin 1024) : iblk m c 2 t (ix3 0 k j) = (V m c main_v3 : FVec Ideal S4x1024x1024 .bf16) (ix3 1 k j) := by
  have e := (index_at t).2.2.1
  unfold iblk
  generalize V m c = v
  blk_ext [e]
theorem blk_w2 (t : Fin cfg0.N) (k j : Fin 1024) : iblk m c 3 t (ix3 0 k j) = (V m c main_v3 : FVec Ideal S4x1024x1024 .bf16) (ix3 2 k j) := by
  have e := (index_at t).2.2.2.1
  unfold iblk
  generalize V m c = v
  blk_ext [e]
theorem blk_w3 (t : Fin cfg0.N) (k j : Fin 1024) : iblk m c 4 t (ix3 0 k j) = (V m c main_v3 : FVec Ideal S4x1024x1024 .bf16) (ix3 3 k j) := by
  have e := (index_at t).2.2.2.2.1
  unfold iblk
  generalize V m c = v
  blk_ext [e]
theorem blk_x (t : Fin cfg0.N) (i : Fin 512) (j : Fin 1024) : iblk m c 5 t (ix2 i j)
    = (V m c main_arg0 : FVec Ideal S4096x1024 .f32) (ix2 ⟨t.val * 512 + i.val, by have : t.val < 8 := t.isLt; omega⟩ j) := by
  have e := (index_at t).2.2.2.2.2.1
  unfold iblk
  generalize V m c = v
  blk_ext [e]
theorem blk_g (t : Fin cfg0.N) (j : Fin 1024) : iblk m c 6 t (ix2 0 j) = (V m c main_v0 : FVec Ideal S1x1024 .f32) (ix2 0 j) := by
  have e := (index_at t).2.2.2.2.2.2.1
  unfold iblk
  generalize V m c = v
  blk_ext [e]

/-- A point's four products with the stream's block. -/
theorem point_at (t : Fin cfg0.N) (i : Fin 512) (j : Fin 1024) :
    k0_pay5 (iblk m c 0 t) (iblk m c 1 t) (iblk m c 2 t) (iblk m c 3 t) (iblk m c 4 t) (iblk m c 5 t) (iblk m c 6 t) (ix2 i j)
    = stream (m (c.tc.loc main_arg0)) (m (c.tc.loc main_arg1)) (m (c.tc.loc main_arg2)) ⟨t.val * 512 + i.val, by have : t.val < 8 := t.isLt; omega⟩ j := by
  rw [pay5_at]
  unfold stream
  rw [sum_quarters, add_comm]
  simp only [blk_r, blk_w0, blk_w1, blk_w2, blk_w3, blk_x]
  rw [V_r, V_w, V_x]
  simp only [r_at, w_at _ 0 0 rfl, w_at _ 1 1024 rfl, w_at _ 2 2048 rfl, w_at _ 3 3072 rfl, Nat.zero_add]

theorem final7 : (dats m 0 c).arrAt 7 cfg0.N = G (m (c.tc.loc main_arg0)) (m (c.tc.loc main_arg1)) (m (c.tc.loc main_arg2)) := by
  refine (dats m 0 c).arrAt_eq_of_covers 7 _ (by decide +kernel) fun t hf y => ?_
  have e := (index_at t).2.2.2.2.2.2.2.1
  idx_vars y
  have ht : t.val < 8 := t.isLt
  have hi : ((cfg0.win 7).blk t).view.emb (ix2 y0 y1) = (ix2 ⟨t.val * 512 + y0.val, by omega⟩ y1 : S4096x1024.Idx) := by
    blk_ext [e]
  refine Eq.trans ?_ (congrArg (G (m (c.tc.loc main_arg0)) (m (c.tc.loc main_arg1)) (m (c.tc.loc main_arg2))) hi).symm
  show (dats m 0 c).after 7 t (ix2 y0 y1) = _
  rw [after0_7, out7_eq, point_at]
  rfl

theorem final8 : (dats m 0 c).arrAt 8 cfg0.N = G' (m (c.tc.loc main_arg0)) (m (c.tc.loc main_arg1)) (m (c.tc.loc main_arg2)) (m (c.tc.loc main_arg3)) := by
  refine (dats m 0 c).arrAt_eq_of_covers 8 _ (by decide +kernel) fun t hf y => ?_
  have e := (index_at t).2.2.2.2.2.2.2.2
  idx_vars y
  have ht : t.val < 8 := t.isLt
  have hi : ((cfg0.win 8).blk t).view.emb (ix2 y0 y1) = (ix2 ⟨t.val * 512 + y0.val, by omega⟩ y1 : S4096x1024.Idx) := by
    blk_ext [e]
  refine Eq.trans ?_ (congrArg (G' (m (c.tc.loc main_arg0)) (m (c.tc.loc main_arg1)) (m (c.tc.loc main_arg2)) (m (c.tc.loc main_arg3))) hi).symm
  show (dats m 0 c).after 8 t (ix2 y0 y1) = _
  rw [after0_8, out8_at, blk_g, V_g, g_at]
  simp only [point_at]
  rfl

open Cert.FfnDownRefIdeal.Read in
theorem stream_at (x : FVec Ideal S4096x1024 .f32) (r : FVec Ideal S4096x4096 .f32) (w : FVec Ideal S4096x1024 .f32) (i : Fin 4096) (j : Fin 1024) :
    val_main_v1 (F := Ideal) x r w (ix2 i j) = stream x r w i j := by
  unfold stream
  rw [val_main_v1_apply, val_main_v0_apply]
  refine congrArg₂ (· + ·) rfl (Finset.sum_congr rfl fun k _ => ?_)
  have el : lidx_main_v0 (ix2 i j) k = ix2 i k := funext fun a => match a with | ⟨0, _⟩ => rfl | ⟨1, _⟩ => rfl
  have er : ridx_main_v0 (ix2 i j) k = ix2 k j := funext fun a => match a with | ⟨0, _⟩ => rfl | ⟨1, _⟩ => rfl
  rw [el, er]

open Cert.FfnDownRefIdeal.Read in
theorem ref_eq (x : FVec Ideal S4096x1024 .f32) (r : FVec Ideal S4096x4096 .f32) (w : FVec Ideal S4096x1024 .f32) : val_main_v1 (F := Ideal) x r w = G x r w := by
  funext i
  idx_vars i
  rw [stream_at]
  rfl

open Cert.FfnDownRefIdeal.Read in
theorem ref_eq' (x : FVec Ideal S4096x1024 .f32) (r : FVec Ideal S4096x4096 .f32) (w : FVec Ideal S4096x1024 .f32) (g : FVec Ideal S1024 .f32) :
    val_main_v15 (F := Ideal) x r w g = G' x r w g := by
  funext i
  idx_vars i
  have hs : ∀ j, val_main_v1 (F := Ideal) x r w (ix2 i0 j) = stream x r w i0 j := fun j => stream_at x r w i0 j
  unfold val_main_v15 val_main_v14 val_main_v11 val_main_v10 val_main_v9 val_main_v8 val_main_v6 val_main_v4 val_main_v3 val_main_v2 val_main_v13
    val_main_v12 val_main_v5 val_main_v7 val_main_cst_0 val_main_cst_1 val_main_cst
  generalize val_main_v1 (F := Ideal) x r w = z at hs ⊢
  pointwise []
  simp only [hs]
  rfl

/-- Every run of the call ends with those arrays. -/
theorem run_value (ρ : Dev nD → PrngReg) : θ_run defs (onTc (τ := τ) (main (F := Ideal))) ⟨m, fun _ => 0, ρ⟩ fun r => ∀ c : Dev nD,
      r.2.mem ((c.tc : Thread nD τ).loc main_v4_0) = G (m (c.tc.loc main_arg0)) (m (c.tc.loc main_arg1)) (m (c.tc.loc main_arg2))
      ∧ r.2.mem ((c.tc : Thread nD τ).loc main_v4_1) = G' (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final7 m c), (h c).2.1.trans (final8 m c), (h c).2.2⟩) (Value.run_blocks m ρ)

/-- Every run of the reference ends with the values `X` and `Y`, if they are what `G` and `G'` make of its arguments. -/
theorem reference_value (m : (ℓ : Loc Cert.FfnDownRefIdeal.nD Cert.FfnDownRefIdeal.τ Cert.FfnDownRefIdeal.sig) → Buf (Elt Ideal) ℓ) (ρ : Dev Cert.FfnDownRefIdeal.nD → PrngReg)
    (X : Dev Cert.FfnDownRefIdeal.nD → FVec Ideal S4096x1024 .f32) (Y : Dev Cert.FfnDownRefIdeal.nD → FVec Ideal S4096x1024 .bf16)
    (hX : ∀ c : Dev Cert.FfnDownRefIdeal.nD, G (m (c.tc.loc Cert.FfnDownRefIdeal.main_arg0)) (m (c.tc.loc Cert.FfnDownRefIdeal.main_arg1))
      (m (c.tc.loc Cert.FfnDownRefIdeal.main_arg2)) = X c)
    (hY : ∀ c : Dev Cert.FfnDownRefIdeal.nD, G' (m (c.tc.loc Cert.FfnDownRefIdeal.main_arg0)) (m (c.tc.loc Cert.FfnDownRefIdeal.main_arg1))
      (m (c.tc.loc Cert.FfnDownRefIdeal.main_arg2)) (m (c.tc.loc Cert.FfnDownRefIdeal.main_arg3)) = Y c) :
    θ_run Cert.FfnDownRefIdeal.defs (onTc (τ := Cert.FfnDownRefIdeal.τ) (Cert.FfnDownRefIdeal.main (F := Ideal))) ⟨m, fun _ => 0, ρ⟩ fun r => ∀ c : Dev Cert.FfnDownRefIdeal.nD,
      r.2.mem (c.tc.loc Cert.FfnDownRefIdeal.main_v1) = X c
      ∧ r.2.mem (c.tc.loc Cert.FfnDownRefIdeal.main_v15) = Y c
      ∧ r.2.mem (c.tc.loc Cert.FfnDownRefIdeal.main_arg0) = m (c.tc.loc Cert.FfnDownRefIdeal.main_arg0)
      ∧ r.2.mem (c.tc.loc Cert.FfnDownRefIdeal.main_arg1) = m (c.tc.loc Cert.FfnDownRefIdeal.main_arg1)
      ∧ r.2.mem (c.tc.loc Cert.FfnDownRefIdeal.main_arg2) = m (c.tc.loc Cert.FfnDownRefIdeal.main_arg2)
      ∧ r.2.mem (c.tc.loc Cert.FfnDownRefIdeal.main_arg3) = m (c.tc.loc Cert.FfnDownRefIdeal.main_arg3) :=
  (θ_run Cert.FfnDownRefIdeal.defs _ _).mono (fun _ h c => ⟨(h c).1.trans ((Cert.FfnDownRefIdeal.Read.val_main_v1_eq _ _ _).trans ((ref_eq _ _ _).trans (hX c))),
      (h c).2.1.trans ((Cert.FfnDownRefIdeal.Read.val_main_v15_eq _ _ _ _).trans ((ref_eq' _ _ _ _).trans (hY c))), (h c).2.2⟩)
    (Cert.FfnDownRefIdeal.Value.run (F := Ideal) m ρ)

end Cert.Proof.Mlp.FfnDown

end
-- ==== Proof.Mlp.NormGrad.lean ====
/-
  The norm's gradient at one entry of a row, as the call computes it and as the reference does: equal for any extended reals.
-/
module

public import Idealize.ShloMosaic.PureOps.Ideal
public import Mathlib.Analysis.SpecialFunctions.Pow.Real

@[expose] public section

noncomputable section

namespace Cert.Proof.Mlp

open Idealize.ShloMosaic Finset

/-- A row's mean square with the small constant. -/
def meanSq (x : Fin 1024 → EReal) : EReal := Ideal.div (∑ k, x k * x k) (Ideal.ofBits .f32 0x44800000#32) + Ideal.ofBits .f32 0x358637BD#32
/-- The inverse of a row's root mean square. -/
def rstd (x : Fin 1024 → EReal) : EReal := Ideal.rsqrt (meanSq x)
/-- An entry of the norm's gradient beside the residual's `d`, from the row `x` and the gradient `a` of the normed row before its gain. -/
def dxAt (x a : Fin 1024 → EReal) (d : EReal) (j : Fin 1024) : EReal :=
  rstd x * (a j - x j * rstd x * Ideal.div (∑ k, a k * (x k * rstd x)) (Ideal.ofBits .f32 0x44800000#32)) + d
/-- The factor of the row in the reference's gradient, through the mean square. -/
def through (x a : Fin 1024 → EReal) : EReal :=
  Ideal.div ((∑ k, x k * a k) * (Ideal.ofBits .f32 0xBF000000#32 * Ideal.div (rstd x) (meanSq x))) (Ideal.ofBits .f32 0x44800000#32)

theorem ofBits_thousand : Ideal.ofBits .f32 0x44800000#32 = ((1024 : ℝ) : EReal) := by
  simp [Ideal.ofBits, Ideal.ieee, -EReal.coe_mul]; norm_num
theorem ofBits_half : Ideal.ofBits .f32 0xBF000000#32 = ((-(1 / 2) : ℝ) : EReal) := by
  simp [Ideal.ofBits, Ideal.ieee, -EReal.coe_mul]; norm_num
theorem ofBits_eps : Ideal.ofBits .f32 0x358637BD#32 = ((8796093 / 8796093022208 : ℝ) : EReal) := by
  simp [Ideal.ofBits, Ideal.ieee, -EReal.coe_mul]; norm_num

theorem square_nonneg (x : EReal) : 0 ≤ x * x := by
  induction x with
  | bot => simp
  | top => simp
  | coe r => exact_mod_cast mul_self_nonneg r

/-- A nonnegative real factor of a sum's terms. -/
theorem mul_sum_of_nonneg {ι : Type*} (s : Finset ι) (f : ι → EReal) (c : ℝ) (hc : 0 ≤ c) : (c : EReal) * ∑ k ∈ s, f k = ∑ k ∈ s, (c : EReal) * f k := by
  classical
  induction s using Finset.induction_on with
  | empty => simp
  | insert i s hi ih => rw [sum_insert hi, sum_insert hi, EReal.left_distrib_of_nonneg_of_ne_top (by exact_mod_cast hc) (EReal.coe_ne_top c), ih]

theorem halves (y : EReal) : ((-(1 / 2) : ℝ) : EReal) * y + ((-(1 / 2) : ℝ) : EReal) * y = -y := by
  induction y with
  | bot => rw [EReal.coe_mul_bot_of_neg (by norm_num)]; rfl
  | top => rw [EReal.coe_mul_top_of_neg (by norm_num)]; rfl
  | coe r => norm_cast; ring

theorem norm_grad (x a : Fin 1024 → EReal) (d : EReal) (j : Fin 1024) : dxAt x a d j = d + a j * rstd x + x j * through x a + through x a * x j := by
  have hS : 0 ≤ ∑ k, x k * x k := sum_nonneg fun k _ => square_nonneg _
  unfold dxAt through rstd meanSq
  generalize ∑ k, x k * x k = S at hS
  rw [ofBits_thousand, ofBits_half, ofBits_eps]
  simp only [Ideal.div_coe (show (1024 : ℝ) ≠ 0 by norm_num)]
  induction S with
  | bot => simp at hS
  | top =>
    rw [EReal.top_mul_coe_of_pos (by norm_num), EReal.top_add_coe, Ideal.rsqrt_top]
    have h0 : Ideal.div 0 (⊤ : EReal) = 0 := by
      simp [Ideal.div]
    simp [h0]
  | coe s =>
    have hs : 0 ≤ s := by exact_mod_cast hS
    rw [← EReal.coe_mul, ← EReal.coe_add]
    have hμ : 0 < s * (1 / 1024) + 8796093 / 8796093022208 := by positivity
    generalize s * (1 / 1024) + 8796093 / 8796093022208 = μ at hμ
    rw [Ideal.rsqrt_coe, if_neg hμ.not_gt, if_neg hμ.ne', Ideal.div_coe hμ.ne']
    have hρ : 0 < (Real.sqrt μ)⁻¹ := inv_pos.2 (Real.sqrt_pos.2 hμ)
    have hρ2 : (Real.sqrt μ)⁻¹ * (Real.sqrt μ)⁻¹ = 1 / μ := by
      rw [← mul_inv, Real.mul_self_sqrt hμ.le, one_div]
    generalize (Real.sqrt μ)⁻¹ = ρ at hρ hρ2
    have e1 : ∑ k, a k * (x k * (ρ : EReal)) = (ρ : EReal) * ∑ k, x k * a k := by
      rw [mul_sum_of_nonneg _ _ _ hρ.le]
      exact sum_congr rfl fun k _ => by rw [mul_comm, mul_right_comm, mul_comm]
    rw [e1]
    generalize ∑ k, x k * a k = Q
    rw [EReal.mul_sub_of_nonneg_of_ne_top (by exact_mod_cast hρ.le) (EReal.coe_ne_top ρ), sub_eq_add_neg]
    have e2 : (ρ : EReal) * (x j * ρ * (ρ * Q * ((1 / 1024 : ℝ) : EReal))) = x j * Q * ((ρ * ρ * ρ * (1 / 1024) : ℝ) : EReal) := by
      push_cast
      ac_rfl
    have e3 : x j * (Q * (((-(1 / 2) : ℝ) : EReal) * (ρ * ((1 / μ : ℝ) : EReal))) * ((1 / 1024 : ℝ) : EReal))
        = ((-(1 / 2) : ℝ) : EReal) * (x j * Q * ((ρ * ρ * ρ * (1 / 1024) : ℝ) : EReal)) := by
      rw [← hρ2]
      push_cast
      ac_rfl
    rw [mul_comm _ (x j), add_assoc (d + _), e3, halves, e2]
    rw [mul_comm (a j)]
    ac_rfl

end Cert.Proof.Mlp

end
-- ==== Proof.Mlp.UpDx.lean ====
/-
  The gradient of the layer's input through the up weight and the norm, and of the norm's gain: the call's three arrays and the reference's three results.
-/
module

public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Mlp.Zero
public import proofs.«01_k».proof.Proof.Mlp.Quarters
public import proofs.«01_k».proof.Proof.Mlp.NormGrad
public import Idealize.ShloMosaic.Lib.Pointwise
public import Idealize.ShloMosaic.Lib.Tactic
public import Idealize.ShloMosaic.Lib.Pipeline.Value

@[expose] public section

set_option maxRecDepth 16384

noncomputable section

namespace Cert.Proof.Mlp.UpDx

open Cert.UpDxIdeal Cert.UpDxIdeal.Gen Idealize.ShloMosaic Idealize.ShloMosaic.TcCoe Idealize.SL.Sem Finset

/-- A point's four products. -/
def prods (x : Vec Ideal S256x4096 .bf16) (y0 y1 y2 y3 : Vec Ideal S1x1024x1024 .bf16) : FVec Ideal S256x1024 .f32 :=
  k0_pay8 (View.ld x (Rect.unit (s := S256x4096) ![0, 0] S256x1024.size inb_S256x4096_S256x1024_0_0)) y0 (View.ld x (Rect.unit (s := S256x4096) ![0, 1024] S256x1024.size inb_S256x4096_S256x1024_0_1024)) y1
    (View.ld x (Rect.unit (s := S256x4096) ![0, 2048] S256x1024.size inb_S256x4096_S256x1024_0_2048)) y2 (View.ld x (Rect.unit (s := S256x4096) ![0, 3072] S256x1024.size inb_S256x4096_S256x1024_0_3072)) y3

section
variable (c : Dev nD) (i : grid0.Coords) (a0 : Memref sig .tc .vmem S256x4096 .bf16) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1024x1024 .bf16) (h3 : a3.IsWhole) (a4 : Memref sig .tc .vmem S1x1024x1024 .bf16) (h4 : a4.IsWhole) (a5 : Memref sig .tc .vmem S256x1024 .f32) (h5 : a5.IsWhole) (a6 : Memref sig .tc .vmem S256x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole)
  (hc0 : cond0_0 i) (hc1 : ¬cond0_1 i) (hd0 : ¬cond0_0 i) (hd1 : cond0_1 i) (x0 : Vec Ideal S256x4096 .bf16) (x1 : Vec Ideal S1x1024x1024 .bf16) (x2 : Vec Ideal S1x1024x1024 .bf16) (x3 : Vec Ideal S1x1024x1024 .bf16) (x4 : Vec Ideal S1x1024x1024 .bf16) (x5 : Vec Ideal S256x1024 .f32) (x6 : Vec Ideal S256x1024 .f32) (x7 : Vec Ideal S1x1024 .f32) (xo : Vec Ideal S1x1024 .f32)

theorem out_A_8 : out0_A_8 c i a0 h0 a1 h1 a2 h2 a3 h3 a4 h4 a5 h5 a6 h6 a7 h7 a8 h8 a9 h9 a10 h10 hc0 hc1 x0 x1 x2 x3 x4 x5 x6 x7 = k0_pay5 (prods x0 x1 x2 x3 x4) x5 x6 (k0_pay9 x7) := by
  unfold out0_A_8
  rw [View.read_writes_eq_canon _ _ _ (cover0_A_8 c i a0 h0 a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, View.ld_unit_zero (S := S256x1024) hz2, View.ld_unit_zero (S := S1x1024) hz2, View.ld_unit_zero (S := S1x1024x1024) hz3]
  rfl
theorem out_B_8 : out0_B_8 c i a0 h0 a1 h1 a2 h2 a3 h3 a4 h4 a5 h5 a6 h6 a7 h7 a8 h8 a9 h9 a10 h10 hd0 hd1 x0 x1 x2 x3 x4 x5 x6 x7 xo = k0_pay5 (prods x0 x1 x2 x3 x4) x5 x6 (k0_pay9 x7) := by
  unfold out0_B_8
  rw [View.read_writes_eq_canon _ _ _ (cover0_B_8 c i a0 h0 a1 h1 a2 h2 a3 h3 a4 h4 a5 h5 a6 h6 a7 h7 a8 h8 a9 h9 a10 h10 hd0 hd1 x0 x1 x2 x3 x4 x5 x6 x7 xo)]
  unfold kernelRun0_B
  dsimp only
  sl_unfold_words
  rw [View.canon_unit_zero hz2]
  simp only [View.readAt_eq_ld, h0.read_unread, h1.read_unread, h2.read_unread, h3.read_unread, h4.read_unread, h5.read_unread, h6.read_unread, h7.read_unread, h10.read_unread, View.ld_unit_zero (S := S256x1024) hz2, View.ld_unit_zero (S := S1x1024) hz2, View.ld_unit_zero (S := S1x1024x1024) hz3]
  rfl
theorem out_A_9 : out0_A_9 c i a0 h0 a1 h1 a2 h2 a3 h3 a4 h4 a5 h5 a6 h6 a7 h7 a8 h8 a9 h9 a10 h10 hc0 hc1 x0 x1 x2 x3 x4 x5 x6 x7 = k0_pay6 (prods x0 x1 x2 x3 x4) x5 x6 (k0_pay9 x7) := by
  unfold out0_A_9
  rw [View.read_writes_eq_canon _ _ _ (cover0_A_9 c i a0 h0 a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, View.ld_unit_zero (S := S256x1024) hz2, View.ld_unit_zero (S := S1x1024) hz2, View.ld_unit_zero (S := S1x1024x1024) hz3]
  rfl
theorem out_B_9 : out0_B_9 c i a0 h0 a1 h1 a2 h2 a3 h3 a4 h4 a5 h5 a6 h6 a7 h7 a8 h8 a9 h9 a10 h10 hd0 hd1 x0 x1 x2 x3 x4 x5 x6 x7 xo = k0_pay6 (prods x0 x1 x2 x3 x4) x5 x6 (k0_pay9 x7) := by
  unfold out0_B_9
  rw [View.read_writes_eq_canon _ _ _ (cover0_B_9 c i a0 h0 a1 h1 a2 h2 a3 h3 a4 h4 a5 h5 a6 h6 a7 h7 a8 h8 a9 h9 a10 h10 hd0 hd1 x0 x1 x2 x3 x4 x5 x6 x7 xo)]
  unfold kernelRun0_B
  dsimp only
  sl_unfold_words
  rw [View.canon_unit_zero hz2]
  simp only [View.readAt_eq_ld, h0.read_unread, h1.read_unread, h2.read_unread, h3.read_unread, h4.read_unread, h5.read_unread, h6.read_unread, h7.read_unread, h10.read_unread, View.ld_unit_zero (S := S256x1024) hz2, View.ld_unit_zero (S := S1x1024) hz2, View.ld_unit_zero (S := S1x1024x1024) hz3]
  rfl
theorem out_A_10 : out0_A_10 c i a0 h0 a1 h1 a2 h2 a3 h3 a4 h4 a5 h5 a6 h6 a7 h7 a8 h8 a9 h9 a10 h10 hc0 hc1 x0 x1 x2 x3 x4 x5 x6 x7 = k0_pay4 (prods x0 x1 x2 x3 x4) x5 := by
  unfold out0_A_10
  rw [View.read_writes_eq_canon _ _ _ (cover0_A_10 c i a0 h0 a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, View.ld_unit_zero (S := S256x1024) hz2, View.ld_unit_zero (S := S1x1024) hz2, View.ld_unit_zero (S := S1x1024x1024) hz3]
  rfl
theorem out_B_10 : out0_B_10 c i a0 h0 a1 h1 a2 h2 a3 h3 a4 h4 a5 h5 a6 h6 a7 h7 a8 h8 a9 h9 a10 h10 hd0 hd1 x0 x1 x2 x3 x4 x5 x6 x7 xo = k0_pay7 (prods x0 x1 x2 x3 x4) x5 xo := by
  unfold out0_B_10
  rw [View.read_writes_eq_canon _ _ _ (cover0_B_10 c i a0 h0 a1 h1 a2 h2 a3 h3 a4 h4 a5 h5 a6 h6 a7 h7 a8 h8 a9 h9 a10 h10 hd0 hd1 x0 x1 x2 x3 x4 x5 x6 x7 xo)]
  unfold kernelRun0_B
  dsimp only
  sl_unfold_words
  rw [View.canon_unit_zero hz2]
  simp only [View.readAt_eq_ld, h0.read_unread, h1.read_unread, h2.read_unread, h3.read_unread, h4.read_unread, h5.read_unread, h6.read_unread, h7.read_unread, h10.read_unread, View.ld_unit_zero (S := S256x1024) hz2, View.ld_unit_zero (S := S1x1024) hz2, View.ld_unit_zero (S := S1x1024x1024) hz3]
  rfl
end

variable (m : (ℓ : Loc nD τ sig) → Buf (Elt Ideal) ℓ) (c : Dev nD)

/-- The products of a point, from its blocks. -/
def point (t : Fin cfg0.N) : FVec Ideal S256x1024 .f32 := prods (iblk m c 0 t) (iblk m c 1 t) (iblk m c 2 t) (iblk m c 3 t) (iblk m c 4 t)

theorem outs8 (t : Fin cfg0.N) : (outsAt0 m c t.val t.isLt).1 = k0_pay5 (point m c t) (iblk m c 5 t) (iblk m c 6 t) (k0_pay9 (iblk m c 7 t)) := by
  have ht : t.val < 16 := t.isLt
  by_cases h : t.val = 0
  · rw [outsAt0_A m c t (by omega) (by omega), out_A_8]
    rfl
  · rw [outsAt0_B m c t (by omega) (by omega), out_B_8]
    rfl
theorem outs9 (t : Fin cfg0.N) : (outsAt0 m c t.val t.isLt).2.1 = k0_pay6 (point m c t) (iblk m c 5 t) (iblk m c 6 t) (k0_pay9 (iblk m c 7 t)) := by
  have ht : t.val < 16 := t.isLt
  by_cases h : t.val = 0
  · rw [outsAt0_A m c t (by omega) (by omega), out_A_9]
    rfl
  · rw [outsAt0_B m c t (by omega) (by omega), out_B_9]
    rfl
theorem outs10_zero (h : 0 < cfg0.N) : (outsAt0 m c 0 h).2.2 = k0_pay4 (point m c ⟨0, h⟩) (iblk m c 5 ⟨0, h⟩) := by
  refine (congrArg (fun p => p.2.2) (outsAt0_A m c ⟨0, h⟩ rfl (Nat.not_succ_le_zero 0))).trans ?_
  dsimp only
  rw [out_A_10]
  rfl
theorem outs10_succ (n : ℕ) (h : n + 1 < cfg0.N) : (outsAt0 m c (n + 1) h).2.2
    = k0_pay7 (point m c ⟨n + 1, h⟩) (iblk m c 5 ⟨n + 1, h⟩) (outsAt0 m c n (Nat.lt_of_succ_lt h)).2.2 := by
  have ht : n + 1 < 16 := h
  refine (congrArg (fun p => p.2.2) (outsAt0_B m c ⟨n + 1, h⟩ (by dsimp only; omega) (by dsimp only; omega))).trans ?_
  dsimp only
  rw [out_B_10]
  rfl

/-! A point's block, from its rows. -/

theorem pay5_at (p x d : FVec Ideal S256x1024 .f32) (g : FVec Ideal S1x1024 .f32) (i : Fin 256) (j : Fin 1024) :
    k0_pay5 p x d (k0_pay9 g) (ix2 i j) = dxAt (fun k => x (ix2 i k)) (fun k => p (ix2 i k) * g (ix2 0 k)) (d (ix2 i j)) j := by
  pointwise [k0_pay5, k0_pay3, k0_pay2, k0_pay1, k0_pay9]
  rfl
theorem pay6_at (p x d : FVec Ideal S256x1024 .f32) (g : FVec Ideal S1x1024 .f32) (i : Fin 256) (j : Fin 1024) :
    k0_pay6 p x d (k0_pay9 g) (ix2 i j) = dxAt (fun k => x (ix2 i k)) (fun k => p (ix2 i k) * g (ix2 0 k)) (d (ix2 i j)) j := by
  pointwise [k0_pay6, k0_pay3, k0_pay2, k0_pay1, k0_pay9]
  rfl
theorem pay4_at (p x : FVec Ideal S256x1024 .f32) (j : Fin 1024) :
    k0_pay4 p x (ix2 0 j) = ∑ i : Fin 256, p (ix2 i j) * (x (ix2 i j) * rstd fun k => x (ix2 i k)) := by
  pointwise [k0_pay4, k0_pay2, k0_pay1]
  rfl
theorem pay7_at (p x : FVec Ideal S256x1024 .f32) (o : FVec Ideal S1x1024 .f32) (j : Fin 1024) : k0_pay7 p x o (ix2 0 j) = o (ix2 0 j) + k0_pay4 p x (ix2 0 j) := by
  unfold k0_pay7
  generalize k0_pay4 p x = z
  pointwise []
theorem pay8_at (x0 x1 x2 x3 : Vec Ideal S256x1024 .bf16) (y0 y1 y2 y3 : Vec Ideal S1x1024x1024 .bf16) (i : Fin 256) (j : Fin 1024) :
    k0_pay8 x0 y0 x1 y1 x2 y2 x3 y3 (ix2 i j) = ∑ k : Fin 1024, x0 (ix2 i k) * y0 (ix3 0 j k) + ∑ k : Fin 1024, x1 (ix2 i k) * y1 (ix3 0 j k)
      + ∑ k : Fin 1024, x2 (ix2 i k) * y2 (ix3 0 j k) + ∑ k : Fin 1024, x3 (ix2 i k) * y3 (ix3 0 j k) := by
  pointwise [k0_pay8]

/-- The load of one of four bands of columns. -/
theorem band_at (x : Vec Ideal S256x4096 .bf16) (o : ℕ) (ho : o + 1024 ≤ 4096) (inb) (i : Fin 256) (k : Fin 1024) :
    View.ld x (Rect.unit (s := S256x4096) ![0, o] S256x1024.size inb) (ix2 i k) = x (ix2 i ⟨o + k.val, by omega⟩) :=
  View.ld_unit_apply_of x _ _ inb _ _ fun a => match a with
    | ⟨0, _⟩ => (Nat.zero_add _).symm
    | ⟨1, _⟩ => rfl
theorem prods_at (x : Vec Ideal S256x4096 .bf16) (y0 y1 y2 y3 : Vec Ideal S1x1024x1024 .bf16) (i : Fin 256) (j : Fin 1024) :
    prods x y0 y1 y2 y3 (ix2 i j) = ∑ k : Fin 1024, x (ix2 i ⟨k.val, by omega⟩) * y0 (ix3 0 j k) + ∑ k : Fin 1024, x (ix2 i ⟨1024 + k.val, by omega⟩) * y1 (ix3 0 j k)
      + ∑ k : Fin 1024, x (ix2 i ⟨2048 + k.val, by omega⟩) * y2 (ix3 0 j k) + ∑ k : Fin 1024, x (ix2 i ⟨3072 + k.val, by omega⟩) * y3 (ix3 0 j k) := by
  unfold prods
  rw [pay8_at]
  simp only [band_at x 0 (by decide), band_at x 1024 (by decide), band_at x 2048 (by decide), band_at x 3072 (by decide), Nat.zero_add]

/-! The arrays, from the arguments: the stream x, the gain g, the up weight w, the hidden layer's gradient a, the residual's gradient d. -/

/-- The gradient of the normed input. -/
def dh (w : FVec Ideal S1024x4096 .f32) (a : FVec Ideal S4096x4096 .f32) (i : Fin 4096) (j : Fin 1024) : EReal := ∑ k : Fin 4096, a (ix2 i k) * w (ix2 j k)
/-- The gradient of the input at one entry. -/
def dxOf (x : FVec Ideal S4096x1024 .f32) (g : FVec Ideal S1024 .f32) (w : FVec Ideal S1024x4096 .f32) (a : FVec Ideal S4096x4096 .f32) (d : FVec Ideal S4096x1024 .f32)
    (i : Fin 4096) (j : Fin 1024) : EReal := dxAt (fun k => x (ix2 i k)) (fun k => dh w a i k * g (ix1 k)) (d (ix2 i j)) j
/-- A row's part of the gain's gradient. -/
def dgRow (x : FVec Ideal S4096x1024 .f32) (w : FVec Ideal S1024x4096 .f32) (a : FVec Ideal S4096x4096 .f32) (j : Fin 1024) (i : ℕ) : EReal :=
  if h : i < 4096 then dh w a ⟨i, h⟩ j * (x (ix2 ⟨i, h⟩ j) * rstd fun k => x (ix2 ⟨i, h⟩ k)) else 0

/-- The call's first array. -/
def G (x : FVec Ideal S4096x1024 .f32) (g : FVec Ideal S1024 .f32) (w : FVec Ideal S1024x4096 .f32) (a : FVec Ideal S4096x4096 .f32) (d : FVec Ideal S4096x1024 .f32) :
    FVec Ideal S4096x1024 .f32 := fun i => dxOf x g w a d (i 0) (i 1)
/-- The call's second array. -/
def G' (x : FVec Ideal S4096x1024 .f32) (g : FVec Ideal S1024 .f32) (w : FVec Ideal S1024x4096 .f32) (a : FVec Ideal S4096x4096 .f32) (d : FVec Ideal S4096x1024 .f32) :
    FVec Ideal S4096x1024 .bf16 := fun i => dxOf x g w a d (i 0) (i 1)
/-- The call's third array. -/
def G'' (x : FVec Ideal S4096x1024 .f32) (w : FVec Ideal S1024x4096 .f32) (a : FVec Ideal S4096x4096 .f32) : FVec Ideal S1x1024 .f32 := fun i =>
  ∑ n ∈ range 4096, dgRow x w a (i 1) n

/-- Which block of its array each window of a point is. -/
theorem index_at : ∀ t : Fin cfg0.N, win0_0.index t = ![t.val, 0] ∧ win0_1.index t = ![0, 0, 0] ∧ win0_2.index t = ![1, 0, 0]
    ∧ win0_3.index t = ![2, 0, 0] ∧ win0_4.index t = ![3, 0, 0] ∧ win0_5.index t = ![t.val, 0] ∧ win0_6.index t = ![t.val, 0]
    ∧ win0_7.index t = ![0, 0] ∧ win0_8.index t = ![t.val, 0] ∧ win0_9.index t = ![t.val, 0] ∧ win0_10.index t = ![0, 0] :=
  (by decide +kernel : ∀ t : Fin grid0.N, _)

theorem V_a : V m c main_v0 = (truncf .bf16 (m (c.tc.loc main_arg3)) bitsLt_bf16_f32 : FVec Ideal S4096x4096 .bf16) := by
  rfl
theorem V_w : V m c main_v3 = (truncf .bf16 (transpose S4x1024x1024 [1, 0, 2] (shapeCast S1024x4x1024 (m (c.tc.loc main_arg2)) shapeCasts_S1024x4096_S1024x4x1024)
    transposes_S1024x4x1024_S4x1024x1024_1_0_2) bitsLt_bf16_f32 : FVec Ideal S4x1024x1024 .bf16) := by
  rfl
theorem V_g : V m c main_v4 = (shapeCast S1x1024 (m (c.tc.loc main_arg1)) shapeCasts_S1024_S1x1024 : FVec Ideal S1x1024 .f32) := by
  rfl
theorem V_x : V m c main_arg0 = m (c.tc.loc main_arg0) := by
  rfl
theorem V_d : V m c main_arg4 = m (c.tc.loc main_arg4) := by
  rfl
theorem w_at (w : FVec Ideal S1024x4096 .f32) (p : Fin 4) (o : ℕ) (ho : o = p.val * 1024) (j k : Fin 1024) :
    (truncf .bf16 (transpose S4x1024x1024 [1, 0, 2] (shapeCast S1024x4x1024 w shapeCasts_S1024x4096_S1024x4x1024)
      transposes_S1024x4x1024_S4x1024x1024_1_0_2) bitsLt_bf16_f32 : FVec Ideal S4x1024x1024 .bf16) (ix3 p j k)
      = w (ix2 j ⟨o + k.val, by omega⟩) := by
  subst ho
  pointwise []
theorem a_at (a : FVec Ideal S4096x4096 .f32) (i k : Fin 4096) : (truncf .bf16 a bitsLt_bf16_f32 : FVec Ideal S4096x4096 .bf16) (ix2 i k) = a (ix2 i k) := by
  rfl
theorem g_at (g : FVec Ideal S1024 .f32) (j : Fin 1024) : (shapeCast S1x1024 g shapeCasts_S1024_S1x1024 : FVec Ideal S1x1024 .f32) (ix2 0 j) = g (ix1 j) := by
  pointwise []

theorem blk_a (t : Fin cfg0.N) (i : Fin 256) (k : Fin 4096) : iblk m c 0 t (ix2 i k)
    = (V m c main_v0 : FVec Ideal S4096x4096 .bf16) (ix2 ⟨t.val * 256 + i.val, by have : t.val < 16 := t.isLt; omega⟩ k) := by
  have e := (index_at t).1
  unfold iblk
  generalize V m c = v
  blk_ext [e]
theorem blk_w0 (t : Fin cfg0.N) (j k : Fin 1024) : iblk m c 1 t (ix3 0 j k) = (V m c main_v3 : FVec Ideal S4x1024x1024 .bf16) (ix3 0 j k) := by
  have e := (index_at t).2.1
  unfold iblk
  generalize V m c = v
  blk_ext [e]
theorem blk_w1 (t : Fin cfg0.N) (j k : Fin 1024) : iblk m c 2 t (ix3 0 j k) = (V m c main_v3 : FVec Ideal S4x1024x1024 .bf16) (ix3 1 j k) := by
  have e := (index_at t).2.2.1
  unfold iblk
  generalize V m c = v
  blk_ext [e]
theorem blk_w2 (t : Fin cfg0.N) (j k : Fin 1024) : iblk m c 3 t (ix3 0 j k) = (V m c main_v3 : FVec Ideal S4x1024x1024 .bf16) (ix3 2 j k) := by
  have e := (index_at t).2.2.2.1
  unfold iblk
  generalize V m c = v
  blk_ext [e]
theorem blk_w3 (t : Fin cfg0.N) (j k : Fin 1024) : iblk m c 4 t (ix3 0 j k) = (V m c main_v3 : FVec Ideal S4x1024x1024 .bf16) (ix3 3 j k) := by
  have e := (index_at t).2.2.2.2.1
  unfold iblk
  generalize V m c = v
  blk_ext [e]
theorem blk_x (t : Fin cfg0.N) (i : Fin 256) (j : Fin 1024) : iblk m c 5 t (ix2 i j)
    = (V m c main_arg0 : FVec Ideal S4096x1024 .f32) (ix2 ⟨t.val * 256 + i.val, by have : t.val < 16 := t.isLt; omega⟩ j) := by
  have e := (index_at t).2.2.2.2.2.1
  unfold iblk
  generalize V m c = v
  blk_ext [e]
theorem blk_d (t : Fin cfg0.N) (i : Fin 256) (j : Fin 1024) : iblk m c 6 t (ix2 i j)
    = (V m c main_arg4 : FVec Ideal S4096x1024 .f32) (ix2 ⟨t.val * 256 + i.val, by have : t.val < 16 := t.isLt; omega⟩ j) := by
  have e := (index_at t).2.2.2.2.2.2.1
  unfold iblk
  generalize V m c = v
  blk_ext [e]
theorem blk_g (t : Fin cfg0.N) (j : Fin 1024) : iblk m c 7 t (ix2 0 j) = (V m c main_v4 : FVec Ideal S1x1024 .f32) (ix2 0 j) := by
  have e := (index_at t).2.2.2.2.2.2.2.1
  unfold iblk
  generalize V m c = v
  blk_ext [e]

/-- A point's four products. -/
theorem point_at (t : Fin cfg0.N) (i : Fin 256) (j : Fin 1024) : point m c t (ix2 i j)
    = dh (m (c.tc.loc main_arg2)) (m (c.tc.loc main_arg3)) ⟨t.val * 256 + i.val, by have : t.val < 16 := t.isLt; omega⟩ j := by
  unfold point
  rw [prods_at]
  unfold dh
  rw [sum_quarters]
  simp only [blk_a, blk_w0, blk_w1, blk_w2, blk_w3]
  rw [V_a, V_w]
  simp only [a_at, w_at _ 0 0 rfl, w_at _ 1 1024 rfl, w_at _ 2 2048 rfl, w_at _ 3 3072 rfl, Nat.zero_add]

theorem block8_at (t : Fin cfg0.N) (i : Fin 256) (j : Fin 1024) : (outsAt0 m c t.val t.isLt).1 (ix2 i j)
    = dxOf (m (c.tc.loc main_arg0)) (m (c.tc.loc main_arg1)) (m (c.tc.loc main_arg2)) (m (c.tc.loc main_arg3)) (m (c.tc.loc main_arg4))
      ⟨t.val * 256 + i.val, by have : t.val < 16 := t.isLt; omega⟩ j := by
  rw [outs8, pay5_at]
  unfold dxOf
  simp only [point_at, blk_x, blk_d, blk_g]
  rw [V_x, V_d, V_g]
  simp only [g_at]
theorem block9_at (t : Fin cfg0.N) (i : Fin 256) (j : Fin 1024) : (outsAt0 m c t.val t.isLt).2.1 (ix2 i j)
    = dxOf (m (c.tc.loc main_arg0)) (m (c.tc.loc main_arg1)) (m (c.tc.loc main_arg2)) (m (c.tc.loc main_arg3)) (m (c.tc.loc main_arg4))
      ⟨t.val * 256 + i.val, by have : t.val < 16 := t.isLt; omega⟩ j := by
  rw [outs9, pay6_at]
  unfold dxOf
  simp only [point_at, blk_x, blk_d, blk_g]
  rw [V_x, V_d, V_g]
  simp only [g_at]

/-- What a point adds to the gain's gradient. -/
theorem rows_at (t : Fin cfg0.N) (j : Fin 1024) : k0_pay4 (point m c t) (iblk m c 5 t) (ix2 0 j)
    = ∑ i ∈ range 256, dgRow (m (c.tc.loc main_arg0)) (m (c.tc.loc main_arg2)) (m (c.tc.loc main_arg3)) j (t.val * 256 + i) := by
  have ht : t.val < 16 := t.isLt
  rw [pay4_at, sum_range]
  refine sum_congr rfl fun i _ => ?_
  unfold dgRow
  rw [dif_pos (by omega), point_at]
  simp only [blk_x]
  rw [V_x]

theorem block10_at (j : Fin 1024) : ∀ (n : ℕ) (h : n < cfg0.N), (outsAt0 m c n h).2.2 (ix2 0 j)
    = ∑ i ∈ range ((n + 1) * 256), dgRow (m (c.tc.loc main_arg0)) (m (c.tc.loc main_arg2)) (m (c.tc.loc main_arg3)) j i
  | 0, h => by
    rw [outs10_zero, rows_at]
    simp only [Nat.zero_mul, Nat.zero_add, Nat.one_mul]
  | n + 1, h => by
    rw [outs10_succ, pay7_at, block10_at j n, rows_at, Nat.succ_mul (n + 1) 256, sum_range_add]

theorem final8 : (dats m 0 c).arrAt 8 cfg0.N = G (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  have e := (index_at t).2.2.2.2.2.2.2.2.1
  idx_vars y
  have ht : t.val < 16 := t.isLt
  have hi : ((cfg0.win 8).blk t).view.emb (ix2 y0 y1) = (ix2 ⟨t.val * 256 + y0.val, by omega⟩ y1 : S4096x1024.Idx) := by
    blk_ext [e]
  refine Eq.trans ?_ (congrArg (G (m (c.tc.loc main_arg0)) (m (c.tc.loc main_arg1)) (m (c.tc.loc main_arg2)) (m (c.tc.loc main_arg3)) (m (c.tc.loc main_arg4))) hi).symm
  show (dats m 0 c).after 8 t (ix2 y0 y1) = _
  rw [after0_8, block8_at]
  rfl

theorem final9 : (dats m 0 c).arrAt 9 cfg0.N = G' (m (c.tc.loc main_arg0)) (m (c.tc.loc main_arg1)) (m (c.tc.loc main_arg2)) (m (c.tc.loc main_arg3)) (m (c.tc.loc main_arg4)) := by
  refine (dats m 0 c).arrAt_eq_of_covers 9 _ (by decide +kernel) fun t hf y => ?_
  have e := (index_at t).2.2.2.2.2.2.2.2.2.1
  idx_vars y
  have ht : t.val < 16 := t.isLt
  have hi : ((cfg0.win 9).blk t).view.emb (ix2 y0 y1) = (ix2 ⟨t.val * 256 + y0.val, by omega⟩ y1 : S4096x1024.Idx) := by
    blk_ext [e]
  refine Eq.trans ?_ (congrArg (G' (m (c.tc.loc main_arg0)) (m (c.tc.loc main_arg1)) (m (c.tc.loc main_arg2)) (m (c.tc.loc main_arg3)) (m (c.tc.loc main_arg4))) hi).symm
  show (dats m 0 c).after 9 t (ix2 y0 y1) = _
  rw [after0_9, block9_at]
  rfl

theorem final10 : (dats m 0 c).arrAt 10 cfg0.N = G'' (m (c.tc.loc main_arg0)) (m (c.tc.loc main_arg2)) (m (c.tc.loc main_arg3)) := by
  refine (dats m 0 c).arrAt_eq_of_covers 10 _ (by decide +kernel) fun t hf y => ?_
  have e := (index_at t).2.2.2.2.2.2.2.2.2.2
  idx_vars y
  have ht : t.val < 16 := t.isLt
  have h15 : t.val = 15 := by have := (flush0_10 t).mp hf; omega
  obtain rfl : y0 = 0 := Subsingleton.elim _ _
  have hi : ((cfg0.win 10).blk t).view.emb (ix2 0 y1) = (ix2 0 y1 : S1x1024.Idx) := by
    blk_ext [e]
  refine Eq.trans ?_ (congrArg (G'' (m (c.tc.loc main_arg0)) (m (c.tc.loc main_arg2)) (m (c.tc.loc main_arg3))) hi).symm
  show (dats m 0 c).after 10 t (ix2 0 y1) = _
  rw [after0_10, block10_at, h15]
  rfl

/-! The reference. -/

open Cert.UpDxRefIdeal.Read in
theorem dh_at (w : FVec Ideal S1024x4096 .f32) (a : FVec Ideal S4096x4096 .f32) (i : Fin 4096) (j : Fin 1024) : val_main_v17 (F := Ideal) w a (ix2 i j) = dh w a i j := by
  unfold dh
  rw [val_main_v17_apply]
  refine Finset.sum_congr rfl fun k _ => ?_
  have el : lidx_main_v17 (ix2 i j) k = ix2 i k := funext fun a => match a with | ⟨0, _⟩ => rfl | ⟨1, _⟩ => rfl
  have er : ridx_main_v17 (ix2 i j) k = ix2 j k := funext fun a => match a with | ⟨0, _⟩ => rfl | ⟨1, _⟩ => rfl
  rw [el, er]

open Cert.UpDxRefIdeal.Read in
theorem meanSq_at (x : FVec Ideal S4096x1024 .f32) (i : Fin 4096) : val_main_v6 (F := Ideal) x (ix2 i 0) = meanSq fun k => x (ix2 i k) := by
  pointwise [val_main_v6, val_main_v5, val_main_v4, val_main_v3, val_main_v2, val_main_v1, val_main_v0, val_main_cst, val_main_cst_0, val_main_cst_1]
  rfl
open Cert.UpDxRefIdeal.Read in
theorem rstd_at (x : FVec Ideal S4096x1024 .f32) (i : Fin 4096) : val_main_v7 (F := Ideal) x (ix2 i 0) = rstd fun k => x (ix2 i k) :=
  congrArg Ideal.rsqrt (meanSq_at x i)

open Cert.UpDxRefIdeal.Read in
theorem through_at (x : FVec Ideal S4096x1024 .f32) (g : FVec Ideal S1024 .f32) (w : FVec Ideal S1024x4096 .f32) (a : FVec Ideal S4096x4096 .f32) (i : Fin 4096) :
    val_main_v33 (F := Ideal) x g w a (ix1 i) = through (fun k => x (ix2 i k)) fun k => dh w a i k * g (ix1 k) := by
  have h1 := meanSq_at x i
  have h2 := rstd_at x i
  have h3 := dh_at w a i
  unfold val_main_v33 val_main_v32 val_main_v31 val_main_v30 val_main_v26 val_main_v25 val_main_v24 val_main_v22 val_main_v21 val_main_v13 val_main_v10 val_main_v9 val_main_v8
    val_main_cst_2 val_main_cst_5 val_main_cst_6 val_main_cst_7
  generalize val_main_v6 (F := Ideal) x = z6 at h1 ⊢
  generalize val_main_v7 (F := Ideal) x = z7 at h2 ⊢
  generalize val_main_v17 (F := Ideal) w a = z17 at h3 ⊢
  pointwise []
  simp only [h3]
  refine (Fin.sum_univ_one _).trans ?_
  simp only [h1, h2]
  rfl

open Cert.UpDxRefIdeal.Read in
theorem dx_at (x : FVec Ideal S4096x1024 .f32) (g : FVec Ideal S1024 .f32) (w : FVec Ideal S1024x4096 .f32) (a : FVec Ideal S4096x4096 .f32) (d : FVec Ideal S4096x1024 .f32)
    (i : Fin 4096) (j : Fin 1024) : val_main_v38 (F := Ideal) x g w a d (ix2 i j) = dxOf x g w a d i j := by
  have h2 := rstd_at x i
  have h3 := dh_at w a i
  have h4 := through_at x g w a i
  unfold dxOf
  rw [norm_grad]
  unfold val_main_v38 val_main_v37 val_main_v36 val_main_v35 val_main_v34 val_main_v29 val_main_v28 val_main_v27 val_main_v22 val_main_v21 val_main_v13
  generalize val_main_v7 (F := Ideal) x = z7 at h2 ⊢
  generalize val_main_v17 (F := Ideal) w a = z17 at h3 ⊢
  generalize val_main_v33 (F := Ideal) x g w a = z33 at h4 ⊢
  pointwise []
  simp only [h2, h3, h4]

open Cert.UpDxRefIdeal.Read in
theorem ref_eq (x : FVec Ideal S4096x1024 .f32) (g : FVec Ideal S1024 .f32) (w : FVec Ideal S1024x4096 .f32) (a : FVec Ideal S4096x4096 .f32) (d : FVec Ideal S4096x1024 .f32) :
    val_main_v38 (F := Ideal) x g w a d = G x g w a d := by
  funext i
  idx_vars i
  rw [dx_at]
  rfl
open Cert.UpDxRefIdeal.Read in
theorem ref_eq' (x : FVec Ideal S4096x1024 .f32) (g : FVec Ideal S1024 .f32) (w : FVec Ideal S1024x4096 .f32) (a : FVec Ideal S4096x4096 .f32) (d : FVec Ideal S4096x1024 .f32) :
    val_main_v39 (F := Ideal) x g w a d = G' x g w a d := by
  funext i
  idx_vars i
  exact dx_at x g w a d i0 i1
open Cert.UpDxRefIdeal.Read in
theorem ref_eq'' (x : FVec Ideal S4096x1024 .f32) (w : FVec Ideal S1024x4096 .f32) (a : FVec Ideal S4096x4096 .f32) : val_main_v40 (F := Ideal) x w a = G'' x w a := by
  funext i
  idx_vars i
  obtain rfl : i0 = 0 := Subsingleton.elim _ _
  have h2 := rstd_at x
  have h3 := dh_at w a
  unfold val_main_v40 val_main_v23 val_main_v20 val_main_v19 val_main_v18 val_main_v12 val_main_v11 val_main_cst_3 val_main_cst_4
  generalize val_main_v7 (F := Ideal) x = z7 at h2 ⊢
  generalize val_main_v17 (F := Ideal) w a = z17 at h3 ⊢
  pointwise []
  simp only [h2, h3]
  refine Eq.trans (Fin.sum_univ_one _) (Eq.trans ?_ (Finset.sum_range (dgRow x w a i1)).symm)
  refine (Finset.sum_congr rfl fun k _ => ?_ : (∑ k : Fin 4096, (_ : EReal)) = ∑ k : Fin 4096, dgRow x w a i1 k.val)
  unfold dgRow
  rw [dif_pos k.isLt, mul_comm]

/-- Every run of the call ends with those arrays. -/
theorem run_value (ρ : Dev nD → PrngReg) : θ_run defs (onTc (τ := τ) (main (F := Ideal))) ⟨m, fun _ => 0, ρ⟩ fun r => ∀ c : Dev nD,
      r.2.mem ((c.tc : Thread nD τ).loc main_v5_0) = G (m (c.tc.loc main_arg0)) (m (c.tc.loc main_arg1)) (m (c.tc.loc main_arg2)) (m (c.tc.loc main_arg3)) (m (c.tc.loc main_arg4))
      ∧ r.2.mem ((c.tc : Thread nD τ).loc main_v5_1) = G' (m (c.tc.loc main_arg0)) (m (c.tc.loc main_arg1)) (m (c.tc.loc main_arg2)) (m (c.tc.loc main_arg3)) (m (c.tc.loc main_arg4))
      ∧ r.2.mem ((c.tc : Thread nD τ).loc main_v5_2) = G'' (m (c.tc.loc main_arg0)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final8 m c), (h c).2.1.trans (final9 m c), (h c).2.2.1.trans (final10 m c), (h c).2.2.2⟩) (Cert.UpDxIdeal.Value.run_blocks m ρ)

/-- Every run of the reference ends with the values `X`, `Y` and `Z`, if they are what `G`, `G'` and `G''` make of its arguments. -/
theorem reference_value (m : (ℓ : Loc Cert.UpDxRefIdeal.nD Cert.UpDxRefIdeal.τ Cert.UpDxRefIdeal.sig) → Buf (Elt Ideal) ℓ) (ρ : Dev Cert.UpDxRefIdeal.nD → PrngReg)
    (X : Dev Cert.UpDxRefIdeal.nD → FVec Ideal Cert.UpDxIdeal.S4096x1024 .f32) (Y : Dev Cert.UpDxRefIdeal.nD → FVec Ideal Cert.UpDxIdeal.S4096x1024 .bf16)
    (Z : Dev Cert.UpDxRefIdeal.nD → FVec Ideal Cert.UpDxIdeal.S1x1024 .f32)
    (hX : ∀ c : Dev Cert.UpDxRefIdeal.nD, G (m (c.tc.loc Cert.UpDxRefIdeal.main_arg0)) (m (c.tc.loc Cert.UpDxRefIdeal.main_arg1))
      (m (c.tc.loc Cert.UpDxRefIdeal.main_arg2)) (m (c.tc.loc Cert.UpDxRefIdeal.main_arg3)) (m (c.tc.loc Cert.UpDxRefIdeal.main_arg4)) = X c)
    (hY : ∀ c : Dev Cert.UpDxRefIdeal.nD, G' (m (c.tc.loc Cert.UpDxRefIdeal.main_arg0)) (m (c.tc.loc Cert.UpDxRefIdeal.main_arg1))
      (m (c.tc.loc Cert.UpDxRefIdeal.main_arg2)) (m (c.tc.loc Cert.UpDxRefIdeal.main_arg3)) (m (c.tc.loc Cert.UpDxRefIdeal.main_arg4)) = Y c)
    (hZ : ∀ c : Dev Cert.UpDxRefIdeal.nD, G'' (m (c.tc.loc Cert.UpDxRefIdeal.main_arg0)) (m (c.tc.loc Cert.UpDxRefIdeal.main_arg2))
      (m (c.tc.loc Cert.UpDxRefIdeal.main_arg3)) = Z c) :
    θ_run Cert.UpDxRefIdeal.defs (onTc (τ := Cert.UpDxRefIdeal.τ) (Cert.UpDxRefIdeal.main (F := Ideal))) ⟨m, fun _ => 0, ρ⟩ fun r => ∀ c : Dev Cert.UpDxRefIdeal.nD,
      r.2.mem (c.tc.loc Cert.UpDxRefIdeal.main_v38) = X c
      ∧ r.2.mem (c.tc.loc Cert.UpDxRefIdeal.main_v39) = Y c
      ∧ r.2.mem (c.tc.loc Cert.UpDxRefIdeal.main_v40) = Z c
      ∧ r.2.mem (c.tc.loc Cert.UpDxRefIdeal.main_arg0) = m (c.tc.loc Cert.UpDxRefIdeal.main_arg0)
      ∧ r.2.mem (c.tc.loc Cert.UpDxRefIdeal.main_arg1) = m (c.tc.loc Cert.UpDxRefIdeal.main_arg1)
      ∧ r.2.mem (c.tc.loc Cert.UpDxRefIdeal.main_arg2) = m (c.tc.loc Cert.UpDxRefIdeal.main_arg2)
      ∧ r.2.mem (c.tc.loc Cert.UpDxRefIdeal.main_arg3) = m (c.tc.loc Cert.UpDxRefIdeal.main_arg3)
      ∧ r.2.mem (c.tc.loc Cert.UpDxRefIdeal.main_arg4) = m (c.tc.loc Cert.UpDxRefIdeal.main_arg4) :=
  (θ_run Cert.UpDxRefIdeal.defs _ _).mono (fun _ h c => ⟨(h c).1.trans ((Cert.UpDxRefIdeal.Read.val_main_v38_eq _ _).trans ((ref_eq _ _ _ _ _).trans (hX c))),
      (h c).2.1.trans ((Cert.UpDxRefIdeal.Read.val_main_v39_eq _ _).trans ((ref_eq' _ _ _ _ _).trans (hY c))),
      (h c).2.2.1.trans ((Cert.UpDxRefIdeal.Read.val_main_v40_eq _ _ _).trans ((ref_eq'' _ _ _).trans (hZ c))), (h c).2.2.2⟩)
    (Cert.UpDxRefIdeal.Value.run (F := Ideal) m ρ)

end Cert.Proof.Mlp.UpDx

end
-- ==== Proof.Sgu.SguIn.lean ====
/-
  The spatial gating unit's input product: the call's array and the reference's result.
-/
module

public import proofs.«01_k».proof.Proof.Gen.SguInIdeal.Value
public import proofs.«01_k».proof.Proof.Gen.SguInRefIdeal.Run
public import proofs.«01_k».proof.Proof.Gen.SguInRefIdeal.Read
public import proofs.«01_k».proof.Proof.Mlp.Zero
public import Idealize.ShloMosaic.Lib.Pointwise

@[expose] public section

set_option maxRecDepth 16384

noncomputable section

namespace Cert.Proof.Sgu.SguIn

open Cert.SguInIdeal Cert.SguInIdeal.Gen Idealize.ShloMosaic Idealize.ShloMosaic.TcCoe Idealize.SL.Sem Finset Cert.Proof.Mlp

/-- The call's array. -/
def G (h : FVec Ideal S4096x1024 .f32) (w : FVec Ideal S1024x4096 .f32) : FVec Ideal S4096x4096 .f32 := fun i =>
  ∑ k : Fin 1024, h (ix2 (i 0) k) * w (ix2 k (i 1))

variable (m : (ℓ : Loc nD τ sig) → Buf (Elt Ideal) ℓ) (c : Dev nD)

/-- Which block of its array each window of a point is. -/
theorem index_at : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

theorem pay_at (x : Vec Ideal S1024x1024 .bf16) (y : Vec Ideal S1x1024x1024 .bf16) (i j : Fin 1024) :
    k0_pay1 x y (ix2 i j) = ∑ k : Fin 1024, x (ix2 i k) * y (ix3 0 k j) := by
  pointwise [k0_pay1]

theorem out_eq (x : Vec Ideal S1024x1024 .bf16) (y : Vec Ideal S1x1024x1024 .bf16) : out0_2 x y = k0_pay1 x y := by
  unfold out0_2
  rw [View.canon_unit_zero hz2, View.ld_unit_zero hz2, View.ld_unit_zero hz3]

theorem V_h : V m c main_v0 = (truncf .bf16 (m (c.tc.loc main_arg0)) bitsLt_bf16_f32 : FVec Ideal S4096x1024 .bf16) := by
  rfl
theorem V_w : V m c main_v3 = (truncf .bf16 (transpose S4x1024x1024 [1, 0, 2] (shapeCast S1024x4x1024 (m (c.tc.loc main_arg1)) shapeCasts_S1024x4096_S1024x4x1024)
    transposes_S1024x4x1024_S4x1024x1024_1_0_2) bitsLt_bf16_f32 : FVec Ideal S4x1024x1024 .bf16) := by
  rfl
theorem w_at (w : FVec Ideal S1024x4096 .f32) (p : Fin 4) (k j : Fin 1024) :
    (truncf .bf16 (transpose S4x1024x1024 [1, 0, 2] (shapeCast S1024x4x1024 w shapeCasts_S1024x4096_S1024x4x1024)
      transposes_S1024x4x1024_S4x1024x1024_1_0_2) bitsLt_bf16_f32 : FVec Ideal S4x1024x1024 .bf16) (ix3 p k j)
      = w (ix2 k ⟨p.val * 1024 + j.val, by omega⟩) := by
  pointwise []

theorem blk_h (t : Fin cfg0.N) (i k : Fin 1024) : iblk m c 0 t (ix2 i k)
    = (V m c main_v0 : FVec Ideal S4096x1024 .bf16) (ix2 ⟨t.val / 4 * 1024 + i.val, by have : t.val < 16 := t.isLt; omega⟩ k) := by
  have e := (index_at t).1
  unfold iblk
  generalize V m c = v
  blk_ext [e]
theorem blk_w (t : Fin cfg0.N) (k j : Fin 1024) : iblk m c 1 t (ix3 0 k j)
    = (V m c main_v3 : FVec Ideal S4x1024x1024 .bf16) (ix3 ⟨t.val % 4, by omega⟩ k j) := by
  have e := (index_at t).2.1
  unfold iblk
  generalize V m c = v
  blk_ext [e]

/-- The product of a point's blocks is its block of `G`. -/
theorem point_at (t : Fin cfg0.N) (i j : Fin 1024) : k0_pay1 (iblk m c 0 t) (iblk m c 1 t) (ix2 i j)
    = G (m (c.tc.loc main_arg0)) (m (c.tc.loc main_arg1)) (ix2 ⟨t.val / 4 * 1024 + i.val, by have : t.val < 16 := t.isLt; omega⟩ ⟨t.val % 4 * 1024 + j.val, by omega⟩) := by
  rw [pay_at]
  unfold G
  refine Finset.sum_congr rfl fun k _ => ?_
  rw [blk_h, blk_w, V_h, V_w, w_at]
  rfl

theorem final : (dats m 0 c).arrAt 2 cfg0.N = G (m (c.tc.loc main_arg0)) (m (c.tc.loc main_arg1)) := by
  refine (dats m 0 c).arrAt_eq_of_covers 2 _ (by decide +kernel) fun t hf y => ?_
  have e := (index_at t).2.2
  idx_vars y
  have ht : t.val < 16 := t.isLt
  have hi : ((cfg0.win 2).blk t).view.emb (ix2 y0 y1) = (ix2 ⟨t.val / 4 * 1024 + y0.val, by omega⟩ ⟨t.val % 4 * 1024 + y1.val, by omega⟩ : S4096x4096.Idx) := by
    blk_ext [e]
  refine Eq.trans ?_ (congrArg (G (m (c.tc.loc main_arg0)) (m (c.tc.loc main_arg1))) hi).symm
  show (dats m 0 c).after 2 t (ix2 y0 y1) = _
  rw [after0_2, out_eq, point_at]

open Cert.SguInRefIdeal.Read in
theorem product_at (h : FVec Ideal S4096x1024 .f32) (w : FVec Ideal S1024x4096 .f32) (i j : Fin 4096) :
    val_main_v0 (F := Ideal) h w (ix2 i j) = ∑ k : Fin 1024, h (ix2 i k) * w (ix2 k j) := by
  rw [val_main_v0_apply]
  refine Finset.sum_congr rfl fun k _ => ?_
  have el : lidx_main_v0 (ix2 i j) k = ix2 i k := funext fun a => match a with | ⟨0, _⟩ => rfl | ⟨1, _⟩ => rfl
  have er : ridx_main_v0 (ix2 i j) k = ix2 k j := funext fun a => match a with | ⟨0, _⟩ => rfl | ⟨1, _⟩ => rfl
  rw [el, er]

open Cert.SguInRefIdeal.Read in
theorem ref_eq (h : FVec Ideal S4096x1024 .f32) (w : FVec Ideal S1024x4096 .f32) : val_main_v0 (F := Ideal) h w = G h w := by
  funext i
  idx_vars i
  rw [product_at]
  rfl

/-- Every run of the call ends with that array. -/
theorem run_value (ρ : Dev nD → PrngReg) : θ_run defs (onTc (τ := τ) (main (F := Ideal))) ⟨m, fun _ => 0, ρ⟩ fun r => ∀ c : Dev nD,
      r.2.mem ((c.tc : Thread nD τ).loc main_v4) = G (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

/-- Every run of the reference ends with the values `X`, if they are what `G` makes of its arguments. -/
theorem reference_value (m : (ℓ : Loc Cert.SguInRefIdeal.nD Cert.SguInRefIdeal.τ Cert.SguInRefIdeal.sig) → Buf (Elt Ideal) ℓ) (ρ : Dev Cert.SguInRefIdeal.nD → PrngReg)
    (X : Dev Cert.SguInRefIdeal.nD → FVec Ideal S4096x4096 .f32)
    (hX : ∀ c : Dev Cert.SguInRefIdeal.nD, G (m (c.tc.loc Cert.SguInRefIdeal.main_arg0)) (m (c.tc.loc Cert.SguInRefIdeal.main_arg1)) = X c) :
    θ_run Cert.SguInRefIdeal.defs (onTc (τ := Cert.SguInRefIdeal.τ) (Cert.SguInRefIdeal.main (F := Ideal))) ⟨m, fun _ => 0, ρ⟩ fun r => ∀ c : Dev Cert.SguInRefIdeal.nD,
      r.2.mem ((c.tc : Thread Cert.SguInRefIdeal.nD Cert.SguInRefIdeal.τ).loc Cert.SguInRefIdeal.main_v0) = X c
      ∧ r.2.mem ((c.tc : Thread Cert.SguInRefIdeal.nD Cert.SguInRefIdeal.τ).loc Cert.SguInRefIdeal.main_arg0) = m ((c.tc : Thread Cert.SguInRefIdeal.nD Cert.SguInRefIdeal.τ).loc Cert.SguInRefIdeal.main_arg0)
      ∧ r.2.mem ((c.tc : Thread Cert.SguInRefIdeal.nD Cert.SguInRefIdeal.τ).loc Cert.SguInRefIdeal.main_arg1) = m ((c.tc : Thread Cert.SguInRefIdeal.nD Cert.SguInRefIdeal.τ).loc Cert.SguInRefIdeal.main_arg1) :=
  (θ_run Cert.SguInRefIdeal.defs _ _).mono (fun _ h c => ⟨(h c).1.trans ((Cert.SguInRefIdeal.Read.val_main_v0_eq _ _).trans ((ref_eq _ _).trans (hX c))), (h c).2⟩)
    (Cert.SguInRefIdeal.Value.run (F := Ideal) m ρ)

end Cert.Proof.Sgu.SguIn

end
-- ==== Proof.Sgu.SguOut.lean ====
/-
  The spatial gating unit's output added to the stream, and the next norm: the call's two arrays and the reference's two results.
-/
module

public import proofs.«01_k».proof.Proof.Gen.SguOutIdeal.Value
public import proofs.«01_k».proof.Proof.Gen.SguOutRefIdeal.Run
public import proofs.«01_k».proof.Proof.Gen.SguOutRefIdeal.Read
public import proofs.«01_k».proof.Proof.Mlp.FfnDown
public import Idealize.ShloMosaic.Lib.Pointwise

@[expose] public section

set_option maxRecDepth 16384

noncomputable section

namespace Cert.Proof.Sgu.SguOut

open Cert.SguOutIdeal Cert.SguOutIdeal.Gen Idealize.ShloMosaic Idealize.ShloMosaic.TcCoe Idealize.SL.Sem Finset Cert.Proof.Mlp
open Cert.Proof.Mlp.FfnDown (normed)

/-- The stream after the layer. -/
def stream (x : FVec Ideal S4096x1024 .f32) (r : FVec Ideal S4096x2048 .f32) (w : FVec Ideal S2048x1024 .f32) (i : Fin 4096) (j : Fin 1024) : EReal :=
  x (ix2 i j) + ∑ k : Fin 2048, r (ix2 i k) * w (ix2 k j)

/-- The call's first array. -/
def G (x : FVec Ideal S4096x1024 .f32) (r : FVec Ideal S4096x2048 .f32) (w : FVec Ideal S2048x1024 .f32) : FVec Ideal S4096x1024 .f32 := fun i =>
  stream x r w (i 0) (i 1)

/-- The call's second array. -/
def G' (x : FVec Ideal S4096x1024 .f32) (r : FVec Ideal S4096x2048 .f32) (w : FVec Ideal S2048x1024 .f32) (g : FVec Ideal S1024 .f32) : FVec Ideal S4096x1024 .bf16 := fun i =>
  normed (stream x r w (i 0)) (g (ix1 (i 1))) (i 1)

variable (m : (ℓ : Loc nD τ sig) → Buf (Elt Ideal) ℓ) (c : Dev nD)

/-- Which block of its array each window of a point is. -/
theorem index_at : ∀ t : Fin cfg0.N, win0_0.index t = ![t.val, 0] ∧ win0_1.index t = ![0, 0, 0] ∧ win0_2.index t = ![1, 0, 0]
    ∧ win0_3.index t = ![2, 0, 0] ∧ win0_4.index t = ![3, 0, 0] ∧ win0_5.index t = ![t.val, 0] ∧ win0_6.index t = ![0, 0]
    ∧ win0_7.index t = ![t.val, 0] ∧ win0_8.index t = ![t.val, 0] :=
  (by decide +kernel : ∀ t : Fin grid0.N, _)

theorem pay1_at (g : FVec Ideal S1x1024 .f32) (z zz : FVec Ideal S512x1024 .f32) (hz : ∀ i j, zz (ix2 i j) = z (ix2 i j) * z (ix2 i j)) (i : Fin 512) (j : Fin 1024) :
    k0_pay1 g z zz (ix2 i j) = normed (fun k => z (ix2 i k)) (g (ix2 0 j)) j := by
  pointwise [k0_pay1]
  simp only [hz]
  rfl

theorem pay3_at (x0 x1 x2 x3 : Vec Ideal S512x512 .bf16) (y0 y1 y2 y3 : Vec Ideal S1x512x1024 .bf16) (r : Vec Ideal S512x1024 .f32) (i : Fin 512) (j : Fin 1024) :
    k0_pay3 x0 y0 x1 y1 x2 y2 x3 y3 r (ix2 i j) = ∑ k : Fin 512, x0 (ix2 i k) * y0 (ix3 0 k j) + ∑ k : Fin 512, x1 (ix2 i k) * y1 (ix3 0 k j)
      + ∑ k : Fin 512, x2 (ix2 i k) * y2 (ix3 0 k j) + ∑ k : Fin 512, x3 (ix2 i k) * y3 (ix3 0 k j) + r (ix2 i j) := by
  pointwise [k0_pay3]

theorem pay4_at (x0 x1 x2 x3 : Vec Ideal S512x512 .bf16) (y0 y1 y2 y3 : Vec Ideal S1x512x1024 .bf16) (r : Vec Ideal S512x1024 .f32) (i : Fin 512) (j : Fin 1024) :
    k0_pay4 x0 y0 x1 y1 x2 y2 x3 y3 r (ix2 i j) = k0_pay3 x0 y0 x1 y1 x2 y2 x3 y3 r (ix2 i j) * k0_pay3 x0 y0 x1 y1 x2 y2 x3 y3 r (ix2 i j) := by
  unfold k0_pay4
  generalize k0_pay3 x0 y0 x1 y1 x2 y2 x3 y3 r = z
  pointwise []

/-- The load of one of four bands of columns. -/
theorem band_at (x : Vec Ideal S512x2048 .bf16) (o : ℕ) (ho : o + 512 ≤ 2048) (inb) (i k : Fin 512) :
    View.ld x (Rect.unit (s := S512x2048) ![0, o] S512x512.size inb) (ix2 i k) = x (ix2 i ⟨o + k.val, by omega⟩) :=
  View.ld_unit_apply_of x _ _ inb _ _ fun a => match a with
    | ⟨0, _⟩ => (Nat.zero_add _).symm
    | ⟨1, _⟩ => rfl

theorem whole_w (y : Vec Ideal S1x512x1024 .bf16) : View.ld y r0_1 = y := View.ld_unit_zero hz3 _ _
theorem whole_x (y : Vec Ideal S512x1024 .f32) : View.ld y r0_5 = y := View.ld_unit_zero hz2 _ _
theorem whole_g (y : Vec Ideal S1x1024 .f32) : View.ld y r0_6 = y := View.ld_unit_zero hz2 _ _

theorem pay5_at (x : Vec Ideal S512x2048 .bf16) (y0 y1 y2 y3 : Vec Ideal S1x512x1024 .bf16) (r : Vec Ideal S512x1024 .f32) (g : Vec Ideal S1x1024 .f32) (i : Fin 512) (j : Fin 1024) :
    k0_pay5 x y0 y1 y2 y3 r g (ix2 i j) = ∑ k : Fin 512, x (ix2 i ⟨k.val, by omega⟩) * y0 (ix3 0 k j) + ∑ k : Fin 512, x (ix2 i ⟨512 + k.val, by omega⟩) * y1 (ix3 0 k j)
      + ∑ k : Fin 512, x (ix2 i ⟨1024 + k.val, by omega⟩) * y2 (ix3 0 k j) + ∑ k : Fin 512, x (ix2 i ⟨1536 + k.val, by omega⟩) * y3 (ix3 0 k j) + r (ix2 i j) := by
  unfold k0_pay5
  rw [whole_w, whole_w, whole_w, whole_w, whole_x, pay3_at]
  simp only [band_at x 0 (by decide), band_at x 512 (by decide), band_at x 1024 (by decide), band_at x 1536 (by decide), Nat.zero_add]

theorem out7_eq (x : Vec Ideal S512x2048 .bf16) (y0 y1 y2 y3 : Vec Ideal S1x512x1024 .bf16) (r : Vec Ideal S512x1024 .f32) (g : Vec Ideal S1x1024 .f32) :
    out0_7 x y0 y1 y2 y3 r g = k0_pay5 x y0 y1 y2 y3 r g := by
  unfold out0_7
  rw [View.canon_unit_zero hz2]
theorem out8_at (x : Vec Ideal S512x2048 .bf16) (y0 y1 y2 y3 : Vec Ideal S1x512x1024 .bf16) (r : Vec Ideal S512x1024 .f32) (g : Vec Ideal S1x1024 .f32) (i : Fin 512) (j : Fin 1024) :
    out0_8 x y0 y1 y2 y3 r g (ix2 i j) = normed (fun k => k0_pay5 x y0 y1 y2 y3 r g (ix2 i k)) (g (ix2 0 j)) j := by
  unfold out0_8
  rw [View.canon_unit_zero hz2, pay1_at _ _ _ (fun i j => by unfold k0_pay5; exact pay4_at _ _ _ _ _ _ _ _ _ i j), whole_g]
  unfold k0_pay2
  pointwise []

theorem V_r : V m c main_v1 = (truncf .bf16 (m (c.tc.loc main_arg1)) bitsLt_bf16_f32 : FVec Ideal S4096x2048 .bf16) := by
  rfl
theorem V_w : V m c main_v3 = (truncf .bf16 (shapeCast S4x512x1024 (m (c.tc.loc main_arg2)) shapeCasts_S2048x1024_S4x512x1024) bitsLt_bf16_f32 : FVec Ideal S4x512x1024 .bf16) := by
  rfl
theorem V_g : V m c main_v0 = (shapeCast S1x1024 (m (c.tc.loc main_arg3)) shapeCasts_S1024_S1x1024 : FVec Ideal S1x1024 .f32) := by
  rfl
theorem V_x : V m c main_arg0 = m (c.tc.loc main_arg0) := by
  rfl
theorem w_at (w : FVec Ideal S2048x1024 .f32) (p : Fin 4) (o : ℕ) (ho : o = p.val * 512) (j : Fin 512) (k : Fin 1024) :
    (truncf .bf16 (shapeCast S4x512x1024 w shapeCasts_S2048x1024_S4x512x1024) bitsLt_bf16_f32 : FVec Ideal S4x512x1024 .bf16) (ix3 p j k)
      = w (ix2 ⟨o + j.val, by omega⟩ k) := by
  subst ho
  pointwise []
theorem r_at (r : FVec Ideal S4096x2048 .f32) (i : Fin 4096) (k : Fin 2048) : (truncf .bf16 r bitsLt_bf16_f32 : FVec Ideal S4096x2048 .bf16) (ix2 i k) = r (ix2 i k) := by
  rfl
theorem g_at (g : FVec Ideal S1024 .f32) (j : Fin 1024) : (shapeCast S1x1024 g shapeCasts_S1024_S1x1024 : FVec Ideal S1x1024 .f32) (ix2 0 j) = g (ix1 j) := by
  pointwise []

theorem blk_r (t : Fin cfg0.N) (i : Fin 512) (k : Fin 2048) : iblk m c 0 t (ix2 i k)
    = (V m c main_v1 : FVec Ideal S4096x2048 .bf16) (ix2 ⟨t.val * 512 + i.val, by have : t.val < 8 := t.isLt; omega⟩ k) := by
  have e := (index_at t).1
  unfold iblk
  generalize V m c = v
  blk_ext [e]
theorem blk_w0 (t : Fin cfg0.N) (k : Fin 512) (j : Fin 1024) : iblk m c 1 t (ix3 0 k j) = (V m c main_v3 : FVec Ideal S4x512x1024 .bf16) (ix3 0 k j) := by
  have e := (index_at t).2.1
  unfold iblk
  generalize V m c = v
  blk_ext [e]
theorem blk_w1 (t : Fin cfg0.N) (k : Fin 512) (j : Fin 1024) : iblk m c 2 t (ix3 0 k j) = (V m c main_v3 : FVec Ideal S4x512x1024 .bf16) (ix3 1 k j) := by
  have e := (index_at t).2.2.1
  unfold iblk
  generalize V m c = v
  blk_ext [e]
theorem blk_w2 (t : Fin cfg0.N) (k : Fin 512) (j : Fin 1024) : iblk m c 3 t (ix3 0 k j) = (V m c main_v3 : FVec Ideal S4x512x1024 .bf16) (ix3 2 k j) := by
  have e := (index_at t).2.2.2.1
  unfold iblk
  generalize V m c = v
  blk_ext [e]
theorem blk_w3 (t : Fin cfg0.N) (k : Fin 512) (j : Fin 1024) : iblk m c 4 t (ix3 0 k j) = (V m c main_v3 : FVec Ideal S4x512x1024 .bf16) (ix3 3 k j) := by
  have e := (index_at t).2.2.2.2.1
  unfold iblk
  generalize V m c = v
  blk_ext [e]
theorem blk_x (t : Fin cfg0.N) (i : Fin 512) (j : Fin 1024) : iblk m c 5 t (ix2 i j)
    = (V m c main_arg0 : FVec Ideal S4096x1024 .f32) (ix2 ⟨t.val * 512 + i.val, by have : t.val < 8 := t.isLt; omega⟩ j) := by
  have e := (index_at t).2.2.2.2.2.1
  unfold iblk
  generalize V m c = v
  blk_ext [e]
theorem blk_g (t : Fin cfg0.N) (j : Fin 1024) : iblk m c 6 t (ix2 0 j) = (V m c main_v0 : FVec Ideal S1x1024 .f32) (ix2 0 j) := by
  have e := (index_at t).2.2.2.2.2.2.1
  unfold iblk
  generalize V m c = v
  blk_ext [e]

/-- A point's four products with the stream's block. -/
theorem point_at (t : Fin cfg0.N) (i : Fin 512) (j : Fin 1024) :
    k0_pay5 (iblk m c 0 t) (iblk m c 1 t) (iblk m c 2 t) (iblk m c 3 t) (iblk m c 4 t) (iblk m c 5 t) (iblk m c 6 t) (ix2 i j)
    = stream (m (c.tc.loc main_arg0)) (m (c.tc.loc main_arg1)) (m (c.tc.loc main_arg2)) ⟨t.val * 512 + i.val, by have : t.val < 8 := t.isLt; omega⟩ j := by
  rw [pay5_at]
  unfold stream
  rw [sum_quarters_2048, add_comm]
  simp only [blk_r, blk_w0, blk_w1, blk_w2, blk_w3, blk_x]
  rw [V_r, V_w, V_x]
  simp only [r_at, w_at _ 0 0 rfl, w_at _ 1 512 rfl, w_at _ 2 1024 rfl, w_at _ 3 1536 rfl, Nat.zero_add]

theorem final7 : (dats m 0 c).arrAt 7 cfg0.N = G (m (c.tc.loc main_arg0)) (m (c.tc.loc main_arg1)) (m (c.tc.loc main_arg2)) := by
  refine (dats m 0 c).arrAt_eq_of_covers 7 _ (by decide +kernel) fun t hf y => ?_
  have e := (index_at t).2.2.2.2.2.2.2.1
  idx_vars y
  have ht : t.val < 8 := t.isLt
  have hi : ((cfg0.win 7).blk t).view.emb (ix2 y0 y1) = (ix2 ⟨t.val * 512 + y0.val, by omega⟩ y1 : S4096x1024.Idx) := by
    blk_ext [e]
  refine Eq.trans ?_ (congrArg (G (m (c.tc.loc main_arg0)) (m (c.tc.loc main_arg1)) (m (c.tc.loc main_arg2))) hi).symm
  show (dats m 0 c).after 7 t (ix2 y0 y1) = _
  rw [after0_7, out7_eq, point_at]
  rfl

theorem final8 : (dats m 0 c).arrAt 8 cfg0.N = G' (m (c.tc.loc main_arg0)) (m (c.tc.loc main_arg1)) (m (c.tc.loc main_arg2)) (m (c.tc.loc main_arg3)) := by
  refine (dats m 0 c).arrAt_eq_of_covers 8 _ (by decide +kernel) fun t hf y => ?_
  have e := (index_at t).2.2.2.2.2.2.2.2
  idx_vars y
  have ht : t.val < 8 := t.isLt
  have hi : ((cfg0.win 8).blk t).view.emb (ix2 y0 y1) = (ix2 ⟨t.val * 512 + y0.val, by omega⟩ y1 : S4096x1024.Idx) := by
    blk_ext [e]
  refine Eq.trans ?_ (congrArg (G' (m (c.tc.loc main_arg0)) (m (c.tc.loc main_arg1)) (m (c.tc.loc main_arg2)) (m (c.tc.loc main_arg3))) hi).symm
  show (dats m 0 c).after 8 t (ix2 y0 y1) = _
  rw [after0_8, out8_at, blk_g, V_g, g_at]
  simp only [point_at]
  rfl

open Cert.SguOutRefIdeal.Read in
theorem stream_at (x : FVec Ideal S4096x1024 .f32) (r : FVec Ideal S4096x2048 .f32) (w : FVec Ideal S2048x1024 .f32) (i : Fin 4096) (j : Fin 1024) :
    val_main_v1 (F := Ideal) x r w (ix2 i j) = stream x r w i j := by
  unfold stream
  rw [val_main_v1_apply, val_main_v0_apply]
  refine congrArg₂ (· + ·) rfl (Finset.sum_congr rfl fun k _ => ?_)
  have el : lidx_main_v0 (ix2 i j) k = ix2 i k := funext fun a => match a with | ⟨0, _⟩ => rfl | ⟨1, _⟩ => rfl
  have er : ridx_main_v0 (ix2 i j) k = ix2 k j := funext fun a => match a with | ⟨0, _⟩ => rfl | ⟨1, _⟩ => rfl
  rw [el, er]

open Cert.SguOutRefIdeal.Read in
theorem ref_eq (x : FVec Ideal S4096x1024 .f32) (r : FVec Ideal S4096x2048 .f32) (w : FVec Ideal S2048x1024 .f32) : val_main_v1 (F := Ideal) x r w = G x r w := by
  funext i
  idx_vars i
  rw [stream_at]
  rfl

open Cert.SguOutRefIdeal.Read in
theorem ref_eq' (x : FVec Ideal S4096x1024 .f32) (r : FVec Ideal S4096x2048 .f32) (w : FVec Ideal S2048x1024 .f32) (g : FVec Ideal S1024 .f32) :
    val_main_v15 (F := Ideal) x r w g = G' x r w g := by
  funext i
  idx_vars i
  have hs : ∀ j, val_main_v1 (F := Ideal) x r w (ix2 i0 j) = stream x r w i0 j := fun j => stream_at x r w i0 j
  unfold val_main_v15 val_main_v14 val_main_v11 val_main_v10 val_main_v9 val_main_v8 val_main_v6 val_main_v4 val_main_v3 val_main_v2 val_main_v13
    val_main_v12 val_main_v5 val_main_v7 val_main_cst_0 val_main_cst_1 val_main_cst
  generalize val_main_v1 (F := Ideal) x r w = z at hs ⊢
  pointwise []
  simp only [hs]
  rfl

/-- Every run of the call ends with those arrays. -/
theorem run_value (ρ : Dev nD → PrngReg) : θ_run defs (onTc (τ := τ) (main (F := Ideal))) ⟨m, fun _ => 0, ρ⟩ fun r => ∀ c : Dev nD,
      r.2.mem ((c.tc : Thread nD τ).loc main_v4_0) = G (m (c.tc.loc main_arg0)) (m (c.tc.loc main_arg1)) (m (c.tc.loc main_arg2))
      ∧ r.2.mem ((c.tc : Thread nD τ).loc main_v4_1) = G' (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final7 m c), (h c).2.1.trans (final8 m c), (h c).2.2⟩) (Value.run_blocks m ρ)

/-- Every run of the reference ends with the values `X` and `Y`, if they are what `G` and `G'` make of its arguments. -/
theorem reference_value (m : (ℓ : Loc Cert.SguOutRefIdeal.nD Cert.SguOutRefIdeal.τ Cert.SguOutRefIdeal.sig) → Buf (Elt Ideal) ℓ) (ρ : Dev Cert.SguOutRefIdeal.nD → PrngReg)
    (X : Dev Cert.SguOutRefIdeal.nD → FVec Ideal S4096x1024 .f32) (Y : Dev Cert.SguOutRefIdeal.nD → FVec Ideal S4096x1024 .bf16)
    (hX : ∀ c : Dev Cert.SguOutRefIdeal.nD, G (m (c.tc.loc Cert.SguOutRefIdeal.main_arg0)) (m (c.tc.loc Cert.SguOutRefIdeal.main_arg1))
      (m (c.tc.loc Cert.SguOutRefIdeal.main_arg2)) = X c)
    (hY : ∀ c : Dev Cert.SguOutRefIdeal.nD, G' (m (c.tc.loc Cert.SguOutRefIdeal.main_arg0)) (m (c.tc.loc Cert.SguOutRefIdeal.main_arg1))
      (m (c.tc.loc Cert.SguOutRefIdeal.main_arg2)) (m (c.tc.loc Cert.SguOutRefIdeal.main_arg3)) = Y c) :
    θ_run Cert.SguOutRefIdeal.defs (onTc (τ := Cert.SguOutRefIdeal.τ) (Cert.SguOutRefIdeal.main (F := Ideal))) ⟨m, fun _ => 0, ρ⟩ fun r => ∀ c : Dev Cert.SguOutRefIdeal.nD,
      r.2.mem (c.tc.loc Cert.SguOutRefIdeal.main_v1) = X c
      ∧ r.2.mem (c.tc.loc Cert.SguOutRefIdeal.main_v15) = Y c
      ∧ r.2.mem (c.tc.loc Cert.SguOutRefIdeal.main_arg0) = m (c.tc.loc Cert.SguOutRefIdeal.main_arg0)
      ∧ r.2.mem (c.tc.loc Cert.SguOutRefIdeal.main_arg1) = m (c.tc.loc Cert.SguOutRefIdeal.main_arg1)
      ∧ r.2.mem (c.tc.loc Cert.SguOutRefIdeal.main_arg2) = m (c.tc.loc Cert.SguOutRefIdeal.main_arg2)
      ∧ r.2.mem (c.tc.loc Cert.SguOutRefIdeal.main_arg3) = m (c.tc.loc Cert.SguOutRefIdeal.main_arg3) :=
  (θ_run Cert.SguOutRefIdeal.defs _ _).mono (fun _ h c => ⟨(h c).1.trans ((Cert.SguOutRefIdeal.Read.val_main_v1_eq _ _ _).trans ((ref_eq _ _ _).trans (hX c))),
      (h c).2.1.trans ((Cert.SguOutRefIdeal.Read.val_main_v15_eq _ _ _ _).trans ((ref_eq' _ _ _ _).trans (hY c))), (h c).2.2⟩)
    (Cert.SguOutRefIdeal.Value.run (F := Ideal) m ρ)

end Cert.Proof.Sgu.SguOut

end
-- ==== Proof.Sgu.SguOutDx.lean ====
/-
  The gradient of the spatial gating unit's gated values: the call's array and the reference's result.
-/
module

public import proofs.«01_k».proof.Proof.Gen.SguOutDxIdeal.Value
public import proofs.«01_k».proof.Proof.Gen.SguOutDxRefIdeal.Run
public import proofs.«01_k».proof.Proof.Gen.SguOutDxRefIdeal.Read
public import proofs.«01_k».proof.Proof.Mlp.Zero
public import Idealize.ShloMosaic.Lib.Pointwise

@[expose] public section

set_option maxRecDepth 16384

noncomputable section

namespace Cert.Proof.Sgu.SguOutDx

open Cert.SguOutDxIdeal Cert.SguOutDxIdeal.Gen Idealize.ShloMosaic Idealize.ShloMosaic.TcCoe Idealize.SL.Sem Finset Cert.Proof.Mlp

/-- What the call's array holds: each output's gradient times the weight's row. -/
def G (w : FVec Ideal S2048x1024 .f32) (ct : FVec Ideal S4096x1024 .f32) : FVec Ideal S4096x2048 .f32 := fun i =>
  ∑ k : Fin 1024, ct (ix2 (i 0) k) * w (ix2 (i 1) k)

variable (m : (ℓ : Loc nD τ sig) → Buf (Elt Ideal) ℓ) (c : Dev nD)

/-- Which block of its array each window of a point is. -/
theorem index_at : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The body's product at an index. -/
theorem pay_at (x : Vec Ideal S1024x1024 .bf16) (y : Vec Ideal S1x512x1024 .bf16) (i : Fin 1024) (j : Fin 512) :
    k0_pay1 x y (ix2 i j) = ∑ k : Fin 1024, x (ix2 i k) * y (ix3 0 j k) := by
  pointwise [k0_pay1]

theorem V_ct : V m c main_v0 = (truncf .bf16 (m (c.tc.loc main_arg1)) bitsLt_bf16_f32 : FVec Ideal S4096x1024 .bf16) := by
  rfl
theorem V_w : V m c main_v2 = (truncf .bf16 (shapeCast S4x512x1024 (m (c.tc.loc main_arg0)) shapeCasts_S2048x1024_S4x512x1024) bitsLt_bf16_f32 : FVec Ideal S4x512x1024 .bf16) := by
  rfl

theorem out_eq (x : Vec Ideal S1024x1024 .bf16) (y : Vec Ideal S1x512x1024 .bf16) : out0_2 x y = k0_pay1 x y := by
  unfold out0_2
  rw [View.canon_unit_zero hz2, View.ld_unit_zero hz2, View.ld_unit_zero hz3]

theorem blk_ct (t : Fin cfg0.N) (i k : Fin 1024) : iblk m c 0 t (ix2 i k)
    = (V m c main_v0 : FVec Ideal S4096x1024 .bf16) (ix2 ⟨t.val / 4 * 1024 + i.val, by have : t.val < 16 := t.isLt; omega⟩ k) := by
  have e := (index_at t).1
  unfold iblk
  generalize V m c = v
  blk_ext [e]
theorem blk_w (t : Fin cfg0.N) (j : Fin 512) (k : Fin 1024) : iblk m c 1 t (ix3 0 j k)
    = (V m c main_v2 : FVec Ideal S4x512x1024 .bf16) (ix3 ⟨t.val % 4, by omega⟩ j k) := by
  have e := (index_at t).2.1
  unfold iblk
  generalize V m c = v
  blk_ext [e]

theorem w_at (w : FVec Ideal S2048x1024 .f32) (p : Fin 4) (j : Fin 512) (k : Fin 1024) :
    (truncf .bf16 (shapeCast S4x512x1024 w shapeCasts_S2048x1024_S4x512x1024) bitsLt_bf16_f32 : FVec Ideal S4x512x1024 .bf16) (ix3 p j k)
      = w (ix2 ⟨p.val * 512 + j.val, by omega⟩ k) := by
  pointwise []

/-- The product of a point's blocks is its block of `G`. -/
theorem point_at (t : Fin cfg0.N) (i : Fin 1024) (j : Fin 512) : k0_pay1 (iblk m c 0 t) (iblk m c 1 t) (ix2 i j)
    = G (m (c.tc.loc main_arg0)) (m (c.tc.loc main_arg1)) (ix2 ⟨t.val / 4 * 1024 + i.val, by have : t.val < 16 := t.isLt; omega⟩ ⟨t.val % 4 * 512 + j.val, by omega⟩) := by
  rw [pay_at]
  unfold G
  refine Finset.sum_congr rfl fun k _ => ?_
  rw [blk_ct, blk_w, V_ct, V_w, w_at]
  rfl

theorem final : (dats m 0 c).arrAt 2 cfg0.N = G (m (c.tc.loc main_arg0)) (m (c.tc.loc main_arg1)) := by
  refine (dats m 0 c).arrAt_eq_of_covers 2 _ (by decide +kernel) fun t hf y => ?_
  have e := (index_at t).2.2
  idx_vars y
  have ht : t.val < 16 := t.isLt
  have hi : ((cfg0.win 2).blk t).view.emb (ix2 y0 y1) = (ix2 ⟨t.val / 4 * 1024 + y0.val, by omega⟩ ⟨t.val % 4 * 512 + y1.val, by omega⟩ : S4096x2048.Idx) := by
    blk_ext [e]
  refine Eq.trans ?_ (congrArg (G (m (c.tc.loc main_arg0)) (m (c.tc.loc main_arg1))) hi).symm
  show (dats m 0 c).after 2 t (ix2 y0 y1) = _
  rw [after0_2, out_eq, point_at]

open Cert.SguOutDxRefIdeal.Read in
theorem ref_eq (w : FVec Ideal S2048x1024 .f32) (ct : FVec Ideal S4096x1024 .f32) : val_main_v2 (F := Ideal) w ct = G w ct := by
  funext i
  idx_vars i
  rw [val_main_v2_apply]
  unfold G
  refine Finset.sum_congr rfl fun k _ => ?_
  have el : lidx_main_v2 (ix2 i0 i1) k = ix2 i0 k := funext fun a => match a with | ⟨0, _⟩ => rfl | ⟨1, _⟩ => rfl
  have er : ridx_main_v2 (ix2 i0 i1) k = ix2 i1 k := funext fun a => match a with | ⟨0, _⟩ => rfl | ⟨1, _⟩ => rfl
  rw [el, er]
  rfl

/-- Every run of the call ends with that array. -/
theorem run_value (ρ : Dev nD → PrngReg) : θ_run defs (onTc (τ := τ) (main (F := Ideal))) ⟨m, fun _ => 0, ρ⟩ fun r => ∀ c : Dev nD,
      r.2.mem ((c.tc : Thread nD τ).loc main_v3) = G (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

/-- Every run of the reference ends with the values `X`, if they are what `G` makes of its arguments. -/
theorem reference_value (m : (ℓ : Loc Cert.SguOutDxRefIdeal.nD Cert.SguOutDxRefIdeal.τ Cert.SguOutDxRefIdeal.sig) → Buf (Elt Ideal) ℓ) (ρ : Dev Cert.SguOutDxRefIdeal.nD → PrngReg)
    (X : Dev Cert.SguOutDxRefIdeal.nD → FVec Ideal S4096x2048 .f32) (hX : ∀ c : Dev Cert.SguOutDxRefIdeal.nD, G (m (c.tc.loc Cert.SguOutDxRefIdeal.main_arg0)) (m (c.tc.loc Cert.SguOutDxRefIdeal.main_arg1)) = X c) :
    θ_run Cert.SguOutDxRefIdeal.defs (onTc (τ := Cert.SguOutDxRefIdeal.τ) (Cert.SguOutDxRefIdeal.main (F := Ideal))) ⟨m, fun _ => 0, ρ⟩ fun r => ∀ c : Dev Cert.SguOutDxRefIdeal.nD,
      r.2.mem ((c.tc : Thread Cert.SguOutDxRefIdeal.nD Cert.SguOutDxRefIdeal.τ).loc Cert.SguOutDxRefIdeal.main_v2) = X c
      ∧ r.2.mem ((c.tc : Thread Cert.SguOutDxRefIdeal.nD Cert.SguOutDxRefIdeal.τ).loc Cert.SguOutDxRefIdeal.main_arg0) = m ((c.tc : Thread Cert.SguOutDxRefIdeal.nD Cert.SguOutDxRefIdeal.τ).loc Cert.SguOutDxRefIdeal.main_arg0)
      ∧ r.2.mem ((c.tc : Thread Cert.SguOutDxRefIdeal.nD Cert.SguOutDxRefIdeal.τ).loc Cert.SguOutDxRefIdeal.main_arg1) = m ((c.tc : Thread Cert.SguOutDxRefIdeal.nD Cert.SguOutDxRefIdeal.τ).loc Cert.SguOutDxRefIdeal.main_arg1) :=
  (θ_run Cert.SguOutDxRefIdeal.defs _ _).mono (fun _ h c => ⟨(h c).1.trans ((Cert.SguOutDxRefIdeal.Read.val_main_v2_eq _ _).trans ((ref_eq _ _).trans (hX c))), (h c).2⟩)
    (Cert.SguOutDxRefIdeal.Value.run (F := Ideal) m ρ)

end Cert.Proof.Sgu.SguOutDx

end
-- ==== Proof.Sgu.SguOutDw.lean ====
/-
  The gradient of the spatial gating unit's output weight: the call's two arrays and the reference's two results.
-/
module

public import proofs.«01_k».proof.Proof.Gen.SguOutDwIdeal.Value
public import proofs.«01_k».proof.Proof.Gen.SguOutDwRefIdeal.Run
public import proofs.«01_k».proof.Proof.Gen.SguOutDwRefIdeal.Read
public import proofs.«01_k».proof.Proof.Mlp.Zero
public import Idealize.ShloMosaic.Lib.Pointwise

@[expose] public section

set_option maxRecDepth 16384

noncomputable section

namespace Cert.Proof.Sgu.SguOutDw

open Cert.SguOutDwIdeal Cert.SguOutDwIdeal.Gen Idealize.ShloMosaic Idealize.ShloMosaic.TcCoe Idealize.SL.Sem Finset Cert.Proof.Mlp

/-- What the call's two arrays hold: for each of four blocks of rows, the gated values' column times the output's gradient, summed over the tokens. -/
def G (a : FVec Ideal S4096x2048 .f32) (ct : FVec Ideal S4096x1024 .f32) : FVec Ideal S4x512x1024 .f32 := fun i =>
  ∑ k : Fin 4096, a (ix2 k ⟨(i 0).val * 512 + (i 1).val, by have h0 : (i 0).val < 4 := (i 0).isLt; have h1 : (i 1).val < 512 := (i 1).isLt; omega⟩) * ct (ix2 k (i 2))

variable (m : (ℓ : Loc nD τ sig) → Buf (Elt Ideal) ℓ) (c : Dev nD)

/-- Which block of its array each window of a point is. -/
theorem index_at : ∀ t : Fin cfg0.N, win0_0.index t = ![0, t.val / 2] ∧ win0_1.index t = ![0, t.val % 2]
    ∧ win0_2.index t = ![t.val / 2, 0, t.val % 2] ∧ win0_3.index t = ![t.val / 2, 0, t.val % 2] :=
  (by decide +kernel : ∀ t : Fin grid0.N, _)

/-- The body's product at an index. -/
theorem pay_at (x : Vec Ideal S4096x512 .bf16) (y : Vec Ideal S4096x512 .bf16) (i : Fin 512) (j : Fin 512) :
    k0_pay1 x y (ix2 i j) = ∑ k : Fin 4096, x (ix2 k i) * y (ix2 k j) := by
  pointwise [k0_pay1]

theorem V_a : V m c main_v0 = (truncf .bf16 (m (c.tc.loc main_arg0)) bitsLt_bf16_f32 : FVec Ideal S4096x2048 .bf16) := by
  rfl
theorem V_ct : V m c main_v1 = (truncf .bf16 (m (c.tc.loc main_arg1)) bitsLt_bf16_f32 : FVec Ideal S4096x1024 .bf16) := by
  rfl
theorem out2_eq (x : Vec Ideal S4096x512 .bf16) (y : Vec Ideal S4096x512 .bf16) : out0_2 x y = k0_pay2 x y := by
  unfold out0_2
  rw [View.canon_unit_zero hz3, View.ld_unit_zero hz2, View.ld_unit_zero hz2]
theorem out3_eq (x : Vec Ideal S4096x512 .bf16) (y : Vec Ideal S4096x512 .bf16) : out0_3 x y = k0_pay3 x y := by
  unfold out0_3
  rw [View.canon_unit_zero hz3, View.ld_unit_zero hz2, View.ld_unit_zero hz2]
theorem pay2_at (x : Vec Ideal S4096x512 .bf16) (y : Vec Ideal S4096x512 .bf16) (p : Fin 1) (i : Fin 512) (j : Fin 512) :
    k0_pay2 x y (ix3 p i j) = k0_pay1 x y (ix2 i j) := by
  unfold k0_pay2
  generalize k0_pay1 x y = z
  pointwise []
theorem pay3_at (x : Vec Ideal S4096x512 .bf16) (y : Vec Ideal S4096x512 .bf16) (p : Fin 1) (i : Fin 512) (j : Fin 512) :
    k0_pay3 x y (ix3 p i j) = k0_pay1 x y (ix2 i j) := by
  unfold k0_pay3
  generalize k0_pay1 x y = z
  pointwise []

theorem blk_a (t : Fin cfg0.N) (k : Fin 4096) (i : Fin 512) : iblk m c 0 t (ix2 k i)
    = (V m c main_v0 : FVec Ideal S4096x2048 .bf16) (ix2 k ⟨t.val / 2 * 512 + i.val, by have : t.val < 8 := t.isLt; omega⟩) := by
  have e := (index_at t).1
  unfold iblk
  generalize V m c = v
  blk_ext [e]
theorem blk_ct (t : Fin cfg0.N) (k : Fin 4096) (j : Fin 512) : iblk m c 1 t (ix2 k j)
    = (V m c main_v1 : FVec Ideal S4096x1024 .bf16) (ix2 k ⟨t.val % 2 * 512 + j.val, by omega⟩) := by
  have e := (index_at t).2.1
  unfold iblk
  generalize V m c = v
  blk_ext [e]

/-- The product of a point's blocks is its block of `G`. -/
theorem point_at (t : Fin cfg0.N) (i : Fin 512) (j : Fin 512) : k0_pay1 (iblk m c 0 t) (iblk m c 1 t) (ix2 i j)
    = G (m (c.tc.loc main_arg0)) (m (c.tc.loc main_arg1)) (ix3 ⟨t.val / 2, by have : t.val < 8 := t.isLt; omega⟩ i ⟨t.val % 2 * 512 + j.val, by omega⟩) := by
  rw [pay_at]
  unfold G
  refine Finset.sum_congr rfl fun k _ => ?_
  rw [blk_a, blk_ct, V_a, V_ct]
  rfl

theorem final2 : (dats m 0 c).arrAt 2 cfg0.N = G (m (c.tc.loc main_arg0)) (m (c.tc.loc main_arg1)) := by
  refine (dats m 0 c).arrAt_eq_of_covers 2 _ (by decide +kernel) fun t hf y => ?_
  have e := (index_at t).2.2.1
  idx_vars y
  have ht : t.val < 8 := t.isLt
  have hi : ((cfg0.win 2).blk t).view.emb (ix3 y0 y1 y2) = (ix3 ⟨t.val / 2, by omega⟩ y1 ⟨t.val % 2 * 512 + y2.val, by omega⟩ : S4x512x1024.Idx) := by
    blk_ext [e]
  refine Eq.trans ?_ (congrArg (G (m (c.tc.loc main_arg0)) (m (c.tc.loc main_arg1))) hi).symm
  show (dats m 0 c).after 2 t (ix3 y0 y1 y2) = _
  rw [after0_2, out2_eq, pay2_at, point_at]

theorem final3 : (dats m 0 c).arrAt 3 cfg0.N = G (m (c.tc.loc main_arg0)) (m (c.tc.loc main_arg1)) := by
  refine (dats m 0 c).arrAt_eq_of_covers 3 _ (by decide +kernel) fun t hf y => ?_
  have e := (index_at t).2.2.2
  idx_vars y
  have ht : t.val < 8 := t.isLt
  have hi : ((cfg0.win 3).blk t).view.emb (ix3 y0 y1 y2) = (ix3 ⟨t.val / 2, by omega⟩ y1 ⟨t.val % 2 * 512 + y2.val, by omega⟩ : S4x512x1024.Idx) := by
    blk_ext [e]
  refine Eq.trans ?_ (congrArg (G (m (c.tc.loc main_arg0)) (m (c.tc.loc main_arg1))) hi).symm
  show (dats m 0 c).after 3 t (ix3 y0 y1 y2) = _
  rw [after0_3, out3_eq, pay3_at, point_at]

open Cert.SguOutDwRefIdeal.Read in
theorem ref_eq (a : FVec Ideal S4096x2048 .f32) (ct : FVec Ideal S4096x1024 .f32) : val_main_v4 (F := Ideal) a ct = G a ct := by
  funext i
  idx_vars i
  have e := val_main_v2_apply a ct (ix2 i2 ⟨i0.val * 512 + i1.val, by omega⟩)
  generalize hS : val_main_v2 (F := Ideal) a ct = S at e
  pointwise [val_main_v4, val_main_v3]
  rw [hS, e]
  unfold G
  refine Finset.sum_congr rfl fun k _ => ?_
  have hl : lidx_main_v2 (ix2 i2 ⟨i0.val * 512 + i1.val, by omega⟩) k = ix2 k i2 :=
    funext fun a => match a with | ⟨0, _⟩ => rfl | ⟨1, _⟩ => rfl
  have hr : ridx_main_v2 (ix2 i2 ⟨i0.val * 512 + i1.val, by omega⟩) k = ix2 k ⟨i0.val * 512 + i1.val, by omega⟩ :=
    funext fun a => match a with | ⟨0, _⟩ => rfl | ⟨1, _⟩ => rfl
  rw [hl, hr, mul_comm]
  rfl

open Cert.SguOutDwRefIdeal.Read in
theorem ref_eq' (a : FVec Ideal S4096x2048 .f32) (ct : FVec Ideal S4096x1024 .f32) : val_main_v5 (F := Ideal) a ct = G a ct := by
  rw [← ref_eq]
  rfl

/-- Every run of the call ends with those arrays. -/
theorem run_value (ρ : Dev nD → PrngReg) : θ_run defs (onTc (τ := τ) (main (F := Ideal))) ⟨m, fun _ => 0, ρ⟩ fun r => ∀ c : Dev nD,
      r.2.mem ((c.tc : Thread nD τ).loc main_v2_0) = G (m (c.tc.loc main_arg0)) (m (c.tc.loc main_arg1))
      ∧ r.2.mem ((c.tc : Thread nD τ).loc main_v2_1) = G (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2.1.trans (final3 m c), (h c).2.2⟩) (Value.run_blocks m ρ)

/-- Every run of the reference ends with the values `X`, if they are what `G` makes of its arguments. -/
theorem reference_value (m : (ℓ : Loc Cert.SguOutDwRefIdeal.nD Cert.SguOutDwRefIdeal.τ Cert.SguOutDwRefIdeal.sig) → Buf (Elt Ideal) ℓ) (ρ : Dev Cert.SguOutDwRefIdeal.nD → PrngReg)
    (X : Dev Cert.SguOutDwRefIdeal.nD → FVec Ideal S4x512x1024 .f32) (hX : ∀ c : Dev Cert.SguOutDwRefIdeal.nD, G (m (c.tc.loc Cert.SguOutDwRefIdeal.main_arg0)) (m (c.tc.loc Cert.SguOutDwRefIdeal.main_arg1)) = X c) :
    θ_run Cert.SguOutDwRefIdeal.defs (onTc (τ := Cert.SguOutDwRefIdeal.τ) (Cert.SguOutDwRefIdeal.main (F := Ideal))) ⟨m, fun _ => 0, ρ⟩ fun r => ∀ c : Dev Cert.SguOutDwRefIdeal.nD,
      r.2.mem ((c.tc : Thread Cert.SguOutDwRefIdeal.nD Cert.SguOutDwRefIdeal.τ).loc Cert.SguOutDwRefIdeal.main_v4) = X c
      ∧ r.2.mem ((c.tc : Thread Cert.SguOutDwRefIdeal.nD Cert.SguOutDwRefIdeal.τ).loc Cert.SguOutDwRefIdeal.main_v5) = X c
      ∧ r.2.mem ((c.tc : Thread Cert.SguOutDwRefIdeal.nD Cert.SguOutDwRefIdeal.τ).loc Cert.SguOutDwRefIdeal.main_arg0) = m ((c.tc : Thread Cert.SguOutDwRefIdeal.nD Cert.SguOutDwRefIdeal.τ).loc Cert.SguOutDwRefIdeal.main_arg0)
      ∧ r.2.mem ((c.tc : Thread Cert.SguOutDwRefIdeal.nD Cert.SguOutDwRefIdeal.τ).loc Cert.SguOutDwRefIdeal.main_arg1) = m ((c.tc : Thread Cert.SguOutDwRefIdeal.nD Cert.SguOutDwRefIdeal.τ).loc Cert.SguOutDwRefIdeal.main_arg1) :=
  (θ_run Cert.SguOutDwRefIdeal.defs _ _).mono (fun _ h c => ⟨(h c).1.trans ((Cert.SguOutDwRefIdeal.Read.val_main_v4_eq _ _).trans ((ref_eq _ _).trans (hX c))),
      (h c).2.1.trans ((Cert.SguOutDwRefIdeal.Read.val_main_v5_eq _ _).trans ((ref_eq' _ _).trans (hX c))), (h c).2.2⟩)
    (Cert.SguOutDwRefIdeal.Value.run (F := Ideal) m ρ)

end Cert.Proof.Sgu.SguOutDw

end
-- ==== Proof.Mla.MlaO.lean ====
/-
  The attention's output, projected and added to the stream, and the next norm: the call's two arrays and the reference's two results.
-/
module

public import proofs.«01_k».proof.Proof.Gen.MlaOIdeal.Value
public import proofs.«01_k».proof.Proof.Gen.MlaORefIdeal.Run
public import proofs.«01_k».proof.Proof.Gen.MlaORefIdeal.Read
public import proofs.«01_k».proof.Proof.Mlp.FfnDown
public import Idealize.ShloMosaic.Lib.Pointwise

@[expose] public section

set_option maxRecDepth 16384

noncomputable section

namespace Cert.Proof.Mla.MlaO

open Cert.MlaOIdeal Cert.MlaOIdeal.Gen Idealize.ShloMosaic Idealize.ShloMosaic.TcCoe Idealize.SL.Sem Finset Cert.Proof.Mlp
open Cert.Proof.Mlp.FfnDown (normed)

/-- The stream after the attention. -/
def stream (x r : FVec Ideal S4096x1024 .f32) (w : FVec Ideal S1024x1024 .f32) (i : Fin 4096) (j : Fin 1024) : EReal :=
  x (ix2 i j) + ∑ k : Fin 1024, r (ix2 i k) * w (ix2 k j)

/-- The call's first array. -/
def G (x r : FVec Ideal S4096x1024 .f32) (w : FVec Ideal S1024x1024 .f32) : FVec Ideal S4096x1024 .f32 := fun i =>
  stream x r w (i 0) (i 1)

/-- The call's second array. -/
def G' (x r : FVec Ideal S4096x1024 .f32) (w : FVec Ideal S1024x1024 .f32) (g : FVec Ideal S1024 .f32) : FVec Ideal S4096x1024 .bf16 := fun i =>
  normed (stream x r w (i 0)) (g (ix1 (i 1))) (i 1)

variable (m : (ℓ : Loc nD τ sig) → Buf (Elt Ideal) ℓ) (c : Dev nD)

/-- Which block of its array each window of a point is. -/
theorem index_at : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem pay1_at (x y : Vec Ideal S1024x1024 .bf16) (r : Vec Ideal S1024x1024 .f32) (i j : Fin 1024) :
    k0_pay1 x y r (ix2 i j) = ∑ k : Fin 1024, x (ix2 i k) * y (ix2 k j) + r (ix2 i j) := by
  pointwise [k0_pay1]

theorem pay2_at (x y : Vec Ideal S1024x1024 .bf16) (r : Vec Ideal S1024x1024 .f32) (g : Vec Ideal S1x1024 .f32) (i j : Fin 1024) :
    k0_pay2 x y r g (ix2 i j) = normed (fun k => k0_pay1 x y r (ix2 i k)) (g (ix2 0 j)) j := by
  unfold k0_pay2
  generalize k0_pay1 x y r = z
  pointwise []
  rfl

theorem out4_eq (x y : Vec Ideal S1024x1024 .bf16) (r : Vec Ideal S1024x1024 .f32) (g : Vec Ideal S1x1024 .f32) : out0_4 x y r g = k0_pay1 x y r := by
  unfold out0_4
  rw [View.canon_unit_zero hz2, View.ld_unit_zero hz2, View.ld_unit_zero hz2, View.ld_unit_zero hz2]
theorem out5_eq (x y : Vec Ideal S1024x1024 .bf16) (r : Vec Ideal S1024x1024 .f32) (g : Vec Ideal S1x1024 .f32) : out0_5 x y r g = k0_pay2 x y r g := by
  unfold out0_5
  rw [View.canon_unit_zero hz2, View.ld_unit_zero hz2, View.ld_unit_zero hz2, View.ld_unit_zero hz2, View.ld_unit_zero hz2]

theorem V_r : V m c main_v1 = (truncf .bf16 (m (c.tc.loc main_arg1)) bitsLt_bf16_f32 : FVec Ideal S4096x1024 .bf16) := by
  rfl
theorem V_w : V m c main_v2 = (truncf .bf16 (m (c.tc.loc main_arg2)) bitsLt_bf16_f32 : FVec Ideal S1024x1024 .bf16) := by
  rfl
theorem V_g : V m c main_v0 = (shapeCast S1x1024 (m (c.tc.loc main_arg3)) shapeCasts_S1024_S1x1024 : FVec Ideal S1x1024 .f32) := by
  rfl
theorem V_x : V m c main_arg0 = m (c.tc.loc main_arg0) := by
  rfl
theorem w_at (w : FVec Ideal S1024x1024 .f32) (k j : Fin 1024) : (truncf .bf16 w bitsLt_bf16_f32 : FVec Ideal S1024x1024 .bf16) (ix2 k j) = w (ix2 k j) := by
  rfl
theorem r_at (r : FVec Ideal S4096x1024 .f32) (i : Fin 4096) (k : Fin 1024) : (truncf .bf16 r bitsLt_bf16_f32 : FVec Ideal S4096x1024 .bf16) (ix2 i k) = r (ix2 i k) := by
  rfl
theorem g_at (g : FVec Ideal S1024 .f32) (j : Fin 1024) : (shapeCast S1x1024 g shapeCasts_S1024_S1x1024 : FVec Ideal S1x1024 .f32) (ix2 0 j) = g (ix1 j) := by
  pointwise []

theorem blk_r (t : Fin cfg0.N) (i k : Fin 1024) : iblk m c 0 t (ix2 i k)
    = (V m c main_v1 : FVec Ideal S4096x1024 .bf16) (ix2 ⟨t.val * 1024 + i.val, by have : t.val < 4 := t.isLt; omega⟩ k) := by
  have e := (index_at t).1
  unfold iblk
  generalize V m c = v
  blk_ext [e]
theorem blk_w (t : Fin cfg0.N) (k j : Fin 1024) : iblk m c 1 t (ix2 k j) = (V m c main_v2 : FVec Ideal S1024x1024 .bf16) (ix2 k j) := by
  have e := (index_at t).2.1
  unfold iblk
  generalize V m c = v
  blk_ext [e]
theorem blk_x (t : Fin cfg0.N) (i j : Fin 1024) : iblk m c 2 t (ix2 i j)
    = (V m c main_arg0 : FVec Ideal S4096x1024 .f32) (ix2 ⟨t.val * 1024 + i.val, by have : t.val < 4 := t.isLt; omega⟩ j) := by
  have e := (index_at t).2.2.1
  unfold iblk
  generalize V m c = v
  blk_ext [e]
theorem blk_g (t : Fin cfg0.N) (j : Fin 1024) : iblk m c 3 t (ix2 0 j) = (V m c main_v0 : FVec Ideal S1x1024 .f32) (ix2 0 j) := by
  have e := (index_at t).2.2.2.1
  unfold iblk
  generalize V m c = v
  blk_ext [e]

/-- A point's product with the stream's block. -/
theorem point_at (t : Fin cfg0.N) (i j : Fin 1024) : k0_pay1 (iblk m c 0 t) (iblk m c 1 t) (iblk m c 2 t) (ix2 i j)
    = stream (m (c.tc.loc main_arg0)) (m (c.tc.loc main_arg1)) (m (c.tc.loc main_arg2)) ⟨t.val * 1024 + i.val, by have : t.val < 4 := t.isLt; omega⟩ j := by
  rw [pay1_at]
  unfold stream
  rw [add_comm]
  simp only [blk_r, blk_w, blk_x]
  rw [V_r, V_w, V_x]
  simp only [r_at, w_at]

theorem final4 : (dats m 0 c).arrAt 4 cfg0.N = G (m (c.tc.loc main_arg0)) (m (c.tc.loc main_arg1)) (m (c.tc.loc main_arg2)) := by
  refine (dats m 0 c).arrAt_eq_of_covers 4 _ (by decide +kernel) fun t hf y => ?_
  have e := (index_at t).2.2.2.2.1
  idx_vars y
  have ht : t.val < 4 := t.isLt
  have hi : ((cfg0.win 4).blk t).view.emb (ix2 y0 y1) = (ix2 ⟨t.val * 1024 + y0.val, by omega⟩ y1 : S4096x1024.Idx) := by
    blk_ext [e]
  refine Eq.trans ?_ (congrArg (G (m (c.tc.loc main_arg0)) (m (c.tc.loc main_arg1)) (m (c.tc.loc main_arg2))) hi).symm
  show (dats m 0 c).after 4 t (ix2 y0 y1) = _
  rw [after0_4, out4_eq, point_at]
  rfl

theorem final5 : (dats m 0 c).arrAt 5 cfg0.N = G' (m (c.tc.loc main_arg0)) (m (c.tc.loc main_arg1)) (m (c.tc.loc main_arg2)) (m (c.tc.loc main_arg3)) := by
  refine (dats m 0 c).arrAt_eq_of_covers 5 _ (by decide +kernel) fun t hf y => ?_
  have e := (index_at t).2.2.2.2.2
  idx_vars y
  have ht : t.val < 4 := t.isLt
  have hi : ((cfg0.win 5).blk t).view.emb (ix2 y0 y1) = (ix2 ⟨t.val * 1024 + y0.val, by omega⟩ y1 : S4096x1024.Idx) := by
    blk_ext [e]
  refine Eq.trans ?_ (congrArg (G' (m (c.tc.loc main_arg0)) (m (c.tc.loc main_arg1)) (m (c.tc.loc main_arg2)) (m (c.tc.loc main_arg3))) hi).symm
  show (dats m 0 c).after 5 t (ix2 y0 y1) = _
  rw [after0_5, out5_eq, pay2_at, blk_g, V_g, g_at]
  simp only [point_at]
  rfl

open Cert.MlaORefIdeal.Read in
theorem stream_at (x : FVec Ideal S4096x1024 .f32) (r : FVec Ideal S4096x1024 .f32) (w : FVec Ideal S1024x1024 .f32) (i : Fin 4096) (j : Fin 1024) :
    val_main_v1 (F := Ideal) x r w (ix2 i j) = stream x r w i j := by
  unfold stream
  rw [val_main_v1_apply, val_main_v0_apply]
  refine congrArg₂ (· + ·) rfl (Finset.sum_congr rfl fun k _ => ?_)
  have el : lidx_main_v0 (ix2 i j) k = ix2 i k := funext fun a => match a with | ⟨0, _⟩ => rfl | ⟨1, _⟩ => rfl
  have er : ridx_main_v0 (ix2 i j) k = ix2 k j := funext fun a => match a with | ⟨0, _⟩ => rfl | ⟨1, _⟩ => rfl
  rw [el, er]

open Cert.MlaORefIdeal.Read in
theorem ref_eq (x : FVec Ideal S4096x1024 .f32) (r : FVec Ideal S4096x1024 .f32) (w : FVec Ideal S1024x1024 .f32) : val_main_v1 (F := Ideal) x r w = G x r w := by
  funext i
  idx_vars i
  rw [stream_at]
  rfl

open Cert.MlaORefIdeal.Read in
theorem ref_eq' (x : FVec Ideal S4096x1024 .f32) (r : FVec Ideal S4096x1024 .f32) (w : FVec Ideal S1024x1024 .f32) (g : FVec Ideal S1024 .f32) :
    val_main_v15 (F := Ideal) x r w g = G' x r w g := by
  funext i
  idx_vars i
  have hs : ∀ j, val_main_v1 (F := Ideal) x r w (ix2 i0 j) = stream x r w i0 j := fun j => stream_at x r w i0 j
  unfold val_main_v15 val_main_v14 val_main_v11 val_main_v10 val_main_v9 val_main_v8 val_main_v6 val_main_v4 val_main_v3 val_main_v2 val_main_v13
    val_main_v12 val_main_v5 val_main_v7 val_main_cst_0 val_main_cst_1 val_main_cst
  generalize val_main_v1 (F := Ideal) x r w = z at hs ⊢
  pointwise []
  simp only [hs]
  rfl

/-- Every run of the call ends with those arrays. -/
theorem run_value (ρ : Dev nD → PrngReg) : θ_run defs (onTc (τ := τ) (main (F := Ideal))) ⟨m, fun _ => 0, ρ⟩ fun r => ∀ c : Dev nD,
      r.2.mem ((c.tc : Thread nD τ).loc main_v3_0) = G (m (c.tc.loc main_arg0)) (m (c.tc.loc main_arg1)) (m (c.tc.loc main_arg2))
      ∧ r.2.mem ((c.tc : Thread nD τ).loc main_v3_1) = G' (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final4 m c), (h c).2.1.trans (final5 m c), (h c).2.2⟩) (Value.run_blocks m ρ)

/-- Every run of the reference ends with the values `X` and `Y`, if they are what `G` and `G'` make of its arguments. -/
theorem reference_value (m : (ℓ : Loc Cert.MlaORefIdeal.nD Cert.MlaORefIdeal.τ Cert.MlaORefIdeal.sig) → Buf (Elt Ideal) ℓ) (ρ : Dev Cert.MlaORefIdeal.nD → PrngReg)
    (X : Dev Cert.MlaORefIdeal.nD → FVec Ideal S4096x1024 .f32) (Y : Dev Cert.MlaORefIdeal.nD → FVec Ideal S4096x1024 .bf16)
    (hX : ∀ c : Dev Cert.MlaORefIdeal.nD, G (m (c.tc.loc Cert.MlaORefIdeal.main_arg0)) (m (c.tc.loc Cert.MlaORefIdeal.main_arg1))
      (m (c.tc.loc Cert.MlaORefIdeal.main_arg2)) = X c)
    (hY : ∀ c : Dev Cert.MlaORefIdeal.nD, G' (m (c.tc.loc Cert.MlaORefIdeal.main_arg0)) (m (c.tc.loc Cert.MlaORefIdeal.main_arg1))
      (m (c.tc.loc Cert.MlaORefIdeal.main_arg2)) (m (c.tc.loc Cert.MlaORefIdeal.main_arg3)) = Y c) :
    θ_run Cert.MlaORefIdeal.defs (onTc (τ := Cert.MlaORefIdeal.τ) (Cert.MlaORefIdeal.main (F := Ideal))) ⟨m, fun _ => 0, ρ⟩ fun r => ∀ c : Dev Cert.MlaORefIdeal.nD,
      r.2.mem (c.tc.loc Cert.MlaORefIdeal.main_v1) = X c
      ∧ r.2.mem (c.tc.loc Cert.MlaORefIdeal.main_v15) = Y c
      ∧ r.2.mem (c.tc.loc Cert.MlaORefIdeal.main_arg0) = m (c.tc.loc Cert.MlaORefIdeal.main_arg0)
      ∧ r.2.mem (c.tc.loc Cert.MlaORefIdeal.main_arg1) = m (c.tc.loc Cert.MlaORefIdeal.main_arg1)
      ∧ r.2.mem (c.tc.loc Cert.MlaORefIdeal.main_arg2) = m (c.tc.loc Cert.MlaORefIdeal.main_arg2)
      ∧ r.2.mem (c.tc.loc Cert.MlaORefIdeal.main_arg3) = m (c.tc.loc Cert.MlaORefIdeal.main_arg3) :=
  (θ_run Cert.MlaORefIdeal.defs _ _).mono (fun _ h c => ⟨(h c).1.trans ((Cert.MlaORefIdeal.Read.val_main_v1_eq _ _ _).trans ((ref_eq _ _ _).trans (hX c))),
      (h c).2.1.trans ((Cert.MlaORefIdeal.Read.val_main_v15_eq _ _ _ _).trans ((ref_eq' _ _ _ _).trans (hY c))), (h c).2.2⟩)
    (Cert.MlaORefIdeal.Value.run (F := Ideal) m ρ)

end Cert.Proof.Mla.MlaO

end
-- ==== Proof.Mla.MlaODx.lean ====
/-
  The gradient of the attention's output and each head's sum of the output times it: the call's two arrays and the reference's two results.
-/
module

public import proofs.«01_k».proof.Proof.Gen.MlaODxIdeal.Value
public import proofs.«01_k».proof.Proof.Gen.MlaODxRefIdeal.Run
public import proofs.«01_k».proof.Proof.Gen.MlaODxRefIdeal.Read
public import proofs.«01_k».proof.Proof.Mlp.Zero
public import Idealize.ShloMosaic.Lib.Pointwise

@[expose] public section

set_option maxRecDepth 16384

noncomputable section

namespace Cert.Proof.Mla.MlaODx

open Cert.MlaODxIdeal Cert.MlaODxIdeal.Gen Idealize.ShloMosaic Idealize.ShloMosaic.TcCoe Idealize.SL.Sem Finset Cert.Proof.Mlp

/-- The gradient of the attention's output. -/
def grad (w : FVec Ideal S1024x1024 .f32) (ct : FVec Ideal S4096x1024 .f32) (i : Fin 4096) (j : Fin 1024) : EReal :=
  ∑ k : Fin 1024, ct (ix2 i k) * w (ix2 j k)

/-- A row's sum over one head's columns, at the head's lane, and zero at the other lanes. -/
def lanes (z : Fin 1024 → EReal) (l : Fin 128) : EReal :=
  if h : l.val < 8 then ∑ k : Fin 128, z ⟨l.val * 128 + k.val, by omega⟩ else 0

/-- The call's first array. -/
def G (w : FVec Ideal S1024x1024 .f32) (ct : FVec Ideal S4096x1024 .f32) : FVec Ideal S4096x1024 .bf16 := fun i => grad w ct (i 0) (i 1)

/-- The call's second array. -/
def G' (w : FVec Ideal S1024x1024 .f32) (o ct : FVec Ideal S4096x1024 .f32) : FVec Ideal S4096x128 .f32 := fun i =>
  lanes (fun j => grad w ct (i 0) j * o (ix2 (i 0) j)) (i 1)

variable (m : (ℓ : Loc nD τ sig) → Buf (Elt Ideal) ℓ) (c : Dev nD)

/-- Which block of its array each window of a point is. -/
theorem index_at : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

theorem pay3_at (x : Vec Ideal S512x1024 .bf16) (y : Vec Ideal S1024x1024 .bf16) (i : Fin 512) (j : Fin 1024) :
    k0_pay3 x y (ix2 i j) = ∑ k : Fin 1024, x (ix2 i k) * y (ix2 j k) := by
  pointwise [k0_pay3]

theorem pay4_at (x : Vec Ideal S512x1024 .bf16) (y : Vec Ideal S1024x1024 .bf16) (o : Vec Ideal S512x1024 .bf16) (i : Fin 512) (j : Fin 1024) :
    k0_pay4 x y o (ix2 i j) = k0_pay3 x y (ix2 i j) * o (ix2 i j) := by
  unfold k0_pay4
  generalize k0_pay3 x y = z
  pointwise []

/-- A choice between two values by the equality of two small numbers. -/
theorem select_eq (a b : ℕ) (ha : a < 2 ^ 32) (hb : b < 2 ^ 32) (x y : EReal) :
    (Scalar.select (IntOp.cmpi CmpIPredicate.eq (BitVec.ofNat 32 a) (BitVec.ofNat 32 b)) x y : EReal) = if a = b then x else y := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · subst h
    rw [if_pos rfl]
    simp [Scalar.select, IntOp.cmpi]
  · have h' : (BitVec.ofNat 32 a == BitVec.ofNat 32 b) = false := beq_eq_false_iff_ne.mpr fun k => h (e.mp k)
    rw [if_neg h]
    unfold Scalar.select IntOp.cmpi
    dsimp only
    rw [h']
    rfl

theorem pay5_at (x : Vec Ideal S512x1024 .bf16) (y : Vec Ideal S1024x1024 .bf16) (o : Vec Ideal S512x1024 .bf16) (i : Fin 512) (l : Fin 128) :
    k0_pay5 x y o (ix2 i l) = if l.val = 2 then ∑ k : Fin 128, k0_pay4 x y o (ix2 i ⟨256 + k.val, by omega⟩)
      else if l.val = 1 then ∑ k : Fin 128, k0_pay4 x y o (ix2 i ⟨128 + k.val, by omega⟩)
      else if l.val = 0 then ∑ k : Fin 128, k0_pay4 x y o (ix2 i ⟨0 + k.val, by omega⟩) else 0 := by
  have hl : l.val < 2 ^ 32 := by omega
  unfold k0_pay5
  generalize k0_pay4 x y o = z
  pointwise []
  simp only [select_eq _ _ hl (by decide : (0 : ℕ) < 2 ^ 32), select_eq _ _ hl (by decide : (1 : ℕ) < 2 ^ 32), select_eq _ _ hl (by decide : (2 : ℕ) < 2 ^ 32)]
  done

theorem pay6_at (x : Vec Ideal S512x1024 .bf16) (y : Vec Ideal S1024x1024 .bf16) (o : Vec Ideal S512x1024 .bf16) (i : Fin 512) (l : Fin 128) :
    k0_pay6 x y o (ix2 i l) = ∑ k : Fin 128, k0_pay4 x y o (ix2 i ⟨384 + k.val, by omega⟩) := by
  unfold k0_pay6
  generalize k0_pay4 x y o = z
  pointwise []

theorem pay1_at (z : FVec Ideal S512x1024 .f32) (v u : FVec Ideal S512x128 .f32) (i : Fin 512) (l : Fin 128) :
    k0_pay1 z (iota .tc S512x128 32 [1] iota_S512x128_d1_w32) v u k0_pay7 (ix2 i l) =
      if l.val = 7 then ∑ k : Fin 128, z (ix2 i ⟨896 + k.val, by omega⟩)
      else if l.val = 6 then ∑ k : Fin 128, z (ix2 i ⟨768 + k.val, by omega⟩)
      else if l.val = 5 then ∑ k : Fin 128, z (ix2 i ⟨640 + k.val, by omega⟩)
      else if l.val = 4 then ∑ k : Fin 128, z (ix2 i ⟨512 + k.val, by omega⟩)
      else if l.val = 3 then u (ix2 i l) else v (ix2 i l) := by
  have hl : l.val < 2 ^ 32 := by omega
  pointwise [k0_pay1, k0_pay7]
  simp only [select_eq _ _ hl (by decide : (3 : ℕ) < 2 ^ 32), select_eq _ _ hl (by decide : (4 : ℕ) < 2 ^ 32), select_eq _ _ hl (by decide : (5 : ℕ) < 2 ^ 32),
    select_eq _ _ hl (by decide : (6 : ℕ) < 2 ^ 32), select_eq _ _ hl (by decide : (7 : ℕ) < 2 ^ 32)]
  done

/-- A lane's value as one of eight choices. -/
theorem lanes_eq (z : Fin 1024 → EReal) (l : Fin 128) : lanes z l =
      if l.val = 7 then ∑ k : Fin 128, z ⟨896 + k.val, by omega⟩
      else if l.val = 6 then ∑ k : Fin 128, z ⟨768 + k.val, by omega⟩
      else if l.val = 5 then ∑ k : Fin 128, z ⟨640 + k.val, by omega⟩
      else if l.val = 4 then ∑ k : Fin 128, z ⟨512 + k.val, by omega⟩
      else if l.val = 3 then ∑ k : Fin 128, z ⟨384 + k.val, by omega⟩
      else if l.val = 2 then ∑ k : Fin 128, z ⟨256 + k.val, by omega⟩
      else if l.val = 1 then ∑ k : Fin 128, z ⟨128 + k.val, by omega⟩
      else if l.val = 0 then ∑ k : Fin 128, z ⟨0 + k.val, by omega⟩ else 0 := by
  unfold lanes
  obtain ⟨l, hl⟩ := l
  by_cases h : l < 8
  · rw [dif_pos h]
    interval_cases l <;> rfl
  · rw [dif_neg h]
    simp only [show l ≠ 7 by omega, show l ≠ 6 by omega, show l ≠ 5 by omega, show l ≠ 4 by omega, show l ≠ 3 by omega, show l ≠ 2 by omega,
      show l ≠ 1 by omega, show l ≠ 0 by omega, if_false]

theorem out3_at (x : Vec Ideal S512x1024 .bf16) (y : Vec Ideal S1024x1024 .bf16) (o : Vec Ideal S512x1024 .bf16) (i : Fin 512) (j : Fin 1024) :
    out0_3 x y o (ix2 i j) = k0_pay3 x y (ix2 i j) := by
  unfold out0_3
  rw [View.canon_unit_zero hz2, View.ld_unit_zero hz2, View.ld_unit_zero hz2]
  rfl

theorem out4_at (x : Vec Ideal S512x1024 .bf16) (y : Vec Ideal S1024x1024 .bf16) (o : Vec Ideal S512x1024 .bf16) (i : Fin 512) (l : Fin 128) :
    out0_4 x y o (ix2 i l) = lanes (fun j => k0_pay4 x y o (ix2 i j)) l := by
  unfold out0_4
  rw [View.canon_unit_zero hz2, View.ld_unit_zero hz2, View.ld_unit_zero hz2, View.ld_unit_zero hz2, pay1_at, pay5_at, pay6_at, lanes_eq]

theorem V_ct : V m c main_v0 = (truncf .bf16 (m (c.tc.loc main_arg2)) bitsLt_bf16_f32 : FVec Ideal S4096x1024 .bf16) := by
  rfl
theorem V_w : V m c main_v1 = (truncf .bf16 (m (c.tc.loc main_arg0)) bitsLt_bf16_f32 : FVec Ideal S1024x1024 .bf16) := by
  rfl
theorem V_o : V m c main_v2 = (truncf .bf16 (m (c.tc.loc main_arg1)) bitsLt_bf16_f32 : FVec Ideal S4096x1024 .bf16) := by
  rfl
theorem w_at (w : FVec Ideal S1024x1024 .f32) (k j : Fin 1024) : (truncf .bf16 w bitsLt_bf16_f32 : FVec Ideal S1024x1024 .bf16) (ix2 k j) = w (ix2 k j) := by
  rfl
theorem r_at (r : FVec Ideal S4096x1024 .f32) (i : Fin 4096) (k : Fin 1024) : (truncf .bf16 r bitsLt_bf16_f32 : FVec Ideal S4096x1024 .bf16) (ix2 i k) = r (ix2 i k) := by
  rfl

theorem blk_ct (t : Fin cfg0.N) (i : Fin 512) (k : Fin 1024) : iblk m c 0 t (ix2 i k)
    = (V m c main_v0 : FVec Ideal S4096x1024 .bf16) (ix2 ⟨t.val * 512 + i.val, by have : t.val < 8 := t.isLt; omega⟩ k) := by
  have e := (index_at t).1
  unfold iblk
  generalize V m c = v
  blk_ext [e]
theorem blk_w (t : Fin cfg0.N) (k j : Fin 1024) : iblk m c 1 t (ix2 k j) = (V m c main_v1 : FVec Ideal S1024x1024 .bf16) (ix2 k j) := by
  have e := (index_at t).2.1
  unfold iblk
  generalize V m c = v
  blk_ext [e]
theorem blk_o (t : Fin cfg0.N) (i : Fin 512) (k : Fin 1024) : iblk m c 2 t (ix2 i k)
    = (V m c main_v2 : FVec Ideal S4096x1024 .bf16) (ix2 ⟨t.val * 512 + i.val, by have : t.val < 8 := t.isLt; omega⟩ k) := by
  have e := (index_at t).2.2.1
  unfold iblk
  generalize V m c = v
  blk_ext [e]

/-- A point's product. -/
theorem point_at (t : Fin cfg0.N) (i : Fin 512) (j : Fin 1024) : k0_pay3 (iblk m c 0 t) (iblk m c 1 t) (ix2 i j)
    = grad (m (c.tc.loc main_arg0)) (m (c.tc.loc main_arg2)) ⟨t.val * 512 + i.val, by have : t.val < 8 := t.isLt; omega⟩ j := by
  rw [pay3_at]
  unfold grad
  simp only [blk_ct, blk_w]
  rw [V_ct, V_w]
  simp only [r_at, w_at]

/-- A point's product times the output. -/
theorem prod_at (t : Fin cfg0.N) (i : Fin 512) (j : Fin 1024) : k0_pay4 (iblk m c 0 t) (iblk m c 1 t) (iblk m c 2 t) (ix2 i j)
    = grad (m (c.tc.loc main_arg0)) (m (c.tc.loc main_arg2)) ⟨t.val * 512 + i.val, by have : t.val < 8 := t.isLt; omega⟩ j
      * (m (c.tc.loc main_arg1) : FVec Ideal S4096x1024 .f32) (ix2 ⟨t.val * 512 + i.val, by have : t.val < 8 := t.isLt; omega⟩ j) := by
  rw [pay4_at, point_at, blk_o, V_o, r_at]

theorem final3 : (dats m 0 c).arrAt 3 cfg0.N = G (m (c.tc.loc main_arg0)) (m (c.tc.loc main_arg2)) := by
  refine (dats m 0 c).arrAt_eq_of_covers 3 _ (by decide +kernel) fun t hf y => ?_
  have e := (index_at t).2.2.2.1
  idx_vars y
  have ht : t.val < 8 := t.isLt
  have hi : ((cfg0.win 3).blk t).view.emb (ix2 y0 y1) = (ix2 ⟨t.val * 512 + y0.val, by omega⟩ y1 : S4096x1024.Idx) := by
    blk_ext [e]
  refine Eq.trans ?_ (congrArg (G (m (c.tc.loc main_arg0)) (m (c.tc.loc main_arg2))) hi).symm
  show (dats m 0 c).after 3 t (ix2 y0 y1) = _
  rw [after0_3, out3_at, point_at]
  rfl

theorem final4 : (dats m 0 c).arrAt 4 cfg0.N = G' (m (c.tc.loc main_arg0)) (m (c.tc.loc main_arg1)) (m (c.tc.loc main_arg2)) := by
  refine (dats m 0 c).arrAt_eq_of_covers 4 _ (by decide +kernel) fun t hf y => ?_
  have e := (index_at t).2.2.2.2
  idx_vars y
  have ht : t.val < 8 := t.isLt
  have hi : ((cfg0.win 4).blk t).view.emb (ix2 y0 y1) = (ix2 ⟨t.val * 512 + y0.val, by omega⟩ y1 : S4096x128.Idx) := by
    blk_ext [e]
  refine Eq.trans ?_ (congrArg (G' (m (c.tc.loc main_arg0)) (m (c.tc.loc main_arg1)) (m (c.tc.loc main_arg2))) hi).symm
  show (dats m 0 c).after 4 t (ix2 y0 y1) = _
  rw [after0_4, out4_at]
  simp only [prod_at]
  rfl

open Cert.MlaODxRefIdeal.Read in
theorem grad_at (w : FVec Ideal S1024x1024 .f32) (ct : FVec Ideal S4096x1024 .f32) (i : Fin 4096) (j : Fin 1024) :
    val_main_v2 (F := Ideal) w ct (ix2 i j) = grad w ct i j := by
  rw [val_main_v2_apply]
  unfold grad
  refine Finset.sum_congr rfl fun k _ => ?_
  have el : lidx_main_v2 (ix2 i j) k = ix2 i k := funext fun a => match a with | ⟨0, _⟩ => rfl | ⟨1, _⟩ => rfl
  have er : ridx_main_v2 (ix2 i j) k = ix2 j k := funext fun a => match a with | ⟨0, _⟩ => rfl | ⟨1, _⟩ => rfl
  rw [el, er]

open Cert.MlaODxRefIdeal.Read in
theorem ref_eq (w : FVec Ideal S1024x1024 .f32) (ct : FVec Ideal S4096x1024 .f32) : val_main_v6 (F := Ideal) w ct = G w ct := by
  funext i
  idx_vars i
  exact (val_main_v6_apply _ _ _).trans (grad_at w ct i0 i1)

open Cert.MlaODxRefIdeal.Read in
/-- The reference's sum over one head's columns. -/
theorem head_at (w : FVec Ideal S1024x1024 .f32) (o ct : FVec Ideal S4096x1024 .f32) (i : Fin 4096) (h : Fin 8) :
    val_main_v5 (F := Ideal) w o ct (ix2 i h) = ∑ k : Fin 128, grad w ct i ⟨h.val * 128 + k.val, by omega⟩ * o (ix2 i ⟨h.val * 128 + k.val, by omega⟩) := by
  have hs : ∀ j, val_main_v2 (F := Ideal) w ct (ix2 i j) = grad w ct i j := fun j => grad_at w ct i j
  unfold val_main_v5 val_main_v4 val_main_v3 val_main_cst_0
  generalize val_main_v2 (F := Ideal) w ct = z at hs ⊢
  pointwise []
  simp only [hs]

open Cert.MlaODxRefIdeal.Read in
theorem ref_eq' (w : FVec Ideal S1024x1024 .f32) (o ct : FVec Ideal S4096x1024 .f32) : val_main_v7 (F := Ideal) w o ct = G' w o ct := by
  funext i
  idx_vars i
  have hs : ∀ h, val_main_v5 (F := Ideal) w o ct (ix2 i0 h) = ∑ k : Fin 128, grad w ct i0 ⟨h.val * 128 + k.val, by omega⟩ * o (ix2 i0 ⟨h.val * 128 + k.val, by omega⟩) :=
    fun h => head_at w o ct i0 h
  unfold val_main_v7 val_main_call0_v0 val_main_c
  generalize val_main_v5 (F := Ideal) w o ct = z at hs ⊢
  pointwise []
  have h0 : (FloatOps.sitofp .f32 (0#32) : Ideal .f32) = (0 : EReal) := by
    show (((BitVec.toInt 0#32 : ℤ) : ℝ) : EReal) = 0
    simp
  rw [h0]
  unfold G' lanes
  simp only [hs]
  rfl

/-- Every run of the call ends with those arrays. -/
theorem run_value (ρ : Dev nD → PrngReg) : θ_run defs (onTc (τ := τ) (main (F := Ideal))) ⟨m, fun _ => 0, ρ⟩ fun r => ∀ c : Dev nD,
      r.2.mem ((c.tc : Thread nD τ).loc main_v3_0) = G (m (c.tc.loc main_arg0)) (m (c.tc.loc main_arg2))
      ∧ r.2.mem ((c.tc : Thread nD τ).loc main_v3_1) = G' (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final3 m c), (h c).2.1.trans (final4 m c), (h c).2.2⟩) (Value.run_blocks m ρ)

/-- Every run of the reference ends with the values `X` and `Y`, if they are what `G` and `G'` make of its arguments. -/
theorem reference_value (m : (ℓ : Loc Cert.MlaODxRefIdeal.nD Cert.MlaODxRefIdeal.τ Cert.MlaODxRefIdeal.sig) → Buf (Elt Ideal) ℓ) (ρ : Dev Cert.MlaODxRefIdeal.nD → PrngReg)
    (X : Dev Cert.MlaODxRefIdeal.nD → FVec Ideal S4096x1024 .bf16) (Y : Dev Cert.MlaODxRefIdeal.nD → FVec Ideal S4096x128 .f32)
    (hX : ∀ c : Dev Cert.MlaODxRefIdeal.nD, G (m (c.tc.loc Cert.MlaODxRefIdeal.main_arg0)) (m (c.tc.loc Cert.MlaODxRefIdeal.main_arg2)) = X c)
    (hY : ∀ c : Dev Cert.MlaODxRefIdeal.nD, G' (m (c.tc.loc Cert.MlaODxRefIdeal.main_arg0)) (m (c.tc.loc Cert.MlaODxRefIdeal.main_arg1))
      (m (c.tc.loc Cert.MlaODxRefIdeal.main_arg2)) = Y c) :
    θ_run Cert.MlaODxRefIdeal.defs (onTc (τ := Cert.MlaODxRefIdeal.τ) (Cert.MlaODxRefIdeal.main (F := Ideal))) ⟨m, fun _ => 0, ρ⟩ fun r => ∀ c : Dev Cert.MlaODxRefIdeal.nD,
      r.2.mem (c.tc.loc Cert.MlaODxRefIdeal.main_v6) = X c
      ∧ r.2.mem (c.tc.loc Cert.MlaODxRefIdeal.main_v7) = Y c
      ∧ r.2.mem (c.tc.loc Cert.MlaODxRefIdeal.main_arg0) = m (c.tc.loc Cert.MlaODxRefIdeal.main_arg0)
      ∧ r.2.mem (c.tc.loc Cert.MlaODxRefIdeal.main_arg1) = m (c.tc.loc Cert.MlaODxRefIdeal.main_arg1)
      ∧ r.2.mem (c.tc.loc Cert.MlaODxRefIdeal.main_arg2) = m (c.tc.loc Cert.MlaODxRefIdeal.main_arg2) :=
  (θ_run Cert.MlaODxRefIdeal.defs _ _).mono (fun _ h c => ⟨(h c).1.trans ((Cert.MlaODxRefIdeal.Read.val_main_v6_eq _ _).trans ((ref_eq _ _).trans (hX c))),
      (h c).2.1.trans ((Cert.MlaODxRefIdeal.Read.val_main_v7_eq _ _ _).trans ((ref_eq' _ _ _).trans (hY c))), (h c).2.2⟩)
    (Cert.MlaODxRefIdeal.Value.run (F := Ideal) m ρ)

end Cert.Proof.Mla.MlaODx

end
-- ==== Proof.Mla.MlaODw.lean ====
/-
  The gradient of the attention's output weight: the call's array, summed over four tiles of tokens in scratch, and the reference's result.
-/
module

public import proofs.«01_k».proof.Proof.Gen.MlaODwIdeal.Value
public import proofs.«01_k».proof.Proof.Gen.MlaODwRefIdeal.Run
public import proofs.«01_k».proof.Proof.Gen.MlaODwRefIdeal.Read
public import proofs.«01_k».proof.Proof.Mlp.Quarters
public import proofs.«01_k».proof.Proof.Mlp.Zero
public import Idealize.ShloMosaic.Lib.Pointwise

@[expose] public section

set_option maxRecDepth 16384

noncomputable section

namespace Cert.Proof.Mla.MlaODw

open Cert.MlaODwIdeal Cert.MlaODwIdeal.Gen Idealize.ShloMosaic Idealize.ShloMosaic.TcCoe Idealize.SL.Sem Finset Cert.Proof.Mlp

/-- One tile of tokens' share of an entry. -/
def part (o ct : FVec Ideal S4096x1024 .f32) (t : ℕ) (ht : t < 4) (i j : Fin 1024) : EReal :=
  ∑ k : Fin 1024, o (ix2 ⟨t * 1024 + k.val, by omega⟩ i) * ct (ix2 ⟨t * 1024 + k.val, by omega⟩ j)

/-- The call's array. -/
def G (o ct : FVec Ideal S4096x1024 .f32) : FVec Ideal S1024x1024 .f32 := fun i => ∑ k : Fin 4096, o (ix2 k (i 0)) * ct (ix2 k (i 1))

section
variable (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .f32) (h2 : a2.IsWhole) (a3 : Memref sig .tc .vmem S1024x1024 .f32) (h3 : a3.IsWhole)
  (x0 : Vec Ideal S1024x1024 .bf16) (x1 : Vec Ideal S1024x1024 .bf16) (xs : Vec Ideal S1024x1024 .f32)

theorem sout_A (hc0 : cond0_0 i) (hc1 : ¬cond0_1 i) (hc2 : ¬cond0_2 i) : sout0_A_0 c i a0 h0 a1 h1 a2 h2 a3 h3 hc0 hc1 hc2 x0 x1 = k0_pay2 x0 x1 := by
  unfold sout0_A_0
  rw [View.read_writes_eq_canon _ _ _ (scover0_A_0 c i a0 h0 a1 h1 a2 h2 a3 h3 hc0 hc1 hc2 x0 x1)]
  unfold kernelRun0_A
  dsimp only
  sl_unfold_words
  rw [View.canon_unit_zero hz2]
  simp only [View.readAt_eq_ld, h0.read_unread, h1.read_unread, View.ld_unit_zero (S := S1024x1024) hz2]

theorem sout_B (hc0 : ¬cond0_0 i) (hc1 : cond0_1 i) (hc2 : ¬cond0_2 i) : sout0_B_0 c i a0 h0 a1 h1 a2 h2 a3 h3 hc0 hc1 hc2 x0 x1 xs = k0_pay3 x0 x1 xs := by
  unfold sout0_B_0
  rw [View.read_writes_eq_canon _ _ _ (scover0_B_0 c i a0 h0 a1 h1 a2 h2 a3 h3 hc0 hc1 hc2 x0 x1 xs)]
  unfold kernelRun0_B
  dsimp only
  sl_unfold_words
  rw [View.canon_unit_zero hz2]
  simp only [View.readAt_eq_ld, h0.read_unread, h1.read_unread, h3.read_unread, View.ld_unit_zero (S := S1024x1024) hz2]

theorem out_C (hc0 : ¬cond0_0 i) (hc1 : ¬cond0_1 i) (hc2 : cond0_2 i) : out0_C_2 c i a0 h0 a1 h1 a2 h2 a3 h3 hc0 hc1 hc2 x0 x1 xs = k0_pay4 x0 x1 xs := by
  unfold out0_C_2
  rw [View.read_writes_eq_canon _ _ _ (cover0_C_2 c i a0 h0 a1 h1 a2 h2 a3 h3 hc0 hc1 hc2 x0 x1 xs)]
  unfold kernelRun0_C
  dsimp only
  sl_unfold_words
  rw [View.canon_unit_zero hz2]
  simp only [View.readAt_eq_ld, h0.read_unread, h1.read_unread, h3.read_unread, View.ld_unit_zero (S := S1024x1024) hz2]
end

variable (m : (ℓ : Loc nD τ sig) → Buf (Elt Ideal) ℓ) (c : Dev nD)

/-- Which block of its array each window of a point is. -/
theorem index_at : ∀ t : Fin cfg0.N, win0_0.index t = ![t.val, 0] ∧ win0_1.index t = ![t.val, 0] ∧ win0_2.index t = ![0, 0] :=
  (by decide +kernel : ∀ t : Fin grid0.N, _)

theorem pay1_at (x y : Vec Ideal S1024x1024 .bf16) (i j : Fin 1024) :
    k0_pay1 x y (ix2 i j) = ∑ k : Fin 1024, x (ix2 k i) * y (ix2 k j) := by
  pointwise [k0_pay1]
theorem pay2_at (x y : Vec Ideal S1024x1024 .bf16) (i j : Fin 1024) : k0_pay2 x y (ix2 i j) = k0_pay1 x y (ix2 i j) := by
  unfold k0_pay2
  generalize k0_pay1 x y = z
  pointwise []
theorem pay3_at (x y : Vec Ideal S1024x1024 .bf16) (a : Vec Ideal S1024x1024 .f32) (i j : Fin 1024) :
    k0_pay3 x y a (ix2 i j) = a (ix2 i j) + k0_pay1 x y (ix2 i j) := by
  unfold k0_pay3
  generalize k0_pay1 x y = z
  pointwise []
theorem pay4_at (x y : Vec Ideal S1024x1024 .bf16) (a : Vec Ideal S1024x1024 .f32) (i j : Fin 1024) :
    k0_pay4 x y a (ix2 i j) = a (ix2 i j) + k0_pay1 x y (ix2 i j) := by
  unfold k0_pay4
  generalize k0_pay1 x y = z
  pointwise []

theorem outs_zero (h : 0 < cfg0.N) : (outsAt0 m c 0 h).2 = k0_pay2 (iblk m c 0 ⟨0, h⟩) (iblk m c 1 ⟨0, h⟩) := by
  refine (congrArg (fun p => p.2) (outsAt0_A m c ⟨0, h⟩ rfl (by dsimp only; omega) (by dsimp only; omega))).trans ?_
  dsimp only
  rw [sout_A]
theorem outs_mid (n : ℕ) (h : n + 1 < cfg0.N) (hn : n < 2) : (outsAt0 m c (n + 1) h).2
    = k0_pay3 (iblk m c 0 ⟨n + 1, h⟩) (iblk m c 1 ⟨n + 1, h⟩) (outsAt0 m c n (Nat.lt_of_succ_lt h)).2 := by
  refine (congrArg (fun p => p.2) (outsAt0_B m c ⟨n + 1, h⟩ (by dsimp only; omega) (by dsimp only; omega) (by dsimp only; omega))).trans ?_
  dsimp only
  rw [sout_B]
  rfl
theorem outs_last (h : 3 < cfg0.N) : (outsAt0 m c 3 h).1
    = k0_pay4 (iblk m c 0 ⟨3, h⟩) (iblk m c 1 ⟨3, h⟩) (outsAt0 m c 2 (Nat.lt_of_succ_lt h)).2 := by
  refine (congrArg (fun p => p.1) (outsAt0_C m c ⟨3, h⟩ (by dsimp only; omega) (by dsimp only; omega) rfl)).trans ?_
  dsimp only
  rw [out_C]

theorem V_o : V m c main_v0 = (truncf .bf16 (m (c.tc.loc main_arg0)) bitsLt_bf16_f32 : FVec Ideal S4096x1024 .bf16) := by
  rfl
theorem V_ct : V m c main_v1 = (truncf .bf16 (m (c.tc.loc main_arg1)) bitsLt_bf16_f32 : FVec Ideal S4096x1024 .bf16) := by
  rfl
theorem r_at (r : FVec Ideal S4096x1024 .f32) (i : Fin 4096) (k : Fin 1024) : (truncf .bf16 r bitsLt_bf16_f32 : FVec Ideal S4096x1024 .bf16) (ix2 i k) = r (ix2 i k) := by
  rfl

theorem blk_o (t : Fin cfg0.N) (i k : Fin 1024) : iblk m c 0 t (ix2 i k)
    = (V m c main_v0 : FVec Ideal S4096x1024 .bf16) (ix2 ⟨t.val * 1024 + i.val, by have : t.val < 4 := t.isLt; omega⟩ k) := by
  have e := (index_at t).1
  unfold iblk
  generalize V m c = v
  blk_ext [e]
theorem blk_ct (t : Fin cfg0.N) (i k : Fin 1024) : iblk m c 1 t (ix2 i k)
    = (V m c main_v1 : FVec Ideal S4096x1024 .bf16) (ix2 ⟨t.val * 1024 + i.val, by have : t.val < 4 := t.isLt; omega⟩ k) := by
  have e := (index_at t).2.1
  unfold iblk
  generalize V m c = v
  blk_ext [e]

/-- A point's product. -/
theorem point_at (t : Fin cfg0.N) (i j : Fin 1024) : k0_pay1 (iblk m c 0 t) (iblk m c 1 t) (ix2 i j)
    = part (m (c.tc.loc main_arg0)) (m (c.tc.loc main_arg1)) t.val t.isLt i j := by
  rw [pay1_at]
  unfold part
  simp only [blk_o, blk_ct]
  rw [V_o, V_ct]
  simp only [r_at]

/-- The last point's block. -/
theorem block_at (h : 3 < cfg0.N) (i j : Fin 1024) : (outsAt0 m c 3 h).1 (ix2 i j) = G (m (c.tc.loc main_arg0)) (m (c.tc.loc main_arg1)) (ix2 i j) := by
  rw [outs_last, pay4_at, outs_mid m c 1 _ (by omega), pay3_at, outs_mid m c 0 _ (by omega), pay3_at, outs_zero, pay2_at, point_at, point_at, point_at, point_at]
  unfold G part
  rw [sum_quarters]
  refine congrArg₂ (· + ·) (congrArg₂ (· + ·) (congrArg₂ (· + ·) ?_ ?_) ?_) ?_
  · refine Finset.sum_congr rfl fun k _ => ?_
    simp only [Nat.zero_mul, Nat.zero_add]
    rfl
  · rfl
  · rfl
  · rfl

theorem final2 : (dats m 0 c).arrAt 2 cfg0.N = G (m (c.tc.loc main_arg0)) (m (c.tc.loc main_arg1)) := by
  refine (dats m 0 c).arrAt_eq_of_covers 2 _ (by decide +kernel) fun t hf y => ?_
  have e := (index_at t).2.2
  idx_vars y
  have ht : t.val < 4 := t.isLt
  have h3 : t.val = 3 := by have := (flush0_2 t).mp hf; omega
  have hi : ((cfg0.win 2).blk t).view.emb (ix2 y0 y1) = (ix2 y0 y1 : S1024x1024.Idx) := by
    blk_ext [e]
  refine Eq.trans ?_ (congrArg (G (m (c.tc.loc main_arg0)) (m (c.tc.loc main_arg1))) hi).symm
  show (dats m 0 c).after 2 t (ix2 y0 y1) = _
  obtain ⟨n, hn⟩ := t
  obtain rfl : n = 3 := h3
  rw [after0_2, block_at]

open Cert.MlaODwRefIdeal.Read in
theorem ref_eq (o ct : FVec Ideal S4096x1024 .f32) : val_main_v3 (F := Ideal) o ct = G o ct := by
  funext i
  idx_vars i
  have e3 : idx_main_v3 (ix2 i0 i1) = ix2 i1 i0 := funext fun a => match a with | ⟨0, _⟩ => rfl | ⟨1, _⟩ => rfl
  rw [val_main_v3_apply, e3, val_main_v2_apply]
  unfold G
  refine Finset.sum_congr rfl fun k _ => ?_
  have el : lidx_main_v2 (ix2 i1 i0) k = ix2 k i1 := funext fun a => match a with | ⟨0, _⟩ => rfl | ⟨1, _⟩ => rfl
  have er : ridx_main_v2 (ix2 i1 i0) k = ix2 k i0 := funext fun a => match a with | ⟨0, _⟩ => rfl | ⟨1, _⟩ => rfl
  rw [el, er, mul_comm]
  rfl

/-- Every run of the call ends with that array. -/
theorem run_value (ρ : Dev nD → PrngReg) : θ_run defs (onTc (τ := τ) (main (F := Ideal))) ⟨m, fun _ => 0, ρ⟩ fun r => ∀ c : Dev nD,
      r.2.mem ((c.tc : Thread nD τ).loc main_v2) = G (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩) (Value.run_blocks m ρ)

/-- Every run of the reference ends with the value `X`, if it is what `G` makes of its arguments. -/
theorem reference_value (m : (ℓ : Loc Cert.MlaODwRefIdeal.nD Cert.MlaODwRefIdeal.τ Cert.MlaODwRefIdeal.sig) → Buf (Elt Ideal) ℓ) (ρ : Dev Cert.MlaODwRefIdeal.nD → PrngReg)
    (X : Dev Cert.MlaODwRefIdeal.nD → FVec Ideal S1024x1024 .f32)
    (hX : ∀ c : Dev Cert.MlaODwRefIdeal.nD, G (m (c.tc.loc Cert.MlaODwRefIdeal.main_arg0)) (m (c.tc.loc Cert.MlaODwRefIdeal.main_arg1)) = X c) :
    θ_run Cert.MlaODwRefIdeal.defs (onTc (τ := Cert.MlaODwRefIdeal.τ) (Cert.MlaODwRefIdeal.main (F := Ideal))) ⟨m, fun _ => 0, ρ⟩ fun r => ∀ c : Dev Cert.MlaODwRefIdeal.nD,
      r.2.mem (c.tc.loc Cert.MlaODwRefIdeal.main_v3) = X c
      ∧ r.2.mem (c.tc.loc Cert.MlaODwRefIdeal.main_arg0) = m (c.tc.loc Cert.MlaODwRefIdeal.main_arg0)
      ∧ r.2.mem (c.tc.loc Cert.MlaODwRefIdeal.main_arg1) = m (c.tc.loc Cert.MlaODwRefIdeal.main_arg1) :=
  (θ_run Cert.MlaODwRefIdeal.defs _ _).mono (fun _ h c => ⟨(h c).1.trans ((Cert.MlaODwRefIdeal.Read.val_main_v3_eq _ _).trans ((ref_eq _ _).trans (hX c))), (h c).2⟩)
    (Cert.MlaODwRefIdeal.Value.run (F := Ideal) m ρ)

end Cert.Proof.Mla.MlaODw

end
-- ==== Proof.Mla.MlaProjectSpec.lean ====
/-
  The attention's projections, entry by entry: the norm of the stream, the latents, the rotated rotary key, the queries, the keys and values.
-/
module

public import proofs.«01_k».proof.Proof.Gen.MlaProjectIdeal.Value
public import Idealize.ShloMosaic.Lib.Pointwise

@[expose] public section

set_option maxRecDepth 16384

noncomputable section

namespace Cert.Proof.Mla.MlaProject

open Cert.MlaProjectIdeal Cert.MlaProjectIdeal.Gen Idealize.ShloMosaic Idealize.ShloMosaic.TcCoe Idealize.SL.Sem Finset

/-- A row's norm, at one entry; `d` is the row's length. -/
def nrm {n : ℕ} (z : Fin n → EReal) (d g : EReal) (j : Fin n) : EReal :=
  z j * Ideal.rsqrt (Ideal.div (∑ k, z k * z k) d + Ideal.ofBits .f32 0x358637BD#32) * g

variable (x : FVec Ideal S4096x1024 .f32) (cs sn : FVec Ideal S4096x32 .f32) (g : FVec Ideal S1024 .f32) (w : FVec Ideal S1024x448 .f32)
  (qg : FVec Ideal S256 .f32) (kg : FVec Ideal S128 .f32) (wq : FVec Ideal S256x1536 .f32) (wkv : FVec Ideal S128x2048 .f32)

/-- The stream's norm. -/
def hid (i : Fin 4096) (j : Fin 1024) : EReal := nrm (fun k : Fin 1024 => x (ix2 i k)) (Ideal.ofBits .f32 0x44800000#32) (g (ix1 j)) j
/-- The joint down-projection, padded to 512 lanes. -/
def lat (i : Fin 4096) (j : Fin 512) : EReal := if h : j.val < 448 then ∑ k : Fin 1024, hid x g i k * w (ix2 k ⟨j.val, h⟩) else 0
/-- The queries' latent, normed. -/
def cq (i : Fin 4096) (j : Fin 256) : EReal :=
  nrm (fun k : Fin 256 => lat x g w i ⟨k.val, by omega⟩) (Ideal.ofBits .f32 0x43800000#32) (qg (ix1 j)) j
/-- The keys' and values' latent, normed. -/
def ck (i : Fin 4096) (j : Fin 128) : EReal :=
  nrm (fun k : Fin 128 => lat x g w i ⟨256 + k.val, by omega⟩) (Ideal.ofBits .f32 0x43000000#32) (kg (ix1 j)) j
/-- The rotary key, rotated and padded to 128 lanes. -/
def rope (i : Fin 4096) (e : Fin 128) : EReal :=
  if h : e.val < 32 then lat x g w i ⟨384 + e.val, by omega⟩ * cs (ix2 i ⟨e.val, h⟩) - lat x g w i ⟨384 + (e.val + 32), by omega⟩ * sn (ix2 i ⟨e.val, h⟩)
  else if h2 : e.val < 64 then lat x g w i ⟨384 + e.val, by omega⟩ * cs (ix2 i ⟨e.val - 32, by omega⟩)
    + lat x g w i ⟨384 + (e.val - 32), by omega⟩ * sn (ix2 i ⟨e.val - 32, by omega⟩)
  else 0
/-- The queries, padded to 256 lanes a head. -/
def qry (i : Fin 4096) (k : Fin 2048) : EReal :=
  if h : k.val % 256 < 192 then ∑ l : Fin 256, cq x g w qg i l * wq (ix2 l ⟨k.val / 256 * 192 + k.val % 256, by omega⟩) else 0
/-- The keys and values. -/
def kvs (i : Fin 4096) (k : Fin 2048) : EReal := ∑ l : Fin 128, ck x g w kg i l * wkv (ix2 l k)

/-- The seven results. -/
def G0 : FVec Ideal S4096x1024 .bf16 := fun i => hid x g (i 0) (i 1)
def G1 : FVec Ideal S4096x512 .f32 := fun i => lat x g w (i 0) (i 1)
def G2 : FVec Ideal S4096x256 .bf16 := fun i => cq x g w qg (i 0) (i 1)
def G3 : FVec Ideal S4096x128 .bf16 := fun i => ck x g w kg (i 0) (i 1)
def G4 : FVec Ideal S4096x128 .bf16 := fun i => rope x cs sn g w (i 0) (i 1)
def G5 : FVec Ideal S4096x2048 .f32 := fun i => qry x g w qg wq (i 0) (i 1)
def G6 : FVec Ideal S4096x2048 .bf16 := fun i => kvs x g w kg wkv (i 0) (i 1)

/-- The word of zero padding. -/
theorem zero_pad : (FloatOps.sitofp .f32 (0#32) : Ideal .f32) = (0 : EReal) := by
  show (((0#32 : BitVec 32).toInt : ℝ) : EReal) = _
  simp

end Cert.Proof.Mla.MlaProject

end
-- ==== Proof.Mla.MlaProject.lean ====
/-
  The attention's projections: the reference's seven results.
-/
module

public import proofs.«01_k».proof.Proof.Gen.MlaProjectRefIdeal.Run
public import proofs.«01_k».proof.Proof.Gen.MlaProjectRefIdeal.Read
public import proofs.«01_k».proof.Proof.Mla.MlaProjectSpec

@[expose] public section

set_option maxRecDepth 16384

noncomputable section

namespace Cert.Proof.Mla.MlaProject

open Cert.MlaProjectRefIdeal Cert.MlaProjectRefIdeal.Read Idealize.ShloMosaic Idealize.ShloMosaic.TcCoe Idealize.SL.Sem Finset

variable (x : FVec Ideal S4096x1024 .f32) (cs sn : FVec Ideal S4096x32 .f32) (g : FVec Ideal S1024 .f32) (w : FVec Ideal S1024x448 .f32)
  (qg : FVec Ideal S256 .f32) (kg : FVec Ideal S128 .f32) (wq : FVec Ideal S256x1536 .f32) (wkv : FVec Ideal S128x2048 .f32)

theorem hid_ref (i : Fin 4096) (j : Fin 1024) : val_main_v12 (F := Ideal) x g (ix2 i j) = hid x g i j := by
  unfold val_main_v12 val_main_v11 val_main_v10 val_main_v9 val_main_v8 val_main_v7 val_main_v6 val_main_v5 val_main_v4 val_main_v3 val_main_v2 val_main_v1
    val_main_v0 val_main_cst_0 val_main_cst_1 val_main_cst
  pointwise []
  rfl

theorem lat_ref (i : Fin 4096) (j : Fin 448) : val_main_v13 (F := Ideal) x g w (ix2 i j) = lat x g w i ⟨j.val, by omega⟩ := by
  unfold lat
  rw [val_main_v13_apply, dif_pos j.isLt]
  refine Finset.sum_congr rfl fun k _ => ?_
  have el : lidx_main_v13 (ix2 i j) k = ix2 i k := funext fun a => match a with | ⟨0, _⟩ => rfl | ⟨1, _⟩ => rfl
  have er : ridx_main_v13 (ix2 i j) k = ix2 k j := funext fun a => match a with | ⟨0, _⟩ => rfl | ⟨1, _⟩ => rfl
  rw [el, er, hid_ref]

theorem cq_ref (i : Fin 4096) (j : Fin 256) : val_main_v29 (F := Ideal) x g w qg (ix2 i j) = cq x g w qg i j := by
  have hs := lat_ref x g w i
  unfold val_main_v29 val_main_v28 val_main_v27 val_main_v26 val_main_v25 val_main_v24 val_main_v23 val_main_v22 val_main_v21 val_main_v20 val_main_v19
    val_main_v18 val_main_v17 val_main_v14 val_main_cst_2 val_main_cst_3 val_main_cst_4
  generalize val_main_v13 (F := Ideal) x g w = z at hs ⊢
  pointwise []
  simp only [hs]
  rfl

theorem ck_ref (i : Fin 4096) (j : Fin 128) : val_main_v42 (F := Ideal) x g w kg (ix2 i j) = ck x g w kg i j := by
  have hs := lat_ref x g w i
  unfold val_main_v42 val_main_v41 val_main_v40 val_main_v39 val_main_v38 val_main_v37 val_main_v36 val_main_v35 val_main_v34 val_main_v33 val_main_v32
    val_main_v31 val_main_v30 val_main_v15 val_main_cst_5 val_main_cst_6 val_main_cst_7
  generalize val_main_v13 (F := Ideal) x g w = z at hs ⊢
  pointwise []
  simp only [hs]
  rfl

theorem up_ref (i : Fin 4096) (j : Fin 1536) : val_main_v43 (F := Ideal) x g w qg wq (ix2 i j) = ∑ l : Fin 256, cq x g w qg i l * wq (ix2 l j) := by
  rw [val_main_v43_apply]
  refine Finset.sum_congr rfl fun k _ => ?_
  have el : lidx_main_v43 (ix2 i j) k = ix2 i k := funext fun a => match a with | ⟨0, _⟩ => rfl | ⟨1, _⟩ => rfl
  have er : ridx_main_v43 (ix2 i j) k = ix2 k j := funext fun a => match a with | ⟨0, _⟩ => rfl | ⟨1, _⟩ => rfl
  rw [el, er, cq_ref]

theorem kvs_ref (i : Fin 4096) (j : Fin 2048) : val_main_v45 (F := Ideal) x g w kg wkv (ix2 i j) = kvs x g w kg wkv i j := by
  unfold kvs
  rw [val_main_v45_apply]
  refine Finset.sum_congr rfl fun k _ => ?_
  have el : lidx_main_v45 (ix2 i j) k = ix2 i k := funext fun a => match a with | ⟨0, _⟩ => rfl | ⟨1, _⟩ => rfl
  have er : ridx_main_v45 (ix2 i j) k = ix2 k j := funext fun a => match a with | ⟨0, _⟩ => rfl | ⟨1, _⟩ => rfl
  rw [el, er, ck_ref]

theorem ref0 : val_main_v59 (F := Ideal) x g = G0 x g := by
  funext i
  idx_vars i
  exact hid_ref x g i0 i1
theorem ref1 : val_main_v55 (F := Ideal) x g w = G1 x g w := by
  funext i
  idx_vars i
  have hs := lat_ref x g w i0
  unfold val_main_v55 val_main_call0_v0 val_main_c
  generalize val_main_v13 (F := Ideal) x g w = z at hs ⊢
  pointwise []
  show _ = lat x g w i0 i1
  by_cases h : i1.val < 448
  · rw [dif_pos h]
    exact hs ⟨i1.val, h⟩
  · rw [dif_neg h]
    unfold lat
    rw [dif_neg h]
    exact zero_pad
theorem ref2 : val_main_v60 (F := Ideal) x g w qg = G2 x g w qg := by
  funext i
  idx_vars i
  exact cq_ref x g w qg i0 i1
theorem ref3 : val_main_v61 (F := Ideal) x g w kg = G3 x g w kg := by
  funext i
  idx_vars i
  exact ck_ref x g w kg i0 i1
theorem ref4 : val_main_v62 (F := Ideal) x cs sn g w = G4 x cs sn g w := by
  funext i
  idx_vars i
  have hs := lat_ref x g w i0
  unfold val_main_v62 val_main_v56 val_main_v54 val_main_v53 val_main_v52 val_main_v51 val_main_v50 val_main_v49 val_main_v48 val_main_v47 val_main_v46
    val_main_v16 val_main_call1_v0 val_main_c_8
  generalize val_main_v13 (F := Ideal) x g w = z at hs ⊢
  pointwise []
  simp only [hs]
  show _ = rope x cs sn g w i0 i1
  unfold rope
  by_cases h1 : i1.val < 32
  · rw [dif_pos (by omega), dif_pos h1, dif_pos h1]
    simp only [Nat.add_comm 32]
  · by_cases h2 : i1.val < 64
    · rw [dif_pos h2, dif_neg h1, dif_neg h1, dif_pos h2]
      simp only [show 32 + (i1.val - 32) = i1.val by omega]
    · rw [dif_neg h2, dif_neg h1, dif_neg h2]
      exact zero_pad
theorem ref5 : val_main_v58 (F := Ideal) x g w qg wq = G5 x g w qg wq := by
  funext i
  idx_vars i
  have hs := up_ref x g w qg wq i0
  unfold val_main_v58 val_main_v57 val_main_v44 val_main_call2_v0 val_main_c_9
  generalize val_main_v43 (F := Ideal) x g w qg wq = z at hs ⊢
  pointwise []
  show _ = qry x g w qg wq i0 i1
  unfold qry
  by_cases h : i1.val % 256 < 192
  · rw [dif_pos ⟨by omega, h⟩, dif_pos h]
    exact hs ⟨i1.val / 256 * 192 + i1.val % 256, by omega⟩
  · rw [dif_neg fun h' => h h'.2, dif_neg h]
    exact zero_pad
theorem ref6 : val_main_v63 (F := Ideal) x g w kg wkv = G6 x g w kg wkv := by
  funext i
  idx_vars i
  exact kvs_ref x g w kg wkv i0 i1

/-- Every run of the reference ends with the values `X0`, …, `X6`, if they are what `G0`, …, `G6` make of its arguments. -/
theorem reference_value (m : (ℓ : Loc nD τ sig) → Buf (Elt Ideal) ℓ) (ρ : Dev nD → PrngReg)
    (X0 : Dev nD → FVec Ideal S4096x1024 .bf16) (h0 : ∀ c : Dev nD, G0 (m (c.tc.loc main_arg0)) (m (c.tc.loc main_arg3)) = X0 c)
    (X1 : Dev nD → FVec Ideal S4096x512 .f32) (h1 : ∀ c : Dev nD, G1 (m (c.tc.loc main_arg0)) (m (c.tc.loc main_arg3)) (m (c.tc.loc main_arg4)) = X1 c)
    (X2 : Dev nD → FVec Ideal S4096x256 .bf16) (h2 : ∀ c : Dev nD, G2 (m (c.tc.loc main_arg0)) (m (c.tc.loc main_arg3)) (m (c.tc.loc main_arg4)) (m (c.tc.loc main_arg5)) = X2 c)
    (X3 : Dev nD → FVec Ideal S4096x128 .bf16) (h3 : ∀ c : Dev nD, G3 (m (c.tc.loc main_arg0)) (m (c.tc.loc main_arg3)) (m (c.tc.loc main_arg4)) (m (c.tc.loc main_arg6)) = X3 c)
    (X4 : Dev nD → FVec Ideal S4096x128 .bf16) (h4 : ∀ c : Dev nD, G4 (m (c.tc.loc main_arg0)) (m (c.tc.loc main_arg1)) (m (c.tc.loc main_arg2)) (m (c.tc.loc main_arg3)) (m (c.tc.loc main_arg4)) = X4 c)
    (X5 : Dev nD → FVec Ideal S4096x2048 .f32) (h5 : ∀ c : Dev nD, G5 (m (c.tc.loc main_arg0)) (m (c.tc.loc main_arg3)) (m (c.tc.loc main_arg4)) (m (c.tc.loc main_arg5)) (m (c.tc.loc main_arg7)) = X5 c)
    (X6 : Dev nD → FVec Ideal S4096x2048 .bf16) (h6 : ∀ c : Dev nD, G6 (m (c.tc.loc main_arg0)) (m (c.tc.loc main_arg3)) (m (c.tc.loc main_arg4)) (m (c.tc.loc main_arg6)) (m (c.tc.loc main_arg8)) = X6 c) :
    θ_run defs (onTc (τ := τ) (main (F := Ideal))) ⟨m, fun _ => 0, ρ⟩ fun r => ∀ c : Dev nD,
      r.2.mem ((c.tc : Thread nD τ).loc main_v59) = X0 c
      ∧ r.2.mem ((c.tc : Thread nD τ).loc main_v55) = X1 c
      ∧ r.2.mem ((c.tc : Thread nD τ).loc main_v60) = X2 c
      ∧ r.2.mem ((c.tc : Thread nD τ).loc main_v61) = X3 c
      ∧ r.2.mem ((c.tc : Thread nD τ).loc main_v62) = X4 c
      ∧ r.2.mem ((c.tc : Thread nD τ).loc main_v58) = X5 c
      ∧ r.2.mem ((c.tc : Thread nD τ).loc main_v63) = X6 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans ((val_main_v59_eq _ _).trans ((ref0 _ _).trans (h0 c))),
    (h c).2.1.trans ((val_main_v55_eq _ _ _).trans ((ref1 _ _ _).trans (h1 c))),
    (h c).2.2.1.trans ((val_main_v60_eq _ _ _ _).trans ((ref2 _ _ _ _).trans (h2 c))),
    (h c).2.2.2.1.trans ((val_main_v61_eq _ _ _ _).trans ((ref3 _ _ _ _).trans (h3 c))),
    (h c).2.2.2.2.1.trans ((val_main_v62_eq m c).trans ((ref4 _ _ _ _ _).trans (h4 c))),
    (h c).2.2.2.2.2.1.trans ((val_main_v58_eq _ _ _ _ _).trans ((ref5 _ _ _ _ _).trans (h5 c))),
    (h c).2.2.2.2.2.2.1.trans ((val_main_v63_eq _ _ _ _ _).trans ((ref6 _ _ _ _ _).trans (h6 c))),
    (h c).2.2.2.2.2.2.2⟩) (Cert.MlaProjectRefIdeal.Value.run (F := Ideal) m ρ)

end Cert.Proof.Mla.MlaProject

end
-- ==== Proof.Mla.MlaProjectCall.lean ====
/-
  The attention's projections: what one point of the call computes, and the call's seven arrays.
-/
module

public import proofs.«01_k».proof.Proof.Mla.MlaProjectSpec
public import proofs.«01_k».proof.Proof.Mlp.Zero
public import Idealize.ShloMosaic.Lib.KernelVsHost

@[expose] public section

set_option maxRecDepth 16384

noncomputable section

namespace Cert.Proof.Mla.MlaProject

open Cert.MlaProjectIdeal Cert.MlaProjectIdeal.Gen Idealize.ShloMosaic Idealize.ShloMosaic.TcCoe Idealize.SL.Sem Finset Cert.Proof.Mlp

variable (m : (ℓ : Loc nD τ sig) → Buf (Elt Ideal) ℓ) (c : Dev nD)

/-- Which block of its array each window of a point is. -/
theorem index_at : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] :=
  (by decide +kernel : ∀ t : Fin grid0.N, _)

/-! ## The payloads -/

theorem pay10_at (x : Vec Ideal S512x1024 .f32) (g : Vec Ideal S1x1024 .f32) (i : Fin 512) (j : Fin 1024) :
    k0_pay10 x g (ix2 i j) = nrm (fun k : Fin 1024 => x (ix2 i k)) (Ideal.ofBits .f32 0x44800000#32) (g (ix2 0 j)) j := by
  pointwise [k0_pay10]
  rfl

theorem pay11_at (x : Vec Ideal S512x1024 .f32) (g : Vec Ideal S1x1024 .f32) (w : Vec Ideal S1024x512 .bf16) (i j : Fin 512) :
    k0_pay11 x g w (ix2 i j) = ∑ k : Fin 1024, k0_pay10 x g (ix2 i k) * w (ix2 k j) := by
  unfold k0_pay11
  generalize k0_pay10 x g = z
  pointwise []

theorem pay12_at (x : Vec Ideal S512x1024 .f32) (g : Vec Ideal S1x1024 .f32) (w : Vec Ideal S1024x512 .bf16) (i : Fin 512) (j : Fin 256) :
    k0_pay12 x g w (ix2 i j) = k0_pay11 x g w (ix2 i ⟨j.val, by omega⟩) := by
  unfold k0_pay12
  generalize k0_pay11 x g w = z
  pointwise []

theorem pay13_at (x : Vec Ideal S512x1024 .f32) (g : Vec Ideal S1x1024 .f32) (w : Vec Ideal S1024x512 .bf16) (i : Fin 512) (j : Fin 256) :
    k0_pay13 x g w (ix2 i j) = k0_pay12 x g w (ix2 i j) * k0_pay12 x g w (ix2 i j) := by
  unfold k0_pay13
  generalize k0_pay12 x g w = z
  pointwise []

theorem pay14_at (g : FVec Ideal S1x256 .f32) (z zz : FVec Ideal S512x256 .f32) (hz : ∀ i j, zz (ix2 i j) = z (ix2 i j) * z (ix2 i j)) (i : Fin 512) (j : Fin 256) :
    k0_pay14 g z zz (ix2 i j) = nrm (fun k : Fin 256 => z (ix2 i k)) (Ideal.ofBits .f32 0x43800000#32) (g (ix2 0 j)) j := by
  pointwise [k0_pay14]
  simp only [hz]
  rfl

theorem pay15_at (g : FVec Ideal S1x128 .f32) (z : FVec Ideal S512x512 .f32) (i : Fin 512) (j : Fin 128) :
    k0_pay15 g z (ix2 i j) = nrm (fun k : Fin 128 => z (ix2 i ⟨256 + k.val, by omega⟩)) (Ideal.ofBits .f32 0x43000000#32) (g (ix2 0 j)) j := by
  pointwise [k0_pay15]
  rfl

theorem turn32_at (y : FVec Ideal S512x128 .f32) (a : Fin 512) (e : Fin 128) :
    dynamicRotate 1 32#32 none y rotates_S512x128_d1 (ix2 a e) = y (ix2 a ⟨(e.val + 96) % 128, by omega⟩) := by
  refine dynamicRotate_apply 1 _ _ _ _ _ fun b => ?_
  match b with
  | 0 => rfl
  | 1 => show (e.val + 96) % 128 = (e.val + 128 - 32) % 128; omega
theorem turn96_at (y : FVec Ideal S512x128 .f32) (a : Fin 512) (e : Fin 128) :
    dynamicRotate 1 96#32 none y rotates_S512x128_d1 (ix2 a e) = y (ix2 a ⟨(e.val + 32) % 128, by omega⟩) := by
  refine dynamicRotate_apply 1 _ _ _ _ _ fun b => ?_
  match b with
  | 0 => rfl
  | 1 => show (e.val + 32) % 128 = (e.val + 128 - 96) % 128; omega

theorem pay16_at (u v s : FVec Ideal S512x128 .f32) (z : FVec Ideal S512x512 .f32) (i : Fin 512) (e : Fin 128) :
    k0_pay16 u v s z (ix2 i e) = z (ix2 i ⟨384 + e.val, by omega⟩) * u (ix2 i e) + z (ix2 i ⟨384 + (e.val + 96) % 128, by omega⟩) * v (ix2 i e)
      + z (ix2 i ⟨384 + (e.val + 32) % 128, by omega⟩) * s (ix2 i e) := by
  have b : ∀ e : Fin 128, extractStridedSlice S512x128 ![0, 384] z slices_S512x512_o0_384_S512x128 (ix2 i e) = z (ix2 i ⟨384 + e.val, by omega⟩) := fun e => by
    pointwise []
  unfold k0_pay16
  dsimp only
  generalize extractStridedSlice S512x128 ![0, 384] z slices_S512x512_o0_384_S512x128 = y at b ⊢
  have r1 := turn32_at y i e
  have r2 := turn96_at y i e
  rw [b] at r1 r2
  rw [← r1, ← r2, ← b]
  generalize dynamicRotate 1 32#32 none y rotates_S512x128_d1 = y1
  generalize dynamicRotate 1 96#32 none y rotates_S512x128_d1 = y2
  pointwise []

theorem pay17_at (g : FVec Ideal S1x256 .f32) (w : FVec Ideal S256x2048 .bf16) (z zz : FVec Ideal S512x256 .f32) (i : Fin 512) (k : Fin 2048) :
    k0_pay17 g w z zz (ix2 i k) = ∑ l : Fin 256, k0_pay14 g z zz (ix2 i l) * w (ix2 l k) := by
  unfold k0_pay17
  generalize k0_pay14 g z zz = y
  pointwise []

theorem pay18_at (g : FVec Ideal S1x128 .f32) (w : FVec Ideal S128x2048 .bf16) (z : FVec Ideal S512x512 .f32) (i : Fin 512) (k : Fin 2048) :
    k0_pay18 g w z (ix2 i k) = ∑ l : Fin 128, k0_pay15 g z (ix2 i l) * w (ix2 l k) := by
  unfold k0_pay18
  generalize k0_pay15 g z = y
  pointwise []

/-! ## One point's blocks -/

section Out

variable (x0 : Vec Ideal S512x1024 .f32) (x1 x2 x3 : Vec Ideal S512x128 .f32) (x4 : Vec Ideal S1x1024 .f32) (x5 : Vec Ideal S1024x512 .bf16)
  (x6 : Vec Ideal S1x256 .f32) (x7 : Vec Ideal S1x128 .f32) (x8 : Vec Ideal S256x2048 .bf16) (x9 : Vec Ideal S128x2048 .bf16)

theorem ld0 : View.ld x0 r0_0 = x0 := View.ld_unit_zero hz2 _ _
theorem ld1 : View.ld x1 r0_1 = x1 := View.ld_unit_zero hz2 _ _
theorem ld4 : View.ld x4 r0_2 = x4 := View.ld_unit_zero hz2 _ _
theorem ld5 : View.ld x5 r0_3 = x5 := View.ld_unit_zero hz2 _ _
theorem ld6 : View.ld x6 r0_4 = x6 := View.ld_unit_zero hz2 _ _
theorem ld7 : View.ld x7 r0_5 = x7 := View.ld_unit_zero hz2 _ _
theorem ld8 : View.ld x8 r0_6 = x8 := View.ld_unit_zero hz2 _ _
theorem ld9 : View.ld x9 r0_7 = x9 := View.ld_unit_zero hz2 _ _
theorem pay3_eq : k0_pay3 x1 = x1 := shapeCast_self x1 _
theorem pay4_eq : k0_pay4 x1 = x1 := shapeCast_self x1 _
theorem pay5_eq : k0_pay5 x1 = x1 := shapeCast_self x1 _
theorem pay6_eq : k0_pay6 x6 = x6 := shapeCast_self x6 _
theorem pay7_eq : k0_pay7 x7 = x7 := shapeCast_self x7 _
theorem pay8_eq : k0_pay8 x8 = x8 := shapeCast_self x8 _
theorem pay9_eq : k0_pay9 x9 = x9 := shapeCast_self x9 _

/-- The point's norm of the queries' latent. -/
theorem latent_at (i : Fin 512) (j : Fin 256) : k0_pay14 x6 (k0_pay12 x0 x4 x5) (k0_pay13 x0 x4 x5) (ix2 i j)
    = nrm (fun k : Fin 256 => k0_pay11 x0 x4 x5 (ix2 i ⟨k.val, by omega⟩)) (Ideal.ofBits .f32 0x43800000#32) (x6 (ix2 0 j)) j := by
  rw [pay14_at _ _ _ (pay13_at x0 x4 x5)]
  simp only [pay12_at]

theorem out10_eq : out0_10 x0 x1 x2 x3 x4 x5 x6 x7 x8 x9 = k0_pay10 x0 x4 := by
  unfold out0_10
  rw [View.canon_unit_zero hz2, ld0, ld4]
theorem out11_eq : out0_11 x0 x1 x2 x3 x4 x5 x6 x7 x8 x9 = k0_pay11 x0 x4 x5 := by
  unfold out0_11 k0_pay21
  rw [View.canon_unit_zero hz2, ld0, ld4, ld5]
theorem out12_eq : out0_12 x0 x1 x2 x3 x4 x5 x6 x7 x8 x9 = k0_pay14 x6 (k0_pay12 x0 x4 x5) (k0_pay13 x0 x4 x5) := by
  unfold out0_12 k0_pay19 k0_pay22 k0_pay23
  rw [View.canon_unit_zero hz2, ld0, ld4, ld5, ld6, pay6_eq]
theorem out13_eq : out0_13 x0 x1 x2 x3 x4 x5 x6 x7 x8 x9 = k0_pay15 x7 (k0_pay11 x0 x4 x5) := by
  unfold out0_13 k0_pay20 k0_pay21
  rw [View.canon_unit_zero hz2, ld0, ld4, ld5, ld7, pay7_eq]
theorem out14_eq : out0_14 x0 x1 x2 x3 x4 x5 x6 x7 x8 x9 = k0_pay1 (k0_pay16 x1 x2 x3 (k0_pay11 x0 x4 x5)) := by
  unfold out0_14 k0_pay21
  rw [View.canon_unit_zero hz2, ld0, ld4, ld5, ld1, ld1, ld1, pay3_eq, pay4_eq, pay5_eq]
theorem out15_eq : out0_15 x0 x1 x2 x3 x4 x5 x6 x7 x8 x9 = k0_pay17 x6 x8 (k0_pay12 x0 x4 x5) (k0_pay13 x0 x4 x5) := by
  unfold out0_15 k0_pay19 k0_pay22 k0_pay23
  rw [View.canon_unit_zero hz2, ld0, ld4, ld5, ld6, ld8, pay6_eq, pay8_eq]
theorem out16_eq : out0_16 x0 x1 x2 x3 x4 x5 x6 x7 x8 x9 = k0_pay2 (k0_pay18 x7 x9 (k0_pay11 x0 x4 x5)) := by
  unfold out0_16 k0_pay20 k0_pay21
  rw [View.canon_unit_zero hz2, ld0, ld4, ld5, ld7, ld9, pay7_eq, pay9_eq]

end Out

/-! ## What the host's lines hand the call -/

/-- Zeros of 32 and of 64 lanes. -/
def z32 : FVec Ideal S4096x32 .f32 := broadcastInDim S4096x32 ![] bcast_S_S4096x32 (constant S_ .f32 0x00000000#32)
def z64 : FVec Ideal S4096x64 .f32 := broadcastInDim S4096x64 ![] bcast_S_S4096x64 (constant S_ .f32 0x00000000#32)
/-- A table of 128 lanes: two of 32 beside each other, then zeros. -/
def tabW (y z : FVec Ideal S4096x32 .f32) : FVec Ideal S4096x128 .f32 :=
  concatenate S4096x128 1 [⟨S4096x32, y⟩, ⟨S4096x32, z⟩, ⟨S4096x64, z64⟩] concatenates_S4096x32_S4096x32_S4096x64_S4096x128_d1
/-- The padded weights. -/
def wdW (w : FVec Ideal S1024x448 .f32) : FVec Ideal S1024x512 .bf16 :=
  truncf .bf16 (pad S1024x512 ![0, 0] ![0, 64] ![0, 0] w (sitofp .f32 (constantI S_ 32 0#32)) pads_S1024x448_S1024x512_000_0640 h_S_) bitsLt_bf16_f32
def wqW (w : FVec Ideal S256x1536 .f32) : FVec Ideal S256x2048 .bf16 :=
  truncf .bf16 (shapeCast S256x2048 (pad S256x8x256 ![0, 0, 0] ![0, 0, 64] ![0, 0, 0] (shapeCast S256x8x192 w shapeCasts_S256x1536_S256x8x192)
    (sitofp .f32 (constantI S_ 32 0#32)) pads_S256x8x192_S256x8x256_000_000_0640 h_S_) shapeCasts_S256x8x256_S256x2048) bitsLt_bf16_f32

theorem V_x : V m c main_arg0 = m (c.tc.loc main_arg0) := rfl
theorem V_c : (V m c main_v2 : FVec Ideal S4096x128 .f32) = tabW (m (c.tc.loc main_arg1)) (m (c.tc.loc main_arg1)) := rfl
theorem V_s1 : (V m c main_v3 : FVec Ideal S4096x128 .f32) = tabW z32 (m (c.tc.loc main_arg2)) := rfl
theorem V_s2 : (V m c main_v5 : FVec Ideal S4096x128 .f32) = tabW (Host.negf (m (c.tc.loc main_arg2))) z32 := rfl
theorem V_g : V m c main_v13 = (shapeCast S1x1024 (m (c.tc.loc main_arg3)) shapeCasts_S1024_S1x1024 : FVec Ideal S1x1024 .f32) := rfl
theorem V_wd : (V m c main_v7 : FVec Ideal S1024x512 .bf16) = wdW (m (c.tc.loc main_arg4)) := rfl
theorem V_qg : V m c main_v14 = (shapeCast S1x256 (m (c.tc.loc main_arg5)) shapeCasts_S256_S1x256 : FVec Ideal S1x256 .f32) := rfl
theorem V_kg : V m c main_v15 = (shapeCast S1x128 (m (c.tc.loc main_arg6)) shapeCasts_S128_S1x128 : FVec Ideal S1x128 .f32) := rfl
theorem V_wq : (V m c main_v11 : FVec Ideal S256x2048 .bf16) = wqW (m (c.tc.loc main_arg7)) := rfl
theorem V_wkv : V m c main_v12 = (truncf .bf16 (m (c.tc.loc main_arg8)) bitsLt_bf16_f32 : FVec Ideal S128x2048 .bf16) := rfl

theorem tabW_at (y z : FVec Ideal S4096x32 .f32) (i : Fin 4096) (e : Fin 128) :
    tabW y z (ix2 i e) = if h : e.val < 32 then y (ix2 i ⟨e.val, h⟩) else if h2 : e.val < 64 then z (ix2 i ⟨e.val - 32, by omega⟩) else (0 : EReal) := by
  pointwise [tabW, z64]
  by_cases h1 : e.val < 32
  · rw [dif_pos h1, dif_pos h1]
  · rw [dif_neg h1, dif_neg h1]
    by_cases h2 : e.val < 64
    · rw [dif_pos (by omega), dif_pos h2]
    · rw [dif_neg (by omega), dif_neg h2]

theorem z32_at (i : Fin 4096) (d : Fin 32) : z32 (ix2 i d) = (0 : EReal) := by
  pointwise [z32]

theorem neg_at (y : FVec Ideal S4096x32 .f32) (i : Fin 4096) (d : Fin 32) : Host.negf y (ix2 i d) = (-(y (ix2 i d) : EReal) : EReal) := rfl

theorem wdW_at (w : FVec Ideal S1024x448 .f32) (k : Fin 1024) (j : Fin 512) :
    wdW w (ix2 k j) = if h : j.val < 448 then w (ix2 k ⟨j.val, h⟩) else (0 : EReal) := by
  pointwise [wdW]
  by_cases h1 : j.val < 448
  · rw [dif_pos h1, dif_pos h1]
  · rw [dif_neg h1, dif_neg h1]; exact zero_pad

theorem wqW_at (w : FVec Ideal S256x1536 .f32) (l : Fin 256) (k : Fin 2048) :
    wqW w (ix2 l k) = if h : k.val % 256 < 192 then w (ix2 l ⟨k.val / 256 * 192 + k.val % 256, by omega⟩) else (0 : EReal) := by
  pointwise [wqW]
  by_cases h1 : k.val % 256 < 192
  · rw [dif_pos ⟨by omega, h1⟩, dif_pos h1]
  · rw [dif_neg fun h => h1 h.2, dif_neg h1]; exact zero_pad

theorem wkv_at (w : FVec Ideal S128x2048 .f32) (l : Fin 128) (k : Fin 2048) : (truncf .bf16 w bitsLt_bf16_f32 : FVec Ideal S128x2048 .bf16) (ix2 l k) = w (ix2 l k) := rfl
theorem g_at (g : FVec Ideal S1024 .f32) (j : Fin 1024) : (shapeCast S1x1024 g shapeCasts_S1024_S1x1024 : FVec Ideal S1x1024 .f32) (ix2 0 j) = g (ix1 j) := by
  pointwise []
theorem qg_at (g : FVec Ideal S256 .f32) (j : Fin 256) : (shapeCast S1x256 g shapeCasts_S256_S1x256 : FVec Ideal S1x256 .f32) (ix2 0 j) = g (ix1 j) := by
  pointwise []
theorem kg_at (g : FVec Ideal S128 .f32) (j : Fin 128) : (shapeCast S1x128 g shapeCasts_S128_S1x128 : FVec Ideal S1x128 .f32) (ix2 0 j) = g (ix1 j) := by
  pointwise []

/-- A point's row in the whole array. -/
def row (t : Fin cfg0.N) (i : Fin 512) : Fin 4096 := ⟨t.val * 512 + i.val, by have : t.val < 8 := t.isLt; omega⟩

theorem blk_x (t : Fin cfg0.N) (i : Fin 512) (j : Fin 1024) : iblk m c 0 t (ix2 i j) = (V m c main_arg0 : FVec Ideal S4096x1024 .f32) (ix2 (row t i) j) := by
  have e := (index_at t).1
  unfold iblk row
  generalize V m c = v
  blk_ext [e]
theorem blk_c (t : Fin cfg0.N) (i : Fin 512) (j : Fin 128) : iblk m c 1 t (ix2 i j) = (V m c main_v2 : FVec Ideal S4096x128 .f32) (ix2 (row t i) j) := by
  have e := (index_at t).2.1
  unfold iblk row
  generalize V m c = v
  blk_ext [e]
theorem blk_s1 (t : Fin cfg0.N) (i : Fin 512) (j : Fin 128) : iblk m c 2 t (ix2 i j) = (V m c main_v3 : FVec Ideal S4096x128 .f32) (ix2 (row t i) j) := by
  have e := (index_at t).2.2.1
  unfold iblk row
  generalize V m c = v
  blk_ext [e]
theorem blk_s2 (t : Fin cfg0.N) (i : Fin 512) (j : Fin 128) : iblk m c 3 t (ix2 i j) = (V m c main_v5 : FVec Ideal S4096x128 .f32) (ix2 (row t i) j) := by
  have e := (index_at t).2.2.2.1
  unfold iblk row
  generalize V m c = v
  blk_ext [e]
theorem blk_g (t : Fin cfg0.N) (j : Fin 1024) : iblk m c 4 t (ix2 0 j) = (V m c main_v13 : FVec Ideal S1x1024 .f32) (ix2 0 j) := by
  have e := (index_at t).2.2.2.2.1
  unfold iblk
  generalize V m c = v
  blk_ext [e]
theorem blk_wd (t : Fin cfg0.N) (i : Fin 1024) (j : Fin 512) : iblk m c 5 t (ix2 i j) = (V m c main_v7 : FVec Ideal S1024x512 .bf16) (ix2 i j) := by
  have e := (index_at t).2.2.2.2.2.1
  unfold iblk
  generalize V m c = v
  blk_ext [e]
theorem blk_qg (t : Fin cfg0.N) (j : Fin 256) : iblk m c 6 t (ix2 0 j) = (V m c main_v14 : FVec Ideal S1x256 .f32) (ix2 0 j) := by
  have e := (index_at t).2.2.2.2.2.2.1
  unfold iblk
  generalize V m c = v
  blk_ext [e]
theorem blk_kg (t : Fin cfg0.N) (j : Fin 128) : iblk m c 7 t (ix2 0 j) = (V m c main_v15 : FVec Ideal S1x128 .f32) (ix2 0 j) := by
  have e := (index_at t).2.2.2.2.2.2.2.1
  unfold iblk
  generalize V m c = v
  blk_ext [e]
theorem blk_wq (t : Fin cfg0.N) (i : Fin 256) (j : Fin 2048) : iblk m c 8 t (ix2 i j) = (V m c main_v11 : FVec Ideal S256x2048 .bf16) (ix2 i j) := by
  have e := (index_at t).2.2.2.2.2.2.2.2.1
  unfold iblk
  generalize V m c = v
  blk_ext [e]
theorem blk_wkv (t : Fin cfg0.N) (i : Fin 128) (j : Fin 2048) : iblk m c 9 t (ix2 i j) = (V m c main_v12 : FVec Ideal S128x2048 .bf16) (ix2 i j) := by
  have e := (index_at t).2.2.2.2.2.2.2.2.2.1
  unfold iblk
  generalize V m c = v
  blk_ext [e]

/-! ## One point of the call -/

theorem hid_pt (t : Fin cfg0.N) (i : Fin 512) (j : Fin 1024) : k0_pay10 (iblk m c 0 t) (iblk m c 4 t) (ix2 i j) = hid (m (c.tc.loc main_arg0)) (m (c.tc.loc main_arg3)) (row t i) j := by
  rw [pay10_at, blk_g, V_g, g_at]
  simp only [blk_x]
  rw [V_x]
  rfl

theorem lat_pt (t : Fin cfg0.N) (i j : Fin 512) : k0_pay11 (iblk m c 0 t) (iblk m c 4 t) (iblk m c 5 t) (ix2 i j) = lat (m (c.tc.loc main_arg0)) (m (c.tc.loc main_arg3)) (m (c.tc.loc main_arg4)) (row t i) j := by
  rw [pay11_at]
  simp only [hid_pt, blk_wd]
  rw [V_wd]
  simp only [wdW_at]
  unfold lat
  by_cases h : j.val < 448
  · simp only [dif_pos h]
  · simp only [dif_neg h, mul_zero, Finset.sum_const_zero]

theorem cq_pt (t : Fin cfg0.N) (i : Fin 512) (j : Fin 256) :
    k0_pay14 (iblk m c 6 t) (k0_pay12 (iblk m c 0 t) (iblk m c 4 t) (iblk m c 5 t)) (k0_pay13 (iblk m c 0 t) (iblk m c 4 t) (iblk m c 5 t)) (ix2 i j)
    = cq (m (c.tc.loc main_arg0)) (m (c.tc.loc main_arg3)) (m (c.tc.loc main_arg4)) (m (c.tc.loc main_arg5)) (row t i) j := by
  rw [latent_at, blk_qg, V_qg, qg_at]
  simp only [lat_pt]
  rfl

theorem ck_pt (t : Fin cfg0.N) (i : Fin 512) (j : Fin 128) :
    k0_pay15 (iblk m c 7 t) (k0_pay11 (iblk m c 0 t) (iblk m c 4 t) (iblk m c 5 t)) (ix2 i j) = ck (m (c.tc.loc main_arg0)) (m (c.tc.loc main_arg3)) (m (c.tc.loc main_arg4)) (m (c.tc.loc main_arg6)) (row t i) j := by
  rw [pay15_at, blk_kg, V_kg, kg_at]
  simp only [lat_pt]
  rfl

theorem rope_pt (t : Fin cfg0.N) (i : Fin 512) (e : Fin 128) :
    k0_pay16 (iblk m c 1 t) (iblk m c 2 t) (iblk m c 3 t) (k0_pay11 (iblk m c 0 t) (iblk m c 4 t) (iblk m c 5 t)) (ix2 i e)
    = rope (m (c.tc.loc main_arg0)) (m (c.tc.loc main_arg1)) (m (c.tc.loc main_arg2)) (m (c.tc.loc main_arg3)) (m (c.tc.loc main_arg4)) (row t i) e := by
  rw [pay16_at, blk_c, blk_s1, blk_s2, V_c, V_s1, V_s2, tabW_at, tabW_at, tabW_at]
  simp only [lat_pt, z32_at, neg_at]
  unfold rope
  by_cases h1 : e.val < 32
  · simp only [dif_pos h1, mul_zero, add_zero, mul_neg, sub_eq_add_neg, show (e.val + 32) % 128 = e.val + 32 by omega]
  · by_cases h2 : e.val < 64
    · simp only [dif_neg h1, dif_pos h2, mul_zero, add_zero, show (e.val + 96) % 128 = e.val - 32 by omega]
    · simp only [dif_neg h1, dif_neg h2, mul_zero, add_zero]

theorem qry_pt (t : Fin cfg0.N) (i : Fin 512) (k : Fin 2048) :
    k0_pay17 (iblk m c 6 t) (iblk m c 8 t) (k0_pay12 (iblk m c 0 t) (iblk m c 4 t) (iblk m c 5 t)) (k0_pay13 (iblk m c 0 t) (iblk m c 4 t) (iblk m c 5 t)) (ix2 i k)
    = qry (m (c.tc.loc main_arg0)) (m (c.tc.loc main_arg3)) (m (c.tc.loc main_arg4)) (m (c.tc.loc main_arg5)) (m (c.tc.loc main_arg7)) (row t i) k := by
  rw [pay17_at]
  simp only [cq_pt, blk_wq]
  rw [V_wq]
  simp only [wqW_at]
  unfold qry
  by_cases h : k.val % 256 < 192
  · simp only [dif_pos h]
  · simp only [dif_neg h, mul_zero, Finset.sum_const_zero]

theorem kvs_pt (t : Fin cfg0.N) (i : Fin 512) (k : Fin 2048) :
    k0_pay18 (iblk m c 7 t) (iblk m c 9 t) (k0_pay11 (iblk m c 0 t) (iblk m c 4 t) (iblk m c 5 t)) (ix2 i k) = kvs (m (c.tc.loc main_arg0)) (m (c.tc.loc main_arg3)) (m (c.tc.loc main_arg4)) (m (c.tc.loc main_arg6)) (m (c.tc.loc main_arg8)) (row t i) k := by
  rw [pay18_at]
  simp only [ck_pt, blk_wkv]
  rw [V_wkv]
  rfl

/-! ## The call's arrays -/

theorem final10 : (dats m 0 c).arrAt 10 cfg0.N = G0 (m (c.tc.loc main_arg0)) (m (c.tc.loc main_arg3)) := by
  refine (dats m 0 c).arrAt_eq_of_covers 10 _ (by decide +kernel) fun t hf y => ?_
  have e := (index_at t).2.2.2.2.2.2.2.2.2.2.1
  idx_vars y
  have ht : t.val < 8 := t.isLt
  have hi : ((cfg0.win 10).blk t).view.emb (ix2 y0 y1) = (ix2 (row t y0) y1 : S4096x1024.Idx) := by
    unfold row
    blk_ext [e]
  refine Eq.trans ?_ (congrArg (G0 (m (c.tc.loc main_arg0)) (m (c.tc.loc main_arg3))) hi).symm
  show (dats m 0 c).after 10 t (ix2 y0 y1) = _
  rw [after0_10, out10_eq]
  exact hid_pt m c t y0 y1

theorem final11 : (dats m 0 c).arrAt 11 cfg0.N = G1 (m (c.tc.loc main_arg0)) (m (c.tc.loc main_arg3)) (m (c.tc.loc main_arg4)) := by
  refine (dats m 0 c).arrAt_eq_of_covers 11 _ (by decide +kernel) fun t hf y => ?_
  have e := (index_at t).2.2.2.2.2.2.2.2.2.2.2.1
  idx_vars y
  have ht : t.val < 8 := t.isLt
  have hi : ((cfg0.win 11).blk t).view.emb (ix2 y0 y1) = (ix2 (row t y0) y1 : S4096x512.Idx) := by
    unfold row
    blk_ext [e]
  refine Eq.trans ?_ (congrArg (G1 (m (c.tc.loc main_arg0)) (m (c.tc.loc main_arg3)) (m (c.tc.loc main_arg4))) hi).symm
  show (dats m 0 c).after 11 t (ix2 y0 y1) = _
  rw [after0_11, out11_eq]
  exact lat_pt m c t y0 y1

theorem final12 : (dats m 0 c).arrAt 12 cfg0.N = G2 (m (c.tc.loc main_arg0)) (m (c.tc.loc main_arg3)) (m (c.tc.loc main_arg4)) (m (c.tc.loc main_arg5)) := by
  refine (dats m 0 c).arrAt_eq_of_covers 12 _ (by decide +kernel) fun t hf y => ?_
  have e := (index_at t).2.2.2.2.2.2.2.2.2.2.2.2.1
  idx_vars y
  have ht : t.val < 8 := t.isLt
  have hi : ((cfg0.win 12).blk t).view.emb (ix2 y0 y1) = (ix2 (row t y0) y1 : S4096x256.Idx) := by
    unfold row
    blk_ext [e]
  refine Eq.trans ?_ (congrArg (G2 (m (c.tc.loc main_arg0)) (m (c.tc.loc main_arg3)) (m (c.tc.loc main_arg4)) (m (c.tc.loc main_arg5))) hi).symm
  show (dats m 0 c).after 12 t (ix2 y0 y1) = _
  rw [after0_12, out12_eq]
  exact cq_pt m c t y0 y1

theorem final13 : (dats m 0 c).arrAt 13 cfg0.N = G3 (m (c.tc.loc main_arg0)) (m (c.tc.loc main_arg3)) (m (c.tc.loc main_arg4)) (m (c.tc.loc main_arg6)) := by
  refine (dats m 0 c).arrAt_eq_of_covers 13 _ (by decide +kernel) fun t hf y => ?_
  have e := (index_at t).2.2.2.2.2.2.2.2.2.2.2.2.2.1
  idx_vars y
  have ht : t.val < 8 := t.isLt
  have hi : ((cfg0.win 13).blk t).view.emb (ix2 y0 y1) = (ix2 (row t y0) y1 : S4096x128.Idx) := by
    unfold row
    blk_ext [e]
  refine Eq.trans ?_ (congrArg (G3 (m (c.tc.loc main_arg0)) (m (c.tc.loc main_arg3)) (m (c.tc.loc main_arg4)) (m (c.tc.loc main_arg6))) hi).symm
  show (dats m 0 c).after 13 t (ix2 y0 y1) = _
  rw [after0_13, out13_eq]
  exact ck_pt m c t y0 y1

theorem final14 : (dats m 0 c).arrAt 14 cfg0.N = G4 (m (c.tc.loc main_arg0)) (m (c.tc.loc main_arg1)) (m (c.tc.loc main_arg2)) (m (c.tc.loc main_arg3)) (m (c.tc.loc main_arg4)) := by
  refine (dats m 0 c).arrAt_eq_of_covers 14 _ (by decide +kernel) fun t hf y => ?_
  have e := (index_at t).2.2.2.2.2.2.2.2.2.2.2.2.2.2.1
  idx_vars y
  have ht : t.val < 8 := t.isLt
  have hi : ((cfg0.win 14).blk t).view.emb (ix2 y0 y1) = (ix2 (row t y0) y1 : S4096x128.Idx) := by
    unfold row
    blk_ext [e]
  refine Eq.trans ?_ (congrArg (G4 (m (c.tc.loc main_arg0)) (m (c.tc.loc main_arg1)) (m (c.tc.loc main_arg2)) (m (c.tc.loc main_arg3)) (m (c.tc.loc main_arg4))) hi).symm
  show (dats m 0 c).after 14 t (ix2 y0 y1) = _
  rw [after0_14, out14_eq]
  exact rope_pt m c t y0 y1

theorem final15 : (dats m 0 c).arrAt 15 cfg0.N = G5 (m (c.tc.loc main_arg0)) (m (c.tc.loc main_arg3)) (m (c.tc.loc main_arg4)) (m (c.tc.loc main_arg5)) (m (c.tc.loc main_arg7)) := by
  refine (dats m 0 c).arrAt_eq_of_covers 15 _ (by decide +kernel) fun t hf y => ?_
  have e := (index_at t).2.2.2.2.2.2.2.2.2.2.2.2.2.2.2.1
  idx_vars y
  have ht : t.val < 8 := t.isLt
  have hi : ((cfg0.win 15).blk t).view.emb (ix2 y0 y1) = (ix2 (row t y0) y1 : S4096x2048.Idx) := by
    unfold row
    blk_ext [e]
  refine Eq.trans ?_ (congrArg (G5 (m (c.tc.loc main_arg0)) (m (c.tc.loc main_arg3)) (m (c.tc.loc main_arg4)) (m (c.tc.loc main_arg5)) (m (c.tc.loc main_arg7))) hi).symm
  show (dats m 0 c).after 15 t (ix2 y0 y1) = _
  rw [after0_15, out15_eq]
  exact qry_pt m c t y0 y1

theorem final16 : (dats m 0 c).arrAt 16 cfg0.N = G6 (m (c.tc.loc main_arg0)) (m (c.tc.loc main_arg3)) (m (c.tc.loc main_arg4)) (m (c.tc.loc main_arg6)) (m (c.tc.loc main_arg8)) := by
  refine (dats m 0 c).arrAt_eq_of_covers 16 _ (by decide +kernel) fun t hf y => ?_
  have e := (index_at t).2.2.2.2.2.2.2.2.2.2.2.2.2.2.2.2
  idx_vars y
  have ht : t.val < 8 := t.isLt
  have hi : ((cfg0.win 16).blk t).view.emb (ix2 y0 y1) = (ix2 (row t y0) y1 : S4096x2048.Idx) := by
    unfold row
    blk_ext [e]
  refine Eq.trans ?_ (congrArg (G6 (m (c.tc.loc main_arg0)) (m (c.tc.loc main_arg3)) (m (c.tc.loc main_arg4)) (m (c.tc.loc main_arg6)) (m (c.tc.loc main_arg8))) hi).symm
  show (dats m 0 c).after 16 t (ix2 y0 y1) = _
  rw [after0_16, out16_eq]
  exact kvs_pt m c t y0 y1

/-- Every run of the call ends with those arrays. -/
theorem run_value (ρ : Dev nD → PrngReg) : θ_run defs (onTc (τ := τ) (main (F := Ideal))) ⟨m, fun _ => 0, ρ⟩ fun r => ∀ c : Dev nD,
      r.2.mem ((c.tc : Thread nD τ).loc main_v16_0) = G0 (m (c.tc.loc main_arg0)) (m (c.tc.loc main_arg3))
      ∧ r.2.mem ((c.tc : Thread nD τ).loc main_v16_1) = G1 (m (c.tc.loc main_arg0)) (m (c.tc.loc main_arg3)) (m (c.tc.loc main_arg4))
      ∧ r.2.mem ((c.tc : Thread nD τ).loc main_v16_2) = G2 (m (c.tc.loc main_arg0)) (m (c.tc.loc main_arg3)) (m (c.tc.loc main_arg4)) (m (c.tc.loc main_arg5))
      ∧ r.2.mem ((c.tc : Thread nD τ).loc main_v16_3) = G3 (m (c.tc.loc main_arg0)) (m (c.tc.loc main_arg3)) (m (c.tc.loc main_arg4)) (m (c.tc.loc main_arg6))
      ∧ r.2.mem ((c.tc : Thread nD τ).loc main_v16_4) = G4 (m (c.tc.loc main_arg0)) (m (c.tc.loc main_arg1)) (m (c.tc.loc main_arg2)) (m (c.tc.loc main_arg3)) (m (c.tc.loc main_arg4))
      ∧ r.2.mem ((c.tc : Thread nD τ).loc main_v16_5) = G5 (m (c.tc.loc main_arg0)) (m (c.tc.loc main_arg3)) (m (c.tc.loc main_arg4)) (m (c.tc.loc main_arg5)) (m (c.tc.loc main_arg7))
      ∧ r.2.mem ((c.tc : Thread nD τ).loc main_v16_6) = G6 (m (c.tc.loc main_arg0)) (m (c.tc.loc main_arg3)) (m (c.tc.loc main_arg4)) (m (c.tc.loc main_arg6)) (m (c.tc.loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (final10 m c), (h c).2.1.trans (final11 m c), (h c).2.2.1.trans (final12 m c), (h c).2.2.2.1.trans (final13 m c), (h c).2.2.2.2.1.trans (final14 m c), (h c).2.2.2.2.2.1.trans (final15 m c), (h c).2.2.2.2.2.2.1.trans (final16 m c), (h c).2.2.2.2.2.2.2⟩) (Value.run_blocks m ρ)

end Cert.Proof.Mla.MlaProject

end
-- ==== Proof.lean ====
/-
  The claims, one by one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.DownDx
public import proofs.«01_k».proof.Proof.Gen.DownDx.Frame
public import proofs.«01_k».proof.Proof.Gen.DownDxIdeal
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Frame
public import proofs.«01_k».proof.Proof.Gen.DownDwIdeal
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.UpDw
public import proofs.«01_k».proof.Proof.Gen.UpDw.Frame
public import proofs.«01_k».proof.Proof.Gen.UpDwIdeal
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.UpDx
public import proofs.«01_k».proof.Proof.Gen.UpDx.Frame
public import proofs.«01_k».proof.Proof.Gen.UpDxIdeal
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.SguIn
public import proofs.«01_k».proof.Proof.Gen.SguIn.Frame
public import proofs.«01_k».proof.Proof.Gen.SguInIdeal
public import proofs.«01_k».proof.Proof.Gen.SguInIdeal.Value
public import proofs.«01_k».proof.Proof.Gen.SguInRefIdeal
public import proofs.«01_k».proof.Proof.Gen.SguInRefIdeal.Run
public import proofs.«01_k».proof.Proof.Gen.SguInRefIdeal.Read
public import proofs.«01_k».proof.Proof.Gen.SguOut
public import proofs.«01_k».proof.Proof.Gen.SguOut.Frame
public import proofs.«01_k».proof.Proof.Gen.SguOutIdeal
public import proofs.«01_k».proof.Proof.Gen.SguOutIdeal.Value
public import proofs.«01_k».proof.Proof.Gen.SguOutRefIdeal
public import proofs.«01_k».proof.Proof.Gen.SguOutRefIdeal.Run
public import proofs.«01_k».proof.Proof.Gen.SguOutRefIdeal.Read
public import proofs.«01_k».proof.Proof.Gen.SguOutDx
public import proofs.«01_k».proof.Proof.Gen.SguOutDx.Frame
public import proofs.«01_k».proof.Proof.Gen.SguOutDxIdeal
public import proofs.«01_k».proof.Proof.Gen.SguOutDxIdeal.Value
public import proofs.«01_k».proof.Proof.Gen.SguOutDxRefIdeal
public import proofs.«01_k».proof.Proof.Gen.SguOutDxRefIdeal.Run
public import proofs.«01_k».proof.Proof.Gen.SguOutDxRefIdeal.Read
public import proofs.«01_k».proof.Proof.Gen.SguOutDw
public import proofs.«01_k».proof.Proof.Gen.SguOutDw.Frame
public import proofs.«01_k».proof.Proof.Gen.SguOutDwIdeal
public import proofs.«01_k».proof.Proof.Gen.SguOutDwIdeal.Value
public import proofs.«01_k».proof.Proof.Gen.SguOutDwRefIdeal
public import proofs.«01_k».proof.Proof.Gen.SguOutDwRefIdeal.Run
public import proofs.«01_k».proof.Proof.Gen.SguOutDwRefIdeal.Read
public import proofs.«01_k».proof.Proof.Gen.FlashFwd
public import proofs.«01_k».proof.Proof.Gen.FlashFwdIdeal
public import proofs.«01_k».proof.Proof.Gen.FlashFwdRefIdeal
public import proofs.«01_k».proof.Proof.Gen.FlashFwdRefIdeal.Run
public import proofs.«01_k».proof.Proof.Gen.FlashFwdRefIdeal.Read
public import proofs.«01_k».proof.Proof.Gen.MlaO
public import proofs.«01_k».proof.Proof.Gen.MlaO.Frame
public import proofs.«01_k».proof.Proof.Gen.MlaOIdeal
public import proofs.«01_k».proof.Proof.Gen.MlaOIdeal.Value
public import proofs.«01_k».proof.Proof.Gen.MlaORefIdeal
public import proofs.«01_k».proof.Proof.Gen.MlaORefIdeal.Run
public import proofs.«01_k».proof.Proof.Gen.MlaORefIdeal.Read
public import proofs.«01_k».proof.Proof.Gen.MlaODx
public import proofs.«01_k».proof.Proof.Gen.MlaODx.Frame
public import proofs.«01_k».proof.Proof.Gen.MlaODxIdeal
public import proofs.«01_k».proof.Proof.Gen.MlaODxIdeal.Value
public import proofs.«01_k».proof.Proof.Gen.MlaODxRefIdeal
public import proofs.«01_k».proof.Proof.Gen.MlaODxRefIdeal.Run
public import proofs.«01_k».proof.Proof.Gen.MlaODxRefIdeal.Read
public import proofs.«01_k».proof.Proof.Gen.MlaODw
public import proofs.«01_k».proof.Proof.Gen.MlaODw.Frame
public import proofs.«01_k».proof.Proof.Gen.MlaODwIdeal
public import proofs.«01_k».proof.Proof.Gen.MlaODwIdeal.Value
public import proofs.«01_k».proof.Proof.Gen.MlaODwRefIdeal
public import proofs.«01_k».proof.Proof.Gen.MlaODwRefIdeal.Run
public import proofs.«01_k».proof.Proof.Gen.MlaODwRefIdeal.Read
public import proofs.«01_k».proof.Proof.Gen.MlaProject
public import proofs.«01_k».proof.Proof.Gen.MlaProject.Frame
public import proofs.«01_k».proof.Proof.Gen.MlaProjectIdeal
public import proofs.«01_k».proof.Proof.Gen.MlaProjectIdeal.Value
public import proofs.«01_k».proof.Proof.Gen.MlaProjectRefIdeal
public import proofs.«01_k».proof.Proof.Gen.MlaProjectRefIdeal.Run
public import proofs.«01_k».proof.Proof.Gen.MlaProjectRefIdeal.Read
public import proofs.«01_k».proof.Proof.Gen.Pre_finite12
public import proofs.«01_k».proof.Proof.Gen.FlashFwd.Frame
public import proofs.«01_k».proof.Proof.Gen.FlashFwdIdeal.Frame
public import proofs.«01_k».proof.Proof.KI.Run
public import proofs.«01_k».proof.Proof.KB.Run
public import proofs.«01_k».proof.Proof.Attn.Blocks
public import proofs.«01_k».proof.Proof.Attn.Finite
public import proofs.«01_k».proof.Proof.Attn.Value
public import proofs.«01_k».proof.Proof.Fwd.Value
public import proofs.«01_k».proof.Proof.Mlp.DownDx
public import proofs.«01_k».proof.Proof.Mlp.DownDw
public import proofs.«01_k».proof.Proof.Mlp.UpDw
public import proofs.«01_k».proof.Proof.Mlp.FfnUp
public import proofs.«01_k».proof.Proof.Mlp.FfnDown
public import proofs.«01_k».proof.Proof.Mlp.UpDx
public import proofs.«01_k».proof.Proof.Sgu.SguIn
public import proofs.«01_k».proof.Proof.Sgu.SguOut
public import proofs.«01_k».proof.Proof.Sgu.SguOutDx
public import proofs.«01_k».proof.Proof.Sgu.SguOutDw
public import proofs.«01_k».proof.Proof.Mla.MlaO
public import proofs.«01_k».proof.Proof.Mla.MlaODx
public import proofs.«01_k».proof.Proof.Mla.MlaODw
public import proofs.«01_k».proof.Proof.Mla.MlaProject
public import proofs.«01_k».proof.Proof.Mla.MlaProjectCall

@[expose] public section

noncomputable section

namespace Cert.Proof

open Idealize.ShloMosaic Idealize.SL.Sem Cert.Kernel

theorem frame_kernel : Cert.quiescent_Kernel := fun m ρ _ => Cert.Proof.KB.frame m ρ

theorem frame_ideal : Cert.quiescent_KernelIdeal := fun m ρ _ => Cert.Proof.KI.frame m ρ

/-- The reference's run at its arguments; it declares no semaphore. -/
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The kernel's literal is the rounding of the constant it stands for. -/
theorem preserves : Cert.preserves_Kernel_KernelIdeal :=
  IdealRules.named_const.statement Cert.KernelIdeal.κ "unscale" .f32 0x4119AC27#32 (((4843165 / 67108864)⁻¹ * (Real.log 2) : ℝ) : EReal) rfl

open Cert.Proof.Attn in
/-- The reference's run at arguments that make up the reals `X`. -/
theorem reference_value (m : (ℓ : Loc Cert.ReferenceIdeal.nD Cert.ReferenceIdeal.τ Cert.ReferenceIdeal.sig) → Buf (Elt Ideal) ℓ)
    (ρ : Dev Cert.ReferenceIdeal.nD → PrngReg) (X : Dev Cert.ReferenceIdeal.nD → In)
    (A : ∀ c, Args (X c) (m (c.tc.loc Cert.ReferenceIdeal.main_arg0)) (m (c.tc.loc Cert.ReferenceIdeal.main_arg1))
      (m (c.tc.loc Cert.ReferenceIdeal.main_arg2)) (m (c.tc.loc Cert.ReferenceIdeal.main_arg3)))
    (R : ∀ c, RowMax (X c) (m (c.tc.loc Cert.ReferenceIdeal.main_arg0)) (m (c.tc.loc Cert.ReferenceIdeal.main_arg1))
      (m (c.tc.loc Cert.ReferenceIdeal.main_arg2))) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        r.2.mem (c.tc.loc Cert.ReferenceIdeal.main_v79) = Gq (X c)
        ∧ r.2.mem (c.tc.loc Cert.ReferenceIdeal.main_v83) = Gkv (X c)
        ∧ r.2.mem (c.tc.loc Cert.ReferenceIdeal.main_v81) = Gkr (X c)
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3) :=
  (θ_run Cert.ReferenceIdeal.defs _ _).mono (fun _ h c =>
      ⟨(h c).1.trans ((Cert.ReferenceIdeal.Read.val_main_v79_eq m c).trans (ref_dq (A c) (R c))),
        (h c).2.1.trans ((Cert.ReferenceIdeal.Read.val_main_v83_eq m c).trans (ref_dkv (A c) (R c))),
        (h c).2.2.1.trans ((Cert.ReferenceIdeal.Read.val_main_v81_eq m c).trans (ref_dkr (A c) (R c))), (h c).2.2.2⟩)
    (Cert.ReferenceIdeal.Value.run (F := Ideal) m ρ)

open Cert.Proof.Attn in
/-- The call's three arrays and the reference's three results are the same sums of the arguments' reals. -/
theorem algebraic : Cert.algebraic_KernelIdeal_ReferenceIdeal_pre_finite := fun m g m' g' hpre hagree => by
  have A := fun c => args_inOf (hpre c)
  have R := fun c => rowMax_inOf (hpre c)
  refine ⟨_, _, _, run_value m g _ A R, reference_value m' g' _ (fun c => ?_) (fun c => ?_)⟩
  · rw [(hagree c).1, (hagree c).2.1, (hagree c).2.2.1, (hagree c).2.2.2]
    exact A c
  · rw [(hagree c).1, (hagree c).2.1, (hagree c).2.2.1]
    exact R c

/-! The gradient of the MLP's hidden layer. -/

theorem frame_down_dx : Cert.quiescent_DownDx := fun m ρ _ => Cert.DownDx.Gen.frame m ρ

theorem frame_down_dx_ideal : Cert.quiescent_DownDxIdeal := fun m ρ _ => Cert.DownDxIdeal.Gen.frame m ρ

theorem frame_down_dx_reference : Cert.quiescent_DownDxRefIdeal := fun m ρ _ =>
  (θ_run Cert.DownDxRefIdeal.defs _ _).mono (fun r h => ⟨fun c => (h c).2, Idealize.ShloMosaic.sem_eq_zero_of_no_sems (by decide) r.2⟩)
    (Cert.DownDxRefIdeal.Value.run (F := Ideal) m ρ)

theorem algebraic_down_dx : Cert.algebraic_DownDxIdeal_DownDxRefIdeal := fun m g m' g' _ hagree =>
  ⟨_, Cert.Proof.Mlp.DownDx.run_value m g, Cert.Proof.Mlp.DownDx.reference_value m' g' _ fun c => by rw [(hagree c).1, (hagree c).2.1, (hagree c).2.2]⟩

/-! The gradient of the MLP's down weight. -/

theorem frame_down_dw : Cert.quiescent_DownDw := fun m ρ _ => Cert.DownDw.Gen.frame m ρ

theorem frame_down_dw_ideal : Cert.quiescent_DownDwIdeal := fun m ρ _ => Cert.DownDwIdeal.Gen.frame m ρ

theorem frame_down_dw_reference : Cert.quiescent_DownDwRefIdeal := fun m ρ _ =>
  (θ_run Cert.DownDwRefIdeal.defs _ _).mono (fun r h => ⟨fun c => (h c).2.2, Idealize.ShloMosaic.sem_eq_zero_of_no_sems (by decide) r.2⟩)
    (Cert.DownDwRefIdeal.Value.run (F := Ideal) m ρ)

theorem algebraic_down_dw : Cert.algebraic_DownDwIdeal_DownDwRefIdeal := fun m g m' g' _ hagree =>
  ⟨_, _, Cert.Proof.Mlp.DownDw.run_value m g, Cert.Proof.Mlp.DownDw.reference_value m' g' _ fun c => by rw [(hagree c).1, (hagree c).2]⟩

/-! The gradient of the MLP's up weight. -/

theorem frame_up_dw : Cert.quiescent_UpDw := fun m ρ _ => Cert.UpDw.Gen.frame m ρ

theorem frame_up_dw_ideal : Cert.quiescent_UpDwIdeal := fun m ρ _ => Cert.UpDwIdeal.Gen.frame m ρ

theorem frame_up_dw_reference : Cert.quiescent_UpDwRefIdeal := fun m ρ _ =>
  (θ_run Cert.UpDwRefIdeal.defs _ _).mono (fun r h => ⟨fun c => (h c).2.2, Idealize.ShloMosaic.sem_eq_zero_of_no_sems (by decide) r.2⟩)
    (Cert.UpDwRefIdeal.Value.run (F := Ideal) m ρ)

theorem algebraic_up_dw : Cert.algebraic_UpDwIdeal_UpDwRefIdeal := fun m g m' g' _ hagree =>
  ⟨_, _, Cert.Proof.Mlp.UpDw.run_value m g, Cert.Proof.Mlp.UpDw.reference_value m' g' _ fun c => by rw [(hagree c).1, (hagree c).2]⟩

/-! The MLP's hidden layer after its activation, and the activation's derivative. -/

theorem frame_ffn_up : Cert.quiescent_FfnUp := fun m ρ _ => Cert.FfnUp.Gen.frame m ρ

theorem frame_ffn_up_ideal : Cert.quiescent_FfnUpIdeal := fun m ρ _ => Cert.FfnUpIdeal.Gen.frame m ρ

theorem frame_ffn_up_reference : Cert.quiescent_FfnUpRefIdeal := fun m ρ _ =>
  (θ_run Cert.FfnUpRefIdeal.defs _ _).mono (fun r h => ⟨fun c => (h c).2.2, Idealize.ShloMosaic.sem_eq_zero_of_no_sems (by decide) r.2⟩)
    (Cert.FfnUpRefIdeal.Value.run (F := Ideal) m ρ)

theorem algebraic_ffn_up : Cert.algebraic_FfnUpIdeal_FfnUpRefIdeal := fun m g m' g' _ hagree =>
  ⟨_, _, Cert.Proof.Mlp.FfnUp.run_value m g, Cert.Proof.Mlp.FfnUp.reference_value m' g' _ _
    (fun c => by rw [(hagree c).1, (hagree c).2]) fun c => by rw [(hagree c).1, (hagree c).2]⟩

/-! The MLP's output added to the stream, and the next norm. -/

theorem frame_ffn_down : Cert.quiescent_FfnDown := fun m ρ _ => Cert.FfnDown.Gen.frame m ρ

theorem frame_ffn_down_ideal : Cert.quiescent_FfnDownIdeal := fun m ρ _ => Cert.FfnDownIdeal.Gen.frame m ρ

theorem frame_ffn_down_reference : Cert.quiescent_FfnDownRefIdeal := fun m ρ _ =>
  (θ_run Cert.FfnDownRefIdeal.defs _ _).mono (fun r h => ⟨fun c => (h c).2.2, Idealize.ShloMosaic.sem_eq_zero_of_no_sems (by decide) r.2⟩)
    (Cert.FfnDownRefIdeal.Value.run (F := Ideal) m ρ)

theorem algebraic_ffn_down : Cert.algebraic_FfnDownIdeal_FfnDownRefIdeal := fun m g m' g' _ hagree =>
  ⟨_, _, Cert.Proof.Mlp.FfnDown.run_value m g, Cert.Proof.Mlp.FfnDown.reference_value m' g' _ _
    (fun c => by rw [(hagree c).1, (hagree c).2.1, (hagree c).2.2.1]) fun c => by rw [(hagree c).1, (hagree c).2.1, (hagree c).2.2.1, (hagree c).2.2.2]⟩

/-! The gradient of the stream before the MLP, through the product and the norm, and the norm's gain's. -/

theorem frame_up_dx : Cert.quiescent_UpDx := fun m ρ _ => Cert.UpDx.Gen.frame m ρ

theorem frame_up_dx_ideal : Cert.quiescent_UpDxIdeal := fun m ρ _ => Cert.UpDxIdeal.Gen.frame m ρ

theorem frame_up_dx_reference : Cert.quiescent_UpDxRefIdeal := fun m ρ _ =>
  (θ_run Cert.UpDxRefIdeal.defs _ _).mono (fun r h => ⟨fun c => (h c).2.2.2, Idealize.ShloMosaic.sem_eq_zero_of_no_sems (by decide) r.2⟩)
    (Cert.UpDxRefIdeal.Value.run (F := Ideal) m ρ)

theorem algebraic_up_dx : Cert.algebraic_UpDxIdeal_UpDxRefIdeal := fun m g m' g' _ hagree =>
  ⟨_, _, _, Cert.Proof.Mlp.UpDx.run_value m g, Cert.Proof.Mlp.UpDx.reference_value m' g' _ _ _
    (fun c => by rw [(hagree c).1, (hagree c).2.1, (hagree c).2.2.1, (hagree c).2.2.2.1, (hagree c).2.2.2.2])
    (fun c => by rw [(hagree c).1, (hagree c).2.1, (hagree c).2.2.1, (hagree c).2.2.2.1, (hagree c).2.2.2.2])
    fun c => by rw [(hagree c).1, (hagree c).2.2.1, (hagree c).2.2.2.1]⟩

/-! The spatial gating unit's input product. -/

theorem frame_sgu_in : Cert.quiescent_SguIn := fun m ρ _ => Cert.SguIn.Gen.frame m ρ

theorem frame_sgu_in_ideal : Cert.quiescent_SguInIdeal := fun m ρ _ => Cert.SguInIdeal.Gen.frame m ρ

theorem frame_sgu_in_reference : Cert.quiescent_SguInRefIdeal := fun m ρ _ =>
  (θ_run Cert.SguInRefIdeal.defs _ _).mono (fun r h => ⟨fun c => (h c).2, Idealize.ShloMosaic.sem_eq_zero_of_no_sems (by decide) r.2⟩)
    (Cert.SguInRefIdeal.Value.run (F := Ideal) m ρ)

theorem algebraic_sgu_in : Cert.algebraic_SguInIdeal_SguInRefIdeal := fun m g m' g' _ hagree =>
  ⟨_, Cert.Proof.Sgu.SguIn.run_value m g, Cert.Proof.Sgu.SguIn.reference_value m' g' _ fun c => by rw [(hagree c).1, (hagree c).2]⟩

/-! The unit's output added to the stream, and the next norm. -/

theorem frame_sgu_out : Cert.quiescent_SguOut := fun m ρ _ => Cert.SguOut.Gen.frame m ρ

theorem frame_sgu_out_ideal : Cert.quiescent_SguOutIdeal := fun m ρ _ => Cert.SguOutIdeal.Gen.frame m ρ

theorem frame_sgu_out_reference : Cert.quiescent_SguOutRefIdeal := fun m ρ _ =>
  (θ_run Cert.SguOutRefIdeal.defs _ _).mono (fun r h => ⟨fun c => (h c).2.2, Idealize.ShloMosaic.sem_eq_zero_of_no_sems (by decide) r.2⟩)
    (Cert.SguOutRefIdeal.Value.run (F := Ideal) m ρ)

theorem algebraic_sgu_out : Cert.algebraic_SguOutIdeal_SguOutRefIdeal := fun m g m' g' _ hagree =>
  ⟨_, _, Cert.Proof.Sgu.SguOut.run_value m g, Cert.Proof.Sgu.SguOut.reference_value m' g' _ _
    (fun c => by rw [(hagree c).1, (hagree c).2.1, (hagree c).2.2.1]) fun c => by rw [(hagree c).1, (hagree c).2.1, (hagree c).2.2.1, (hagree c).2.2.2]⟩

/-! The gradient of the unit's gated values. -/

theorem frame_sgu_out_dx : Cert.quiescent_SguOutDx := fun m ρ _ => Cert.SguOutDx.Gen.frame m ρ

theorem frame_sgu_out_dx_ideal : Cert.quiescent_SguOutDxIdeal := fun m ρ _ => Cert.SguOutDxIdeal.Gen.frame m ρ

theorem frame_sgu_out_dx_reference : Cert.quiescent_SguOutDxRefIdeal := fun m ρ _ =>
  (θ_run Cert.SguOutDxRefIdeal.defs _ _).mono (fun r h => ⟨fun c => (h c).2, Idealize.ShloMosaic.sem_eq_zero_of_no_sems (by decide) r.2⟩)
    (Cert.SguOutDxRefIdeal.Value.run (F := Ideal) m ρ)

theorem algebraic_sgu_out_dx : Cert.algebraic_SguOutDxIdeal_SguOutDxRefIdeal := fun m g m' g' _ hagree =>
  ⟨_, Cert.Proof.Sgu.SguOutDx.run_value m g, Cert.Proof.Sgu.SguOutDx.reference_value m' g' _ fun c => by rw [(hagree c).1, (hagree c).2]⟩

/-! The gradient of the unit's output weight. -/

theorem frame_sgu_out_dw : Cert.quiescent_SguOutDw := fun m ρ _ => Cert.SguOutDw.Gen.frame m ρ

theorem frame_sgu_out_dw_ideal : Cert.quiescent_SguOutDwIdeal := fun m ρ _ => Cert.SguOutDwIdeal.Gen.frame m ρ

theorem frame_sgu_out_dw_reference : Cert.quiescent_SguOutDwRefIdeal := fun m ρ _ =>
  (θ_run Cert.SguOutDwRefIdeal.defs _ _).mono (fun r h => ⟨fun c => (h c).2.2, Idealize.ShloMosaic.sem_eq_zero_of_no_sems (by decide) r.2⟩)
    (Cert.SguOutDwRefIdeal.Value.run (F := Ideal) m ρ)

theorem algebraic_sgu_out_dw : Cert.algebraic_SguOutDwIdeal_SguOutDwRefIdeal := fun m g m' g' _ hagree =>
  ⟨_, _, Cert.Proof.Sgu.SguOutDw.run_value m g, Cert.Proof.Sgu.SguOutDw.reference_value m' g' _ fun c => by rw [(hagree c).1, (hagree c).2]⟩

/-! The attention's forward call. -/

theorem frame_flash_fwd : Cert.quiescent_FlashFwd := fun m ρ _ => Cert.FlashFwd.Gen.frame m ρ

theorem frame_flash_fwd_ideal : Cert.quiescent_FlashFwdIdeal := fun m ρ _ => Cert.FlashFwdIdeal.Gen.frame m ρ

theorem frame_flash_fwd_reference : Cert.quiescent_FlashFwdRefIdeal := fun m ρ _ =>
  (θ_run Cert.FlashFwdRefIdeal.defs _ _).mono (fun r h => ⟨fun c => (h c).2.2.2, Idealize.ShloMosaic.sem_eq_zero_of_no_sems (by decide) r.2⟩)
    (Cert.FlashFwdRefIdeal.Value.run (F := Ideal) m ρ)

/-- The kernel's literals are the roundings of the constants they stand for. -/
theorem preserves_flash_fwd : Cert.preserves_FlashFwd_FlashFwdIdeal :=
  ⟨IdealRules.named_const.statement Cert.FlashFwdIdeal.κ "log2_scale" .f32 0x3DD53B95#32 (((Real.sqrt 192)⁻¹ * (Real.log 2)⁻¹ : ℝ) : EReal) rfl,
    IdealRules.named_const.statement Cert.FlashFwdIdeal.κ "log2_e" .f32 0x3FB8AA3B#32 (((Real.log 2)⁻¹ : ℝ) : EReal) rfl⟩

open Cert.Proof.Fwd in
/-- The call's three arrays and the reference's three results are the same functions of the arguments' reals. -/
theorem algebraic_flash_fwd : Cert.algebraic_FlashFwdIdeal_FlashFwdRefIdeal_pre_finite12 := fun m g m' g' hpre hagree => by
  have A := fun c => args_inOf (hpre c)
  have R := fun c => rowMax_inOf (hpre c)
  refine ⟨_, _, _, Cert.Proof.Fwd.run_value m g _ _ _ _ A, Cert.Proof.Fwd.reference_value m' g' _ (fun c => uOf (m (c.tc.loc Cert.FlashFwdIdeal.main_arg0)))
    (fun c => tOf (m (c.tc.loc Cert.FlashFwdIdeal.main_arg3))) (fun c => tOf (m (c.tc.loc Cert.FlashFwdIdeal.main_arg4))) (fun c => ?_) (fun c => ?_)⟩
  · rw [(hagree c).1, (hagree c).2.1, (hagree c).2.2.1, (hagree c).2.2.2.1, (hagree c).2.2.2.2]
    exact A c
  · rw [(hagree c).1, (hagree c).2.1, (hagree c).2.2.1, (hagree c).2.2.2.1, (hagree c).2.2.2.2]
    exact R c

/-! The attention's output added to the stream, and the next norm. -/

theorem frame_mla_o : Cert.quiescent_MlaO := fun m ρ _ => Cert.MlaO.Gen.frame m ρ

theorem frame_mla_o_ideal : Cert.quiescent_MlaOIdeal := fun m ρ _ => Cert.MlaOIdeal.Gen.frame m ρ

theorem frame_mla_o_reference : Cert.quiescent_MlaORefIdeal := fun m ρ _ =>
  (θ_run Cert.MlaORefIdeal.defs _ _).mono (fun r h => ⟨fun c => (h c).2.2, Idealize.ShloMosaic.sem_eq_zero_of_no_sems (by decide) r.2⟩)
    (Cert.MlaORefIdeal.Value.run (F := Ideal) m ρ)

theorem algebraic_mla_o : Cert.algebraic_MlaOIdeal_MlaORefIdeal := fun m g m' g' _ hagree =>
  ⟨_, _, Cert.Proof.Mla.MlaO.run_value m g, Cert.Proof.Mla.MlaO.reference_value m' g' _ _
    (fun c => by rw [(hagree c).1, (hagree c).2.1, (hagree c).2.2.1]) fun c => by rw [(hagree c).1, (hagree c).2.1, (hagree c).2.2.1, (hagree c).2.2.2]⟩

/-! The gradient of the attention's output, and each head's sum of the output times it. -/

theorem frame_mla_o_dx : Cert.quiescent_MlaODx := fun m ρ _ => Cert.MlaODx.Gen.frame m ρ

theorem frame_mla_o_dx_ideal : Cert.quiescent_MlaODxIdeal := fun m ρ _ => Cert.MlaODxIdeal.Gen.frame m ρ

theorem frame_mla_o_dx_reference : Cert.quiescent_MlaODxRefIdeal := fun m ρ _ =>
  (θ_run Cert.MlaODxRefIdeal.defs _ _).mono (fun r h => ⟨fun c => (h c).2.2, Idealize.ShloMosaic.sem_eq_zero_of_no_sems (by decide) r.2⟩)
    (Cert.MlaODxRefIdeal.Value.run (F := Ideal) m ρ)

theorem algebraic_mla_o_dx : Cert.algebraic_MlaODxIdeal_MlaODxRefIdeal := fun m g m' g' _ hagree =>
  ⟨_, _, Cert.Proof.Mla.MlaODx.run_value m g, Cert.Proof.Mla.MlaODx.reference_value m' g' _ _
    (fun c => by rw [(hagree c).1, (hagree c).2.2]) fun c => by rw [(hagree c).1, (hagree c).2.1, (hagree c).2.2]⟩

/-! The gradient of the attention's output weight. -/

theorem frame_mla_o_dw : Cert.quiescent_MlaODw := fun m ρ _ => Cert.MlaODw.Gen.frame m ρ

theorem frame_mla_o_dw_ideal : Cert.quiescent_MlaODwIdeal := fun m ρ _ => Cert.MlaODwIdeal.Gen.frame m ρ

theorem frame_mla_o_dw_reference : Cert.quiescent_MlaODwRefIdeal := fun m ρ _ =>
  (θ_run Cert.MlaODwRefIdeal.defs _ _).mono (fun r h => ⟨fun c => (h c).2, Idealize.ShloMosaic.sem_eq_zero_of_no_sems (by decide) r.2⟩)
    (Cert.MlaODwRefIdeal.Value.run (F := Ideal) m ρ)

theorem algebraic_mla_o_dw : Cert.algebraic_MlaODwIdeal_MlaODwRefIdeal := fun m g m' g' _ hagree =>
  ⟨_, Cert.Proof.Mla.MlaODw.run_value m g, Cert.Proof.Mla.MlaODw.reference_value m' g' _ fun c => by rw [(hagree c).1, (hagree c).2]⟩

/-! The attention's projections to its queries, keys and values. -/

theorem frame_mla_project : Cert.quiescent_MlaProject := fun m ρ _ => Cert.MlaProject.Gen.frame m ρ

theorem frame_mla_project_ideal : Cert.quiescent_MlaProjectIdeal := fun m ρ _ => Cert.MlaProjectIdeal.Gen.frame m ρ

theorem frame_mla_project_reference : Cert.quiescent_MlaProjectRefIdeal := fun m ρ _ =>
  (θ_run Cert.MlaProjectRefIdeal.defs _ _).mono (fun r h => ⟨fun c => (h c).2.2.2.2.2.2.2, Idealize.ShloMosaic.sem_eq_zero_of_no_sems (by decide) r.2⟩)
    (Cert.MlaProjectRefIdeal.Value.run (F := Ideal) m ρ)

theorem algebraic_mla_project : Cert.algebraic_MlaProjectIdeal_MlaProjectRefIdeal := fun m g m' g' _ hagree =>
  ⟨_, _, _, _, _, _, _, Cert.Proof.Mla.MlaProject.run_value m g, Cert.Proof.Mla.MlaProject.reference_value m' g'
    _ (fun c => by obtain ⟨e0, e1, e2, e3, e4, e5, e6, e7, e8⟩ := hagree c; rw [e0, e3])
    _ (fun c => by obtain ⟨e0, e1, e2, e3, e4, e5, e6, e7, e8⟩ := hagree c; rw [e0, e3, e4])
    _ (fun c => by obtain ⟨e0, e1, e2, e3, e4, e5, e6, e7, e8⟩ := hagree c; rw [e0, e3, e4, e5])
    _ (fun c => by obtain ⟨e0, e1, e2, e3, e4, e5, e6, e7, e8⟩ := hagree c; rw [e0, e3, e4, e6])
    _ (fun c => by obtain ⟨e0, e1, e2, e3, e4, e5, e6, e7, e8⟩ := hagree c; rw [e0, e1, e2, e3, e4])
    _ (fun c => by obtain ⟨e0, e1, e2, e3, e4, e5, e6, e7, e8⟩ := hagree c; rw [e0, e3, e4, e5, e7])
    _ (fun c => by obtain ⟨e0, e1, e2, e3, e4, e5, e6, e7, e8⟩ := hagree c; rw [e0, e3, e4, e6, e8])⟩

theorem claim : Cert.Claim := ⟨Cert.Kernel.Gen.facts, Cert.KernelIdeal.Gen.facts, Cert.ReferenceIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.UpDw.Gen.facts, Cert.UpDwIdeal.Gen.facts, Cert.UpDwRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.UpDx.Gen.facts, Cert.UpDxIdeal.Gen.facts, Cert.UpDxRefIdeal.Gen.facts,
  Cert.SguIn.Gen.facts, Cert.SguInIdeal.Gen.facts, Cert.SguInRefIdeal.Gen.facts,
  Cert.SguOut.Gen.facts, Cert.SguOutIdeal.Gen.facts, Cert.SguOutRefIdeal.Gen.facts,
  Cert.SguOutDx.Gen.facts, Cert.SguOutDxIdeal.Gen.facts, Cert.SguOutDxRefIdeal.Gen.facts,
  Cert.SguOutDw.Gen.facts, Cert.SguOutDwIdeal.Gen.facts, Cert.SguOutDwRefIdeal.Gen.facts,
  Cert.FlashFwd.Gen.facts, Cert.FlashFwdIdeal.Gen.facts, Cert.FlashFwdRefIdeal.Gen.facts,
  Cert.MlaO.Gen.facts, Cert.MlaOIdeal.Gen.facts, Cert.MlaORefIdeal.Gen.facts,
  Cert.MlaODx.Gen.facts, Cert.MlaODxIdeal.Gen.facts, Cert.MlaODxRefIdeal.Gen.facts,
  Cert.MlaODw.Gen.facts, Cert.MlaODwIdeal.Gen.facts, Cert.MlaODwRefIdeal.Gen.facts,
  Cert.MlaProject.Gen.facts, Cert.MlaProjectIdeal.Gen.facts, Cert.MlaProjectRefIdeal.Gen.facts,
  Cert.Pre_finite.Gen.facts, Cert.Pre_finite12.Gen.facts,
  frame_kernel, frame_ideal, fun m g _ => frame_ideal m g trivial, frame_reference, fun m g _ => frame_reference m g trivial,
  frame_down_dx, frame_down_dx_ideal, frame_down_dx_reference,
  frame_down_dw, frame_down_dw_ideal, frame_down_dw_reference,
  frame_up_dw, frame_up_dw_ideal, frame_up_dw_reference,
  frame_ffn_up, frame_ffn_up_ideal, frame_ffn_up_reference,
  frame_ffn_down, frame_ffn_down_ideal, frame_ffn_down_reference,
  frame_up_dx, frame_up_dx_ideal, frame_up_dx_reference,
  frame_sgu_in, frame_sgu_in_ideal, frame_sgu_in_reference,
  frame_sgu_out, frame_sgu_out_ideal, frame_sgu_out_reference,
  frame_sgu_out_dx, frame_sgu_out_dx_ideal, frame_sgu_out_dx_reference,
  frame_sgu_out_dw, frame_sgu_out_dw_ideal, frame_sgu_out_dw_reference,
  frame_flash_fwd, frame_flash_fwd_ideal, fun m g _ => frame_flash_fwd_ideal m g trivial, frame_flash_fwd_reference,
  fun m g _ => frame_flash_fwd_reference m g trivial,
  frame_mla_o, frame_mla_o_ideal, frame_mla_o_reference,
  frame_mla_o_dx, frame_mla_o_dx_ideal, frame_mla_o_dx_reference,
  frame_mla_o_dw, frame_mla_o_dw_ideal, frame_mla_o_dw_reference,
  frame_mla_project, frame_mla_project_ideal, frame_mla_project_reference,
  preserves, algebraic, trivial, algebraic_down_dx, trivial, algebraic_down_dw, trivial, algebraic_up_dw, trivial, algebraic_ffn_up,
  trivial, algebraic_ffn_down, trivial, algebraic_up_dx,
  trivial, algebraic_sgu_in, trivial, algebraic_sgu_out, trivial, algebraic_sgu_out_dx, trivial, algebraic_sgu_out_dw,
  preserves_flash_fwd, algebraic_flash_fwd,
  trivial, algebraic_mla_o, trivial, algebraic_mla_o_dx, trivial, algebraic_mla_o_dw, trivial, algebraic_mla_project⟩

end Cert.Proof

end
